-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def Pre_DHid (m : (ℓ : Loc Cert.DHid.nD Cert.DHid.τ Cert.DHid.sig) → Buf (Elt Bits) ℓ) : Prop :=
  True

def Pre_DHidIdeal (m : (ℓ : Loc Cert.DHidIdeal.nD Cert.DHidIdeal.τ Cert.DHidIdeal.sig) → Buf (Elt Ideal) ℓ) : Prop :=
  True

def Pre_DHidReferenceIdeal (m : (ℓ : Loc Cert.DHidReferenceIdeal.nD Cert.DHidReferenceIdeal.τ Cert.DHidReferenceIdeal.sig) → Buf (Elt Ideal) ℓ) : Prop :=
  True

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_DwInReferenceIdeal (m : (ℓ : Loc Cert.DwInReferenceIdeal.nD Cert.DwInReferenceIdeal.τ Cert.DwInReferenceIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjReferenceIdeal (m : (ℓ : Loc Cert.OutProjReferenceIdeal.nD Cert.OutProjReferenceIdeal.τ Cert.OutProjReferenceIdeal.sig) → Buf (Elt Ideal) ℓ) : Prop :=
  True

def Pre_DMix (m : (ℓ : Loc Cert.DMix.nD Cert.DMix.τ Cert.DMix.sig) → Buf (Elt Bits) ℓ) : Prop :=
  True

def Pre_DMixIdeal (m : (ℓ : Loc Cert.DMixIdeal.nD Cert.DMixIdeal.τ Cert.DMixIdeal.sig) → Buf (Elt Ideal) ℓ) : Prop :=
  True

def Pre_DMixReferenceIdeal (m : (ℓ : Loc Cert.DMixReferenceIdeal.nD Cert.DMixReferenceIdeal.τ Cert.DMixReferenceIdeal.sig) → Buf (Elt Ideal) ℓ) : Prop :=
  True

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutReferenceIdeal (m : (ℓ : Loc Cert.DwOutReferenceIdeal.nD Cert.DwOutReferenceIdeal.τ Cert.DwOutReferenceIdeal.sig) → Buf (Elt Ideal) ℓ) : Prop :=
  True

def Pre_QUp (m : (ℓ : Loc Cert.QUp.nD Cert.QUp.τ Cert.QUp.sig) → Buf (Elt Bits) ℓ) : Prop :=
  True

def Pre_QUpIdeal (m : (ℓ : Loc Cert.QUpIdeal.nD Cert.QUpIdeal.τ Cert.QUpIdeal.sig) → Buf (Elt Ideal) ℓ) : Prop :=
  True

def Pre_QUpReferenceIdeal (m : (ℓ : Loc Cert.QUpReferenceIdeal.nD Cert.QUpReferenceIdeal.τ Cert.QUpReferenceIdeal.sig) → Buf (Elt Ideal) ℓ) : Prop :=
  True

def Pre_DQn (m : (ℓ : Loc Cert.DQn.nD Cert.DQn.τ Cert.DQn.sig) → Buf (Elt Bits) ℓ) : Prop :=
  True

def Pre_DQnIdeal (m : (ℓ : Loc Cert.DQnIdeal.nD Cert.DQnIdeal.τ Cert.DQnIdeal.sig) → Buf (Elt Ideal) ℓ) : Prop :=
  True

def Pre_DQnReferenceIdeal (m : (ℓ : Loc Cert.DQnReferenceIdeal.nD Cert.DQnReferenceIdeal.τ Cert.DQnReferenceIdeal.sig) → Buf (Elt Ideal) ℓ) : Prop :=
  True

def Pre_DwQ (m : (ℓ : Loc Cert.DwQ.nD Cert.DwQ.τ Cert.DwQ.sig) → Buf (Elt Bits) ℓ) : Prop :=
  True

def Pre_DwQIdeal (m : (ℓ : Loc Cert.DwQIdeal.nD Cert.DwQIdeal.τ Cert.DwQIdeal.sig) → Buf (Elt Ideal) ℓ) : Prop :=
  True

def Pre_DwQReferenceIdeal (m : (ℓ : Loc Cert.DwQReferenceIdeal.nD Cert.DwQReferenceIdeal.τ Cert.DwQReferenceIdeal.sig) → Buf (Elt Ideal) ℓ) : Prop :=
  True

def Pre_KvUp (m : (ℓ : Loc Cert.KvUp.nD Cert.KvUp.τ Cert.KvUp.sig) → Buf (Elt Bits) ℓ) : Prop :=
  True

def Pre_KvUpIdeal (m : (ℓ : Loc Cert.KvUpIdeal.nD Cert.KvUpIdeal.τ Cert.KvUpIdeal.sig) → Buf (Elt Ideal) ℓ) : Prop :=
  True

def Pre_KvUpReferenceIdeal (m : (ℓ : Loc Cert.KvUpReferenceIdeal.nD Cert.KvUpReferenceIdeal.τ Cert.KvUpReferenceIdeal.sig) → Buf (Elt Ideal) ℓ) : Prop :=
  True

def Pre_DKvn (m : (ℓ : Loc Cert.DKvn.nD Cert.DKvn.τ Cert.DKvn.sig) → Buf (Elt Bits) ℓ) : Prop :=
  True

def Pre_DKvnIdeal (m : (ℓ : Loc Cert.DKvnIdeal.nD Cert.DKvnIdeal.τ Cert.DKvnIdeal.sig) → Buf (Elt Ideal) ℓ) : Prop :=
  True

def Pre_DKvnReferenceIdeal (m : (ℓ : Loc Cert.DKvnReferenceIdeal.nD Cert.DKvnReferenceIdeal.τ Cert.DKvnReferenceIdeal.sig) → Buf (Elt Ideal) ℓ) : Prop :=
  True

def Pre_DwKv (m : (ℓ : Loc Cert.DwKv.nD Cert.DwKv.τ Cert.DwKv.sig) → Buf (Elt Bits) ℓ) : Prop :=
  True

def Pre_DwKvIdeal (m : (ℓ : Loc Cert.DwKvIdeal.nD Cert.DwKvIdeal.τ Cert.DwKvIdeal.sig) → Buf (Elt Ideal) ℓ) : Prop :=
  True

def Pre_DwKvReferenceIdeal (m : (ℓ : Loc Cert.DwKvReferenceIdeal.nD Cert.DwKvReferenceIdeal.τ Cert.DwKvReferenceIdeal.sig) → Buf (Elt Ideal) ℓ) : Prop :=
  True

def Pre_FlashFwd (m : (ℓ : Loc Cert.FlashFwd.nD Cert.FlashFwd.τ Cert.FlashFwd.sig) → Buf (Elt Bits) ℓ) : Prop :=
  True

def Pre_FlashFwdIdeal (m : (ℓ : Loc Cert.FlashFwdIdeal.nD Cert.FlashFwdIdeal.τ Cert.FlashFwdIdeal.sig) → Buf (Elt Ideal) ℓ) : Prop :=
  True

def Pre_FlashFwdIdeal_finite_heads [hPre_finite_heads : Cert.Pre_finite_heads.Facts] (m : (ℓ : Loc Cert.FlashFwdIdeal.nD Cert.FlashFwdIdeal.τ Cert.FlashFwdIdeal.sig) → Buf (Elt Ideal) ℓ) : Prop :=
  ∀ c : Dev Cert.FlashFwdIdeal.nD,
    (Cert.Pre_finite_heads.fn (F := Ideal) (m ((c.tc : Thread Cert.FlashFwdIdeal.nD Cert.FlashFwdIdeal.τ).loc Cert.FlashFwdIdeal.main_arg0)) (m ((c.tc : Thread Cert.FlashFwdIdeal.nD Cert.FlashFwdIdeal.τ).loc Cert.FlashFwdIdeal.main_arg1)) (m ((c.tc : Thread Cert.FlashFwdIdeal.nD Cert.FlashFwdIdeal.τ).loc Cert.FlashFwdIdeal.main_arg2)) (m ((c.tc : Thread Cert.FlashFwdIdeal.nD Cert.FlashFwdIdeal.τ).loc Cert.FlashFwdIdeal.main_arg3))).1 = (fun _ => 1#1)
    ∧ (Cert.Pre_finite_heads.fn (F := Ideal) (m ((c.tc : Thread Cert.FlashFwdIdeal.nD Cert.FlashFwdIdeal.τ).loc Cert.FlashFwdIdeal.main_arg0)) (m ((c.tc : Thread Cert.FlashFwdIdeal.nD Cert.FlashFwdIdeal.τ).loc Cert.FlashFwdIdeal.main_arg1)) (m ((c.tc : Thread Cert.FlashFwdIdeal.nD Cert.FlashFwdIdeal.τ).loc Cert.FlashFwdIdeal.main_arg2)) (m ((c.tc : Thread Cert.FlashFwdIdeal.nD Cert.FlashFwdIdeal.τ).loc Cert.FlashFwdIdeal.main_arg3))).2 = (fun _ => 1#1)

def Pre_FlashFwdReferenceIdeal (m : (ℓ : Loc Cert.FlashFwdReferenceIdeal.nD Cert.FlashFwdReferenceIdeal.τ Cert.FlashFwdReferenceIdeal.sig) → Buf (Elt Ideal) ℓ) : Prop :=
  True

def Pre_FlashFwdReferenceIdeal_finite_heads [hPre_finite_heads : Cert.Pre_finite_heads.Facts] (m : (ℓ : Loc Cert.FlashFwdReferenceIdeal.nD Cert.FlashFwdReferenceIdeal.τ Cert.FlashFwdReferenceIdeal.sig) → Buf (Elt Ideal) ℓ) : Prop :=
  ∀ c : Dev Cert.FlashFwdReferenceIdeal.nD,
    (Cert.Pre_finite_heads.fn (F := Ideal) (m ((c.tc : Thread Cert.FlashFwdReferenceIdeal.nD Cert.FlashFwdReferenceIdeal.τ).loc Cert.FlashFwdReferenceIdeal.main_arg0)) (m ((c.tc : Thread Cert.FlashFwdReferenceIdeal.nD Cert.FlashFwdReferenceIdeal.τ).loc Cert.FlashFwdReferenceIdeal.main_arg1)) (m ((c.tc : Thread Cert.FlashFwdReferenceIdeal.nD Cert.FlashFwdReferenceIdeal.τ).loc Cert.FlashFwdReferenceIdeal.main_arg2)) (m ((c.tc : Thread Cert.FlashFwdReferenceIdeal.nD Cert.FlashFwdReferenceIdeal.τ).loc Cert.FlashFwdReferenceIdeal.main_arg3))).1 = (fun _ => 1#1)
    ∧ (Cert.Pre_finite_heads.fn (F := Ideal) (m ((c.tc : Thread Cert.FlashFwdReferenceIdeal.nD Cert.FlashFwdReferenceIdeal.τ).loc Cert.FlashFwdReferenceIdeal.main_arg0)) (m ((c.tc : Thread Cert.FlashFwdReferenceIdeal.nD Cert.FlashFwdReferenceIdeal.τ).loc Cert.FlashFwdReferenceIdeal.main_arg1)) (m ((c.tc : Thread Cert.FlashFwdReferenceIdeal.nD Cert.FlashFwdReferenceIdeal.τ).loc Cert.FlashFwdReferenceIdeal.main_arg2)) (m ((c.tc : Thread Cert.FlashFwdReferenceIdeal.nD Cert.FlashFwdReferenceIdeal.τ).loc Cert.FlashFwdReferenceIdeal.main_arg3))).2 = (fun _ => 1#1)

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadReferenceIdeal (m : (ℓ : Loc Cert.LossHeadReferenceIdeal.nD Cert.LossHeadReferenceIdeal.τ Cert.LossHeadReferenceIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallReferenceIdeal (m : (ℓ : Loc Cert.AdamSmallReferenceIdeal.nD Cert.AdamSmallReferenceIdeal.τ Cert.AdamSmallReferenceIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInReferenceIdeal (m : (ℓ : Loc Cert.AdamInReferenceIdeal.nD Cert.AdamInReferenceIdeal.τ Cert.AdamInReferenceIdeal.sig) → Buf (Elt Ideal) ℓ) : Prop :=
  True

def Pre_AdamQUp (m : (ℓ : Loc Cert.AdamQUp.nD Cert.AdamQUp.τ Cert.AdamQUp.sig) → Buf (Elt Bits) ℓ) : Prop :=
  True

def Pre_AdamQUpIdeal (m : (ℓ : Loc Cert.AdamQUpIdeal.nD Cert.AdamQUpIdeal.τ Cert.AdamQUpIdeal.sig) → Buf (Elt Ideal) ℓ) : Prop :=
  True

def Pre_AdamQUpReferenceIdeal (m : (ℓ : Loc Cert.AdamQUpReferenceIdeal.nD Cert.AdamQUpReferenceIdeal.τ Cert.AdamQUpReferenceIdeal.sig) → Buf (Elt Ideal) ℓ) : Prop :=
  True

def Pre_AdamKvUp (m : (ℓ : Loc Cert.AdamKvUp.nD Cert.AdamKvUp.τ Cert.AdamKvUp.sig) → Buf (Elt Bits) ℓ) : Prop :=
  True

def Pre_AdamKvUpIdeal (m : (ℓ : Loc Cert.AdamKvUpIdeal.nD Cert.AdamKvUpIdeal.τ Cert.AdamKvUpIdeal.sig) → Buf (Elt Ideal) ℓ) : Prop :=
  True

def Pre_AdamKvUpReferenceIdeal (m : (ℓ : Loc Cert.AdamKvUpReferenceIdeal.nD Cert.AdamKvUpReferenceIdeal.τ Cert.AdamKvUpReferenceIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutReferenceIdeal (m : (ℓ : Loc Cert.AdamOutReferenceIdeal.nD Cert.AdamOutReferenceIdeal.τ Cert.AdamOutReferenceIdeal.sig) → Buf (Elt Ideal) ℓ) : Prop :=
  True

def Pre_RmsBwd (m : (ℓ : Loc Cert.RmsBwd.nD Cert.RmsBwd.τ Cert.RmsBwd.sig) → Buf (Elt Bits) ℓ) : Prop :=
  True

def Pre_RmsBwdIdeal (m : (ℓ : Loc Cert.RmsBwdIdeal.nD Cert.RmsBwdIdeal.τ Cert.RmsBwdIdeal.sig) → Buf (Elt Ideal) ℓ) : Prop :=
  True

def Pre_RmsBwdReferenceIdeal (m : (ℓ : Loc Cert.RmsBwdReferenceIdeal.nD Cert.RmsBwdReferenceIdeal.τ Cert.RmsBwdReferenceIdeal.sig) → Buf (Elt Ideal) ℓ) : Prop :=
  True

def Pre_RmsFwd (m : (ℓ : Loc Cert.RmsFwd.nD Cert.RmsFwd.τ Cert.RmsFwd.sig) → Buf (Elt Bits) ℓ) : Prop :=
  True

def Pre_RmsFwdIdeal (m : (ℓ : Loc Cert.RmsFwdIdeal.nD Cert.RmsFwdIdeal.τ Cert.RmsFwdIdeal.sig) → Buf (Elt Ideal) ℓ) : Prop :=
  True

def Pre_RmsFwdReferenceIdeal (m : (ℓ : Loc Cert.RmsFwdReferenceIdeal.nD Cert.RmsFwdReferenceIdeal.τ Cert.RmsFwdReferenceIdeal.sig) → Buf (Elt Ideal) ℓ) : Prop :=
  True

def Pre_LatFwd (m : (ℓ : Loc Cert.LatFwd.nD Cert.LatFwd.τ Cert.LatFwd.sig) → Buf (Elt Bits) ℓ) : Prop :=
  True

def Pre_LatFwdIdeal (m : (ℓ : Loc Cert.LatFwdIdeal.nD Cert.LatFwdIdeal.τ Cert.LatFwdIdeal.sig) → Buf (Elt Ideal) ℓ) : Prop :=
  True

def Pre_LatFwdReferenceIdeal (m : (ℓ : Loc Cert.LatFwdReferenceIdeal.nD Cert.LatFwdReferenceIdeal.τ Cert.LatFwdReferenceIdeal.sig) → Buf (Elt Ideal) ℓ) : Prop :=
  True

def Pre_LatBwd (m : (ℓ : Loc Cert.LatBwd.nD Cert.LatBwd.τ Cert.LatBwd.sig) → Buf (Elt Bits) ℓ) : Prop :=
  True

def Pre_LatBwdIdeal (m : (ℓ : Loc Cert.LatBwdIdeal.nD Cert.LatBwdIdeal.τ Cert.LatBwdIdeal.sig) → Buf (Elt Ideal) ℓ) : Prop :=
  True

def Pre_LatBwdReferenceIdeal (m : (ℓ : Loc Cert.LatBwdReferenceIdeal.nD Cert.LatBwdReferenceIdeal.τ Cert.LatBwdReferenceIdeal.sig) → Buf (Elt Ideal) ℓ) : Prop :=
  True

def Pre_GateBwd (m : (ℓ : Loc Cert.GateBwd.nD Cert.GateBwd.τ Cert.GateBwd.sig) → Buf (Elt Bits) ℓ) : Prop :=
  True

def Pre_GateBwdIdeal (m : (ℓ : Loc Cert.GateBwdIdeal.nD Cert.GateBwdIdeal.τ Cert.GateBwdIdeal.sig) → Buf (Elt Ideal) ℓ) : Prop :=
  True

def Pre_GateBwdIdeal_finite_gate [hPre_finite_gate : Cert.Pre_finite_gate.Facts] (m : (ℓ : Loc Cert.GateBwdIdeal.nD Cert.GateBwdIdeal.τ Cert.GateBwdIdeal.sig) → Buf (Elt Ideal) ℓ) : Prop :=
  ∀ c : Dev Cert.GateBwdIdeal.nD,
    (Cert.Pre_finite_gate.fn (F := Ideal) (m ((c.tc : Thread Cert.GateBwdIdeal.nD Cert.GateBwdIdeal.τ).loc Cert.GateBwdIdeal.main_arg0)) (m ((c.tc : Thread Cert.GateBwdIdeal.nD Cert.GateBwdIdeal.τ).loc Cert.GateBwdIdeal.main_arg1)) (m ((c.tc : Thread Cert.GateBwdIdeal.nD Cert.GateBwdIdeal.τ).loc Cert.GateBwdIdeal.main_arg2)) (m ((c.tc : Thread Cert.GateBwdIdeal.nD Cert.GateBwdIdeal.τ).loc Cert.GateBwdIdeal.main_arg3))).1 = (fun _ => 1#1)
    ∧ (Cert.Pre_finite_gate.fn (F := Ideal) (m ((c.tc : Thread Cert.GateBwdIdeal.nD Cert.GateBwdIdeal.τ).loc Cert.GateBwdIdeal.main_arg0)) (m ((c.tc : Thread Cert.GateBwdIdeal.nD Cert.GateBwdIdeal.τ).loc Cert.GateBwdIdeal.main_arg1)) (m ((c.tc : Thread Cert.GateBwdIdeal.nD Cert.GateBwdIdeal.τ).loc Cert.GateBwdIdeal.main_arg2)) (m ((c.tc : Thread Cert.GateBwdIdeal.nD Cert.GateBwdIdeal.τ).loc Cert.GateBwdIdeal.main_arg3))).2 = (fun _ => 1#1)

def Pre_GateBwdReferenceIdeal (m : (ℓ : Loc Cert.GateBwdReferenceIdeal.nD Cert.GateBwdReferenceIdeal.τ Cert.GateBwdReferenceIdeal.sig) → Buf (Elt Ideal) ℓ) : Prop :=
  True

def Pre_GateBwdReferenceIdeal_finite_gate [hPre_finite_gate : Cert.Pre_finite_gate.Facts] (m : (ℓ : Loc Cert.GateBwdReferenceIdeal.nD Cert.GateBwdReferenceIdeal.τ Cert.GateBwdReferenceIdeal.sig) → Buf (Elt Ideal) ℓ) : Prop :=
  ∀ c : Dev Cert.GateBwdReferenceIdeal.nD,
    (Cert.Pre_finite_gate.fn (F := Ideal) (m ((c.tc : Thread Cert.GateBwdReferenceIdeal.nD Cert.GateBwdReferenceIdeal.τ).loc Cert.GateBwdReferenceIdeal.main_arg0)) (m ((c.tc : Thread Cert.GateBwdReferenceIdeal.nD Cert.GateBwdReferenceIdeal.τ).loc Cert.GateBwdReferenceIdeal.main_arg1)) (m ((c.tc : Thread Cert.GateBwdReferenceIdeal.nD Cert.GateBwdReferenceIdeal.τ).loc Cert.GateBwdReferenceIdeal.main_arg2)) (m ((c.tc : Thread Cert.GateBwdReferenceIdeal.nD Cert.GateBwdReferenceIdeal.τ).loc Cert.GateBwdReferenceIdeal.main_arg3))).1 = (fun _ => 1#1)
    ∧ (Cert.Pre_finite_gate.fn (F := Ideal) (m ((c.tc : Thread Cert.GateBwdReferenceIdeal.nD Cert.GateBwdReferenceIdeal.τ).loc Cert.GateBwdReferenceIdeal.main_arg0)) (m ((c.tc : Thread Cert.GateBwdReferenceIdeal.nD Cert.GateBwdReferenceIdeal.τ).loc Cert.GateBwdReferenceIdeal.main_arg1)) (m ((c.tc : Thread Cert.GateBwdReferenceIdeal.nD Cert.GateBwdReferenceIdeal.τ).loc Cert.GateBwdReferenceIdeal.main_arg2)) (m ((c.tc : Thread Cert.GateBwdReferenceIdeal.nD Cert.GateBwdReferenceIdeal.τ).loc Cert.GateBwdReferenceIdeal.main_arg3))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1))
      ∧ r.2.sem = fun _ => 0)

def quiescent_DHid [hDHid : Cert.DHid.Facts] : Prop :=
  ∀ (m : (ℓ : Loc Cert.DHid.nD Cert.DHid.τ Cert.DHid.sig) → Buf (Elt Bits) ℓ) (g : Dev Cert.DHid.nD → PrngReg), Pre_DHid m →
    θ_run (Cert.DHid.defs (F := Bits)) (onTc (τ := Cert.DHid.τ) (Cert.DHid.main (F := Bits))) ⟨m, fun _ => 0, g⟩ (fun r => (∀ c : Dev Cert.DHid.nD,
      r.2.mem ((c.tc : Thread Cert.DHid.nD Cert.DHid.τ).loc Cert.DHid.main_arg0) = m ((c.tc : Thread Cert.DHid.nD Cert.DHid.τ).loc Cert.DHid.main_arg0)
      ∧ r.2.mem ((c.tc : Thread Cert.DHid.nD Cert.DHid.τ).loc Cert.DHid.main_arg1) = m ((c.tc : Thread Cert.DHid.nD Cert.DHid.τ).loc Cert.DHid.main_arg1))
      ∧ r.2.sem = fun _ => 0)

def quiescent_DHidIdeal [hDHidIdeal : Cert.DHidIdeal.Facts] : Prop :=
  ∀ (m : (ℓ : Loc Cert.DHidIdeal.nD Cert.DHidIdeal.τ Cert.DHidIdeal.sig) → Buf (Elt Ideal) ℓ) (g : Dev Cert.DHidIdeal.nD → PrngReg), Pre_DHidIdeal m →
    θ_run (Cert.DHidIdeal.defs (F := Ideal)) (onTc (τ := Cert.DHidIdeal.τ) (Cert.DHidIdeal.main (F := Ideal))) ⟨m, fun _ => 0, g⟩ (fun r => (∀ c : Dev Cert.DHidIdeal.nD,
      r.2.mem ((c.tc : Thread Cert.DHidIdeal.nD Cert.DHidIdeal.τ).loc Cert.DHidIdeal.main_arg0) = m ((c.tc : Thread Cert.DHidIdeal.nD Cert.DHidIdeal.τ).loc Cert.DHidIdeal.main_arg0)
      ∧ r.2.mem ((c.tc : Thread Cert.DHidIdeal.nD Cert.DHidIdeal.τ).loc Cert.DHidIdeal.main_arg1) = m ((c.tc : Thread Cert.DHidIdeal.nD Cert.DHidIdeal.τ).loc Cert.DHidIdeal.main_arg1))
      ∧ r.2.sem = fun _ => 0)

def quiescent_DHidReferenceIdeal [hDHidReferenceIdeal : Cert.DHidReferenceIdeal.Facts] : Prop :=
  ∀ (m : (ℓ : Loc Cert.DHidReferenceIdeal.nD Cert.DHidReferenceIdeal.τ Cert.DHidReferenceIdeal.sig) → Buf (Elt Ideal) ℓ) (g : Dev Cert.DHidReferenceIdeal.nD → PrngReg), Pre_DHidReferenceIdeal m →
    θ_run (Cert.DHidReferenceIdeal.defs (F := Ideal)) (onTc (τ := Cert.DHidReferenceIdeal.τ) (Cert.DHidReferenceIdeal.main (F := Ideal))) ⟨m, fun _ => 0, g⟩ (fun r => (∀ c : Dev Cert.DHidReferenceIdeal.nD,
      r.2.mem ((c.tc : Thread Cert.DHidReferenceIdeal.nD Cert.DHidReferenceIdeal.τ).loc Cert.DHidReferenceIdeal.main_arg0) = m ((c.tc : Thread Cert.DHidReferenceIdeal.nD Cert.DHidReferenceIdeal.τ).loc Cert.DHidReferenceIdeal.main_arg0)
      ∧ r.2.mem ((c.tc : Thread Cert.DHidReferenceIdeal.nD Cert.DHidReferenceIdeal.τ).loc Cert.DHidReferenceIdeal.main_arg1) = m ((c.tc : Thread Cert.DHidReferenceIdeal.nD Cert.DHidReferenceIdeal.τ).loc Cert.DHidReferenceIdeal.main_arg1))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ r.2.sem = fun _ => 0)

def quiescent_DwInReferenceIdeal [hDwInReferenceIdeal : Cert.DwInReferenceIdeal.Facts] : Prop :=
  ∀ (m : (ℓ : Loc Cert.DwInReferenceIdeal.nD Cert.DwInReferenceIdeal.τ Cert.DwInReferenceIdeal.sig) → Buf (Elt Ideal) ℓ) (g : Dev Cert.DwInReferenceIdeal.nD → PrngReg), Pre_DwInReferenceIdeal m →
    θ_run (Cert.DwInReferenceIdeal.defs (F := Ideal)) (onTc (τ := Cert.DwInReferenceIdeal.τ) (Cert.DwInReferenceIdeal.main (F := Ideal))) ⟨m, fun _ => 0, g⟩ (fun r => (∀ c : Dev Cert.DwInReferenceIdeal.nD,
      r.2.mem ((c.tc : Thread Cert.DwInReferenceIdeal.nD Cert.DwInReferenceIdeal.τ).loc Cert.DwInReferenceIdeal.main_arg0) = m ((c.tc : Thread Cert.DwInReferenceIdeal.nD Cert.DwInReferenceIdeal.τ).loc Cert.DwInReferenceIdeal.main_arg0)
      ∧ r.2.mem ((c.tc : Thread Cert.DwInReferenceIdeal.nD Cert.DwInReferenceIdeal.τ).loc Cert.DwInReferenceIdeal.main_arg1) = m ((c.tc : Thread Cert.DwInReferenceIdeal.nD Cert.DwInReferenceIdeal.τ).loc Cert.DwInReferenceIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ r.2.sem = fun _ => 0)

def quiescent_OutProjReferenceIdeal [hOutProjReferenceIdeal : Cert.OutProjReferenceIdeal.Facts] : Prop :=
  ∀ (m : (ℓ : Loc Cert.OutProjReferenceIdeal.nD Cert.OutProjReferenceIdeal.τ Cert.OutProjReferenceIdeal.sig) → Buf (Elt Ideal) ℓ) (g : Dev Cert.OutProjReferenceIdeal.nD → PrngReg), Pre_OutProjReferenceIdeal m →
    θ_run (Cert.OutProjReferenceIdeal.defs (F := Ideal)) (onTc (τ := Cert.OutProjReferenceIdeal.τ) (Cert.OutProjReferenceIdeal.main (F := Ideal))) ⟨m, fun _ => 0, g⟩ (fun r => (∀ c : Dev Cert.OutProjReferenceIdeal.nD,
      r.2.mem ((c.tc : Thread Cert.OutProjReferenceIdeal.nD Cert.OutProjReferenceIdeal.τ).loc Cert.OutProjReferenceIdeal.main_arg0) = m ((c.tc : Thread Cert.OutProjReferenceIdeal.nD Cert.OutProjReferenceIdeal.τ).loc Cert.OutProjReferenceIdeal.main_arg0)
      ∧ r.2.mem ((c.tc : Thread Cert.OutProjReferenceIdeal.nD Cert.OutProjReferenceIdeal.τ).loc Cert.OutProjReferenceIdeal.main_arg1) = m ((c.tc : Thread Cert.OutProjReferenceIdeal.nD Cert.OutProjReferenceIdeal.τ).loc Cert.OutProjReferenceIdeal.main_arg1)
      ∧ r.2.mem ((c.tc : Thread Cert.OutProjReferenceIdeal.nD Cert.OutProjReferenceIdeal.τ).loc Cert.OutProjReferenceIdeal.main_arg2) = m ((c.tc : Thread Cert.OutProjReferenceIdeal.nD Cert.OutProjReferenceIdeal.τ).loc Cert.OutProjReferenceIdeal.main_arg2))
      ∧ r.2.sem = fun _ => 0)

def quiescent_DMix [hDMix : Cert.DMix.Facts] : Prop :=
  ∀ (m : (ℓ : Loc Cert.DMix.nD Cert.DMix.τ Cert.DMix.sig) → Buf (Elt Bits) ℓ) (g : Dev Cert.DMix.nD → PrngReg), Pre_DMix m →
    θ_run (Cert.DMix.defs (F := Bits)) (onTc (τ := Cert.DMix.τ) (Cert.DMix.main (F := Bits))) ⟨m, fun _ => 0, g⟩ (fun r => (∀ c : Dev Cert.DMix.nD,
      r.2.mem ((c.tc : Thread Cert.DMix.nD Cert.DMix.τ).loc Cert.DMix.main_arg0) = m ((c.tc : Thread Cert.DMix.nD Cert.DMix.τ).loc Cert.DMix.main_arg0)
      ∧ r.2.mem ((c.tc : Thread Cert.DMix.nD Cert.DMix.τ).loc Cert.DMix.main_arg1) = m ((c.tc : Thread Cert.DMix.nD Cert.DMix.τ).loc Cert.DMix.main_arg1))
      ∧ r.2.sem = fun _ => 0)

def quiescent_DMixIdeal [hDMixIdeal : Cert.DMixIdeal.Facts] : Prop :=
  ∀ (m : (ℓ : Loc Cert.DMixIdeal.nD Cert.DMixIdeal.τ Cert.DMixIdeal.sig) → Buf (Elt Ideal) ℓ) (g : Dev Cert.DMixIdeal.nD → PrngReg), Pre_DMixIdeal m →
    θ_run (Cert.DMixIdeal.defs (F := Ideal)) (onTc (τ := Cert.DMixIdeal.τ) (Cert.DMixIdeal.main (F := Ideal))) ⟨m, fun _ => 0, g⟩ (fun r => (∀ c : Dev Cert.DMixIdeal.nD,
      r.2.mem ((c.tc : Thread Cert.DMixIdeal.nD Cert.DMixIdeal.τ).loc Cert.DMixIdeal.main_arg0) = m ((c.tc : Thread Cert.DMixIdeal.nD Cert.DMixIdeal.τ).loc Cert.DMixIdeal.main_arg0)
      ∧ r.2.mem ((c.tc : Thread Cert.DMixIdeal.nD Cert.DMixIdeal.τ).loc Cert.DMixIdeal.main_arg1) = m ((c.tc : Thread Cert.DMixIdeal.nD Cert.DMixIdeal.τ).loc Cert.DMixIdeal.main_arg1))
      ∧ r.2.sem = fun _ => 0)

def quiescent_DMixReferenceIdeal [hDMixReferenceIdeal : Cert.DMixReferenceIdeal.Facts] : Prop :=
  ∀ (m : (ℓ : Loc Cert.DMixReferenceIdeal.nD Cert.DMixReferenceIdeal.τ Cert.DMixReferenceIdeal.sig) → Buf (Elt Ideal) ℓ) (g : Dev Cert.DMixReferenceIdeal.nD → PrngReg), Pre_DMixReferenceIdeal m →
    θ_run (Cert.DMixReferenceIdeal.defs (F := Ideal)) (onTc (τ := Cert.DMixReferenceIdeal.τ) (Cert.DMixReferenceIdeal.main (F := Ideal))) ⟨m, fun _ => 0, g⟩ (fun r => (∀ c : Dev Cert.DMixReferenceIdeal.nD,
      r.2.mem ((c.tc : Thread Cert.DMixReferenceIdeal.nD Cert.DMixReferenceIdeal.τ).loc Cert.DMixReferenceIdeal.main_arg0) = m ((c.tc : Thread Cert.DMixReferenceIdeal.nD Cert.DMixReferenceIdeal.τ).loc Cert.DMixReferenceIdeal.main_arg0)
      ∧ r.2.mem ((c.tc : Thread Cert.DMixReferenceIdeal.nD Cert.DMixReferenceIdeal.τ).loc Cert.DMixReferenceIdeal.main_arg1) = m ((c.tc : Thread Cert.DMixReferenceIdeal.nD Cert.DMixReferenceIdeal.τ).loc Cert.DMixReferenceIdeal.main_arg1))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ r.2.sem = fun _ => 0)

def quiescent_DwOutReferenceIdeal [hDwOutReferenceIdeal : Cert.DwOutReferenceIdeal.Facts] : Prop :=
  ∀ (m : (ℓ : Loc Cert.DwOutReferenceIdeal.nD Cert.DwOutReferenceIdeal.τ Cert.DwOutReferenceIdeal.sig) → Buf (Elt Ideal) ℓ) (g : Dev Cert.DwOutReferenceIdeal.nD → PrngReg), Pre_DwOutReferenceIdeal m →
    θ_run (Cert.DwOutReferenceIdeal.defs (F := Ideal)) (onTc (τ := Cert.DwOutReferenceIdeal.τ) (Cert.DwOutReferenceIdeal.main (F := Ideal))) ⟨m, fun _ => 0, g⟩ (fun r => (∀ c : Dev Cert.DwOutReferenceIdeal.nD,
      r.2.mem ((c.tc : Thread Cert.DwOutReferenceIdeal.nD Cert.DwOutReferenceIdeal.τ).loc Cert.DwOutReferenceIdeal.main_arg0) = m ((c.tc : Thread Cert.DwOutReferenceIdeal.nD Cert.DwOutReferenceIdeal.τ).loc Cert.DwOutReferenceIdeal.main_arg0)
      ∧ r.2.mem ((c.tc : Thread Cert.DwOutReferenceIdeal.nD Cert.DwOutReferenceIdeal.τ).loc Cert.DwOutReferenceIdeal.main_arg1) = m ((c.tc : Thread Cert.DwOutReferenceIdeal.nD Cert.DwOutReferenceIdeal.τ).loc Cert.DwOutReferenceIdeal.main_arg1))
      ∧ r.2.sem = fun _ => 0)

def quiescent_QUp [hQUp : Cert.QUp.Facts] : Prop :=
  ∀ (m : (ℓ : Loc Cert.QUp.nD Cert.QUp.τ Cert.QUp.sig) → Buf (Elt Bits) ℓ) (g : Dev Cert.QUp.nD → PrngReg), Pre_QUp m →
    θ_run (Cert.QUp.defs (F := Bits)) (onTc (τ := Cert.QUp.τ) (Cert.QUp.main (F := Bits))) ⟨m, fun _ => 0, g⟩ (fun r => (∀ c : Dev Cert.QUp.nD,
      r.2.mem ((c.tc : Thread Cert.QUp.nD Cert.QUp.τ).loc Cert.QUp.main_arg0) = m ((c.tc : Thread Cert.QUp.nD Cert.QUp.τ).loc Cert.QUp.main_arg0)
      ∧ r.2.mem ((c.tc : Thread Cert.QUp.nD Cert.QUp.τ).loc Cert.QUp.main_arg1) = m ((c.tc : Thread Cert.QUp.nD Cert.QUp.τ).loc Cert.QUp.main_arg1))
      ∧ r.2.sem = fun _ => 0)

def quiescent_QUpIdeal [hQUpIdeal : Cert.QUpIdeal.Facts] : Prop :=
  ∀ (m : (ℓ : Loc Cert.QUpIdeal.nD Cert.QUpIdeal.τ Cert.QUpIdeal.sig) → Buf (Elt Ideal) ℓ) (g : Dev Cert.QUpIdeal.nD → PrngReg), Pre_QUpIdeal m →
    θ_run (Cert.QUpIdeal.defs (F := Ideal)) (onTc (τ := Cert.QUpIdeal.τ) (Cert.QUpIdeal.main (F := Ideal))) ⟨m, fun _ => 0, g⟩ (fun r => (∀ c : Dev Cert.QUpIdeal.nD,
      r.2.mem ((c.tc : Thread Cert.QUpIdeal.nD Cert.QUpIdeal.τ).loc Cert.QUpIdeal.main_arg0) = m ((c.tc : Thread Cert.QUpIdeal.nD Cert.QUpIdeal.τ).loc Cert.QUpIdeal.main_arg0)
      ∧ r.2.mem ((c.tc : Thread Cert.QUpIdeal.nD Cert.QUpIdeal.τ).loc Cert.QUpIdeal.main_arg1) = m ((c.tc : Thread Cert.QUpIdeal.nD Cert.QUpIdeal.τ).loc Cert.QUpIdeal.main_arg1))
      ∧ r.2.sem = fun _ => 0)

def quiescent_QUpReferenceIdeal [hQUpReferenceIdeal : Cert.QUpReferenceIdeal.Facts] : Prop :=
  ∀ (m : (ℓ : Loc Cert.QUpReferenceIdeal.nD Cert.QUpReferenceIdeal.τ Cert.QUpReferenceIdeal.sig) → Buf (Elt Ideal) ℓ) (g : Dev Cert.QUpReferenceIdeal.nD → PrngReg), Pre_QUpReferenceIdeal m →
    θ_run (Cert.QUpReferenceIdeal.defs (F := Ideal)) (onTc (τ := Cert.QUpReferenceIdeal.τ) (Cert.QUpReferenceIdeal.main (F := Ideal))) ⟨m, fun _ => 0, g⟩ (fun r => (∀ c : Dev Cert.QUpReferenceIdeal.nD,
      r.2.mem ((c.tc : Thread Cert.QUpReferenceIdeal.nD Cert.QUpReferenceIdeal.τ).loc Cert.QUpReferenceIdeal.main_arg0) = m ((c.tc : Thread Cert.QUpReferenceIdeal.nD Cert.QUpReferenceIdeal.τ).loc Cert.QUpReferenceIdeal.main_arg0)
      ∧ r.2.mem ((c.tc : Thread Cert.QUpReferenceIdeal.nD Cert.QUpReferenceIdeal.τ).loc Cert.QUpReferenceIdeal.main_arg1) = m ((c.tc : Thread Cert.QUpReferenceIdeal.nD Cert.QUpReferenceIdeal.τ).loc Cert.QUpReferenceIdeal.main_arg1))
      ∧ r.2.sem = fun _ => 0)

def quiescent_DQn [hDQn : Cert.DQn.Facts] : Prop :=
  ∀ (m : (ℓ : Loc Cert.DQn.nD Cert.DQn.τ Cert.DQn.sig) → Buf (Elt Bits) ℓ) (g : Dev Cert.DQn.nD → PrngReg), Pre_DQn m →
    θ_run (Cert.DQn.defs (F := Bits)) (onTc (τ := Cert.DQn.τ) (Cert.DQn.main (F := Bits))) ⟨m, fun _ => 0, g⟩ (fun r => (∀ c : Dev Cert.DQn.nD,
      r.2.mem ((c.tc : Thread Cert.DQn.nD Cert.DQn.τ).loc Cert.DQn.main_arg0) = m ((c.tc : Thread Cert.DQn.nD Cert.DQn.τ).loc Cert.DQn.main_arg0)
      ∧ r.2.mem ((c.tc : Thread Cert.DQn.nD Cert.DQn.τ).loc Cert.DQn.main_arg1) = m ((c.tc : Thread Cert.DQn.nD Cert.DQn.τ).loc Cert.DQn.main_arg1))
      ∧ r.2.sem = fun _ => 0)

def quiescent_DQnIdeal [hDQnIdeal : Cert.DQnIdeal.Facts] : Prop :=
  ∀ (m : (ℓ : Loc Cert.DQnIdeal.nD Cert.DQnIdeal.τ Cert.DQnIdeal.sig) → Buf (Elt Ideal) ℓ) (g : Dev Cert.DQnIdeal.nD → PrngReg), Pre_DQnIdeal m →
    θ_run (Cert.DQnIdeal.defs (F := Ideal)) (onTc (τ := Cert.DQnIdeal.τ) (Cert.DQnIdeal.main (F := Ideal))) ⟨m, fun _ => 0, g⟩ (fun r => (∀ c : Dev Cert.DQnIdeal.nD,
      r.2.mem ((c.tc : Thread Cert.DQnIdeal.nD Cert.DQnIdeal.τ).loc Cert.DQnIdeal.main_arg0) = m ((c.tc : Thread Cert.DQnIdeal.nD Cert.DQnIdeal.τ).loc Cert.DQnIdeal.main_arg0)
      ∧ r.2.mem ((c.tc : Thread Cert.DQnIdeal.nD Cert.DQnIdeal.τ).loc Cert.DQnIdeal.main_arg1) = m ((c.tc : Thread Cert.DQnIdeal.nD Cert.DQnIdeal.τ).loc Cert.DQnIdeal.main_arg1))
      ∧ r.2.sem = fun _ => 0)

def quiescent_DQnReferenceIdeal [hDQnReferenceIdeal : Cert.DQnReferenceIdeal.Facts] : Prop :=
  ∀ (m : (ℓ : Loc Cert.DQnReferenceIdeal.nD Cert.DQnReferenceIdeal.τ Cert.DQnReferenceIdeal.sig) → Buf (Elt Ideal) ℓ) (g : Dev Cert.DQnReferenceIdeal.nD → PrngReg), Pre_DQnReferenceIdeal m →
    θ_run (Cert.DQnReferenceIdeal.defs (F := Ideal)) (onTc (τ := Cert.DQnReferenceIdeal.τ) (Cert.DQnReferenceIdeal.main (F := Ideal))) ⟨m, fun _ => 0, g⟩ (fun r => (∀ c : Dev Cert.DQnReferenceIdeal.nD,
      r.2.mem ((c.tc : Thread Cert.DQnReferenceIdeal.nD Cert.DQnReferenceIdeal.τ).loc Cert.DQnReferenceIdeal.main_arg0) = m ((c.tc : Thread Cert.DQnReferenceIdeal.nD Cert.DQnReferenceIdeal.τ).loc Cert.DQnReferenceIdeal.main_arg0)
      ∧ r.2.mem ((c.tc : Thread Cert.DQnReferenceIdeal.nD Cert.DQnReferenceIdeal.τ).loc Cert.DQnReferenceIdeal.main_arg1) = m ((c.tc : Thread Cert.DQnReferenceIdeal.nD Cert.DQnReferenceIdeal.τ).loc Cert.DQnReferenceIdeal.main_arg1))
      ∧ r.2.sem = fun _ => 0)

def quiescent_DwQ [hDwQ : Cert.DwQ.Facts] : Prop :=
  ∀ (m : (ℓ : Loc Cert.DwQ.nD Cert.DwQ.τ Cert.DwQ.sig) → Buf (Elt Bits) ℓ) (g : Dev Cert.DwQ.nD → PrngReg), Pre_DwQ m →
    θ_run (Cert.DwQ.defs (F := Bits)) (onTc (τ := Cert.DwQ.τ) (Cert.DwQ.main (F := Bits))) ⟨m, fun _ => 0, g⟩ (fun r => (∀ c : Dev Cert.DwQ.nD,
      r.2.mem ((c.tc : Thread Cert.DwQ.nD Cert.DwQ.τ).loc Cert.DwQ.main_arg0) = m ((c.tc : Thread Cert.DwQ.nD Cert.DwQ.τ).loc Cert.DwQ.main_arg0)
      ∧ r.2.mem ((c.tc : Thread Cert.DwQ.nD Cert.DwQ.τ).loc Cert.DwQ.main_arg1) = m ((c.tc : Thread Cert.DwQ.nD Cert.DwQ.τ).loc Cert.DwQ.main_arg1))
      ∧ r.2.sem = fun _ => 0)

def quiescent_DwQIdeal [hDwQIdeal : Cert.DwQIdeal.Facts] : Prop :=
  ∀ (m : (ℓ : Loc Cert.DwQIdeal.nD Cert.DwQIdeal.τ Cert.DwQIdeal.sig) → Buf (Elt Ideal) ℓ) (g : Dev Cert.DwQIdeal.nD → PrngReg), Pre_DwQIdeal m →
    θ_run (Cert.DwQIdeal.defs (F := Ideal)) (onTc (τ := Cert.DwQIdeal.τ) (Cert.DwQIdeal.main (F := Ideal))) ⟨m, fun _ => 0, g⟩ (fun r => (∀ c : Dev Cert.DwQIdeal.nD,
      r.2.mem ((c.tc : Thread Cert.DwQIdeal.nD Cert.DwQIdeal.τ).loc Cert.DwQIdeal.main_arg0) = m ((c.tc : Thread Cert.DwQIdeal.nD Cert.DwQIdeal.τ).loc Cert.DwQIdeal.main_arg0)
      ∧ r.2.mem ((c.tc : Thread Cert.DwQIdeal.nD Cert.DwQIdeal.τ).loc Cert.DwQIdeal.main_arg1) = m ((c.tc : Thread Cert.DwQIdeal.nD Cert.DwQIdeal.τ).loc Cert.DwQIdeal.main_arg1))
      ∧ r.2.sem = fun _ => 0)

def quiescent_DwQReferenceIdeal [hDwQReferenceIdeal : Cert.DwQReferenceIdeal.Facts] : Prop :=
  ∀ (m : (ℓ : Loc Cert.DwQReferenceIdeal.nD Cert.DwQReferenceIdeal.τ Cert.DwQReferenceIdeal.sig) → Buf (Elt Ideal) ℓ) (g : Dev Cert.DwQReferenceIdeal.nD → PrngReg), Pre_DwQReferenceIdeal m →
    θ_run (Cert.DwQReferenceIdeal.defs (F := Ideal)) (onTc (τ := Cert.DwQReferenceIdeal.τ) (Cert.DwQReferenceIdeal.main (F := Ideal))) ⟨m, fun _ => 0, g⟩ (fun r => (∀ c : Dev Cert.DwQReferenceIdeal.nD,
      r.2.mem ((c.tc : Thread Cert.DwQReferenceIdeal.nD Cert.DwQReferenceIdeal.τ).loc Cert.DwQReferenceIdeal.main_arg0) = m ((c.tc : Thread Cert.DwQReferenceIdeal.nD Cert.DwQReferenceIdeal.τ).loc Cert.DwQReferenceIdeal.main_arg0)
      ∧ r.2.mem ((c.tc : Thread Cert.DwQReferenceIdeal.nD Cert.DwQReferenceIdeal.τ).loc Cert.DwQReferenceIdeal.main_arg1) = m ((c.tc : Thread Cert.DwQReferenceIdeal.nD Cert.DwQReferenceIdeal.τ).loc Cert.DwQReferenceIdeal.main_arg1))
      ∧ r.2.sem = fun _ => 0)

def quiescent_KvUp [hKvUp : Cert.KvUp.Facts] : Prop :=
  ∀ (m : (ℓ : Loc Cert.KvUp.nD Cert.KvUp.τ Cert.KvUp.sig) → Buf (Elt Bits) ℓ) (g : Dev Cert.KvUp.nD → PrngReg), Pre_KvUp m →
    θ_run (Cert.KvUp.defs (F := Bits)) (onTc (τ := Cert.KvUp.τ) (Cert.KvUp.main (F := Bits))) ⟨m, fun _ => 0, g⟩ (fun r => (∀ c : Dev Cert.KvUp.nD,
      r.2.mem ((c.tc : Thread Cert.KvUp.nD Cert.KvUp.τ).loc Cert.KvUp.main_arg0) = m ((c.tc : Thread Cert.KvUp.nD Cert.KvUp.τ).loc Cert.KvUp.main_arg0)
      ∧ r.2.mem ((c.tc : Thread Cert.KvUp.nD Cert.KvUp.τ).loc Cert.KvUp.main_arg1) = m ((c.tc : Thread Cert.KvUp.nD Cert.KvUp.τ).loc Cert.KvUp.main_arg1))
      ∧ r.2.sem = fun _ => 0)

def quiescent_KvUpIdeal [hKvUpIdeal : Cert.KvUpIdeal.Facts] : Prop :=
  ∀ (m : (ℓ : Loc Cert.KvUpIdeal.nD Cert.KvUpIdeal.τ Cert.KvUpIdeal.sig) → Buf (Elt Ideal) ℓ) (g : Dev Cert.KvUpIdeal.nD → PrngReg), Pre_KvUpIdeal m →
    θ_run (Cert.KvUpIdeal.defs (F := Ideal)) (onTc (τ := Cert.KvUpIdeal.τ) (Cert.KvUpIdeal.main (F := Ideal))) ⟨m, fun _ => 0, g⟩ (fun r => (∀ c : Dev Cert.KvUpIdeal.nD,
      r.2.mem ((c.tc : Thread Cert.KvUpIdeal.nD Cert.KvUpIdeal.τ).loc Cert.KvUpIdeal.main_arg0) = m ((c.tc : Thread Cert.KvUpIdeal.nD Cert.KvUpIdeal.τ).loc Cert.KvUpIdeal.main_arg0)
      ∧ r.2.mem ((c.tc : Thread Cert.KvUpIdeal.nD Cert.KvUpIdeal.τ).loc Cert.KvUpIdeal.main_arg1) = m ((c.tc : Thread Cert.KvUpIdeal.nD Cert.KvUpIdeal.τ).loc Cert.KvUpIdeal.main_arg1))
      ∧ r.2.sem = fun _ => 0)

def quiescent_KvUpReferenceIdeal [hKvUpReferenceIdeal : Cert.KvUpReferenceIdeal.Facts] : Prop :=
  ∀ (m : (ℓ : Loc Cert.KvUpReferenceIdeal.nD Cert.KvUpReferenceIdeal.τ Cert.KvUpReferenceIdeal.sig) → Buf (Elt Ideal) ℓ) (g : Dev Cert.KvUpReferenceIdeal.nD → PrngReg), Pre_KvUpReferenceIdeal m →
    θ_run (Cert.KvUpReferenceIdeal.defs (F := Ideal)) (onTc (τ := Cert.KvUpReferenceIdeal.τ) (Cert.KvUpReferenceIdeal.main (F := Ideal))) ⟨m, fun _ => 0, g⟩ (fun r => (∀ c : Dev Cert.KvUpReferenceIdeal.nD,
      r.2.mem ((c.tc : Thread Cert.KvUpReferenceIdeal.nD Cert.KvUpReferenceIdeal.τ).loc Cert.KvUpReferenceIdeal.main_arg0) = m ((c.tc : Thread Cert.KvUpReferenceIdeal.nD Cert.KvUpReferenceIdeal.τ).loc Cert.KvUpReferenceIdeal.main_arg0)
      ∧ r.2.mem ((c.tc : Thread Cert.KvUpReferenceIdeal.nD Cert.KvUpReferenceIdeal.τ).loc Cert.KvUpReferenceIdeal.main_arg1) = m ((c.tc : Thread Cert.KvUpReferenceIdeal.nD Cert.KvUpReferenceIdeal.τ).loc Cert.KvUpReferenceIdeal.main_arg1))
      ∧ r.2.sem = fun _ => 0)

def quiescent_DKvn [hDKvn : Cert.DKvn.Facts] : Prop :=
  ∀ (m : (ℓ : Loc Cert.DKvn.nD Cert.DKvn.τ Cert.DKvn.sig) → Buf (Elt Bits) ℓ) (g : Dev Cert.DKvn.nD → PrngReg), Pre_DKvn m →
    θ_run (Cert.DKvn.defs (F := Bits)) (onTc (τ := Cert.DKvn.τ) (Cert.DKvn.main (F := Bits))) ⟨m, fun _ => 0, g⟩ (fun r => (∀ c : Dev Cert.DKvn.nD,
      r.2.mem ((c.tc : Thread Cert.DKvn.nD Cert.DKvn.τ).loc Cert.DKvn.main_arg0) = m ((c.tc : Thread Cert.DKvn.nD Cert.DKvn.τ).loc Cert.DKvn.main_arg0)
      ∧ r.2.mem ((c.tc : Thread Cert.DKvn.nD Cert.DKvn.τ).loc Cert.DKvn.main_arg1) = m ((c.tc : Thread Cert.DKvn.nD Cert.DKvn.τ).loc Cert.DKvn.main_arg1))
      ∧ r.2.sem = fun _ => 0)

def quiescent_DKvnIdeal [hDKvnIdeal : Cert.DKvnIdeal.Facts] : Prop :=
  ∀ (m : (ℓ : Loc Cert.DKvnIdeal.nD Cert.DKvnIdeal.τ Cert.DKvnIdeal.sig) → Buf (Elt Ideal) ℓ) (g : Dev Cert.DKvnIdeal.nD → PrngReg), Pre_DKvnIdeal m →
    θ_run (Cert.DKvnIdeal.defs (F := Ideal)) (onTc (τ := Cert.DKvnIdeal.τ) (Cert.DKvnIdeal.main (F := Ideal))) ⟨m, fun _ => 0, g⟩ (fun r => (∀ c : Dev Cert.DKvnIdeal.nD,
      r.2.mem ((c.tc : Thread Cert.DKvnIdeal.nD Cert.DKvnIdeal.τ).loc Cert.DKvnIdeal.main_arg0) = m ((c.tc : Thread Cert.DKvnIdeal.nD Cert.DKvnIdeal.τ).loc Cert.DKvnIdeal.main_arg0)
      ∧ r.2.mem ((c.tc : Thread Cert.DKvnIdeal.nD Cert.DKvnIdeal.τ).loc Cert.DKvnIdeal.main_arg1) = m ((c.tc : Thread Cert.DKvnIdeal.nD Cert.DKvnIdeal.τ).loc Cert.DKvnIdeal.main_arg1))
      ∧ r.2.sem = fun _ => 0)

def quiescent_DKvnReferenceIdeal [hDKvnReferenceIdeal : Cert.DKvnReferenceIdeal.Facts] : Prop :=
  ∀ (m : (ℓ : Loc Cert.DKvnReferenceIdeal.nD Cert.DKvnReferenceIdeal.τ Cert.DKvnReferenceIdeal.sig) → Buf (Elt Ideal) ℓ) (g : Dev Cert.DKvnReferenceIdeal.nD → PrngReg), Pre_DKvnReferenceIdeal m →
    θ_run (Cert.DKvnReferenceIdeal.defs (F := Ideal)) (onTc (τ := Cert.DKvnReferenceIdeal.τ) (Cert.DKvnReferenceIdeal.main (F := Ideal))) ⟨m, fun _ => 0, g⟩ (fun r => (∀ c : Dev Cert.DKvnReferenceIdeal.nD,
      r.2.mem ((c.tc : Thread Cert.DKvnReferenceIdeal.nD Cert.DKvnReferenceIdeal.τ).loc Cert.DKvnReferenceIdeal.main_arg0) = m ((c.tc : Thread Cert.DKvnReferenceIdeal.nD Cert.DKvnReferenceIdeal.τ).loc Cert.DKvnReferenceIdeal.main_arg0)
      ∧ r.2.mem ((c.tc : Thread Cert.DKvnReferenceIdeal.nD Cert.DKvnReferenceIdeal.τ).loc Cert.DKvnReferenceIdeal.main_arg1) = m ((c.tc : Thread Cert.DKvnReferenceIdeal.nD Cert.DKvnReferenceIdeal.τ).loc Cert.DKvnReferenceIdeal.main_arg1))
      ∧ r.2.sem = fun _ => 0)

def quiescent_DwKv [hDwKv : Cert.DwKv.Facts] : Prop :=
  ∀ (m : (ℓ : Loc Cert.DwKv.nD Cert.DwKv.τ Cert.DwKv.sig) → Buf (Elt Bits) ℓ) (g : Dev Cert.DwKv.nD → PrngReg), Pre_DwKv m →
    θ_run (Cert.DwKv.defs (F := Bits)) (onTc (τ := Cert.DwKv.τ) (Cert.DwKv.main (F := Bits))) ⟨m, fun _ => 0, g⟩ (fun r => (∀ c : Dev Cert.DwKv.nD,
      r.2.mem ((c.tc : Thread Cert.DwKv.nD Cert.DwKv.τ).loc Cert.DwKv.main_arg0) = m ((c.tc : Thread Cert.DwKv.nD Cert.DwKv.τ).loc Cert.DwKv.main_arg0)
      ∧ r.2.mem ((c.tc : Thread Cert.DwKv.nD Cert.DwKv.τ).loc Cert.DwKv.main_arg1) = m ((c.tc : Thread Cert.DwKv.nD Cert.DwKv.τ).loc Cert.DwKv.main_arg1))
      ∧ r.2.sem = fun _ => 0)

def quiescent_DwKvIdeal [hDwKvIdeal : Cert.DwKvIdeal.Facts] : Prop :=
  ∀ (m : (ℓ : Loc Cert.DwKvIdeal.nD Cert.DwKvIdeal.τ Cert.DwKvIdeal.sig) → Buf (Elt Ideal) ℓ) (g : Dev Cert.DwKvIdeal.nD → PrngReg), Pre_DwKvIdeal m →
    θ_run (Cert.DwKvIdeal.defs (F := Ideal)) (onTc (τ := Cert.DwKvIdeal.τ) (Cert.DwKvIdeal.main (F := Ideal))) ⟨m, fun _ => 0, g⟩ (fun r => (∀ c : Dev Cert.DwKvIdeal.nD,
      r.2.mem ((c.tc : Thread Cert.DwKvIdeal.nD Cert.DwKvIdeal.τ).loc Cert.DwKvIdeal.main_arg0) = m ((c.tc : Thread Cert.DwKvIdeal.nD Cert.DwKvIdeal.τ).loc Cert.DwKvIdeal.main_arg0)
      ∧ r.2.mem ((c.tc : Thread Cert.DwKvIdeal.nD Cert.DwKvIdeal.τ).loc Cert.DwKvIdeal.main_arg1) = m ((c.tc : Thread Cert.DwKvIdeal.nD Cert.DwKvIdeal.τ).loc Cert.DwKvIdeal.main_arg1))
      ∧ r.2.sem = fun _ => 0)

def quiescent_DwKvReferenceIdeal [hDwKvReferenceIdeal : Cert.DwKvReferenceIdeal.Facts] : Prop :=
  ∀ (m : (ℓ : Loc Cert.DwKvReferenceIdeal.nD Cert.DwKvReferenceIdeal.τ Cert.DwKvReferenceIdeal.sig) → Buf (Elt Ideal) ℓ) (g : Dev Cert.DwKvReferenceIdeal.nD → PrngReg), Pre_DwKvReferenceIdeal m →
    θ_run (Cert.DwKvReferenceIdeal.defs (F := Ideal)) (onTc (τ := Cert.DwKvReferenceIdeal.τ) (Cert.DwKvReferenceIdeal.main (F := Ideal))) ⟨m, fun _ => 0, g⟩ (fun r => (∀ c : Dev Cert.DwKvReferenceIdeal.nD,
      r.2.mem ((c.tc : Thread Cert.DwKvReferenceIdeal.nD Cert.DwKvReferenceIdeal.τ).loc Cert.DwKvReferenceIdeal.main_arg0) = m ((c.tc : Thread Cert.DwKvReferenceIdeal.nD Cert.DwKvReferenceIdeal.τ).loc Cert.DwKvReferenceIdeal.main_arg0)
      ∧ r.2.mem ((c.tc : Thread Cert.DwKvReferenceIdeal.nD Cert.DwKvReferenceIdeal.τ).loc Cert.DwKvReferenceIdeal.main_arg1) = m ((c.tc : Thread Cert.DwKvReferenceIdeal.nD Cert.DwKvReferenceIdeal.τ).loc Cert.DwKvReferenceIdeal.main_arg1))
      ∧ r.2.sem = fun _ => 0)

def quiescent_FlashFwd [hFlashFwd : Cert.FlashFwd.Facts] : Prop :=
  ∀ (m : (ℓ : Loc Cert.FlashFwd.nD Cert.FlashFwd.τ Cert.FlashFwd.sig) → Buf (Elt Bits) ℓ) (g : Dev Cert.FlashFwd.nD → PrngReg), Pre_FlashFwd m →
    θ_run (Cert.FlashFwd.defs (F := Bits)) (onTc (τ := Cert.FlashFwd.τ) (Cert.FlashFwd.main (F := Bits))) ⟨m, fun _ => 0, g⟩ (fun r => (∀ c : Dev Cert.FlashFwd.nD,
      r.2.mem ((c.tc : Thread Cert.FlashFwd.nD Cert.FlashFwd.τ).loc Cert.FlashFwd.main_arg0) = m ((c.tc : Thread Cert.FlashFwd.nD Cert.FlashFwd.τ).loc Cert.FlashFwd.main_arg0)
      ∧ r.2.mem ((c.tc : Thread Cert.FlashFwd.nD Cert.FlashFwd.τ).loc Cert.FlashFwd.main_arg1) = m ((c.tc : Thread Cert.FlashFwd.nD Cert.FlashFwd.τ).loc Cert.FlashFwd.main_arg1)
      ∧ r.2.mem ((c.tc : Thread Cert.FlashFwd.nD Cert.FlashFwd.τ).loc Cert.FlashFwd.main_arg2) = m ((c.tc : Thread Cert.FlashFwd.nD Cert.FlashFwd.τ).loc Cert.FlashFwd.main_arg2)
      ∧ r.2.mem ((c.tc : Thread Cert.FlashFwd.nD Cert.FlashFwd.τ).loc Cert.FlashFwd.main_arg3) = m ((c.tc : Thread Cert.FlashFwd.nD Cert.FlashFwd.τ).loc Cert.FlashFwd.main_arg3))
      ∧ r.2.sem = fun _ => 0)

def quiescent_FlashFwdIdeal [hFlashFwdIdeal : Cert.FlashFwdIdeal.Facts] : Prop :=
  ∀ (m : (ℓ : Loc Cert.FlashFwdIdeal.nD Cert.FlashFwdIdeal.τ Cert.FlashFwdIdeal.sig) → Buf (Elt Ideal) ℓ) (g : Dev Cert.FlashFwdIdeal.nD → PrngReg), Pre_FlashFwdIdeal m →
    θ_run (Cert.FlashFwdIdeal.defs (F := Ideal)) (onTc (τ := Cert.FlashFwdIdeal.τ) (Cert.FlashFwdIdeal.main (F := Ideal))) ⟨m, fun _ => 0, g⟩ (fun r => (∀ c : Dev Cert.FlashFwdIdeal.nD,
      r.2.mem ((c.tc : Thread Cert.FlashFwdIdeal.nD Cert.FlashFwdIdeal.τ).loc Cert.FlashFwdIdeal.main_arg0) = m ((c.tc : Thread Cert.FlashFwdIdeal.nD Cert.FlashFwdIdeal.τ).loc Cert.FlashFwdIdeal.main_arg0)
      ∧ r.2.mem ((c.tc : Thread Cert.FlashFwdIdeal.nD Cert.FlashFwdIdeal.τ).loc Cert.FlashFwdIdeal.main_arg1) = m ((c.tc : Thread Cert.FlashFwdIdeal.nD Cert.FlashFwdIdeal.τ).loc Cert.FlashFwdIdeal.main_arg1)
      ∧ r.2.mem ((c.tc : Thread Cert.FlashFwdIdeal.nD Cert.FlashFwdIdeal.τ).loc Cert.FlashFwdIdeal.main_arg2) = m ((c.tc : Thread Cert.FlashFwdIdeal.nD Cert.FlashFwdIdeal.τ).loc Cert.FlashFwdIdeal.main_arg2)
      ∧ r.2.mem ((c.tc : Thread Cert.FlashFwdIdeal.nD Cert.FlashFwdIdeal.τ).loc Cert.FlashFwdIdeal.main_arg3) = m ((c.tc : Thread Cert.FlashFwdIdeal.nD Cert.FlashFwdIdeal.τ).loc Cert.FlashFwdIdeal.main_arg3))
      ∧ r.2.sem = fun _ => 0)

def quiescent_FlashFwdIdeal_pre_finite_heads [hFlashFwdIdeal : Cert.FlashFwdIdeal.Facts] [hPre_finite_heads : Cert.Pre_finite_heads.Facts] : Prop :=
  ∀ (m : (ℓ : Loc Cert.FlashFwdIdeal.nD Cert.FlashFwdIdeal.τ Cert.FlashFwdIdeal.sig) → Buf (Elt Ideal) ℓ) (g : Dev Cert.FlashFwdIdeal.nD → PrngReg), Pre_FlashFwdIdeal_finite_heads m →
    θ_run (Cert.FlashFwdIdeal.defs (F := Ideal)) (onTc (τ := Cert.FlashFwdIdeal.τ) (Cert.FlashFwdIdeal.main (F := Ideal))) ⟨m, fun _ => 0, g⟩ (fun r => (∀ c : Dev Cert.FlashFwdIdeal.nD,
      r.2.mem ((c.tc : Thread Cert.FlashFwdIdeal.nD Cert.FlashFwdIdeal.τ).loc Cert.FlashFwdIdeal.main_arg0) = m ((c.tc : Thread Cert.FlashFwdIdeal.nD Cert.FlashFwdIdeal.τ).loc Cert.FlashFwdIdeal.main_arg0)
      ∧ r.2.mem ((c.tc : Thread Cert.FlashFwdIdeal.nD Cert.FlashFwdIdeal.τ).loc Cert.FlashFwdIdeal.main_arg1) = m ((c.tc : Thread Cert.FlashFwdIdeal.nD Cert.FlashFwdIdeal.τ).loc Cert.FlashFwdIdeal.main_arg1)
      ∧ r.2.mem ((c.tc : Thread Cert.FlashFwdIdeal.nD Cert.FlashFwdIdeal.τ).loc Cert.FlashFwdIdeal.main_arg2) = m ((c.tc : Thread Cert.FlashFwdIdeal.nD Cert.FlashFwdIdeal.τ).loc Cert.FlashFwdIdeal.main_arg2)
      ∧ r.2.mem ((c.tc : Thread Cert.FlashFwdIdeal.nD Cert.FlashFwdIdeal.τ).loc Cert.FlashFwdIdeal.main_arg3) = m ((c.tc : Thread Cert.FlashFwdIdeal.nD Cert.FlashFwdIdeal.τ).loc Cert.FlashFwdIdeal.main_arg3))
      ∧ r.2.sem = fun _ => 0)

def quiescent_FlashFwdReferenceIdeal [hFlashFwdReferenceIdeal : Cert.FlashFwdReferenceIdeal.Facts] : Prop :=
  ∀ (m : (ℓ : Loc Cert.FlashFwdReferenceIdeal.nD Cert.FlashFwdReferenceIdeal.τ Cert.FlashFwdReferenceIdeal.sig) → Buf (Elt Ideal) ℓ) (g : Dev Cert.FlashFwdReferenceIdeal.nD → PrngReg), Pre_FlashFwdReferenceIdeal m →
    θ_run (Cert.FlashFwdReferenceIdeal.defs (F := Ideal)) (onTc (τ := Cert.FlashFwdReferenceIdeal.τ) (Cert.FlashFwdReferenceIdeal.main (F := Ideal))) ⟨m, fun _ => 0, g⟩ (fun r => (∀ c : Dev Cert.FlashFwdReferenceIdeal.nD,
      r.2.mem ((c.tc : Thread Cert.FlashFwdReferenceIdeal.nD Cert.FlashFwdReferenceIdeal.τ).loc Cert.FlashFwdReferenceIdeal.main_arg0) = m ((c.tc : Thread Cert.FlashFwdReferenceIdeal.nD Cert.FlashFwdReferenceIdeal.τ).loc Cert.FlashFwdReferenceIdeal.main_arg0)
      ∧ r.2.mem ((c.tc : Thread Cert.FlashFwdReferenceIdeal.nD Cert.FlashFwdReferenceIdeal.τ).loc Cert.FlashFwdReferenceIdeal.main_arg1) = m ((c.tc : Thread Cert.FlashFwdReferenceIdeal.nD Cert.FlashFwdReferenceIdeal.τ).loc Cert.FlashFwdReferenceIdeal.main_arg1)
      ∧ r.2.mem ((c.tc : Thread Cert.FlashFwdReferenceIdeal.nD Cert.FlashFwdReferenceIdeal.τ).loc Cert.FlashFwdReferenceIdeal.main_arg2) = m ((c.tc : Thread Cert.FlashFwdReferenceIdeal.nD Cert.FlashFwdReferenceIdeal.τ).loc Cert.FlashFwdReferenceIdeal.main_arg2)
      ∧ r.2.mem ((c.tc : Thread Cert.FlashFwdReferenceIdeal.nD Cert.FlashFwdReferenceIdeal.τ).loc Cert.FlashFwdReferenceIdeal.main_arg3) = m ((c.tc : Thread Cert.FlashFwdReferenceIdeal.nD Cert.FlashFwdReferenceIdeal.τ).loc Cert.FlashFwdReferenceIdeal.main_arg3))
      ∧ r.2.sem = fun _ => 0)

def quiescent_FlashFwdReferenceIdeal_pre_finite_heads [hFlashFwdReferenceIdeal : Cert.FlashFwdReferenceIdeal.Facts] [hPre_finite_heads : Cert.Pre_finite_heads.Facts] : Prop :=
  ∀ (m : (ℓ : Loc Cert.FlashFwdReferenceIdeal.nD Cert.FlashFwdReferenceIdeal.τ Cert.FlashFwdReferenceIdeal.sig) → Buf (Elt Ideal) ℓ) (g : Dev Cert.FlashFwdReferenceIdeal.nD → PrngReg), Pre_FlashFwdReferenceIdeal_finite_heads m →
    θ_run (Cert.FlashFwdReferenceIdeal.defs (F := Ideal)) (onTc (τ := Cert.FlashFwdReferenceIdeal.τ) (Cert.FlashFwdReferenceIdeal.main (F := Ideal))) ⟨m, fun _ => 0, g⟩ (fun r => (∀ c : Dev Cert.FlashFwdReferenceIdeal.nD,
      r.2.mem ((c.tc : Thread Cert.FlashFwdReferenceIdeal.nD Cert.FlashFwdReferenceIdeal.τ).loc Cert.FlashFwdReferenceIdeal.main_arg0) = m ((c.tc : Thread Cert.FlashFwdReferenceIdeal.nD Cert.FlashFwdReferenceIdeal.τ).loc Cert.FlashFwdReferenceIdeal.main_arg0)
      ∧ r.2.mem ((c.tc : Thread Cert.FlashFwdReferenceIdeal.nD Cert.FlashFwdReferenceIdeal.τ).loc Cert.FlashFwdReferenceIdeal.main_arg1) = m ((c.tc : Thread Cert.FlashFwdReferenceIdeal.nD Cert.FlashFwdReferenceIdeal.τ).loc Cert.FlashFwdReferenceIdeal.main_arg1)
      ∧ r.2.mem ((c.tc : Thread Cert.FlashFwdReferenceIdeal.nD Cert.FlashFwdReferenceIdeal.τ).loc Cert.FlashFwdReferenceIdeal.main_arg2) = m ((c.tc : Thread Cert.FlashFwdReferenceIdeal.nD Cert.FlashFwdReferenceIdeal.τ).loc Cert.FlashFwdReferenceIdeal.main_arg2)
      ∧ r.2.mem ((c.tc : Thread Cert.FlashFwdReferenceIdeal.nD Cert.FlashFwdReferenceIdeal.τ).loc Cert.FlashFwdReferenceIdeal.main_arg3) = m ((c.tc : Thread Cert.FlashFwdReferenceIdeal.nD Cert.FlashFwdReferenceIdeal.τ).loc Cert.FlashFwdReferenceIdeal.main_arg3))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1))
      ∧ r.2.sem = fun _ => 0)

def quiescent_LossHeadReferenceIdeal [hLossHeadReferenceIdeal : Cert.LossHeadReferenceIdeal.Facts] : Prop :=
  ∀ (m : (ℓ : Loc Cert.LossHeadReferenceIdeal.nD Cert.LossHeadReferenceIdeal.τ Cert.LossHeadReferenceIdeal.sig) → Buf (Elt Ideal) ℓ) (g : Dev Cert.LossHeadReferenceIdeal.nD → PrngReg), Pre_LossHeadReferenceIdeal m →
    θ_run (Cert.LossHeadReferenceIdeal.defs (F := Ideal)) (onTc (τ := Cert.LossHeadReferenceIdeal.τ) (Cert.LossHeadReferenceIdeal.main (F := Ideal))) ⟨m, fun _ => 0, g⟩ (fun r => (∀ c : Dev Cert.LossHeadReferenceIdeal.nD,
      r.2.mem ((c.tc : Thread Cert.LossHeadReferenceIdeal.nD Cert.LossHeadReferenceIdeal.τ).loc Cert.LossHeadReferenceIdeal.main_arg0) = m ((c.tc : Thread Cert.LossHeadReferenceIdeal.nD Cert.LossHeadReferenceIdeal.τ).loc Cert.LossHeadReferenceIdeal.main_arg0)
      ∧ r.2.mem ((c.tc : Thread Cert.LossHeadReferenceIdeal.nD Cert.LossHeadReferenceIdeal.τ).loc Cert.LossHeadReferenceIdeal.main_arg1) = m ((c.tc : Thread Cert.LossHeadReferenceIdeal.nD Cert.LossHeadReferenceIdeal.τ).loc Cert.LossHeadReferenceIdeal.main_arg1))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallReferenceIdeal [hAdamSmallReferenceIdeal : Cert.AdamSmallReferenceIdeal.Facts] : Prop :=
  ∀ (m : (ℓ : Loc Cert.AdamSmallReferenceIdeal.nD Cert.AdamSmallReferenceIdeal.τ Cert.AdamSmallReferenceIdeal.sig) → Buf (Elt Ideal) ℓ) (g : Dev Cert.AdamSmallReferenceIdeal.nD → PrngReg), Pre_AdamSmallReferenceIdeal m →
    θ_run (Cert.AdamSmallReferenceIdeal.defs (F := Ideal)) (onTc (τ := Cert.AdamSmallReferenceIdeal.τ) (Cert.AdamSmallReferenceIdeal.main (F := Ideal))) ⟨m, fun _ => 0, g⟩ (fun r => (∀ c : Dev Cert.AdamSmallReferenceIdeal.nD,
      r.2.mem ((c.tc : Thread Cert.AdamSmallReferenceIdeal.nD Cert.AdamSmallReferenceIdeal.τ).loc Cert.AdamSmallReferenceIdeal.main_arg0) = m ((c.tc : Thread Cert.AdamSmallReferenceIdeal.nD Cert.AdamSmallReferenceIdeal.τ).loc Cert.AdamSmallReferenceIdeal.main_arg0)
      ∧ r.2.mem ((c.tc : Thread Cert.AdamSmallReferenceIdeal.nD Cert.AdamSmallReferenceIdeal.τ).loc Cert.AdamSmallReferenceIdeal.main_arg1) = m ((c.tc : Thread Cert.AdamSmallReferenceIdeal.nD Cert.AdamSmallReferenceIdeal.τ).loc Cert.AdamSmallReferenceIdeal.main_arg1)
      ∧ r.2.mem ((c.tc : Thread Cert.AdamSmallReferenceIdeal.nD Cert.AdamSmallReferenceIdeal.τ).loc Cert.AdamSmallReferenceIdeal.main_arg2) = m ((c.tc : Thread Cert.AdamSmallReferenceIdeal.nD Cert.AdamSmallReferenceIdeal.τ).loc Cert.AdamSmallReferenceIdeal.main_arg2)
      ∧ r.2.mem ((c.tc : Thread Cert.AdamSmallReferenceIdeal.nD Cert.AdamSmallReferenceIdeal.τ).loc Cert.AdamSmallReferenceIdeal.main_arg3) = m ((c.tc : Thread Cert.AdamSmallReferenceIdeal.nD Cert.AdamSmallReferenceIdeal.τ).loc Cert.AdamSmallReferenceIdeal.main_arg3))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3)
      ∧ r.2.mem ((c.tc : Thread Cert.AdamIn.nD Cert.AdamIn.τ).loc Cert.AdamIn.main_arg4) = m ((c.tc : Thread Cert.AdamIn.nD Cert.AdamIn.τ).loc Cert.AdamIn.main_arg4)
      ∧ r.2.mem ((c.tc : Thread Cert.AdamIn.nD Cert.AdamIn.τ).loc Cert.AdamIn.main_arg5) = m ((c.tc : Thread Cert.AdamIn.nD Cert.AdamIn.τ).loc Cert.AdamIn.main_arg5)
      ∧ r.2.mem ((c.tc : Thread Cert.AdamIn.nD Cert.AdamIn.τ).loc Cert.AdamIn.main_arg6) = m ((c.tc : Thread Cert.AdamIn.nD Cert.AdamIn.τ).loc Cert.AdamIn.main_arg6)
      ∧ r.2.mem ((c.tc : Thread Cert.AdamIn.nD Cert.AdamIn.τ).loc Cert.AdamIn.main_arg7) = m ((c.tc : Thread Cert.AdamIn.nD Cert.AdamIn.τ).loc Cert.AdamIn.main_arg7))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
      ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4)
      ∧ r.2.mem ((c.tc : Thread Cert.AdamInIdeal.nD Cert.AdamInIdeal.τ).loc Cert.AdamInIdeal.main_arg5) = m ((c.tc : Thread Cert.AdamInIdeal.nD Cert.AdamInIdeal.τ).loc Cert.AdamInIdeal.main_arg5)
      ∧ r.2.mem ((c.tc : Thread Cert.AdamInIdeal.nD Cert.AdamInIdeal.τ).loc Cert.AdamInIdeal.main_arg6) = m ((c.tc : Thread Cert.AdamInIdeal.nD Cert.AdamInIdeal.τ).loc Cert.AdamInIdeal.main_arg6)
      ∧ r.2.mem ((c.tc : Thread Cert.AdamInIdeal.nD Cert.AdamInIdeal.τ).loc Cert.AdamInIdeal.main_arg7) = m ((c.tc : Thread Cert.AdamInIdeal.nD Cert.AdamInIdeal.τ).loc Cert.AdamInIdeal.main_arg7))
      ∧ r.2.sem = fun _ => 0)

def quiescent_AdamInReferenceIdeal [hAdamInReferenceIdeal : Cert.AdamInReferenceIdeal.Facts] : Prop :=
  ∀ (m : (ℓ : Loc Cert.AdamInReferenceIdeal.nD Cert.AdamInReferenceIdeal.τ Cert.AdamInReferenceIdeal.sig) → Buf (Elt Ideal) ℓ) (g : Dev Cert.AdamInReferenceIdeal.nD → PrngReg), Pre_AdamInReferenceIdeal m →
    θ_run (Cert.AdamInReferenceIdeal.defs (F := Ideal)) (onTc (τ := Cert.AdamInReferenceIdeal.τ) (Cert.AdamInReferenceIdeal.main (F := Ideal))) ⟨m, fun _ => 0, g⟩ (fun r => (∀ c : Dev Cert.AdamInReferenceIdeal.nD,
      r.2.mem ((c.tc : Thread Cert.AdamInReferenceIdeal.nD Cert.AdamInReferenceIdeal.τ).loc Cert.AdamInReferenceIdeal.main_arg0) = m ((c.tc : Thread Cert.AdamInReferenceIdeal.nD Cert.AdamInReferenceIdeal.τ).loc Cert.AdamInReferenceIdeal.main_arg0)
      ∧ r.2.mem ((c.tc : Thread Cert.AdamInReferenceIdeal.nD Cert.AdamInReferenceIdeal.τ).loc Cert.AdamInReferenceIdeal.main_arg1) = m ((c.tc : Thread Cert.AdamInReferenceIdeal.nD Cert.AdamInReferenceIdeal.τ).loc Cert.AdamInReferenceIdeal.main_arg1)
      ∧ r.2.mem ((c.tc : Thread Cert.AdamInReferenceIdeal.nD Cert.AdamInReferenceIdeal.τ).loc Cert.AdamInReferenceIdeal.main_arg2) = m ((c.tc : Thread Cert.AdamInReferenceIdeal.nD Cert.AdamInReferenceIdeal.τ).loc Cert.AdamInReferenceIdeal.main_arg2)
      ∧ r.2.mem ((c.tc : Thread Cert.AdamInReferenceIdeal.nD Cert.AdamInReferenceIdeal.τ).loc Cert.AdamInReferenceIdeal.main_arg3) = m ((c.tc : Thread Cert.AdamInReferenceIdeal.nD Cert.AdamInReferenceIdeal.τ).loc Cert.AdamInReferenceIdeal.main_arg3)
      ∧ r.2.mem ((c.tc : Thread Cert.AdamInReferenceIdeal.nD Cert.AdamInReferenceIdeal.τ).loc Cert.AdamInReferenceIdeal.main_arg4) = m ((c.tc : Thread Cert.AdamInReferenceIdeal.nD Cert.AdamInReferenceIdeal.τ).loc Cert.AdamInReferenceIdeal.main_arg4)
      ∧ r.2.mem ((c.tc : Thread Cert.AdamInReferenceIdeal.nD Cert.AdamInReferenceIdeal.τ).loc Cert.AdamInReferenceIdeal.main_arg5) = m ((c.tc : Thread Cert.AdamInReferenceIdeal.nD Cert.AdamInReferenceIdeal.τ).loc Cert.AdamInReferenceIdeal.main_arg5)
      ∧ r.2.mem ((c.tc : Thread Cert.AdamInReferenceIdeal.nD Cert.AdamInReferenceIdeal.τ).loc Cert.AdamInReferenceIdeal.main_arg6) = m ((c.tc : Thread Cert.AdamInReferenceIdeal.nD Cert.AdamInReferenceIdeal.τ).loc Cert.AdamInReferenceIdeal.main_arg6)
      ∧ r.2.mem ((c.tc : Thread Cert.AdamInReferenceIdeal.nD Cert.AdamInReferenceIdeal.τ).loc Cert.AdamInReferenceIdeal.main_arg7) = m ((c.tc : Thread Cert.AdamInReferenceIdeal.nD Cert.AdamInReferenceIdeal.τ).loc Cert.AdamInReferenceIdeal.main_arg7))
      ∧ r.2.sem = fun _ => 0)

def quiescent_AdamQUp [hAdamQUp : Cert.AdamQUp.Facts] : Prop :=
  ∀ (m : (ℓ : Loc Cert.AdamQUp.nD Cert.AdamQUp.τ Cert.AdamQUp.sig) → Buf (Elt Bits) ℓ) (g : Dev Cert.AdamQUp.nD → PrngReg), Pre_AdamQUp m →
    θ_run (Cert.AdamQUp.defs (F := Bits)) (onTc (τ := Cert.AdamQUp.τ) (Cert.AdamQUp.main (F := Bits))) ⟨m, fun _ => 0, g⟩ (fun r => (∀ c : Dev Cert.AdamQUp.nD,
      r.2.mem ((c.tc : Thread Cert.AdamQUp.nD Cert.AdamQUp.τ).loc Cert.AdamQUp.main_arg0) = m ((c.tc : Thread Cert.AdamQUp.nD Cert.AdamQUp.τ).loc Cert.AdamQUp.main_arg0)
      ∧ r.2.mem ((c.tc : Thread Cert.AdamQUp.nD Cert.AdamQUp.τ).loc Cert.AdamQUp.main_arg1) = m ((c.tc : Thread Cert.AdamQUp.nD Cert.AdamQUp.τ).loc Cert.AdamQUp.main_arg1)
      ∧ r.2.mem ((c.tc : Thread Cert.AdamQUp.nD Cert.AdamQUp.τ).loc Cert.AdamQUp.main_arg2) = m ((c.tc : Thread Cert.AdamQUp.nD Cert.AdamQUp.τ).loc Cert.AdamQUp.main_arg2)
      ∧ r.2.mem ((c.tc : Thread Cert.AdamQUp.nD Cert.AdamQUp.τ).loc Cert.AdamQUp.main_arg3) = m ((c.tc : Thread Cert.AdamQUp.nD Cert.AdamQUp.τ).loc Cert.AdamQUp.main_arg3)
      ∧ r.2.mem ((c.tc : Thread Cert.AdamQUp.nD Cert.AdamQUp.τ).loc Cert.AdamQUp.main_arg4) = m ((c.tc : Thread Cert.AdamQUp.nD Cert.AdamQUp.τ).loc Cert.AdamQUp.main_arg4)
      ∧ r.2.mem ((c.tc : Thread Cert.AdamQUp.nD Cert.AdamQUp.τ).loc Cert.AdamQUp.main_arg5) = m ((c.tc : Thread Cert.AdamQUp.nD Cert.AdamQUp.τ).loc Cert.AdamQUp.main_arg5)
      ∧ r.2.mem ((c.tc : Thread Cert.AdamQUp.nD Cert.AdamQUp.τ).loc Cert.AdamQUp.main_arg6) = m ((c.tc : Thread Cert.AdamQUp.nD Cert.AdamQUp.τ).loc Cert.AdamQUp.main_arg6)
      ∧ r.2.mem ((c.tc : Thread Cert.AdamQUp.nD Cert.AdamQUp.τ).loc Cert.AdamQUp.main_arg7) = m ((c.tc : Thread Cert.AdamQUp.nD Cert.AdamQUp.τ).loc Cert.AdamQUp.main_arg7))
      ∧ r.2.sem = fun _ => 0)

def quiescent_AdamQUpIdeal [hAdamQUpIdeal : Cert.AdamQUpIdeal.Facts] : Prop :=
  ∀ (m : (ℓ : Loc Cert.AdamQUpIdeal.nD Cert.AdamQUpIdeal.τ Cert.AdamQUpIdeal.sig) → Buf (Elt Ideal) ℓ) (g : Dev Cert.AdamQUpIdeal.nD → PrngReg), Pre_AdamQUpIdeal m →
    θ_run (Cert.AdamQUpIdeal.defs (F := Ideal)) (onTc (τ := Cert.AdamQUpIdeal.τ) (Cert.AdamQUpIdeal.main (F := Ideal))) ⟨m, fun _ => 0, g⟩ (fun r => (∀ c : Dev Cert.AdamQUpIdeal.nD,
      r.2.mem ((c.tc : Thread Cert.AdamQUpIdeal.nD Cert.AdamQUpIdeal.τ).loc Cert.AdamQUpIdeal.main_arg0) = m ((c.tc : Thread Cert.AdamQUpIdeal.nD Cert.AdamQUpIdeal.τ).loc Cert.AdamQUpIdeal.main_arg0)
      ∧ r.2.mem ((c.tc : Thread Cert.AdamQUpIdeal.nD Cert.AdamQUpIdeal.τ).loc Cert.AdamQUpIdeal.main_arg1) = m ((c.tc : Thread Cert.AdamQUpIdeal.nD Cert.AdamQUpIdeal.τ).loc Cert.AdamQUpIdeal.main_arg1)
      ∧ r.2.mem ((c.tc : Thread Cert.AdamQUpIdeal.nD Cert.AdamQUpIdeal.τ).loc Cert.AdamQUpIdeal.main_arg2) = m ((c.tc : Thread Cert.AdamQUpIdeal.nD Cert.AdamQUpIdeal.τ).loc Cert.AdamQUpIdeal.main_arg2)
      ∧ r.2.mem ((c.tc : Thread Cert.AdamQUpIdeal.nD Cert.AdamQUpIdeal.τ).loc Cert.AdamQUpIdeal.main_arg3) = m ((c.tc : Thread Cert.AdamQUpIdeal.nD Cert.AdamQUpIdeal.τ).loc Cert.AdamQUpIdeal.main_arg3)
      ∧ r.2.mem ((c.tc : Thread Cert.AdamQUpIdeal.nD Cert.AdamQUpIdeal.τ).loc Cert.AdamQUpIdeal.main_arg4) = m ((c.tc : Thread Cert.AdamQUpIdeal.nD Cert.AdamQUpIdeal.τ).loc Cert.AdamQUpIdeal.main_arg4)
      ∧ r.2.mem ((c.tc : Thread Cert.AdamQUpIdeal.nD Cert.AdamQUpIdeal.τ).loc Cert.AdamQUpIdeal.main_arg5) = m ((c.tc : Thread Cert.AdamQUpIdeal.nD Cert.AdamQUpIdeal.τ).loc Cert.AdamQUpIdeal.main_arg5)
      ∧ r.2.mem ((c.tc : Thread Cert.AdamQUpIdeal.nD Cert.AdamQUpIdeal.τ).loc Cert.AdamQUpIdeal.main_arg6) = m ((c.tc : Thread Cert.AdamQUpIdeal.nD Cert.AdamQUpIdeal.τ).loc Cert.AdamQUpIdeal.main_arg6)
      ∧ r.2.mem ((c.tc : Thread Cert.AdamQUpIdeal.nD Cert.AdamQUpIdeal.τ).loc Cert.AdamQUpIdeal.main_arg7) = m ((c.tc : Thread Cert.AdamQUpIdeal.nD Cert.AdamQUpIdeal.τ).loc Cert.AdamQUpIdeal.main_arg7))
      ∧ r.2.sem = fun _ => 0)

def quiescent_AdamQUpReferenceIdeal [hAdamQUpReferenceIdeal : Cert.AdamQUpReferenceIdeal.Facts] : Prop :=
  ∀ (m : (ℓ : Loc Cert.AdamQUpReferenceIdeal.nD Cert.AdamQUpReferenceIdeal.τ Cert.AdamQUpReferenceIdeal.sig) → Buf (Elt Ideal) ℓ) (g : Dev Cert.AdamQUpReferenceIdeal.nD → PrngReg), Pre_AdamQUpReferenceIdeal m →
    θ_run (Cert.AdamQUpReferenceIdeal.defs (F := Ideal)) (onTc (τ := Cert.AdamQUpReferenceIdeal.τ) (Cert.AdamQUpReferenceIdeal.main (F := Ideal))) ⟨m, fun _ => 0, g⟩ (fun r => (∀ c : Dev Cert.AdamQUpReferenceIdeal.nD,
      r.2.mem ((c.tc : Thread Cert.AdamQUpReferenceIdeal.nD Cert.AdamQUpReferenceIdeal.τ).loc Cert.AdamQUpReferenceIdeal.main_arg0) = m ((c.tc : Thread Cert.AdamQUpReferenceIdeal.nD Cert.AdamQUpReferenceIdeal.τ).loc Cert.AdamQUpReferenceIdeal.main_arg0)
      ∧ r.2.mem ((c.tc : Thread Cert.AdamQUpReferenceIdeal.nD Cert.AdamQUpReferenceIdeal.τ).loc Cert.AdamQUpReferenceIdeal.main_arg1) = m ((c.tc : Thread Cert.AdamQUpReferenceIdeal.nD Cert.AdamQUpReferenceIdeal.τ).loc Cert.AdamQUpReferenceIdeal.main_arg1)
      ∧ r.2.mem ((c.tc : Thread Cert.AdamQUpReferenceIdeal.nD Cert.AdamQUpReferenceIdeal.τ).loc Cert.AdamQUpReferenceIdeal.main_arg2) = m ((c.tc : Thread Cert.AdamQUpReferenceIdeal.nD Cert.AdamQUpReferenceIdeal.τ).loc Cert.AdamQUpReferenceIdeal.main_arg2)
      ∧ r.2.mem ((c.tc : Thread Cert.AdamQUpReferenceIdeal.nD Cert.AdamQUpReferenceIdeal.τ).loc Cert.AdamQUpReferenceIdeal.main_arg3) = m ((c.tc : Thread Cert.AdamQUpReferenceIdeal.nD Cert.AdamQUpReferenceIdeal.τ).loc Cert.AdamQUpReferenceIdeal.main_arg3)
      ∧ r.2.mem ((c.tc : Thread Cert.AdamQUpReferenceIdeal.nD Cert.AdamQUpReferenceIdeal.τ).loc Cert.AdamQUpReferenceIdeal.main_arg4) = m ((c.tc : Thread Cert.AdamQUpReferenceIdeal.nD Cert.AdamQUpReferenceIdeal.τ).loc Cert.AdamQUpReferenceIdeal.main_arg4)
      ∧ r.2.mem ((c.tc : Thread Cert.AdamQUpReferenceIdeal.nD Cert.AdamQUpReferenceIdeal.τ).loc Cert.AdamQUpReferenceIdeal.main_arg5) = m ((c.tc : Thread Cert.AdamQUpReferenceIdeal.nD Cert.AdamQUpReferenceIdeal.τ).loc Cert.AdamQUpReferenceIdeal.main_arg5)
      ∧ r.2.mem ((c.tc : Thread Cert.AdamQUpReferenceIdeal.nD Cert.AdamQUpReferenceIdeal.τ).loc Cert.AdamQUpReferenceIdeal.main_arg6) = m ((c.tc : Thread Cert.AdamQUpReferenceIdeal.nD Cert.AdamQUpReferenceIdeal.τ).loc Cert.AdamQUpReferenceIdeal.main_arg6)
      ∧ r.2.mem ((c.tc : Thread Cert.AdamQUpReferenceIdeal.nD Cert.AdamQUpReferenceIdeal.τ).loc Cert.AdamQUpReferenceIdeal.main_arg7) = m ((c.tc : Thread Cert.AdamQUpReferenceIdeal.nD Cert.AdamQUpReferenceIdeal.τ).loc Cert.AdamQUpReferenceIdeal.main_arg7))
      ∧ r.2.sem = fun _ => 0)

def quiescent_AdamKvUp [hAdamKvUp : Cert.AdamKvUp.Facts] : Prop :=
  ∀ (m : (ℓ : Loc Cert.AdamKvUp.nD Cert.AdamKvUp.τ Cert.AdamKvUp.sig) → Buf (Elt Bits) ℓ) (g : Dev Cert.AdamKvUp.nD → PrngReg), Pre_AdamKvUp m →
    θ_run (Cert.AdamKvUp.defs (F := Bits)) (onTc (τ := Cert.AdamKvUp.τ) (Cert.AdamKvUp.main (F := Bits))) ⟨m, fun _ => 0, g⟩ (fun r => (∀ c : Dev Cert.AdamKvUp.nD,
      r.2.mem ((c.tc : Thread Cert.AdamKvUp.nD Cert.AdamKvUp.τ).loc Cert.AdamKvUp.main_arg0) = m ((c.tc : Thread Cert.AdamKvUp.nD Cert.AdamKvUp.τ).loc Cert.AdamKvUp.main_arg0)
      ∧ r.2.mem ((c.tc : Thread Cert.AdamKvUp.nD Cert.AdamKvUp.τ).loc Cert.AdamKvUp.main_arg1) = m ((c.tc : Thread Cert.AdamKvUp.nD Cert.AdamKvUp.τ).loc Cert.AdamKvUp.main_arg1)
      ∧ r.2.mem ((c.tc : Thread Cert.AdamKvUp.nD Cert.AdamKvUp.τ).loc Cert.AdamKvUp.main_arg2) = m ((c.tc : Thread Cert.AdamKvUp.nD Cert.AdamKvUp.τ).loc Cert.AdamKvUp.main_arg2)
      ∧ r.2.mem ((c.tc : Thread Cert.AdamKvUp.nD Cert.AdamKvUp.τ).loc Cert.AdamKvUp.main_arg3) = m ((c.tc : Thread Cert.AdamKvUp.nD Cert.AdamKvUp.τ).loc Cert.AdamKvUp.main_arg3)
      ∧ r.2.mem ((c.tc : Thread Cert.AdamKvUp.nD Cert.AdamKvUp.τ).loc Cert.AdamKvUp.main_arg4) = m ((c.tc : Thread Cert.AdamKvUp.nD Cert.AdamKvUp.τ).loc Cert.AdamKvUp.main_arg4)
      ∧ r.2.mem ((c.tc : Thread Cert.AdamKvUp.nD Cert.AdamKvUp.τ).loc Cert.AdamKvUp.main_arg5) = m ((c.tc : Thread Cert.AdamKvUp.nD Cert.AdamKvUp.τ).loc Cert.AdamKvUp.main_arg5)
      ∧ r.2.mem ((c.tc : Thread Cert.AdamKvUp.nD Cert.AdamKvUp.τ).loc Cert.AdamKvUp.main_arg6) = m ((c.tc : Thread Cert.AdamKvUp.nD Cert.AdamKvUp.τ).loc Cert.AdamKvUp.main_arg6)
      ∧ r.2.mem ((c.tc : Thread Cert.AdamKvUp.nD Cert.AdamKvUp.τ).loc Cert.AdamKvUp.main_arg7) = m ((c.tc : Thread Cert.AdamKvUp.nD Cert.AdamKvUp.τ).loc Cert.AdamKvUp.main_arg7))
      ∧ r.2.sem = fun _ => 0)

def quiescent_AdamKvUpIdeal [hAdamKvUpIdeal : Cert.AdamKvUpIdeal.Facts] : Prop :=
  ∀ (m : (ℓ : Loc Cert.AdamKvUpIdeal.nD Cert.AdamKvUpIdeal.τ Cert.AdamKvUpIdeal.sig) → Buf (Elt Ideal) ℓ) (g : Dev Cert.AdamKvUpIdeal.nD → PrngReg), Pre_AdamKvUpIdeal m →
    θ_run (Cert.AdamKvUpIdeal.defs (F := Ideal)) (onTc (τ := Cert.AdamKvUpIdeal.τ) (Cert.AdamKvUpIdeal.main (F := Ideal))) ⟨m, fun _ => 0, g⟩ (fun r => (∀ c : Dev Cert.AdamKvUpIdeal.nD,
      r.2.mem ((c.tc : Thread Cert.AdamKvUpIdeal.nD Cert.AdamKvUpIdeal.τ).loc Cert.AdamKvUpIdeal.main_arg0) = m ((c.tc : Thread Cert.AdamKvUpIdeal.nD Cert.AdamKvUpIdeal.τ).loc Cert.AdamKvUpIdeal.main_arg0)
      ∧ r.2.mem ((c.tc : Thread Cert.AdamKvUpIdeal.nD Cert.AdamKvUpIdeal.τ).loc Cert.AdamKvUpIdeal.main_arg1) = m ((c.tc : Thread Cert.AdamKvUpIdeal.nD Cert.AdamKvUpIdeal.τ).loc Cert.AdamKvUpIdeal.main_arg1)
      ∧ r.2.mem ((c.tc : Thread Cert.AdamKvUpIdeal.nD Cert.AdamKvUpIdeal.τ).loc Cert.AdamKvUpIdeal.main_arg2) = m ((c.tc : Thread Cert.AdamKvUpIdeal.nD Cert.AdamKvUpIdeal.τ).loc Cert.AdamKvUpIdeal.main_arg2)
      ∧ r.2.mem ((c.tc : Thread Cert.AdamKvUpIdeal.nD Cert.AdamKvUpIdeal.τ).loc Cert.AdamKvUpIdeal.main_arg3) = m ((c.tc : Thread Cert.AdamKvUpIdeal.nD Cert.AdamKvUpIdeal.τ).loc Cert.AdamKvUpIdeal.main_arg3)
      ∧ r.2.mem ((c.tc : Thread Cert.AdamKvUpIdeal.nD Cert.AdamKvUpIdeal.τ).loc Cert.AdamKvUpIdeal.main_arg4) = m ((c.tc : Thread Cert.AdamKvUpIdeal.nD Cert.AdamKvUpIdeal.τ).loc Cert.AdamKvUpIdeal.main_arg4)
      ∧ r.2.mem ((c.tc : Thread Cert.AdamKvUpIdeal.nD Cert.AdamKvUpIdeal.τ).loc Cert.AdamKvUpIdeal.main_arg5) = m ((c.tc : Thread Cert.AdamKvUpIdeal.nD Cert.AdamKvUpIdeal.τ).loc Cert.AdamKvUpIdeal.main_arg5)
      ∧ r.2.mem ((c.tc : Thread Cert.AdamKvUpIdeal.nD Cert.AdamKvUpIdeal.τ).loc Cert.AdamKvUpIdeal.main_arg6) = m ((c.tc : Thread Cert.AdamKvUpIdeal.nD Cert.AdamKvUpIdeal.τ).loc Cert.AdamKvUpIdeal.main_arg6)
      ∧ r.2.mem ((c.tc : Thread Cert.AdamKvUpIdeal.nD Cert.AdamKvUpIdeal.τ).loc Cert.AdamKvUpIdeal.main_arg7) = m ((c.tc : Thread Cert.AdamKvUpIdeal.nD Cert.AdamKvUpIdeal.τ).loc Cert.AdamKvUpIdeal.main_arg7))
      ∧ r.2.sem = fun _ => 0)

def quiescent_AdamKvUpReferenceIdeal [hAdamKvUpReferenceIdeal : Cert.AdamKvUpReferenceIdeal.Facts] : Prop :=
  ∀ (m : (ℓ : Loc Cert.AdamKvUpReferenceIdeal.nD Cert.AdamKvUpReferenceIdeal.τ Cert.AdamKvUpReferenceIdeal.sig) → Buf (Elt Ideal) ℓ) (g : Dev Cert.AdamKvUpReferenceIdeal.nD → PrngReg), Pre_AdamKvUpReferenceIdeal m →
    θ_run (Cert.AdamKvUpReferenceIdeal.defs (F := Ideal)) (onTc (τ := Cert.AdamKvUpReferenceIdeal.τ) (Cert.AdamKvUpReferenceIdeal.main (F := Ideal))) ⟨m, fun _ => 0, g⟩ (fun r => (∀ c : Dev Cert.AdamKvUpReferenceIdeal.nD,
      r.2.mem ((c.tc : Thread Cert.AdamKvUpReferenceIdeal.nD Cert.AdamKvUpReferenceIdeal.τ).loc Cert.AdamKvUpReferenceIdeal.main_arg0) = m ((c.tc : Thread Cert.AdamKvUpReferenceIdeal.nD Cert.AdamKvUpReferenceIdeal.τ).loc Cert.AdamKvUpReferenceIdeal.main_arg0)
      ∧ r.2.mem ((c.tc : Thread Cert.AdamKvUpReferenceIdeal.nD Cert.AdamKvUpReferenceIdeal.τ).loc Cert.AdamKvUpReferenceIdeal.main_arg1) = m ((c.tc : Thread Cert.AdamKvUpReferenceIdeal.nD Cert.AdamKvUpReferenceIdeal.τ).loc Cert.AdamKvUpReferenceIdeal.main_arg1)
      ∧ r.2.mem ((c.tc : Thread Cert.AdamKvUpReferenceIdeal.nD Cert.AdamKvUpReferenceIdeal.τ).loc Cert.AdamKvUpReferenceIdeal.main_arg2) = m ((c.tc : Thread Cert.AdamKvUpReferenceIdeal.nD Cert.AdamKvUpReferenceIdeal.τ).loc Cert.AdamKvUpReferenceIdeal.main_arg2)
      ∧ r.2.mem ((c.tc : Thread Cert.AdamKvUpReferenceIdeal.nD Cert.AdamKvUpReferenceIdeal.τ).loc Cert.AdamKvUpReferenceIdeal.main_arg3) = m ((c.tc : Thread Cert.AdamKvUpReferenceIdeal.nD Cert.AdamKvUpReferenceIdeal.τ).loc Cert.AdamKvUpReferenceIdeal.main_arg3)
      ∧ r.2.mem ((c.tc : Thread Cert.AdamKvUpReferenceIdeal.nD Cert.AdamKvUpReferenceIdeal.τ).loc Cert.AdamKvUpReferenceIdeal.main_arg4) = m ((c.tc : Thread Cert.AdamKvUpReferenceIdeal.nD Cert.AdamKvUpReferenceIdeal.τ).loc Cert.AdamKvUpReferenceIdeal.main_arg4)
      ∧ r.2.mem ((c.tc : Thread Cert.AdamKvUpReferenceIdeal.nD Cert.AdamKvUpReferenceIdeal.τ).loc Cert.AdamKvUpReferenceIdeal.main_arg5) = m ((c.tc : Thread Cert.AdamKvUpReferenceIdeal.nD Cert.AdamKvUpReferenceIdeal.τ).loc Cert.AdamKvUpReferenceIdeal.main_arg5)
      ∧ r.2.mem ((c.tc : Thread Cert.AdamKvUpReferenceIdeal.nD Cert.AdamKvUpReferenceIdeal.τ).loc Cert.AdamKvUpReferenceIdeal.main_arg6) = m ((c.tc : Thread Cert.AdamKvUpReferenceIdeal.nD Cert.AdamKvUpReferenceIdeal.τ).loc Cert.AdamKvUpReferenceIdeal.main_arg6)
      ∧ r.2.mem ((c.tc : Thread Cert.AdamKvUpReferenceIdeal.nD Cert.AdamKvUpReferenceIdeal.τ).loc Cert.AdamKvUpReferenceIdeal.main_arg7) = m ((c.tc : Thread Cert.AdamKvUpReferenceIdeal.nD Cert.AdamKvUpReferenceIdeal.τ).loc Cert.AdamKvUpReferenceIdeal.main_arg7))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3)
      ∧ r.2.mem ((c.tc : Thread Cert.AdamOut.nD Cert.AdamOut.τ).loc Cert.AdamOut.main_arg4) = m ((c.tc : Thread Cert.AdamOut.nD Cert.AdamOut.τ).loc Cert.AdamOut.main_arg4)
      ∧ r.2.mem ((c.tc : Thread Cert.AdamOut.nD Cert.AdamOut.τ).loc Cert.AdamOut.main_arg5) = m ((c.tc : Thread Cert.AdamOut.nD Cert.AdamOut.τ).loc Cert.AdamOut.main_arg5)
      ∧ r.2.mem ((c.tc : Thread Cert.AdamOut.nD Cert.AdamOut.τ).loc Cert.AdamOut.main_arg6) = m ((c.tc : Thread Cert.AdamOut.nD Cert.AdamOut.τ).loc Cert.AdamOut.main_arg6)
      ∧ r.2.mem ((c.tc : Thread Cert.AdamOut.nD Cert.AdamOut.τ).loc Cert.AdamOut.main_arg7) = m ((c.tc : Thread Cert.AdamOut.nD Cert.AdamOut.τ).loc Cert.AdamOut.main_arg7))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
      ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4)
      ∧ r.2.mem ((c.tc : Thread Cert.AdamOutIdeal.nD Cert.AdamOutIdeal.τ).loc Cert.AdamOutIdeal.main_arg5) = m ((c.tc : Thread Cert.AdamOutIdeal.nD Cert.AdamOutIdeal.τ).loc Cert.AdamOutIdeal.main_arg5)
      ∧ r.2.mem ((c.tc : Thread Cert.AdamOutIdeal.nD Cert.AdamOutIdeal.τ).loc Cert.AdamOutIdeal.main_arg6) = m ((c.tc : Thread Cert.AdamOutIdeal.nD Cert.AdamOutIdeal.τ).loc Cert.AdamOutIdeal.main_arg6)
      ∧ r.2.mem ((c.tc : Thread Cert.AdamOutIdeal.nD Cert.AdamOutIdeal.τ).loc Cert.AdamOutIdeal.main_arg7) = m ((c.tc : Thread Cert.AdamOutIdeal.nD Cert.AdamOutIdeal.τ).loc Cert.AdamOutIdeal.main_arg7))
      ∧ r.2.sem = fun _ => 0)

def quiescent_AdamOutReferenceIdeal [hAdamOutReferenceIdeal : Cert.AdamOutReferenceIdeal.Facts] : Prop :=
  ∀ (m : (ℓ : Loc Cert.AdamOutReferenceIdeal.nD Cert.AdamOutReferenceIdeal.τ Cert.AdamOutReferenceIdeal.sig) → Buf (Elt Ideal) ℓ) (g : Dev Cert.AdamOutReferenceIdeal.nD → PrngReg), Pre_AdamOutReferenceIdeal m →
    θ_run (Cert.AdamOutReferenceIdeal.defs (F := Ideal)) (onTc (τ := Cert.AdamOutReferenceIdeal.τ) (Cert.AdamOutReferenceIdeal.main (F := Ideal))) ⟨m, fun _ => 0, g⟩ (fun r => (∀ c : Dev Cert.AdamOutReferenceIdeal.nD,
      r.2.mem ((c.tc : Thread Cert.AdamOutReferenceIdeal.nD Cert.AdamOutReferenceIdeal.τ).loc Cert.AdamOutReferenceIdeal.main_arg0) = m ((c.tc : Thread Cert.AdamOutReferenceIdeal.nD Cert.AdamOutReferenceIdeal.τ).loc Cert.AdamOutReferenceIdeal.main_arg0)
      ∧ r.2.mem ((c.tc : Thread Cert.AdamOutReferenceIdeal.nD Cert.AdamOutReferenceIdeal.τ).loc Cert.AdamOutReferenceIdeal.main_arg1) = m ((c.tc : Thread Cert.AdamOutReferenceIdeal.nD Cert.AdamOutReferenceIdeal.τ).loc Cert.AdamOutReferenceIdeal.main_arg1)
      ∧ r.2.mem ((c.tc : Thread Cert.AdamOutReferenceIdeal.nD Cert.AdamOutReferenceIdeal.τ).loc Cert.AdamOutReferenceIdeal.main_arg2) = m ((c.tc : Thread Cert.AdamOutReferenceIdeal.nD Cert.AdamOutReferenceIdeal.τ).loc Cert.AdamOutReferenceIdeal.main_arg2)
      ∧ r.2.mem ((c.tc : Thread Cert.AdamOutReferenceIdeal.nD Cert.AdamOutReferenceIdeal.τ).loc Cert.AdamOutReferenceIdeal.main_arg3) = m ((c.tc : Thread Cert.AdamOutReferenceIdeal.nD Cert.AdamOutReferenceIdeal.τ).loc Cert.AdamOutReferenceIdeal.main_arg3)
      ∧ r.2.mem ((c.tc : Thread Cert.AdamOutReferenceIdeal.nD Cert.AdamOutReferenceIdeal.τ).loc Cert.AdamOutReferenceIdeal.main_arg4) = m ((c.tc : Thread Cert.AdamOutReferenceIdeal.nD Cert.AdamOutReferenceIdeal.τ).loc Cert.AdamOutReferenceIdeal.main_arg4)
      ∧ r.2.mem ((c.tc : Thread Cert.AdamOutReferenceIdeal.nD Cert.AdamOutReferenceIdeal.τ).loc Cert.AdamOutReferenceIdeal.main_arg5) = m ((c.tc : Thread Cert.AdamOutReferenceIdeal.nD Cert.AdamOutReferenceIdeal.τ).loc Cert.AdamOutReferenceIdeal.main_arg5)
      ∧ r.2.mem ((c.tc : Thread Cert.AdamOutReferenceIdeal.nD Cert.AdamOutReferenceIdeal.τ).loc Cert.AdamOutReferenceIdeal.main_arg6) = m ((c.tc : Thread Cert.AdamOutReferenceIdeal.nD Cert.AdamOutReferenceIdeal.τ).loc Cert.AdamOutReferenceIdeal.main_arg6)
      ∧ r.2.mem ((c.tc : Thread Cert.AdamOutReferenceIdeal.nD Cert.AdamOutReferenceIdeal.τ).loc Cert.AdamOutReferenceIdeal.main_arg7) = m ((c.tc : Thread Cert.AdamOutReferenceIdeal.nD Cert.AdamOutReferenceIdeal.τ).loc Cert.AdamOutReferenceIdeal.main_arg7))
      ∧ r.2.sem = fun _ => 0)

def quiescent_RmsBwd [hRmsBwd : Cert.RmsBwd.Facts] : Prop :=
  ∀ (m : (ℓ : Loc Cert.RmsBwd.nD Cert.RmsBwd.τ Cert.RmsBwd.sig) → Buf (Elt Bits) ℓ) (g : Dev Cert.RmsBwd.nD → PrngReg), Pre_RmsBwd m →
    θ_run (Cert.RmsBwd.defs (F := Bits)) (onTc (τ := Cert.RmsBwd.τ) (Cert.RmsBwd.main (F := Bits))) ⟨m, fun _ => 0, g⟩ (fun r => (∀ c : Dev Cert.RmsBwd.nD,
      r.2.mem ((c.tc : Thread Cert.RmsBwd.nD Cert.RmsBwd.τ).loc Cert.RmsBwd.main_arg0) = m ((c.tc : Thread Cert.RmsBwd.nD Cert.RmsBwd.τ).loc Cert.RmsBwd.main_arg0)
      ∧ r.2.mem ((c.tc : Thread Cert.RmsBwd.nD Cert.RmsBwd.τ).loc Cert.RmsBwd.main_arg1) = m ((c.tc : Thread Cert.RmsBwd.nD Cert.RmsBwd.τ).loc Cert.RmsBwd.main_arg1)
      ∧ r.2.mem ((c.tc : Thread Cert.RmsBwd.nD Cert.RmsBwd.τ).loc Cert.RmsBwd.main_arg2) = m ((c.tc : Thread Cert.RmsBwd.nD Cert.RmsBwd.τ).loc Cert.RmsBwd.main_arg2)
      ∧ r.2.mem ((c.tc : Thread Cert.RmsBwd.nD Cert.RmsBwd.τ).loc Cert.RmsBwd.main_arg3) = m ((c.tc : Thread Cert.RmsBwd.nD Cert.RmsBwd.τ).loc Cert.RmsBwd.main_arg3))
      ∧ r.2.sem = fun _ => 0)

def quiescent_RmsBwdIdeal [hRmsBwdIdeal : Cert.RmsBwdIdeal.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg), Pre_RmsBwdIdeal m →
    θ_run (Cert.RmsBwdIdeal.defs (F := Ideal)) (onTc (τ := Cert.RmsBwdIdeal.τ) (Cert.RmsBwdIdeal.main (F := Ideal))) ⟨m, fun _ => 0, g⟩ (fun r => (∀ c : Dev Cert.RmsBwdIdeal.nD,
      r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
      ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
      ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
      ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3))
      ∧ r.2.sem = fun _ => 0)

def quiescent_RmsBwdReferenceIdeal [hRmsBwdReferenceIdeal : Cert.RmsBwdReferenceIdeal.Facts] : Prop :=
  ∀ (m : (ℓ : Loc Cert.RmsBwdReferenceIdeal.nD Cert.RmsBwdReferenceIdeal.τ Cert.RmsBwdReferenceIdeal.sig) → Buf (Elt Ideal) ℓ) (g : Dev Cert.RmsBwdReferenceIdeal.nD → PrngReg), Pre_RmsBwdReferenceIdeal m →
    θ_run (Cert.RmsBwdReferenceIdeal.defs (F := Ideal)) (onTc (τ := Cert.RmsBwdReferenceIdeal.τ) (Cert.RmsBwdReferenceIdeal.main (F := Ideal))) ⟨m, fun _ => 0, g⟩ (fun r => (∀ c : Dev Cert.RmsBwdReferenceIdeal.nD,
      r.2.mem ((c.tc : Thread Cert.RmsBwdReferenceIdeal.nD Cert.RmsBwdReferenceIdeal.τ).loc Cert.RmsBwdReferenceIdeal.main_arg0) = m ((c.tc : Thread Cert.RmsBwdReferenceIdeal.nD Cert.RmsBwdReferenceIdeal.τ).loc Cert.RmsBwdReferenceIdeal.main_arg0)
      ∧ r.2.mem ((c.tc : Thread Cert.RmsBwdReferenceIdeal.nD Cert.RmsBwdReferenceIdeal.τ).loc Cert.RmsBwdReferenceIdeal.main_arg1) = m ((c.tc : Thread Cert.RmsBwdReferenceIdeal.nD Cert.RmsBwdReferenceIdeal.τ).loc Cert.RmsBwdReferenceIdeal.main_arg1)
      ∧ r.2.mem ((c.tc : Thread Cert.RmsBwdReferenceIdeal.nD Cert.RmsBwdReferenceIdeal.τ).loc Cert.RmsBwdReferenceIdeal.main_arg2) = m ((c.tc : Thread Cert.RmsBwdReferenceIdeal.nD Cert.RmsBwdReferenceIdeal.τ).loc Cert.RmsBwdReferenceIdeal.main_arg2)
      ∧ r.2.mem ((c.tc : Thread Cert.RmsBwdReferenceIdeal.nD Cert.RmsBwdReferenceIdeal.τ).loc Cert.RmsBwdReferenceIdeal.main_arg3) = m ((c.tc : Thread Cert.RmsBwdReferenceIdeal.nD Cert.RmsBwdReferenceIdeal.τ).loc Cert.RmsBwdReferenceIdeal.main_arg3))
      ∧ r.2.sem = fun _ => 0)

def quiescent_RmsFwd [hRmsFwd : Cert.RmsFwd.Facts] : Prop :=
  ∀ (m : (ℓ : Loc Cert.RmsFwd.nD Cert.RmsFwd.τ Cert.RmsFwd.sig) → Buf (Elt Bits) ℓ) (g : Dev Cert.RmsFwd.nD → PrngReg), Pre_RmsFwd m →
    θ_run (Cert.RmsFwd.defs (F := Bits)) (onTc (τ := Cert.RmsFwd.τ) (Cert.RmsFwd.main (F := Bits))) ⟨m, fun _ => 0, g⟩ (fun r => (∀ c : Dev Cert.RmsFwd.nD,
      r.2.mem ((c.tc : Thread Cert.RmsFwd.nD Cert.RmsFwd.τ).loc Cert.RmsFwd.main_arg0) = m ((c.tc : Thread Cert.RmsFwd.nD Cert.RmsFwd.τ).loc Cert.RmsFwd.main_arg0)
      ∧ r.2.mem ((c.tc : Thread Cert.RmsFwd.nD Cert.RmsFwd.τ).loc Cert.RmsFwd.main_arg1) = m ((c.tc : Thread Cert.RmsFwd.nD Cert.RmsFwd.τ).loc Cert.RmsFwd.main_arg1))
      ∧ r.2.sem = fun _ => 0)

def quiescent_RmsFwdIdeal [hRmsFwdIdeal : Cert.RmsFwdIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg), Pre_RmsFwdIdeal m →
    θ_run (Cert.RmsFwdIdeal.defs (F := Ideal)) (onTc (τ := Cert.RmsFwdIdeal.τ) (Cert.RmsFwdIdeal.main (F := Ideal))) ⟨m, fun _ => 0, g⟩ (fun r => (∀ c : Dev Cert.RmsFwdIdeal.nD,
      r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
      ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ r.2.sem = fun _ => 0)

def quiescent_RmsFwdReferenceIdeal [hRmsFwdReferenceIdeal : Cert.RmsFwdReferenceIdeal.Facts] : Prop :=
  ∀ (m : (ℓ : Loc Cert.RmsFwdReferenceIdeal.nD Cert.RmsFwdReferenceIdeal.τ Cert.RmsFwdReferenceIdeal.sig) → Buf (Elt Ideal) ℓ) (g : Dev Cert.RmsFwdReferenceIdeal.nD → PrngReg), Pre_RmsFwdReferenceIdeal m →
    θ_run (Cert.RmsFwdReferenceIdeal.defs (F := Ideal)) (onTc (τ := Cert.RmsFwdReferenceIdeal.τ) (Cert.RmsFwdReferenceIdeal.main (F := Ideal))) ⟨m, fun _ => 0, g⟩ (fun r => (∀ c : Dev Cert.RmsFwdReferenceIdeal.nD,
      r.2.mem ((c.tc : Thread Cert.RmsFwdReferenceIdeal.nD Cert.RmsFwdReferenceIdeal.τ).loc Cert.RmsFwdReferenceIdeal.main_arg0) = m ((c.tc : Thread Cert.RmsFwdReferenceIdeal.nD Cert.RmsFwdReferenceIdeal.τ).loc Cert.RmsFwdReferenceIdeal.main_arg0)
      ∧ r.2.mem ((c.tc : Thread Cert.RmsFwdReferenceIdeal.nD Cert.RmsFwdReferenceIdeal.τ).loc Cert.RmsFwdReferenceIdeal.main_arg1) = m ((c.tc : Thread Cert.RmsFwdReferenceIdeal.nD Cert.RmsFwdReferenceIdeal.τ).loc Cert.RmsFwdReferenceIdeal.main_arg1))
      ∧ r.2.sem = fun _ => 0)

def quiescent_LatFwd [hLatFwd : Cert.LatFwd.Facts] : Prop :=
  ∀ (m : (ℓ : Loc Cert.LatFwd.nD Cert.LatFwd.τ Cert.LatFwd.sig) → Buf (Elt Bits) ℓ) (g : Dev Cert.LatFwd.nD → PrngReg), Pre_LatFwd m →
    θ_run (Cert.LatFwd.defs (F := Bits)) (onTc (τ := Cert.LatFwd.τ) (Cert.LatFwd.main (F := Bits))) ⟨m, fun _ => 0, g⟩ (fun r => (∀ c : Dev Cert.LatFwd.nD,
      r.2.mem ((c.tc : Thread Cert.LatFwd.nD Cert.LatFwd.τ).loc Cert.LatFwd.main_arg0) = m ((c.tc : Thread Cert.LatFwd.nD Cert.LatFwd.τ).loc Cert.LatFwd.main_arg0)
      ∧ r.2.mem ((c.tc : Thread Cert.LatFwd.nD Cert.LatFwd.τ).loc Cert.LatFwd.main_arg1) = m ((c.tc : Thread Cert.LatFwd.nD Cert.LatFwd.τ).loc Cert.LatFwd.main_arg1)
      ∧ r.2.mem ((c.tc : Thread Cert.LatFwd.nD Cert.LatFwd.τ).loc Cert.LatFwd.main_arg2) = m ((c.tc : Thread Cert.LatFwd.nD Cert.LatFwd.τ).loc Cert.LatFwd.main_arg2))
      ∧ r.2.sem = fun _ => 0)

def quiescent_LatFwdIdeal [hLatFwdIdeal : Cert.LatFwdIdeal.Facts] : Prop :=
  ∀ (m : (ℓ : Loc Cert.LatFwdIdeal.nD Cert.LatFwdIdeal.τ Cert.LatFwdIdeal.sig) → Buf (Elt Ideal) ℓ) (g : Dev Cert.LatFwdIdeal.nD → PrngReg), Pre_LatFwdIdeal m →
    θ_run (Cert.LatFwdIdeal.defs (F := Ideal)) (onTc (τ := Cert.LatFwdIdeal.τ) (Cert.LatFwdIdeal.main (F := Ideal))) ⟨m, fun _ => 0, g⟩ (fun r => (∀ c : Dev Cert.LatFwdIdeal.nD,
      r.2.mem ((c.tc : Thread Cert.LatFwdIdeal.nD Cert.LatFwdIdeal.τ).loc Cert.LatFwdIdeal.main_arg0) = m ((c.tc : Thread Cert.LatFwdIdeal.nD Cert.LatFwdIdeal.τ).loc Cert.LatFwdIdeal.main_arg0)
      ∧ r.2.mem ((c.tc : Thread Cert.LatFwdIdeal.nD Cert.LatFwdIdeal.τ).loc Cert.LatFwdIdeal.main_arg1) = m ((c.tc : Thread Cert.LatFwdIdeal.nD Cert.LatFwdIdeal.τ).loc Cert.LatFwdIdeal.main_arg1)
      ∧ r.2.mem ((c.tc : Thread Cert.LatFwdIdeal.nD Cert.LatFwdIdeal.τ).loc Cert.LatFwdIdeal.main_arg2) = m ((c.tc : Thread Cert.LatFwdIdeal.nD Cert.LatFwdIdeal.τ).loc Cert.LatFwdIdeal.main_arg2))
      ∧ r.2.sem = fun _ => 0)

def quiescent_LatFwdReferenceIdeal [hLatFwdReferenceIdeal : Cert.LatFwdReferenceIdeal.Facts] : Prop :=
  ∀ (m : (ℓ : Loc Cert.LatFwdReferenceIdeal.nD Cert.LatFwdReferenceIdeal.τ Cert.LatFwdReferenceIdeal.sig) → Buf (Elt Ideal) ℓ) (g : Dev Cert.LatFwdReferenceIdeal.nD → PrngReg), Pre_LatFwdReferenceIdeal m →
    θ_run (Cert.LatFwdReferenceIdeal.defs (F := Ideal)) (onTc (τ := Cert.LatFwdReferenceIdeal.τ) (Cert.LatFwdReferenceIdeal.main (F := Ideal))) ⟨m, fun _ => 0, g⟩ (fun r => (∀ c : Dev Cert.LatFwdReferenceIdeal.nD,
      r.2.mem ((c.tc : Thread Cert.LatFwdReferenceIdeal.nD Cert.LatFwdReferenceIdeal.τ).loc Cert.LatFwdReferenceIdeal.main_arg0) = m ((c.tc : Thread Cert.LatFwdReferenceIdeal.nD Cert.LatFwdReferenceIdeal.τ).loc Cert.LatFwdReferenceIdeal.main_arg0)
      ∧ r.2.mem ((c.tc : Thread Cert.LatFwdReferenceIdeal.nD Cert.LatFwdReferenceIdeal.τ).loc Cert.LatFwdReferenceIdeal.main_arg1) = m ((c.tc : Thread Cert.LatFwdReferenceIdeal.nD Cert.LatFwdReferenceIdeal.τ).loc Cert.LatFwdReferenceIdeal.main_arg1)
      ∧ r.2.mem ((c.tc : Thread Cert.LatFwdReferenceIdeal.nD Cert.LatFwdReferenceIdeal.τ).loc Cert.LatFwdReferenceIdeal.main_arg2) = m ((c.tc : Thread Cert.LatFwdReferenceIdeal.nD Cert.LatFwdReferenceIdeal.τ).loc Cert.LatFwdReferenceIdeal.main_arg2))
      ∧ r.2.sem = fun _ => 0)

def quiescent_LatBwd [hLatBwd : Cert.LatBwd.Facts] : Prop :=
  ∀ (m : (ℓ : Loc Cert.LatBwd.nD Cert.LatBwd.τ Cert.LatBwd.sig) → Buf (Elt Bits) ℓ) (g : Dev Cert.LatBwd.nD → PrngReg), Pre_LatBwd m →
    θ_run (Cert.LatBwd.defs (F := Bits)) (onTc (τ := Cert.LatBwd.τ) (Cert.LatBwd.main (F := Bits))) ⟨m, fun _ => 0, g⟩ (fun r => (∀ c : Dev Cert.LatBwd.nD,
      r.2.mem ((c.tc : Thread Cert.LatBwd.nD Cert.LatBwd.τ).loc Cert.LatBwd.main_arg0) = m ((c.tc : Thread Cert.LatBwd.nD Cert.LatBwd.τ).loc Cert.LatBwd.main_arg0)
      ∧ r.2.mem ((c.tc : Thread Cert.LatBwd.nD Cert.LatBwd.τ).loc Cert.LatBwd.main_arg1) = m ((c.tc : Thread Cert.LatBwd.nD Cert.LatBwd.τ).loc Cert.LatBwd.main_arg1)
      ∧ r.2.mem ((c.tc : Thread Cert.LatBwd.nD Cert.LatBwd.τ).loc Cert.LatBwd.main_arg2) = m ((c.tc : Thread Cert.LatBwd.nD Cert.LatBwd.τ).loc Cert.LatBwd.main_arg2)
      ∧ r.2.mem ((c.tc : Thread Cert.LatBwd.nD Cert.LatBwd.τ).loc Cert.LatBwd.main_arg3) = m ((c.tc : Thread Cert.LatBwd.nD Cert.LatBwd.τ).loc Cert.LatBwd.main_arg3)
      ∧ r.2.mem ((c.tc : Thread Cert.LatBwd.nD Cert.LatBwd.τ).loc Cert.LatBwd.main_arg4) = m ((c.tc : Thread Cert.LatBwd.nD Cert.LatBwd.τ).loc Cert.LatBwd.main_arg4)
      ∧ r.2.mem ((c.tc : Thread Cert.LatBwd.nD Cert.LatBwd.τ).loc Cert.LatBwd.main_arg5) = m ((c.tc : Thread Cert.LatBwd.nD Cert.LatBwd.τ).loc Cert.LatBwd.main_arg5)
      ∧ r.2.mem ((c.tc : Thread Cert.LatBwd.nD Cert.LatBwd.τ).loc Cert.LatBwd.main_arg6) = m ((c.tc : Thread Cert.LatBwd.nD Cert.LatBwd.τ).loc Cert.LatBwd.main_arg6))
      ∧ r.2.sem = fun _ => 0)

def quiescent_LatBwdIdeal [hLatBwdIdeal : Cert.LatBwdIdeal.Facts] : Prop :=
  ∀ (m : (ℓ : Loc Cert.LatBwdIdeal.nD Cert.LatBwdIdeal.τ Cert.LatBwdIdeal.sig) → Buf (Elt Ideal) ℓ) (g : Dev Cert.LatBwdIdeal.nD → PrngReg), Pre_LatBwdIdeal m →
    θ_run (Cert.LatBwdIdeal.defs (F := Ideal)) (onTc (τ := Cert.LatBwdIdeal.τ) (Cert.LatBwdIdeal.main (F := Ideal))) ⟨m, fun _ => 0, g⟩ (fun r => (∀ c : Dev Cert.LatBwdIdeal.nD,
      r.2.mem ((c.tc : Thread Cert.LatBwdIdeal.nD Cert.LatBwdIdeal.τ).loc Cert.LatBwdIdeal.main_arg0) = m ((c.tc : Thread Cert.LatBwdIdeal.nD Cert.LatBwdIdeal.τ).loc Cert.LatBwdIdeal.main_arg0)
      ∧ r.2.mem ((c.tc : Thread Cert.LatBwdIdeal.nD Cert.LatBwdIdeal.τ).loc Cert.LatBwdIdeal.main_arg1) = m ((c.tc : Thread Cert.LatBwdIdeal.nD Cert.LatBwdIdeal.τ).loc Cert.LatBwdIdeal.main_arg1)
      ∧ r.2.mem ((c.tc : Thread Cert.LatBwdIdeal.nD Cert.LatBwdIdeal.τ).loc Cert.LatBwdIdeal.main_arg2) = m ((c.tc : Thread Cert.LatBwdIdeal.nD Cert.LatBwdIdeal.τ).loc Cert.LatBwdIdeal.main_arg2)
      ∧ r.2.mem ((c.tc : Thread Cert.LatBwdIdeal.nD Cert.LatBwdIdeal.τ).loc Cert.LatBwdIdeal.main_arg3) = m ((c.tc : Thread Cert.LatBwdIdeal.nD Cert.LatBwdIdeal.τ).loc Cert.LatBwdIdeal.main_arg3)
      ∧ r.2.mem ((c.tc : Thread Cert.LatBwdIdeal.nD Cert.LatBwdIdeal.τ).loc Cert.LatBwdIdeal.main_arg4) = m ((c.tc : Thread Cert.LatBwdIdeal.nD Cert.LatBwdIdeal.τ).loc Cert.LatBwdIdeal.main_arg4)
      ∧ r.2.mem ((c.tc : Thread Cert.LatBwdIdeal.nD Cert.LatBwdIdeal.τ).loc Cert.LatBwdIdeal.main_arg5) = m ((c.tc : Thread Cert.LatBwdIdeal.nD Cert.LatBwdIdeal.τ).loc Cert.LatBwdIdeal.main_arg5)
      ∧ r.2.mem ((c.tc : Thread Cert.LatBwdIdeal.nD Cert.LatBwdIdeal.τ).loc Cert.LatBwdIdeal.main_arg6) = m ((c.tc : Thread Cert.LatBwdIdeal.nD Cert.LatBwdIdeal.τ).loc Cert.LatBwdIdeal.main_arg6))
      ∧ r.2.sem = fun _ => 0)

def quiescent_LatBwdReferenceIdeal [hLatBwdReferenceIdeal : Cert.LatBwdReferenceIdeal.Facts] : Prop :=
  ∀ (m : (ℓ : Loc Cert.LatBwdReferenceIdeal.nD Cert.LatBwdReferenceIdeal.τ Cert.LatBwdReferenceIdeal.sig) → Buf (Elt Ideal) ℓ) (g : Dev Cert.LatBwdReferenceIdeal.nD → PrngReg), Pre_LatBwdReferenceIdeal m →
    θ_run (Cert.LatBwdReferenceIdeal.defs (F := Ideal)) (onTc (τ := Cert.LatBwdReferenceIdeal.τ) (Cert.LatBwdReferenceIdeal.main (F := Ideal))) ⟨m, fun _ => 0, g⟩ (fun r => (∀ c : Dev Cert.LatBwdReferenceIdeal.nD,
      r.2.mem ((c.tc : Thread Cert.LatBwdReferenceIdeal.nD Cert.LatBwdReferenceIdeal.τ).loc Cert.LatBwdReferenceIdeal.main_arg0) = m ((c.tc : Thread Cert.LatBwdReferenceIdeal.nD Cert.LatBwdReferenceIdeal.τ).loc Cert.LatBwdReferenceIdeal.main_arg0)
      ∧ r.2.mem ((c.tc : Thread Cert.LatBwdReferenceIdeal.nD Cert.LatBwdReferenceIdeal.τ).loc Cert.LatBwdReferenceIdeal.main_arg1) = m ((c.tc : Thread Cert.LatBwdReferenceIdeal.nD Cert.LatBwdReferenceIdeal.τ).loc Cert.LatBwdReferenceIdeal.main_arg1)
      ∧ r.2.mem ((c.tc : Thread Cert.LatBwdReferenceIdeal.nD Cert.LatBwdReferenceIdeal.τ).loc Cert.LatBwdReferenceIdeal.main_arg2) = m ((c.tc : Thread Cert.LatBwdReferenceIdeal.nD Cert.LatBwdReferenceIdeal.τ).loc Cert.LatBwdReferenceIdeal.main_arg2)
      ∧ r.2.mem ((c.tc : Thread Cert.LatBwdReferenceIdeal.nD Cert.LatBwdReferenceIdeal.τ).loc Cert.LatBwdReferenceIdeal.main_arg3) = m ((c.tc : Thread Cert.LatBwdReferenceIdeal.nD Cert.LatBwdReferenceIdeal.τ).loc Cert.LatBwdReferenceIdeal.main_arg3)
      ∧ r.2.mem ((c.tc : Thread Cert.LatBwdReferenceIdeal.nD Cert.LatBwdReferenceIdeal.τ).loc Cert.LatBwdReferenceIdeal.main_arg4) = m ((c.tc : Thread Cert.LatBwdReferenceIdeal.nD Cert.LatBwdReferenceIdeal.τ).loc Cert.LatBwdReferenceIdeal.main_arg4)
      ∧ r.2.mem ((c.tc : Thread Cert.LatBwdReferenceIdeal.nD Cert.LatBwdReferenceIdeal.τ).loc Cert.LatBwdReferenceIdeal.main_arg5) = m ((c.tc : Thread Cert.LatBwdReferenceIdeal.nD Cert.LatBwdReferenceIdeal.τ).loc Cert.LatBwdReferenceIdeal.main_arg5)
      ∧ r.2.mem ((c.tc : Thread Cert.LatBwdReferenceIdeal.nD Cert.LatBwdReferenceIdeal.τ).loc Cert.LatBwdReferenceIdeal.main_arg6) = m ((c.tc : Thread Cert.LatBwdReferenceIdeal.nD Cert.LatBwdReferenceIdeal.τ).loc Cert.LatBwdReferenceIdeal.main_arg6))
      ∧ r.2.sem = fun _ => 0)

def quiescent_GateBwd [hGateBwd : Cert.GateBwd.Facts] : Prop :=
  ∀ (m : (ℓ : Loc Cert.GateBwd.nD Cert.GateBwd.τ Cert.GateBwd.sig) → Buf (Elt Bits) ℓ) (g : Dev Cert.GateBwd.nD → PrngReg), Pre_GateBwd m →
    θ_run (Cert.GateBwd.defs (F := Bits)) (onTc (τ := Cert.GateBwd.τ) (Cert.GateBwd.main (F := Bits))) ⟨m, fun _ => 0, g⟩ (fun r => (∀ c : Dev Cert.GateBwd.nD,
      r.2.mem ((c.tc : Thread Cert.GateBwd.nD Cert.GateBwd.τ).loc Cert.GateBwd.main_arg0) = m ((c.tc : Thread Cert.GateBwd.nD Cert.GateBwd.τ).loc Cert.GateBwd.main_arg0)
      ∧ r.2.mem ((c.tc : Thread Cert.GateBwd.nD Cert.GateBwd.τ).loc Cert.GateBwd.main_arg1) = m ((c.tc : Thread Cert.GateBwd.nD Cert.GateBwd.τ).loc Cert.GateBwd.main_arg1)
      ∧ r.2.mem ((c.tc : Thread Cert.GateBwd.nD Cert.GateBwd.τ).loc Cert.GateBwd.main_arg2) = m ((c.tc : Thread Cert.GateBwd.nD Cert.GateBwd.τ).loc Cert.GateBwd.main_arg2)
      ∧ r.2.mem ((c.tc : Thread Cert.GateBwd.nD Cert.GateBwd.τ).loc Cert.GateBwd.main_arg3) = m ((c.tc : Thread Cert.GateBwd.nD Cert.GateBwd.τ).loc Cert.GateBwd.main_arg3))
      ∧ r.2.sem = fun _ => 0)

def quiescent_GateBwdIdeal [hGateBwdIdeal : Cert.GateBwdIdeal.Facts] : Prop :=
  ∀ (m : (ℓ : Loc Cert.GateBwdIdeal.nD Cert.GateBwdIdeal.τ Cert.GateBwdIdeal.sig) → Buf (Elt Ideal) ℓ) (g : Dev Cert.GateBwdIdeal.nD → PrngReg), Pre_GateBwdIdeal m →
    θ_run (Cert.GateBwdIdeal.defs (F := Ideal)) (onTc (τ := Cert.GateBwdIdeal.τ) (Cert.GateBwdIdeal.main (F := Ideal))) ⟨m, fun _ => 0, g⟩ (fun r => (∀ c : Dev Cert.GateBwdIdeal.nD,
      r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
      ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
      ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2)
      ∧ r.2.mem ((c.tc : Thread Cert.GateBwdIdeal.nD Cert.GateBwdIdeal.τ).loc Cert.GateBwdIdeal.main_arg3) = m ((c.tc : Thread Cert.GateBwdIdeal.nD Cert.GateBwdIdeal.τ).loc Cert.GateBwdIdeal.main_arg3))
      ∧ r.2.sem = fun _ => 0)

def quiescent_GateBwdIdeal_pre_finite_gate [hGateBwdIdeal : Cert.GateBwdIdeal.Facts] [hPre_finite_gate : Cert.Pre_finite_gate.Facts] : Prop :=
  ∀ (m : (ℓ : Loc Cert.GateBwdIdeal.nD Cert.GateBwdIdeal.τ Cert.GateBwdIdeal.sig) → Buf (Elt Ideal) ℓ) (g : Dev Cert.GateBwdIdeal.nD → PrngReg), Pre_GateBwdIdeal_finite_gate m →
    θ_run (Cert.GateBwdIdeal.defs (F := Ideal)) (onTc (τ := Cert.GateBwdIdeal.τ) (Cert.GateBwdIdeal.main (F := Ideal))) ⟨m, fun _ => 0, g⟩ (fun r => (∀ c : Dev Cert.GateBwdIdeal.nD,
      r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
      ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
      ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2)
      ∧ r.2.mem ((c.tc : Thread Cert.GateBwdIdeal.nD Cert.GateBwdIdeal.τ).loc Cert.GateBwdIdeal.main_arg3) = m ((c.tc : Thread Cert.GateBwdIdeal.nD Cert.GateBwdIdeal.τ).loc Cert.GateBwdIdeal.main_arg3))
      ∧ r.2.sem = fun _ => 0)

def quiescent_GateBwdReferenceIdeal [hGateBwdReferenceIdeal : Cert.GateBwdReferenceIdeal.Facts] : Prop :=
  ∀ (m : (ℓ : Loc Cert.GateBwdReferenceIdeal.nD Cert.GateBwdReferenceIdeal.τ Cert.GateBwdReferenceIdeal.sig) → Buf (Elt Ideal) ℓ) (g : Dev Cert.GateBwdReferenceIdeal.nD → PrngReg), Pre_GateBwdReferenceIdeal m →
    θ_run (Cert.GateBwdReferenceIdeal.defs (F := Ideal)) (onTc (τ := Cert.GateBwdReferenceIdeal.τ) (Cert.GateBwdReferenceIdeal.main (F := Ideal))) ⟨m, fun _ => 0, g⟩ (fun r => (∀ c : Dev Cert.GateBwdReferenceIdeal.nD,
      r.2.mem ((c.tc : Thread Cert.GateBwdReferenceIdeal.nD Cert.GateBwdReferenceIdeal.τ).loc Cert.GateBwdReferenceIdeal.main_arg0) = m ((c.tc : Thread Cert.GateBwdReferenceIdeal.nD Cert.GateBwdReferenceIdeal.τ).loc Cert.GateBwdReferenceIdeal.main_arg0)
      ∧ r.2.mem ((c.tc : Thread Cert.GateBwdReferenceIdeal.nD Cert.GateBwdReferenceIdeal.τ).loc Cert.GateBwdReferenceIdeal.main_arg1) = m ((c.tc : Thread Cert.GateBwdReferenceIdeal.nD Cert.GateBwdReferenceIdeal.τ).loc Cert.GateBwdReferenceIdeal.main_arg1)
      ∧ r.2.mem ((c.tc : Thread Cert.GateBwdReferenceIdeal.nD Cert.GateBwdReferenceIdeal.τ).loc Cert.GateBwdReferenceIdeal.main_arg2) = m ((c.tc : Thread Cert.GateBwdReferenceIdeal.nD Cert.GateBwdReferenceIdeal.τ).loc Cert.GateBwdReferenceIdeal.main_arg2)
      ∧ r.2.mem ((c.tc : Thread Cert.GateBwdReferenceIdeal.nD Cert.GateBwdReferenceIdeal.τ).loc Cert.GateBwdReferenceIdeal.main_arg3) = m ((c.tc : Thread Cert.GateBwdReferenceIdeal.nD Cert.GateBwdReferenceIdeal.τ).loc Cert.GateBwdReferenceIdeal.main_arg3))
      ∧ r.2.sem = fun _ => 0)

def quiescent_GateBwdReferenceIdeal_pre_finite_gate [hGateBwdReferenceIdeal : Cert.GateBwdReferenceIdeal.Facts] [hPre_finite_gate : Cert.Pre_finite_gate.Facts] : Prop :=
  ∀ (m : (ℓ : Loc Cert.GateBwdReferenceIdeal.nD Cert.GateBwdReferenceIdeal.τ Cert.GateBwdReferenceIdeal.sig) → Buf (Elt Ideal) ℓ) (g : Dev Cert.GateBwdReferenceIdeal.nD → PrngReg), Pre_GateBwdReferenceIdeal_finite_gate m →
    θ_run (Cert.GateBwdReferenceIdeal.defs (F := Ideal)) (onTc (τ := Cert.GateBwdReferenceIdeal.τ) (Cert.GateBwdReferenceIdeal.main (F := Ideal))) ⟨m, fun _ => 0, g⟩ (fun r => (∀ c : Dev Cert.GateBwdReferenceIdeal.nD,
      r.2.mem ((c.tc : Thread Cert.GateBwdReferenceIdeal.nD Cert.GateBwdReferenceIdeal.τ).loc Cert.GateBwdReferenceIdeal.main_arg0) = m ((c.tc : Thread Cert.GateBwdReferenceIdeal.nD Cert.GateBwdReferenceIdeal.τ).loc Cert.GateBwdReferenceIdeal.main_arg0)
      ∧ r.2.mem ((c.tc : Thread Cert.GateBwdReferenceIdeal.nD Cert.GateBwdReferenceIdeal.τ).loc Cert.GateBwdReferenceIdeal.main_arg1) = m ((c.tc : Thread Cert.GateBwdReferenceIdeal.nD Cert.GateBwdReferenceIdeal.τ).loc Cert.GateBwdReferenceIdeal.main_arg1)
      ∧ r.2.mem ((c.tc : Thread Cert.GateBwdReferenceIdeal.nD Cert.GateBwdReferenceIdeal.τ).loc Cert.GateBwdReferenceIdeal.main_arg2) = m ((c.tc : Thread Cert.GateBwdReferenceIdeal.nD Cert.GateBwdReferenceIdeal.τ).loc Cert.GateBwdReferenceIdeal.main_arg2)
      ∧ r.2.mem ((c.tc : Thread Cert.GateBwdReferenceIdeal.nD Cert.GateBwdReferenceIdeal.τ).loc Cert.GateBwdReferenceIdeal.main_arg3) = m ((c.tc : Thread Cert.GateBwdReferenceIdeal.nD Cert.GateBwdReferenceIdeal.τ).loc Cert.GateBwdReferenceIdeal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v30_0)) (v1 : (c : Dev Cert.KernelIdeal.nD) → Buf (Elt Ideal) ((c.tc : Thread Cert.KernelIdeal.nD Cert.KernelIdeal.τ).loc Cert.KernelIdeal.main_v30_1)) (v2 : (c : Dev Cert.KernelIdeal.nD) → Buf (Elt Ideal) ((c.tc : Thread Cert.KernelIdeal.nD Cert.KernelIdeal.τ).loc Cert.KernelIdeal.main_v30_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30_0) = v0 c
          ∧ r.2.mem ((c.tc : Thread Cert.KernelIdeal.nD Cert.KernelIdeal.τ).loc Cert.KernelIdeal.main_v30_1) = v1 c
          ∧ r.2.mem ((c.tc : Thread Cert.KernelIdeal.nD Cert.KernelIdeal.τ).loc Cert.KernelIdeal.main_v30_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_v67) = v1 c
          ∧ r.2.mem ((c.tc : Thread Cert.ReferenceIdeal.nD Cert.ReferenceIdeal.τ).loc Cert.ReferenceIdeal.main_v68) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v0)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v3) = v0 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1))

def preserves_DHid_DHidIdeal : Prop :=
  True

def algebraic_DHidIdeal_DHidReferenceIdeal [hDHidIdeal : Cert.DHidIdeal.Facts] [hDHidReferenceIdeal : Cert.DHidReferenceIdeal.Facts] : Prop :=
  ∀ (m : (ℓ : Loc Cert.DHidIdeal.nD Cert.DHidIdeal.τ Cert.DHidIdeal.sig) → Buf (Elt Ideal) ℓ) (g : Dev Cert.DHidIdeal.nD → PrngReg)
    (m' : (ℓ : Loc Cert.DHidReferenceIdeal.nD Cert.DHidReferenceIdeal.τ Cert.DHidReferenceIdeal.sig) → Buf (Elt Ideal) ℓ) (g' : Dev Cert.DHidReferenceIdeal.nD → PrngReg), Pre_DHidIdeal m →
    (∀ c : Dev Cert.DHidIdeal.nD,
      m' ((c.tc : Thread Cert.DHidReferenceIdeal.nD Cert.DHidReferenceIdeal.τ).loc Cert.DHidReferenceIdeal.main_arg0) = m ((c.tc : Thread Cert.DHidIdeal.nD Cert.DHidIdeal.τ).loc Cert.DHidIdeal.main_arg0)
      ∧ m' ((c.tc : Thread Cert.DHidReferenceIdeal.nD Cert.DHidReferenceIdeal.τ).loc Cert.DHidReferenceIdeal.main_arg1) = m ((c.tc : Thread Cert.DHidIdeal.nD Cert.DHidIdeal.τ).loc Cert.DHidIdeal.main_arg1)) →
    ∃ (v0 : (c : Dev Cert.DHidIdeal.nD) → Buf (Elt Ideal) ((c.tc : Thread Cert.DHidIdeal.nD Cert.DHidIdeal.τ).loc Cert.DHidIdeal.main_v0)),
      θ_run (Cert.DHidIdeal.defs (F := Ideal)) (onTc (τ := Cert.DHidIdeal.τ) (Cert.DHidIdeal.main (F := Ideal))) ⟨m, fun _ => 0, g⟩ (fun r => ∀ c : Dev Cert.DHidIdeal.nD,
          r.2.mem ((c.tc : Thread Cert.DHidIdeal.nD Cert.DHidIdeal.τ).loc Cert.DHidIdeal.main_v0) = v0 c
          ∧ r.2.mem ((c.tc : Thread Cert.DHidIdeal.nD Cert.DHidIdeal.τ).loc Cert.DHidIdeal.main_arg0) = m ((c.tc : Thread Cert.DHidIdeal.nD Cert.DHidIdeal.τ).loc Cert.DHidIdeal.main_arg0)
          ∧ r.2.mem ((c.tc : Thread Cert.DHidIdeal.nD Cert.DHidIdeal.τ).loc Cert.DHidIdeal.main_arg1) = m ((c.tc : Thread Cert.DHidIdeal.nD Cert.DHidIdeal.τ).loc Cert.DHidIdeal.main_arg1))
      ∧ θ_run (Cert.DHidReferenceIdeal.defs (F := Ideal)) (onTc (τ := Cert.DHidReferenceIdeal.τ) (Cert.DHidReferenceIdeal.main (F := Ideal))) ⟨m', fun _ => 0, g'⟩ (fun r => ∀ c : Dev Cert.DHidReferenceIdeal.nD,
          r.2.mem ((c.tc : Thread Cert.DHidReferenceIdeal.nD Cert.DHidReferenceIdeal.τ).loc Cert.DHidReferenceIdeal.main_v2) = v0 c
          ∧ r.2.mem ((c.tc : Thread Cert.DHidReferenceIdeal.nD Cert.DHidReferenceIdeal.τ).loc Cert.DHidReferenceIdeal.main_arg0) = m' ((c.tc : Thread Cert.DHidReferenceIdeal.nD Cert.DHidReferenceIdeal.τ).loc Cert.DHidReferenceIdeal.main_arg0)
          ∧ r.2.mem ((c.tc : Thread Cert.DHidReferenceIdeal.nD Cert.DHidReferenceIdeal.τ).loc Cert.DHidReferenceIdeal.main_arg1) = m' ((c.tc : Thread Cert.DHidReferenceIdeal.nD Cert.DHidReferenceIdeal.τ).loc Cert.DHidReferenceIdeal.main_arg1))

def preserves_DwIn_DwInIdeal : Prop :=
  True

def algebraic_DwInIdeal_DwInReferenceIdeal [hDwInIdeal : Cert.DwInIdeal.Facts] [hDwInReferenceIdeal : Cert.DwInReferenceIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.DwInReferenceIdeal.nD Cert.DwInReferenceIdeal.τ Cert.DwInReferenceIdeal.sig) → Buf (Elt Ideal) ℓ) (g' : Dev Cert.DwInReferenceIdeal.nD → PrngReg), Pre_DwInIdeal m →
    (∀ c : Dev Cert.DwInIdeal.nD,
      m' ((c.tc : Thread Cert.DwInReferenceIdeal.nD Cert.DwInReferenceIdeal.τ).loc Cert.DwInReferenceIdeal.main_arg0) = m ((c.tc : Thread Cert.DwInIdeal.nD Cert.DwInIdeal.τ).loc Cert.DwInIdeal.main_arg0)
      ∧ m' ((c.tc : Thread Cert.DwInReferenceIdeal.nD Cert.DwInReferenceIdeal.τ).loc Cert.DwInReferenceIdeal.main_arg1) = m ((c.tc : Thread Cert.DwInIdeal.nD Cert.DwInIdeal.τ).loc Cert.DwInIdeal.main_arg1)) →
    ∃ (v0 : (c : Dev Cert.DwInIdeal.nD) → Buf (Elt Ideal) ((c.tc : Thread Cert.DwInIdeal.nD Cert.DwInIdeal.τ).loc Cert.DwInIdeal.main_v0)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v0) = v0 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ θ_run (Cert.DwInReferenceIdeal.defs (F := Ideal)) (onTc (τ := Cert.DwInReferenceIdeal.τ) (Cert.DwInReferenceIdeal.main (F := Ideal))) ⟨m', fun _ => 0, g'⟩ (fun r => ∀ c : Dev Cert.DwInReferenceIdeal.nD,
          r.2.mem ((c.tc : Thread Cert.DwInReferenceIdeal.nD Cert.DwInReferenceIdeal.τ).loc Cert.DwInReferenceIdeal.main_v4) = v0 c
          ∧ r.2.mem ((c.tc : Thread Cert.DwInReferenceIdeal.nD Cert.DwInReferenceIdeal.τ).loc Cert.DwInReferenceIdeal.main_arg0) = m' ((c.tc : Thread Cert.DwInReferenceIdeal.nD Cert.DwInReferenceIdeal.τ).loc Cert.DwInReferenceIdeal.main_arg0)
          ∧ r.2.mem ((c.tc : Thread Cert.DwInReferenceIdeal.nD Cert.DwInReferenceIdeal.τ).loc Cert.DwInReferenceIdeal.main_arg1) = m' ((c.tc : Thread Cert.DwInReferenceIdeal.nD Cert.DwInReferenceIdeal.τ).loc Cert.DwInReferenceIdeal.main_arg1))

def preserves_OutProj_OutProjIdeal : Prop :=
  True

def algebraic_OutProjIdeal_OutProjReferenceIdeal [hOutProjIdeal : Cert.OutProjIdeal.Facts] [hOutProjReferenceIdeal : Cert.OutProjReferenceIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjReferenceIdeal.nD Cert.OutProjReferenceIdeal.τ Cert.OutProjReferenceIdeal.sig) → Buf (Elt Ideal) ℓ) (g' : Dev Cert.OutProjReferenceIdeal.nD → PrngReg), Pre_OutProjIdeal m →
    (∀ c : Dev Cert.OutProjIdeal.nD,
      m' ((c.tc : Thread Cert.OutProjReferenceIdeal.nD Cert.OutProjReferenceIdeal.τ).loc Cert.OutProjReferenceIdeal.main_arg0) = m ((c.tc : Thread Cert.OutProjIdeal.nD Cert.OutProjIdeal.τ).loc Cert.OutProjIdeal.main_arg0)
      ∧ m' ((c.tc : Thread Cert.OutProjReferenceIdeal.nD Cert.OutProjReferenceIdeal.τ).loc Cert.OutProjReferenceIdeal.main_arg1) = m ((c.tc : Thread Cert.OutProjIdeal.nD Cert.OutProjIdeal.τ).loc Cert.OutProjIdeal.main_arg1)
      ∧ m' ((c.tc : Thread Cert.OutProjReferenceIdeal.nD Cert.OutProjReferenceIdeal.τ).loc Cert.OutProjReferenceIdeal.main_arg2) = m ((c.tc : Thread Cert.OutProjIdeal.nD Cert.OutProjIdeal.τ).loc Cert.OutProjIdeal.main_arg2)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ θ_run (Cert.OutProjReferenceIdeal.defs (F := Ideal)) (onTc (τ := Cert.OutProjReferenceIdeal.τ) (Cert.OutProjReferenceIdeal.main (F := Ideal))) ⟨m', fun _ => 0, g'⟩ (fun r => ∀ c : Dev Cert.OutProjReferenceIdeal.nD,
          r.2.mem ((c.tc : Thread Cert.OutProjReferenceIdeal.nD Cert.OutProjReferenceIdeal.τ).loc Cert.OutProjReferenceIdeal.main_v3) = v0 c
          ∧ r.2.mem ((c.tc : Thread Cert.OutProjReferenceIdeal.nD Cert.OutProjReferenceIdeal.τ).loc Cert.OutProjReferenceIdeal.main_arg0) = m' ((c.tc : Thread Cert.OutProjReferenceIdeal.nD Cert.OutProjReferenceIdeal.τ).loc Cert.OutProjReferenceIdeal.main_arg0)
          ∧ r.2.mem ((c.tc : Thread Cert.OutProjReferenceIdeal.nD Cert.OutProjReferenceIdeal.τ).loc Cert.OutProjReferenceIdeal.main_arg1) = m' ((c.tc : Thread Cert.OutProjReferenceIdeal.nD Cert.OutProjReferenceIdeal.τ).loc Cert.OutProjReferenceIdeal.main_arg1)
          ∧ r.2.mem ((c.tc : Thread Cert.OutProjReferenceIdeal.nD Cert.OutProjReferenceIdeal.τ).loc Cert.OutProjReferenceIdeal.main_arg2) = m' ((c.tc : Thread Cert.OutProjReferenceIdeal.nD Cert.OutProjReferenceIdeal.τ).loc Cert.OutProjReferenceIdeal.main_arg2))

def preserves_DMix_DMixIdeal : Prop :=
  True

def algebraic_DMixIdeal_DMixReferenceIdeal [hDMixIdeal : Cert.DMixIdeal.Facts] [hDMixReferenceIdeal : Cert.DMixReferenceIdeal.Facts] : Prop :=
  ∀ (m : (ℓ : Loc Cert.DMixIdeal.nD Cert.DMixIdeal.τ Cert.DMixIdeal.sig) → Buf (Elt Ideal) ℓ) (g : Dev Cert.DMixIdeal.nD → PrngReg)
    (m' : (ℓ : Loc Cert.DMixReferenceIdeal.nD Cert.DMixReferenceIdeal.τ Cert.DMixReferenceIdeal.sig) → Buf (Elt Ideal) ℓ) (g' : Dev Cert.DMixReferenceIdeal.nD → PrngReg), Pre_DMixIdeal m →
    (∀ c : Dev Cert.DMixIdeal.nD,
      m' ((c.tc : Thread Cert.DMixReferenceIdeal.nD Cert.DMixReferenceIdeal.τ).loc Cert.DMixReferenceIdeal.main_arg0) = m ((c.tc : Thread Cert.DMixIdeal.nD Cert.DMixIdeal.τ).loc Cert.DMixIdeal.main_arg0)
      ∧ m' ((c.tc : Thread Cert.DMixReferenceIdeal.nD Cert.DMixReferenceIdeal.τ).loc Cert.DMixReferenceIdeal.main_arg1) = m ((c.tc : Thread Cert.DMixIdeal.nD Cert.DMixIdeal.τ).loc Cert.DMixIdeal.main_arg1)) →
    ∃ (v0 : (c : Dev Cert.DMixIdeal.nD) → Buf (Elt Ideal) ((c.tc : Thread Cert.DMixIdeal.nD Cert.DMixIdeal.τ).loc Cert.DMixIdeal.main_v0)),
      θ_run (Cert.DMixIdeal.defs (F := Ideal)) (onTc (τ := Cert.DMixIdeal.τ) (Cert.DMixIdeal.main (F := Ideal))) ⟨m, fun _ => 0, g⟩ (fun r => ∀ c : Dev Cert.DMixIdeal.nD,
          r.2.mem ((c.tc : Thread Cert.DMixIdeal.nD Cert.DMixIdeal.τ).loc Cert.DMixIdeal.main_v0) = v0 c
          ∧ r.2.mem ((c.tc : Thread Cert.DMixIdeal.nD Cert.DMixIdeal.τ).loc Cert.DMixIdeal.main_arg0) = m ((c.tc : Thread Cert.DMixIdeal.nD Cert.DMixIdeal.τ).loc Cert.DMixIdeal.main_arg0)
          ∧ r.2.mem ((c.tc : Thread Cert.DMixIdeal.nD Cert.DMixIdeal.τ).loc Cert.DMixIdeal.main_arg1) = m ((c.tc : Thread Cert.DMixIdeal.nD Cert.DMixIdeal.τ).loc Cert.DMixIdeal.main_arg1))
      ∧ θ_run (Cert.DMixReferenceIdeal.defs (F := Ideal)) (onTc (τ := Cert.DMixReferenceIdeal.τ) (Cert.DMixReferenceIdeal.main (F := Ideal))) ⟨m', fun _ => 0, g'⟩ (fun r => ∀ c : Dev Cert.DMixReferenceIdeal.nD,
          r.2.mem ((c.tc : Thread Cert.DMixReferenceIdeal.nD Cert.DMixReferenceIdeal.τ).loc Cert.DMixReferenceIdeal.main_v2) = v0 c
          ∧ r.2.mem ((c.tc : Thread Cert.DMixReferenceIdeal.nD Cert.DMixReferenceIdeal.τ).loc Cert.DMixReferenceIdeal.main_arg0) = m' ((c.tc : Thread Cert.DMixReferenceIdeal.nD Cert.DMixReferenceIdeal.τ).loc Cert.DMixReferenceIdeal.main_arg0)
          ∧ r.2.mem ((c.tc : Thread Cert.DMixReferenceIdeal.nD Cert.DMixReferenceIdeal.τ).loc Cert.DMixReferenceIdeal.main_arg1) = m' ((c.tc : Thread Cert.DMixReferenceIdeal.nD Cert.DMixReferenceIdeal.τ).loc Cert.DMixReferenceIdeal.main_arg1))

def preserves_DwOut_DwOutIdeal : Prop :=
  True

def algebraic_DwOutIdeal_DwOutReferenceIdeal [hDwOutIdeal : Cert.DwOutIdeal.Facts] [hDwOutReferenceIdeal : Cert.DwOutReferenceIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutReferenceIdeal.nD Cert.DwOutReferenceIdeal.τ Cert.DwOutReferenceIdeal.sig) → Buf (Elt Ideal) ℓ) (g' : Dev Cert.DwOutReferenceIdeal.nD → PrngReg), Pre_DwOutIdeal m →
    (∀ c : Dev Cert.DwOutIdeal.nD,
      m' ((c.tc : Thread Cert.DwOutReferenceIdeal.nD Cert.DwOutReferenceIdeal.τ).loc Cert.DwOutReferenceIdeal.main_arg0) = m ((c.tc : Thread Cert.DwOutIdeal.nD Cert.DwOutIdeal.τ).loc Cert.DwOutIdeal.main_arg0)
      ∧ m' ((c.tc : Thread Cert.DwOutReferenceIdeal.nD Cert.DwOutReferenceIdeal.τ).loc Cert.DwOutReferenceIdeal.main_arg1) = m ((c.tc : Thread Cert.DwOutIdeal.nD Cert.DwOutIdeal.τ).loc Cert.DwOutIdeal.main_arg1)) →
    ∃ (v0 : (c : Dev Cert.DwOutIdeal.nD) → Buf (Elt Ideal) ((c.tc : Thread Cert.DwOutIdeal.nD Cert.DwOutIdeal.τ).loc Cert.DwOutIdeal.main_v0)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v0) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ θ_run (Cert.DwOutReferenceIdeal.defs (F := Ideal)) (onTc (τ := Cert.DwOutReferenceIdeal.τ) (Cert.DwOutReferenceIdeal.main (F := Ideal))) ⟨m', fun _ => 0, g'⟩ (fun r => ∀ c : Dev Cert.DwOutReferenceIdeal.nD,
          r.2.mem ((c.tc : Thread Cert.DwOutReferenceIdeal.nD Cert.DwOutReferenceIdeal.τ).loc Cert.DwOutReferenceIdeal.main_v4) = v0 c
          ∧ r.2.mem ((c.tc : Thread Cert.DwOutReferenceIdeal.nD Cert.DwOutReferenceIdeal.τ).loc Cert.DwOutReferenceIdeal.main_arg0) = m' ((c.tc : Thread Cert.DwOutReferenceIdeal.nD Cert.DwOutReferenceIdeal.τ).loc Cert.DwOutReferenceIdeal.main_arg0)
          ∧ r.2.mem ((c.tc : Thread Cert.DwOutReferenceIdeal.nD Cert.DwOutReferenceIdeal.τ).loc Cert.DwOutReferenceIdeal.main_arg1) = m' ((c.tc : Thread Cert.DwOutReferenceIdeal.nD Cert.DwOutReferenceIdeal.τ).loc Cert.DwOutReferenceIdeal.main_arg1))

def preserves_QUp_QUpIdeal : Prop :=
  True

def algebraic_QUpIdeal_QUpReferenceIdeal [hQUpIdeal : Cert.QUpIdeal.Facts] [hQUpReferenceIdeal : Cert.QUpReferenceIdeal.Facts] : Prop :=
  ∀ (m : (ℓ : Loc Cert.QUpIdeal.nD Cert.QUpIdeal.τ Cert.QUpIdeal.sig) → Buf (Elt Ideal) ℓ) (g : Dev Cert.QUpIdeal.nD → PrngReg)
    (m' : (ℓ : Loc Cert.QUpReferenceIdeal.nD Cert.QUpReferenceIdeal.τ Cert.QUpReferenceIdeal.sig) → Buf (Elt Ideal) ℓ) (g' : Dev Cert.QUpReferenceIdeal.nD → PrngReg), Pre_QUpIdeal m →
    (∀ c : Dev Cert.QUpIdeal.nD,
      m' ((c.tc : Thread Cert.QUpReferenceIdeal.nD Cert.QUpReferenceIdeal.τ).loc Cert.QUpReferenceIdeal.main_arg0) = m ((c.tc : Thread Cert.QUpIdeal.nD Cert.QUpIdeal.τ).loc Cert.QUpIdeal.main_arg0)
      ∧ m' ((c.tc : Thread Cert.QUpReferenceIdeal.nD Cert.QUpReferenceIdeal.τ).loc Cert.QUpReferenceIdeal.main_arg1) = m ((c.tc : Thread Cert.QUpIdeal.nD Cert.QUpIdeal.τ).loc Cert.QUpIdeal.main_arg1)) →
    ∃ (v0 : (c : Dev Cert.QUpIdeal.nD) → Buf (Elt Ideal) ((c.tc : Thread Cert.QUpIdeal.nD Cert.QUpIdeal.τ).loc Cert.QUpIdeal.main_v0)),
      θ_run (Cert.QUpIdeal.defs (F := Ideal)) (onTc (τ := Cert.QUpIdeal.τ) (Cert.QUpIdeal.main (F := Ideal))) ⟨m, fun _ => 0, g⟩ (fun r => ∀ c : Dev Cert.QUpIdeal.nD,
          r.2.mem ((c.tc : Thread Cert.QUpIdeal.nD Cert.QUpIdeal.τ).loc Cert.QUpIdeal.main_v0) = v0 c
          ∧ r.2.mem ((c.tc : Thread Cert.QUpIdeal.nD Cert.QUpIdeal.τ).loc Cert.QUpIdeal.main_arg0) = m ((c.tc : Thread Cert.QUpIdeal.nD Cert.QUpIdeal.τ).loc Cert.QUpIdeal.main_arg0)
          ∧ r.2.mem ((c.tc : Thread Cert.QUpIdeal.nD Cert.QUpIdeal.τ).loc Cert.QUpIdeal.main_arg1) = m ((c.tc : Thread Cert.QUpIdeal.nD Cert.QUpIdeal.τ).loc Cert.QUpIdeal.main_arg1))
      ∧ θ_run (Cert.QUpReferenceIdeal.defs (F := Ideal)) (onTc (τ := Cert.QUpReferenceIdeal.τ) (Cert.QUpReferenceIdeal.main (F := Ideal))) ⟨m', fun _ => 0, g'⟩ (fun r => ∀ c : Dev Cert.QUpReferenceIdeal.nD,
          r.2.mem ((c.tc : Thread Cert.QUpReferenceIdeal.nD Cert.QUpReferenceIdeal.τ).loc Cert.QUpReferenceIdeal.main_v3) = v0 c
          ∧ r.2.mem ((c.tc : Thread Cert.QUpReferenceIdeal.nD Cert.QUpReferenceIdeal.τ).loc Cert.QUpReferenceIdeal.main_arg0) = m' ((c.tc : Thread Cert.QUpReferenceIdeal.nD Cert.QUpReferenceIdeal.τ).loc Cert.QUpReferenceIdeal.main_arg0)
          ∧ r.2.mem ((c.tc : Thread Cert.QUpReferenceIdeal.nD Cert.QUpReferenceIdeal.τ).loc Cert.QUpReferenceIdeal.main_arg1) = m' ((c.tc : Thread Cert.QUpReferenceIdeal.nD Cert.QUpReferenceIdeal.τ).loc Cert.QUpReferenceIdeal.main_arg1))

def preserves_DQn_DQnIdeal : Prop :=
  True

def algebraic_DQnIdeal_DQnReferenceIdeal [hDQnIdeal : Cert.DQnIdeal.Facts] [hDQnReferenceIdeal : Cert.DQnReferenceIdeal.Facts] : Prop :=
  ∀ (m : (ℓ : Loc Cert.DQnIdeal.nD Cert.DQnIdeal.τ Cert.DQnIdeal.sig) → Buf (Elt Ideal) ℓ) (g : Dev Cert.DQnIdeal.nD → PrngReg)
    (m' : (ℓ : Loc Cert.DQnReferenceIdeal.nD Cert.DQnReferenceIdeal.τ Cert.DQnReferenceIdeal.sig) → Buf (Elt Ideal) ℓ) (g' : Dev Cert.DQnReferenceIdeal.nD → PrngReg), Pre_DQnIdeal m →
    (∀ c : Dev Cert.DQnIdeal.nD,
      m' ((c.tc : Thread Cert.DQnReferenceIdeal.nD Cert.DQnReferenceIdeal.τ).loc Cert.DQnReferenceIdeal.main_arg0) = m ((c.tc : Thread Cert.DQnIdeal.nD Cert.DQnIdeal.τ).loc Cert.DQnIdeal.main_arg0)
      ∧ m' ((c.tc : Thread Cert.DQnReferenceIdeal.nD Cert.DQnReferenceIdeal.τ).loc Cert.DQnReferenceIdeal.main_arg1) = m ((c.tc : Thread Cert.DQnIdeal.nD Cert.DQnIdeal.τ).loc Cert.DQnIdeal.main_arg1)) →
    ∃ (v0 : (c : Dev Cert.DQnIdeal.nD) → Buf (Elt Ideal) ((c.tc : Thread Cert.DQnIdeal.nD Cert.DQnIdeal.τ).loc Cert.DQnIdeal.main_v0)),
      θ_run (Cert.DQnIdeal.defs (F := Ideal)) (onTc (τ := Cert.DQnIdeal.τ) (Cert.DQnIdeal.main (F := Ideal))) ⟨m, fun _ => 0, g⟩ (fun r => ∀ c : Dev Cert.DQnIdeal.nD,
          r.2.mem ((c.tc : Thread Cert.DQnIdeal.nD Cert.DQnIdeal.τ).loc Cert.DQnIdeal.main_v0) = v0 c
          ∧ r.2.mem ((c.tc : Thread Cert.DQnIdeal.nD Cert.DQnIdeal.τ).loc Cert.DQnIdeal.main_arg0) = m ((c.tc : Thread Cert.DQnIdeal.nD Cert.DQnIdeal.τ).loc Cert.DQnIdeal.main_arg0)
          ∧ r.2.mem ((c.tc : Thread Cert.DQnIdeal.nD Cert.DQnIdeal.τ).loc Cert.DQnIdeal.main_arg1) = m ((c.tc : Thread Cert.DQnIdeal.nD Cert.DQnIdeal.τ).loc Cert.DQnIdeal.main_arg1))
      ∧ θ_run (Cert.DQnReferenceIdeal.defs (F := Ideal)) (onTc (τ := Cert.DQnReferenceIdeal.τ) (Cert.DQnReferenceIdeal.main (F := Ideal))) ⟨m', fun _ => 0, g'⟩ (fun r => ∀ c : Dev Cert.DQnReferenceIdeal.nD,
          r.2.mem ((c.tc : Thread Cert.DQnReferenceIdeal.nD Cert.DQnReferenceIdeal.τ).loc Cert.DQnReferenceIdeal.main_v2) = v0 c
          ∧ r.2.mem ((c.tc : Thread Cert.DQnReferenceIdeal.nD Cert.DQnReferenceIdeal.τ).loc Cert.DQnReferenceIdeal.main_arg0) = m' ((c.tc : Thread Cert.DQnReferenceIdeal.nD Cert.DQnReferenceIdeal.τ).loc Cert.DQnReferenceIdeal.main_arg0)
          ∧ r.2.mem ((c.tc : Thread Cert.DQnReferenceIdeal.nD Cert.DQnReferenceIdeal.τ).loc Cert.DQnReferenceIdeal.main_arg1) = m' ((c.tc : Thread Cert.DQnReferenceIdeal.nD Cert.DQnReferenceIdeal.τ).loc Cert.DQnReferenceIdeal.main_arg1))

def preserves_DwQ_DwQIdeal : Prop :=
  True

def algebraic_DwQIdeal_DwQReferenceIdeal [hDwQIdeal : Cert.DwQIdeal.Facts] [hDwQReferenceIdeal : Cert.DwQReferenceIdeal.Facts] : Prop :=
  ∀ (m : (ℓ : Loc Cert.DwQIdeal.nD Cert.DwQIdeal.τ Cert.DwQIdeal.sig) → Buf (Elt Ideal) ℓ) (g : Dev Cert.DwQIdeal.nD → PrngReg)
    (m' : (ℓ : Loc Cert.DwQReferenceIdeal.nD Cert.DwQReferenceIdeal.τ Cert.DwQReferenceIdeal.sig) → Buf (Elt Ideal) ℓ) (g' : Dev Cert.DwQReferenceIdeal.nD → PrngReg), Pre_DwQIdeal m →
    (∀ c : Dev Cert.DwQIdeal.nD,
      m' ((c.tc : Thread Cert.DwQReferenceIdeal.nD Cert.DwQReferenceIdeal.τ).loc Cert.DwQReferenceIdeal.main_arg0) = m ((c.tc : Thread Cert.DwQIdeal.nD Cert.DwQIdeal.τ).loc Cert.DwQIdeal.main_arg0)
      ∧ m' ((c.tc : Thread Cert.DwQReferenceIdeal.nD Cert.DwQReferenceIdeal.τ).loc Cert.DwQReferenceIdeal.main_arg1) = m ((c.tc : Thread Cert.DwQIdeal.nD Cert.DwQIdeal.τ).loc Cert.DwQIdeal.main_arg1)) →
    ∃ (v0 : (c : Dev Cert.DwQIdeal.nD) → Buf (Elt Ideal) ((c.tc : Thread Cert.DwQIdeal.nD Cert.DwQIdeal.τ).loc Cert.DwQIdeal.main_v0)),
      θ_run (Cert.DwQIdeal.defs (F := Ideal)) (onTc (τ := Cert.DwQIdeal.τ) (Cert.DwQIdeal.main (F := Ideal))) ⟨m, fun _ => 0, g⟩ (fun r => ∀ c : Dev Cert.DwQIdeal.nD,
          r.2.mem ((c.tc : Thread Cert.DwQIdeal.nD Cert.DwQIdeal.τ).loc Cert.DwQIdeal.main_v0) = v0 c
          ∧ r.2.mem ((c.tc : Thread Cert.DwQIdeal.nD Cert.DwQIdeal.τ).loc Cert.DwQIdeal.main_arg0) = m ((c.tc : Thread Cert.DwQIdeal.nD Cert.DwQIdeal.τ).loc Cert.DwQIdeal.main_arg0)
          ∧ r.2.mem ((c.tc : Thread Cert.DwQIdeal.nD Cert.DwQIdeal.τ).loc Cert.DwQIdeal.main_arg1) = m ((c.tc : Thread Cert.DwQIdeal.nD Cert.DwQIdeal.τ).loc Cert.DwQIdeal.main_arg1))
      ∧ θ_run (Cert.DwQReferenceIdeal.defs (F := Ideal)) (onTc (τ := Cert.DwQReferenceIdeal.τ) (Cert.DwQReferenceIdeal.main (F := Ideal))) ⟨m', fun _ => 0, g'⟩ (fun r => ∀ c : Dev Cert.DwQReferenceIdeal.nD,
          r.2.mem ((c.tc : Thread Cert.DwQReferenceIdeal.nD Cert.DwQReferenceIdeal.τ).loc Cert.DwQReferenceIdeal.main_v4) = v0 c
          ∧ r.2.mem ((c.tc : Thread Cert.DwQReferenceIdeal.nD Cert.DwQReferenceIdeal.τ).loc Cert.DwQReferenceIdeal.main_arg0) = m' ((c.tc : Thread Cert.DwQReferenceIdeal.nD Cert.DwQReferenceIdeal.τ).loc Cert.DwQReferenceIdeal.main_arg0)
          ∧ r.2.mem ((c.tc : Thread Cert.DwQReferenceIdeal.nD Cert.DwQReferenceIdeal.τ).loc Cert.DwQReferenceIdeal.main_arg1) = m' ((c.tc : Thread Cert.DwQReferenceIdeal.nD Cert.DwQReferenceIdeal.τ).loc Cert.DwQReferenceIdeal.main_arg1))

def preserves_KvUp_KvUpIdeal : Prop :=
  True

def algebraic_KvUpIdeal_KvUpReferenceIdeal [hKvUpIdeal : Cert.KvUpIdeal.Facts] [hKvUpReferenceIdeal : Cert.KvUpReferenceIdeal.Facts] : Prop :=
  ∀ (m : (ℓ : Loc Cert.KvUpIdeal.nD Cert.KvUpIdeal.τ Cert.KvUpIdeal.sig) → Buf (Elt Ideal) ℓ) (g : Dev Cert.KvUpIdeal.nD → PrngReg)
    (m' : (ℓ : Loc Cert.KvUpReferenceIdeal.nD Cert.KvUpReferenceIdeal.τ Cert.KvUpReferenceIdeal.sig) → Buf (Elt Ideal) ℓ) (g' : Dev Cert.KvUpReferenceIdeal.nD → PrngReg), Pre_KvUpIdeal m →
    (∀ c : Dev Cert.KvUpIdeal.nD,
      m' ((c.tc : Thread Cert.KvUpReferenceIdeal.nD Cert.KvUpReferenceIdeal.τ).loc Cert.KvUpReferenceIdeal.main_arg0) = m ((c.tc : Thread Cert.KvUpIdeal.nD Cert.KvUpIdeal.τ).loc Cert.KvUpIdeal.main_arg0)
      ∧ m' ((c.tc : Thread Cert.KvUpReferenceIdeal.nD Cert.KvUpReferenceIdeal.τ).loc Cert.KvUpReferenceIdeal.main_arg1) = m ((c.tc : Thread Cert.KvUpIdeal.nD Cert.KvUpIdeal.τ).loc Cert.KvUpIdeal.main_arg1)) →
    ∃ (v0 : (c : Dev Cert.KvUpIdeal.nD) → Buf (Elt Ideal) ((c.tc : Thread Cert.KvUpIdeal.nD Cert.KvUpIdeal.τ).loc Cert.KvUpIdeal.main_v0)),
      θ_run (Cert.KvUpIdeal.defs (F := Ideal)) (onTc (τ := Cert.KvUpIdeal.τ) (Cert.KvUpIdeal.main (F := Ideal))) ⟨m, fun _ => 0, g⟩ (fun r => ∀ c : Dev Cert.KvUpIdeal.nD,
          r.2.mem ((c.tc : Thread Cert.KvUpIdeal.nD Cert.KvUpIdeal.τ).loc Cert.KvUpIdeal.main_v0) = v0 c
          ∧ r.2.mem ((c.tc : Thread Cert.KvUpIdeal.nD Cert.KvUpIdeal.τ).loc Cert.KvUpIdeal.main_arg0) = m ((c.tc : Thread Cert.KvUpIdeal.nD Cert.KvUpIdeal.τ).loc Cert.KvUpIdeal.main_arg0)
          ∧ r.2.mem ((c.tc : Thread Cert.KvUpIdeal.nD Cert.KvUpIdeal.τ).loc Cert.KvUpIdeal.main_arg1) = m ((c.tc : Thread Cert.KvUpIdeal.nD Cert.KvUpIdeal.τ).loc Cert.KvUpIdeal.main_arg1))
      ∧ θ_run (Cert.KvUpReferenceIdeal.defs (F := Ideal)) (onTc (τ := Cert.KvUpReferenceIdeal.τ) (Cert.KvUpReferenceIdeal.main (F := Ideal))) ⟨m', fun _ => 0, g'⟩ (fun r => ∀ c : Dev Cert.KvUpReferenceIdeal.nD,
          r.2.mem ((c.tc : Thread Cert.KvUpReferenceIdeal.nD Cert.KvUpReferenceIdeal.τ).loc Cert.KvUpReferenceIdeal.main_v3) = v0 c
          ∧ r.2.mem ((c.tc : Thread Cert.KvUpReferenceIdeal.nD Cert.KvUpReferenceIdeal.τ).loc Cert.KvUpReferenceIdeal.main_arg0) = m' ((c.tc : Thread Cert.KvUpReferenceIdeal.nD Cert.KvUpReferenceIdeal.τ).loc Cert.KvUpReferenceIdeal.main_arg0)
          ∧ r.2.mem ((c.tc : Thread Cert.KvUpReferenceIdeal.nD Cert.KvUpReferenceIdeal.τ).loc Cert.KvUpReferenceIdeal.main_arg1) = m' ((c.tc : Thread Cert.KvUpReferenceIdeal.nD Cert.KvUpReferenceIdeal.τ).loc Cert.KvUpReferenceIdeal.main_arg1))

def preserves_DKvn_DKvnIdeal : Prop :=
  True

def algebraic_DKvnIdeal_DKvnReferenceIdeal [hDKvnIdeal : Cert.DKvnIdeal.Facts] [hDKvnReferenceIdeal : Cert.DKvnReferenceIdeal.Facts] : Prop :=
  ∀ (m : (ℓ : Loc Cert.DKvnIdeal.nD Cert.DKvnIdeal.τ Cert.DKvnIdeal.sig) → Buf (Elt Ideal) ℓ) (g : Dev Cert.DKvnIdeal.nD → PrngReg)
    (m' : (ℓ : Loc Cert.DKvnReferenceIdeal.nD Cert.DKvnReferenceIdeal.τ Cert.DKvnReferenceIdeal.sig) → Buf (Elt Ideal) ℓ) (g' : Dev Cert.DKvnReferenceIdeal.nD → PrngReg), Pre_DKvnIdeal m →
    (∀ c : Dev Cert.DKvnIdeal.nD,
      m' ((c.tc : Thread Cert.DKvnReferenceIdeal.nD Cert.DKvnReferenceIdeal.τ).loc Cert.DKvnReferenceIdeal.main_arg0) = m ((c.tc : Thread Cert.DKvnIdeal.nD Cert.DKvnIdeal.τ).loc Cert.DKvnIdeal.main_arg0)
      ∧ m' ((c.tc : Thread Cert.DKvnReferenceIdeal.nD Cert.DKvnReferenceIdeal.τ).loc Cert.DKvnReferenceIdeal.main_arg1) = m ((c.tc : Thread Cert.DKvnIdeal.nD Cert.DKvnIdeal.τ).loc Cert.DKvnIdeal.main_arg1)) →
    ∃ (v0 : (c : Dev Cert.DKvnIdeal.nD) → Buf (Elt Ideal) ((c.tc : Thread Cert.DKvnIdeal.nD Cert.DKvnIdeal.τ).loc Cert.DKvnIdeal.main_v0)),
      θ_run (Cert.DKvnIdeal.defs (F := Ideal)) (onTc (τ := Cert.DKvnIdeal.τ) (Cert.DKvnIdeal.main (F := Ideal))) ⟨m, fun _ => 0, g⟩ (fun r => ∀ c : Dev Cert.DKvnIdeal.nD,
          r.2.mem ((c.tc : Thread Cert.DKvnIdeal.nD Cert.DKvnIdeal.τ).loc Cert.DKvnIdeal.main_v0) = v0 c
          ∧ r.2.mem ((c.tc : Thread Cert.DKvnIdeal.nD Cert.DKvnIdeal.τ).loc Cert.DKvnIdeal.main_arg0) = m ((c.tc : Thread Cert.DKvnIdeal.nD Cert.DKvnIdeal.τ).loc Cert.DKvnIdeal.main_arg0)
          ∧ r.2.mem ((c.tc : Thread Cert.DKvnIdeal.nD Cert.DKvnIdeal.τ).loc Cert.DKvnIdeal.main_arg1) = m ((c.tc : Thread Cert.DKvnIdeal.nD Cert.DKvnIdeal.τ).loc Cert.DKvnIdeal.main_arg1))
      ∧ θ_run (Cert.DKvnReferenceIdeal.defs (F := Ideal)) (onTc (τ := Cert.DKvnReferenceIdeal.τ) (Cert.DKvnReferenceIdeal.main (F := Ideal))) ⟨m', fun _ => 0, g'⟩ (fun r => ∀ c : Dev Cert.DKvnReferenceIdeal.nD,
          r.2.mem ((c.tc : Thread Cert.DKvnReferenceIdeal.nD Cert.DKvnReferenceIdeal.τ).loc Cert.DKvnReferenceIdeal.main_v2) = v0 c
          ∧ r.2.mem ((c.tc : Thread Cert.DKvnReferenceIdeal.nD Cert.DKvnReferenceIdeal.τ).loc Cert.DKvnReferenceIdeal.main_arg0) = m' ((c.tc : Thread Cert.DKvnReferenceIdeal.nD Cert.DKvnReferenceIdeal.τ).loc Cert.DKvnReferenceIdeal.main_arg0)
          ∧ r.2.mem ((c.tc : Thread Cert.DKvnReferenceIdeal.nD Cert.DKvnReferenceIdeal.τ).loc Cert.DKvnReferenceIdeal.main_arg1) = m' ((c.tc : Thread Cert.DKvnReferenceIdeal.nD Cert.DKvnReferenceIdeal.τ).loc Cert.DKvnReferenceIdeal.main_arg1))

def preserves_DwKv_DwKvIdeal : Prop :=
  True

def algebraic_DwKvIdeal_DwKvReferenceIdeal [hDwKvIdeal : Cert.DwKvIdeal.Facts] [hDwKvReferenceIdeal : Cert.DwKvReferenceIdeal.Facts] : Prop :=
  ∀ (m : (ℓ : Loc Cert.DwKvIdeal.nD Cert.DwKvIdeal.τ Cert.DwKvIdeal.sig) → Buf (Elt Ideal) ℓ) (g : Dev Cert.DwKvIdeal.nD → PrngReg)
    (m' : (ℓ : Loc Cert.DwKvReferenceIdeal.nD Cert.DwKvReferenceIdeal.τ Cert.DwKvReferenceIdeal.sig) → Buf (Elt Ideal) ℓ) (g' : Dev Cert.DwKvReferenceIdeal.nD → PrngReg), Pre_DwKvIdeal m →
    (∀ c : Dev Cert.DwKvIdeal.nD,
      m' ((c.tc : Thread Cert.DwKvReferenceIdeal.nD Cert.DwKvReferenceIdeal.τ).loc Cert.DwKvReferenceIdeal.main_arg0) = m ((c.tc : Thread Cert.DwKvIdeal.nD Cert.DwKvIdeal.τ).loc Cert.DwKvIdeal.main_arg0)
      ∧ m' ((c.tc : Thread Cert.DwKvReferenceIdeal.nD Cert.DwKvReferenceIdeal.τ).loc Cert.DwKvReferenceIdeal.main_arg1) = m ((c.tc : Thread Cert.DwKvIdeal.nD Cert.DwKvIdeal.τ).loc Cert.DwKvIdeal.main_arg1)) →
    ∃ (v0 : (c : Dev Cert.DwKvIdeal.nD) → Buf (Elt Ideal) ((c.tc : Thread Cert.DwKvIdeal.nD Cert.DwKvIdeal.τ).loc Cert.DwKvIdeal.main_v0)),
      θ_run (Cert.DwKvIdeal.defs (F := Ideal)) (onTc (τ := Cert.DwKvIdeal.τ) (Cert.DwKvIdeal.main (F := Ideal))) ⟨m, fun _ => 0, g⟩ (fun r => ∀ c : Dev Cert.DwKvIdeal.nD,
          r.2.mem ((c.tc : Thread Cert.DwKvIdeal.nD Cert.DwKvIdeal.τ).loc Cert.DwKvIdeal.main_v0) = v0 c
          ∧ r.2.mem ((c.tc : Thread Cert.DwKvIdeal.nD Cert.DwKvIdeal.τ).loc Cert.DwKvIdeal.main_arg0) = m ((c.tc : Thread Cert.DwKvIdeal.nD Cert.DwKvIdeal.τ).loc Cert.DwKvIdeal.main_arg0)
          ∧ r.2.mem ((c.tc : Thread Cert.DwKvIdeal.nD Cert.DwKvIdeal.τ).loc Cert.DwKvIdeal.main_arg1) = m ((c.tc : Thread Cert.DwKvIdeal.nD Cert.DwKvIdeal.τ).loc Cert.DwKvIdeal.main_arg1))
      ∧ θ_run (Cert.DwKvReferenceIdeal.defs (F := Ideal)) (onTc (τ := Cert.DwKvReferenceIdeal.τ) (Cert.DwKvReferenceIdeal.main (F := Ideal))) ⟨m', fun _ => 0, g'⟩ (fun r => ∀ c : Dev Cert.DwKvReferenceIdeal.nD,
          r.2.mem ((c.tc : Thread Cert.DwKvReferenceIdeal.nD Cert.DwKvReferenceIdeal.τ).loc Cert.DwKvReferenceIdeal.main_v4) = v0 c
          ∧ r.2.mem ((c.tc : Thread Cert.DwKvReferenceIdeal.nD Cert.DwKvReferenceIdeal.τ).loc Cert.DwKvReferenceIdeal.main_arg0) = m' ((c.tc : Thread Cert.DwKvReferenceIdeal.nD Cert.DwKvReferenceIdeal.τ).loc Cert.DwKvReferenceIdeal.main_arg0)
          ∧ r.2.mem ((c.tc : Thread Cert.DwKvReferenceIdeal.nD Cert.DwKvReferenceIdeal.τ).loc Cert.DwKvReferenceIdeal.main_arg1) = m' ((c.tc : Thread Cert.DwKvReferenceIdeal.nD Cert.DwKvReferenceIdeal.τ).loc Cert.DwKvReferenceIdeal.main_arg1))

def preserves_FlashFwd_FlashFwdIdeal : Prop :=
  IdealRules.named_const.Statement Cert.FlashFwdIdeal.κ "mask" .f32 0xF149F2CA#32 ⊥

def algebraic_FlashFwdIdeal_FlashFwdReferenceIdeal_pre_finite_heads [hFlashFwdIdeal : Cert.FlashFwdIdeal.Facts] [hFlashFwdReferenceIdeal : Cert.FlashFwdReferenceIdeal.Facts] [hPre_finite_heads : Cert.Pre_finite_heads.Facts] : Prop :=
  ∀ (m : (ℓ : Loc Cert.FlashFwdIdeal.nD Cert.FlashFwdIdeal.τ Cert.FlashFwdIdeal.sig) → Buf (Elt Ideal) ℓ) (g : Dev Cert.FlashFwdIdeal.nD → PrngReg)
    (m' : (ℓ : Loc Cert.FlashFwdReferenceIdeal.nD Cert.FlashFwdReferenceIdeal.τ Cert.FlashFwdReferenceIdeal.sig) → Buf (Elt Ideal) ℓ) (g' : Dev Cert.FlashFwdReferenceIdeal.nD → PrngReg), Pre_FlashFwdIdeal_finite_heads m →
    (∀ c : Dev Cert.FlashFwdIdeal.nD,
      m' ((c.tc : Thread Cert.FlashFwdReferenceIdeal.nD Cert.FlashFwdReferenceIdeal.τ).loc Cert.FlashFwdReferenceIdeal.main_arg0) = m ((c.tc : Thread Cert.FlashFwdIdeal.nD Cert.FlashFwdIdeal.τ).loc Cert.FlashFwdIdeal.main_arg0)
      ∧ m' ((c.tc : Thread Cert.FlashFwdReferenceIdeal.nD Cert.FlashFwdReferenceIdeal.τ).loc Cert.FlashFwdReferenceIdeal.main_arg1) = m ((c.tc : Thread Cert.FlashFwdIdeal.nD Cert.FlashFwdIdeal.τ).loc Cert.FlashFwdIdeal.main_arg1)
      ∧ m' ((c.tc : Thread Cert.FlashFwdReferenceIdeal.nD Cert.FlashFwdReferenceIdeal.τ).loc Cert.FlashFwdReferenceIdeal.main_arg2) = m ((c.tc : Thread Cert.FlashFwdIdeal.nD Cert.FlashFwdIdeal.τ).loc Cert.FlashFwdIdeal.main_arg2)
      ∧ m' ((c.tc : Thread Cert.FlashFwdReferenceIdeal.nD Cert.FlashFwdReferenceIdeal.τ).loc Cert.FlashFwdReferenceIdeal.main_arg3) = m ((c.tc : Thread Cert.FlashFwdIdeal.nD Cert.FlashFwdIdeal.τ).loc Cert.FlashFwdIdeal.main_arg3)) →
    ∃ (v0 : (c : Dev Cert.FlashFwdIdeal.nD) → Buf (Elt Ideal) ((c.tc : Thread Cert.FlashFwdIdeal.nD Cert.FlashFwdIdeal.τ).loc Cert.FlashFwdIdeal.main_v0_0)) (v1 : (c : Dev Cert.FlashFwdIdeal.nD) → Buf (Elt Ideal) ((c.tc : Thread Cert.FlashFwdIdeal.nD Cert.FlashFwdIdeal.τ).loc Cert.FlashFwdIdeal.main_v0_2)),
      θ_run (Cert.FlashFwdIdeal.defs (F := Ideal)) (onTc (τ := Cert.FlashFwdIdeal.τ) (Cert.FlashFwdIdeal.main (F := Ideal))) ⟨m, fun _ => 0, g⟩ (fun r => ∀ c : Dev Cert.FlashFwdIdeal.nD,
          r.2.mem ((c.tc : Thread Cert.FlashFwdIdeal.nD Cert.FlashFwdIdeal.τ).loc Cert.FlashFwdIdeal.main_v0_0) = v0 c
          ∧ r.2.mem ((c.tc : Thread Cert.FlashFwdIdeal.nD Cert.FlashFwdIdeal.τ).loc Cert.FlashFwdIdeal.main_v0_2) = v1 c
          ∧ r.2.mem ((c.tc : Thread Cert.FlashFwdIdeal.nD Cert.FlashFwdIdeal.τ).loc Cert.FlashFwdIdeal.main_arg0) = m ((c.tc : Thread Cert.FlashFwdIdeal.nD Cert.FlashFwdIdeal.τ).loc Cert.FlashFwdIdeal.main_arg0)
          ∧ r.2.mem ((c.tc : Thread Cert.FlashFwdIdeal.nD Cert.FlashFwdIdeal.τ).loc Cert.FlashFwdIdeal.main_arg1) = m ((c.tc : Thread Cert.FlashFwdIdeal.nD Cert.FlashFwdIdeal.τ).loc Cert.FlashFwdIdeal.main_arg1)
          ∧ r.2.mem ((c.tc : Thread Cert.FlashFwdIdeal.nD Cert.FlashFwdIdeal.τ).loc Cert.FlashFwdIdeal.main_arg2) = m ((c.tc : Thread Cert.FlashFwdIdeal.nD Cert.FlashFwdIdeal.τ).loc Cert.FlashFwdIdeal.main_arg2)
          ∧ r.2.mem ((c.tc : Thread Cert.FlashFwdIdeal.nD Cert.FlashFwdIdeal.τ).loc Cert.FlashFwdIdeal.main_arg3) = m ((c.tc : Thread Cert.FlashFwdIdeal.nD Cert.FlashFwdIdeal.τ).loc Cert.FlashFwdIdeal.main_arg3))
      ∧ θ_run (Cert.FlashFwdReferenceIdeal.defs (F := Ideal)) (onTc (τ := Cert.FlashFwdReferenceIdeal.τ) (Cert.FlashFwdReferenceIdeal.main (F := Ideal))) ⟨m', fun _ => 0, g'⟩ (fun r => ∀ c : Dev Cert.FlashFwdReferenceIdeal.nD,
          r.2.mem ((c.tc : Thread Cert.FlashFwdReferenceIdeal.nD Cert.FlashFwdReferenceIdeal.τ).loc Cert.FlashFwdReferenceIdeal.main_v23) = v0 c
          ∧ r.2.mem ((c.tc : Thread Cert.FlashFwdReferenceIdeal.nD Cert.FlashFwdReferenceIdeal.τ).loc Cert.FlashFwdReferenceIdeal.main_v24) = v1 c
          ∧ r.2.mem ((c.tc : Thread Cert.FlashFwdReferenceIdeal.nD Cert.FlashFwdReferenceIdeal.τ).loc Cert.FlashFwdReferenceIdeal.main_arg0) = m' ((c.tc : Thread Cert.FlashFwdReferenceIdeal.nD Cert.FlashFwdReferenceIdeal.τ).loc Cert.FlashFwdReferenceIdeal.main_arg0)
          ∧ r.2.mem ((c.tc : Thread Cert.FlashFwdReferenceIdeal.nD Cert.FlashFwdReferenceIdeal.τ).loc Cert.FlashFwdReferenceIdeal.main_arg1) = m' ((c.tc : Thread Cert.FlashFwdReferenceIdeal.nD Cert.FlashFwdReferenceIdeal.τ).loc Cert.FlashFwdReferenceIdeal.main_arg1)
          ∧ r.2.mem ((c.tc : Thread Cert.FlashFwdReferenceIdeal.nD Cert.FlashFwdReferenceIdeal.τ).loc Cert.FlashFwdReferenceIdeal.main_arg2) = m' ((c.tc : Thread Cert.FlashFwdReferenceIdeal.nD Cert.FlashFwdReferenceIdeal.τ).loc Cert.FlashFwdReferenceIdeal.main_arg2)
          ∧ r.2.mem ((c.tc : Thread Cert.FlashFwdReferenceIdeal.nD Cert.FlashFwdReferenceIdeal.τ).loc Cert.FlashFwdReferenceIdeal.main_arg3) = m' ((c.tc : Thread Cert.FlashFwdReferenceIdeal.nD Cert.FlashFwdReferenceIdeal.τ).loc Cert.FlashFwdReferenceIdeal.main_arg3))

def preserves_LossHead_LossHeadIdeal : Prop :=
  True

def algebraic_LossHeadIdeal_LossHeadReferenceIdeal [hLossHeadIdeal : Cert.LossHeadIdeal.Facts] [hLossHeadReferenceIdeal : Cert.LossHeadReferenceIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadReferenceIdeal.nD Cert.LossHeadReferenceIdeal.τ Cert.LossHeadReferenceIdeal.sig) → Buf (Elt Ideal) ℓ) (g' : Dev Cert.LossHeadReferenceIdeal.nD → PrngReg), Pre_LossHeadIdeal m →
    (∀ c : Dev Cert.LossHeadIdeal.nD,
      m' ((c.tc : Thread Cert.LossHeadReferenceIdeal.nD Cert.LossHeadReferenceIdeal.τ).loc Cert.LossHeadReferenceIdeal.main_arg0) = m ((c.tc : Thread Cert.LossHeadIdeal.nD Cert.LossHeadIdeal.τ).loc Cert.LossHeadIdeal.main_arg0)
      ∧ m' ((c.tc : Thread Cert.LossHeadReferenceIdeal.nD Cert.LossHeadReferenceIdeal.τ).loc Cert.LossHeadReferenceIdeal.main_arg1) = m ((c.tc : Thread Cert.LossHeadIdeal.nD Cert.LossHeadIdeal.τ).loc Cert.LossHeadIdeal.main_arg1)) →
    ∃ (v0 : (c : Dev Cert.LossHeadIdeal.nD) → Buf (Elt Ideal) ((c.tc : Thread Cert.LossHeadIdeal.nD Cert.LossHeadIdeal.τ).loc Cert.LossHeadIdeal.main_v0_0)) (v1 : (c : Dev Cert.LossHeadIdeal.nD) → Buf (Elt Ideal) ((c.tc : Thread Cert.LossHeadIdeal.nD Cert.LossHeadIdeal.τ).loc Cert.LossHeadIdeal.main_v0_1)) (v2 : (c : Dev Cert.LossHeadIdeal.nD) → Buf (Elt Ideal) ((c.tc : Thread Cert.LossHeadIdeal.nD Cert.LossHeadIdeal.τ).loc Cert.LossHeadIdeal.main_v0_2)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v0_0) = v0 c
          ∧ r.2.mem ((c.tc : Thread Cert.LossHeadIdeal.nD Cert.LossHeadIdeal.τ).loc Cert.LossHeadIdeal.main_v0_1) = v1 c
          ∧ r.2.mem ((c.tc : Thread Cert.LossHeadIdeal.nD Cert.LossHeadIdeal.τ).loc Cert.LossHeadIdeal.main_v0_2) = v2 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1))
      ∧ θ_run (Cert.LossHeadReferenceIdeal.defs (F := Ideal)) (onTc (τ := Cert.LossHeadReferenceIdeal.τ) (Cert.LossHeadReferenceIdeal.main (F := Ideal))) ⟨m', fun _ => 0, g'⟩ (fun r => ∀ c : Dev Cert.LossHeadReferenceIdeal.nD,
          r.2.mem ((c.tc : Thread Cert.LossHeadReferenceIdeal.nD Cert.LossHeadReferenceIdeal.τ).loc Cert.LossHeadReferenceIdeal.main_v18) = v0 c
          ∧ r.2.mem ((c.tc : Thread Cert.LossHeadReferenceIdeal.nD Cert.LossHeadReferenceIdeal.τ).loc Cert.LossHeadReferenceIdeal.main_v14) = v1 c
          ∧ r.2.mem ((c.tc : Thread Cert.LossHeadReferenceIdeal.nD Cert.LossHeadReferenceIdeal.τ).loc Cert.LossHeadReferenceIdeal.main_v19) = v2 c
          ∧ r.2.mem ((c.tc : Thread Cert.LossHeadReferenceIdeal.nD Cert.LossHeadReferenceIdeal.τ).loc Cert.LossHeadReferenceIdeal.main_arg0) = m' ((c.tc : Thread Cert.LossHeadReferenceIdeal.nD Cert.LossHeadReferenceIdeal.τ).loc Cert.LossHeadReferenceIdeal.main_arg0)
          ∧ r.2.mem ((c.tc : Thread Cert.LossHeadReferenceIdeal.nD Cert.LossHeadReferenceIdeal.τ).loc Cert.LossHeadReferenceIdeal.main_arg1) = m' ((c.tc : Thread Cert.LossHeadReferenceIdeal.nD Cert.LossHeadReferenceIdeal.τ).loc Cert.LossHeadReferenceIdeal.main_arg1))

def preserves_AdamSmall_AdamSmallIdeal : Prop :=
  True

def algebraic_AdamSmallIdeal_AdamSmallReferenceIdeal [hAdamSmallIdeal : Cert.AdamSmallIdeal.Facts] [hAdamSmallReferenceIdeal : Cert.AdamSmallReferenceIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallReferenceIdeal.nD Cert.AdamSmallReferenceIdeal.τ Cert.AdamSmallReferenceIdeal.sig) → Buf (Elt Ideal) ℓ) (g' : Dev Cert.AdamSmallReferenceIdeal.nD → PrngReg), Pre_AdamSmallIdeal m →
    (∀ c : Dev Cert.AdamSmallIdeal.nD,
      m' ((c.tc : Thread Cert.AdamSmallReferenceIdeal.nD Cert.AdamSmallReferenceIdeal.τ).loc Cert.AdamSmallReferenceIdeal.main_arg0) = m ((c.tc : Thread Cert.AdamSmallIdeal.nD Cert.AdamSmallIdeal.τ).loc Cert.AdamSmallIdeal.main_arg0)
      ∧ m' ((c.tc : Thread Cert.AdamSmallReferenceIdeal.nD Cert.AdamSmallReferenceIdeal.τ).loc Cert.AdamSmallReferenceIdeal.main_arg1) = m ((c.tc : Thread Cert.AdamSmallIdeal.nD Cert.AdamSmallIdeal.τ).loc Cert.AdamSmallIdeal.main_arg1)
      ∧ m' ((c.tc : Thread Cert.AdamSmallReferenceIdeal.nD Cert.AdamSmallReferenceIdeal.τ).loc Cert.AdamSmallReferenceIdeal.main_arg2) = m ((c.tc : Thread Cert.AdamSmallIdeal.nD Cert.AdamSmallIdeal.τ).loc Cert.AdamSmallIdeal.main_arg2)
      ∧ m' ((c.tc : Thread Cert.AdamSmallReferenceIdeal.nD Cert.AdamSmallReferenceIdeal.τ).loc Cert.AdamSmallReferenceIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)) (v3 : (c : Dev Cert.AdamSmallIdeal.nD) → Buf (Elt Ideal) ((c.tc : Thread Cert.AdamSmallIdeal.nD Cert.AdamSmallIdeal.τ).loc Cert.AdamSmallIdeal.main_v0_3)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_v0_3) = v3 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallReferenceIdeal.defs (F := Ideal)) (onTc (τ := Cert.AdamSmallReferenceIdeal.τ) (Cert.AdamSmallReferenceIdeal.main (F := Ideal))) ⟨m', fun _ => 0, g'⟩ (fun r => ∀ c : Dev Cert.AdamSmallReferenceIdeal.nD,
          r.2.mem ((c.tc : Thread Cert.AdamSmallReferenceIdeal.nD Cert.AdamSmallReferenceIdeal.τ).loc Cert.AdamSmallReferenceIdeal.main_arg3) = v0 c
          ∧ r.2.mem ((c.tc : Thread Cert.AdamSmallReferenceIdeal.nD Cert.AdamSmallReferenceIdeal.τ).loc Cert.AdamSmallReferenceIdeal.main_v23) = v1 c
          ∧ r.2.mem ((c.tc : Thread Cert.AdamSmallReferenceIdeal.nD Cert.AdamSmallReferenceIdeal.τ).loc Cert.AdamSmallReferenceIdeal.main_v4) = v2 c
          ∧ r.2.mem ((c.tc : Thread Cert.AdamSmallReferenceIdeal.nD Cert.AdamSmallReferenceIdeal.τ).loc Cert.AdamSmallReferenceIdeal.main_v10) = v3 c
          ∧ r.2.mem ((c.tc : Thread Cert.AdamSmallReferenceIdeal.nD Cert.AdamSmallReferenceIdeal.τ).loc Cert.AdamSmallReferenceIdeal.main_arg0) = m' ((c.tc : Thread Cert.AdamSmallReferenceIdeal.nD Cert.AdamSmallReferenceIdeal.τ).loc Cert.AdamSmallReferenceIdeal.main_arg0)
          ∧ r.2.mem ((c.tc : Thread Cert.AdamSmallReferenceIdeal.nD Cert.AdamSmallReferenceIdeal.τ).loc Cert.AdamSmallReferenceIdeal.main_arg1) = m' ((c.tc : Thread Cert.AdamSmallReferenceIdeal.nD Cert.AdamSmallReferenceIdeal.τ).loc Cert.AdamSmallReferenceIdeal.main_arg1)
          ∧ r.2.mem ((c.tc : Thread Cert.AdamSmallReferenceIdeal.nD Cert.AdamSmallReferenceIdeal.τ).loc Cert.AdamSmallReferenceIdeal.main_arg2) = m' ((c.tc : Thread Cert.AdamSmallReferenceIdeal.nD Cert.AdamSmallReferenceIdeal.τ).loc Cert.AdamSmallReferenceIdeal.main_arg2)
          ∧ r.2.mem ((c.tc : Thread Cert.AdamSmallReferenceIdeal.nD Cert.AdamSmallReferenceIdeal.τ).loc Cert.AdamSmallReferenceIdeal.main_arg3) = m' ((c.tc : Thread Cert.AdamSmallReferenceIdeal.nD Cert.AdamSmallReferenceIdeal.τ).loc Cert.AdamSmallReferenceIdeal.main_arg3))

def preserves_AdamIn_AdamInIdeal : Prop :=
  True

def algebraic_AdamInIdeal_AdamInReferenceIdeal [hAdamInIdeal : Cert.AdamInIdeal.Facts] [hAdamInReferenceIdeal : Cert.AdamInReferenceIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInReferenceIdeal.nD Cert.AdamInReferenceIdeal.τ Cert.AdamInReferenceIdeal.sig) → Buf (Elt Ideal) ℓ) (g' : Dev Cert.AdamInReferenceIdeal.nD → PrngReg), Pre_AdamInIdeal m →
    (∀ c : Dev Cert.AdamInIdeal.nD,
      m' ((c.tc : Thread Cert.AdamInReferenceIdeal.nD Cert.AdamInReferenceIdeal.τ).loc Cert.AdamInReferenceIdeal.main_arg0) = m ((c.tc : Thread Cert.AdamInIdeal.nD Cert.AdamInIdeal.τ).loc Cert.AdamInIdeal.main_arg0)
      ∧ m' ((c.tc : Thread Cert.AdamInReferenceIdeal.nD Cert.AdamInReferenceIdeal.τ).loc Cert.AdamInReferenceIdeal.main_arg1) = m ((c.tc : Thread Cert.AdamInIdeal.nD Cert.AdamInIdeal.τ).loc Cert.AdamInIdeal.main_arg1)
      ∧ m' ((c.tc : Thread Cert.AdamInReferenceIdeal.nD Cert.AdamInReferenceIdeal.τ).loc Cert.AdamInReferenceIdeal.main_arg2) = m ((c.tc : Thread Cert.AdamInIdeal.nD Cert.AdamInIdeal.τ).loc Cert.AdamInIdeal.main_arg2)
      ∧ m' ((c.tc : Thread Cert.AdamInReferenceIdeal.nD Cert.AdamInReferenceIdeal.τ).loc Cert.AdamInReferenceIdeal.main_arg3) = m ((c.tc : Thread Cert.AdamInIdeal.nD Cert.AdamInIdeal.τ).loc Cert.AdamInIdeal.main_arg3)
      ∧ m' ((c.tc : Thread Cert.AdamInReferenceIdeal.nD Cert.AdamInReferenceIdeal.τ).loc Cert.AdamInReferenceIdeal.main_arg4) = m ((c.tc : Thread Cert.AdamInIdeal.nD Cert.AdamInIdeal.τ).loc Cert.AdamInIdeal.main_arg4)
      ∧ m' ((c.tc : Thread Cert.AdamInReferenceIdeal.nD Cert.AdamInReferenceIdeal.τ).loc Cert.AdamInReferenceIdeal.main_arg5) = m ((c.tc : Thread Cert.AdamInIdeal.nD Cert.AdamInIdeal.τ).loc Cert.AdamInIdeal.main_arg5)
      ∧ m' ((c.tc : Thread Cert.AdamInReferenceIdeal.nD Cert.AdamInReferenceIdeal.τ).loc Cert.AdamInReferenceIdeal.main_arg6) = m ((c.tc : Thread Cert.AdamInIdeal.nD Cert.AdamInIdeal.τ).loc Cert.AdamInIdeal.main_arg6)
      ∧ m' ((c.tc : Thread Cert.AdamInReferenceIdeal.nD Cert.AdamInReferenceIdeal.τ).loc Cert.AdamInReferenceIdeal.main_arg7) = m ((c.tc : Thread Cert.AdamInIdeal.nD Cert.AdamInIdeal.τ).loc Cert.AdamInIdeal.main_arg7)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
          ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4)
          ∧ r.2.mem ((c.tc : Thread Cert.AdamInIdeal.nD Cert.AdamInIdeal.τ).loc Cert.AdamInIdeal.main_arg5) = m ((c.tc : Thread Cert.AdamInIdeal.nD Cert.AdamInIdeal.τ).loc Cert.AdamInIdeal.main_arg5)
          ∧ r.2.mem ((c.tc : Thread Cert.AdamInIdeal.nD Cert.AdamInIdeal.τ).loc Cert.AdamInIdeal.main_arg6) = m ((c.tc : Thread Cert.AdamInIdeal.nD Cert.AdamInIdeal.τ).loc Cert.AdamInIdeal.main_arg6)
          ∧ r.2.mem ((c.tc : Thread Cert.AdamInIdeal.nD Cert.AdamInIdeal.τ).loc Cert.AdamInIdeal.main_arg7) = m ((c.tc : Thread Cert.AdamInIdeal.nD Cert.AdamInIdeal.τ).loc Cert.AdamInIdeal.main_arg7))
      ∧ θ_run (Cert.AdamInReferenceIdeal.defs (F := Ideal)) (onTc (τ := Cert.AdamInReferenceIdeal.τ) (Cert.AdamInReferenceIdeal.main (F := Ideal))) ⟨m', fun _ => 0, g'⟩ (fun r => ∀ c : Dev Cert.AdamInReferenceIdeal.nD,
          r.2.mem ((c.tc : Thread Cert.AdamInReferenceIdeal.nD Cert.AdamInReferenceIdeal.τ).loc Cert.AdamInReferenceIdeal.main_v31) = v0 c
          ∧ r.2.mem ((c.tc : Thread Cert.AdamInReferenceIdeal.nD Cert.AdamInReferenceIdeal.τ).loc Cert.AdamInReferenceIdeal.main_v33) = v1 c
          ∧ r.2.mem ((c.tc : Thread Cert.AdamInReferenceIdeal.nD Cert.AdamInReferenceIdeal.τ).loc Cert.AdamInReferenceIdeal.main_v35) = v2 c
          ∧ r.2.mem ((c.tc : Thread Cert.AdamInReferenceIdeal.nD Cert.AdamInReferenceIdeal.τ).loc Cert.AdamInReferenceIdeal.main_v37) = v3 c
          ∧ r.2.mem ((c.tc : Thread Cert.AdamInReferenceIdeal.nD Cert.AdamInReferenceIdeal.τ).loc Cert.AdamInReferenceIdeal.main_arg0) = m' ((c.tc : Thread Cert.AdamInReferenceIdeal.nD Cert.AdamInReferenceIdeal.τ).loc Cert.AdamInReferenceIdeal.main_arg0)
          ∧ r.2.mem ((c.tc : Thread Cert.AdamInReferenceIdeal.nD Cert.AdamInReferenceIdeal.τ).loc Cert.AdamInReferenceIdeal.main_arg1) = m' ((c.tc : Thread Cert.AdamInReferenceIdeal.nD Cert.AdamInReferenceIdeal.τ).loc Cert.AdamInReferenceIdeal.main_arg1)
          ∧ r.2.mem ((c.tc : Thread Cert.AdamInReferenceIdeal.nD Cert.AdamInReferenceIdeal.τ).loc Cert.AdamInReferenceIdeal.main_arg2) = m' ((c.tc : Thread Cert.AdamInReferenceIdeal.nD Cert.AdamInReferenceIdeal.τ).loc Cert.AdamInReferenceIdeal.main_arg2)
          ∧ r.2.mem ((c.tc : Thread Cert.AdamInReferenceIdeal.nD Cert.AdamInReferenceIdeal.τ).loc Cert.AdamInReferenceIdeal.main_arg3) = m' ((c.tc : Thread Cert.AdamInReferenceIdeal.nD Cert.AdamInReferenceIdeal.τ).loc Cert.AdamInReferenceIdeal.main_arg3)
          ∧ r.2.mem ((c.tc : Thread Cert.AdamInReferenceIdeal.nD Cert.AdamInReferenceIdeal.τ).loc Cert.AdamInReferenceIdeal.main_arg4) = m' ((c.tc : Thread Cert.AdamInReferenceIdeal.nD Cert.AdamInReferenceIdeal.τ).loc Cert.AdamInReferenceIdeal.main_arg4)
          ∧ r.2.mem ((c.tc : Thread Cert.AdamInReferenceIdeal.nD Cert.AdamInReferenceIdeal.τ).loc Cert.AdamInReferenceIdeal.main_arg5) = m' ((c.tc : Thread Cert.AdamInReferenceIdeal.nD Cert.AdamInReferenceIdeal.τ).loc Cert.AdamInReferenceIdeal.main_arg5)
          ∧ r.2.mem ((c.tc : Thread Cert.AdamInReferenceIdeal.nD Cert.AdamInReferenceIdeal.τ).loc Cert.AdamInReferenceIdeal.main_arg6) = m' ((c.tc : Thread Cert.AdamInReferenceIdeal.nD Cert.AdamInReferenceIdeal.τ).loc Cert.AdamInReferenceIdeal.main_arg6)
          ∧ r.2.mem ((c.tc : Thread Cert.AdamInReferenceIdeal.nD Cert.AdamInReferenceIdeal.τ).loc Cert.AdamInReferenceIdeal.main_arg7) = m' ((c.tc : Thread Cert.AdamInReferenceIdeal.nD Cert.AdamInReferenceIdeal.τ).loc Cert.AdamInReferenceIdeal.main_arg7))

def preserves_AdamQUp_AdamQUpIdeal : Prop :=
  True

def algebraic_AdamQUpIdeal_AdamQUpReferenceIdeal [hAdamQUpIdeal : Cert.AdamQUpIdeal.Facts] [hAdamQUpReferenceIdeal : Cert.AdamQUpReferenceIdeal.Facts] : Prop :=
  ∀ (m : (ℓ : Loc Cert.AdamQUpIdeal.nD Cert.AdamQUpIdeal.τ Cert.AdamQUpIdeal.sig) → Buf (Elt Ideal) ℓ) (g : Dev Cert.AdamQUpIdeal.nD → PrngReg)
    (m' : (ℓ : Loc Cert.AdamQUpReferenceIdeal.nD Cert.AdamQUpReferenceIdeal.τ Cert.AdamQUpReferenceIdeal.sig) → Buf (Elt Ideal) ℓ) (g' : Dev Cert.AdamQUpReferenceIdeal.nD → PrngReg), Pre_AdamQUpIdeal m →
    (∀ c : Dev Cert.AdamQUpIdeal.nD,
      m' ((c.tc : Thread Cert.AdamQUpReferenceIdeal.nD Cert.AdamQUpReferenceIdeal.τ).loc Cert.AdamQUpReferenceIdeal.main_arg0) = m ((c.tc : Thread Cert.AdamQUpIdeal.nD Cert.AdamQUpIdeal.τ).loc Cert.AdamQUpIdeal.main_arg0)
      ∧ m' ((c.tc : Thread Cert.AdamQUpReferenceIdeal.nD Cert.AdamQUpReferenceIdeal.τ).loc Cert.AdamQUpReferenceIdeal.main_arg1) = m ((c.tc : Thread Cert.AdamQUpIdeal.nD Cert.AdamQUpIdeal.τ).loc Cert.AdamQUpIdeal.main_arg1)
      ∧ m' ((c.tc : Thread Cert.AdamQUpReferenceIdeal.nD Cert.AdamQUpReferenceIdeal.τ).loc Cert.AdamQUpReferenceIdeal.main_arg2) = m ((c.tc : Thread Cert.AdamQUpIdeal.nD Cert.AdamQUpIdeal.τ).loc Cert.AdamQUpIdeal.main_arg2)
      ∧ m' ((c.tc : Thread Cert.AdamQUpReferenceIdeal.nD Cert.AdamQUpReferenceIdeal.τ).loc Cert.AdamQUpReferenceIdeal.main_arg3) = m ((c.tc : Thread Cert.AdamQUpIdeal.nD Cert.AdamQUpIdeal.τ).loc Cert.AdamQUpIdeal.main_arg3)
      ∧ m' ((c.tc : Thread Cert.AdamQUpReferenceIdeal.nD Cert.AdamQUpReferenceIdeal.τ).loc Cert.AdamQUpReferenceIdeal.main_arg4) = m ((c.tc : Thread Cert.AdamQUpIdeal.nD Cert.AdamQUpIdeal.τ).loc Cert.AdamQUpIdeal.main_arg4)
      ∧ m' ((c.tc : Thread Cert.AdamQUpReferenceIdeal.nD Cert.AdamQUpReferenceIdeal.τ).loc Cert.AdamQUpReferenceIdeal.main_arg5) = m ((c.tc : Thread Cert.AdamQUpIdeal.nD Cert.AdamQUpIdeal.τ).loc Cert.AdamQUpIdeal.main_arg5)
      ∧ m' ((c.tc : Thread Cert.AdamQUpReferenceIdeal.nD Cert.AdamQUpReferenceIdeal.τ).loc Cert.AdamQUpReferenceIdeal.main_arg6) = m ((c.tc : Thread Cert.AdamQUpIdeal.nD Cert.AdamQUpIdeal.τ).loc Cert.AdamQUpIdeal.main_arg6)
      ∧ m' ((c.tc : Thread Cert.AdamQUpReferenceIdeal.nD Cert.AdamQUpReferenceIdeal.τ).loc Cert.AdamQUpReferenceIdeal.main_arg7) = m ((c.tc : Thread Cert.AdamQUpIdeal.nD Cert.AdamQUpIdeal.τ).loc Cert.AdamQUpIdeal.main_arg7)) →
    ∃ (v0 : (c : Dev Cert.AdamQUpIdeal.nD) → Buf (Elt Ideal) ((c.tc : Thread Cert.AdamQUpIdeal.nD Cert.AdamQUpIdeal.τ).loc Cert.AdamQUpIdeal.main_v0_0)) (v1 : (c : Dev Cert.AdamQUpIdeal.nD) → Buf (Elt Ideal) ((c.tc : Thread Cert.AdamQUpIdeal.nD Cert.AdamQUpIdeal.τ).loc Cert.AdamQUpIdeal.main_v0_1)) (v2 : (c : Dev Cert.AdamQUpIdeal.nD) → Buf (Elt Ideal) ((c.tc : Thread Cert.AdamQUpIdeal.nD Cert.AdamQUpIdeal.τ).loc Cert.AdamQUpIdeal.main_v0_2)) (v3 : (c : Dev Cert.AdamQUpIdeal.nD) → Buf (Elt Ideal) ((c.tc : Thread Cert.AdamQUpIdeal.nD Cert.AdamQUpIdeal.τ).loc Cert.AdamQUpIdeal.main_v0_3)),
      θ_run (Cert.AdamQUpIdeal.defs (F := Ideal)) (onTc (τ := Cert.AdamQUpIdeal.τ) (Cert.AdamQUpIdeal.main (F := Ideal))) ⟨m, fun _ => 0, g⟩ (fun r => ∀ c : Dev Cert.AdamQUpIdeal.nD,
          r.2.mem ((c.tc : Thread Cert.AdamQUpIdeal.nD Cert.AdamQUpIdeal.τ).loc Cert.AdamQUpIdeal.main_v0_0) = v0 c
          ∧ r.2.mem ((c.tc : Thread Cert.AdamQUpIdeal.nD Cert.AdamQUpIdeal.τ).loc Cert.AdamQUpIdeal.main_v0_1) = v1 c
          ∧ r.2.mem ((c.tc : Thread Cert.AdamQUpIdeal.nD Cert.AdamQUpIdeal.τ).loc Cert.AdamQUpIdeal.main_v0_2) = v2 c
          ∧ r.2.mem ((c.tc : Thread Cert.AdamQUpIdeal.nD Cert.AdamQUpIdeal.τ).loc Cert.AdamQUpIdeal.main_v0_3) = v3 c
          ∧ r.2.mem ((c.tc : Thread Cert.AdamQUpIdeal.nD Cert.AdamQUpIdeal.τ).loc Cert.AdamQUpIdeal.main_arg0) = m ((c.tc : Thread Cert.AdamQUpIdeal.nD Cert.AdamQUpIdeal.τ).loc Cert.AdamQUpIdeal.main_arg0)
          ∧ r.2.mem ((c.tc : Thread Cert.AdamQUpIdeal.nD Cert.AdamQUpIdeal.τ).loc Cert.AdamQUpIdeal.main_arg1) = m ((c.tc : Thread Cert.AdamQUpIdeal.nD Cert.AdamQUpIdeal.τ).loc Cert.AdamQUpIdeal.main_arg1)
          ∧ r.2.mem ((c.tc : Thread Cert.AdamQUpIdeal.nD Cert.AdamQUpIdeal.τ).loc Cert.AdamQUpIdeal.main_arg2) = m ((c.tc : Thread Cert.AdamQUpIdeal.nD Cert.AdamQUpIdeal.τ).loc Cert.AdamQUpIdeal.main_arg2)
          ∧ r.2.mem ((c.tc : Thread Cert.AdamQUpIdeal.nD Cert.AdamQUpIdeal.τ).loc Cert.AdamQUpIdeal.main_arg3) = m ((c.tc : Thread Cert.AdamQUpIdeal.nD Cert.AdamQUpIdeal.τ).loc Cert.AdamQUpIdeal.main_arg3)
          ∧ r.2.mem ((c.tc : Thread Cert.AdamQUpIdeal.nD Cert.AdamQUpIdeal.τ).loc Cert.AdamQUpIdeal.main_arg4) = m ((c.tc : Thread Cert.AdamQUpIdeal.nD Cert.AdamQUpIdeal.τ).loc Cert.AdamQUpIdeal.main_arg4)
          ∧ r.2.mem ((c.tc : Thread Cert.AdamQUpIdeal.nD Cert.AdamQUpIdeal.τ).loc Cert.AdamQUpIdeal.main_arg5) = m ((c.tc : Thread Cert.AdamQUpIdeal.nD Cert.AdamQUpIdeal.τ).loc Cert.AdamQUpIdeal.main_arg5)
          ∧ r.2.mem ((c.tc : Thread Cert.AdamQUpIdeal.nD Cert.AdamQUpIdeal.τ).loc Cert.AdamQUpIdeal.main_arg6) = m ((c.tc : Thread Cert.AdamQUpIdeal.nD Cert.AdamQUpIdeal.τ).loc Cert.AdamQUpIdeal.main_arg6)
          ∧ r.2.mem ((c.tc : Thread Cert.AdamQUpIdeal.nD Cert.AdamQUpIdeal.τ).loc Cert.AdamQUpIdeal.main_arg7) = m ((c.tc : Thread Cert.AdamQUpIdeal.nD Cert.AdamQUpIdeal.τ).loc Cert.AdamQUpIdeal.main_arg7))
      ∧ θ_run (Cert.AdamQUpReferenceIdeal.defs (F := Ideal)) (onTc (τ := Cert.AdamQUpReferenceIdeal.τ) (Cert.AdamQUpReferenceIdeal.main (F := Ideal))) ⟨m', fun _ => 0, g'⟩ (fun r => ∀ c : Dev Cert.AdamQUpReferenceIdeal.nD,
          r.2.mem ((c.tc : Thread Cert.AdamQUpReferenceIdeal.nD Cert.AdamQUpReferenceIdeal.τ).loc Cert.AdamQUpReferenceIdeal.main_v30) = v0 c
          ∧ r.2.mem ((c.tc : Thread Cert.AdamQUpReferenceIdeal.nD Cert.AdamQUpReferenceIdeal.τ).loc Cert.AdamQUpReferenceIdeal.main_v32) = v1 c
          ∧ r.2.mem ((c.tc : Thread Cert.AdamQUpReferenceIdeal.nD Cert.AdamQUpReferenceIdeal.τ).loc Cert.AdamQUpReferenceIdeal.main_v34) = v2 c
          ∧ r.2.mem ((c.tc : Thread Cert.AdamQUpReferenceIdeal.nD Cert.AdamQUpReferenceIdeal.τ).loc Cert.AdamQUpReferenceIdeal.main_v36) = v3 c
          ∧ r.2.mem ((c.tc : Thread Cert.AdamQUpReferenceIdeal.nD Cert.AdamQUpReferenceIdeal.τ).loc Cert.AdamQUpReferenceIdeal.main_arg0) = m' ((c.tc : Thread Cert.AdamQUpReferenceIdeal.nD Cert.AdamQUpReferenceIdeal.τ).loc Cert.AdamQUpReferenceIdeal.main_arg0)
          ∧ r.2.mem ((c.tc : Thread Cert.AdamQUpReferenceIdeal.nD Cert.AdamQUpReferenceIdeal.τ).loc Cert.AdamQUpReferenceIdeal.main_arg1) = m' ((c.tc : Thread Cert.AdamQUpReferenceIdeal.nD Cert.AdamQUpReferenceIdeal.τ).loc Cert.AdamQUpReferenceIdeal.main_arg1)
          ∧ r.2.mem ((c.tc : Thread Cert.AdamQUpReferenceIdeal.nD Cert.AdamQUpReferenceIdeal.τ).loc Cert.AdamQUpReferenceIdeal.main_arg2) = m' ((c.tc : Thread Cert.AdamQUpReferenceIdeal.nD Cert.AdamQUpReferenceIdeal.τ).loc Cert.AdamQUpReferenceIdeal.main_arg2)
          ∧ r.2.mem ((c.tc : Thread Cert.AdamQUpReferenceIdeal.nD Cert.AdamQUpReferenceIdeal.τ).loc Cert.AdamQUpReferenceIdeal.main_arg3) = m' ((c.tc : Thread Cert.AdamQUpReferenceIdeal.nD Cert.AdamQUpReferenceIdeal.τ).loc Cert.AdamQUpReferenceIdeal.main_arg3)
          ∧ r.2.mem ((c.tc : Thread Cert.AdamQUpReferenceIdeal.nD Cert.AdamQUpReferenceIdeal.τ).loc Cert.AdamQUpReferenceIdeal.main_arg4) = m' ((c.tc : Thread Cert.AdamQUpReferenceIdeal.nD Cert.AdamQUpReferenceIdeal.τ).loc Cert.AdamQUpReferenceIdeal.main_arg4)
          ∧ r.2.mem ((c.tc : Thread Cert.AdamQUpReferenceIdeal.nD Cert.AdamQUpReferenceIdeal.τ).loc Cert.AdamQUpReferenceIdeal.main_arg5) = m' ((c.tc : Thread Cert.AdamQUpReferenceIdeal.nD Cert.AdamQUpReferenceIdeal.τ).loc Cert.AdamQUpReferenceIdeal.main_arg5)
          ∧ r.2.mem ((c.tc : Thread Cert.AdamQUpReferenceIdeal.nD Cert.AdamQUpReferenceIdeal.τ).loc Cert.AdamQUpReferenceIdeal.main_arg6) = m' ((c.tc : Thread Cert.AdamQUpReferenceIdeal.nD Cert.AdamQUpReferenceIdeal.τ).loc Cert.AdamQUpReferenceIdeal.main_arg6)
          ∧ r.2.mem ((c.tc : Thread Cert.AdamQUpReferenceIdeal.nD Cert.AdamQUpReferenceIdeal.τ).loc Cert.AdamQUpReferenceIdeal.main_arg7) = m' ((c.tc : Thread Cert.AdamQUpReferenceIdeal.nD Cert.AdamQUpReferenceIdeal.τ).loc Cert.AdamQUpReferenceIdeal.main_arg7))

def preserves_AdamKvUp_AdamKvUpIdeal : Prop :=
  True

def algebraic_AdamKvUpIdeal_AdamKvUpReferenceIdeal [hAdamKvUpIdeal : Cert.AdamKvUpIdeal.Facts] [hAdamKvUpReferenceIdeal : Cert.AdamKvUpReferenceIdeal.Facts] : Prop :=
  ∀ (m : (ℓ : Loc Cert.AdamKvUpIdeal.nD Cert.AdamKvUpIdeal.τ Cert.AdamKvUpIdeal.sig) → Buf (Elt Ideal) ℓ) (g : Dev Cert.AdamKvUpIdeal.nD → PrngReg)
    (m' : (ℓ : Loc Cert.AdamKvUpReferenceIdeal.nD Cert.AdamKvUpReferenceIdeal.τ Cert.AdamKvUpReferenceIdeal.sig) → Buf (Elt Ideal) ℓ) (g' : Dev Cert.AdamKvUpReferenceIdeal.nD → PrngReg), Pre_AdamKvUpIdeal m →
    (∀ c : Dev Cert.AdamKvUpIdeal.nD,
      m' ((c.tc : Thread Cert.AdamKvUpReferenceIdeal.nD Cert.AdamKvUpReferenceIdeal.τ).loc Cert.AdamKvUpReferenceIdeal.main_arg0) = m ((c.tc : Thread Cert.AdamKvUpIdeal.nD Cert.AdamKvUpIdeal.τ).loc Cert.AdamKvUpIdeal.main_arg0)
      ∧ m' ((c.tc : Thread Cert.AdamKvUpReferenceIdeal.nD Cert.AdamKvUpReferenceIdeal.τ).loc Cert.AdamKvUpReferenceIdeal.main_arg1) = m ((c.tc : Thread Cert.AdamKvUpIdeal.nD Cert.AdamKvUpIdeal.τ).loc Cert.AdamKvUpIdeal.main_arg1)
      ∧ m' ((c.tc : Thread Cert.AdamKvUpReferenceIdeal.nD Cert.AdamKvUpReferenceIdeal.τ).loc Cert.AdamKvUpReferenceIdeal.main_arg2) = m ((c.tc : Thread Cert.AdamKvUpIdeal.nD Cert.AdamKvUpIdeal.τ).loc Cert.AdamKvUpIdeal.main_arg2)
      ∧ m' ((c.tc : Thread Cert.AdamKvUpReferenceIdeal.nD Cert.AdamKvUpReferenceIdeal.τ).loc Cert.AdamKvUpReferenceIdeal.main_arg3) = m ((c.tc : Thread Cert.AdamKvUpIdeal.nD Cert.AdamKvUpIdeal.τ).loc Cert.AdamKvUpIdeal.main_arg3)
      ∧ m' ((c.tc : Thread Cert.AdamKvUpReferenceIdeal.nD Cert.AdamKvUpReferenceIdeal.τ).loc Cert.AdamKvUpReferenceIdeal.main_arg4) = m ((c.tc : Thread Cert.AdamKvUpIdeal.nD Cert.AdamKvUpIdeal.τ).loc Cert.AdamKvUpIdeal.main_arg4)
      ∧ m' ((c.tc : Thread Cert.AdamKvUpReferenceIdeal.nD Cert.AdamKvUpReferenceIdeal.τ).loc Cert.AdamKvUpReferenceIdeal.main_arg5) = m ((c.tc : Thread Cert.AdamKvUpIdeal.nD Cert.AdamKvUpIdeal.τ).loc Cert.AdamKvUpIdeal.main_arg5)
      ∧ m' ((c.tc : Thread Cert.AdamKvUpReferenceIdeal.nD Cert.AdamKvUpReferenceIdeal.τ).loc Cert.AdamKvUpReferenceIdeal.main_arg6) = m ((c.tc : Thread Cert.AdamKvUpIdeal.nD Cert.AdamKvUpIdeal.τ).loc Cert.AdamKvUpIdeal.main_arg6)
      ∧ m' ((c.tc : Thread Cert.AdamKvUpReferenceIdeal.nD Cert.AdamKvUpReferenceIdeal.τ).loc Cert.AdamKvUpReferenceIdeal.main_arg7) = m ((c.tc : Thread Cert.AdamKvUpIdeal.nD Cert.AdamKvUpIdeal.τ).loc Cert.AdamKvUpIdeal.main_arg7)) →
    ∃ (v0 : (c : Dev Cert.AdamKvUpIdeal.nD) → Buf (Elt Ideal) ((c.tc : Thread Cert.AdamKvUpIdeal.nD Cert.AdamKvUpIdeal.τ).loc Cert.AdamKvUpIdeal.main_v0_0)) (v1 : (c : Dev Cert.AdamKvUpIdeal.nD) → Buf (Elt Ideal) ((c.tc : Thread Cert.AdamKvUpIdeal.nD Cert.AdamKvUpIdeal.τ).loc Cert.AdamKvUpIdeal.main_v0_1)) (v2 : (c : Dev Cert.AdamKvUpIdeal.nD) → Buf (Elt Ideal) ((c.tc : Thread Cert.AdamKvUpIdeal.nD Cert.AdamKvUpIdeal.τ).loc Cert.AdamKvUpIdeal.main_v0_2)) (v3 : (c : Dev Cert.AdamKvUpIdeal.nD) → Buf (Elt Ideal) ((c.tc : Thread Cert.AdamKvUpIdeal.nD Cert.AdamKvUpIdeal.τ).loc Cert.AdamKvUpIdeal.main_v0_3)),
      θ_run (Cert.AdamKvUpIdeal.defs (F := Ideal)) (onTc (τ := Cert.AdamKvUpIdeal.τ) (Cert.AdamKvUpIdeal.main (F := Ideal))) ⟨m, fun _ => 0, g⟩ (fun r => ∀ c : Dev Cert.AdamKvUpIdeal.nD,
          r.2.mem ((c.tc : Thread Cert.AdamKvUpIdeal.nD Cert.AdamKvUpIdeal.τ).loc Cert.AdamKvUpIdeal.main_v0_0) = v0 c
          ∧ r.2.mem ((c.tc : Thread Cert.AdamKvUpIdeal.nD Cert.AdamKvUpIdeal.τ).loc Cert.AdamKvUpIdeal.main_v0_1) = v1 c
          ∧ r.2.mem ((c.tc : Thread Cert.AdamKvUpIdeal.nD Cert.AdamKvUpIdeal.τ).loc Cert.AdamKvUpIdeal.main_v0_2) = v2 c
          ∧ r.2.mem ((c.tc : Thread Cert.AdamKvUpIdeal.nD Cert.AdamKvUpIdeal.τ).loc Cert.AdamKvUpIdeal.main_v0_3) = v3 c
          ∧ r.2.mem ((c.tc : Thread Cert.AdamKvUpIdeal.nD Cert.AdamKvUpIdeal.τ).loc Cert.AdamKvUpIdeal.main_arg0) = m ((c.tc : Thread Cert.AdamKvUpIdeal.nD Cert.AdamKvUpIdeal.τ).loc Cert.AdamKvUpIdeal.main_arg0)
          ∧ r.2.mem ((c.tc : Thread Cert.AdamKvUpIdeal.nD Cert.AdamKvUpIdeal.τ).loc Cert.AdamKvUpIdeal.main_arg1) = m ((c.tc : Thread Cert.AdamKvUpIdeal.nD Cert.AdamKvUpIdeal.τ).loc Cert.AdamKvUpIdeal.main_arg1)
          ∧ r.2.mem ((c.tc : Thread Cert.AdamKvUpIdeal.nD Cert.AdamKvUpIdeal.τ).loc Cert.AdamKvUpIdeal.main_arg2) = m ((c.tc : Thread Cert.AdamKvUpIdeal.nD Cert.AdamKvUpIdeal.τ).loc Cert.AdamKvUpIdeal.main_arg2)
          ∧ r.2.mem ((c.tc : Thread Cert.AdamKvUpIdeal.nD Cert.AdamKvUpIdeal.τ).loc Cert.AdamKvUpIdeal.main_arg3) = m ((c.tc : Thread Cert.AdamKvUpIdeal.nD Cert.AdamKvUpIdeal.τ).loc Cert.AdamKvUpIdeal.main_arg3)
          ∧ r.2.mem ((c.tc : Thread Cert.AdamKvUpIdeal.nD Cert.AdamKvUpIdeal.τ).loc Cert.AdamKvUpIdeal.main_arg4) = m ((c.tc : Thread Cert.AdamKvUpIdeal.nD Cert.AdamKvUpIdeal.τ).loc Cert.AdamKvUpIdeal.main_arg4)
          ∧ r.2.mem ((c.tc : Thread Cert.AdamKvUpIdeal.nD Cert.AdamKvUpIdeal.τ).loc Cert.AdamKvUpIdeal.main_arg5) = m ((c.tc : Thread Cert.AdamKvUpIdeal.nD Cert.AdamKvUpIdeal.τ).loc Cert.AdamKvUpIdeal.main_arg5)
          ∧ r.2.mem ((c.tc : Thread Cert.AdamKvUpIdeal.nD Cert.AdamKvUpIdeal.τ).loc Cert.AdamKvUpIdeal.main_arg6) = m ((c.tc : Thread Cert.AdamKvUpIdeal.nD Cert.AdamKvUpIdeal.τ).loc Cert.AdamKvUpIdeal.main_arg6)
          ∧ r.2.mem ((c.tc : Thread Cert.AdamKvUpIdeal.nD Cert.AdamKvUpIdeal.τ).loc Cert.AdamKvUpIdeal.main_arg7) = m ((c.tc : Thread Cert.AdamKvUpIdeal.nD Cert.AdamKvUpIdeal.τ).loc Cert.AdamKvUpIdeal.main_arg7))
      ∧ θ_run (Cert.AdamKvUpReferenceIdeal.defs (F := Ideal)) (onTc (τ := Cert.AdamKvUpReferenceIdeal.τ) (Cert.AdamKvUpReferenceIdeal.main (F := Ideal))) ⟨m', fun _ => 0, g'⟩ (fun r => ∀ c : Dev Cert.AdamKvUpReferenceIdeal.nD,
          r.2.mem ((c.tc : Thread Cert.AdamKvUpReferenceIdeal.nD Cert.AdamKvUpReferenceIdeal.τ).loc Cert.AdamKvUpReferenceIdeal.main_v30) = v0 c
          ∧ r.2.mem ((c.tc : Thread Cert.AdamKvUpReferenceIdeal.nD Cert.AdamKvUpReferenceIdeal.τ).loc Cert.AdamKvUpReferenceIdeal.main_v32) = v1 c
          ∧ r.2.mem ((c.tc : Thread Cert.AdamKvUpReferenceIdeal.nD Cert.AdamKvUpReferenceIdeal.τ).loc Cert.AdamKvUpReferenceIdeal.main_v34) = v2 c
          ∧ r.2.mem ((c.tc : Thread Cert.AdamKvUpReferenceIdeal.nD Cert.AdamKvUpReferenceIdeal.τ).loc Cert.AdamKvUpReferenceIdeal.main_v36) = v3 c
          ∧ r.2.mem ((c.tc : Thread Cert.AdamKvUpReferenceIdeal.nD Cert.AdamKvUpReferenceIdeal.τ).loc Cert.AdamKvUpReferenceIdeal.main_arg0) = m' ((c.tc : Thread Cert.AdamKvUpReferenceIdeal.nD Cert.AdamKvUpReferenceIdeal.τ).loc Cert.AdamKvUpReferenceIdeal.main_arg0)
          ∧ r.2.mem ((c.tc : Thread Cert.AdamKvUpReferenceIdeal.nD Cert.AdamKvUpReferenceIdeal.τ).loc Cert.AdamKvUpReferenceIdeal.main_arg1) = m' ((c.tc : Thread Cert.AdamKvUpReferenceIdeal.nD Cert.AdamKvUpReferenceIdeal.τ).loc Cert.AdamKvUpReferenceIdeal.main_arg1)
          ∧ r.2.mem ((c.tc : Thread Cert.AdamKvUpReferenceIdeal.nD Cert.AdamKvUpReferenceIdeal.τ).loc Cert.AdamKvUpReferenceIdeal.main_arg2) = m' ((c.tc : Thread Cert.AdamKvUpReferenceIdeal.nD Cert.AdamKvUpReferenceIdeal.τ).loc Cert.AdamKvUpReferenceIdeal.main_arg2)
          ∧ r.2.mem ((c.tc : Thread Cert.AdamKvUpReferenceIdeal.nD Cert.AdamKvUpReferenceIdeal.τ).loc Cert.AdamKvUpReferenceIdeal.main_arg3) = m' ((c.tc : Thread Cert.AdamKvUpReferenceIdeal.nD Cert.AdamKvUpReferenceIdeal.τ).loc Cert.AdamKvUpReferenceIdeal.main_arg3)
          ∧ r.2.mem ((c.tc : Thread Cert.AdamKvUpReferenceIdeal.nD Cert.AdamKvUpReferenceIdeal.τ).loc Cert.AdamKvUpReferenceIdeal.main_arg4) = m' ((c.tc : Thread Cert.AdamKvUpReferenceIdeal.nD Cert.AdamKvUpReferenceIdeal.τ).loc Cert.AdamKvUpReferenceIdeal.main_arg4)
          ∧ r.2.mem ((c.tc : Thread Cert.AdamKvUpReferenceIdeal.nD Cert.AdamKvUpReferenceIdeal.τ).loc Cert.AdamKvUpReferenceIdeal.main_arg5) = m' ((c.tc : Thread Cert.AdamKvUpReferenceIdeal.nD Cert.AdamKvUpReferenceIdeal.τ).loc Cert.AdamKvUpReferenceIdeal.main_arg5)
          ∧ r.2.mem ((c.tc : Thread Cert.AdamKvUpReferenceIdeal.nD Cert.AdamKvUpReferenceIdeal.τ).loc Cert.AdamKvUpReferenceIdeal.main_arg6) = m' ((c.tc : Thread Cert.AdamKvUpReferenceIdeal.nD Cert.AdamKvUpReferenceIdeal.τ).loc Cert.AdamKvUpReferenceIdeal.main_arg6)
          ∧ r.2.mem ((c.tc : Thread Cert.AdamKvUpReferenceIdeal.nD Cert.AdamKvUpReferenceIdeal.τ).loc Cert.AdamKvUpReferenceIdeal.main_arg7) = m' ((c.tc : Thread Cert.AdamKvUpReferenceIdeal.nD Cert.AdamKvUpReferenceIdeal.τ).loc Cert.AdamKvUpReferenceIdeal.main_arg7))

def preserves_AdamOut_AdamOutIdeal : Prop :=
  True

def algebraic_AdamOutIdeal_AdamOutReferenceIdeal [hAdamOutIdeal : Cert.AdamOutIdeal.Facts] [hAdamOutReferenceIdeal : Cert.AdamOutReferenceIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutReferenceIdeal.nD Cert.AdamOutReferenceIdeal.τ Cert.AdamOutReferenceIdeal.sig) → Buf (Elt Ideal) ℓ) (g' : Dev Cert.AdamOutReferenceIdeal.nD → PrngReg), Pre_AdamOutIdeal m →
    (∀ c : Dev Cert.AdamOutIdeal.nD,
      m' ((c.tc : Thread Cert.AdamOutReferenceIdeal.nD Cert.AdamOutReferenceIdeal.τ).loc Cert.AdamOutReferenceIdeal.main_arg0) = m ((c.tc : Thread Cert.AdamOutIdeal.nD Cert.AdamOutIdeal.τ).loc Cert.AdamOutIdeal.main_arg0)
      ∧ m' ((c.tc : Thread Cert.AdamOutReferenceIdeal.nD Cert.AdamOutReferenceIdeal.τ).loc Cert.AdamOutReferenceIdeal.main_arg1) = m ((c.tc : Thread Cert.AdamOutIdeal.nD Cert.AdamOutIdeal.τ).loc Cert.AdamOutIdeal.main_arg1)
      ∧ m' ((c.tc : Thread Cert.AdamOutReferenceIdeal.nD Cert.AdamOutReferenceIdeal.τ).loc Cert.AdamOutReferenceIdeal.main_arg2) = m ((c.tc : Thread Cert.AdamOutIdeal.nD Cert.AdamOutIdeal.τ).loc Cert.AdamOutIdeal.main_arg2)
      ∧ m' ((c.tc : Thread Cert.AdamOutReferenceIdeal.nD Cert.AdamOutReferenceIdeal.τ).loc Cert.AdamOutReferenceIdeal.main_arg3) = m ((c.tc : Thread Cert.AdamOutIdeal.nD Cert.AdamOutIdeal.τ).loc Cert.AdamOutIdeal.main_arg3)
      ∧ m' ((c.tc : Thread Cert.AdamOutReferenceIdeal.nD Cert.AdamOutReferenceIdeal.τ).loc Cert.AdamOutReferenceIdeal.main_arg4) = m ((c.tc : Thread Cert.AdamOutIdeal.nD Cert.AdamOutIdeal.τ).loc Cert.AdamOutIdeal.main_arg4)
      ∧ m' ((c.tc : Thread Cert.AdamOutReferenceIdeal.nD Cert.AdamOutReferenceIdeal.τ).loc Cert.AdamOutReferenceIdeal.main_arg5) = m ((c.tc : Thread Cert.AdamOutIdeal.nD Cert.AdamOutIdeal.τ).loc Cert.AdamOutIdeal.main_arg5)
      ∧ m' ((c.tc : Thread Cert.AdamOutReferenceIdeal.nD Cert.AdamOutReferenceIdeal.τ).loc Cert.AdamOutReferenceIdeal.main_arg6) = m ((c.tc : Thread Cert.AdamOutIdeal.nD Cert.AdamOutIdeal.τ).loc Cert.AdamOutIdeal.main_arg6)
      ∧ m' ((c.tc : Thread Cert.AdamOutReferenceIdeal.nD Cert.AdamOutReferenceIdeal.τ).loc Cert.AdamOutReferenceIdeal.main_arg7) = m ((c.tc : Thread Cert.AdamOutIdeal.nD Cert.AdamOutIdeal.τ).loc Cert.AdamOutIdeal.main_arg7)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
          ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4)
          ∧ r.2.mem ((c.tc : Thread Cert.AdamOutIdeal.nD Cert.AdamOutIdeal.τ).loc Cert.AdamOutIdeal.main_arg5) = m ((c.tc : Thread Cert.AdamOutIdeal.nD Cert.AdamOutIdeal.τ).loc Cert.AdamOutIdeal.main_arg5)
          ∧ r.2.mem ((c.tc : Thread Cert.AdamOutIdeal.nD Cert.AdamOutIdeal.τ).loc Cert.AdamOutIdeal.main_arg6) = m ((c.tc : Thread Cert.AdamOutIdeal.nD Cert.AdamOutIdeal.τ).loc Cert.AdamOutIdeal.main_arg6)
          ∧ r.2.mem ((c.tc : Thread Cert.AdamOutIdeal.nD Cert.AdamOutIdeal.τ).loc Cert.AdamOutIdeal.main_arg7) = m ((c.tc : Thread Cert.AdamOutIdeal.nD Cert.AdamOutIdeal.τ).loc Cert.AdamOutIdeal.main_arg7))
      ∧ θ_run (Cert.AdamOutReferenceIdeal.defs (F := Ideal)) (onTc (τ := Cert.AdamOutReferenceIdeal.τ) (Cert.AdamOutReferenceIdeal.main (F := Ideal))) ⟨m', fun _ => 0, g'⟩ (fun r => ∀ c : Dev Cert.AdamOutReferenceIdeal.nD,
          r.2.mem ((c.tc : Thread Cert.AdamOutReferenceIdeal.nD Cert.AdamOutReferenceIdeal.τ).loc Cert.AdamOutReferenceIdeal.main_v30) = v0 c
          ∧ r.2.mem ((c.tc : Thread Cert.AdamOutReferenceIdeal.nD Cert.AdamOutReferenceIdeal.τ).loc Cert.AdamOutReferenceIdeal.main_v32) = v1 c
          ∧ r.2.mem ((c.tc : Thread Cert.AdamOutReferenceIdeal.nD Cert.AdamOutReferenceIdeal.τ).loc Cert.AdamOutReferenceIdeal.main_v34) = v2 c
          ∧ r.2.mem ((c.tc : Thread Cert.AdamOutReferenceIdeal.nD Cert.AdamOutReferenceIdeal.τ).loc Cert.AdamOutReferenceIdeal.main_v36) = v3 c
          ∧ r.2.mem ((c.tc : Thread Cert.AdamOutReferenceIdeal.nD Cert.AdamOutReferenceIdeal.τ).loc Cert.AdamOutReferenceIdeal.main_arg0) = m' ((c.tc : Thread Cert.AdamOutReferenceIdeal.nD Cert.AdamOutReferenceIdeal.τ).loc Cert.AdamOutReferenceIdeal.main_arg0)
          ∧ r.2.mem ((c.tc : Thread Cert.AdamOutReferenceIdeal.nD Cert.AdamOutReferenceIdeal.τ).loc Cert.AdamOutReferenceIdeal.main_arg1) = m' ((c.tc : Thread Cert.AdamOutReferenceIdeal.nD Cert.AdamOutReferenceIdeal.τ).loc Cert.AdamOutReferenceIdeal.main_arg1)
          ∧ r.2.mem ((c.tc : Thread Cert.AdamOutReferenceIdeal.nD Cert.AdamOutReferenceIdeal.τ).loc Cert.AdamOutReferenceIdeal.main_arg2) = m' ((c.tc : Thread Cert.AdamOutReferenceIdeal.nD Cert.AdamOutReferenceIdeal.τ).loc Cert.AdamOutReferenceIdeal.main_arg2)
          ∧ r.2.mem ((c.tc : Thread Cert.AdamOutReferenceIdeal.nD Cert.AdamOutReferenceIdeal.τ).loc Cert.AdamOutReferenceIdeal.main_arg3) = m' ((c.tc : Thread Cert.AdamOutReferenceIdeal.nD Cert.AdamOutReferenceIdeal.τ).loc Cert.AdamOutReferenceIdeal.main_arg3)
          ∧ r.2.mem ((c.tc : Thread Cert.AdamOutReferenceIdeal.nD Cert.AdamOutReferenceIdeal.τ).loc Cert.AdamOutReferenceIdeal.main_arg4) = m' ((c.tc : Thread Cert.AdamOutReferenceIdeal.nD Cert.AdamOutReferenceIdeal.τ).loc Cert.AdamOutReferenceIdeal.main_arg4)
          ∧ r.2.mem ((c.tc : Thread Cert.AdamOutReferenceIdeal.nD Cert.AdamOutReferenceIdeal.τ).loc Cert.AdamOutReferenceIdeal.main_arg5) = m' ((c.tc : Thread Cert.AdamOutReferenceIdeal.nD Cert.AdamOutReferenceIdeal.τ).loc Cert.AdamOutReferenceIdeal.main_arg5)
          ∧ r.2.mem ((c.tc : Thread Cert.AdamOutReferenceIdeal.nD Cert.AdamOutReferenceIdeal.τ).loc Cert.AdamOutReferenceIdeal.main_arg6) = m' ((c.tc : Thread Cert.AdamOutReferenceIdeal.nD Cert.AdamOutReferenceIdeal.τ).loc Cert.AdamOutReferenceIdeal.main_arg6)
          ∧ r.2.mem ((c.tc : Thread Cert.AdamOutReferenceIdeal.nD Cert.AdamOutReferenceIdeal.τ).loc Cert.AdamOutReferenceIdeal.main_arg7) = m' ((c.tc : Thread Cert.AdamOutReferenceIdeal.nD Cert.AdamOutReferenceIdeal.τ).loc Cert.AdamOutReferenceIdeal.main_arg7))

def preserves_RmsBwd_RmsBwdIdeal : Prop :=
  True

def algebraic_RmsBwdIdeal_RmsBwdReferenceIdeal [hRmsBwdIdeal : Cert.RmsBwdIdeal.Facts] [hRmsBwdReferenceIdeal : Cert.RmsBwdReferenceIdeal.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg)
    (m' : (ℓ : Loc Cert.RmsBwdReferenceIdeal.nD Cert.RmsBwdReferenceIdeal.τ Cert.RmsBwdReferenceIdeal.sig) → Buf (Elt Ideal) ℓ) (g' : Dev Cert.RmsBwdReferenceIdeal.nD → PrngReg), Pre_RmsBwdIdeal m →
    (∀ c : Dev Cert.RmsBwdIdeal.nD,
      m' ((c.tc : Thread Cert.RmsBwdReferenceIdeal.nD Cert.RmsBwdReferenceIdeal.τ).loc Cert.RmsBwdReferenceIdeal.main_arg0) = m ((c.tc : Thread Cert.RmsBwdIdeal.nD Cert.RmsBwdIdeal.τ).loc Cert.RmsBwdIdeal.main_arg0)
      ∧ m' ((c.tc : Thread Cert.RmsBwdReferenceIdeal.nD Cert.RmsBwdReferenceIdeal.τ).loc Cert.RmsBwdReferenceIdeal.main_arg1) = m ((c.tc : Thread Cert.RmsBwdIdeal.nD Cert.RmsBwdIdeal.τ).loc Cert.RmsBwdIdeal.main_arg1)
      ∧ m' ((c.tc : Thread Cert.RmsBwdReferenceIdeal.nD Cert.RmsBwdReferenceIdeal.τ).loc Cert.RmsBwdReferenceIdeal.main_arg2) = m ((c.tc : Thread Cert.RmsBwdIdeal.nD Cert.RmsBwdIdeal.τ).loc Cert.RmsBwdIdeal.main_arg2)
      ∧ m' ((c.tc : Thread Cert.RmsBwdReferenceIdeal.nD Cert.RmsBwdReferenceIdeal.τ).loc Cert.RmsBwdReferenceIdeal.main_arg3) = m ((c.tc : Thread Cert.RmsBwdIdeal.nD Cert.RmsBwdIdeal.τ).loc Cert.RmsBwdIdeal.main_arg3)) →
    ∃ (v0 : (c : Dev Cert.RmsBwdIdeal.nD) → Buf (Elt Ideal) ((c.tc : Thread Cert.RmsBwdIdeal.nD Cert.RmsBwdIdeal.τ).loc Cert.RmsBwdIdeal.main_v1_0)) (v1 : (c : Dev Cert.RmsBwdIdeal.nD) → Buf (Elt Ideal) ((c.tc : Thread Cert.RmsBwdIdeal.nD Cert.RmsBwdIdeal.τ).loc Cert.RmsBwdIdeal.main_v1_1)) (v2 : (c : Dev Cert.RmsBwdIdeal.nD) → Buf (Elt Ideal) ((c.tc : Thread Cert.RmsBwdIdeal.nD Cert.RmsBwdIdeal.τ).loc Cert.RmsBwdIdeal.main_v1_2)),
      θ_run (Cert.RmsBwdIdeal.defs (F := Ideal)) (onTc (τ := Cert.RmsBwdIdeal.τ) (Cert.RmsBwdIdeal.main (F := Ideal))) ⟨m, fun _ => 0, g⟩ (fun r => ∀ c : Dev Cert.RmsBwdIdeal.nD,
          r.2.mem ((c.tc : Thread Cert.RmsBwdIdeal.nD Cert.RmsBwdIdeal.τ).loc Cert.RmsBwdIdeal.main_v1_0) = v0 c
          ∧ r.2.mem ((c.tc : Thread Cert.RmsBwdIdeal.nD Cert.RmsBwdIdeal.τ).loc Cert.RmsBwdIdeal.main_v1_1) = v1 c
          ∧ r.2.mem ((c.tc : Thread Cert.RmsBwdIdeal.nD Cert.RmsBwdIdeal.τ).loc Cert.RmsBwdIdeal.main_v1_2) = v2 c
          ∧ r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
          ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
          ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
          ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3))
      ∧ θ_run (Cert.RmsBwdReferenceIdeal.defs (F := Ideal)) (onTc (τ := Cert.RmsBwdReferenceIdeal.τ) (Cert.RmsBwdReferenceIdeal.main (F := Ideal))) ⟨m', fun _ => 0, g'⟩ (fun r => ∀ c : Dev Cert.RmsBwdReferenceIdeal.nD,
          r.2.mem ((c.tc : Thread Cert.RmsBwdReferenceIdeal.nD Cert.RmsBwdReferenceIdeal.τ).loc Cert.RmsBwdReferenceIdeal.main_v36) = v0 c
          ∧ r.2.mem ((c.tc : Thread Cert.RmsBwdReferenceIdeal.nD Cert.RmsBwdReferenceIdeal.τ).loc Cert.RmsBwdReferenceIdeal.main_v38) = v1 c
          ∧ r.2.mem ((c.tc : Thread Cert.RmsBwdReferenceIdeal.nD Cert.RmsBwdReferenceIdeal.τ).loc Cert.RmsBwdReferenceIdeal.main_v39) = v2 c
          ∧ r.2.mem ((c.tc : Thread Cert.RmsBwdReferenceIdeal.nD Cert.RmsBwdReferenceIdeal.τ).loc Cert.RmsBwdReferenceIdeal.main_arg0) = m' ((c.tc : Thread Cert.RmsBwdReferenceIdeal.nD Cert.RmsBwdReferenceIdeal.τ).loc Cert.RmsBwdReferenceIdeal.main_arg0)
          ∧ r.2.mem ((c.tc : Thread Cert.RmsBwdReferenceIdeal.nD Cert.RmsBwdReferenceIdeal.τ).loc Cert.RmsBwdReferenceIdeal.main_arg1) = m' ((c.tc : Thread Cert.RmsBwdReferenceIdeal.nD Cert.RmsBwdReferenceIdeal.τ).loc Cert.RmsBwdReferenceIdeal.main_arg1)
          ∧ r.2.mem ((c.tc : Thread Cert.RmsBwdReferenceIdeal.nD Cert.RmsBwdReferenceIdeal.τ).loc Cert.RmsBwdReferenceIdeal.main_arg2) = m' ((c.tc : Thread Cert.RmsBwdReferenceIdeal.nD Cert.RmsBwdReferenceIdeal.τ).loc Cert.RmsBwdReferenceIdeal.main_arg2)
          ∧ r.2.mem ((c.tc : Thread Cert.RmsBwdReferenceIdeal.nD Cert.RmsBwdReferenceIdeal.τ).loc Cert.RmsBwdReferenceIdeal.main_arg3) = m' ((c.tc : Thread Cert.RmsBwdReferenceIdeal.nD Cert.RmsBwdReferenceIdeal.τ).loc Cert.RmsBwdReferenceIdeal.main_arg3))

def preserves_RmsFwd_RmsFwdIdeal : Prop :=
  True

def algebraic_RmsFwdIdeal_RmsFwdReferenceIdeal [hRmsFwdIdeal : Cert.RmsFwdIdeal.Facts] [hRmsFwdReferenceIdeal : Cert.RmsFwdReferenceIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg)
    (m' : (ℓ : Loc Cert.RmsFwdReferenceIdeal.nD Cert.RmsFwdReferenceIdeal.τ Cert.RmsFwdReferenceIdeal.sig) → Buf (Elt Ideal) ℓ) (g' : Dev Cert.RmsFwdReferenceIdeal.nD → PrngReg), Pre_RmsFwdIdeal m →
    (∀ c : Dev Cert.RmsFwdIdeal.nD,
      m' ((c.tc : Thread Cert.RmsFwdReferenceIdeal.nD Cert.RmsFwdReferenceIdeal.τ).loc Cert.RmsFwdReferenceIdeal.main_arg0) = m ((c.tc : Thread Cert.RmsFwdIdeal.nD Cert.RmsFwdIdeal.τ).loc Cert.RmsFwdIdeal.main_arg0)
      ∧ m' ((c.tc : Thread Cert.RmsFwdReferenceIdeal.nD Cert.RmsFwdReferenceIdeal.τ).loc Cert.RmsFwdReferenceIdeal.main_arg1) = m ((c.tc : Thread Cert.RmsFwdIdeal.nD Cert.RmsFwdIdeal.τ).loc Cert.RmsFwdIdeal.main_arg1)) →
    ∃ (v0 : (c : Dev Cert.RmsFwdIdeal.nD) → Buf (Elt Ideal) ((c.tc : Thread Cert.RmsFwdIdeal.nD Cert.RmsFwdIdeal.τ).loc Cert.RmsFwdIdeal.main_v1)),
      θ_run (Cert.RmsFwdIdeal.defs (F := Ideal)) (onTc (τ := Cert.RmsFwdIdeal.τ) (Cert.RmsFwdIdeal.main (F := Ideal))) ⟨m, fun _ => 0, g⟩ (fun r => ∀ c : Dev Cert.RmsFwdIdeal.nD,
          r.2.mem ((c.tc : Thread Cert.RmsFwdIdeal.nD Cert.RmsFwdIdeal.τ).loc Cert.RmsFwdIdeal.main_v1) = v0 c
          ∧ r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
          ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ θ_run (Cert.RmsFwdReferenceIdeal.defs (F := Ideal)) (onTc (τ := Cert.RmsFwdReferenceIdeal.τ) (Cert.RmsFwdReferenceIdeal.main (F := Ideal))) ⟨m', fun _ => 0, g'⟩ (fun r => ∀ c : Dev Cert.RmsFwdReferenceIdeal.nD,
          r.2.mem ((c.tc : Thread Cert.RmsFwdReferenceIdeal.nD Cert.RmsFwdReferenceIdeal.τ).loc Cert.RmsFwdReferenceIdeal.main_v13) = v0 c
          ∧ r.2.mem ((c.tc : Thread Cert.RmsFwdReferenceIdeal.nD Cert.RmsFwdReferenceIdeal.τ).loc Cert.RmsFwdReferenceIdeal.main_arg0) = m' ((c.tc : Thread Cert.RmsFwdReferenceIdeal.nD Cert.RmsFwdReferenceIdeal.τ).loc Cert.RmsFwdReferenceIdeal.main_arg0)
          ∧ r.2.mem ((c.tc : Thread Cert.RmsFwdReferenceIdeal.nD Cert.RmsFwdReferenceIdeal.τ).loc Cert.RmsFwdReferenceIdeal.main_arg1) = m' ((c.tc : Thread Cert.RmsFwdReferenceIdeal.nD Cert.RmsFwdReferenceIdeal.τ).loc Cert.RmsFwdReferenceIdeal.main_arg1))

def preserves_LatFwd_LatFwdIdeal : Prop :=
  True

def algebraic_LatFwdIdeal_LatFwdReferenceIdeal [hLatFwdIdeal : Cert.LatFwdIdeal.Facts] [hLatFwdReferenceIdeal : Cert.LatFwdReferenceIdeal.Facts] : Prop :=
  ∀ (m : (ℓ : Loc Cert.LatFwdIdeal.nD Cert.LatFwdIdeal.τ Cert.LatFwdIdeal.sig) → Buf (Elt Ideal) ℓ) (g : Dev Cert.LatFwdIdeal.nD → PrngReg)
    (m' : (ℓ : Loc Cert.LatFwdReferenceIdeal.nD Cert.LatFwdReferenceIdeal.τ Cert.LatFwdReferenceIdeal.sig) → Buf (Elt Ideal) ℓ) (g' : Dev Cert.LatFwdReferenceIdeal.nD → PrngReg), Pre_LatFwdIdeal m →
    (∀ c : Dev Cert.LatFwdIdeal.nD,
      m' ((c.tc : Thread Cert.LatFwdReferenceIdeal.nD Cert.LatFwdReferenceIdeal.τ).loc Cert.LatFwdReferenceIdeal.main_arg0) = m ((c.tc : Thread Cert.LatFwdIdeal.nD Cert.LatFwdIdeal.τ).loc Cert.LatFwdIdeal.main_arg0)
      ∧ m' ((c.tc : Thread Cert.LatFwdReferenceIdeal.nD Cert.LatFwdReferenceIdeal.τ).loc Cert.LatFwdReferenceIdeal.main_arg1) = m ((c.tc : Thread Cert.LatFwdIdeal.nD Cert.LatFwdIdeal.τ).loc Cert.LatFwdIdeal.main_arg1)
      ∧ m' ((c.tc : Thread Cert.LatFwdReferenceIdeal.nD Cert.LatFwdReferenceIdeal.τ).loc Cert.LatFwdReferenceIdeal.main_arg2) = m ((c.tc : Thread Cert.LatFwdIdeal.nD Cert.LatFwdIdeal.τ).loc Cert.LatFwdIdeal.main_arg2)) →
    ∃ (v0 : (c : Dev Cert.LatFwdIdeal.nD) → Buf (Elt Ideal) ((c.tc : Thread Cert.LatFwdIdeal.nD Cert.LatFwdIdeal.τ).loc Cert.LatFwdIdeal.main_v2_0)) (v1 : (c : Dev Cert.LatFwdIdeal.nD) → Buf (Elt Ideal) ((c.tc : Thread Cert.LatFwdIdeal.nD Cert.LatFwdIdeal.τ).loc Cert.LatFwdIdeal.main_v2_1)),
      θ_run (Cert.LatFwdIdeal.defs (F := Ideal)) (onTc (τ := Cert.LatFwdIdeal.τ) (Cert.LatFwdIdeal.main (F := Ideal))) ⟨m, fun _ => 0, g⟩ (fun r => ∀ c : Dev Cert.LatFwdIdeal.nD,
          r.2.mem ((c.tc : Thread Cert.LatFwdIdeal.nD Cert.LatFwdIdeal.τ).loc Cert.LatFwdIdeal.main_v2_0) = v0 c
          ∧ r.2.mem ((c.tc : Thread Cert.LatFwdIdeal.nD Cert.LatFwdIdeal.τ).loc Cert.LatFwdIdeal.main_v2_1) = v1 c
          ∧ r.2.mem ((c.tc : Thread Cert.LatFwdIdeal.nD Cert.LatFwdIdeal.τ).loc Cert.LatFwdIdeal.main_arg0) = m ((c.tc : Thread Cert.LatFwdIdeal.nD Cert.LatFwdIdeal.τ).loc Cert.LatFwdIdeal.main_arg0)
          ∧ r.2.mem ((c.tc : Thread Cert.LatFwdIdeal.nD Cert.LatFwdIdeal.τ).loc Cert.LatFwdIdeal.main_arg1) = m ((c.tc : Thread Cert.LatFwdIdeal.nD Cert.LatFwdIdeal.τ).loc Cert.LatFwdIdeal.main_arg1)
          ∧ r.2.mem ((c.tc : Thread Cert.LatFwdIdeal.nD Cert.LatFwdIdeal.τ).loc Cert.LatFwdIdeal.main_arg2) = m ((c.tc : Thread Cert.LatFwdIdeal.nD Cert.LatFwdIdeal.τ).loc Cert.LatFwdIdeal.main_arg2))
      ∧ θ_run (Cert.LatFwdReferenceIdeal.defs (F := Ideal)) (onTc (τ := Cert.LatFwdReferenceIdeal.τ) (Cert.LatFwdReferenceIdeal.main (F := Ideal))) ⟨m', fun _ => 0, g'⟩ (fun r => ∀ c : Dev Cert.LatFwdReferenceIdeal.nD,
          r.2.mem ((c.tc : Thread Cert.LatFwdReferenceIdeal.nD Cert.LatFwdReferenceIdeal.τ).loc Cert.LatFwdReferenceIdeal.main_v17) = v0 c
          ∧ r.2.mem ((c.tc : Thread Cert.LatFwdReferenceIdeal.nD Cert.LatFwdReferenceIdeal.τ).loc Cert.LatFwdReferenceIdeal.main_v31) = v1 c
          ∧ r.2.mem ((c.tc : Thread Cert.LatFwdReferenceIdeal.nD Cert.LatFwdReferenceIdeal.τ).loc Cert.LatFwdReferenceIdeal.main_arg0) = m' ((c.tc : Thread Cert.LatFwdReferenceIdeal.nD Cert.LatFwdReferenceIdeal.τ).loc Cert.LatFwdReferenceIdeal.main_arg0)
          ∧ r.2.mem ((c.tc : Thread Cert.LatFwdReferenceIdeal.nD Cert.LatFwdReferenceIdeal.τ).loc Cert.LatFwdReferenceIdeal.main_arg1) = m' ((c.tc : Thread Cert.LatFwdReferenceIdeal.nD Cert.LatFwdReferenceIdeal.τ).loc Cert.LatFwdReferenceIdeal.main_arg1)
          ∧ r.2.mem ((c.tc : Thread Cert.LatFwdReferenceIdeal.nD Cert.LatFwdReferenceIdeal.τ).loc Cert.LatFwdReferenceIdeal.main_arg2) = m' ((c.tc : Thread Cert.LatFwdReferenceIdeal.nD Cert.LatFwdReferenceIdeal.τ).loc Cert.LatFwdReferenceIdeal.main_arg2))

def preserves_LatBwd_LatBwdIdeal : Prop :=
  True

def algebraic_LatBwdIdeal_LatBwdReferenceIdeal [hLatBwdIdeal : Cert.LatBwdIdeal.Facts] [hLatBwdReferenceIdeal : Cert.LatBwdReferenceIdeal.Facts] : Prop :=
  ∀ (m : (ℓ : Loc Cert.LatBwdIdeal.nD Cert.LatBwdIdeal.τ Cert.LatBwdIdeal.sig) → Buf (Elt Ideal) ℓ) (g : Dev Cert.LatBwdIdeal.nD → PrngReg)
    (m' : (ℓ : Loc Cert.LatBwdReferenceIdeal.nD Cert.LatBwdReferenceIdeal.τ Cert.LatBwdReferenceIdeal.sig) → Buf (Elt Ideal) ℓ) (g' : Dev Cert.LatBwdReferenceIdeal.nD → PrngReg), Pre_LatBwdIdeal m →
    (∀ c : Dev Cert.LatBwdIdeal.nD,
      m' ((c.tc : Thread Cert.LatBwdReferenceIdeal.nD Cert.LatBwdReferenceIdeal.τ).loc Cert.LatBwdReferenceIdeal.main_arg0) = m ((c.tc : Thread Cert.LatBwdIdeal.nD Cert.LatBwdIdeal.τ).loc Cert.LatBwdIdeal.main_arg0)
      ∧ m' ((c.tc : Thread Cert.LatBwdReferenceIdeal.nD Cert.LatBwdReferenceIdeal.τ).loc Cert.LatBwdReferenceIdeal.main_arg1) = m ((c.tc : Thread Cert.LatBwdIdeal.nD Cert.LatBwdIdeal.τ).loc Cert.LatBwdIdeal.main_arg1)
      ∧ m' ((c.tc : Thread Cert.LatBwdReferenceIdeal.nD Cert.LatBwdReferenceIdeal.τ).loc Cert.LatBwdReferenceIdeal.main_arg2) = m ((c.tc : Thread Cert.LatBwdIdeal.nD Cert.LatBwdIdeal.τ).loc Cert.LatBwdIdeal.main_arg2)
      ∧ m' ((c.tc : Thread Cert.LatBwdReferenceIdeal.nD Cert.LatBwdReferenceIdeal.τ).loc Cert.LatBwdReferenceIdeal.main_arg3) = m ((c.tc : Thread Cert.LatBwdIdeal.nD Cert.LatBwdIdeal.τ).loc Cert.LatBwdIdeal.main_arg3)
      ∧ m' ((c.tc : Thread Cert.LatBwdReferenceIdeal.nD Cert.LatBwdReferenceIdeal.τ).loc Cert.LatBwdReferenceIdeal.main_arg4) = m ((c.tc : Thread Cert.LatBwdIdeal.nD Cert.LatBwdIdeal.τ).loc Cert.LatBwdIdeal.main_arg4)
      ∧ m' ((c.tc : Thread Cert.LatBwdReferenceIdeal.nD Cert.LatBwdReferenceIdeal.τ).loc Cert.LatBwdReferenceIdeal.main_arg5) = m ((c.tc : Thread Cert.LatBwdIdeal.nD Cert.LatBwdIdeal.τ).loc Cert.LatBwdIdeal.main_arg5)
      ∧ m' ((c.tc : Thread Cert.LatBwdReferenceIdeal.nD Cert.LatBwdReferenceIdeal.τ).loc Cert.LatBwdReferenceIdeal.main_arg6) = m ((c.tc : Thread Cert.LatBwdIdeal.nD Cert.LatBwdIdeal.τ).loc Cert.LatBwdIdeal.main_arg6)) →
    ∃ (v0 : (c : Dev Cert.LatBwdIdeal.nD) → Buf (Elt Ideal) ((c.tc : Thread Cert.LatBwdIdeal.nD Cert.LatBwdIdeal.τ).loc Cert.LatBwdIdeal.main_v2_0)) (v1 : (c : Dev Cert.LatBwdIdeal.nD) → Buf (Elt Ideal) ((c.tc : Thread Cert.LatBwdIdeal.nD Cert.LatBwdIdeal.τ).loc Cert.LatBwdIdeal.main_v2_1)) (v2 : (c : Dev Cert.LatBwdIdeal.nD) → Buf (Elt Ideal) ((c.tc : Thread Cert.LatBwdIdeal.nD Cert.LatBwdIdeal.τ).loc Cert.LatBwdIdeal.main_v2_2)),
      θ_run (Cert.LatBwdIdeal.defs (F := Ideal)) (onTc (τ := Cert.LatBwdIdeal.τ) (Cert.LatBwdIdeal.main (F := Ideal))) ⟨m, fun _ => 0, g⟩ (fun r => ∀ c : Dev Cert.LatBwdIdeal.nD,
          r.2.mem ((c.tc : Thread Cert.LatBwdIdeal.nD Cert.LatBwdIdeal.τ).loc Cert.LatBwdIdeal.main_v2_0) = v0 c
          ∧ r.2.mem ((c.tc : Thread Cert.LatBwdIdeal.nD Cert.LatBwdIdeal.τ).loc Cert.LatBwdIdeal.main_v2_1) = v1 c
          ∧ r.2.mem ((c.tc : Thread Cert.LatBwdIdeal.nD Cert.LatBwdIdeal.τ).loc Cert.LatBwdIdeal.main_v2_2) = v2 c
          ∧ r.2.mem ((c.tc : Thread Cert.LatBwdIdeal.nD Cert.LatBwdIdeal.τ).loc Cert.LatBwdIdeal.main_arg0) = m ((c.tc : Thread Cert.LatBwdIdeal.nD Cert.LatBwdIdeal.τ).loc Cert.LatBwdIdeal.main_arg0)
          ∧ r.2.mem ((c.tc : Thread Cert.LatBwdIdeal.nD Cert.LatBwdIdeal.τ).loc Cert.LatBwdIdeal.main_arg1) = m ((c.tc : Thread Cert.LatBwdIdeal.nD Cert.LatBwdIdeal.τ).loc Cert.LatBwdIdeal.main_arg1)
          ∧ r.2.mem ((c.tc : Thread Cert.LatBwdIdeal.nD Cert.LatBwdIdeal.τ).loc Cert.LatBwdIdeal.main_arg2) = m ((c.tc : Thread Cert.LatBwdIdeal.nD Cert.LatBwdIdeal.τ).loc Cert.LatBwdIdeal.main_arg2)
          ∧ r.2.mem ((c.tc : Thread Cert.LatBwdIdeal.nD Cert.LatBwdIdeal.τ).loc Cert.LatBwdIdeal.main_arg3) = m ((c.tc : Thread Cert.LatBwdIdeal.nD Cert.LatBwdIdeal.τ).loc Cert.LatBwdIdeal.main_arg3)
          ∧ r.2.mem ((c.tc : Thread Cert.LatBwdIdeal.nD Cert.LatBwdIdeal.τ).loc Cert.LatBwdIdeal.main_arg4) = m ((c.tc : Thread Cert.LatBwdIdeal.nD Cert.LatBwdIdeal.τ).loc Cert.LatBwdIdeal.main_arg4)
          ∧ r.2.mem ((c.tc : Thread Cert.LatBwdIdeal.nD Cert.LatBwdIdeal.τ).loc Cert.LatBwdIdeal.main_arg5) = m ((c.tc : Thread Cert.LatBwdIdeal.nD Cert.LatBwdIdeal.τ).loc Cert.LatBwdIdeal.main_arg5)
          ∧ r.2.mem ((c.tc : Thread Cert.LatBwdIdeal.nD Cert.LatBwdIdeal.τ).loc Cert.LatBwdIdeal.main_arg6) = m ((c.tc : Thread Cert.LatBwdIdeal.nD Cert.LatBwdIdeal.τ).loc Cert.LatBwdIdeal.main_arg6))
      ∧ θ_run (Cert.LatBwdReferenceIdeal.defs (F := Ideal)) (onTc (τ := Cert.LatBwdReferenceIdeal.τ) (Cert.LatBwdReferenceIdeal.main (F := Ideal))) ⟨m', fun _ => 0, g'⟩ (fun r => ∀ c : Dev Cert.LatBwdReferenceIdeal.nD,
          r.2.mem ((c.tc : Thread Cert.LatBwdReferenceIdeal.nD Cert.LatBwdReferenceIdeal.τ).loc Cert.LatBwdReferenceIdeal.main_v84) = v0 c
          ∧ r.2.mem ((c.tc : Thread Cert.LatBwdReferenceIdeal.nD Cert.LatBwdReferenceIdeal.τ).loc Cert.LatBwdReferenceIdeal.main_v85) = v1 c
          ∧ r.2.mem ((c.tc : Thread Cert.LatBwdReferenceIdeal.nD Cert.LatBwdReferenceIdeal.τ).loc Cert.LatBwdReferenceIdeal.main_v86) = v2 c
          ∧ r.2.mem ((c.tc : Thread Cert.LatBwdReferenceIdeal.nD Cert.LatBwdReferenceIdeal.τ).loc Cert.LatBwdReferenceIdeal.main_arg0) = m' ((c.tc : Thread Cert.LatBwdReferenceIdeal.nD Cert.LatBwdReferenceIdeal.τ).loc Cert.LatBwdReferenceIdeal.main_arg0)
          ∧ r.2.mem ((c.tc : Thread Cert.LatBwdReferenceIdeal.nD Cert.LatBwdReferenceIdeal.τ).loc Cert.LatBwdReferenceIdeal.main_arg1) = m' ((c.tc : Thread Cert.LatBwdReferenceIdeal.nD Cert.LatBwdReferenceIdeal.τ).loc Cert.LatBwdReferenceIdeal.main_arg1)
          ∧ r.2.mem ((c.tc : Thread Cert.LatBwdReferenceIdeal.nD Cert.LatBwdReferenceIdeal.τ).loc Cert.LatBwdReferenceIdeal.main_arg2) = m' ((c.tc : Thread Cert.LatBwdReferenceIdeal.nD Cert.LatBwdReferenceIdeal.τ).loc Cert.LatBwdReferenceIdeal.main_arg2)
          ∧ r.2.mem ((c.tc : Thread Cert.LatBwdReferenceIdeal.nD Cert.LatBwdReferenceIdeal.τ).loc Cert.LatBwdReferenceIdeal.main_arg3) = m' ((c.tc : Thread Cert.LatBwdReferenceIdeal.nD Cert.LatBwdReferenceIdeal.τ).loc Cert.LatBwdReferenceIdeal.main_arg3)
          ∧ r.2.mem ((c.tc : Thread Cert.LatBwdReferenceIdeal.nD Cert.LatBwdReferenceIdeal.τ).loc Cert.LatBwdReferenceIdeal.main_arg4) = m' ((c.tc : Thread Cert.LatBwdReferenceIdeal.nD Cert.LatBwdReferenceIdeal.τ).loc Cert.LatBwdReferenceIdeal.main_arg4)
          ∧ r.2.mem ((c.tc : Thread Cert.LatBwdReferenceIdeal.nD Cert.LatBwdReferenceIdeal.τ).loc Cert.LatBwdReferenceIdeal.main_arg5) = m' ((c.tc : Thread Cert.LatBwdReferenceIdeal.nD Cert.LatBwdReferenceIdeal.τ).loc Cert.LatBwdReferenceIdeal.main_arg5)
          ∧ r.2.mem ((c.tc : Thread Cert.LatBwdReferenceIdeal.nD Cert.LatBwdReferenceIdeal.τ).loc Cert.LatBwdReferenceIdeal.main_arg6) = m' ((c.tc : Thread Cert.LatBwdReferenceIdeal.nD Cert.LatBwdReferenceIdeal.τ).loc Cert.LatBwdReferenceIdeal.main_arg6))

def preserves_GateBwd_GateBwdIdeal : Prop :=
  True

def algebraic_GateBwdIdeal_GateBwdReferenceIdeal_pre_finite_gate [hGateBwdIdeal : Cert.GateBwdIdeal.Facts] [hGateBwdReferenceIdeal : Cert.GateBwdReferenceIdeal.Facts] [hPre_finite_gate : Cert.Pre_finite_gate.Facts] : Prop :=
  ∀ (m : (ℓ : Loc Cert.GateBwdIdeal.nD Cert.GateBwdIdeal.τ Cert.GateBwdIdeal.sig) → Buf (Elt Ideal) ℓ) (g : Dev Cert.GateBwdIdeal.nD → PrngReg)
    (m' : (ℓ : Loc Cert.GateBwdReferenceIdeal.nD Cert.GateBwdReferenceIdeal.τ Cert.GateBwdReferenceIdeal.sig) → Buf (Elt Ideal) ℓ) (g' : Dev Cert.GateBwdReferenceIdeal.nD → PrngReg), Pre_GateBwdIdeal_finite_gate m →
    (∀ c : Dev Cert.GateBwdIdeal.nD,
      m' ((c.tc : Thread Cert.GateBwdReferenceIdeal.nD Cert.GateBwdReferenceIdeal.τ).loc Cert.GateBwdReferenceIdeal.main_arg0) = m ((c.tc : Thread Cert.GateBwdIdeal.nD Cert.GateBwdIdeal.τ).loc Cert.GateBwdIdeal.main_arg0)
      ∧ m' ((c.tc : Thread Cert.GateBwdReferenceIdeal.nD Cert.GateBwdReferenceIdeal.τ).loc Cert.GateBwdReferenceIdeal.main_arg1) = m ((c.tc : Thread Cert.GateBwdIdeal.nD Cert.GateBwdIdeal.τ).loc Cert.GateBwdIdeal.main_arg1)
      ∧ m' ((c.tc : Thread Cert.GateBwdReferenceIdeal.nD Cert.GateBwdReferenceIdeal.τ).loc Cert.GateBwdReferenceIdeal.main_arg2) = m ((c.tc : Thread Cert.GateBwdIdeal.nD Cert.GateBwdIdeal.τ).loc Cert.GateBwdIdeal.main_arg2)
      ∧ m' ((c.tc : Thread Cert.GateBwdReferenceIdeal.nD Cert.GateBwdReferenceIdeal.τ).loc Cert.GateBwdReferenceIdeal.main_arg3) = m ((c.tc : Thread Cert.GateBwdIdeal.nD Cert.GateBwdIdeal.τ).loc Cert.GateBwdIdeal.main_arg3)) →
    ∃ (v0 : (c : Dev Cert.GateBwdIdeal.nD) → Buf (Elt Ideal) ((c.tc : Thread Cert.GateBwdIdeal.nD Cert.GateBwdIdeal.τ).loc Cert.GateBwdIdeal.main_v0_0)) (v1 : (c : Dev Cert.GateBwdIdeal.nD) → Buf (Elt Ideal) ((c.tc : Thread Cert.GateBwdIdeal.nD Cert.GateBwdIdeal.τ).loc Cert.GateBwdIdeal.main_v0_1)) (v2 : (c : Dev Cert.GateBwdIdeal.nD) → Buf (Elt Ideal) ((c.tc : Thread Cert.GateBwdIdeal.nD Cert.GateBwdIdeal.τ).loc Cert.GateBwdIdeal.main_v0_2)),
      θ_run (Cert.GateBwdIdeal.defs (F := Ideal)) (onTc (τ := Cert.GateBwdIdeal.τ) (Cert.GateBwdIdeal.main (F := Ideal))) ⟨m, fun _ => 0, g⟩ (fun r => ∀ c : Dev Cert.GateBwdIdeal.nD,
          r.2.mem ((c.tc : Thread Cert.GateBwdIdeal.nD Cert.GateBwdIdeal.τ).loc Cert.GateBwdIdeal.main_v0_0) = v0 c
          ∧ r.2.mem ((c.tc : Thread Cert.GateBwdIdeal.nD Cert.GateBwdIdeal.τ).loc Cert.GateBwdIdeal.main_v0_1) = v1 c
          ∧ r.2.mem ((c.tc : Thread Cert.GateBwdIdeal.nD Cert.GateBwdIdeal.τ).loc Cert.GateBwdIdeal.main_v0_2) = v2 c
          ∧ r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
          ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
          ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2)
          ∧ r.2.mem ((c.tc : Thread Cert.GateBwdIdeal.nD Cert.GateBwdIdeal.τ).loc Cert.GateBwdIdeal.main_arg3) = m ((c.tc : Thread Cert.GateBwdIdeal.nD Cert.GateBwdIdeal.τ).loc Cert.GateBwdIdeal.main_arg3))
      ∧ θ_run (Cert.GateBwdReferenceIdeal.defs (F := Ideal)) (onTc (τ := Cert.GateBwdReferenceIdeal.τ) (Cert.GateBwdReferenceIdeal.main (F := Ideal))) ⟨m', fun _ => 0, g'⟩ (fun r => ∀ c : Dev Cert.GateBwdReferenceIdeal.nD,
          r.2.mem ((c.tc : Thread Cert.GateBwdReferenceIdeal.nD Cert.GateBwdReferenceIdeal.τ).loc Cert.GateBwdReferenceIdeal.main_v14) = v0 c
          ∧ r.2.mem ((c.tc : Thread Cert.GateBwdReferenceIdeal.nD Cert.GateBwdReferenceIdeal.τ).loc Cert.GateBwdReferenceIdeal.main_v16) = v1 c
          ∧ r.2.mem ((c.tc : Thread Cert.GateBwdReferenceIdeal.nD Cert.GateBwdReferenceIdeal.τ).loc Cert.GateBwdReferenceIdeal.main_v18) = v2 c
          ∧ r.2.mem ((c.tc : Thread Cert.GateBwdReferenceIdeal.nD Cert.GateBwdReferenceIdeal.τ).loc Cert.GateBwdReferenceIdeal.main_arg0) = m' ((c.tc : Thread Cert.GateBwdReferenceIdeal.nD Cert.GateBwdReferenceIdeal.τ).loc Cert.GateBwdReferenceIdeal.main_arg0)
          ∧ r.2.mem ((c.tc : Thread Cert.GateBwdReferenceIdeal.nD Cert.GateBwdReferenceIdeal.τ).loc Cert.GateBwdReferenceIdeal.main_arg1) = m' ((c.tc : Thread Cert.GateBwdReferenceIdeal.nD Cert.GateBwdReferenceIdeal.τ).loc Cert.GateBwdReferenceIdeal.main_arg1)
          ∧ r.2.mem ((c.tc : Thread Cert.GateBwdReferenceIdeal.nD Cert.GateBwdReferenceIdeal.τ).loc Cert.GateBwdReferenceIdeal.main_arg2) = m' ((c.tc : Thread Cert.GateBwdReferenceIdeal.nD Cert.GateBwdReferenceIdeal.τ).loc Cert.GateBwdReferenceIdeal.main_arg2)
          ∧ r.2.mem ((c.tc : Thread Cert.GateBwdReferenceIdeal.nD Cert.GateBwdReferenceIdeal.τ).loc Cert.GateBwdReferenceIdeal.main_arg3) = m' ((c.tc : Thread Cert.GateBwdReferenceIdeal.nD Cert.GateBwdReferenceIdeal.τ).loc Cert.GateBwdReferenceIdeal.main_arg3))

def Claim : Prop :=
  ∃ (hKernel : Cert.Kernel.Facts) (hKernelIdeal : Cert.KernelIdeal.Facts) (hReferenceIdeal : Cert.ReferenceIdeal.Facts) (hInProj : Cert.InProj.Facts) (hInProjIdeal : Cert.InProjIdeal.Facts) (hInProjReferenceIdeal : Cert.InProjReferenceIdeal.Facts) (hDHid : Cert.DHid.Facts) (hDHidIdeal : Cert.DHidIdeal.Facts) (hDHidReferenceIdeal : Cert.DHidReferenceIdeal.Facts) (hDwIn : Cert.DwIn.Facts) (hDwInIdeal : Cert.DwInIdeal.Facts) (hDwInReferenceIdeal : Cert.DwInReferenceIdeal.Facts) (hOutProj : Cert.OutProj.Facts) (hOutProjIdeal : Cert.OutProjIdeal.Facts) (hOutProjReferenceIdeal : Cert.OutProjReferenceIdeal.Facts) (hDMix : Cert.DMix.Facts) (hDMixIdeal : Cert.DMixIdeal.Facts) (hDMixReferenceIdeal : Cert.DMixReferenceIdeal.Facts) (hDwOut : Cert.DwOut.Facts) (hDwOutIdeal : Cert.DwOutIdeal.Facts) (hDwOutReferenceIdeal : Cert.DwOutReferenceIdeal.Facts) (hQUp : Cert.QUp.Facts) (hQUpIdeal : Cert.QUpIdeal.Facts) (hQUpReferenceIdeal : Cert.QUpReferenceIdeal.Facts) (hDQn : Cert.DQn.Facts) (hDQnIdeal : Cert.DQnIdeal.Facts) (hDQnReferenceIdeal : Cert.DQnReferenceIdeal.Facts) (hDwQ : Cert.DwQ.Facts) (hDwQIdeal : Cert.DwQIdeal.Facts) (hDwQReferenceIdeal : Cert.DwQReferenceIdeal.Facts) (hKvUp : Cert.KvUp.Facts) (hKvUpIdeal : Cert.KvUpIdeal.Facts) (hKvUpReferenceIdeal : Cert.KvUpReferenceIdeal.Facts) (hDKvn : Cert.DKvn.Facts) (hDKvnIdeal : Cert.DKvnIdeal.Facts) (hDKvnReferenceIdeal : Cert.DKvnReferenceIdeal.Facts) (hDwKv : Cert.DwKv.Facts) (hDwKvIdeal : Cert.DwKvIdeal.Facts) (hDwKvReferenceIdeal : Cert.DwKvReferenceIdeal.Facts) (hFlashFwd : Cert.FlashFwd.Facts) (hFlashFwdIdeal : Cert.FlashFwdIdeal.Facts) (hFlashFwdReferenceIdeal : Cert.FlashFwdReferenceIdeal.Facts) (hLossHead : Cert.LossHead.Facts) (hLossHeadIdeal : Cert.LossHeadIdeal.Facts) (hLossHeadReferenceIdeal : Cert.LossHeadReferenceIdeal.Facts) (hAdamSmall : Cert.AdamSmall.Facts) (hAdamSmallIdeal : Cert.AdamSmallIdeal.Facts) (hAdamSmallReferenceIdeal : Cert.AdamSmallReferenceIdeal.Facts) (hAdamIn : Cert.AdamIn.Facts) (hAdamInIdeal : Cert.AdamInIdeal.Facts) (hAdamInReferenceIdeal : Cert.AdamInReferenceIdeal.Facts) (hAdamQUp : Cert.AdamQUp.Facts) (hAdamQUpIdeal : Cert.AdamQUpIdeal.Facts) (hAdamQUpReferenceIdeal : Cert.AdamQUpReferenceIdeal.Facts) (hAdamKvUp : Cert.AdamKvUp.Facts) (hAdamKvUpIdeal : Cert.AdamKvUpIdeal.Facts) (hAdamKvUpReferenceIdeal : Cert.AdamKvUpReferenceIdeal.Facts) (hAdamOut : Cert.AdamOut.Facts) (hAdamOutIdeal : Cert.AdamOutIdeal.Facts) (hAdamOutReferenceIdeal : Cert.AdamOutReferenceIdeal.Facts) (hRmsBwd : Cert.RmsBwd.Facts) (hRmsBwdIdeal : Cert.RmsBwdIdeal.Facts) (hRmsBwdReferenceIdeal : Cert.RmsBwdReferenceIdeal.Facts) (hRmsFwd : Cert.RmsFwd.Facts) (hRmsFwdIdeal : Cert.RmsFwdIdeal.Facts) (hRmsFwdReferenceIdeal : Cert.RmsFwdReferenceIdeal.Facts) (hLatFwd : Cert.LatFwd.Facts) (hLatFwdIdeal : Cert.LatFwdIdeal.Facts) (hLatFwdReferenceIdeal : Cert.LatFwdReferenceIdeal.Facts) (hLatBwd : Cert.LatBwd.Facts) (hLatBwdIdeal : Cert.LatBwdIdeal.Facts) (hLatBwdReferenceIdeal : Cert.LatBwdReferenceIdeal.Facts) (hGateBwd : Cert.GateBwd.Facts) (hGateBwdIdeal : Cert.GateBwdIdeal.Facts) (hGateBwdReferenceIdeal : Cert.GateBwdReferenceIdeal.Facts) (hPre_finite : Cert.Pre_finite.Facts) (hPre_finite_heads : Cert.Pre_finite_heads.Facts) (hPre_finite_gate : Cert.Pre_finite_gate.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_InProj (hInProj := hInProj)
    ∧ quiescent_InProjIdeal (hInProjIdeal := hInProjIdeal)
    ∧ quiescent_InProjReferenceIdeal (hInProjReferenceIdeal := hInProjReferenceIdeal)
    ∧ quiescent_DHid (hDHid := hDHid)
    ∧ quiescent_DHidIdeal (hDHidIdeal := hDHidIdeal)
    ∧ quiescent_DHidReferenceIdeal (hDHidReferenceIdeal := hDHidReferenceIdeal)
    ∧ quiescent_DwIn (hDwIn := hDwIn)
    ∧ quiescent_DwInIdeal (hDwInIdeal := hDwInIdeal)
    ∧ quiescent_DwInReferenceIdeal (hDwInReferenceIdeal := hDwInReferenceIdeal)
    ∧ quiescent_OutProj (hOutProj := hOutProj)
    ∧ quiescent_OutProjIdeal (hOutProjIdeal := hOutProjIdeal)
    ∧ quiescent_OutProjReferenceIdeal (hOutProjReferenceIdeal := hOutProjReferenceIdeal)
    ∧ quiescent_DMix (hDMix := hDMix)
    ∧ quiescent_DMixIdeal (hDMixIdeal := hDMixIdeal)
    ∧ quiescent_DMixReferenceIdeal (hDMixReferenceIdeal := hDMixReferenceIdeal)
    ∧ quiescent_DwOut (hDwOut := hDwOut)
    ∧ quiescent_DwOutIdeal (hDwOutIdeal := hDwOutIdeal)
    ∧ quiescent_DwOutReferenceIdeal (hDwOutReferenceIdeal := hDwOutReferenceIdeal)
    ∧ quiescent_QUp (hQUp := hQUp)
    ∧ quiescent_QUpIdeal (hQUpIdeal := hQUpIdeal)
    ∧ quiescent_QUpReferenceIdeal (hQUpReferenceIdeal := hQUpReferenceIdeal)
    ∧ quiescent_DQn (hDQn := hDQn)
    ∧ quiescent_DQnIdeal (hDQnIdeal := hDQnIdeal)
    ∧ quiescent_DQnReferenceIdeal (hDQnReferenceIdeal := hDQnReferenceIdeal)
    ∧ quiescent_DwQ (hDwQ := hDwQ)
    ∧ quiescent_DwQIdeal (hDwQIdeal := hDwQIdeal)
    ∧ quiescent_DwQReferenceIdeal (hDwQReferenceIdeal := hDwQReferenceIdeal)
    ∧ quiescent_KvUp (hKvUp := hKvUp)
    ∧ quiescent_KvUpIdeal (hKvUpIdeal := hKvUpIdeal)
    ∧ quiescent_KvUpReferenceIdeal (hKvUpReferenceIdeal := hKvUpReferenceIdeal)
    ∧ quiescent_DKvn (hDKvn := hDKvn)
    ∧ quiescent_DKvnIdeal (hDKvnIdeal := hDKvnIdeal)
    ∧ quiescent_DKvnReferenceIdeal (hDKvnReferenceIdeal := hDKvnReferenceIdeal)
    ∧ quiescent_DwKv (hDwKv := hDwKv)
    ∧ quiescent_DwKvIdeal (hDwKvIdeal := hDwKvIdeal)
    ∧ quiescent_DwKvReferenceIdeal (hDwKvReferenceIdeal := hDwKvReferenceIdeal)
    ∧ quiescent_FlashFwd (hFlashFwd := hFlashFwd)
    ∧ quiescent_FlashFwdIdeal (hFlashFwdIdeal := hFlashFwdIdeal)
    ∧ quiescent_FlashFwdIdeal_pre_finite_heads (hFlashFwdIdeal := hFlashFwdIdeal) (hPre_finite_heads := hPre_finite_heads)
    ∧ quiescent_FlashFwdReferenceIdeal (hFlashFwdReferenceIdeal := hFlashFwdReferenceIdeal)
    ∧ quiescent_FlashFwdReferenceIdeal_pre_finite_heads (hFlashFwdReferenceIdeal := hFlashFwdReferenceIdeal) (hPre_finite_heads := hPre_finite_heads)
    ∧ quiescent_LossHead (hLossHead := hLossHead)
    ∧ quiescent_LossHeadIdeal (hLossHeadIdeal := hLossHeadIdeal)
    ∧ quiescent_LossHeadReferenceIdeal (hLossHeadReferenceIdeal := hLossHeadReferenceIdeal)
    ∧ quiescent_AdamSmall (hAdamSmall := hAdamSmall)
    ∧ quiescent_AdamSmallIdeal (hAdamSmallIdeal := hAdamSmallIdeal)
    ∧ quiescent_AdamSmallReferenceIdeal (hAdamSmallReferenceIdeal := hAdamSmallReferenceIdeal)
    ∧ quiescent_AdamIn (hAdamIn := hAdamIn)
    ∧ quiescent_AdamInIdeal (hAdamInIdeal := hAdamInIdeal)
    ∧ quiescent_AdamInReferenceIdeal (hAdamInReferenceIdeal := hAdamInReferenceIdeal)
    ∧ quiescent_AdamQUp (hAdamQUp := hAdamQUp)
    ∧ quiescent_AdamQUpIdeal (hAdamQUpIdeal := hAdamQUpIdeal)
    ∧ quiescent_AdamQUpReferenceIdeal (hAdamQUpReferenceIdeal := hAdamQUpReferenceIdeal)
    ∧ quiescent_AdamKvUp (hAdamKvUp := hAdamKvUp)
    ∧ quiescent_AdamKvUpIdeal (hAdamKvUpIdeal := hAdamKvUpIdeal)
    ∧ quiescent_AdamKvUpReferenceIdeal (hAdamKvUpReferenceIdeal := hAdamKvUpReferenceIdeal)
    ∧ quiescent_AdamOut (hAdamOut := hAdamOut)
    ∧ quiescent_AdamOutIdeal (hAdamOutIdeal := hAdamOutIdeal)
    ∧ quiescent_AdamOutReferenceIdeal (hAdamOutReferenceIdeal := hAdamOutReferenceIdeal)
    ∧ quiescent_RmsBwd (hRmsBwd := hRmsBwd)
    ∧ quiescent_RmsBwdIdeal (hRmsBwdIdeal := hRmsBwdIdeal)
    ∧ quiescent_RmsBwdReferenceIdeal (hRmsBwdReferenceIdeal := hRmsBwdReferenceIdeal)
    ∧ quiescent_RmsFwd (hRmsFwd := hRmsFwd)
    ∧ quiescent_RmsFwdIdeal (hRmsFwdIdeal := hRmsFwdIdeal)
    ∧ quiescent_RmsFwdReferenceIdeal (hRmsFwdReferenceIdeal := hRmsFwdReferenceIdeal)
    ∧ quiescent_LatFwd (hLatFwd := hLatFwd)
    ∧ quiescent_LatFwdIdeal (hLatFwdIdeal := hLatFwdIdeal)
    ∧ quiescent_LatFwdReferenceIdeal (hLatFwdReferenceIdeal := hLatFwdReferenceIdeal)
    ∧ quiescent_LatBwd (hLatBwd := hLatBwd)
    ∧ quiescent_LatBwdIdeal (hLatBwdIdeal := hLatBwdIdeal)
    ∧ quiescent_LatBwdReferenceIdeal (hLatBwdReferenceIdeal := hLatBwdReferenceIdeal)
    ∧ quiescent_GateBwd (hGateBwd := hGateBwd)
    ∧ quiescent_GateBwdIdeal (hGateBwdIdeal := hGateBwdIdeal)
    ∧ quiescent_GateBwdIdeal_pre_finite_gate (hGateBwdIdeal := hGateBwdIdeal) (hPre_finite_gate := hPre_finite_gate)
    ∧ quiescent_GateBwdReferenceIdeal (hGateBwdReferenceIdeal := hGateBwdReferenceIdeal)
    ∧ quiescent_GateBwdReferenceIdeal_pre_finite_gate (hGateBwdReferenceIdeal := hGateBwdReferenceIdeal) (hPre_finite_gate := hPre_finite_gate)
    ∧ preserves_Kernel_KernelIdeal
    ∧ algebraic_KernelIdeal_ReferenceIdeal_pre_finite (hKernelIdeal := hKernelIdeal) (hReferenceIdeal := hReferenceIdeal) (hPre_finite := hPre_finite)
    ∧ preserves_InProj_InProjIdeal
    ∧ algebraic_InProjIdeal_InProjReferenceIdeal (hInProjIdeal := hInProjIdeal) (hInProjReferenceIdeal := hInProjReferenceIdeal)
    ∧ preserves_DHid_DHidIdeal
    ∧ algebraic_DHidIdeal_DHidReferenceIdeal (hDHidIdeal := hDHidIdeal) (hDHidReferenceIdeal := hDHidReferenceIdeal)
    ∧ preserves_DwIn_DwInIdeal
    ∧ algebraic_DwInIdeal_DwInReferenceIdeal (hDwInIdeal := hDwInIdeal) (hDwInReferenceIdeal := hDwInReferenceIdeal)
    ∧ preserves_OutProj_OutProjIdeal
    ∧ algebraic_OutProjIdeal_OutProjReferenceIdeal (hOutProjIdeal := hOutProjIdeal) (hOutProjReferenceIdeal := hOutProjReferenceIdeal)
    ∧ preserves_DMix_DMixIdeal
    ∧ algebraic_DMixIdeal_DMixReferenceIdeal (hDMixIdeal := hDMixIdeal) (hDMixReferenceIdeal := hDMixReferenceIdeal)
    ∧ preserves_DwOut_DwOutIdeal
    ∧ algebraic_DwOutIdeal_DwOutReferenceIdeal (hDwOutIdeal := hDwOutIdeal) (hDwOutReferenceIdeal := hDwOutReferenceIdeal)
    ∧ preserves_QUp_QUpIdeal
    ∧ algebraic_QUpIdeal_QUpReferenceIdeal (hQUpIdeal := hQUpIdeal) (hQUpReferenceIdeal := hQUpReferenceIdeal)
    ∧ preserves_DQn_DQnIdeal
    ∧ algebraic_DQnIdeal_DQnReferenceIdeal (hDQnIdeal := hDQnIdeal) (hDQnReferenceIdeal := hDQnReferenceIdeal)
    ∧ preserves_DwQ_DwQIdeal
    ∧ algebraic_DwQIdeal_DwQReferenceIdeal (hDwQIdeal := hDwQIdeal) (hDwQReferenceIdeal := hDwQReferenceIdeal)
    ∧ preserves_KvUp_KvUpIdeal
    ∧ algebraic_KvUpIdeal_KvUpReferenceIdeal (hKvUpIdeal := hKvUpIdeal) (hKvUpReferenceIdeal := hKvUpReferenceIdeal)
    ∧ preserves_DKvn_DKvnIdeal
    ∧ algebraic_DKvnIdeal_DKvnReferenceIdeal (hDKvnIdeal := hDKvnIdeal) (hDKvnReferenceIdeal := hDKvnReferenceIdeal)
    ∧ preserves_DwKv_DwKvIdeal
    ∧ algebraic_DwKvIdeal_DwKvReferenceIdeal (hDwKvIdeal := hDwKvIdeal) (hDwKvReferenceIdeal := hDwKvReferenceIdeal)
    ∧ preserves_FlashFwd_FlashFwdIdeal
    ∧ algebraic_FlashFwdIdeal_FlashFwdReferenceIdeal_pre_finite_heads (hFlashFwdIdeal := hFlashFwdIdeal) (hFlashFwdReferenceIdeal := hFlashFwdReferenceIdeal) (hPre_finite_heads := hPre_finite_heads)
    ∧ preserves_LossHead_LossHeadIdeal
    ∧ algebraic_LossHeadIdeal_LossHeadReferenceIdeal (hLossHeadIdeal := hLossHeadIdeal) (hLossHeadReferenceIdeal := hLossHeadReferenceIdeal)
    ∧ preserves_AdamSmall_AdamSmallIdeal
    ∧ algebraic_AdamSmallIdeal_AdamSmallReferenceIdeal (hAdamSmallIdeal := hAdamSmallIdeal) (hAdamSmallReferenceIdeal := hAdamSmallReferenceIdeal)
    ∧ preserves_AdamIn_AdamInIdeal
    ∧ algebraic_AdamInIdeal_AdamInReferenceIdeal (hAdamInIdeal := hAdamInIdeal) (hAdamInReferenceIdeal := hAdamInReferenceIdeal)
    ∧ preserves_AdamQUp_AdamQUpIdeal
    ∧ algebraic_AdamQUpIdeal_AdamQUpReferenceIdeal (hAdamQUpIdeal := hAdamQUpIdeal) (hAdamQUpReferenceIdeal := hAdamQUpReferenceIdeal)
    ∧ preserves_AdamKvUp_AdamKvUpIdeal
    ∧ algebraic_AdamKvUpIdeal_AdamKvUpReferenceIdeal (hAdamKvUpIdeal := hAdamKvUpIdeal) (hAdamKvUpReferenceIdeal := hAdamKvUpReferenceIdeal)
    ∧ preserves_AdamOut_AdamOutIdeal
    ∧ algebraic_AdamOutIdeal_AdamOutReferenceIdeal (hAdamOutIdeal := hAdamOutIdeal) (hAdamOutReferenceIdeal := hAdamOutReferenceIdeal)
    ∧ preserves_RmsBwd_RmsBwdIdeal
    ∧ algebraic_RmsBwdIdeal_RmsBwdReferenceIdeal (hRmsBwdIdeal := hRmsBwdIdeal) (hRmsBwdReferenceIdeal := hRmsBwdReferenceIdeal)
    ∧ preserves_RmsFwd_RmsFwdIdeal
    ∧ algebraic_RmsFwdIdeal_RmsFwdReferenceIdeal (hRmsFwdIdeal := hRmsFwdIdeal) (hRmsFwdReferenceIdeal := hRmsFwdReferenceIdeal)
    ∧ preserves_LatFwd_LatFwdIdeal
    ∧ algebraic_LatFwdIdeal_LatFwdReferenceIdeal (hLatFwdIdeal := hLatFwdIdeal) (hLatFwdReferenceIdeal := hLatFwdReferenceIdeal)
    ∧ preserves_LatBwd_LatBwdIdeal
    ∧ algebraic_LatBwdIdeal_LatBwdReferenceIdeal (hLatBwdIdeal := hLatBwdIdeal) (hLatBwdReferenceIdeal := hLatBwdReferenceIdeal)
    ∧ preserves_GateBwd_GateBwdIdeal
    ∧ algebraic_GateBwdIdeal_GateBwdReferenceIdeal_pre_finite_gate (hGateBwdIdeal := hGateBwdIdeal) (hGateBwdReferenceIdeal := hGateBwdReferenceIdeal) (hPre_finite_gate := hPre_finite_gate)
-- ==== Pre_finite.lean ====
abbrev S16x4096x256 : Shape := ⟨3, ![16, 4096, 256]⟩
abbrev S16x4096x128 : Shape := ⟨3, ![16, 4096, 128]⟩
abbrev S4096x2048 : Shape := ⟨2, ![4096, 2048]⟩
abbrev S_ : Shape := ⟨0, ![]⟩

class Facts : Prop where
  bitsLt_bf16_f32 : FTy.bits .bf16 < FTy.bits .f32
  bcast_S_S16x4096x256 : S_.BroadcastsInDim S16x4096x256 (![] : Fin 0 → Fin S16x4096x256.rank)
  bcast_S_S16x4096x128 : S_.BroadcastsInDim S16x4096x128 (![] : Fin 0 → Fin S16x4096x128.rank)
  bcast_S_S4096x2048 : S_.BroadcastsInDim S4096x2048 (![] : Fin 0 → Fin S4096x2048.rank)

variable [Facts]

def fn {F : FTy → Type} [FloatOps F] (main_arg0 : FVec F S16x4096x256 .bf16) (main_arg1 : FVec F S16x4096x256 .bf16) (main_arg2 : FVec F S16x4096x128 .bf16) (main_arg3 : FVec F S4096x2048 .bf16) : IVec S16x4096x256 1 × IVec S16x4096x256 1 × IVec S16x4096x128 1 × IVec S4096x2048 1 :=
  let main_v0 : FVec F S16x4096x256 .f32 := (extf .f32 · bitsLt_bf16_f32) main_arg0
  let main_v1 : FVec F S16x4096x256 .f32 := Host.absf main_v0
  let main_cst : FVec F S_ .f32 := constant S_ .f32 0x7F800000#32
  let main_v2 : FVec F S16x4096x256 .f32 := broadcastInDim S16x4096x256 ![] bcast_S_S16x4096x256 main_cst
  let main_v3 : IVec S16x4096x256 1 := cmpf .olt main_v1 main_v2
  let main_v4 : FVec F S16x4096x256 .f32 := (extf .f32 · bitsLt_bf16_f32) main_arg1
  let main_v5 : FVec F S16x4096x256 .f32 := Host.absf main_v4
  let main_cst_0 : FVec F S_ .f32 := constant S_ .f32 0x7F800000#32
  let main_v6 : FVec F S16x4096x256 .f32 := broadcastInDim S16x4096x256 ![] bcast_S_S16x4096x256 main_cst_0
  let main_v7 : IVec S16x4096x256 1 := cmpf .olt main_v5 main_v6
  let main_v8 : FVec F S16x4096x128 .f32 := (extf .f32 · bitsLt_bf16_f32) main_arg2
  let main_v9 : FVec F S16x4096x128 .f32 := Host.absf main_v8
  let main_cst_1 : FVec F S_ .f32 := constant S_ .f32 0x7F800000#32
  let main_v10 : FVec F S16x4096x128 .f32 := broadcastInDim S16x4096x128 ![] bcast_S_S16x4096x128 main_cst_1
  let main_v11 : IVec S16x4096x128 1 := cmpf .olt main_v9 main_v10
  let main_v12 : FVec F S4096x2048 .f32 := (extf .f32 · bitsLt_bf16_f32) main_arg3
  let main_v13 : FVec F S4096x2048 .f32 := Host.absf main_v12
  let main_cst_2 : FVec F S_ .f32 := constant S_ .f32 0x7F800000#32
  let main_v14 : FVec F S4096x2048 .f32 := broadcastInDim S4096x2048 ![] bcast_S_S4096x2048 main_cst_2
  let main_v15 : IVec S4096x2048 1 := cmpf .olt main_v13 main_v14
  (main_v3, main_v7, main_v11, main_v15)
-- ==== Pre_finite_gate.lean ====
abbrev S4096x4096 : Shape := ⟨2, ![4096, 4096]⟩
abbrev S4096x2048 : Shape := ⟨2, ![4096, 2048]⟩
abbrev S4096x10240 : Shape := ⟨2, ![4096, 10240]⟩
abbrev S_ : Shape := ⟨0, ![]⟩

class Facts : Prop where
  bcast_S_S4096x4096 : S_.BroadcastsInDim S4096x4096 (![] : Fin 0 → Fin S4096x4096.rank)
  bcast_S_S4096x2048 : S_.BroadcastsInDim S4096x2048 (![] : Fin 0 → Fin S4096x2048.rank)

variable [Facts]

def fn {F : FTy → Type} [FloatOps F] (main_arg0 : FVec F S4096x4096 .f32) (main_arg1 : FVec F S4096x2048 .f32) (main_arg2 : FVec F S4096x10240 .bf16) (main_arg3 : FVec F S4096x10240 .bf16) : IVec S4096x4096 1 × IVec S4096x2048 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_v3 : FVec F S4096x2048 .f32 := Host.absf main_arg1
  let main_cst_0 : FVec F S_ .f32 := constant S_ .f32 0x7F800000#32
  let main_v4 : FVec F S4096x2048 .f32 := broadcastInDim S4096x2048 ![] bcast_S_S4096x2048 main_cst_0
  let main_v5 : IVec S4096x2048 1 := cmpf .olt main_v3 main_v4
  (main_v2, main_v5)
-- ==== Pre_finite_heads.lean ====
abbrev S16x4096x256 : Shape := ⟨3, ![16, 4096, 256]⟩
abbrev S16x4096x128 : Shape := ⟨3, ![16, 4096, 128]⟩
abbrev S4096x10240 : Shape := ⟨2, ![4096, 10240]⟩
abbrev S_ : Shape := ⟨0, ![]⟩

class Facts : Prop where
  bitsLt_bf16_f32 : FTy.bits .bf16 < FTy.bits .f32
  bcast_S_S16x4096x256 : S_.BroadcastsInDim S16x4096x256 (![] : Fin 0 → Fin S16x4096x256.rank)

variable [Facts]

def fn {F : FTy → Type} [FloatOps F] (main_arg0 : FVec F S16x4096x256 .bf16) (main_arg1 : FVec F S16x4096x256 .bf16) (main_arg2 : FVec F S16x4096x128 .bf16) (main_arg3 : FVec F S4096x10240 .bf16) : IVec S16x4096x256 1 × IVec S16x4096x256 1 :=
  let main_v0 : FVec F S16x4096x256 .f32 := (extf .f32 · bitsLt_bf16_f32) main_arg0
  let main_v1 : FVec F S16x4096x256 .f32 := Host.absf main_v0
  let main_cst : FVec F S_ .f32 := constant S_ .f32 0x7F800000#32
  let main_v2 : FVec F S16x4096x256 .f32 := broadcastInDim S16x4096x256 ![] bcast_S_S16x4096x256 main_cst
  let main_v3 : IVec S16x4096x256 1 := cmpf .olt main_v1 main_v2
  let main_v4 : FVec F S16x4096x256 .f32 := (extf .f32 · bitsLt_bf16_f32) main_arg1
  let main_v5 : FVec F S16x4096x256 .f32 := Host.absf main_v4
  let main_cst_0 : FVec F S_ .f32 := constant S_ .f32 0x7F800000#32
  let main_v6 : FVec F S16x4096x256 .f32 := broadcastInDim S16x4096x256 ![] bcast_S_S16x4096x256 main_cst_0
  let main_v7 : IVec S16x4096x256 1 := cmpf .olt main_v5 main_v6
  (main_v3, main_v7)
-- ==== Kernel.lean ====
abbrev S16x4096x256 : Shape := ⟨3, ![16, 4096, 256]⟩
abbrev S16x4096x128 : Shape := ⟨3, ![16, 4096, 128]⟩
abbrev S4096x2048 : Shape := ⟨2, ![4096, 2048]⟩
abbrev S16x2x2048x256 : Shape := ⟨4, ![16, 2, 2048, 256]⟩
abbrev S16x2x2048x128 : Shape := ⟨4, ![16, 2, 2048, 128]⟩
abbrev S16x2x2048x2048 : Shape := ⟨4, ![16, 2, 2048, 2048]⟩
abbrev S_ : Shape := ⟨0, ![]⟩
abbrev S2048x2048 : Shape := ⟨2, ![2048, 2048]⟩
abbrev S16x2x2048 : Shape := ⟨3, ![16, 2, 2048]⟩
abbrev S16x2x2048x1 : Shape := ⟨4, ![16, 2, 2048, 1]⟩
abbrev S2x2048x16x128 : Shape := ⟨4, ![2, 2048, 16, 128]⟩
abbrev S16x4096x1 : Shape := ⟨3, ![16, 4096, 1]⟩
abbrev S1x2048x256 : Shape := ⟨3, ![1, 2048, 256]⟩
abbrev S1x512x256 : Shape := ⟨3, ![1, 512, 256]⟩
abbrev S1x512x128 : Shape := ⟨3, ![1, 512, 128]⟩
abbrev S2048x128 : Shape := ⟨2, ![2048, 128]⟩
abbrev S1x2048x1 : Shape := ⟨3, ![1, 2048, 1]⟩
abbrev S2048x256 : Shape := ⟨2, ![2048, 256]⟩
abbrev S512x512 : Shape := ⟨2, ![512, 512]⟩
abbrev S512x256 : Shape := ⟨2, ![512, 256]⟩
abbrev S512x128 : Shape := ⟨2, ![512, 128]⟩
abbrev S1x512x1 : Shape := ⟨3, ![1, 512, 1]⟩
abbrev S512x1 : Shape := ⟨2, ![512, 1]⟩
abbrev S1x1536x256 : Shape := ⟨3, ![1, 1536, 256]⟩
abbrev S1536x256 : Shape := ⟨2, ![1536, 256]⟩
abbrev S1536x128 : Shape := ⟨2, ![1536, 128]⟩
abbrev S1536x512 : Shape := ⟨2, ![1536, 512]⟩
abbrev S1x1536x1 : Shape := ⟨3, ![1, 1536, 1]⟩
abbrev S1536x1 : Shape := ⟨2, ![1536, 1]⟩
abbrev S1x1024x256 : Shape := ⟨3, ![1, 1024, 256]⟩
abbrev S1024x256 : Shape := ⟨2, ![1024, 256]⟩
abbrev S1024x128 : Shape := ⟨2, ![1024, 128]⟩
abbrev S1024x512 : Shape := ⟨2, ![1024, 512]⟩
abbrev S1x1024x1 : Shape := ⟨3, ![1, 1024, 1]⟩
abbrev S1024x1 : Shape := ⟨2, ![1024, 1]⟩

abbrev nBuf : Space → Nat
  | .hbm => 53
  | .vmem => 19
  | .smem => 0
  | _ => 0

abbrev bufTy : (tb : Table) → Fin (tcTables nBuf tb) → BufTy
  | .hbm, ⟨0, _⟩ => ⟨S16x4096x256, .bf16⟩
  | .hbm, ⟨1, _⟩ => ⟨S16x4096x256, .bf16⟩
  | .hbm, ⟨2, _⟩ => ⟨S16x4096x128, .bf16⟩
  | .hbm, ⟨3, _⟩ => ⟨S4096x2048, .bf16⟩
  | .hbm, ⟨4, _⟩ => ⟨S16x4096x256, .f32⟩
  | .hbm, ⟨5, _⟩ => ⟨S16x2x2048x256, .f32⟩
  | .hbm, ⟨6, _⟩ => ⟨S16x4096x256, .f32⟩
  | .hbm, ⟨7, _⟩ => ⟨S16x2x2048x256, .f32⟩
  | .hbm, ⟨8, _⟩ => ⟨S16x4096x128, .f32⟩
  | .hbm, ⟨9, _⟩ => ⟨S16x2x2048x128, .f32⟩
  | .hbm, ⟨10, _⟩ => ⟨S16x2x2048x2048, .f32⟩
  | .hbm, ⟨11, _⟩ => ⟨S_, .i1⟩
  | .hbm, ⟨12, _⟩ => ⟨S2048x2048, .i1⟩
  | .hbm, ⟨13, _⟩ => ⟨S2048x2048, .i32⟩
  | .hbm, ⟨14, _⟩ => ⟨S_, .i32⟩
  | .hbm, ⟨15, _⟩ => ⟨S2048x2048, .i32⟩
  | .hbm, ⟨16, _⟩ => ⟨S2048x2048, .i32⟩
  | .hbm, ⟨17, _⟩ => ⟨S2048x2048, .i32⟩
  | .hbm, ⟨18, _⟩ => ⟨S2048x2048, .i1⟩
  | .hbm, ⟨19, _⟩ => ⟨S_, .i1⟩
  | .hbm, ⟨20, _⟩ => ⟨S2048x2048, .i1⟩
  | .hbm, ⟨21, _⟩ => ⟨S2048x2048, .i1⟩
  | .hbm, ⟨22, _⟩ => ⟨S_, .f32⟩
  | .hbm, ⟨23, _⟩ => ⟨S_, .f32⟩
  | .hbm, ⟨24, _⟩ => ⟨S16x2x2048x2048, .i1⟩
  | .hbm, ⟨25, _⟩ => ⟨S16x2x2048x2048, .f32⟩
  | .hbm, ⟨26, _⟩ => ⟨S16x2x2048x2048, .f32⟩
  | .hbm, ⟨27, _⟩ => ⟨S_, .f32⟩
  | .hbm, ⟨28, _⟩ => ⟨S16x2x2048, .f32⟩
  | .hbm, ⟨29, _⟩ => ⟨S16x2x2048x1, .f32⟩
  | .hbm, ⟨30, _⟩ => ⟨S16x2x2048x2048, .f32⟩
  | .hbm, ⟨31, _⟩ => ⟨S16x2x2048x2048, .f32⟩
  | .hbm, ⟨32, _⟩ => ⟨S16x2x2048x2048, .f32⟩
  | .hbm, ⟨33, _⟩ => ⟨S_, .f32⟩
  | .hbm, ⟨34, _⟩ => ⟨S16x2x2048, .f32⟩
  | .hbm, ⟨35, _⟩ => ⟨S16x2x2048x1, .f32⟩
  | .hbm, ⟨36, _⟩ => ⟨S16x2x2048x2048, .f32⟩
  | .hbm, ⟨37, _⟩ => ⟨S16x2x2048x2048, .f32⟩
  | .hbm, ⟨38, _⟩ => ⟨S16x2x2048x128, .f32⟩
  | .hbm, ⟨39, _⟩ => ⟨S16x2x2048x1, .f32⟩
  | .hbm, ⟨40, _⟩ => ⟨S16x2x2048x1, .f32⟩
  | .hbm, ⟨41, _⟩ => ⟨S4096x2048, .f32⟩
  | .hbm, ⟨42, _⟩ => ⟨S2x2048x16x128, .f32⟩
  | .hbm, ⟨43, _⟩ => ⟨S16x2x2048x128, .f32⟩
  | .hbm, ⟨44, _⟩ => ⟨S16x2x2048x128, .f32⟩
  | .hbm, ⟨45, _⟩ => ⟨S_, .f32⟩
  | .hbm, ⟨46, _⟩ => ⟨S16x2x2048, .f32⟩
  | .hbm, ⟨47, _⟩ => ⟨S16x2x2048x1, .f32⟩
  | .hbm, ⟨48, _⟩ => ⟨S16x4096x1, .f32⟩
  | .hbm, ⟨49, _⟩ => ⟨S16x4096x1, .f32⟩
  | .hbm, ⟨50, _⟩ => ⟨S16x4096x256, .bf16⟩
  | .hbm, ⟨51, _⟩ => ⟨S16x4096x256, .bf16⟩
  | .hbm, ⟨52, _⟩ => ⟨S16x4096x128, .bf16⟩
  | .local _ .vmem, ⟨0, _⟩ => ⟨S1x2048x256, .bf16⟩
  | .local _ .vmem, ⟨1, _⟩ => ⟨S1x2048x256, .bf16⟩
  | .local _ .vmem, ⟨2, _⟩ => ⟨S1x512x256, .bf16⟩
  | .local _ .vmem, ⟨3, _⟩ => ⟨S1x512x256, .bf16⟩
  | .local _ .vmem, ⟨4, _⟩ => ⟨S1x512x128, .bf16⟩
  | .local _ .vmem, ⟨5, _⟩ => ⟨S1x512x128, .bf16⟩
  | .local _ .vmem, ⟨6, _⟩ => ⟨S2048x128, .bf16⟩
  | .local _ .vmem, ⟨7, _⟩ => ⟨S2048x128, .bf16⟩
  | .local _ .vmem, ⟨8, _⟩ => ⟨S1x2048x1, .f32⟩
  | .local _ .vmem, ⟨9, _⟩ => ⟨S1x2048x1, .f32⟩
  | .local _ .vmem, ⟨10, _⟩ => ⟨S1x2048x1, .f32⟩
  | .local _ .vmem, ⟨11, _⟩ => ⟨S1x2048x1, .f32⟩
  | .local _ .vmem, ⟨12, _⟩ => ⟨S1x2048x256, .bf16⟩
  | .local _ .vmem, ⟨13, _⟩ => ⟨S1x2048x256, .bf16⟩
  | .local _ .vmem, ⟨14, _⟩ => ⟨S1x512x256, .bf16⟩
  | .local _ .vmem, ⟨15, _⟩ => ⟨S1x512x256, .bf16⟩
  | .local _ .vmem, ⟨16, _⟩ => ⟨S1x512x128, .bf16⟩
  | .local _ .vmem, ⟨17, _⟩ => ⟨S1x512x128, .bf16⟩
  | .local _ .vmem, ⟨18, _⟩ => ⟨S2048x256, .f32⟩
  | _, _ => ⟨S16x4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_call0_v0 : Ref sig .tc := ⟨.hbm, 13, rfl⟩
abbrev main_call0_c : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_c_0 : Ref sig .tc := ⟨.hbm, 19, rfl⟩
abbrev main_call0_v5 : Ref sig .tc := ⟨.hbm, 20, rfl⟩
abbrev main_v8 : Ref sig .tc := ⟨.hbm, 21, rfl⟩
abbrev main_cst : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v9 : Ref sig .tc := ⟨.hbm, 26, rfl⟩
abbrev main_cst_0 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_1 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_2 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30_0 : Ref sig .tc := ⟨.hbm, 50, rfl⟩
abbrev main_v30_1 : Ref sig .tc := ⟨.hbm, 51, rfl⟩
abbrev main_v30_2 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![16, 2, 4], ![false, false, false]⟩

def k0_cond6 (i : grid0.Coords) : BitVec 1 :=
  let arg2 : BitVec 32 := BitVec.ofNat 32 (i 2).val
  let c3_i32_6 : BitVec 32 := 3#32
  let v18 : BitVec 1 := Scalar.cmpi .eq arg2 c3_i32_6
  let v19 : BitVec 32 := Scalar.extui v18
  let c0_i32_7 : BitVec 32 := 0#32
  let v20 : BitVec 1 := Scalar.cmpi .ne v19 c0_i32_7
  v20

def k0_cond2 (i : grid0.Coords) : BitVec 1 :=
  let arg2 : BitVec 32 := BitVec.ofNat 32 (i 2).val
  let c0_i32_1 : BitVec 32 := 0#32
  let v6 : BitVec 1 := Scalar.cmpi .eq arg2 c0_i32_1
  let v7 : BitVec 32 := Scalar.extui v6
  let c0_i32_2 : BitVec 32 := 0#32
  let v8 : BitVec 1 := Scalar.cmpi .ne v7 c0_i32_2
  v8

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_3 : BitVec 32 := 0#32
  let v11 : BitVec 1 := Scalar.cmpi .ne v10 c0_i32_3
  v11

def k0_cond4 (i : grid0.Coords) : BitVec 1 :=
  let arg2 : BitVec 32 := BitVec.ofNat 32 (i 2).val
  let c2_i32 : BitVec 32 := 2#32
  let v12 : BitVec 1 := Scalar.cmpi .eq arg2 c2_i32
  let v13 : BitVec 32 := Scalar.extui v12
  let c0_i32_4 : BitVec 32 := 0#32
  let v14 : BitVec 1 := Scalar.cmpi .ne v13 c0_i32_4
  v14

def k0_cond5 (i : grid0.Coords) : BitVec 1 :=
  let arg2 : BitVec 32 := BitVec.ofNat 32 (i 2).val
  let c3_i32 : BitVec 32 := 3#32
  let v15 : BitVec 1 := Scalar.cmpi .eq arg2 c3_i32
  let v16 : BitVec 32 := Scalar.extui v15
  let c0_i32_5 : BitVec 32 := 0#32
  let v17 : BitVec 1 := Scalar.cmpi .ne v16 c0_i32_5
  v17

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  let c0_i32_0 : BitVec 32 := 0#32
  ![arg0.toNat, v1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  let c0_i32_0 : BitVec 32 := 0#32
  ![arg0.toNat, v1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  let c0_i32_0 : BitVec 32 := 0#32
  ![arg0.toNat, v1.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  let c0_i32_0 : BitVec 32 := 0#32
  ![arg0.toNat, v1.toNat, c0_i32.toNat]

abbrev stage0_0 : Fin 2 → Memref sig .tc .vmem S1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x2048x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x2048x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S16x4096x256 : Shape := ⟨3, ![16, 4096, 256]⟩
abbrev S16x4096x128 : Shape := ⟨3, ![16, 4096, 128]⟩
abbrev S4096x2048 : Shape := ⟨2, ![4096, 2048]⟩
abbrev S16x2x2048x256 : Shape := ⟨4, ![16, 2, 2048, 256]⟩
abbrev S16x2x2048x128 : Shape := ⟨4, ![16, 2, 2048, 128]⟩
abbrev S16x2x2048x2048 : Shape := ⟨4, ![16, 2, 2048, 2048]⟩
abbrev S_ : Shape := ⟨0, ![]⟩
abbrev S2048x2048 : Shape := ⟨2, ![2048, 2048]⟩
abbrev S16x2x2048 : Shape := ⟨3, ![16, 2, 2048]⟩
abbrev S16x2x2048x1 : Shape := ⟨4, ![16, 2, 2048, 1]⟩
abbrev S2x16x128x2048 : Shape := ⟨4, ![2, 16, 128, 2048]⟩
abbrev S2x2048x16x128 : Shape := ⟨4, ![2, 2048, 16, 128]⟩
abbrev S2x16x2048x2048 : Shape := ⟨4, ![2, 16, 2048, 2048]⟩

abbrev nBuf : Space → Nat
  | .hbm => 102
  | .vmem => 0
  | .smem => 0
  | _ => 0

abbrev bufTy : (tb : Table) → Fin (tcTables nBuf tb) → BufTy
  | .hbm, ⟨0, _⟩ => ⟨S16x4096x256, .bf16⟩
  | .hbm, ⟨1, _⟩ => ⟨S16x4096x256, .bf16⟩
  | .hbm, ⟨2, _⟩ => ⟨S16x4096x128, .bf16⟩
  | .hbm, ⟨3, _⟩ => ⟨S4096x2048, .bf16⟩
  | .hbm, ⟨4, _⟩ => ⟨S16x4096x256, .f32⟩
  | .hbm, ⟨5, _⟩ => ⟨S16x4096x256, .f32⟩
  | .hbm, ⟨6, _⟩ => ⟨S16x4096x128, .f32⟩
  | .hbm, ⟨7, _⟩ => ⟨S16x2x2048x256, .f32⟩
  | .hbm, ⟨8, _⟩ => ⟨S16x2x2048x256, .f32⟩
  | .hbm, ⟨9, _⟩ => ⟨S16x2x2048x128, .f32⟩
  | .hbm, ⟨10, _⟩ => ⟨S16x2x2048x2048, .f32⟩
  | .hbm, ⟨11, _⟩ => ⟨S_, .i1⟩
  | .hbm, ⟨12, _⟩ => ⟨S2048x2048, .i1⟩
  | .hbm, ⟨13, _⟩ => ⟨S2048x2048, .i32⟩
  | .hbm, ⟨14, _⟩ => ⟨S_, .i32⟩
  | .hbm, ⟨15, _⟩ => ⟨S2048x2048, .i32⟩
  | .hbm, ⟨16, _⟩ => ⟨S2048x2048, .i32⟩
  | .hbm, ⟨17, _⟩ => ⟨S2048x2048, .i32⟩
  | .hbm, ⟨18, _⟩ => ⟨S2048x2048, .i1⟩
  | .hbm, ⟨19, _⟩ => ⟨S_, .i1⟩
  | .hbm, ⟨20, _⟩ => ⟨S2048x2048, .i1⟩
  | .hbm, ⟨21, _⟩ => ⟨S2048x2048, .i1⟩
  | .hbm, ⟨22, _⟩ => ⟨S_, .f32⟩
  | .hbm, ⟨23, _⟩ => ⟨S_, .f32⟩
  | .hbm, ⟨24, _⟩ => ⟨S16x2x2048x2048, .i1⟩
  | .hbm, ⟨25, _⟩ => ⟨S16x2x2048x2048, .f32⟩
  | .hbm, ⟨26, _⟩ => ⟨S16x2x2048x2048, .f32⟩
  | .hbm, ⟨27, _⟩ => ⟨S_, .f32⟩
  | .hbm, ⟨28, _⟩ => ⟨S16x2x2048x2048, .f32⟩
  | .hbm, ⟨29, _⟩ => ⟨S_, .f32⟩
  | .hbm, ⟨30, _⟩ => ⟨S16x2x2048, .f32⟩
  | .hbm, ⟨31, _⟩ => ⟨S16x2x2048x1, .f32⟩
  | .hbm, ⟨32, _⟩ => ⟨S16x2x2048x2048, .f32⟩
  | .hbm, ⟨33, _⟩ => ⟨S16x2x2048x2048, .i1⟩
  | .hbm, ⟨34, _⟩ => ⟨S16x2x2048x2048, .f32⟩
  | .hbm, ⟨35, _⟩ => ⟨S_, .f32⟩
  | .hbm, ⟨36, _⟩ => ⟨S16x2x2048, .f32⟩
  | .hbm, ⟨37, _⟩ => ⟨S_, .f32⟩
  | .hbm, ⟨38, _⟩ => ⟨S16x2x2048, .f32⟩
  | .hbm, ⟨39, _⟩ => ⟨S16x2x2048, .f32⟩
  | .hbm, ⟨40, _⟩ => ⟨S_, .f32⟩
  | .hbm, ⟨41, _⟩ => ⟨S16x2x2048, .f32⟩
  | .hbm, ⟨42, _⟩ => ⟨S16x2x2048, .i1⟩
  | .hbm, ⟨43, _⟩ => ⟨S_, .f32⟩
  | .hbm, ⟨44, _⟩ => ⟨S16x2x2048, .f32⟩
  | .hbm, ⟨45, _⟩ => ⟨S16x2x2048, .i1⟩
  | .hbm, ⟨46, _⟩ => ⟨S_, .f32⟩
  | .hbm, ⟨47, _⟩ => ⟨S16x2x2048, .f32⟩
  | .hbm, ⟨48, _⟩ => ⟨S_, .f32⟩
  | .hbm, ⟨49, _⟩ => ⟨S16x2x2048, .f32⟩
  | .hbm, ⟨50, _⟩ => ⟨S_, .f32⟩
  | .hbm, ⟨51, _⟩ => ⟨S16x2x2048, .f32⟩
  | .hbm, ⟨52, _⟩ => ⟨S16x2x2048, .f32⟩
  | .hbm, ⟨53, _⟩ => ⟨S16x2x2048, .f32⟩
  | .hbm, ⟨54, _⟩ => ⟨S16x2x2048x1, .f32⟩
  | .hbm, ⟨55, _⟩ => ⟨S16x2x2048x2048, .f32⟩
  | .hbm, ⟨56, _⟩ => ⟨S16x2x2048x2048, .f32⟩
  | .hbm, ⟨57, _⟩ => ⟨S16x2x2048x2048, .f32⟩
  | .hbm, ⟨58, _⟩ => ⟨S_, .f32⟩
  | .hbm, ⟨59, _⟩ => ⟨S16x2x2048, .f32⟩
  | .hbm, ⟨60, _⟩ => ⟨S16x2x2048x1, .f32⟩
  | .hbm, ⟨61, _⟩ => ⟨S16x2x2048x2048, .f32⟩
  | .hbm, ⟨62, _⟩ => ⟨S16x2x2048x2048, .f32⟩
  | .hbm, ⟨63, _⟩ => ⟨S16x2x2048x1, .f32⟩
  | .hbm, ⟨64, _⟩ => ⟨S_, .f32⟩
  | .hbm, ⟨65, _⟩ => ⟨S16x2x2048x1, .f32⟩
  | .hbm, ⟨66, _⟩ => ⟨S16x2x2048x1, .f32⟩
  | .hbm, ⟨67, _⟩ => ⟨S2x16x128x2048, .f32⟩
  | .hbm, ⟨68, _⟩ => ⟨S2x2048x16x128, .f32⟩
  | .hbm, ⟨69, _⟩ => ⟨S4096x2048, .f32⟩
  | .hbm, ⟨70, _⟩ => ⟨S4096x2048, .f32⟩
  | .hbm, ⟨71, _⟩ => ⟨S2x2048x16x128, .f32⟩
  | .hbm, ⟨72, _⟩ => ⟨S2x16x128x2048, .f32⟩
  | .hbm, ⟨73, _⟩ => ⟨S2x16x2048x2048, .f32⟩
  | .hbm, ⟨74, _⟩ => ⟨S16x2x2048x2048, .f32⟩
  | .hbm, ⟨75, _⟩ => ⟨S2x16x128x2048, .f32⟩
  | .hbm, ⟨76, _⟩ => ⟨S16x2x2048x128, .f32⟩
  | .hbm, ⟨77, _⟩ => ⟨S16x2x2048x2048, .f32⟩
  | .hbm, ⟨78, _⟩ => ⟨S16x2x2048x2048, .f32⟩
  | .hbm, ⟨79, _⟩ => ⟨S16x2x2048x2048, .f32⟩
  | .hbm, ⟨80, _⟩ => ⟨S_, .f32⟩
  | .hbm, ⟨81, _⟩ => ⟨S16x2x2048, .f32⟩
  | .hbm, ⟨82, _⟩ => ⟨S16x2x2048x1, .f32⟩
  | .hbm, ⟨83, _⟩ => ⟨S16x2x2048x1, .f32⟩
  | .hbm, ⟨84, _⟩ => ⟨S16x2x2048x2048, .f32⟩
  | .hbm, ⟨85, _⟩ => ⟨S16x2x2048x2048, .f32⟩
  | .hbm, ⟨86, _⟩ => ⟨S_, .f32⟩
  | .hbm, ⟨87, _⟩ => ⟨S16x2x2048, .f32⟩
  | .hbm, ⟨88, _⟩ => ⟨S16x2x2048x2048, .f32⟩
  | .hbm, ⟨89, _⟩ => ⟨S16x2x2048x2048, .f32⟩
  | .hbm, ⟨90, _⟩ => ⟨S16x2x2048x2048, .f32⟩
  | .hbm, ⟨91, _⟩ => ⟨S_, .f32⟩
  | .hbm, ⟨92, _⟩ => ⟨S16x2x2048x2048, .f32⟩
  | .hbm, ⟨93, _⟩ => ⟨S16x2x2048x2048, .f32⟩
  | .hbm, ⟨94, _⟩ => ⟨S16x2x2048x256, .f32⟩
  | .hbm, ⟨95, _⟩ => ⟨S16x2x2048x256, .f32⟩
  | .hbm, ⟨96, _⟩ => ⟨S16x4096x128, .f32⟩
  | .hbm, ⟨97, _⟩ => ⟨S16x4096x256, .f32⟩
  | .hbm, ⟨98, _⟩ => ⟨S16x4096x256, .f32⟩
  | .hbm, ⟨99, _⟩ => ⟨S16x4096x256, .bf16⟩
  | .hbm, ⟨100, _⟩ => ⟨S16x4096x256, .bf16⟩
  | .hbm, ⟨101, _⟩ => ⟨S16x4096x128, .bf16⟩
  | _, _ => ⟨S16x4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_call0_v0 : Ref sig .tc := ⟨.hbm, 13, rfl⟩
abbrev main_call0_c : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_c_0 : Ref sig .tc := ⟨.hbm, 19, rfl⟩
abbrev main_call0_v5 : Ref sig .tc := ⟨.hbm, 20, rfl⟩
abbrev main_v8 : Ref sig .tc := ⟨.hbm, 21, rfl⟩
abbrev main_cst : Ref sig .tc := ⟨.hbm, 22, rfl⟩
abbrev main_call1_v0 : Ref sig .tc := ⟨.hbm, 23, rfl⟩
abbrev main_v9_1 : Ref sig .tc := ⟨.hbm, 24, rfl⟩
abbrev main_call1_v2 : Ref sig .tc := ⟨.hbm, 25, rfl⟩
abbrev main_v9_0 : Ref sig .tc := ⟨.hbm, 26, rfl⟩
abbrev main_call1_cst : Ref sig .tc := ⟨.hbm, 27, rfl⟩
abbrev main_v9_2 : Ref sig .tc := ⟨.hbm, 28, rfl⟩
abbrev main_cst_0 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst_1 : Ref sig .tc := ⟨.hbm, 35, rfl⟩
abbrev main_v15 : Ref sig .tc := ⟨.hbm, 36, rfl⟩
abbrev main_cst_2 : Ref sig .tc := ⟨.hbm, 37, rfl⟩
abbrev main_v16 : Ref sig .tc := ⟨.hbm, 38, rfl⟩
abbrev main_v17 : Ref sig .tc := ⟨.hbm, 39, rfl⟩
abbrev main_cst_3 : Ref sig .tc := ⟨.hbm, 40, rfl⟩
abbrev main_v18 : Ref sig .tc := ⟨.hbm, 41, rfl⟩
abbrev main_v19 : Ref sig .tc := ⟨.hbm, 42, rfl⟩
abbrev main_cst_4 : Ref sig .tc := ⟨.hbm, 43, rfl⟩
abbrev main_v20 : Ref sig .tc := ⟨.hbm, 44, rfl⟩
abbrev main_v21 : Ref sig .tc := ⟨.hbm, 45, rfl⟩
abbrev main_cst_5 : Ref sig .tc := ⟨.hbm, 46, rfl⟩
abbrev main_v22 : Ref sig .tc := ⟨.hbm, 47, rfl⟩
abbrev main_cst_6 : Ref sig .tc := ⟨.hbm, 48, rfl⟩
abbrev main_v23 : Ref sig .tc := ⟨.hbm, 49, rfl⟩
abbrev main_cst_7 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_cst_8 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_cst_9 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_10 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_cst_11 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_call2_cst : Ref sig .tc := ⟨.hbm, 91, rfl⟩
abbrev main_call2_v0 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩

abbrev nD : Nat := 1
abbrev τ : Topo := Topo.v7x

variable {F : FTy → Type} [FloatOps F]
-- ==== InProj.lean ====
abbrev S4096x4096 : Shape := ⟨2, ![4096, 4096]⟩
abbrev S4096x10240 : Shape := ⟨2, ![4096, 10240]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x10240, .bf16⟩
  | .hbm, ⟨2, _⟩ => ⟨S4096x10240, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 10, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjReferenceIdeal.lean ====
abbrev S4096x4096 : Shape := ⟨2, ![4096, 4096]⟩
abbrev S4096x10240 : Shape := ⟨2, ![4096, 10240]⟩

abbrev nBuf : Space → Nat
  | .hbm => 6
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x10240, .bf16⟩
  | .hbm, ⟨2, _⟩ => ⟨S4096x4096, .f32⟩
  | .hbm, ⟨3, _⟩ => ⟨S4096x10240, .f32⟩
  | .hbm, ⟨4, _⟩ => ⟨S4096x10240, .f32⟩
  | .hbm, ⟨5, _⟩ => ⟨S4096x10240, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== DHid.lean ====
abbrev S4096x10240 : Shape := ⟨2, ![4096, 10240]⟩
abbrev S4096x4096 : Shape := ⟨2, ![4096, 4096]⟩
abbrev S512x10240 : Shape := ⟨2, ![512, 10240]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x10240, .bf16⟩
  | .hbm, ⟨1, _⟩ => ⟨S4096x10240, .bf16⟩
  | .hbm, ⟨2, _⟩ => ⟨S4096x4096, .f32⟩
  | .local _ .vmem, ⟨0, _⟩ => ⟨S512x10240, .bf16⟩
  | .local _ .vmem, ⟨1, _⟩ => ⟨S512x10240, .bf16⟩
  | .local _ .vmem, ⟨2, _⟩ => ⟨S512x10240, .bf16⟩
  | .local _ .vmem, ⟨3, _⟩ => ⟨S512x10240, .bf16⟩
  | .local _ .vmem, ⟨4, _⟩ => ⟨S512x512, .f32⟩
  | .local _ .vmem, ⟨5, _⟩ => ⟨S512x512, .f32⟩
  | _, _ => ⟨S4096x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x10240 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x10240 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DHidReferenceIdeal.lean ====
abbrev S4096x10240 : Shape := ⟨2, ![4096, 10240]⟩
abbrev S4096x4096 : Shape := ⟨2, ![4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S4096x10240, .bf16⟩
  | .hbm, ⟨1, _⟩ => ⟨S4096x10240, .bf16⟩
  | .hbm, ⟨2, _⟩ => ⟨S4096x10240, .f32⟩
  | .hbm, ⟨3, _⟩ => ⟨S4096x10240, .f32⟩
  | .hbm, ⟨4, _⟩ => ⟨S4096x4096, .f32⟩
  | _, _ => ⟨S4096x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DwIn.lean ====
abbrev S4096x4096 : Shape := ⟨2, ![4096, 4096]⟩
abbrev S4096x10240 : Shape := ⟨2, ![4096, 10240]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x10240, .bf16⟩
  | .hbm, ⟨2, _⟩ => ⟨S4096x10240, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 10, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwInReferenceIdeal.lean ====
abbrev S4096x4096 : Shape := ⟨2, ![4096, 4096]⟩
abbrev S4096x10240 : Shape := ⟨2, ![4096, 10240]⟩
abbrev S10240x4096 : Shape := ⟨2, ![10240, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x10240, .bf16⟩
  | .hbm, ⟨2, _⟩ => ⟨S4096x4096, .f32⟩
  | .hbm, ⟨3, _⟩ => ⟨S4096x10240, .f32⟩
  | .hbm, ⟨4, _⟩ => ⟨S10240x4096, .f32⟩
  | .hbm, ⟨5, _⟩ => ⟨S4096x10240, .f32⟩
  | .hbm, ⟨6, _⟩ => ⟨S4096x10240, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== OutProj.lean ====
abbrev S4096x4096 : Shape := ⟨2, ![4096, 4096]⟩
abbrev S512x4096 : Shape := ⟨2, ![512, 4096]⟩
abbrev S4096x1024 : Shape := ⟨2, ![4096, 1024]⟩
abbrev S512x1024 : Shape := ⟨2, ![512, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .f32⟩
  | .hbm, ⟨3, _⟩ => ⟨S4096x4096, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutProjReferenceIdeal.lean ====
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DMix.lean ====
abbrev S4096x4096 : Shape := ⟨2, ![4096, 4096]⟩
abbrev S1024x4096 : Shape := ⟨2, ![1024, 4096]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .f32⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1024x1024, .f32⟩
  | .local _ .vmem, ⟨5, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DMixReferenceIdeal.lean ====
abbrev S4096x4096 : Shape := ⟨2, ![4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .f32⟩
  | .hbm, ⟨3, _⟩ => ⟨S4096x4096, .f32⟩
  | .hbm, ⟨4, _⟩ => ⟨S4096x4096, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DwOut.lean ====
abbrev S4096x4096 : Shape := ⟨2, ![4096, 4096]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwOutReferenceIdeal.lean ====
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== QUp.lean ====
abbrev S4096x1024 : Shape := ⟨2, ![4096, 1024]⟩
abbrev S1024x4096 : Shape := ⟨2, ![1024, 4096]⟩
abbrev S4096x4096 : Shape := ⟨2, ![4096, 4096]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .bf16⟩
  | .hbm, ⟨2, _⟩ => ⟨S4096x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QUpReferenceIdeal.lean ====
abbrev S4096x1024 : Shape := ⟨2, ![4096, 1024]⟩
abbrev S1024x4096 : Shape := ⟨2, ![1024, 4096]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .bf16⟩
  | .hbm, ⟨2, _⟩ => ⟨S4096x1024, .f32⟩
  | .hbm, ⟨3, _⟩ => ⟨S1024x4096, .f32⟩
  | .hbm, ⟨4, _⟩ => ⟨S4096x4096, .f32⟩
  | .hbm, ⟨5, _⟩ => ⟨S4096x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== DQn.lean ====
abbrev S4096x4096 : Shape := ⟨2, ![4096, 4096]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x4096, .bf16⟩
  | .hbm, ⟨1, _⟩ => ⟨S1024x4096, .bf16⟩
  | .hbm, ⟨2, _⟩ => ⟨S4096x1024, .f32⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x1024, .f32⟩
  | .local _ .vmem, ⟨4, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DQnReferenceIdeal.lean ====
abbrev S4096x4096 : Shape := ⟨2, ![4096, 4096]⟩
abbrev S1024x4096 : Shape := ⟨2, ![1024, 4096]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S1024x4096, .bf16⟩
  | .hbm, ⟨2, _⟩ => ⟨S1024x4096, .f32⟩
  | .hbm, ⟨3, _⟩ => ⟨S4096x4096, .f32⟩
  | .hbm, ⟨4, _⟩ => ⟨S4096x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DwQ.lean ====
abbrev S4096x1024 : Shape := ⟨2, ![4096, 1024]⟩
abbrev S4096x4096 : Shape := ⟨2, ![4096, 4096]⟩
abbrev S1024x4096 : Shape := ⟨2, ![1024, 4096]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S1024x4096, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S1024x1024, .bf16⟩
  | .local _ .vmem, ⟨4, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwQReferenceIdeal.lean ====
abbrev S4096x1024 : Shape := ⟨2, ![4096, 1024]⟩
abbrev S4096x4096 : Shape := ⟨2, ![4096, 4096]⟩
abbrev S1024x4096 : Shape := ⟨2, ![1024, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S4096x1024, .f32⟩
  | .hbm, ⟨3, _⟩ => ⟨S4096x4096, .f32⟩
  | .hbm, ⟨4, _⟩ => ⟨S4096x1024, .f32⟩
  | .hbm, ⟨5, _⟩ => ⟨S1024x4096, .f32⟩
  | .hbm, ⟨6, _⟩ => ⟨S1024x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== KvUp.lean ====
abbrev S4096x512 : Shape := ⟨2, ![4096, 512]⟩
abbrev S512x4096 : Shape := ⟨2, ![512, 4096]⟩
abbrev S4096x4096 : Shape := ⟨2, ![4096, 4096]⟩
abbrev S1024x512 : Shape := ⟨2, ![1024, 512]⟩
abbrev S512x1024 : Shape := ⟨2, ![512, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x512, .bf16⟩
  | .hbm, ⟨1, _⟩ => ⟨S512x4096, .bf16⟩
  | .hbm, ⟨2, _⟩ => ⟨S4096x4096, .bf16⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1024x1024, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvUpReferenceIdeal.lean ====
abbrev S4096x512 : Shape := ⟨2, ![4096, 512]⟩
abbrev S512x4096 : Shape := ⟨2, ![512, 4096]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S512x4096, .bf16⟩
  | .hbm, ⟨2, _⟩ => ⟨S4096x512, .f32⟩
  | .hbm, ⟨3, _⟩ => ⟨S512x4096, .f32⟩
  | .hbm, ⟨4, _⟩ => ⟨S4096x4096, .f32⟩
  | .hbm, ⟨5, _⟩ => ⟨S4096x4096, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== DKvn.lean ====
abbrev S4096x4096 : Shape := ⟨2, ![4096, 4096]⟩
abbrev S512x4096 : Shape := ⟨2, ![512, 4096]⟩
abbrev S4096x512 : Shape := ⟨2, ![4096, 512]⟩
abbrev S1024x4096 : Shape := ⟨2, ![1024, 4096]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x4096, .bf16⟩
  | .hbm, ⟨1, _⟩ => ⟨S512x4096, .bf16⟩
  | .hbm, ⟨2, _⟩ => ⟨S4096x512, .f32⟩
  | .local _ .vmem, ⟨0, _⟩ => ⟨S1024x4096, .bf16⟩
  | .local _ .vmem, ⟨1, _⟩ => ⟨S1024x4096, .bf16⟩
  | .local _ .vmem, ⟨2, _⟩ => ⟨S512x4096, .bf16⟩
  | .local _ .vmem, ⟨3, _⟩ => ⟨S1024x512, .f32⟩
  | .local _ .vmem, ⟨4, _⟩ => ⟨S1024x512, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DKvnReferenceIdeal.lean ====
abbrev S4096x4096 : Shape := ⟨2, ![4096, 4096]⟩
abbrev S512x4096 : Shape := ⟨2, ![512, 4096]⟩
abbrev S4096x512 : Shape := ⟨2, ![4096, 512]⟩

abbrev nBuf : Space → Nat
  | .hbm => 5
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S512x4096, .bf16⟩
  | .hbm, ⟨2, _⟩ => ⟨S512x4096, .f32⟩
  | .hbm, ⟨3, _⟩ => ⟨S4096x4096, .f32⟩
  | .hbm, ⟨4, _⟩ => ⟨S4096x512, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DwKv.lean ====
abbrev S4096x512 : Shape := ⟨2, ![4096, 512]⟩
abbrev S4096x4096 : Shape := ⟨2, ![4096, 4096]⟩
abbrev S512x4096 : Shape := ⟨2, ![512, 4096]⟩
abbrev S4096x1024 : Shape := ⟨2, ![4096, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x512, .bf16⟩
  | .hbm, ⟨1, _⟩ => ⟨S4096x4096, .bf16⟩
  | .hbm, ⟨2, _⟩ => ⟨S512x4096, .bf16⟩
  | .local _ .vmem, ⟨0, _⟩ => ⟨S4096x512, .bf16⟩
  | .local _ .vmem, ⟨1, _⟩ => ⟨S4096x1024, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwKvReferenceIdeal.lean ====
abbrev S4096x512 : Shape := ⟨2, ![4096, 512]⟩
abbrev S4096x4096 : Shape := ⟨2, ![4096, 4096]⟩
abbrev S512x4096 : Shape := ⟨2, ![512, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x4096, .bf16⟩
  | .hbm, ⟨2, _⟩ => ⟨S4096x512, .f32⟩
  | .hbm, ⟨3, _⟩ => ⟨S4096x4096, .f32⟩
  | .hbm, ⟨4, _⟩ => ⟨S4096x512, .f32⟩
  | .hbm, ⟨5, _⟩ => ⟨S512x4096, .f32⟩
  | .hbm, ⟨6, _⟩ => ⟨S512x4096, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== FlashFwd.lean ====
abbrev S16x4096x256 : Shape := ⟨3, ![16, 4096, 256]⟩
abbrev S16x4096x128 : Shape := ⟨3, ![16, 4096, 128]⟩
abbrev S4096x10240 : Shape := ⟨2, ![4096, 10240]⟩
abbrev S4096x2048 : Shape := ⟨2, ![4096, 2048]⟩
abbrev S4096x4096 : Shape := ⟨2, ![4096, 4096]⟩
abbrev S16x4096x1 : Shape := ⟨3, ![16, 4096, 1]⟩
abbrev S1x512x256 : Shape := ⟨3, ![1, 512, 256]⟩
abbrev S1x2048x256 : Shape := ⟨3, ![1, 2048, 256]⟩
abbrev S1x2048x128 : Shape := ⟨3, ![1, 2048, 128]⟩
abbrev S512x128 : Shape := ⟨2, ![512, 128]⟩
abbrev S1x512x1 : Shape := ⟨3, ![1, 512, 1]⟩
abbrev S512x512 : Shape := ⟨2, ![512, 512]⟩
abbrev S512x256 : Shape := ⟨2, ![512, 256]⟩
abbrev S512 : Shape := ⟨1, ![512]⟩
abbrev S512x1 : Shape := ⟨2, ![512, 1]⟩
abbrev S1x512x128 : Shape := ⟨3, ![1, 512, 128]⟩
abbrev S1x1024x256 : Shape := ⟨3, ![1, 1024, 256]⟩
abbrev S1024x256 : Shape := ⟨2, ![1024, 256]⟩
abbrev S512x1024 : Shape := ⟨2, ![512, 1024]⟩
abbrev S1x1024x128 : Shape := ⟨3, ![1, 1024, 128]⟩
abbrev S1024x128 : Shape := ⟨2, ![1024, 128]⟩
abbrev S1x1536x256 : Shape := ⟨3, ![1, 1536, 256]⟩
abbrev S1536x256 : Shape := ⟨2, ![1536, 256]⟩
abbrev S512x1536 : Shape := ⟨2, ![512, 1536]⟩
abbrev S1x1536x128 : Shape := ⟨3, ![1, 1536, 128]⟩
abbrev S1536x128 : Shape := ⟨2, ![1536, 128]⟩

abbrev nBuf : Space → Nat
  | .hbm => 7
  | .vmem => 14
  | .smem => 0
  | _ => 0

abbrev bufTy : (tb : Table) → Fin (tcTables nBuf tb) → BufTy
  | .hbm, ⟨0, _⟩ => ⟨S16x4096x256, .bf16⟩
  | .hbm, ⟨1, _⟩ => ⟨S16x4096x256, .bf16⟩
  | .hbm, ⟨2, _⟩ => ⟨S16x4096x128, .bf16⟩
  | .hbm, ⟨3, _⟩ => ⟨S4096x10240, .bf16⟩
  | .hbm, ⟨4, _⟩ => ⟨S4096x2048, .f32⟩
  | .hbm, ⟨5, _⟩ => ⟨S4096x4096, .bf16⟩
  | .hbm, ⟨6, _⟩ => ⟨S16x4096x1, .f32⟩
  | .local _ .vmem, ⟨0, _⟩ => ⟨S1x512x256, .bf16⟩
  | .local _ .vmem, ⟨1, _⟩ => ⟨S1x512x256, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x2048x128, .bf16⟩
  | .local _ .vmem, ⟨5, _⟩ => ⟨S1x2048x128, .bf16⟩
  | .local _ .vmem, ⟨6, _⟩ => ⟨S512x128, .bf16⟩
  | .local _ .vmem, ⟨7, _⟩ => ⟨S512x128, .bf16⟩
  | .local _ .vmem, ⟨8, _⟩ => ⟨S512x128, .f32⟩
  | .local _ .vmem, ⟨9, _⟩ => ⟨S512x128, .f32⟩
  | .local _ .vmem, ⟨10, _⟩ => ⟨S512x128, .bf16⟩
  | .local _ .vmem, ⟨11, _⟩ => ⟨S512x128, .bf16⟩
  | .local _ .vmem, ⟨12, _⟩ => ⟨S1x512x1, .f32⟩
  | .local _ .vmem, ⟨13, _⟩ => ⟨S1x512x1, .f32⟩
  | _, _ => ⟨S16x4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![16, 2, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_0 : BitVec 32 := 0#32
  let v5 : BitVec 1 := Scalar.cmpi .ne v4 c0_i32_0
  v5

def k0_cond2 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_1 : BitVec 32 := 0#32
  let v8 : BitVec 1 := Scalar.cmpi .ne v7 c0_i32_1
  v8

def k0_cond3 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_2 : BitVec 32 := 0#32
  let v11 : BitVec 1 := Scalar.cmpi .ne v10 c0_i32_2
  v11

def k0_cond4 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_3 : BitVec 32 := 0#32
  let v14 : BitVec 1 := Scalar.cmpi .ne v13 c0_i32_3
  v14

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  let c0_i32_0 : BitVec 32 := 0#32
  ![arg0.toNat, v1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c32_i32 : BitVec 32 := 32#32
  let v2 : BitVec 32 := Scalar.addi c32_i32 arg0
  let c0_i32 : BitVec 32 := 0#32
  ![v1.toNat, v2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  ![v1.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  ![v1.toNat, arg0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  let c0_i32_0 : BitVec 32 := 0#32
  ![arg0.toNat, v1.toNat, c0_i32.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== FlashFwdIdeal.lean ====
variable {F : FTy → Type} [FloatOps F] [Named F]
def κ : String → Option EReal := fun
  | "mask" => some ⊥
  | _ => none
-- ==== FlashFwdReferenceIdeal.lean ====
abbrev S16x4096x256 : Shape := ⟨3, ![16, 4096, 256]⟩
abbrev S16x4096x128 : Shape := ⟨3, ![16, 4096, 128]⟩
abbrev S4096x10240 : Shape := ⟨2, ![4096, 10240]⟩
abbrev S16x2x2048x256 : Shape := ⟨4, ![16, 2, 2048, 256]⟩
abbrev S16x2x2048x128 : Shape := ⟨4, ![16, 2, 2048, 128]⟩
abbrev S16x2x2048x2048 : Shape := ⟨4, ![16, 2, 2048, 2048]⟩
abbrev S_ : Shape := ⟨0, ![]⟩
abbrev S2048x2048 : Shape := ⟨2, ![2048, 2048]⟩
abbrev S16x2x2048 : Shape := ⟨3, ![16, 2, 2048]⟩
abbrev S16x2x2048x1 : Shape := ⟨4, ![16, 2, 2048, 1]⟩
abbrev S2x2048x16x128 : Shape := ⟨4, ![2, 2048, 16, 128]⟩
abbrev S4096x2048 : Shape := ⟨2, ![4096, 2048]⟩
abbrev S16x4096x1 : Shape := ⟨3, ![16, 4096, 1]⟩

abbrev nBuf : Space → Nat
  | .hbm => 44
  | .vmem => 0
  | .smem => 0
  | _ => 0

abbrev bufTy : (tb : Table) → Fin (tcTables nBuf tb) → BufTy
  | .hbm, ⟨0, _⟩ => ⟨S16x4096x256, .bf16⟩
  | .hbm, ⟨1, _⟩ => ⟨S16x4096x256, .bf16⟩
  | .hbm, ⟨2, _⟩ => ⟨S16x4096x128, .bf16⟩
  | .hbm, ⟨3, _⟩ => ⟨S4096x10240, .bf16⟩
  | .hbm, ⟨4, _⟩ => ⟨S16x4096x256, .f32⟩
  | .hbm, ⟨5, _⟩ => ⟨S16x2x2048x256, .f32⟩
  | .hbm, ⟨6, _⟩ => ⟨S16x4096x256, .f32⟩
  | .hbm, ⟨7, _⟩ => ⟨S16x2x2048x256, .f32⟩
  | .hbm, ⟨8, _⟩ => ⟨S16x4096x128, .f32⟩
  | .hbm, ⟨9, _⟩ => ⟨S16x2x2048x128, .f32⟩
  | .hbm, ⟨10, _⟩ => ⟨S16x2x2048x2048, .f32⟩
  | .hbm, ⟨11, _⟩ => ⟨S_, .i1⟩
  | .hbm, ⟨12, _⟩ => ⟨S2048x2048, .i1⟩
  | .hbm, ⟨13, _⟩ => ⟨S2048x2048, .i32⟩
  | .hbm, ⟨14, _⟩ => ⟨S_, .i32⟩
  | .hbm, ⟨15, _⟩ => ⟨S2048x2048, .i32⟩
  | .hbm, ⟨16, _⟩ => ⟨S2048x2048, .i32⟩
  | .hbm, ⟨17, _⟩ => ⟨S2048x2048, .i32⟩
  | .hbm, ⟨18, _⟩ => ⟨S2048x2048, .i1⟩
  | .hbm, ⟨19, _⟩ => ⟨S_, .i1⟩
  | .hbm, ⟨20, _⟩ => ⟨S2048x2048, .i1⟩
  | .hbm, ⟨21, _⟩ => ⟨S2048x2048, .i1⟩
  | .hbm, ⟨22, _⟩ => ⟨S_, .f32⟩
  | .hbm, ⟨23, _⟩ => ⟨S_, .f32⟩
  | .hbm, ⟨24, _⟩ => ⟨S16x2x2048x2048, .i1⟩
  | .hbm, ⟨25, _⟩ => ⟨S16x2x2048x2048, .f32⟩
  | .hbm, ⟨26, _⟩ => ⟨S16x2x2048x2048, .f32⟩
  | .hbm, ⟨27, _⟩ => ⟨S_, .f32⟩
  | .hbm, ⟨28, _⟩ => ⟨S16x2x2048, .f32⟩
  | .hbm, ⟨29, _⟩ => ⟨S16x2x2048x1, .f32⟩
  | .hbm, ⟨30, _⟩ => ⟨S16x2x2048x2048, .f32⟩
  | .hbm, ⟨31, _⟩ => ⟨S16x2x2048x2048, .f32⟩
  | .hbm, ⟨32, _⟩ => ⟨S16x2x2048x2048, .f32⟩
  | .hbm, ⟨33, _⟩ => ⟨S_, .f32⟩
  | .hbm, ⟨34, _⟩ => ⟨S16x2x2048, .f32⟩
  | .hbm, ⟨35, _⟩ => ⟨S16x2x2048x1, .f32⟩
  | .hbm, ⟨36, _⟩ => ⟨S16x2x2048x2048, .f32⟩
  | .hbm, ⟨37, _⟩ => ⟨S16x2x2048x2048, .f32⟩
  | .hbm, ⟨38, _⟩ => ⟨S16x2x2048x128, .f32⟩
  | .hbm, ⟨39, _⟩ => ⟨S16x2x2048x1, .f32⟩
  | .hbm, ⟨40, _⟩ => ⟨S16x2x2048x1, .f32⟩
  | .hbm, ⟨41, _⟩ => ⟨S2x2048x16x128, .f32⟩
  | .hbm, ⟨42, _⟩ => ⟨S4096x2048, .f32⟩
  | .hbm, ⟨43, _⟩ => ⟨S16x4096x1, .f32⟩
  | _, _ => ⟨S16x4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_call0_v0 : Ref sig .tc := ⟨.hbm, 13, rfl⟩
abbrev main_call0_c : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_c_0 : Ref sig .tc := ⟨.hbm, 19, rfl⟩
abbrev main_call0_v5 : Ref sig .tc := ⟨.hbm, 20, rfl⟩
abbrev main_v8 : Ref sig .tc := ⟨.hbm, 21, rfl⟩
abbrev main_cst : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v9 : Ref sig .tc := ⟨.hbm, 26, rfl⟩
abbrev main_cst_0 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_1 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩

abbrev nD : Nat := 1
abbrev τ : Topo := Topo.v7x

variable {F : FTy → Type} [FloatOps F]
-- ==== LossHead.lean ====
abbrev S4096x4096 : Shape := ⟨2, ![4096, 4096]⟩
abbrev S8x128 : Shape := ⟨2, ![8, 128]⟩
abbrev S256x4096 : Shape := ⟨2, ![256, 4096]⟩
abbrev S1x256x4096 : Shape := ⟨3, ![1, 256, 4096]⟩
abbrev S1 : Shape := ⟨1, ![1]⟩
abbrev S1x1x1 : Shape := ⟨3, ![1, 1, 1]⟩

abbrev nBuf : Space → Nat
  | .hbm => 5
  | .vmem => 9
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S8x128, .f32⟩
  | .hbm, ⟨3, _⟩ => ⟨S4096x4096, .f32⟩
  | .hbm, ⟨4, _⟩ => ⟨S4096x4096, .bf16⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S8x128, .f32⟩
  | .local _ .vmem, ⟨5, _⟩ => ⟨S256x4096, .f32⟩
  | .local _ .vmem, ⟨6, _⟩ => ⟨S256x4096, .f32⟩
  | .local _ .vmem, ⟨7, _⟩ => ⟨S256x4096, .bf16⟩
  | .local _ .vmem, ⟨8, _⟩ => ⟨S256x4096, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== LossHeadReferenceIdeal.lean ====
abbrev S4096x4096 : Shape := ⟨2, ![4096, 4096]⟩
abbrev S_ : Shape := ⟨0, ![]⟩
abbrev S4096 : Shape := ⟨1, ![4096]⟩
abbrev S8x128 : Shape := ⟨2, ![8, 128]⟩

abbrev nBuf : Space → Nat
  | .hbm => 31
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S_, .f32⟩
  | .hbm, ⟨28, _⟩ => ⟨S_, .f32⟩
  | .hbm, ⟨29, _⟩ => ⟨S8x128, .f32⟩
  | .hbm, ⟨30, _⟩ => ⟨S4096x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_7 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]
-- ==== AdamSmall.lean ====
abbrev S632x128 : Shape := ⟨2, ![632, 128]⟩

abbrev nBuf : Space → Nat
  | .hbm => 8
  | .vmem => 8
  | .smem => 0
  | _ => 0

abbrev bufTy : (tb : Table) → Fin (tcTables nBuf tb) → BufTy
  | .hbm, ⟨0, _⟩ => ⟨S632x128, .f32⟩
  | .hbm, ⟨1, _⟩ => ⟨S632x128, .f32⟩
  | .hbm, ⟨2, _⟩ => ⟨S632x128, .f32⟩
  | .hbm, ⟨3, _⟩ => ⟨S632x128, .f32⟩
  | .hbm, ⟨4, _⟩ => ⟨S632x128, .f32⟩
  | .hbm, ⟨5, _⟩ => ⟨S632x128, .f32⟩
  | .hbm, ⟨6, _⟩ => ⟨S632x128, .f32⟩
  | .hbm, ⟨7, _⟩ => ⟨S632x128, .f32⟩
  | .local _ .vmem, ⟨0, _⟩ => ⟨S632x128, .f32⟩
  | .local _ .vmem, ⟨1, _⟩ => ⟨S632x128, .f32⟩
  | .local _ .vmem, ⟨2, _⟩ => ⟨S632x128, .f32⟩
  | .local _ .vmem, ⟨3, _⟩ => ⟨S632x128, .f32⟩
  | .local _ .vmem, ⟨4, _⟩ => ⟨S632x128, .f32⟩
  | .local _ .vmem, ⟨5, _⟩ => ⟨S632x128, .f32⟩
  | .local _ .vmem, ⟨6, _⟩ => ⟨S632x128, .f32⟩
  | .local _ .vmem, ⟨7, _⟩ => ⟨S632x128, .f32⟩
  | _, _ => ⟨S632x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 1 → Memref sig .tc .vmem S632x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S632x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S632x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S632x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S632x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S632x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S632x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S632x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamSmallReferenceIdeal.lean ====
abbrev S632x128 : Shape := ⟨2, ![632, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S632x128, .f32⟩
  | .hbm, ⟨1, _⟩ => ⟨S632x128, .f32⟩
  | .hbm, ⟨2, _⟩ => ⟨S632x128, .f32⟩
  | .hbm, ⟨3, _⟩ => ⟨S632x128, .f32⟩
  | .hbm, ⟨4, _⟩ => ⟨S_, .f32⟩
  | .hbm, ⟨5, _⟩ => ⟨S632x128, .f32⟩
  | .hbm, ⟨6, _⟩ => ⟨S632x128, .f32⟩
  | .hbm, ⟨7, _⟩ => ⟨S_, .f32⟩
  | .hbm, ⟨8, _⟩ => ⟨S632x128, .f32⟩
  | .hbm, ⟨9, _⟩ => ⟨S632x128, .f32⟩
  | .hbm, ⟨10, _⟩ => ⟨S632x128, .f32⟩
  | .hbm, ⟨11, _⟩ => ⟨S_, .f32⟩
  | .hbm, ⟨12, _⟩ => ⟨S632x128, .f32⟩
  | .hbm, ⟨13, _⟩ => ⟨S632x128, .f32⟩
  | .hbm, ⟨14, _⟩ => ⟨S632x128, .f32⟩
  | .hbm, ⟨15, _⟩ => ⟨S_, .f32⟩
  | .hbm, ⟨16, _⟩ => ⟨S632x128, .f32⟩
  | .hbm, ⟨17, _⟩ => ⟨S632x128, .f32⟩
  | .hbm, ⟨18, _⟩ => ⟨S632x128, .f32⟩
  | .hbm, ⟨19, _⟩ => ⟨S_, .f32⟩
  | .hbm, ⟨20, _⟩ => ⟨S632x128, .f32⟩
  | .hbm, ⟨21, _⟩ => ⟨S632x128, .f32⟩
  | .hbm, ⟨22, _⟩ => ⟨S_, .f32⟩
  | .hbm, ⟨23, _⟩ => ⟨S632x128, .f32⟩
  | .hbm, ⟨24, _⟩ => ⟨S632x128, .f32⟩
  | .hbm, ⟨25, _⟩ => ⟨S632x128, .f32⟩
  | .hbm, ⟨26, _⟩ => ⟨S_, .f32⟩
  | .hbm, ⟨27, _⟩ => ⟨S632x128, .f32⟩
  | .hbm, ⟨28, _⟩ => ⟨S632x128, .f32⟩
  | .hbm, ⟨29, _⟩ => ⟨S632x128, .f32⟩
  | .hbm, ⟨30, _⟩ => ⟨S_, .f32⟩
  | .hbm, ⟨31, _⟩ => ⟨S632x128, .f32⟩
  | .hbm, ⟨32, _⟩ => ⟨S632x128, .f32⟩
  | .hbm, ⟨33, _⟩ => ⟨S632x128, .f32⟩
  | .hbm, ⟨34, _⟩ => ⟨S_, .f32⟩
  | .hbm, ⟨35, _⟩ => ⟨S632x128, .f32⟩
  | .hbm, ⟨36, _⟩ => ⟨S632x128, .f32⟩
  | _, _ => ⟨S632x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamIn.lean ====
abbrev S16384x1288 : Shape := ⟨2, ![16384, 1288]⟩
abbrev S8x4096x1408 : Shape := ⟨3, ![8, 4096, 1408]⟩
abbrev S64x1288 : Shape := ⟨2, ![64, 1288]⟩
abbrev S1x64x1408 : Shape := ⟨3, ![1, 64, 1408]⟩
abbrev S64x1408 : Shape := ⟨2, ![64, 1408]⟩

abbrev nBuf : Space → Nat
  | .hbm => 12
  | .vmem => 30
  | .smem => 0
  | _ => 0

abbrev bufTy : (tb : Table) → Fin (tcTables nBuf tb) → BufTy
  | .hbm, ⟨0, _⟩ => ⟨S16384x1288, .f32⟩
  | .hbm, ⟨1, _⟩ => ⟨S16384x1288, .f32⟩
  | .hbm, ⟨2, _⟩ => ⟨S16384x1288, .f32⟩
  | .hbm, ⟨3, _⟩ => ⟨S8x4096x1408, .bf16⟩
  | .hbm, ⟨4, _⟩ => ⟨S16384x1288, .f32⟩
  | .hbm, ⟨5, _⟩ => ⟨S16384x1288, .f32⟩
  | .hbm, ⟨6, _⟩ => ⟨S16384x1288, .f32⟩
  | .hbm, ⟨7, _⟩ => ⟨S16384x1288, .f32⟩
  | .hbm, ⟨8, _⟩ => ⟨S16384x1288, .f32⟩
  | .hbm, ⟨9, _⟩ => ⟨S16384x1288, .f32⟩
  | .hbm, ⟨10, _⟩ => ⟨S16384x1288, .f32⟩
  | .hbm, ⟨11, _⟩ => ⟨S16384x1288, .f32⟩
  | .local _ .vmem, ⟨0, _⟩ => ⟨S64x1288, .f32⟩
  | .local _ .vmem, ⟨1, _⟩ => ⟨S64x1288, .f32⟩
  | .local _ .vmem, ⟨2, _⟩ => ⟨S64x1288, .f32⟩
  | .local _ .vmem, ⟨3, _⟩ => ⟨S64x1288, .f32⟩
  | .local _ .vmem, ⟨4, _⟩ => ⟨S64x1288, .f32⟩
  | .local _ .vmem, ⟨5, _⟩ => ⟨S64x1288, .f32⟩
  | .local _ .vmem, ⟨6, _⟩ => ⟨S1x64x1408, .bf16⟩
  | .local _ .vmem, ⟨7, _⟩ => ⟨S1x64x1408, .bf16⟩
  | .local _ .vmem, ⟨8, _⟩ => ⟨S1x64x1408, .bf16⟩
  | .local _ .vmem, ⟨9, _⟩ => ⟨S1x64x1408, .bf16⟩
  | .local _ .vmem, ⟨10, _⟩ => ⟨S1x64x1408, .bf16⟩
  | .local _ .vmem, ⟨11, _⟩ => ⟨S1x64x1408, .bf16⟩
  | .local _ .vmem, ⟨12, _⟩ => ⟨S1x64x1408, .bf16⟩
  | .local _ .vmem, ⟨13, _⟩ => ⟨S1x64x1408, .bf16⟩
  | .local _ .vmem, ⟨14, _⟩ => ⟨S1x64x1408, .bf16⟩
  | .local _ .vmem, ⟨15, _⟩ => ⟨S1x64x1408, .bf16⟩
  | .local _ .vmem, ⟨16, _⟩ => ⟨S1x64x1408, .bf16⟩
  | .local _ .vmem, ⟨17, _⟩ => ⟨S1x64x1408, .bf16⟩
  | .local _ .vmem, ⟨18, _⟩ => ⟨S1x64x1408, .bf16⟩
  | .local _ .vmem, ⟨19, _⟩ => ⟨S1x64x1408, .bf16⟩
  | .local _ .vmem, ⟨20, _⟩ => ⟨S1x64x1408, .bf16⟩
  | .local _ .vmem, ⟨21, _⟩ => ⟨S1x64x1408, .bf16⟩
  | .local _ .vmem, ⟨22, _⟩ => ⟨S64x1288, .f32⟩
  | .local _ .vmem, ⟨23, _⟩ => ⟨S64x1288, .f32⟩
  | .local _ .vmem, ⟨24, _⟩ => ⟨S64x1288, .f32⟩
  | .local _ .vmem, ⟨25, _⟩ => ⟨S64x1288, .f32⟩
  | .local _ .vmem, ⟨26, _⟩ => ⟨S64x1288, .f32⟩
  | .local _ .vmem, ⟨27, _⟩ => ⟨S64x1288, .f32⟩
  | .local _ .vmem, ⟨28, _⟩ => ⟨S64x1288, .f32⟩
  | .local _ .vmem, ⟨29, _⟩ => ⟨S64x1288, .f32⟩
  | _, _ => ⟨S16384x1288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_6 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_7 (i : grid0.Coords) : Fin 3 → Nat :=
  let arg0 : BitVec 32 := BitVec.ofNat 32 (i 0).val
  let c4_i32 : BitVec 32 := 4#32
  let c0_i32 : BitVec 32 := 0#32
  let c0_i32_0 : BitVec 32 := 0#32
  ![c4_i32.toNat, arg0.toNat, c0_i32.toNat]

def cc0_transform_8 (i : grid0.Coords) : Fin 3 → Nat :=
  let arg0 : BitVec 32 := BitVec.ofNat 32 (i 0).val
  let c5_i32 : BitVec 32 := 5#32
  let c0_i32 : BitVec 32 := 0#32
  let c0_i32_0 : BitVec 32 := 0#32
  ![c5_i32.toNat, arg0.toNat, c0_i32.toNat]

def cc0_transform_9 (i : grid0.Coords) : Fin 3 → Nat :=
  let arg0 : BitVec 32 := BitVec.ofNat 32 (i 0).val
  let c6_i32 : BitVec 32 := 6#32
  let c0_i32 : BitVec 32 := 0#32
  let c0_i32_0 : BitVec 32 := 0#32
  ![c6_i32.toNat, arg0.toNat, c0_i32.toNat]

def cc0_transform_10 (i : grid0.Coords) : Fin 3 → Nat :=
  let arg0 : BitVec 32 := BitVec.ofNat 32 (i 0).val
  let c7_i32 : BitVec 32 := 7#32
  let c0_i32 : BitVec 32 := 0#32
  let c0_i32_0 : BitVec 32 := 0#32
  ![c7_i32.toNat, arg0.toNat, c0_i32.toNat]

def cc0_transform_15 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_16 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_17 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_18 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 2 → Memref sig .tc .vmem S64x1288 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1288 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1288 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x64x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x64x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x64x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x64x1408 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x64x1408 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x64x1408 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x64x1408 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S64x1288 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S64x1288 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S64x1288 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S64x1288 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== AdamInIdeal.lean ====
abbrev S16384x1288 : Shape := ⟨2, ![16384, 1288]⟩
abbrev S8x4096x1408 : Shape := ⟨3, ![8, 4096, 1408]⟩
abbrev S64x1288 : Shape := ⟨2, ![64, 1288]⟩
abbrev S1x64x1408 : Shape := ⟨3, ![1, 64, 1408]⟩
abbrev S64x1408 : Shape := ⟨2, ![64, 1408]⟩

abbrev nBuf : Space → Nat
  | .hbm => 12
  | .vmem => 30
  | .smem => 0
  | _ => 0

abbrev bufTy : (tb : Table) → Fin (tcTables nBuf tb) → BufTy
  | .hbm, ⟨0, _⟩ => ⟨S16384x1288, .f32⟩
  | .hbm, ⟨1, _⟩ => ⟨S16384x1288, .f32⟩
  | .hbm, ⟨2, _⟩ => ⟨S16384x1288, .f32⟩
  | .hbm, ⟨3, _⟩ => ⟨S8x4096x1408, .bf16⟩
  | .hbm, ⟨4, _⟩ => ⟨S16384x1288, .f32⟩
  | .hbm, ⟨5, _⟩ => ⟨S16384x1288, .f32⟩
  | .hbm, ⟨6, _⟩ => ⟨S16384x1288, .f32⟩
  | .hbm, ⟨7, _⟩ => ⟨S16384x1288, .f32⟩
  | .hbm, ⟨8, _⟩ => ⟨S16384x1288, .f32⟩
  | .hbm, ⟨9, _⟩ => ⟨S16384x1288, .f32⟩
  | .hbm, ⟨10, _⟩ => ⟨S16384x1288, .f32⟩
  | .hbm, ⟨11, _⟩ => ⟨S16384x1288, .f32⟩
  | .local _ .vmem, ⟨0, _⟩ => ⟨S64x1288, .f32⟩
  | .local _ .vmem, ⟨1, _⟩ => ⟨S64x1288, .f32⟩
  | .local _ .vmem, ⟨2, _⟩ => ⟨S64x1288, .f32⟩
  | .local _ .vmem, ⟨3, _⟩ => ⟨S64x1288, .f32⟩
  | .local _ .vmem, ⟨4, _⟩ => ⟨S64x1288, .f32⟩
  | .local _ .vmem, ⟨5, _⟩ => ⟨S64x1288, .f32⟩
  | .local _ .vmem, ⟨6, _⟩ => ⟨S1x64x1408, .bf16⟩
  | .local _ .vmem, ⟨7, _⟩ => ⟨S1x64x1408, .bf16⟩
  | .local _ .vmem, ⟨8, _⟩ => ⟨S1x64x1408, .bf16⟩
  | .local _ .vmem, ⟨9, _⟩ => ⟨S1x64x1408, .bf16⟩
  | .local _ .vmem, ⟨10, _⟩ => ⟨S1x64x1408, .bf16⟩
  | .local _ .vmem, ⟨11, _⟩ => ⟨S1x64x1408, .bf16⟩
  | .local _ .vmem, ⟨12, _⟩ => ⟨S1x64x1408, .bf16⟩
  | .local _ .vmem, ⟨13, _⟩ => ⟨S1x64x1408, .bf16⟩
  | .local _ .vmem, ⟨14, _⟩ => ⟨S1x64x1408, .bf16⟩
  | .local _ .vmem, ⟨15, _⟩ => ⟨S1x64x1408, .bf16⟩
  | .local _ .vmem, ⟨16, _⟩ => ⟨S1x64x1408, .bf16⟩
  | .local _ .vmem, ⟨17, _⟩ => ⟨S1x64x1408, .bf16⟩
  | .local _ .vmem, ⟨18, _⟩ => ⟨S1x64x1408, .bf16⟩
  | .local _ .vmem, ⟨19, _⟩ => ⟨S1x64x1408, .bf16⟩
  | .local _ .vmem, ⟨20, _⟩ => ⟨S1x64x1408, .bf16⟩
  | .local _ .vmem, ⟨21, _⟩ => ⟨S1x64x1408, .bf16⟩
  | .local _ .vmem, ⟨22, _⟩ => ⟨S64x1288, .f32⟩
  | .local _ .vmem, ⟨23, _⟩ => ⟨S64x1288, .f32⟩
  | .local _ .vmem, ⟨24, _⟩ => ⟨S64x1288, .f32⟩
  | .local _ .vmem, ⟨25, _⟩ => ⟨S64x1288, .f32⟩
  | .local _ .vmem, ⟨26, _⟩ => ⟨S64x1288, .f32⟩
  | .local _ .vmem, ⟨27, _⟩ => ⟨S64x1288, .f32⟩
  | .local _ .vmem, ⟨28, _⟩ => ⟨S64x1288, .f32⟩
  | .local _ .vmem, ⟨29, _⟩ => ⟨S64x1288, .f32⟩
  | _, _ => ⟨S16384x1288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_6 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_7 (i : grid0.Coords) : Fin 3 → Nat :=
  let arg0 : BitVec 32 := BitVec.ofNat 32 (i 0).val
  let c4_i32 : BitVec 32 := 4#32
  let c0_i32 : BitVec 32 := 0#32
  let c0_i32_0 : BitVec 32 := 0#32
  ![c4_i32.toNat, arg0.toNat, c0_i32.toNat]

def cc0_transform_8 (i : grid0.Coords) : Fin 3 → Nat :=
  let arg0 : BitVec 32 := BitVec.ofNat 32 (i 0).val
  let c5_i32 : BitVec 32 := 5#32
  let c0_i32 : BitVec 32 := 0#32
  let c0_i32_0 : BitVec 32 := 0#32
  ![c5_i32.toNat, arg0.toNat, c0_i32.toNat]

def cc0_transform_9 (i : grid0.Coords) : Fin 3 → Nat :=
  let arg0 : BitVec 32 := BitVec.ofNat 32 (i 0).val
  let c6_i32 : BitVec 32 := 6#32
  let c0_i32 : BitVec 32 := 0#32
  let c0_i32_0 : BitVec 32 := 0#32
  ![c6_i32.toNat, arg0.toNat, c0_i32.toNat]

def cc0_transform_10 (i : grid0.Coords) : Fin 3 → Nat :=
  let arg0 : BitVec 32 := BitVec.ofNat 32 (i 0).val
  let c7_i32 : BitVec 32 := 7#32
  let c0_i32 : BitVec 32 := 0#32
  let c0_i32_0 : BitVec 32 := 0#32
  ![c7_i32.toNat, arg0.toNat, c0_i32.toNat]

def cc0_transform_15 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_16 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_17 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_18 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 2 → Memref sig .tc .vmem S64x1288 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1288 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1288 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x64x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x64x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x64x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x64x1408 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x64x1408 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x64x1408 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x64x1408 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S64x1288 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S64x1288 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S64x1288 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S64x1288 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== AdamInReferenceIdeal.lean ====
abbrev S16384x1288 : Shape := ⟨2, ![16384, 1288]⟩
abbrev S8x4096x1408 : Shape := ⟨3, ![8, 4096, 1408]⟩
abbrev S_ : Shape := ⟨0, ![]⟩
abbrev S4096x1408 : Shape := ⟨2, ![4096, 1408]⟩
abbrev S4096x1288 : Shape := ⟨2, ![4096, 1288]⟩
abbrev S12288x1288 : Shape := ⟨2, ![12288, 1288]⟩

abbrev nBuf : Space → Nat
  | .hbm => 56
  | .vmem => 0
  | .smem => 0
  | _ => 0

abbrev bufTy : (tb : Table) → Fin (tcTables nBuf tb) → BufTy
  | .hbm, ⟨0, _⟩ => ⟨S16384x1288, .f32⟩
  | .hbm, ⟨1, _⟩ => ⟨S16384x1288, .f32⟩
  | .hbm, ⟨2, _⟩ => ⟨S16384x1288, .f32⟩
  | .hbm, ⟨3, _⟩ => ⟨S8x4096x1408, .bf16⟩
  | .hbm, ⟨4, _⟩ => ⟨S16384x1288, .f32⟩
  | .hbm, ⟨5, _⟩ => ⟨S16384x1288, .f32⟩
  | .hbm, ⟨6, _⟩ => ⟨S16384x1288, .f32⟩
  | .hbm, ⟨7, _⟩ => ⟨S16384x1288, .f32⟩
  | .hbm, ⟨8, _⟩ => ⟨S8x4096x1408, .f32⟩
  | .hbm, ⟨9, _⟩ => ⟨S_, .f32⟩
  | .hbm, ⟨10, _⟩ => ⟨S4096x1408, .f32⟩
  | .hbm, ⟨11, _⟩ => ⟨S4096x1288, .f32⟩
  | .hbm, ⟨12, _⟩ => ⟨S4096x1288, .f32⟩
  | .hbm, ⟨13, _⟩ => ⟨S4096x1288, .f32⟩
  | .hbm, ⟨14, _⟩ => ⟨S4096x1288, .f32⟩
  | .hbm, ⟨15, _⟩ => ⟨S_, .f32⟩
  | .hbm, ⟨16, _⟩ => ⟨S4096x1288, .f32⟩
  | .hbm, ⟨17, _⟩ => ⟨S4096x1288, .f32⟩
  | .hbm, ⟨18, _⟩ => ⟨S_, .f32⟩
  | .hbm, ⟨19, _⟩ => ⟨S4096x1288, .f32⟩
  | .hbm, ⟨20, _⟩ => ⟨S4096x1288, .f32⟩
  | .hbm, ⟨21, _⟩ => ⟨S4096x1288, .f32⟩
  | .hbm, ⟨22, _⟩ => ⟨S_, .f32⟩
  | .hbm, ⟨23, _⟩ => ⟨S4096x1288, .f32⟩
  | .hbm, ⟨24, _⟩ => ⟨S4096x1288, .f32⟩
  | .hbm, ⟨25, _⟩ => ⟨S4096x1288, .f32⟩
  | .hbm, ⟨26, _⟩ => ⟨S_, .f32⟩
  | .hbm, ⟨27, _⟩ => ⟨S4096x1288, .f32⟩
  | .hbm, ⟨28, _⟩ => ⟨S4096x1288, .f32⟩
  | .hbm, ⟨29, _⟩ => ⟨S4096x1288, .f32⟩
  | .hbm, ⟨30, _⟩ => ⟨S_, .f32⟩
  | .hbm, ⟨31, _⟩ => ⟨S4096x1288, .f32⟩
  | .hbm, ⟨32, _⟩ => ⟨S4096x1288, .f32⟩
  | .hbm, ⟨33, _⟩ => ⟨S_, .f32⟩
  | .hbm, ⟨34, _⟩ => ⟨S4096x1288, .f32⟩
  | .hbm, ⟨35, _⟩ => ⟨S4096x1288, .f32⟩
  | .hbm, ⟨36, _⟩ => ⟨S4096x1288, .f32⟩
  | .hbm, ⟨37, _⟩ => ⟨S_, .f32⟩
  | .hbm, ⟨38, _⟩ => ⟨S4096x1288, .f32⟩
  | .hbm, ⟨39, _⟩ => ⟨S4096x1288, .f32⟩
  | .hbm, ⟨40, _⟩ => ⟨S4096x1288, .f32⟩
  | .hbm, ⟨41, _⟩ => ⟨S_, .f32⟩
  | .hbm, ⟨42, _⟩ => ⟨S4096x1288, .f32⟩
  | .hbm, ⟨43, _⟩ => ⟨S4096x1288, .f32⟩
  | .hbm, ⟨44, _⟩ => ⟨S4096x1288, .f32⟩
  | .hbm, ⟨45, _⟩ => ⟨S_, .f32⟩
  | .hbm, ⟨46, _⟩ => ⟨S4096x1288, .f32⟩
  | .hbm, ⟨47, _⟩ => ⟨S4096x1288, .f32⟩
  | .hbm, ⟨48, _⟩ => ⟨S12288x1288, .f32⟩
  | .hbm, ⟨49, _⟩ => ⟨S16384x1288, .f32⟩
  | .hbm, ⟨50, _⟩ => ⟨S12288x1288, .f32⟩
  | .hbm, ⟨51, _⟩ => ⟨S16384x1288, .f32⟩
  | .hbm, ⟨52, _⟩ => ⟨S12288x1288, .f32⟩
  | .hbm, ⟨53, _⟩ => ⟨S16384x1288, .f32⟩
  | .hbm, ⟨54, _⟩ => ⟨S12288x1288, .f32⟩
  | .hbm, ⟨55, _⟩ => ⟨S16384x1288, .f32⟩
  | _, _ => ⟨S16384x1288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_4 : Ref sig .tc := ⟨.hbm, 30, rfl⟩
abbrev main_v17 : Ref sig .tc := ⟨.hbm, 31, rfl⟩
abbrev main_v18 : Ref sig .tc := ⟨.hbm, 32, rfl⟩
abbrev main_cst_5 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_6 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_7 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_8 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩

abbrev nD : Nat := 1
abbrev τ : Topo := Topo.v7x

variable {F : FTy → Type} [FloatOps F]
-- ==== AdamQUp.lean ====
abbrev S4096x384 : Shape := ⟨2, ![4096, 384]⟩
abbrev S8x1024x384 : Shape := ⟨3, ![8, 1024, 384]⟩
abbrev S256x384 : Shape := ⟨2, ![256, 384]⟩
abbrev S1x256x384 : Shape := ⟨3, ![1, 256, 384]⟩

abbrev nBuf : Space → Nat
  | .hbm => 12
  | .vmem => 30
  | .smem => 0
  | _ => 0

abbrev bufTy : (tb : Table) → Fin (tcTables nBuf tb) → BufTy
  | .hbm, ⟨0, _⟩ => ⟨S4096x384, .f32⟩
  | .hbm, ⟨1, _⟩ => ⟨S4096x384, .f32⟩
  | .hbm, ⟨2, _⟩ => ⟨S4096x384, .f32⟩
  | .hbm, ⟨3, _⟩ => ⟨S8x1024x384, .bf16⟩
  | .hbm, ⟨4, _⟩ => ⟨S4096x384, .f32⟩
  | .hbm, ⟨5, _⟩ => ⟨S4096x384, .f32⟩
  | .hbm, ⟨6, _⟩ => ⟨S4096x384, .f32⟩
  | .hbm, ⟨7, _⟩ => ⟨S4096x384, .f32⟩
  | .hbm, ⟨8, _⟩ => ⟨S4096x384, .f32⟩
  | .hbm, ⟨9, _⟩ => ⟨S4096x384, .f32⟩
  | .hbm, ⟨10, _⟩ => ⟨S4096x384, .f32⟩
  | .hbm, ⟨11, _⟩ => ⟨S4096x384, .f32⟩
  | .local _ .vmem, ⟨0, _⟩ => ⟨S256x384, .f32⟩
  | .local _ .vmem, ⟨1, _⟩ => ⟨S256x384, .f32⟩
  | .local _ .vmem, ⟨2, _⟩ => ⟨S256x384, .f32⟩
  | .local _ .vmem, ⟨3, _⟩ => ⟨S256x384, .f32⟩
  | .local _ .vmem, ⟨4, _⟩ => ⟨S256x384, .f32⟩
  | .local _ .vmem, ⟨5, _⟩ => ⟨S256x384, .f32⟩
  | .local _ .vmem, ⟨6, _⟩ => ⟨S1x256x384, .bf16⟩
  | .local _ .vmem, ⟨7, _⟩ => ⟨S1x256x384, .bf16⟩
  | .local _ .vmem, ⟨8, _⟩ => ⟨S1x256x384, .bf16⟩
  | .local _ .vmem, ⟨9, _⟩ => ⟨S1x256x384, .bf16⟩
  | .local _ .vmem, ⟨10, _⟩ => ⟨S1x256x384, .bf16⟩
  | .local _ .vmem, ⟨11, _⟩ => ⟨S1x256x384, .bf16⟩
  | .local _ .vmem, ⟨12, _⟩ => ⟨S1x256x384, .bf16⟩
  | .local _ .vmem, ⟨13, _⟩ => ⟨S1x256x384, .bf16⟩
  | .local _ .vmem, ⟨14, _⟩ => ⟨S1x256x384, .bf16⟩
  | .local _ .vmem, ⟨15, _⟩ => ⟨S1x256x384, .bf16⟩
  | .local _ .vmem, ⟨16, _⟩ => ⟨S1x256x384, .bf16⟩
  | .local _ .vmem, ⟨17, _⟩ => ⟨S1x256x384, .bf16⟩
  | .local _ .vmem, ⟨18, _⟩ => ⟨S1x256x384, .bf16⟩
  | .local _ .vmem, ⟨19, _⟩ => ⟨S1x256x384, .bf16⟩
  | .local _ .vmem, ⟨20, _⟩ => ⟨S1x256x384, .bf16⟩
  | .local _ .vmem, ⟨21, _⟩ => ⟨S1x256x384, .bf16⟩
  | .local _ .vmem, ⟨22, _⟩ => ⟨S256x384, .f32⟩
  | .local _ .vmem, ⟨23, _⟩ => ⟨S256x384, .f32⟩
  | .local _ .vmem, ⟨24, _⟩ => ⟨S256x384, .f32⟩
  | .local _ .vmem, ⟨25, _⟩ => ⟨S256x384, .f32⟩
  | .local _ .vmem, ⟨26, _⟩ => ⟨S256x384, .f32⟩
  | .local _ .vmem, ⟨27, _⟩ => ⟨S256x384, .f32⟩
  | .local _ .vmem, ⟨28, _⟩ => ⟨S256x384, .f32⟩
  | .local _ .vmem, ⟨29, _⟩ => ⟨S256x384, .f32⟩
  | _, _ => ⟨S4096x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_6 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_7 (i : grid0.Coords) : Fin 3 → Nat :=
  let arg0 : BitVec 32 := BitVec.ofNat 32 (i 0).val
  let c4_i32 : BitVec 32 := 4#32
  let c0_i32 : BitVec 32 := 0#32
  let c0_i32_0 : BitVec 32 := 0#32
  ![c4_i32.toNat, arg0.toNat, c0_i32.toNat]

def cc0_transform_8 (i : grid0.Coords) : Fin 3 → Nat :=
  let arg0 : BitVec 32 := BitVec.ofNat 32 (i 0).val
  let c5_i32 : BitVec 32 := 5#32
  let c0_i32 : BitVec 32 := 0#32
  let c0_i32_0 : BitVec 32 := 0#32
  ![c5_i32.toNat, arg0.toNat, c0_i32.toNat]

def cc0_transform_9 (i : grid0.Coords) : Fin 3 → Nat :=
  let arg0 : BitVec 32 := BitVec.ofNat 32 (i 0).val
  let c6_i32 : BitVec 32 := 6#32
  let c0_i32 : BitVec 32 := 0#32
  let c0_i32_0 : BitVec 32 := 0#32
  ![c6_i32.toNat, arg0.toNat, c0_i32.toNat]

def cc0_transform_10 (i : grid0.Coords) : Fin 3 → Nat :=
  let arg0 : BitVec 32 := BitVec.ofNat 32 (i 0).val
  let c7_i32 : BitVec 32 := 7#32
  let c0_i32 : BitVec 32 := 0#32
  let c0_i32_0 : BitVec 32 := 0#32
  ![c7_i32.toNat, arg0.toNat, c0_i32.toNat]

def cc0_transform_15 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_16 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_17 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_18 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 2 → Memref sig .tc .vmem S256x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x384 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x384 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x384 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x384 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x384 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256x384 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x256x384 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x384 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x384 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x384 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x384 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== AdamQUpIdeal.lean ====
abbrev S4096x384 : Shape := ⟨2, ![4096, 384]⟩
abbrev S8x1024x384 : Shape := ⟨3, ![8, 1024, 384]⟩
abbrev S256x384 : Shape := ⟨2, ![256, 384]⟩
abbrev S1x256x384 : Shape := ⟨3, ![1, 256, 384]⟩

abbrev nBuf : Space → Nat
  | .hbm => 12
  | .vmem => 30
  | .smem => 0
  | _ => 0

abbrev bufTy : (tb : Table) → Fin (tcTables nBuf tb) → BufTy
  | .hbm, ⟨0, _⟩ => ⟨S4096x384, .f32⟩
  | .hbm, ⟨1, _⟩ => ⟨S4096x384, .f32⟩
  | .hbm, ⟨2, _⟩ => ⟨S4096x384, .f32⟩
  | .hbm, ⟨3, _⟩ => ⟨S8x1024x384, .bf16⟩
  | .hbm, ⟨4, _⟩ => ⟨S4096x384, .f32⟩
  | .hbm, ⟨5, _⟩ => ⟨S4096x384, .f32⟩
  | .hbm, ⟨6, _⟩ => ⟨S4096x384, .f32⟩
  | .hbm, ⟨7, _⟩ => ⟨S4096x384, .f32⟩
  | .hbm, ⟨8, _⟩ => ⟨S4096x384, .f32⟩
  | .hbm, ⟨9, _⟩ => ⟨S4096x384, .f32⟩
  | .hbm, ⟨10, _⟩ => ⟨S4096x384, .f32⟩
  | .hbm, ⟨11, _⟩ => ⟨S4096x384, .f32⟩
  | .local _ .vmem, ⟨0, _⟩ => ⟨S256x384, .f32⟩
  | .local _ .vmem, ⟨1, _⟩ => ⟨S256x384, .f32⟩
  | .local _ .vmem, ⟨2, _⟩ => ⟨S256x384, .f32⟩
  | .local _ .vmem, ⟨3, _⟩ => ⟨S256x384, .f32⟩
  | .local _ .vmem, ⟨4, _⟩ => ⟨S256x384, .f32⟩
  | .local _ .vmem, ⟨5, _⟩ => ⟨S256x384, .f32⟩
  | .local _ .vmem, ⟨6, _⟩ => ⟨S1x256x384, .bf16⟩
  | .local _ .vmem, ⟨7, _⟩ => ⟨S1x256x384, .bf16⟩
  | .local _ .vmem, ⟨8, _⟩ => ⟨S1x256x384, .bf16⟩
  | .local _ .vmem, ⟨9, _⟩ => ⟨S1x256x384, .bf16⟩
  | .local _ .vmem, ⟨10, _⟩ => ⟨S1x256x384, .bf16⟩
  | .local _ .vmem, ⟨11, _⟩ => ⟨S1x256x384, .bf16⟩
  | .local _ .vmem, ⟨12, _⟩ => ⟨S1x256x384, .bf16⟩
  | .local _ .vmem, ⟨13, _⟩ => ⟨S1x256x384, .bf16⟩
  | .local _ .vmem, ⟨14, _⟩ => ⟨S1x256x384, .bf16⟩
  | .local _ .vmem, ⟨15, _⟩ => ⟨S1x256x384, .bf16⟩
  | .local _ .vmem, ⟨16, _⟩ => ⟨S1x256x384, .bf16⟩
  | .local _ .vmem, ⟨17, _⟩ => ⟨S1x256x384, .bf16⟩
  | .local _ .vmem, ⟨18, _⟩ => ⟨S1x256x384, .bf16⟩
  | .local _ .vmem, ⟨19, _⟩ => ⟨S1x256x384, .bf16⟩
  | .local _ .vmem, ⟨20, _⟩ => ⟨S1x256x384, .bf16⟩
  | .local _ .vmem, ⟨21, _⟩ => ⟨S1x256x384, .bf16⟩
  | .local _ .vmem, ⟨22, _⟩ => ⟨S256x384, .f32⟩
  | .local _ .vmem, ⟨23, _⟩ => ⟨S256x384, .f32⟩
  | .local _ .vmem, ⟨24, _⟩ => ⟨S256x384, .f32⟩
  | .local _ .vmem, ⟨25, _⟩ => ⟨S256x384, .f32⟩
  | .local _ .vmem, ⟨26, _⟩ => ⟨S256x384, .f32⟩
  | .local _ .vmem, ⟨27, _⟩ => ⟨S256x384, .f32⟩
  | .local _ .vmem, ⟨28, _⟩ => ⟨S256x384, .f32⟩
  | .local _ .vmem, ⟨29, _⟩ => ⟨S256x384, .f32⟩
  | _, _ => ⟨S4096x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_6 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_7 (i : grid0.Coords) : Fin 3 → Nat :=
  let arg0 : BitVec 32 := BitVec.ofNat 32 (i 0).val
  let c4_i32 : BitVec 32 := 4#32
  let c0_i32 : BitVec 32 := 0#32
  let c0_i32_0 : BitVec 32 := 0#32
  ![c4_i32.toNat, arg0.toNat, c0_i32.toNat]

def cc0_transform_8 (i : grid0.Coords) : Fin 3 → Nat :=
  let arg0 : BitVec 32 := BitVec.ofNat 32 (i 0).val
  let c5_i32 : BitVec 32 := 5#32
  let c0_i32 : BitVec 32 := 0#32
  let c0_i32_0 : BitVec 32 := 0#32
  ![c5_i32.toNat, arg0.toNat, c0_i32.toNat]

def cc0_transform_9 (i : grid0.Coords) : Fin 3 → Nat :=
  let arg0 : BitVec 32 := BitVec.ofNat 32 (i 0).val
  let c6_i32 : BitVec 32 := 6#32
  let c0_i32 : BitVec 32 := 0#32
  let c0_i32_0 : BitVec 32 := 0#32
  ![c6_i32.toNat, arg0.toNat, c0_i32.toNat]

def cc0_transform_10 (i : grid0.Coords) : Fin 3 → Nat :=
  let arg0 : BitVec 32 := BitVec.ofNat 32 (i 0).val
  let c7_i32 : BitVec 32 := 7#32
  let c0_i32 : BitVec 32 := 0#32
  let c0_i32_0 : BitVec 32 := 0#32
  ![c7_i32.toNat, arg0.toNat, c0_i32.toNat]

def cc0_transform_15 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_16 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_17 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_18 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 2 → Memref sig .tc .vmem S256x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x384 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x384 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x384 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x384 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x384 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256x384 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x256x384 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x384 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x384 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x384 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x384 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== AdamQUpReferenceIdeal.lean ====
abbrev S4096x384 : Shape := ⟨2, ![4096, 384]⟩
abbrev S8x1024x384 : Shape := ⟨3, ![8, 1024, 384]⟩
abbrev S_ : Shape := ⟨0, ![]⟩
abbrev S1024x384 : Shape := ⟨2, ![1024, 384]⟩
abbrev S3072x384 : Shape := ⟨2, ![3072, 384]⟩

abbrev nBuf : Space → Nat
  | .hbm => 55
  | .vmem => 0
  | .smem => 0
  | _ => 0

abbrev bufTy : (tb : Table) → Fin (tcTables nBuf tb) → BufTy
  | .hbm, ⟨0, _⟩ => ⟨S4096x384, .f32⟩
  | .hbm, ⟨1, _⟩ => ⟨S4096x384, .f32⟩
  | .hbm, ⟨2, _⟩ => ⟨S4096x384, .f32⟩
  | .hbm, ⟨3, _⟩ => ⟨S8x1024x384, .bf16⟩
  | .hbm, ⟨4, _⟩ => ⟨S4096x384, .f32⟩
  | .hbm, ⟨5, _⟩ => ⟨S4096x384, .f32⟩
  | .hbm, ⟨6, _⟩ => ⟨S4096x384, .f32⟩
  | .hbm, ⟨7, _⟩ => ⟨S4096x384, .f32⟩
  | .hbm, ⟨8, _⟩ => ⟨S8x1024x384, .f32⟩
  | .hbm, ⟨9, _⟩ => ⟨S_, .f32⟩
  | .hbm, ⟨10, _⟩ => ⟨S1024x384, .f32⟩
  | .hbm, ⟨11, _⟩ => ⟨S1024x384, .f32⟩
  | .hbm, ⟨12, _⟩ => ⟨S1024x384, .f32⟩
  | .hbm, ⟨13, _⟩ => ⟨S1024x384, .f32⟩
  | .hbm, ⟨14, _⟩ => ⟨S_, .f32⟩
  | .hbm, ⟨15, _⟩ => ⟨S1024x384, .f32⟩
  | .hbm, ⟨16, _⟩ => ⟨S1024x384, .f32⟩
  | .hbm, ⟨17, _⟩ => ⟨S_, .f32⟩
  | .hbm, ⟨18, _⟩ => ⟨S1024x384, .f32⟩
  | .hbm, ⟨19, _⟩ => ⟨S1024x384, .f32⟩
  | .hbm, ⟨20, _⟩ => ⟨S1024x384, .f32⟩
  | .hbm, ⟨21, _⟩ => ⟨S_, .f32⟩
  | .hbm, ⟨22, _⟩ => ⟨S1024x384, .f32⟩
  | .hbm, ⟨23, _⟩ => ⟨S1024x384, .f32⟩
  | .hbm, ⟨24, _⟩ => ⟨S1024x384, .f32⟩
  | .hbm, ⟨25, _⟩ => ⟨S_, .f32⟩
  | .hbm, ⟨26, _⟩ => ⟨S1024x384, .f32⟩
  | .hbm, ⟨27, _⟩ => ⟨S1024x384, .f32⟩
  | .hbm, ⟨28, _⟩ => ⟨S1024x384, .f32⟩
  | .hbm, ⟨29, _⟩ => ⟨S_, .f32⟩
  | .hbm, ⟨30, _⟩ => ⟨S1024x384, .f32⟩
  | .hbm, ⟨31, _⟩ => ⟨S1024x384, .f32⟩
  | .hbm, ⟨32, _⟩ => ⟨S_, .f32⟩
  | .hbm, ⟨33, _⟩ => ⟨S1024x384, .f32⟩
  | .hbm, ⟨34, _⟩ => ⟨S1024x384, .f32⟩
  | .hbm, ⟨35, _⟩ => ⟨S1024x384, .f32⟩
  | .hbm, ⟨36, _⟩ => ⟨S_, .f32⟩
  | .hbm, ⟨37, _⟩ => ⟨S1024x384, .f32⟩
  | .hbm, ⟨38, _⟩ => ⟨S1024x384, .f32⟩
  | .hbm, ⟨39, _⟩ => ⟨S1024x384, .f32⟩
  | .hbm, ⟨40, _⟩ => ⟨S_, .f32⟩
  | .hbm, ⟨41, _⟩ => ⟨S1024x384, .f32⟩
  | .hbm, ⟨42, _⟩ => ⟨S1024x384, .f32⟩
  | .hbm, ⟨43, _⟩ => ⟨S1024x384, .f32⟩
  | .hbm, ⟨44, _⟩ => ⟨S_, .f32⟩
  | .hbm, ⟨45, _⟩ => ⟨S1024x384, .f32⟩
  | .hbm, ⟨46, _⟩ => ⟨S1024x384, .f32⟩
  | .hbm, ⟨47, _⟩ => ⟨S3072x384, .f32⟩
  | .hbm, ⟨48, _⟩ => ⟨S4096x384, .f32⟩
  | .hbm, ⟨49, _⟩ => ⟨S3072x384, .f32⟩
  | .hbm, ⟨50, _⟩ => ⟨S4096x384, .f32⟩
  | .hbm, ⟨51, _⟩ => ⟨S3072x384, .f32⟩
  | .hbm, ⟨52, _⟩ => ⟨S4096x384, .f32⟩
  | .hbm, ⟨53, _⟩ => ⟨S3072x384, .f32⟩
  | .hbm, ⟨54, _⟩ => ⟨S4096x384, .f32⟩
  | _, _ => ⟨S4096x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_cst_5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_6 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_7 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_8 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩

abbrev nD : Nat := 1
abbrev τ : Topo := Topo.v7x

variable {F : FTy → Type} [FloatOps F]
-- ==== AdamKvUp.lean ====
abbrev S2048x512 : Shape := ⟨2, ![2048, 512]⟩
abbrev S8x512x512 : Shape := ⟨3, ![8, 512, 512]⟩
abbrev S256x512 : Shape := ⟨2, ![256, 512]⟩
abbrev S1x256x512 : Shape := ⟨3, ![1, 256, 512]⟩

abbrev nBuf : Space → Nat
  | .hbm => 12
  | .vmem => 30
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S8x512x512, .bf16⟩
  | .hbm, ⟨4, _⟩ => ⟨S2048x512, .f32⟩
  | .hbm, ⟨5, _⟩ => ⟨S2048x512, .f32⟩
  | .hbm, ⟨6, _⟩ => ⟨S2048x512, .f32⟩
  | .hbm, ⟨7, _⟩ => ⟨S2048x512, .f32⟩
  | .hbm, ⟨8, _⟩ => ⟨S2048x512, .f32⟩
  | .hbm, ⟨9, _⟩ => ⟨S2048x512, .f32⟩
  | .hbm, ⟨10, _⟩ => ⟨S2048x512, .f32⟩
  | .hbm, ⟨11, _⟩ => ⟨S2048x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S1x256x512, .bf16⟩
  | .local _ .vmem, ⟨7, _⟩ => ⟨S1x256x512, .bf16⟩
  | .local _ .vmem, ⟨8, _⟩ => ⟨S1x256x512, .bf16⟩
  | .local _ .vmem, ⟨9, _⟩ => ⟨S1x256x512, .bf16⟩
  | .local _ .vmem, ⟨10, _⟩ => ⟨S1x256x512, .bf16⟩
  | .local _ .vmem, ⟨11, _⟩ => ⟨S1x256x512, .bf16⟩
  | .local _ .vmem, ⟨12, _⟩ => ⟨S1x256x512, .bf16⟩
  | .local _ .vmem, ⟨13, _⟩ => ⟨S1x256x512, .bf16⟩
  | .local _ .vmem, ⟨14, _⟩ => ⟨S1x256x512, .bf16⟩
  | .local _ .vmem, ⟨15, _⟩ => ⟨S1x256x512, .bf16⟩
  | .local _ .vmem, ⟨16, _⟩ => ⟨S1x256x512, .bf16⟩
  | .local _ .vmem, ⟨17, _⟩ => ⟨S1x256x512, .bf16⟩
  | .local _ .vmem, ⟨18, _⟩ => ⟨S1x256x512, .bf16⟩
  | .local _ .vmem, ⟨19, _⟩ => ⟨S1x256x512, .bf16⟩
  | .local _ .vmem, ⟨20, _⟩ => ⟨S1x256x512, .bf16⟩
  | .local _ .vmem, ⟨21, _⟩ => ⟨S1x256x512, .bf16⟩
  | .local _ .vmem, ⟨22, _⟩ => ⟨S256x512, .f32⟩
  | .local _ .vmem, ⟨23, _⟩ => ⟨S256x512, .f32⟩
  | .local _ .vmem, ⟨24, _⟩ => ⟨S256x512, .f32⟩
  | .local _ .vmem, ⟨25, _⟩ => ⟨S256x512, .f32⟩
  | .local _ .vmem, ⟨26, _⟩ => ⟨S256x512, .f32⟩
  | .local _ .vmem, ⟨27, _⟩ => ⟨S256x512, .f32⟩
  | .local _ .vmem, ⟨28, _⟩ => ⟨S256x512, .f32⟩
  | .local _ .vmem, ⟨29, _⟩ => ⟨S256x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_6 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_7 (i : grid0.Coords) : Fin 3 → Nat :=
  let arg0 : BitVec 32 := BitVec.ofNat 32 (i 0).val
  let c4_i32 : BitVec 32 := 4#32
  let c0_i32 : BitVec 32 := 0#32
  let c0_i32_0 : BitVec 32 := 0#32
  ![c4_i32.toNat, arg0.toNat, c0_i32.toNat]

def cc0_transform_8 (i : grid0.Coords) : Fin 3 → Nat :=
  let arg0 : BitVec 32 := BitVec.ofNat 32 (i 0).val
  let c5_i32 : BitVec 32 := 5#32
  let c0_i32 : BitVec 32 := 0#32
  let c0_i32_0 : BitVec 32 := 0#32
  ![c5_i32.toNat, arg0.toNat, c0_i32.toNat]

def cc0_transform_9 (i : grid0.Coords) : Fin 3 → Nat :=
  let arg0 : BitVec 32 := BitVec.ofNat 32 (i 0).val
  let c6_i32 : BitVec 32 := 6#32
  let c0_i32 : BitVec 32 := 0#32
  let c0_i32_0 : BitVec 32 := 0#32
  ![c6_i32.toNat, arg0.toNat, c0_i32.toNat]

def cc0_transform_10 (i : grid0.Coords) : Fin 3 → Nat :=
  let arg0 : BitVec 32 := BitVec.ofNat 32 (i 0).val
  let c7_i32 : BitVec 32 := 7#32
  let c0_i32 : BitVec 32 := 0#32
  let c0_i32_0 : BitVec 32 := 0#32
  ![c7_i32.toNat, arg0.toNat, c0_i32.toNat]

def cc0_transform_15 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_16 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_17 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_18 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== AdamKvUpIdeal.lean ====
abbrev S2048x512 : Shape := ⟨2, ![2048, 512]⟩
abbrev S8x512x512 : Shape := ⟨3, ![8, 512, 512]⟩
abbrev S256x512 : Shape := ⟨2, ![256, 512]⟩
abbrev S1x256x512 : Shape := ⟨3, ![1, 256, 512]⟩

abbrev nBuf : Space → Nat
  | .hbm => 12
  | .vmem => 30
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S8x512x512, .bf16⟩
  | .hbm, ⟨4, _⟩ => ⟨S2048x512, .f32⟩
  | .hbm, ⟨5, _⟩ => ⟨S2048x512, .f32⟩
  | .hbm, ⟨6, _⟩ => ⟨S2048x512, .f32⟩
  | .hbm, ⟨7, _⟩ => ⟨S2048x512, .f32⟩
  | .hbm, ⟨8, _⟩ => ⟨S2048x512, .f32⟩
  | .hbm, ⟨9, _⟩ => ⟨S2048x512, .f32⟩
  | .hbm, ⟨10, _⟩ => ⟨S2048x512, .f32⟩
  | .hbm, ⟨11, _⟩ => ⟨S2048x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S1x256x512, .bf16⟩
  | .local _ .vmem, ⟨7, _⟩ => ⟨S1x256x512, .bf16⟩
  | .local _ .vmem, ⟨8, _⟩ => ⟨S1x256x512, .bf16⟩
  | .local _ .vmem, ⟨9, _⟩ => ⟨S1x256x512, .bf16⟩
  | .local _ .vmem, ⟨10, _⟩ => ⟨S1x256x512, .bf16⟩
  | .local _ .vmem, ⟨11, _⟩ => ⟨S1x256x512, .bf16⟩
  | .local _ .vmem, ⟨12, _⟩ => ⟨S1x256x512, .bf16⟩
  | .local _ .vmem, ⟨13, _⟩ => ⟨S1x256x512, .bf16⟩
  | .local _ .vmem, ⟨14, _⟩ => ⟨S1x256x512, .bf16⟩
  | .local _ .vmem, ⟨15, _⟩ => ⟨S1x256x512, .bf16⟩
  | .local _ .vmem, ⟨16, _⟩ => ⟨S1x256x512, .bf16⟩
  | .local _ .vmem, ⟨17, _⟩ => ⟨S1x256x512, .bf16⟩
  | .local _ .vmem, ⟨18, _⟩ => ⟨S1x256x512, .bf16⟩
  | .local _ .vmem, ⟨19, _⟩ => ⟨S1x256x512, .bf16⟩
  | .local _ .vmem, ⟨20, _⟩ => ⟨S1x256x512, .bf16⟩
  | .local _ .vmem, ⟨21, _⟩ => ⟨S1x256x512, .bf16⟩
  | .local _ .vmem, ⟨22, _⟩ => ⟨S256x512, .f32⟩
  | .local _ .vmem, ⟨23, _⟩ => ⟨S256x512, .f32⟩
  | .local _ .vmem, ⟨24, _⟩ => ⟨S256x512, .f32⟩
  | .local _ .vmem, ⟨25, _⟩ => ⟨S256x512, .f32⟩
  | .local _ .vmem, ⟨26, _⟩ => ⟨S256x512, .f32⟩
  | .local _ .vmem, ⟨27, _⟩ => ⟨S256x512, .f32⟩
  | .local _ .vmem, ⟨28, _⟩ => ⟨S256x512, .f32⟩
  | .local _ .vmem, ⟨29, _⟩ => ⟨S256x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_6 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_7 (i : grid0.Coords) : Fin 3 → Nat :=
  let arg0 : BitVec 32 := BitVec.ofNat 32 (i 0).val
  let c4_i32 : BitVec 32 := 4#32
  let c0_i32 : BitVec 32 := 0#32
  let c0_i32_0 : BitVec 32 := 0#32
  ![c4_i32.toNat, arg0.toNat, c0_i32.toNat]

def cc0_transform_8 (i : grid0.Coords) : Fin 3 → Nat :=
  let arg0 : BitVec 32 := BitVec.ofNat 32 (i 0).val
  let c5_i32 : BitVec 32 := 5#32
  let c0_i32 : BitVec 32 := 0#32
  let c0_i32_0 : BitVec 32 := 0#32
  ![c5_i32.toNat, arg0.toNat, c0_i32.toNat]

def cc0_transform_9 (i : grid0.Coords) : Fin 3 → Nat :=
  let arg0 : BitVec 32 := BitVec.ofNat 32 (i 0).val
  let c6_i32 : BitVec 32 := 6#32
  let c0_i32 : BitVec 32 := 0#32
  let c0_i32_0 : BitVec 32 := 0#32
  ![c6_i32.toNat, arg0.toNat, c0_i32.toNat]

def cc0_transform_10 (i : grid0.Coords) : Fin 3 → Nat :=
  let arg0 : BitVec 32 := BitVec.ofNat 32 (i 0).val
  let c7_i32 : BitVec 32 := 7#32
  let c0_i32 : BitVec 32 := 0#32
  let c0_i32_0 : BitVec 32 := 0#32
  ![c7_i32.toNat, arg0.toNat, c0_i32.toNat]

def cc0_transform_15 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_16 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_17 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_18 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== AdamKvUpReferenceIdeal.lean ====
abbrev S2048x512 : Shape := ⟨2, ![2048, 512]⟩
abbrev S8x512x512 : Shape := ⟨3, ![8, 512, 512]⟩
abbrev S_ : Shape := ⟨0, ![]⟩
abbrev S512x512 : Shape := ⟨2, ![512, 512]⟩
abbrev S1536x512 : Shape := ⟨2, ![1536, 512]⟩

abbrev nBuf : Space → Nat
  | .hbm => 55
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S8x512x512, .bf16⟩
  | .hbm, ⟨4, _⟩ => ⟨S2048x512, .f32⟩
  | .hbm, ⟨5, _⟩ => ⟨S2048x512, .f32⟩
  | .hbm, ⟨6, _⟩ => ⟨S2048x512, .f32⟩
  | .hbm, ⟨7, _⟩ => ⟨S2048x512, .f32⟩
  | .hbm, ⟨8, _⟩ => ⟨S8x512x512, .f32⟩
  | .hbm, ⟨9, _⟩ => ⟨S_, .f32⟩
  | .hbm, ⟨10, _⟩ => ⟨S512x512, .f32⟩
  | .hbm, ⟨11, _⟩ => ⟨S512x512, .f32⟩
  | .hbm, ⟨12, _⟩ => ⟨S512x512, .f32⟩
  | .hbm, ⟨13, _⟩ => ⟨S512x512, .f32⟩
  | .hbm, ⟨14, _⟩ => ⟨S_, .f32⟩
  | .hbm, ⟨15, _⟩ => ⟨S512x512, .f32⟩
  | .hbm, ⟨16, _⟩ => ⟨S512x512, .f32⟩
  | .hbm, ⟨17, _⟩ => ⟨S_, .f32⟩
  | .hbm, ⟨18, _⟩ => ⟨S512x512, .f32⟩
  | .hbm, ⟨19, _⟩ => ⟨S512x512, .f32⟩
  | .hbm, ⟨20, _⟩ => ⟨S512x512, .f32⟩
  | .hbm, ⟨21, _⟩ => ⟨S_, .f32⟩
  | .hbm, ⟨22, _⟩ => ⟨S512x512, .f32⟩
  | .hbm, ⟨23, _⟩ => ⟨S512x512, .f32⟩
  | .hbm, ⟨24, _⟩ => ⟨S512x512, .f32⟩
  | .hbm, ⟨25, _⟩ => ⟨S_, .f32⟩
  | .hbm, ⟨26, _⟩ => ⟨S512x512, .f32⟩
  | .hbm, ⟨27, _⟩ => ⟨S512x512, .f32⟩
  | .hbm, ⟨28, _⟩ => ⟨S512x512, .f32⟩
  | .hbm, ⟨29, _⟩ => ⟨S_, .f32⟩
  | .hbm, ⟨30, _⟩ => ⟨S512x512, .f32⟩
  | .hbm, ⟨31, _⟩ => ⟨S512x512, .f32⟩
  | .hbm, ⟨32, _⟩ => ⟨S_, .f32⟩
  | .hbm, ⟨33, _⟩ => ⟨S512x512, .f32⟩
  | .hbm, ⟨34, _⟩ => ⟨S512x512, .f32⟩
  | .hbm, ⟨35, _⟩ => ⟨S512x512, .f32⟩
  | .hbm, ⟨36, _⟩ => ⟨S_, .f32⟩
  | .hbm, ⟨37, _⟩ => ⟨S512x512, .f32⟩
  | .hbm, ⟨38, _⟩ => ⟨S512x512, .f32⟩
  | .hbm, ⟨39, _⟩ => ⟨S512x512, .f32⟩
  | .hbm, ⟨40, _⟩ => ⟨S_, .f32⟩
  | .hbm, ⟨41, _⟩ => ⟨S512x512, .f32⟩
  | .hbm, ⟨42, _⟩ => ⟨S512x512, .f32⟩
  | .hbm, ⟨43, _⟩ => ⟨S512x512, .f32⟩
  | .hbm, ⟨44, _⟩ => ⟨S_, .f32⟩
  | .hbm, ⟨45, _⟩ => ⟨S512x512, .f32⟩
  | .hbm, ⟨46, _⟩ => ⟨S512x512, .f32⟩
  | .hbm, ⟨47, _⟩ => ⟨S1536x512, .f32⟩
  | .hbm, ⟨48, _⟩ => ⟨S2048x512, .f32⟩
  | .hbm, ⟨49, _⟩ => ⟨S1536x512, .f32⟩
  | .hbm, ⟨50, _⟩ => ⟨S2048x512, .f32⟩
  | .hbm, ⟨51, _⟩ => ⟨S1536x512, .f32⟩
  | .hbm, ⟨52, _⟩ => ⟨S2048x512, .f32⟩
  | .hbm, ⟨53, _⟩ => ⟨S1536x512, .f32⟩
  | .hbm, ⟨54, _⟩ => ⟨S2048x512, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_cst_5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_6 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_7 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_8 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩

abbrev nD : Nat := 1
abbrev τ : Topo := Topo.v7x

variable {F : FTy → Type} [FloatOps F]
-- ==== AdamOut.lean ====
abbrev S2048x4096 : Shape := ⟨2, ![2048, 4096]⟩
abbrev S8x512x4096 : Shape := ⟨3, ![8, 512, 4096]⟩
abbrev S32x4096 : Shape := ⟨2, ![32, 4096]⟩
abbrev S1x32x4096 : Shape := ⟨3, ![1, 32, 4096]⟩

abbrev nBuf : Space → Nat
  | .hbm => 12
  | .vmem => 30
  | .smem => 0
  | _ => 0

abbrev bufTy : (tb : Table) → Fin (tcTables nBuf tb) → BufTy
  | .hbm, ⟨0, _⟩ => ⟨S2048x4096, .f32⟩
  | .hbm, ⟨1, _⟩ => ⟨S2048x4096, .f32⟩
  | .hbm, ⟨2, _⟩ => ⟨S2048x4096, .f32⟩
  | .hbm, ⟨3, _⟩ => ⟨S8x512x4096, .bf16⟩
  | .hbm, ⟨4, _⟩ => ⟨S2048x4096, .f32⟩
  | .hbm, ⟨5, _⟩ => ⟨S2048x4096, .f32⟩
  | .hbm, ⟨6, _⟩ => ⟨S2048x4096, .f32⟩
  | .hbm, ⟨7, _⟩ => ⟨S2048x4096, .f32⟩
  | .hbm, ⟨8, _⟩ => ⟨S2048x4096, .f32⟩
  | .hbm, ⟨9, _⟩ => ⟨S2048x4096, .f32⟩
  | .hbm, ⟨10, _⟩ => ⟨S2048x4096, .f32⟩
  | .hbm, ⟨11, _⟩ => ⟨S2048x4096, .f32⟩
  | .local _ .vmem, ⟨0, _⟩ => ⟨S32x4096, .f32⟩
  | .local _ .vmem, ⟨1, _⟩ => ⟨S32x4096, .f32⟩
  | .local _ .vmem, ⟨2, _⟩ => ⟨S32x4096, .f32⟩
  | .local _ .vmem, ⟨3, _⟩ => ⟨S32x4096, .f32⟩
  | .local _ .vmem, ⟨4, _⟩ => ⟨S32x4096, .f32⟩
  | .local _ .vmem, ⟨5, _⟩ => ⟨S32x4096, .f32⟩
  | .local _ .vmem, ⟨6, _⟩ => ⟨S1x32x4096, .bf16⟩
  | .local _ .vmem, ⟨7, _⟩ => ⟨S1x32x4096, .bf16⟩
  | .local _ .vmem, ⟨8, _⟩ => ⟨S1x32x4096, .bf16⟩
  | .local _ .vmem, ⟨9, _⟩ => ⟨S1x32x4096, .bf16⟩
  | .local _ .vmem, ⟨10, _⟩ => ⟨S1x32x4096, .bf16⟩
  | .local _ .vmem, ⟨11, _⟩ => ⟨S1x32x4096, .bf16⟩
  | .local _ .vmem, ⟨12, _⟩ => ⟨S1x32x4096, .bf16⟩
  | .local _ .vmem, ⟨13, _⟩ => ⟨S1x32x4096, .bf16⟩
  | .local _ .vmem, ⟨14, _⟩ => ⟨S1x32x4096, .bf16⟩
  | .local _ .vmem, ⟨15, _⟩ => ⟨S1x32x4096, .bf16⟩
  | .local _ .vmem, ⟨16, _⟩ => ⟨S1x32x4096, .bf16⟩
  | .local _ .vmem, ⟨17, _⟩ => ⟨S1x32x4096, .bf16⟩
  | .local _ .vmem, ⟨18, _⟩ => ⟨S1x32x4096, .bf16⟩
  | .local _ .vmem, ⟨19, _⟩ => ⟨S1x32x4096, .bf16⟩
  | .local _ .vmem, ⟨20, _⟩ => ⟨S1x32x4096, .bf16⟩
  | .local _ .vmem, ⟨21, _⟩ => ⟨S1x32x4096, .bf16⟩
  | .local _ .vmem, ⟨22, _⟩ => ⟨S32x4096, .f32⟩
  | .local _ .vmem, ⟨23, _⟩ => ⟨S32x4096, .f32⟩
  | .local _ .vmem, ⟨24, _⟩ => ⟨S32x4096, .f32⟩
  | .local _ .vmem, ⟨25, _⟩ => ⟨S32x4096, .f32⟩
  | .local _ .vmem, ⟨26, _⟩ => ⟨S32x4096, .f32⟩
  | .local _ .vmem, ⟨27, _⟩ => ⟨S32x4096, .f32⟩
  | .local _ .vmem, ⟨28, _⟩ => ⟨S32x4096, .f32⟩
  | .local _ .vmem, ⟨29, _⟩ => ⟨S32x4096, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_6 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_7 (i : grid0.Coords) : Fin 3 → Nat :=
  let arg0 : BitVec 32 := BitVec.ofNat 32 (i 0).val
  let c4_i32 : BitVec 32 := 4#32
  let c0_i32 : BitVec 32 := 0#32
  let c0_i32_0 : BitVec 32 := 0#32
  ![c4_i32.toNat, arg0.toNat, c0_i32.toNat]

def cc0_transform_8 (i : grid0.Coords) : Fin 3 → Nat :=
  let arg0 : BitVec 32 := BitVec.ofNat 32 (i 0).val
  let c5_i32 : BitVec 32 := 5#32
  let c0_i32 : BitVec 32 := 0#32
  let c0_i32_0 : BitVec 32 := 0#32
  ![c5_i32.toNat, arg0.toNat, c0_i32.toNat]

def cc0_transform_9 (i : grid0.Coords) : Fin 3 → Nat :=
  let arg0 : BitVec 32 := BitVec.ofNat 32 (i 0).val
  let c6_i32 : BitVec 32 := 6#32
  let c0_i32 : BitVec 32 := 0#32
  let c0_i32_0 : BitVec 32 := 0#32
  ![c6_i32.toNat, arg0.toNat, c0_i32.toNat]

def cc0_transform_10 (i : grid0.Coords) : Fin 3 → Nat :=
  let arg0 : BitVec 32 := BitVec.ofNat 32 (i 0).val
  let c7_i32 : BitVec 32 := 7#32
  let c0_i32 : BitVec 32 := 0#32
  let c0_i32_0 : BitVec 32 := 0#32
  ![c7_i32.toNat, arg0.toNat, c0_i32.toNat]

def cc0_transform_15 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_16 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_17 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_18 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 2 → Memref sig .tc .vmem S32x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x32x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x32x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x32x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x32x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x32x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x32x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x32x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x32x4096 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S32x4096 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S32x4096 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S32x4096 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S32x4096 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== AdamOutReferenceIdeal.lean ====
abbrev S2048x4096 : Shape := ⟨2, ![2048, 4096]⟩
abbrev S8x512x4096 : Shape := ⟨3, ![8, 512, 4096]⟩
abbrev S_ : Shape := ⟨0, ![]⟩
abbrev S512x4096 : Shape := ⟨2, ![512, 4096]⟩
abbrev S1536x4096 : Shape := ⟨2, ![1536, 4096]⟩

abbrev nBuf : Space → Nat
  | .hbm => 55
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S2048x4096, .f32⟩
  | .hbm, ⟨2, _⟩ => ⟨S2048x4096, .f32⟩
  | .hbm, ⟨3, _⟩ => ⟨S8x512x4096, .bf16⟩
  | .hbm, ⟨4, _⟩ => ⟨S2048x4096, .f32⟩
  | .hbm, ⟨5, _⟩ => ⟨S2048x4096, .f32⟩
  | .hbm, ⟨6, _⟩ => ⟨S2048x4096, .f32⟩
  | .hbm, ⟨7, _⟩ => ⟨S2048x4096, .f32⟩
  | .hbm, ⟨8, _⟩ => ⟨S8x512x4096, .f32⟩
  | .hbm, ⟨9, _⟩ => ⟨S_, .f32⟩
  | .hbm, ⟨10, _⟩ => ⟨S512x4096, .f32⟩
  | .hbm, ⟨11, _⟩ => ⟨S512x4096, .f32⟩
  | .hbm, ⟨12, _⟩ => ⟨S512x4096, .f32⟩
  | .hbm, ⟨13, _⟩ => ⟨S512x4096, .f32⟩
  | .hbm, ⟨14, _⟩ => ⟨S_, .f32⟩
  | .hbm, ⟨15, _⟩ => ⟨S512x4096, .f32⟩
  | .hbm, ⟨16, _⟩ => ⟨S512x4096, .f32⟩
  | .hbm, ⟨17, _⟩ => ⟨S_, .f32⟩
  | .hbm, ⟨18, _⟩ => ⟨S512x4096, .f32⟩
  | .hbm, ⟨19, _⟩ => ⟨S512x4096, .f32⟩
  | .hbm, ⟨20, _⟩ => ⟨S512x4096, .f32⟩
  | .hbm, ⟨21, _⟩ => ⟨S_, .f32⟩
  | .hbm, ⟨22, _⟩ => ⟨S512x4096, .f32⟩
  | .hbm, ⟨23, _⟩ => ⟨S512x4096, .f32⟩
  | .hbm, ⟨24, _⟩ => ⟨S512x4096, .f32⟩
  | .hbm, ⟨25, _⟩ => ⟨S_, .f32⟩
  | .hbm, ⟨26, _⟩ => ⟨S512x4096, .f32⟩
  | .hbm, ⟨27, _⟩ => ⟨S512x4096, .f32⟩
  | .hbm, ⟨28, _⟩ => ⟨S512x4096, .f32⟩
  | .hbm, ⟨29, _⟩ => ⟨S_, .f32⟩
  | .hbm, ⟨30, _⟩ => ⟨S512x4096, .f32⟩
  | .hbm, ⟨31, _⟩ => ⟨S512x4096, .f32⟩
  | .hbm, ⟨32, _⟩ => ⟨S_, .f32⟩
  | .hbm, ⟨33, _⟩ => ⟨S512x4096, .f32⟩
  | .hbm, ⟨34, _⟩ => ⟨S512x4096, .f32⟩
  | .hbm, ⟨35, _⟩ => ⟨S512x4096, .f32⟩
  | .hbm, ⟨36, _⟩ => ⟨S_, .f32⟩
  | .hbm, ⟨37, _⟩ => ⟨S512x4096, .f32⟩
  | .hbm, ⟨38, _⟩ => ⟨S512x4096, .f32⟩
  | .hbm, ⟨39, _⟩ => ⟨S512x4096, .f32⟩
  | .hbm, ⟨40, _⟩ => ⟨S_, .f32⟩
  | .hbm, ⟨41, _⟩ => ⟨S512x4096, .f32⟩
  | .hbm, ⟨42, _⟩ => ⟨S512x4096, .f32⟩
  | .hbm, ⟨43, _⟩ => ⟨S512x4096, .f32⟩
  | .hbm, ⟨44, _⟩ => ⟨S_, .f32⟩
  | .hbm, ⟨45, _⟩ => ⟨S512x4096, .f32⟩
  | .hbm, ⟨46, _⟩ => ⟨S512x4096, .f32⟩
  | .hbm, ⟨47, _⟩ => ⟨S1536x4096, .f32⟩
  | .hbm, ⟨48, _⟩ => ⟨S2048x4096, .f32⟩
  | .hbm, ⟨49, _⟩ => ⟨S1536x4096, .f32⟩
  | .hbm, ⟨50, _⟩ => ⟨S2048x4096, .f32⟩
  | .hbm, ⟨51, _⟩ => ⟨S1536x4096, .f32⟩
  | .hbm, ⟨52, _⟩ => ⟨S2048x4096, .f32⟩
  | .hbm, ⟨53, _⟩ => ⟨S1536x4096, .f32⟩
  | .hbm, ⟨54, _⟩ => ⟨S2048x4096, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_cst_5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_6 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_7 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_8 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩

abbrev nD : Nat := 1
abbrev τ : Topo := Topo.v7x

variable {F : FTy → Type} [FloatOps F]
-- ==== RmsBwd.lean ====
abbrev S4096x4096 : Shape := ⟨2, ![4096, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 8
  | .vmem => 12
  | .smem => 0
  | _ => 0

abbrev bufTy : (tb : Table) → Fin (tcTables nBuf tb) → BufTy
  | .hbm, ⟨0, _⟩ => ⟨S4096x4096, .f32⟩
  | .hbm, ⟨1, _⟩ => ⟨S4096, .f32⟩
  | .hbm, ⟨2, _⟩ => ⟨S4096x4096, .f32⟩
  | .hbm, ⟨3, _⟩ => ⟨S4096x4096, .f32⟩
  | .hbm, ⟨4, _⟩ => ⟨S1x4096, .f32⟩
  | .hbm, ⟨5, _⟩ => ⟨S4096x4096, .f32⟩
  | .hbm, ⟨6, _⟩ => ⟨S4096x4096, .bf16⟩
  | .hbm, ⟨7, _⟩ => ⟨S1x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .f32⟩
  | .local _ .vmem, ⟨4, _⟩ => ⟨S256x4096, .f32⟩
  | .local _ .vmem, ⟨5, _⟩ => ⟨S256x4096, .f32⟩
  | .local _ .vmem, ⟨6, _⟩ => ⟨S256x4096, .f32⟩
  | .local _ .vmem, ⟨7, _⟩ => ⟨S256x4096, .f32⟩
  | .local _ .vmem, ⟨8, _⟩ => ⟨S256x4096, .f32⟩
  | .local _ .vmem, ⟨9, _⟩ => ⟨S256x4096, .bf16⟩
  | .local _ .vmem, ⟨10, _⟩ => ⟨S256x4096, .bf16⟩
  | .local _ .vmem, ⟨11, _⟩ => ⟨S1x4096, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== RmsBwdReferenceIdeal.lean ====
abbrev S4096x4096 : Shape := ⟨2, ![4096, 4096]⟩
abbrev S4096 : Shape := ⟨1, ![4096]⟩
abbrev S_ : Shape := ⟨0, ![]⟩
abbrev S4096x1 : Shape := ⟨2, ![4096, 1]⟩
abbrev S1x4096 : Shape := ⟨2, ![1, 4096]⟩

abbrev nBuf : Space → Nat
  | .hbm => 53
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x4096, .f32⟩
  | .hbm, ⟨20, _⟩ => ⟨S4096x4096, .f32⟩
  | .hbm, ⟨21, _⟩ => ⟨S1x4096, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S_, .f32⟩
  | .hbm, ⟨26, _⟩ => ⟨S4096, .f32⟩
  | .hbm, ⟨27, _⟩ => ⟨S1x4096, .f32⟩
  | .hbm, ⟨28, _⟩ => ⟨S4096x4096, .f32⟩
  | .hbm, ⟨29, _⟩ => ⟨S4096x4096, .f32⟩
  | .hbm, ⟨30, _⟩ => ⟨S_, .f32⟩
  | .hbm, ⟨31, _⟩ => ⟨S4096, .f32⟩
  | .hbm, ⟨32, _⟩ => ⟨S4096x4096, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x4096, .f32⟩
  | .hbm, ⟨37, _⟩ => ⟨S4096x4096, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S_, .f32⟩
  | .hbm, ⟨43, _⟩ => ⟨S4096, .f32⟩
  | .hbm, ⟨44, _⟩ => ⟨S4096x4096, .f32⟩
  | .hbm, ⟨45, _⟩ => ⟨S4096x4096, .f32⟩
  | .hbm, ⟨46, _⟩ => ⟨S4096x4096, .f32⟩
  | .hbm, ⟨47, _⟩ => ⟨S4096x4096, .f32⟩
  | .hbm, ⟨48, _⟩ => ⟨S4096x4096, .f32⟩
  | .hbm, ⟨49, _⟩ => ⟨S4096x4096, .f32⟩
  | .hbm, ⟨50, _⟩ => ⟨S4096x4096, .f32⟩
  | .hbm, ⟨51, _⟩ => ⟨S4096x4096, .bf16⟩
  | .hbm, ⟨52, _⟩ => ⟨S1x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== RmsFwd.lean ====
abbrev S4096x4096 : Shape := ⟨2, ![4096, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x4096, .f32⟩
  | .hbm, ⟨1, _⟩ => ⟨S4096, .f32⟩
  | .hbm, ⟨2, _⟩ => ⟨S1x4096, .f32⟩
  | .hbm, ⟨3, _⟩ => ⟨S4096x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsFwdReferenceIdeal.lean ====
abbrev S4096x4096 : Shape := ⟨2, ![4096, 4096]⟩
abbrev S4096 : Shape := ⟨1, ![4096]⟩
abbrev S_ : Shape := ⟨0, ![]⟩
abbrev S4096x1 : Shape := ⟨2, ![4096, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096, .f32⟩
  | .hbm, ⟨2, _⟩ => ⟨S4096x4096, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x4096, .f32⟩
  | .hbm, ⟨14, _⟩ => ⟨S4096x4096, .f32⟩
  | .hbm, ⟨15, _⟩ => ⟨S1x4096, .f32⟩
  | .hbm, ⟨16, _⟩ => ⟨S4096x4096, .f32⟩
  | .hbm, ⟨17, _⟩ => ⟨S4096x4096, .f32⟩
  | .hbm, ⟨18, _⟩ => ⟨S4096x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== LatFwd.lean ====
abbrev S4096x10240 : Shape := ⟨2, ![4096, 10240]⟩
abbrev S1024 : Shape := ⟨1, ![1024]⟩
abbrev S512 : Shape := ⟨1, ![512]⟩
abbrev S1x1024 : Shape := ⟨2, ![1, 1024]⟩
abbrev S1x512 : Shape := ⟨2, ![1, 512]⟩
abbrev S4096x1024 : Shape := ⟨2, ![4096, 1024]⟩
abbrev S4096x512 : Shape := ⟨2, ![4096, 512]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩

abbrev nBuf : Space → Nat
  | .hbm => 7
  | .vmem => 10
  | .smem => 0
  | _ => 0

abbrev bufTy : (tb : Table) → Fin (tcTables nBuf tb) → BufTy
  | .hbm, ⟨0, _⟩ => ⟨S4096x10240, .bf16⟩
  | .hbm, ⟨1, _⟩ => ⟨S1024, .f32⟩
  | .hbm, ⟨2, _⟩ => ⟨S512, .f32⟩
  | .hbm, ⟨3, _⟩ => ⟨S1x1024, .f32⟩
  | .hbm, ⟨4, _⟩ => ⟨S1x512, .f32⟩
  | .hbm, ⟨5, _⟩ => ⟨S4096x1024, .bf16⟩
  | .hbm, ⟨6, _⟩ => ⟨S4096x512, .bf16⟩
  | .local _ .vmem, ⟨0, _⟩ => ⟨S256x1024, .bf16⟩
  | .local _ .vmem, ⟨1, _⟩ => ⟨S256x1024, .bf16⟩
  | .local _ .vmem, ⟨2, _⟩ => ⟨S256x512, .bf16⟩
  | .local _ .vmem, ⟨3, _⟩ => ⟨S256x512, .bf16⟩
  | .local _ .vmem, ⟨4, _⟩ => ⟨S1x1024, .f32⟩
  | .local _ .vmem, ⟨5, _⟩ => ⟨S1x512, .f32⟩
  | .local _ .vmem, ⟨6, _⟩ => ⟨S256x1024, .bf16⟩
  | .local _ .vmem, ⟨7, _⟩ => ⟨S256x1024, .bf16⟩
  | .local _ .vmem, ⟨8, _⟩ => ⟨S256x512, .bf16⟩
  | .local _ .vmem, ⟨9, _⟩ => ⟨S256x512, .bf16⟩
  | _, _ => ⟨S4096x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_1 (i : grid0.Coords) : Fin 2 → Nat :=
  let arg0 : BitVec 32 := BitVec.ofNat 32 (i 0).val
  let c18_i32 : BitVec 32 := 18#32
  let c0_i32 : BitVec 32 := 0#32
  ![arg0.toNat, c18_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== LatFwdReferenceIdeal.lean ====
abbrev S4096x10240 : Shape := ⟨2, ![4096, 10240]⟩
abbrev S1024 : Shape := ⟨1, ![1024]⟩
abbrev S512 : Shape := ⟨1, ![512]⟩
abbrev S4096x1024 : Shape := ⟨2, ![4096, 1024]⟩
abbrev S4096x512 : Shape := ⟨2, ![4096, 512]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1x512 : Shape := ⟨2, ![1, 512]⟩

abbrev nBuf : Space → Nat
  | .hbm => 41
  | .vmem => 0
  | .smem => 0
  | _ => 0

abbrev bufTy : (tb : Table) → Fin (tcTables nBuf tb) → BufTy
  | .hbm, ⟨0, _⟩ => ⟨S4096x10240, .bf16⟩
  | .hbm, ⟨1, _⟩ => ⟨S1024, .f32⟩
  | .hbm, ⟨2, _⟩ => ⟨S512, .f32⟩
  | .hbm, ⟨3, _⟩ => ⟨S4096x1024, .bf16⟩
  | .hbm, ⟨4, _⟩ => ⟨S4096x1024, .f32⟩
  | .hbm, ⟨5, _⟩ => ⟨S4096x512, .bf16⟩
  | .hbm, ⟨6, _⟩ => ⟨S4096x512, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x1024, .bf16⟩
  | .hbm, ⟨24, _⟩ => ⟨S4096x512, .f32⟩
  | .hbm, ⟨25, _⟩ => ⟨S_, .f32⟩
  | .hbm, ⟨26, _⟩ => ⟨S4096, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x1, .f32⟩
  | .hbm, ⟨35, _⟩ => ⟨S4096x512, .f32⟩
  | .hbm, ⟨36, _⟩ => ⟨S4096x512, .f32⟩
  | .hbm, ⟨37, _⟩ => ⟨S1x512, .f32⟩
  | .hbm, ⟨38, _⟩ => ⟨S4096x512, .f32⟩
  | .hbm, ⟨39, _⟩ => ⟨S4096x512, .f32⟩
  | .hbm, ⟨40, _⟩ => ⟨S4096x512, .bf16⟩
  | _, _ => ⟨S4096x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩

abbrev nD : Nat := 1
abbrev τ : Topo := Topo.v7x

variable {F : FTy → Type} [FloatOps F]
-- ==== LatBwd.lean ====
abbrev S4096x10240 : Shape := ⟨2, ![4096, 10240]⟩
abbrev S1024 : Shape := ⟨1, ![1024]⟩
abbrev S512 : Shape := ⟨1, ![512]⟩
abbrev S4096x1024 : Shape := ⟨2, ![4096, 1024]⟩
abbrev S4096x512 : Shape := ⟨2, ![4096, 512]⟩
abbrev S4096x128 : Shape := ⟨2, ![4096, 128]⟩
abbrev S1x1024 : Shape := ⟨2, ![1, 1024]⟩
abbrev S1x512 : Shape := ⟨2, ![1, 512]⟩
abbrev S256x1024 : Shape := ⟨2, ![256, 1024]⟩
abbrev S256x512 : Shape := ⟨2, ![256, 512]⟩
abbrev S256x128 : Shape := ⟨2, ![256, 128]⟩
abbrev S256x2048 : Shape := ⟨2, ![256, 2048]⟩
abbrev S256 : Shape := ⟨1, ![256]⟩
abbrev S256x1 : Shape := ⟨2, ![256, 1]⟩
abbrev S256x384 : Shape := ⟨2, ![256, 384]⟩

abbrev nBuf : Space → Nat
  | .hbm => 12
  | .vmem => 16
  | .smem => 0
  | _ => 0

abbrev bufTy : (tb : Table) → Fin (tcTables nBuf tb) → BufTy
  | .hbm, ⟨0, _⟩ => ⟨S4096x10240, .bf16⟩
  | .hbm, ⟨1, _⟩ => ⟨S1024, .f32⟩
  | .hbm, ⟨2, _⟩ => ⟨S512, .f32⟩
  | .hbm, ⟨3, _⟩ => ⟨S4096x1024, .f32⟩
  | .hbm, ⟨4, _⟩ => ⟨S4096x512, .f32⟩
  | .hbm, ⟨5, _⟩ => ⟨S4096x128, .f32⟩
  | .hbm, ⟨6, _⟩ => ⟨S4096x10240, .bf16⟩
  | .hbm, ⟨7, _⟩ => ⟨S1x1024, .f32⟩
  | .hbm, ⟨8, _⟩ => ⟨S1x512, .f32⟩
  | .hbm, ⟨9, _⟩ => ⟨S4096x10240, .bf16⟩
  | .hbm, ⟨10, _⟩ => ⟨S1x1024, .f32⟩
  | .hbm, ⟨11, _⟩ => ⟨S1x512, .f32⟩
  | .local _ .vmem, ⟨0, _⟩ => ⟨S256x1024, .bf16⟩
  | .local _ .vmem, ⟨1, _⟩ => ⟨S256x1024, .bf16⟩
  | .local _ .vmem, ⟨2, _⟩ => ⟨S256x512, .bf16⟩
  | .local _ .vmem, ⟨3, _⟩ => ⟨S256x512, .bf16⟩
  | .local _ .vmem, ⟨4, _⟩ => ⟨S1x1024, .f32⟩
  | .local _ .vmem, ⟨5, _⟩ => ⟨S1x512, .f32⟩
  | .local _ .vmem, ⟨6, _⟩ => ⟨S256x1024, .f32⟩
  | .local _ .vmem, ⟨7, _⟩ => ⟨S256x1024, .f32⟩
  | .local _ .vmem, ⟨8, _⟩ => ⟨S256x512, .f32⟩
  | .local _ .vmem, ⟨9, _⟩ => ⟨S256x512, .f32⟩
  | .local _ .vmem, ⟨10, _⟩ => ⟨S256x128, .f32⟩
  | .local _ .vmem, ⟨11, _⟩ => ⟨S256x128, .f32⟩
  | .local _ .vmem, ⟨12, _⟩ => ⟨S256x2048, .bf16⟩
  | .local _ .vmem, ⟨13, _⟩ => ⟨S256x2048, .bf16⟩
  | .local _ .vmem, ⟨14, _⟩ => ⟨S1x1024, .f32⟩
  | .local _ .vmem, ⟨15, _⟩ => ⟨S1x512, .f32⟩
  | _, _ => ⟨S4096x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_1 (i : grid0.Coords) : Fin 2 → Nat :=
  let arg0 : BitVec 32 := BitVec.ofNat 32 (i 0).val
  let c18_i32 : BitVec 32 := 18#32
  let c0_i32 : BitVec 32 := 0#32
  ![arg0.toNat, c18_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== LatBwdReferenceIdeal.lean ====
abbrev S4096x10240 : Shape := ⟨2, ![4096, 10240]⟩
abbrev S1024 : Shape := ⟨1, ![1024]⟩
abbrev S512 : Shape := ⟨1, ![512]⟩
abbrev S4096x1024 : Shape := ⟨2, ![4096, 1024]⟩
abbrev S4096x512 : Shape := ⟨2, ![4096, 512]⟩
abbrev S4096x128 : Shape := ⟨2, ![4096, 128]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1x512 : Shape := ⟨2, ![1, 512]⟩
abbrev S4096x384 : Shape := ⟨2, ![4096, 384]⟩
abbrev S4096x2048 : Shape := ⟨2, ![4096, 2048]⟩
abbrev S4096x8192 : Shape := ⟨2, ![4096, 8192]⟩

abbrev nBuf : Space → Nat
  | .hbm => 113
  | .vmem => 0
  | .smem => 0
  | _ => 0

abbrev bufTy : (tb : Table) → Fin (tcTables nBuf tb) → BufTy
  | .hbm, ⟨0, _⟩ => ⟨S4096x10240, .bf16⟩
  | .hbm, ⟨1, _⟩ => ⟨S1024, .f32⟩
  | .hbm, ⟨2, _⟩ => ⟨S512, .f32⟩
  | .hbm, ⟨3, _⟩ => ⟨S4096x1024, .f32⟩
  | .hbm, ⟨4, _⟩ => ⟨S4096x512, .f32⟩
  | .hbm, ⟨5, _⟩ => ⟨S4096x128, .f32⟩
  | .hbm, ⟨6, _⟩ => ⟨S4096x10240, .bf16⟩
  | .hbm, ⟨7, _⟩ => ⟨S4096x1024, .bf16⟩
  | .hbm, ⟨8, _⟩ => ⟨S4096x1024, .f32⟩
  | .hbm, ⟨9, _⟩ => ⟨S4096x512, .bf16⟩
  | .hbm, ⟨10, _⟩ => ⟨S4096x512, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1024, .f32⟩
  | .hbm, ⟨27, _⟩ => ⟨S4096x1024, .f32⟩
  | .hbm, ⟨28, _⟩ => ⟨S1x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S1024, .f32⟩
  | .hbm, ⟨39, _⟩ => ⟨S4096x1024, .f32⟩
  | .hbm, ⟨40, _⟩ => ⟨S_, .f32⟩
  | .hbm, ⟨41, _⟩ => ⟨S4096, .f32⟩
  | .hbm, ⟨42, _⟩ => ⟨S4096x1, .f32⟩
  | .hbm, ⟨43, _⟩ => ⟨S4096x1024, .f32⟩
  | .hbm, ⟨44, _⟩ => ⟨S4096x1024, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S_, .f32⟩
  | .hbm, ⟨50, _⟩ => ⟨S4096, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x512, .f32⟩
  | .hbm, ⟨57, _⟩ => ⟨S_, .f32⟩
  | .hbm, ⟨58, _⟩ => ⟨S4096, .f32⟩
  | .hbm, ⟨59, _⟩ => ⟨S4096x1, .f32⟩
  | .hbm, ⟨60, _⟩ => ⟨S_, .f32⟩
  | .hbm, ⟨61, _⟩ => ⟨S4096x1, .f32⟩
  | .hbm, ⟨62, _⟩ => ⟨S4096x1, .f32⟩
  | .hbm, ⟨63, _⟩ => ⟨S_, .f32⟩
  | .hbm, ⟨64, _⟩ => ⟨S4096x1, .f32⟩
  | .hbm, ⟨65, _⟩ => ⟨S4096x1, .f32⟩
  | .hbm, ⟨66, _⟩ => ⟨S4096x1, .f32⟩
  | .hbm, ⟨67, _⟩ => ⟨S4096x1, .f32⟩
  | .hbm, ⟨68, _⟩ => ⟨S_, .f32⟩
  | .hbm, ⟨69, _⟩ => ⟨S4096x1, .f32⟩
  | .hbm, ⟨70, _⟩ => ⟨S4096x1, .f32⟩
  | .hbm, ⟨71, _⟩ => ⟨S4096x512, .f32⟩
  | .hbm, ⟨72, _⟩ => ⟨S4096x512, .f32⟩
  | .hbm, ⟨73, _⟩ => ⟨S1x512, .f32⟩
  | .hbm, ⟨74, _⟩ => ⟨S4096x512, .f32⟩
  | .hbm, ⟨75, _⟩ => ⟨S4096x512, .f32⟩
  | .hbm, ⟨76, _⟩ => ⟨S4096x512, .f32⟩
  | .hbm, ⟨77, _⟩ => ⟨S_, .f32⟩
  | .hbm, ⟨78, _⟩ => ⟨S512, .f32⟩
  | .hbm, ⟨79, _⟩ => ⟨S1x512, .f32⟩
  | .hbm, ⟨80, _⟩ => ⟨S4096x512, .f32⟩
  | .hbm, ⟨81, _⟩ => ⟨S4096x512, .f32⟩
  | .hbm, ⟨82, _⟩ => ⟨S_, .f32⟩
  | .hbm, ⟨83, _⟩ => ⟨S512, .f32⟩
  | .hbm, ⟨84, _⟩ => ⟨S4096x512, .f32⟩
  | .hbm, ⟨85, _⟩ => ⟨S_, .f32⟩
  | .hbm, ⟨86, _⟩ => ⟨S4096, .f32⟩
  | .hbm, ⟨87, _⟩ => ⟨S4096x1, .f32⟩
  | .hbm, ⟨88, _⟩ => ⟨S4096x512, .f32⟩
  | .hbm, ⟨89, _⟩ => ⟨S4096x512, .f32⟩
  | .hbm, ⟨90, _⟩ => ⟨S4096x1, .f32⟩
  | .hbm, ⟨91, _⟩ => ⟨S_, .f32⟩
  | .hbm, ⟨92, _⟩ => ⟨S4096x1, .f32⟩
  | .hbm, ⟨93, _⟩ => ⟨S4096x1, .f32⟩
  | .hbm, ⟨94, _⟩ => ⟨S_, .f32⟩
  | .hbm, ⟨95, _⟩ => ⟨S4096, .f32⟩
  | .hbm, ⟨96, _⟩ => ⟨S4096x512, .f32⟩
  | .hbm, ⟨97, _⟩ => ⟨S4096x512, .f32⟩
  | .hbm, ⟨98, _⟩ => ⟨S4096x512, .f32⟩
  | .hbm, ⟨99, _⟩ => ⟨S4096x512, .f32⟩
  | .hbm, ⟨100, _⟩ => ⟨S4096x512, .f32⟩
  | .hbm, ⟨101, _⟩ => ⟨S4096x128, .bf16⟩
  | .hbm, ⟨102, _⟩ => ⟨S_, .bf16⟩
  | .hbm, ⟨103, _⟩ => ⟨S4096x384, .bf16⟩
  | .hbm, ⟨104, _⟩ => ⟨S4096x512, .bf16⟩
  | .hbm, ⟨105, _⟩ => ⟨S4096x1024, .bf16⟩
  | .hbm, ⟨106, _⟩ => ⟨S4096x512, .bf16⟩
  | .hbm, ⟨107, _⟩ => ⟨S4096x1024, .bf16⟩
  | .hbm, ⟨108, _⟩ => ⟨S4096x2048, .bf16⟩
  | .hbm, ⟨109, _⟩ => ⟨S4096x8192, .bf16⟩
  | .hbm, ⟨110, _⟩ => ⟨S4096x10240, .bf16⟩
  | .hbm, ⟨111, _⟩ => ⟨S1x1024, .f32⟩
  | .hbm, ⟨112, _⟩ => ⟨S1x512, .f32⟩
  | _, _ => ⟨S4096x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_6 : Ref sig .tc := ⟨.hbm, 46, rfl⟩
abbrev main_v32 : Ref sig .tc := ⟨.hbm, 47, rfl⟩
abbrev main_v33 : Ref sig .tc := ⟨.hbm, 48, rfl⟩
abbrev main_cst_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_cst_9 : Ref sig .tc := ⟨.hbm, 60, rfl⟩
abbrev main_v43 : Ref sig .tc := ⟨.hbm, 61, rfl⟩
abbrev main_v44 : Ref sig .tc := ⟨.hbm, 62, rfl⟩
abbrev main_cst_10 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_11 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_12 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_13 : Ref sig .tc := ⟨.hbm, 82, rfl⟩
abbrev main_v61 : Ref sig .tc := ⟨.hbm, 83, rfl⟩
abbrev main_v62 : Ref sig .tc := ⟨.hbm, 84, rfl⟩
abbrev main_cst_14 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_cst_15 : Ref sig .tc := ⟨.hbm, 91, rfl⟩
abbrev main_v68 : Ref sig .tc := ⟨.hbm, 92, rfl⟩
abbrev main_v69 : Ref sig .tc := ⟨.hbm, 93, rfl⟩
abbrev main_cst_16 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_cst_17 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩

abbrev nD : Nat := 1
abbrev τ : Topo := Topo.v7x

variable {F : FTy → Type} [FloatOps F]
-- ==== GateBwd.lean ====
abbrev S4096x4096 : Shape := ⟨2, ![4096, 4096]⟩
abbrev S4096x2048 : Shape := ⟨2, ![4096, 2048]⟩
abbrev S4096x10240 : Shape := ⟨2, ![4096, 10240]⟩
abbrev S16x4096x1 : Shape := ⟨3, ![16, 4096, 1]⟩
abbrev S256x2048 : Shape := ⟨2, ![256, 2048]⟩
abbrev S16x256x1 : Shape := ⟨3, ![16, 256, 1]⟩
abbrev S256x128 : Shape := ⟨2, ![256, 128]⟩
abbrev S256 : Shape := ⟨1, ![256]⟩
abbrev S256x1 : Shape := ⟨2, ![256, 1]⟩
abbrev S1x256x1 : Shape := ⟨3, ![1, 256, 1]⟩

abbrev nBuf : Space → Nat
  | .hbm => 7
  | .vmem => 12
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x10240, .bf16⟩
  | .hbm, ⟨3, _⟩ => ⟨S4096x10240, .bf16⟩
  | .hbm, ⟨4, _⟩ => ⟨S4096x2048, .bf16⟩
  | .hbm, ⟨5, _⟩ => ⟨S16x4096x1, .f32⟩
  | .hbm, ⟨6, _⟩ => ⟨S4096x10240, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S16x256x1, .f32⟩
  | .local _ .vmem, ⟨9, _⟩ => ⟨S16x256x1, .f32⟩
  | .local _ .vmem, ⟨10, _⟩ => ⟨S256x2048, .bf16⟩
  | .local _ .vmem, ⟨11, _⟩ => ⟨S256x2048, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== GateBwdReferenceIdeal.lean ====
abbrev S4096x4096 : Shape := ⟨2, ![4096, 4096]⟩
abbrev S4096x2048 : Shape := ⟨2, ![4096, 2048]⟩
abbrev S4096x10240 : Shape := ⟨2, ![4096, 10240]⟩
abbrev S_ : Shape := ⟨0, ![]⟩
abbrev S4096x16x128 : Shape := ⟨3, ![4096, 16, 128]⟩
abbrev S4096x16 : Shape := ⟨2, ![4096, 16]⟩
abbrev S4096x6144 : Shape := ⟨2, ![4096, 6144]⟩
abbrev S16x4096 : Shape := ⟨2, ![16, 4096]⟩
abbrev S16x4096x1 : Shape := ⟨3, ![16, 4096, 1]⟩

abbrev nBuf : Space → Nat
  | .hbm => 39
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x10240, .bf16⟩
  | .hbm, ⟨3, _⟩ => ⟨S4096x10240, .bf16⟩
  | .hbm, ⟨4, _⟩ => ⟨S4096x2048, .bf16⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S4096x16x128, .f32⟩
  | .hbm, ⟨29, _⟩ => ⟨S_, .f32⟩
  | .hbm, ⟨30, _⟩ => ⟨S4096x16, .f32⟩
  | .hbm, ⟨31, _⟩ => ⟨S4096x2048, .bf16⟩
  | .hbm, ⟨32, _⟩ => ⟨S4096x4096, .bf16⟩
  | .hbm, ⟨33, _⟩ => ⟨S4096x6144, .bf16⟩
  | .hbm, ⟨34, _⟩ => ⟨S4096x2048, .bf16⟩
  | .hbm, ⟨35, _⟩ => ⟨S16x4096, .f32⟩
  | .hbm, ⟨36, _⟩ => ⟨S16x4096x1, .f32⟩
  | .hbm, ⟨37, _⟩ => ⟨S4096x4096, .bf16⟩
  | .hbm, ⟨38, _⟩ => ⟨S4096x10240, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v2_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v2_1 : Ref sig .tc := ⟨.hbm, 17, rfl⟩
abbrev main_v2_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_cst : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩

abbrev nD : Nat := 1
abbrev τ : Topo := Topo.v7x

variable {F : FTy → Type} [FloatOps F]
-- ==== Proof.MmInProj.lean ====
/- The product `in_proj`: what the kernel's tiles leave is the whole product, which is the reference's. -/
module

public import proofs.«01_k».proof.Proof.Gen.InProjIdeal.Value
public import proofs.«01_k».proof.Proof.Gen.InProjReferenceIdeal.Run
public import Idealize.ShloMosaic.Lib.Pipeline.ValueKit
public import Idealize.ShloMosaic.Lib.WritesUnit
public import Idealize.ShloMosaic.Lib.Pipeline.ReadBack

@[expose] public section

set_option maxRecDepth 16384

noncomputable section

namespace Cert.InProjIdeal.Mm

open Cert.InProjIdeal Cert.InProjIdeal.Gen Idealize.ShloMosaic Idealize.ShloMosaic.TcCoe Idealize.SL.Sem
open Idealize.ShloMosaic.Pipeline (Dat)

/-- The whole product. -/
def res (X : FVec Ideal S4096x4096 .bf16) (Y : FVec Ideal S4096x10240 .bf16) : FVec Ideal S4096x10240 .bf16 := fun i => ∑ k : Fin 4096, X (ix2 (i 0) k) * Y (ix2 k (i 1))

theorem idx : ∀ t : Fin cfg0.N, win0_0.index t = ![t.val / 10, 0] ∧ win0_1.index t = ![0, t.val % 10] ∧ win0_2.index t = ![t.val / 10, t.val % 10] :=
  (by decide +kernel : ∀ t : Fin grid0.N, _)

theorem rd0 (t : Fin cfg0.N) (r : Fin 1024) (k : Fin 4096) (X : FVec Ideal S4096x4096 .bf16) :
    (((cfg0.win 0).blk t).view.read (Elt Ideal) (X : ((cfg0.win 0).blk t).view.ty.Contents (Elt Ideal)) : Vec Ideal S1024x4096 .bf16) (ix2 r k) = X (ix2 ⟨1024 * (t.val / 10) + r.val, by have hN : t.val < 40 := lt_of_lt_of_eq t.isLt N_0; have := r.isLt; omega⟩ k) := by
  blk_simp
  blk_ext [idx t]

theorem rd1 (t : Fin cfg0.N) (s : Fin 1024) (k : Fin 4096) (X : FVec Ideal S4096x10240 .bf16) :
    (((cfg0.win 1).blk t).view.read (Elt Ideal) (X : ((cfg0.win 1).blk t).view.ty.Contents (Elt Ideal)) : Vec Ideal S4096x1024 .bf16) (ix2 k s) = X (ix2 k ⟨1024 * (t.val % 10) + s.val, by have := s.isLt; omega⟩) := by
  blk_simp
  blk_ext [idx t]

theorem em (t : Fin cfg0.N) (r : Fin 1024) (s : Fin 1024) (X : FVec Ideal S4096x10240 .bf16) :
    (((cfg0.win 2).blk t).view.read (Elt Ideal) (X : ((cfg0.win 2).blk t).view.ty.Contents (Elt Ideal)) : Vec Ideal S1024x1024 .bf16) (ix2 r s) = X (ix2 ⟨1024 * (t.val / 10) + r.val, by have hN : t.val < 40 := lt_of_lt_of_eq t.isLt N_0; have := r.isLt; omega⟩ ⟨1024 * (t.val % 10) + s.val, by have := s.isLt; omega⟩) := by
  blk_simp
  blk_ext [idx t]

theorem out_at (x : Vec Ideal S1024x4096 .bf16) (y : Vec Ideal S4096x1024 .bf16) (r : Fin 1024) (s : Fin 1024) :
    (out0_2 x y : Vec Ideal S1024x1024 .bf16) (ix2 r s) = (∑ k : Fin 4096, x (ix2 r k) * y (ix2 k s)) := by
  frame_out
  open_payloads
  pointwise

variable (m : (ℓ : Loc nD τ sig) → Buf (Elt Ideal) ℓ)

theorem final (c : Dev nD) : (dats m 0 c).arrAt 2 cfg0.N = res (m ((c : Thread nD τ).loc main_arg0)) (m ((c : Thread nD τ).loc main_arg1)) := by
  refine (dats m 0 c).arrAt_eq_of_covers 2 _ (by decide +kernel) fun t hf y => ?_
  blk_simp
  rw [after0_2]
  obtain ⟨r, s, rfl⟩ : ∃ (r : Fin 1024) (s : Fin 1024), y = (ix2 r s : S1024x1024.Idx) := ⟨y 0, y 1, (ix2_eta y).symm⟩
  refine (out_at _ _ r s).trans (Eq.trans ?_ (em t r s (res (m ((c : Thread nD τ).loc main_arg0)) (m ((c : Thread nD τ).loc main_arg1)))).symm)
  unfold res

  exact Finset.sum_congr rfl fun k _ => congrArg₂ (· * ·) (rd0 t r k (m ((c : Thread nD τ).loc main_arg0))) (rd1 t s k (m ((c : Thread nD τ).loc main_arg1)))

end Cert.InProjIdeal.Mm

namespace Cert.InProjReferenceIdeal.Mm

open Cert.InProjReferenceIdeal Cert.InProjReferenceIdeal.Gen Idealize.ShloMosaic Idealize.ShloMosaic.TcCoe Idealize.SL.Sem

/-- What the reference leaves. -/
def ref (X : FVec Ideal S4096x4096 .bf16) (Y : FVec Ideal S4096x10240 .bf16) : FVec Ideal S4096x10240 .bf16 := truncf .bf16 (Host.dotGeneral dot_S4096x4096_S4096x10240_S4096x10240_1_0_0_1_n_n none (extf .f32 X bitsLt_bf16_f32) (extf .f32 Y bitsLt_bf16_f32)) bitsLt_bf16_f32

theorem ref_eq (X : FVec Ideal S4096x4096 .bf16) (Y : FVec Ideal S4096x10240 .bf16) : ref X Y = Cert.InProjIdeal.Mm.res X Y := by
  funext i
  obtain ⟨r, s, rfl⟩ : ∃ (r : Fin 4096) (s : Fin 10240), i = (ix2 r s : S4096x10240.Idx) := ⟨i 0, i 1, (ix2_eta i).symm⟩
  unfold ref; pointwise
  rfl

end Cert.InProjReferenceIdeal.Mm
end
-- ==== Proof.ClInProj.lean ====
/- The claims about `in_proj`. -/
module

public import proofs.«01_k».proof.Proof.MmInProj
public import proofs.«01_k».proof.Proof.Gen.InProj.Frame
public import proofs.«01_k».proof.Defs
public import Idealize.ShloMosaic.Init
public import Idealize.ShloMosaic.Adequacy

@[expose] public section

set_option maxRecDepth 16384

noncomputable section

namespace Cert.Proof.InProj

open Idealize.ShloMosaic Idealize.SL.Sem Idealize.ShloMosaic.TcCoe

theorem frame_kernel : Cert.quiescent_InProj := fun m ρ _ => Cert.InProj.Gen.frame m ρ

theorem frame_ideal : Cert.quiescent_InProjIdeal := fun m ρ _ => Cert.InProjIdeal.Gen.frame m ρ

theorem frame_reference : Cert.quiescent_InProjReferenceIdeal := fun m ρ _ =>
  (θ_run Cert.InProjReferenceIdeal.defs _ _).mono (fun r h => ⟨fun c => (h c).2, Idealize.ShloMosaic.sem_eq_zero_of_no_sems (by decide) r.2⟩)
    (Cert.InProjReferenceIdeal.Value.run m ρ)

theorem algebraic : Cert.algebraic_InProjIdeal_InProjReferenceIdeal := by
  intro m g m' g' _ hag
  refine ⟨fun c => (Cert.InProjIdeal.Gen.dats m 0 c).arrAt 2 Cert.InProjIdeal.cfg0.N, Cert.InProjIdeal.Value.run_blocks m g, ?_⟩
  refine (θ_run Cert.InProjReferenceIdeal.defs _ _).mono (fun r h c => ?_) (Cert.InProjReferenceIdeal.Value.run m' g')
  obtain ⟨r0, ra⟩ := h c
  obtain ⟨a0, a1⟩ := hag c
  refine ⟨r0.trans ((Cert.InProjReferenceIdeal.Mm.ref_eq _ _).trans ?_), ra⟩
  rw [a0, a1]; exact (Cert.InProjIdeal.Mm.final m c).symm

end Cert.Proof.InProj
end
-- ==== Proof.MmDHid.lean ====
/- The product `d_hid`: what the kernel's tiles leave is the whole product, which is the reference's. -/
module

public import proofs.«01_k».proof.Proof.Gen.DHidIdeal.Value
public import proofs.«01_k».proof.Proof.Gen.DHidReferenceIdeal.Run
public import Idealize.ShloMosaic.Lib.Pipeline.ValueKit
public import Idealize.ShloMosaic.Lib.WritesUnit
public import Idealize.ShloMosaic.Lib.Pipeline.ReadBack

@[expose] public section

set_option maxRecDepth 16384

noncomputable section

namespace Cert.DHidIdeal.Mm

open Cert.DHidIdeal Cert.DHidIdeal.Gen Idealize.ShloMosaic Idealize.ShloMosaic.TcCoe Idealize.SL.Sem
open Idealize.ShloMosaic.Pipeline (Dat)

/-- The whole product. -/
def res (X : FVec Ideal S4096x10240 .bf16) (Y : FVec Ideal S4096x10240 .bf16) : FVec Ideal S4096x4096 .f32 := fun i => ∑ k : Fin 10240, X (ix2 (i 0) k) * Y (ix2 (i 1) k)

theorem idx : ∀ t : Fin cfg0.N, win0_0.index t = ![t.val / 8, 0] ∧ win0_1.index t = ![t.val % 8, 0] ∧ win0_2.index t = ![t.val / 8, t.val % 8] :=
  (by decide +kernel : ∀ t : Fin grid0.N, _)

theorem rd0 (t : Fin cfg0.N) (r : Fin 512) (k : Fin 10240) (X : FVec Ideal S4096x10240 .bf16) :
    (((cfg0.win 0).blk t).view.read (Elt Ideal) (X : ((cfg0.win 0).blk t).view.ty.Contents (Elt Ideal)) : Vec Ideal S512x10240 .bf16) (ix2 r k) = X (ix2 ⟨512 * (t.val / 8) + r.val, by have hN : t.val < 64 := lt_of_lt_of_eq t.isLt N_0; have := r.isLt; omega⟩ k) := by
  blk_simp
  blk_ext [idx t]

theorem rd1 (t : Fin cfg0.N) (s : Fin 512) (k : Fin 10240) (X : FVec Ideal S4096x10240 .bf16) :
    (((cfg0.win 1).blk t).view.read (Elt Ideal) (X : ((cfg0.win 1).blk t).view.ty.Contents (Elt Ideal)) : Vec Ideal S512x10240 .bf16) (ix2 s k) = X (ix2 ⟨512 * (t.val % 8) + s.val, by have := s.isLt; omega⟩ k) := by
  blk_simp
  blk_ext [idx t]

theorem em (t : Fin cfg0.N) (r : Fin 512) (s : Fin 512) (X : FVec Ideal S4096x4096 .f32) :
    (((cfg0.win 2).blk t).view.read (Elt Ideal) (X : ((cfg0.win 2).blk t).view.ty.Contents (Elt Ideal)) : Vec Ideal S512x512 .f32) (ix2 r s) = X (ix2 ⟨512 * (t.val / 8) + r.val, by have hN : t.val < 64 := lt_of_lt_of_eq t.isLt N_0; have := r.isLt; omega⟩ ⟨512 * (t.val % 8) + s.val, by have := s.isLt; omega⟩) := by
  blk_simp
  blk_ext [idx t]

theorem out_at (x : Vec Ideal S512x10240 .bf16) (y : Vec Ideal S512x10240 .bf16) (r : Fin 512) (s : Fin 512) :
    (out0_2 x y : Vec Ideal S512x512 .f32) (ix2 r s) = (∑ k : Fin 10240, x (ix2 r k) * y (ix2 s k)) := by
  frame_out
  open_payloads
  pointwise

variable (m : (ℓ : Loc nD τ sig) → Buf (Elt Ideal) ℓ)

theorem final (c : Dev nD) : (dats m 0 c).arrAt 2 cfg0.N = res (m ((c : Thread nD τ).loc main_arg0)) (m ((c : Thread nD τ).loc main_arg1)) := by
  refine (dats m 0 c).arrAt_eq_of_covers 2 _ (by decide +kernel) fun t hf y => ?_
  blk_simp
  rw [after0_2]
  obtain ⟨r, s, rfl⟩ : ∃ (r : Fin 512) (s : Fin 512), y = (ix2 r s : S512x512.Idx) := ⟨y 0, y 1, (ix2_eta y).symm⟩
  refine (out_at _ _ r s).trans (Eq.trans ?_ (em t r s (res (m ((c : Thread nD τ).loc main_arg0)) (m ((c : Thread nD τ).loc main_arg1)))).symm)
  unfold res

  exact Finset.sum_congr rfl fun k _ => congrArg₂ (· * ·) (rd0 t r k (m ((c : Thread nD τ).loc main_arg0))) (rd1 t s k (m ((c : Thread nD τ).loc main_arg1)))

end Cert.DHidIdeal.Mm

namespace Cert.DHidReferenceIdeal.Mm

open Cert.DHidReferenceIdeal Cert.DHidReferenceIdeal.Gen Idealize.ShloMosaic Idealize.ShloMosaic.TcCoe Idealize.SL.Sem

/-- What the reference leaves. -/
def ref (X : FVec Ideal S4096x10240 .bf16) (Y : FVec Ideal S4096x10240 .bf16) : FVec Ideal S4096x4096 .f32 := Host.dotGeneral dot_S4096x10240_S4096x10240_S4096x4096_1_1_0_0_n_n none (extf .f32 X bitsLt_bf16_f32) (extf .f32 Y bitsLt_bf16_f32)

theorem ref_eq (X : FVec Ideal S4096x10240 .bf16) (Y : FVec Ideal S4096x10240 .bf16) : ref X Y = Cert.DHidIdeal.Mm.res X Y := by
  funext i
  obtain ⟨r, s, rfl⟩ : ∃ (r : Fin 4096) (s : Fin 4096), i = (ix2 r s : S4096x4096.Idx) := ⟨i 0, i 1, (ix2_eta i).symm⟩
  unfold ref; pointwise
  rfl

end Cert.DHidReferenceIdeal.Mm
end
-- ==== Proof.ClDHid.lean ====
/- The claims about `d_hid`. -/
module

public import proofs.«01_k».proof.Proof.MmDHid
public import proofs.«01_k».proof.Proof.Gen.DHid.Frame
public import proofs.«01_k».proof.Defs
public import Idealize.ShloMosaic.Init
public import Idealize.ShloMosaic.Adequacy

@[expose] public section

set_option maxRecDepth 16384

noncomputable section

namespace Cert.Proof.DHid

open Idealize.ShloMosaic Idealize.SL.Sem Idealize.ShloMosaic.TcCoe

theorem frame_kernel : Cert.quiescent_DHid := fun m ρ _ => Cert.DHid.Gen.frame m ρ

theorem frame_ideal : Cert.quiescent_DHidIdeal := fun m ρ _ => Cert.DHidIdeal.Gen.frame m ρ

theorem frame_reference : Cert.quiescent_DHidReferenceIdeal := fun m ρ _ =>
  (θ_run Cert.DHidReferenceIdeal.defs _ _).mono (fun r h => ⟨fun c => (h c).2, Idealize.ShloMosaic.sem_eq_zero_of_no_sems (by decide) r.2⟩)
    (Cert.DHidReferenceIdeal.Value.run m ρ)

theorem algebraic : Cert.algebraic_DHidIdeal_DHidReferenceIdeal := by
  intro m g m' g' _ hag
  refine ⟨fun c => (Cert.DHidIdeal.Gen.dats m 0 c).arrAt 2 Cert.DHidIdeal.cfg0.N, Cert.DHidIdeal.Value.run_blocks m g, ?_⟩
  refine (θ_run Cert.DHidReferenceIdeal.defs _ _).mono (fun r h c => ?_) (Cert.DHidReferenceIdeal.Value.run m' g')
  obtain ⟨r0, ra⟩ := h c
  obtain ⟨a0, a1⟩ := hag c
  refine ⟨r0.trans ((Cert.DHidReferenceIdeal.Mm.ref_eq _ _).trans ?_), ra⟩
  rw [a0, a1]; exact (Cert.DHidIdeal.Mm.final m c).symm

end Cert.Proof.DHid
end
-- ==== Proof.MmDwIn.lean ====
/- The product `dw_in`: what the kernel's tiles leave is the whole product, which is the reference's. -/
module

public import proofs.«01_k».proof.Proof.Gen.DwInIdeal.Value
public import proofs.«01_k».proof.Proof.Gen.DwInReferenceIdeal.Run
public import Idealize.ShloMosaic.Lib.Pipeline.ValueKit
public import Idealize.ShloMosaic.Lib.WritesUnit
public import Idealize.ShloMosaic.Lib.Pipeline.ReadBack

@[expose] public section

set_option maxRecDepth 16384

noncomputable section

namespace Cert.DwInIdeal.Mm

open Cert.DwInIdeal Cert.DwInIdeal.Gen Idealize.ShloMosaic Idealize.ShloMosaic.TcCoe Idealize.SL.Sem
open Idealize.ShloMosaic.Pipeline (Dat)

/-- The whole product. -/
def res (X : FVec Ideal S4096x4096 .bf16) (Y : FVec Ideal S4096x10240 .bf16) : FVec Ideal S4096x10240 .bf16 := fun i => ∑ k : Fin 4096, X (ix2 k (i 0)) * Y (ix2 k (i 1))

theorem idx : ∀ t : Fin cfg0.N, win0_0.index t = ![0, t.val / 10] ∧ win0_1.index t = ![0, t.val % 10] ∧ win0_2.index t = ![t.val / 10, t.val % 10] :=
  (by decide +kernel : ∀ t : Fin grid0.N, _)

theorem rd0 (t : Fin cfg0.N) (r : Fin 1024) (k : Fin 4096) (X : FVec Ideal S4096x4096 .bf16) :
    (((cfg0.win 0).blk t).view.read (Elt Ideal) (X : ((cfg0.win 0).blk t).view.ty.Contents (Elt Ideal)) : Vec Ideal S4096x1024 .bf16) (ix2 k r) = X (ix2 k ⟨1024 * (t.val / 10) + r.val, by have hN : t.val < 40 := lt_of_lt_of_eq t.isLt N_0; have := r.isLt; omega⟩) := by
  blk_simp
  blk_ext [idx t]

theorem rd1 (t : Fin cfg0.N) (s : Fin 1024) (k : Fin 4096) (X : FVec Ideal S4096x10240 .bf16) :
    (((cfg0.win 1).blk t).view.read (Elt Ideal) (X : ((cfg0.win 1).blk t).view.ty.Contents (Elt Ideal)) : Vec Ideal S4096x1024 .bf16) (ix2 k s) = X (ix2 k ⟨1024 * (t.val % 10) + s.val, by have := s.isLt; omega⟩) := by
  blk_simp
  blk_ext [idx t]

theorem em (t : Fin cfg0.N) (r : Fin 1024) (s : Fin 1024) (X : FVec Ideal S4096x10240 .bf16) :
    (((cfg0.win 2).blk t).view.read (Elt Ideal) (X : ((cfg0.win 2).blk t).view.ty.Contents (Elt Ideal)) : Vec Ideal S1024x1024 .bf16) (ix2 r s) = X (ix2 ⟨1024 * (t.val / 10) + r.val, by have hN : t.val < 40 := lt_of_lt_of_eq t.isLt N_0; have := r.isLt; omega⟩ ⟨1024 * (t.val % 10) + s.val, by have := s.isLt; omega⟩) := by
  blk_simp
  blk_ext [idx t]

theorem out_at (x : Vec Ideal S4096x1024 .bf16) (y : Vec Ideal S4096x1024 .bf16) (r : Fin 1024) (s : Fin 1024) :
    (out0_2 x y : Vec Ideal S1024x1024 .bf16) (ix2 r s) = (∑ k : Fin 4096, x (ix2 k r) * y (ix2 k s)) := by
  frame_out
  open_payloads
  pointwise

variable (m : (ℓ : Loc nD τ sig) → Buf (Elt Ideal) ℓ)

theorem final (c : Dev nD) : (dats m 0 c).arrAt 2 cfg0.N = res (m ((c : Thread nD τ).loc main_arg0)) (m ((c : Thread nD τ).loc main_arg1)) := by
  refine (dats m 0 c).arrAt_eq_of_covers 2 _ (by decide +kernel) fun t hf y => ?_
  blk_simp
  rw [after0_2]
  obtain ⟨r, s, rfl⟩ : ∃ (r : Fin 1024) (s : Fin 1024), y = (ix2 r s : S1024x1024.Idx) := ⟨y 0, y 1, (ix2_eta y).symm⟩
  refine (out_at _ _ r s).trans (Eq.trans ?_ (em t r s (res (m ((c : Thread nD τ).loc main_arg0)) (m ((c : Thread nD τ).loc main_arg1)))).symm)
  unfold res

  exact Finset.sum_congr rfl fun k _ => congrArg₂ (· * ·) (rd0 t r k (m ((c : Thread nD τ).loc main_arg0))) (rd1 t s k (m ((c : Thread nD τ).loc main_arg1)))

end Cert.DwInIdeal.Mm

namespace Cert.DwInReferenceIdeal.Mm

open Cert.DwInReferenceIdeal Cert.DwInReferenceIdeal.Gen Idealize.ShloMosaic Idealize.ShloMosaic.TcCoe Idealize.SL.Sem

/-- What the reference leaves. -/
def ref (X : FVec Ideal S4096x4096 .bf16) (Y : FVec Ideal S4096x10240 .bf16) : FVec Ideal S4096x10240 .bf16 := truncf .bf16 (transpose S4096x10240 [1, 0] (Host.dotGeneral dot_S4096x10240_S4096x4096_S10240x4096_0_0_1_1_n_n none (extf .f32 Y bitsLt_bf16_f32) (extf .f32 X bitsLt_bf16_f32)) transposes_S10240x4096_S4096x10240_1_0) bitsLt_bf16_f32

theorem ref_eq (X : FVec Ideal S4096x4096 .bf16) (Y : FVec Ideal S4096x10240 .bf16) : ref X Y = Cert.DwInIdeal.Mm.res X Y := by
  funext i
  obtain ⟨r, s, rfl⟩ : ∃ (r : Fin 4096) (s : Fin 10240), i = (ix2 r s : S4096x10240.Idx) := ⟨i 0, i 1, (ix2_eta i).symm⟩
  unfold ref; pointwise
  exact Finset.sum_congr rfl fun k _ => mul_comm _ _

end Cert.DwInReferenceIdeal.Mm
end
-- ==== Proof.ClDwIn.lean ====
/- The claims about `dw_in`. -/
module

public import proofs.«01_k».proof.Proof.MmDwIn
public import proofs.«01_k».proof.Proof.Gen.DwIn.Frame
public import proofs.«01_k».proof.Defs
public import Idealize.ShloMosaic.Init
public import Idealize.ShloMosaic.Adequacy

@[expose] public section

set_option maxRecDepth 16384

noncomputable section

namespace Cert.Proof.DwIn

open Idealize.ShloMosaic Idealize.SL.Sem Idealize.ShloMosaic.TcCoe

theorem frame_kernel : Cert.quiescent_DwIn := fun m ρ _ => Cert.DwIn.Gen.frame m ρ

theorem frame_ideal : Cert.quiescent_DwInIdeal := fun m ρ _ => Cert.DwInIdeal.Gen.frame m ρ

theorem frame_reference : Cert.quiescent_DwInReferenceIdeal := fun m ρ _ =>
  (θ_run Cert.DwInReferenceIdeal.defs _ _).mono (fun r h => ⟨fun c => (h c).2, Idealize.ShloMosaic.sem_eq_zero_of_no_sems (by decide) r.2⟩)
    (Cert.DwInReferenceIdeal.Value.run m ρ)

theorem algebraic : Cert.algebraic_DwInIdeal_DwInReferenceIdeal := by
  intro m g m' g' _ hag
  refine ⟨fun c => (Cert.DwInIdeal.Gen.dats m 0 c).arrAt 2 Cert.DwInIdeal.cfg0.N, Cert.DwInIdeal.Value.run_blocks m g, ?_⟩
  refine (θ_run Cert.DwInReferenceIdeal.defs _ _).mono (fun r h c => ?_) (Cert.DwInReferenceIdeal.Value.run m' g')
  obtain ⟨r0, ra⟩ := h c
  obtain ⟨a0, a1⟩ := hag c
  refine ⟨r0.trans ((Cert.DwInReferenceIdeal.Mm.ref_eq _ _).trans ?_), ra⟩
  rw [a0, a1]; exact (Cert.DwInIdeal.Mm.final m c).symm

end Cert.Proof.DwIn
end
-- ==== Proof.MmOutProj.lean ====
/- The product `out_proj`: what the kernel's tiles leave is the whole product, which is the reference's. -/
module

public import proofs.«01_k».proof.Proof.Gen.OutProjIdeal.Value
public import proofs.«01_k».proof.Proof.Gen.OutProjReferenceIdeal.Run
public import Idealize.ShloMosaic.Lib.Pipeline.ValueKit
public import Idealize.ShloMosaic.Lib.WritesUnit
public import Idealize.ShloMosaic.Lib.Pipeline.ReadBack

@[expose] public section

set_option maxRecDepth 16384

noncomputable section

namespace Cert.OutProjIdeal.Mm

open Cert.OutProjIdeal Cert.OutProjIdeal.Gen Idealize.ShloMosaic Idealize.ShloMosaic.TcCoe Idealize.SL.Sem
open Idealize.ShloMosaic.Pipeline (Dat)

/-- The whole product, and what is added to it. -/
def res (X : FVec Ideal S4096x4096 .bf16) (Y : FVec Ideal S4096x4096 .bf16) (C : FVec Ideal S4096x4096 .f32) : FVec Ideal S4096x4096 .f32 := fun i => C (ix2 (i 0) (i 1)) + ∑ k : Fin 4096, X (ix2 (i 0) k) * Y (ix2 k (i 1))

theorem idx : ∀ t : Fin cfg0.N, win0_0.index t = ![t.val / 4, 0] ∧ win0_1.index t = ![0, t.val % 4] ∧ win0_2.index t = ![t.val / 4, t.val % 4] ∧ win0_3.index t = ![t.val / 4, t.val % 4] :=
  (by decide +kernel : ∀ t : Fin grid0.N, _)

theorem rd0 (t : Fin cfg0.N) (r : Fin 512) (k : Fin 4096) (X : FVec Ideal S4096x4096 .bf16) :
    (((cfg0.win 0).blk t).view.read (Elt Ideal) (X : ((cfg0.win 0).blk t).view.ty.Contents (Elt Ideal)) : Vec Ideal S512x4096 .bf16) (ix2 r k) = X (ix2 ⟨512 * (t.val / 4) + r.val, by have hN : t.val < 32 := lt_of_lt_of_eq t.isLt N_0; have := r.isLt; omega⟩ k) := by
  blk_simp
  blk_ext [idx t]

theorem rd1 (t : Fin cfg0.N) (s : Fin 1024) (k : Fin 4096) (X : FVec Ideal S4096x4096 .bf16) :
    (((cfg0.win 1).blk t).view.read (Elt Ideal) (X : ((cfg0.win 1).blk t).view.ty.Contents (Elt Ideal)) : Vec Ideal S4096x1024 .bf16) (ix2 k s) = X (ix2 k ⟨1024 * (t.val % 4) + s.val, by have := s.isLt; omega⟩) := by
  blk_simp
  blk_ext [idx t]

theorem rd2 (t : Fin cfg0.N) (r : Fin 512) (s : Fin 1024) (X : FVec Ideal S4096x4096 .f32) :
    (((cfg0.win 2).blk t).view.read (Elt Ideal) (X : ((cfg0.win 2).blk t).view.ty.Contents (Elt Ideal)) : Vec Ideal S512x1024 .f32) (ix2 r s) = X (ix2 ⟨512 * (t.val / 4) + r.val, by have hN : t.val < 32 := lt_of_lt_of_eq t.isLt N_0; have := r.isLt; omega⟩ ⟨1024 * (t.val % 4) + s.val, by have := s.isLt; omega⟩) := by
  blk_simp
  blk_ext [idx t]

theorem em (t : Fin cfg0.N) (r : Fin 512) (s : Fin 1024) (X : FVec Ideal S4096x4096 .f32) :
    (((cfg0.win 3).blk t).view.read (Elt Ideal) (X : ((cfg0.win 3).blk t).view.ty.Contents (Elt Ideal)) : Vec Ideal S512x1024 .f32) (ix2 r s) = X (ix2 ⟨512 * (t.val / 4) + r.val, by have hN : t.val < 32 := lt_of_lt_of_eq t.isLt N_0; have := r.isLt; omega⟩ ⟨1024 * (t.val % 4) + s.val, by have := s.isLt; omega⟩) := by
  blk_simp
  blk_ext [idx t]

theorem out_at (x : Vec Ideal S512x4096 .bf16) (y : Vec Ideal S4096x1024 .bf16) (z : Vec Ideal S512x1024 .f32) (r : Fin 512) (s : Fin 1024) :
    (out0_3 x y z : Vec Ideal S512x1024 .f32) (ix2 r s) = (∑ k : Fin 4096, x (ix2 r k) * y (ix2 k s)) + z (ix2 r s) := by
  frame_out
  open_payloads
  pointwise

variable (m : (ℓ : Loc nD τ sig) → Buf (Elt Ideal) ℓ)

theorem final (c : Dev nD) : (dats m 0 c).arrAt 3 cfg0.N = res (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  obtain ⟨r, s, rfl⟩ : ∃ (r : Fin 512) (s : Fin 1024), y = (ix2 r s : S512x1024.Idx) := ⟨y 0, y 1, (ix2_eta y).symm⟩
  refine (out_at _ _ _ r s).trans (Eq.trans ?_ (em t r s (res (m ((c : Thread nD τ).loc main_arg0)) (m ((c : Thread nD τ).loc main_arg1)) (m ((c : Thread nD τ).loc main_arg2)))).symm)
  unfold res
  rw [add_comm]
  refine congrArg₂ (· + ·) (rd2 t r s _) ?_
  exact Finset.sum_congr rfl fun k _ => congrArg₂ (· * ·) (rd0 t r k (m ((c : Thread nD τ).loc main_arg0))) (rd1 t s k (m ((c : Thread nD τ).loc main_arg1)))

end Cert.OutProjIdeal.Mm

namespace Cert.OutProjReferenceIdeal.Mm

open Cert.OutProjReferenceIdeal Cert.OutProjReferenceIdeal.Gen Idealize.ShloMosaic Idealize.ShloMosaic.TcCoe Idealize.SL.Sem

/-- What the reference leaves. -/
def ref (X : FVec Ideal S4096x4096 .bf16) (Y : FVec Ideal S4096x4096 .bf16) (C : FVec Ideal S4096x4096 .f32) : FVec Ideal S4096x4096 .f32 := addf C (Host.dotGeneral dot_S4096x4096_S4096x4096_S4096x4096_1_0_0_1_n_n none (extf .f32 X bitsLt_bf16_f32) (extf .f32 Y bitsLt_bf16_f32))

theorem ref_eq (X : FVec Ideal S4096x4096 .bf16) (Y : FVec Ideal S4096x4096 .bf16) (C : FVec Ideal S4096x4096 .f32) : ref X Y C = Cert.OutProjIdeal.Mm.res X Y C := by
  funext i
  obtain ⟨r, s, rfl⟩ : ∃ (r : Fin 4096) (s : Fin 4096), i = (ix2 r s : S4096x4096.Idx) := ⟨i 0, i 1, (ix2_eta i).symm⟩
  unfold ref; pointwise
  rfl

end Cert.OutProjReferenceIdeal.Mm
end
-- ==== Proof.ClOutProj.lean ====
/- The claims about `out_proj`. -/
module

public import proofs.«01_k».proof.Proof.MmOutProj
public import proofs.«01_k».proof.Proof.Gen.OutProj.Frame
public import proofs.«01_k».proof.Defs
public import Idealize.ShloMosaic.Init
public import Idealize.ShloMosaic.Adequacy

@[expose] public section

set_option maxRecDepth 16384

noncomputable section

namespace Cert.Proof.OutProj

open Idealize.ShloMosaic Idealize.SL.Sem Idealize.ShloMosaic.TcCoe

theorem frame_kernel : Cert.quiescent_OutProj := fun m ρ _ => Cert.OutProj.Gen.frame m ρ

theorem frame_ideal : Cert.quiescent_OutProjIdeal := fun m ρ _ => Cert.OutProjIdeal.Gen.frame m ρ

theorem frame_reference : Cert.quiescent_OutProjReferenceIdeal := fun m ρ _ =>
  (θ_run Cert.OutProjReferenceIdeal.defs _ _).mono (fun r h => ⟨fun c => (h c).2, Idealize.ShloMosaic.sem_eq_zero_of_no_sems (by decide) r.2⟩)
    (Cert.OutProjReferenceIdeal.Value.run m ρ)

theorem algebraic : Cert.algebraic_OutProjIdeal_OutProjReferenceIdeal := by
  intro m g m' g' _ hag
  refine ⟨fun c => (Cert.OutProjIdeal.Gen.dats m 0 c).arrAt 3 Cert.OutProjIdeal.cfg0.N, Cert.OutProjIdeal.Value.run_blocks m g, ?_⟩
  refine (θ_run Cert.OutProjReferenceIdeal.defs _ _).mono (fun r h c => ?_) (Cert.OutProjReferenceIdeal.Value.run m' g')
  obtain ⟨r0, ra⟩ := h c
  obtain ⟨a0, a1, a2⟩ := hag c
  refine ⟨r0.trans ((Cert.OutProjReferenceIdeal.Mm.ref_eq _ _ _).trans ?_), ra⟩
  rw [a0, a1, a2]; exact (Cert.OutProjIdeal.Mm.final m c).symm

end Cert.Proof.OutProj
end
-- ==== Proof.MmDMix.lean ====
/- The product `d_mix`: what the kernel's tiles leave is the whole product, which is the reference's. -/
module

public import proofs.«01_k».proof.Proof.Gen.DMixIdeal.Value
public import proofs.«01_k».proof.Proof.Gen.DMixReferenceIdeal.Run
public import Idealize.ShloMosaic.Lib.Pipeline.ValueKit
public import Idealize.ShloMosaic.Lib.WritesUnit
public import Idealize.ShloMosaic.Lib.Pipeline.ReadBack

@[expose] public section

set_option maxRecDepth 16384

noncomputable section

namespace Cert.DMixIdeal.Mm

open Cert.DMixIdeal Cert.DMixIdeal.Gen Idealize.ShloMosaic Idealize.ShloMosaic.TcCoe Idealize.SL.Sem
open Idealize.ShloMosaic.Pipeline (Dat)

/-- The whole product. -/
def res (X : FVec Ideal S4096x4096 .bf16) (Y : FVec Ideal S4096x4096 .bf16) : FVec Ideal S4096x4096 .f32 := fun i => ∑ k : Fin 4096, X (ix2 (i 0) k) * Y (ix2 (i 1) k)

theorem idx : ∀ t : Fin cfg0.N, win0_0.index t = ![t.val / 4, 0] ∧ win0_1.index t = ![t.val % 4, 0] ∧ win0_2.index t = ![t.val / 4, t.val % 4] :=
  (by decide +kernel : ∀ t : Fin grid0.N, _)

theorem rd0 (t : Fin cfg0.N) (r : Fin 1024) (k : Fin 4096) (X : FVec Ideal S4096x4096 .bf16) :
    (((cfg0.win 0).blk t).view.read (Elt Ideal) (X : ((cfg0.win 0).blk t).view.ty.Contents (Elt Ideal)) : Vec Ideal S1024x4096 .bf16) (ix2 r k) = X (ix2 ⟨1024 * (t.val / 4) + r.val, by have hN : t.val < 16 := lt_of_lt_of_eq t.isLt N_0; have := r.isLt; omega⟩ k) := by
  blk_simp
  blk_ext [idx t]

theorem rd1 (t : Fin cfg0.N) (s : Fin 1024) (k : Fin 4096) (X : FVec Ideal S4096x4096 .bf16) :
    (((cfg0.win 1).blk t).view.read (Elt Ideal) (X : ((cfg0.win 1).blk t).view.ty.Contents (Elt Ideal)) : Vec Ideal S1024x4096 .bf16) (ix2 s k) = X (ix2 ⟨1024 * (t.val % 4) + s.val, by have := s.isLt; omega⟩ k) := by
  blk_simp
  blk_ext [idx t]

theorem em (t : Fin cfg0.N) (r : Fin 1024) (s : Fin 1024) (X : FVec Ideal S4096x4096 .f32) :
    (((cfg0.win 2).blk t).view.read (Elt Ideal) (X : ((cfg0.win 2).blk t).view.ty.Contents (Elt Ideal)) : Vec Ideal S1024x1024 .f32) (ix2 r s) = X (ix2 ⟨1024 * (t.val / 4) + r.val, by have hN : t.val < 16 := lt_of_lt_of_eq t.isLt N_0; have := r.isLt; omega⟩ ⟨1024 * (t.val % 4) + s.val, by have := s.isLt; omega⟩) := by
  blk_simp
  blk_ext [idx t]

theorem out_at (x : Vec Ideal S1024x4096 .bf16) (y : Vec Ideal S1024x4096 .bf16) (r : Fin 1024) (s : Fin 1024) :
    (out0_2 x y : Vec Ideal S1024x1024 .f32) (ix2 r s) = (∑ k : Fin 4096, x (ix2 r k) * y (ix2 s k)) := by
  frame_out
  open_payloads
  pointwise

variable (m : (ℓ : Loc nD τ sig) → Buf (Elt Ideal) ℓ)

theorem final (c : Dev nD) : (dats m 0 c).arrAt 2 cfg0.N = res (m ((c : Thread nD τ).loc main_arg0)) (m ((c : Thread nD τ).loc main_arg1)) := by
  refine (dats m 0 c).arrAt_eq_of_covers 2 _ (by decide +kernel) fun t hf y => ?_
  blk_simp
  rw [after0_2]
  obtain ⟨r, s, rfl⟩ : ∃ (r : Fin 1024) (s : Fin 1024), y = (ix2 r s : S1024x1024.Idx) := ⟨y 0, y 1, (ix2_eta y).symm⟩
  refine (out_at _ _ r s).trans (Eq.trans ?_ (em t r s (res (m ((c : Thread nD τ).loc main_arg0)) (m ((c : Thread nD τ).loc main_arg1)))).symm)
  unfold res

  exact Finset.sum_congr rfl fun k _ => congrArg₂ (· * ·) (rd0 t r k (m ((c : Thread nD τ).loc main_arg0))) (rd1 t s k (m ((c : Thread nD τ).loc main_arg1)))

end Cert.DMixIdeal.Mm

namespace Cert.DMixReferenceIdeal.Mm

open Cert.DMixReferenceIdeal Cert.DMixReferenceIdeal.Gen Idealize.ShloMosaic Idealize.ShloMosaic.TcCoe Idealize.SL.Sem

/-- What the reference leaves. -/
def ref (X : FVec Ideal S4096x4096 .bf16) (Y : FVec Ideal S4096x4096 .bf16) : FVec Ideal S4096x4096 .f32 := Host.dotGeneral dot_S4096x4096_S4096x4096_S4096x4096_1_1_0_0_n_n none (extf .f32 X bitsLt_bf16_f32) (extf .f32 Y bitsLt_bf16_f32)

theorem ref_eq (X : FVec Ideal S4096x4096 .bf16) (Y : FVec Ideal S4096x4096 .bf16) : ref X Y = Cert.DMixIdeal.Mm.res X Y := by
  funext i
  obtain ⟨r, s, rfl⟩ : ∃ (r : Fin 4096) (s : Fin 4096), i = (ix2 r s : S4096x4096.Idx) := ⟨i 0, i 1, (ix2_eta i).symm⟩
  unfold ref; pointwise
  rfl

end Cert.DMixReferenceIdeal.Mm
end
-- ==== Proof.ClDMix.lean ====
/- The claims about `d_mix`. -/
module

public import proofs.«01_k».proof.Proof.MmDMix
public import proofs.«01_k».proof.Proof.Gen.DMix.Frame
public import proofs.«01_k».proof.Defs
public import Idealize.ShloMosaic.Init
public import Idealize.ShloMosaic.Adequacy

@[expose] public section

set_option maxRecDepth 16384

noncomputable section

namespace Cert.Proof.DMix

open Idealize.ShloMosaic Idealize.SL.Sem Idealize.ShloMosaic.TcCoe

theorem frame_kernel : Cert.quiescent_DMix := fun m ρ _ => Cert.DMix.Gen.frame m ρ

theorem frame_ideal : Cert.quiescent_DMixIdeal := fun m ρ _ => Cert.DMixIdeal.Gen.frame m ρ

theorem frame_reference : Cert.quiescent_DMixReferenceIdeal := fun m ρ _ =>
  (θ_run Cert.DMixReferenceIdeal.defs _ _).mono (fun r h => ⟨fun c => (h c).2, Idealize.ShloMosaic.sem_eq_zero_of_no_sems (by decide) r.2⟩)
    (Cert.DMixReferenceIdeal.Value.run m ρ)

theorem algebraic : Cert.algebraic_DMixIdeal_DMixReferenceIdeal := by
  intro m g m' g' _ hag
  refine ⟨fun c => (Cert.DMixIdeal.Gen.dats m 0 c).arrAt 2 Cert.DMixIdeal.cfg0.N, Cert.DMixIdeal.Value.run_blocks m g, ?_⟩
  refine (θ_run Cert.DMixReferenceIdeal.defs _ _).mono (fun r h c => ?_) (Cert.DMixReferenceIdeal.Value.run m' g')
  obtain ⟨r0, ra⟩ := h c
  obtain ⟨a0, a1⟩ := hag c
  refine ⟨r0.trans ((Cert.DMixReferenceIdeal.Mm.ref_eq _ _).trans ?_), ra⟩
  rw [a0, a1]; exact (Cert.DMixIdeal.Mm.final m c).symm

end Cert.Proof.DMix
end
-- ==== Proof.MmDwOut.lean ====
/- The product `dw_out`: what the kernel's tiles leave is the whole product, which is the reference's. -/
module

public import proofs.«01_k».proof.Proof.Gen.DwOutIdeal.Value
public import proofs.«01_k».proof.Proof.Gen.DwOutReferenceIdeal.Run
public import Idealize.ShloMosaic.Lib.Pipeline.ValueKit
public import Idealize.ShloMosaic.Lib.WritesUnit
public import Idealize.ShloMosaic.Lib.Pipeline.ReadBack

@[expose] public section

set_option maxRecDepth 16384

noncomputable section

namespace Cert.DwOutIdeal.Mm

open Cert.DwOutIdeal Cert.DwOutIdeal.Gen Idealize.ShloMosaic Idealize.ShloMosaic.TcCoe Idealize.SL.Sem
open Idealize.ShloMosaic.Pipeline (Dat)

/-- The whole product. -/
def res (X : FVec Ideal S4096x4096 .bf16) (Y : FVec Ideal S4096x4096 .bf16) : FVec Ideal S4096x4096 .bf16 := fun i => ∑ k : Fin 4096, X (ix2 k (i 0)) * Y (ix2 k (i 1))

theorem idx : ∀ t : Fin cfg0.N, win0_0.index t = ![0, t.val / 4] ∧ win0_1.index t = ![0, t.val % 4] ∧ win0_2.index t = ![t.val / 4, t.val % 4] :=
  (by decide +kernel : ∀ t : Fin grid0.N, _)

theorem rd0 (t : Fin cfg0.N) (r : Fin 1024) (k : Fin 4096) (X : FVec Ideal S4096x4096 .bf16) :
    (((cfg0.win 0).blk t).view.read (Elt Ideal) (X : ((cfg0.win 0).blk t).view.ty.Contents (Elt Ideal)) : Vec Ideal S4096x1024 .bf16) (ix2 k r) = X (ix2 k ⟨1024 * (t.val / 4) + r.val, by have hN : t.val < 16 := lt_of_lt_of_eq t.isLt N_0; have := r.isLt; omega⟩) := by
  blk_simp
  blk_ext [idx t]

theorem rd1 (t : Fin cfg0.N) (s : Fin 1024) (k : Fin 4096) (X : FVec Ideal S4096x4096 .bf16) :
    (((cfg0.win 1).blk t).view.read (Elt Ideal) (X : ((cfg0.win 1).blk t).view.ty.Contents (Elt Ideal)) : Vec Ideal S4096x1024 .bf16) (ix2 k s) = X (ix2 k ⟨1024 * (t.val % 4) + s.val, by have := s.isLt; omega⟩) := by
  blk_simp
  blk_ext [idx t]

theorem em (t : Fin cfg0.N) (r : Fin 1024) (s : Fin 1024) (X : FVec Ideal S4096x4096 .bf16) :
    (((cfg0.win 2).blk t).view.read (Elt Ideal) (X : ((cfg0.win 2).blk t).view.ty.Contents (Elt Ideal)) : Vec Ideal S1024x1024 .bf16) (ix2 r s) = X (ix2 ⟨1024 * (t.val / 4) + r.val, by have hN : t.val < 16 := lt_of_lt_of_eq t.isLt N_0; have := r.isLt; omega⟩ ⟨1024 * (t.val % 4) + s.val, by have := s.isLt; omega⟩) := by
  blk_simp
  blk_ext [idx t]

theorem out_at (x : Vec Ideal S4096x1024 .bf16) (y : Vec Ideal S4096x1024 .bf16) (r : Fin 1024) (s : Fin 1024) :
    (out0_2 x y : Vec Ideal S1024x1024 .bf16) (ix2 r s) = (∑ k : Fin 4096, x (ix2 k r) * y (ix2 k s)) := by
  frame_out
  open_payloads
  pointwise

variable (m : (ℓ : Loc nD τ sig) → Buf (Elt Ideal) ℓ)

theorem final (c : Dev nD) : (dats m 0 c).arrAt 2 cfg0.N = res (m ((c : Thread nD τ).loc main_arg0)) (m ((c : Thread nD τ).loc main_arg1)) := by
  refine (dats m 0 c).arrAt_eq_of_covers 2 _ (by decide +kernel) fun t hf y => ?_
  blk_simp
  rw [after0_2]
  obtain ⟨r, s, rfl⟩ : ∃ (r : Fin 1024) (s : Fin 1024), y = (ix2 r s : S1024x1024.Idx) := ⟨y 0, y 1, (ix2_eta y).symm⟩
  refine (out_at _ _ r s).trans (Eq.trans ?_ (em t r s (res (m ((c : Thread nD τ).loc main_arg0)) (m ((c : Thread nD τ).loc main_arg1)))).symm)
  unfold res

  exact Finset.sum_congr rfl fun k _ => congrArg₂ (· * ·) (rd0 t r k (m ((c : Thread nD τ).loc main_arg0))) (rd1 t s k (m ((c : Thread nD τ).loc main_arg1)))

end Cert.DwOutIdeal.Mm

namespace Cert.DwOutReferenceIdeal.Mm

open Cert.DwOutReferenceIdeal Cert.DwOutReferenceIdeal.Gen Idealize.ShloMosaic Idealize.ShloMosaic.TcCoe Idealize.SL.Sem

/-- What the reference leaves. -/
def ref (X : FVec Ideal S4096x4096 .bf16) (Y : FVec Ideal S4096x4096 .bf16) : FVec Ideal S4096x4096 .bf16 := truncf .bf16 (transpose S4096x4096 [1, 0] (Host.dotGeneral dot_S4096x4096_S4096x4096_S4096x4096_0_0_1_1_n_n none (extf .f32 Y bitsLt_bf16_f32) (extf .f32 X bitsLt_bf16_f32)) transposes_S4096x4096_S4096x4096_1_0) bitsLt_bf16_f32

theorem ref_eq (X : FVec Ideal S4096x4096 .bf16) (Y : FVec Ideal S4096x4096 .bf16) : ref X Y = Cert.DwOutIdeal.Mm.res X Y := by
  funext i
  obtain ⟨r, s, rfl⟩ : ∃ (r : Fin 4096) (s : Fin 4096), i = (ix2 r s : S4096x4096.Idx) := ⟨i 0, i 1, (ix2_eta i).symm⟩
  unfold ref; pointwise
  exact Finset.sum_congr rfl fun k _ => mul_comm _ _

end Cert.DwOutReferenceIdeal.Mm
end
-- ==== Proof.ClDwOut.lean ====
/- The claims about `dw_out`. -/
module

public import proofs.«01_k».proof.Proof.MmDwOut
public import proofs.«01_k».proof.Proof.Gen.DwOut.Frame
public import proofs.«01_k».proof.Defs
public import Idealize.ShloMosaic.Init
public import Idealize.ShloMosaic.Adequacy

@[expose] public section

set_option maxRecDepth 16384

noncomputable section

namespace Cert.Proof.DwOut

open Idealize.ShloMosaic Idealize.SL.Sem Idealize.ShloMosaic.TcCoe

theorem frame_kernel : Cert.quiescent_DwOut := fun m ρ _ => Cert.DwOut.Gen.frame m ρ

theorem frame_ideal : Cert.quiescent_DwOutIdeal := fun m ρ _ => Cert.DwOutIdeal.Gen.frame m ρ

theorem frame_reference : Cert.quiescent_DwOutReferenceIdeal := fun m ρ _ =>
  (θ_run Cert.DwOutReferenceIdeal.defs _ _).mono (fun r h => ⟨fun c => (h c).2, Idealize.ShloMosaic.sem_eq_zero_of_no_sems (by decide) r.2⟩)
    (Cert.DwOutReferenceIdeal.Value.run m ρ)

theorem algebraic : Cert.algebraic_DwOutIdeal_DwOutReferenceIdeal := by
  intro m g m' g' _ hag
  refine ⟨fun c => (Cert.DwOutIdeal.Gen.dats m 0 c).arrAt 2 Cert.DwOutIdeal.cfg0.N, Cert.DwOutIdeal.Value.run_blocks m g, ?_⟩
  refine (θ_run Cert.DwOutReferenceIdeal.defs _ _).mono (fun r h c => ?_) (Cert.DwOutReferenceIdeal.Value.run m' g')
  obtain ⟨r0, ra⟩ := h c
  obtain ⟨a0, a1⟩ := hag c
  refine ⟨r0.trans ((Cert.DwOutReferenceIdeal.Mm.ref_eq _ _).trans ?_), ra⟩
  rw [a0, a1]; exact (Cert.DwOutIdeal.Mm.final m c).symm

end Cert.Proof.DwOut
end
-- ==== Proof.MmQUp.lean ====
/- The product `q_up`: what the kernel's tiles leave is the whole product, which is the reference's. -/
module

public import proofs.«01_k».proof.Proof.Gen.QUpIdeal.Value
public import proofs.«01_k».proof.Proof.Gen.QUpReferenceIdeal.Run
public import Idealize.ShloMosaic.Lib.Pipeline.ValueKit
public import Idealize.ShloMosaic.Lib.WritesUnit
public import Idealize.ShloMosaic.Lib.Pipeline.ReadBack

@[expose] public section

set_option maxRecDepth 16384

noncomputable section

namespace Cert.QUpIdeal.Mm

open Cert.QUpIdeal Cert.QUpIdeal.Gen Idealize.ShloMosaic Idealize.ShloMosaic.TcCoe Idealize.SL.Sem
open Idealize.ShloMosaic.Pipeline (Dat)

/-- The whole product. -/
def res (X : FVec Ideal S4096x1024 .bf16) (Y : FVec Ideal S1024x4096 .bf16) : FVec Ideal S4096x4096 .bf16 := fun i => ∑ k : Fin 1024, X (ix2 (i 0) k) * Y (ix2 k (i 1))

theorem idx : ∀ t : Fin cfg0.N, win0_0.index t = ![t.val / 4, 0] ∧ win0_1.index t = ![0, t.val % 4] ∧ win0_2.index t = ![t.val / 4, t.val % 4] :=
  (by decide +kernel : ∀ t : Fin grid0.N, _)

theorem rd0 (t : Fin cfg0.N) (r : Fin 1024) (k : Fin 1024) (X : FVec Ideal S4096x1024 .bf16) :
    (((cfg0.win 0).blk t).view.read (Elt Ideal) (X : ((cfg0.win 0).blk t).view.ty.Contents (Elt Ideal)) : Vec Ideal S1024x1024 .bf16) (ix2 r k) = X (ix2 ⟨1024 * (t.val / 4) + r.val, by have hN : t.val < 16 := lt_of_lt_of_eq t.isLt N_0; have := r.isLt; omega⟩ k) := by
  blk_simp
  blk_ext [idx t]

theorem rd1 (t : Fin cfg0.N) (s : Fin 1024) (k : Fin 1024) (X : FVec Ideal S1024x4096 .bf16) :
    (((cfg0.win 1).blk t).view.read (Elt Ideal) (X : ((cfg0.win 1).blk t).view.ty.Contents (Elt Ideal)) : Vec Ideal S1024x1024 .bf16) (ix2 k s) = X (ix2 k ⟨1024 * (t.val % 4) + s.val, by have := s.isLt; omega⟩) := by
  blk_simp
  blk_ext [idx t]

theorem em (t : Fin cfg0.N) (r : Fin 1024) (s : Fin 1024) (X : FVec Ideal S4096x4096 .bf16) :
    (((cfg0.win 2).blk t).view.read (Elt Ideal) (X : ((cfg0.win 2).blk t).view.ty.Contents (Elt Ideal)) : Vec Ideal S1024x1024 .bf16) (ix2 r s) = X (ix2 ⟨1024 * (t.val / 4) + r.val, by have hN : t.val < 16 := lt_of_lt_of_eq t.isLt N_0; have := r.isLt; omega⟩ ⟨1024 * (t.val % 4) + s.val, by have := s.isLt; omega⟩) := by
  blk_simp
  blk_ext [idx t]

theorem out_at (x : Vec Ideal S1024x1024 .bf16) (y : Vec Ideal S1024x1024 .bf16) (r : Fin 1024) (s : Fin 1024) :
    (out0_2 x y : Vec Ideal S1024x1024 .bf16) (ix2 r s) = (∑ k : Fin 1024, x (ix2 r k) * y (ix2 k s)) := by
  frame_out
  open_payloads
  pointwise

variable (m : (ℓ : Loc nD τ sig) → Buf (Elt Ideal) ℓ)

theorem final (c : Dev nD) : (dats m 0 c).arrAt 2 cfg0.N = res (m ((c : Thread nD τ).loc main_arg0)) (m ((c : Thread nD τ).loc main_arg1)) := by
  refine (dats m 0 c).arrAt_eq_of_covers 2 _ (by decide +kernel) fun t hf y => ?_
  blk_simp
  rw [after0_2]
  obtain ⟨r, s, rfl⟩ : ∃ (r : Fin 1024) (s : Fin 1024), y = (ix2 r s : S1024x1024.Idx) := ⟨y 0, y 1, (ix2_eta y).symm⟩
  refine (out_at _ _ r s).trans (Eq.trans ?_ (em t r s (res (m ((c : Thread nD τ).loc main_arg0)) (m ((c : Thread nD τ).loc main_arg1)))).symm)
  unfold res

  exact Finset.sum_congr rfl fun k _ => congrArg₂ (· * ·) (rd0 t r k (m ((c : Thread nD τ).loc main_arg0))) (rd1 t s k (m ((c : Thread nD τ).loc main_arg1)))

end Cert.QUpIdeal.Mm

namespace Cert.QUpReferenceIdeal.Mm

open Cert.QUpReferenceIdeal Cert.QUpReferenceIdeal.Gen Idealize.ShloMosaic Idealize.ShloMosaic.TcCoe Idealize.SL.Sem

/-- What the reference leaves. -/
def ref (X : FVec Ideal S4096x1024 .bf16) (Y : FVec Ideal S1024x4096 .bf16) : FVec Ideal S4096x4096 .bf16 := truncf .bf16 (Host.dotGeneral dot_S4096x1024_S1024x4096_S4096x4096_1_0_0_1_n_n none (extf .f32 X bitsLt_bf16_f32) (extf .f32 Y bitsLt_bf16_f32)) bitsLt_bf16_f32

theorem ref_eq (X : FVec Ideal S4096x1024 .bf16) (Y : FVec Ideal S1024x4096 .bf16) : ref X Y = Cert.QUpIdeal.Mm.res X Y := by
  funext i
  obtain ⟨r, s, rfl⟩ : ∃ (r : Fin 4096) (s : Fin 4096), i = (ix2 r s : S4096x4096.Idx) := ⟨i 0, i 1, (ix2_eta i).symm⟩
  unfold ref; pointwise
  rfl

end Cert.QUpReferenceIdeal.Mm
end
-- ==== Proof.ClQUp.lean ====
/- The claims about `q_up`. -/
module

public import proofs.«01_k».proof.Proof.MmQUp
public import proofs.«01_k».proof.Proof.Gen.QUp.Frame
public import proofs.«01_k».proof.Defs
public import Idealize.ShloMosaic.Init
public import Idealize.ShloMosaic.Adequacy

@[expose] public section

set_option maxRecDepth 16384

noncomputable section

namespace Cert.Proof.QUp

open Idealize.ShloMosaic Idealize.SL.Sem Idealize.ShloMosaic.TcCoe

theorem frame_kernel : Cert.quiescent_QUp := fun m ρ _ => Cert.QUp.Gen.frame m ρ

theorem frame_ideal : Cert.quiescent_QUpIdeal := fun m ρ _ => Cert.QUpIdeal.Gen.frame m ρ

theorem frame_reference : Cert.quiescent_QUpReferenceIdeal := fun m ρ _ =>
  (θ_run Cert.QUpReferenceIdeal.defs _ _).mono (fun r h => ⟨fun c => (h c).2, Idealize.ShloMosaic.sem_eq_zero_of_no_sems (by decide) r.2⟩)
    (Cert.QUpReferenceIdeal.Value.run m ρ)

theorem algebraic : Cert.algebraic_QUpIdeal_QUpReferenceIdeal := by
  intro m g m' g' _ hag
  refine ⟨fun c => (Cert.QUpIdeal.Gen.dats m 0 c).arrAt 2 Cert.QUpIdeal.cfg0.N, Cert.QUpIdeal.Value.run_blocks m g, ?_⟩
  refine (θ_run Cert.QUpReferenceIdeal.defs _ _).mono (fun r h c => ?_) (Cert.QUpReferenceIdeal.Value.run m' g')
  obtain ⟨r0, ra⟩ := h c
  obtain ⟨a0, a1⟩ := hag c
  refine ⟨r0.trans ((Cert.QUpReferenceIdeal.Mm.ref_eq _ _).trans ?_), ra⟩
  rw [a0, a1]; exact (Cert.QUpIdeal.Mm.final m c).symm

end Cert.Proof.QUp
end
-- ==== Proof.MmDQn.lean ====
/- The product `d_qn`: what the kernel's tiles leave is the whole product, which is the reference's. -/
module

public import proofs.«01_k».proof.Proof.Gen.DQnIdeal.Value
public import proofs.«01_k».proof.Proof.Gen.DQnReferenceIdeal.Run
public import Idealize.ShloMosaic.Lib.Pipeline.ValueKit
public import Idealize.ShloMosaic.Lib.WritesUnit
public import Idealize.ShloMosaic.Lib.Pipeline.ReadBack

@[expose] public section

set_option maxRecDepth 16384

noncomputable section

namespace Cert.DQnIdeal.Mm

open Cert.DQnIdeal Cert.DQnIdeal.Gen Idealize.ShloMosaic Idealize.ShloMosaic.TcCoe Idealize.SL.Sem
open Idealize.ShloMosaic.Pipeline (Dat)

/-- The whole product. -/
def res (X : FVec Ideal S4096x4096 .bf16) (Y : FVec Ideal S1024x4096 .bf16) : FVec Ideal S4096x1024 .f32 := fun i => ∑ k : Fin 4096, X (ix2 (i 0) k) * Y (ix2 (i 1) k)

theorem idx : ∀ t : Fin cfg0.N, win0_0.index t = ![t.val / 1, 0] ∧ win0_1.index t = ![t.val % 1, 0] ∧ win0_2.index t = ![t.val / 1, t.val % 1] :=
  (by decide +kernel : ∀ t : Fin grid0.N, _)

theorem rd0 (t : Fin cfg0.N) (r : Fin 1024) (k : Fin 4096) (X : FVec Ideal S4096x4096 .bf16) :
    (((cfg0.win 0).blk t).view.read (Elt Ideal) (X : ((cfg0.win 0).blk t).view.ty.Contents (Elt Ideal)) : Vec Ideal S1024x4096 .bf16) (ix2 r k) = X (ix2 ⟨1024 * (t.val / 1) + r.val, by have hN : t.val < 4 := lt_of_lt_of_eq t.isLt N_0; have := r.isLt; omega⟩ k) := by
  blk_simp
  blk_ext [idx t]

theorem rd1 (t : Fin cfg0.N) (s : Fin 1024) (k : Fin 4096) (X : FVec Ideal S1024x4096 .bf16) :
    (((cfg0.win 1).blk t).view.read (Elt Ideal) (X : ((cfg0.win 1).blk t).view.ty.Contents (Elt Ideal)) : Vec Ideal S1024x4096 .bf16) (ix2 s k) = X (ix2 ⟨1024 * (t.val % 1) + s.val, by have := s.isLt; omega⟩ k) := by
  blk_simp
  blk_ext [idx t]

theorem em (t : Fin cfg0.N) (r : Fin 1024) (s : Fin 1024) (X : FVec Ideal S4096x1024 .f32) :
    (((cfg0.win 2).blk t).view.read (Elt Ideal) (X : ((cfg0.win 2).blk t).view.ty.Contents (Elt Ideal)) : Vec Ideal S1024x1024 .f32) (ix2 r s) = X (ix2 ⟨1024 * (t.val / 1) + r.val, by have hN : t.val < 4 := lt_of_lt_of_eq t.isLt N_0; have := r.isLt; omega⟩ ⟨1024 * (t.val % 1) + s.val, by have := s.isLt; omega⟩) := by
  blk_simp
  blk_ext [idx t]

theorem out_at (x : Vec Ideal S1024x4096 .bf16) (y : Vec Ideal S1024x4096 .bf16) (r : Fin 1024) (s : Fin 1024) :
    (out0_2 x y : Vec Ideal S1024x1024 .f32) (ix2 r s) = (∑ k : Fin 4096, x (ix2 r k) * y (ix2 s k)) := by
  frame_out
  open_payloads
  pointwise

variable (m : (ℓ : Loc nD τ sig) → Buf (Elt Ideal) ℓ)

theorem final (c : Dev nD) : (dats m 0 c).arrAt 2 cfg0.N = res (m ((c : Thread nD τ).loc main_arg0)) (m ((c : Thread nD τ).loc main_arg1)) := by
  refine (dats m 0 c).arrAt_eq_of_covers 2 _ (by decide +kernel) fun t hf y => ?_
  blk_simp
  rw [after0_2]
  obtain ⟨r, s, rfl⟩ : ∃ (r : Fin 1024) (s : Fin 1024), y = (ix2 r s : S1024x1024.Idx) := ⟨y 0, y 1, (ix2_eta y).symm⟩
  refine (out_at _ _ r s).trans (Eq.trans ?_ (em t r s (res (m ((c : Thread nD τ).loc main_arg0)) (m ((c : Thread nD τ).loc main_arg1)))).symm)
  unfold res

  exact Finset.sum_congr rfl fun k _ => congrArg₂ (· * ·) (rd0 t r k (m ((c : Thread nD τ).loc main_arg0))) (rd1 t s k (m ((c : Thread nD τ).loc main_arg1)))

end Cert.DQnIdeal.Mm

namespace Cert.DQnReferenceIdeal.Mm

open Cert.DQnReferenceIdeal Cert.DQnReferenceIdeal.Gen Idealize.ShloMosaic Idealize.ShloMosaic.TcCoe Idealize.SL.Sem

/-- What the reference leaves. -/
def ref (X : FVec Ideal S4096x4096 .bf16) (Y : FVec Ideal S1024x4096 .bf16) : FVec Ideal S4096x1024 .f32 := Host.dotGeneral dot_S4096x4096_S1024x4096_S4096x1024_1_1_0_0_n_n none (extf .f32 X bitsLt_bf16_f32) (extf .f32 Y bitsLt_bf16_f32)

theorem ref_eq (X : FVec Ideal S4096x4096 .bf16) (Y : FVec Ideal S1024x4096 .bf16) : ref X Y = Cert.DQnIdeal.Mm.res X Y := by
  funext i
  obtain ⟨r, s, rfl⟩ : ∃ (r : Fin 4096) (s : Fin 1024), i = (ix2 r s : S4096x1024.Idx) := ⟨i 0, i 1, (ix2_eta i).symm⟩
  unfold ref; pointwise
  rfl

end Cert.DQnReferenceIdeal.Mm
end
-- ==== Proof.ClDQn.lean ====
/- The claims about `d_qn`. -/
module

public import proofs.«01_k».proof.Proof.MmDQn
public import proofs.«01_k».proof.Proof.Gen.DQn.Frame
public import proofs.«01_k».proof.Defs
public import Idealize.ShloMosaic.Init
public import Idealize.ShloMosaic.Adequacy

@[expose] public section

set_option maxRecDepth 16384

noncomputable section

namespace Cert.Proof.DQn

open Idealize.ShloMosaic Idealize.SL.Sem Idealize.ShloMosaic.TcCoe

theorem frame_kernel : Cert.quiescent_DQn := fun m ρ _ => Cert.DQn.Gen.frame m ρ

theorem frame_ideal : Cert.quiescent_DQnIdeal := fun m ρ _ => Cert.DQnIdeal.Gen.frame m ρ

theorem frame_reference : Cert.quiescent_DQnReferenceIdeal := fun m ρ _ =>
  (θ_run Cert.DQnReferenceIdeal.defs _ _).mono (fun r h => ⟨fun c => (h c).2, Idealize.ShloMosaic.sem_eq_zero_of_no_sems (by decide) r.2⟩)
    (Cert.DQnReferenceIdeal.Value.run m ρ)

theorem algebraic : Cert.algebraic_DQnIdeal_DQnReferenceIdeal := by
  intro m g m' g' _ hag
  refine ⟨fun c => (Cert.DQnIdeal.Gen.dats m 0 c).arrAt 2 Cert.DQnIdeal.cfg0.N, Cert.DQnIdeal.Value.run_blocks m g, ?_⟩
  refine (θ_run Cert.DQnReferenceIdeal.defs _ _).mono (fun r h c => ?_) (Cert.DQnReferenceIdeal.Value.run m' g')
  obtain ⟨r0, ra⟩ := h c
  obtain ⟨a0, a1⟩ := hag c
  refine ⟨r0.trans ((Cert.DQnReferenceIdeal.Mm.ref_eq _ _).trans ?_), ra⟩
  rw [a0, a1]; exact (Cert.DQnIdeal.Mm.final m c).symm

end Cert.Proof.DQn
end
-- ==== Proof.MmDwQ.lean ====
/- The product `dw_q`: what the kernel's tiles leave is the whole product, which is the reference's. -/
module

public import proofs.«01_k».proof.Proof.Gen.DwQIdeal.Value
public import proofs.«01_k».proof.Proof.Gen.DwQReferenceIdeal.Run
public import Idealize.ShloMosaic.Lib.Pipeline.ValueKit
public import Idealize.ShloMosaic.Lib.WritesUnit
public import Idealize.ShloMosaic.Lib.Pipeline.ReadBack

@[expose] public section

set_option maxRecDepth 16384

noncomputable section

namespace Cert.DwQIdeal.Mm

open Cert.DwQIdeal Cert.DwQIdeal.Gen Idealize.ShloMosaic Idealize.ShloMosaic.TcCoe Idealize.SL.Sem
open Idealize.ShloMosaic.Pipeline (Dat)

/-- The whole product. -/
def res (X : FVec Ideal S4096x1024 .bf16) (Y : FVec Ideal S4096x4096 .bf16) : FVec Ideal S1024x4096 .bf16 := fun i => ∑ k : Fin 4096, X (ix2 k (i 0)) * Y (ix2 k (i 1))

theorem idx : ∀ t : Fin cfg0.N, win0_0.index t = ![0, t.val / 4] ∧ win0_1.index t = ![0, t.val % 4] ∧ win0_2.index t = ![t.val / 4, t.val % 4] :=
  (by decide +kernel : ∀ t : Fin grid0.N, _)

theorem rd0 (t : Fin cfg0.N) (r : Fin 1024) (k : Fin 4096) (X : FVec Ideal S4096x1024 .bf16) :
    (((cfg0.win 0).blk t).view.read (Elt Ideal) (X : ((cfg0.win 0).blk t).view.ty.Contents (Elt Ideal)) : Vec Ideal S4096x1024 .bf16) (ix2 k r) = X (ix2 k ⟨1024 * (t.val / 4) + r.val, by have hN : t.val < 4 := lt_of_lt_of_eq t.isLt N_0; have := r.isLt; omega⟩) := by
  blk_simp
  blk_ext [idx t]

theorem rd1 (t : Fin cfg0.N) (s : Fin 1024) (k : Fin 4096) (X : FVec Ideal S4096x4096 .bf16) :
    (((cfg0.win 1).blk t).view.read (Elt Ideal) (X : ((cfg0.win 1).blk t).view.ty.Contents (Elt Ideal)) : Vec Ideal S4096x1024 .bf16) (ix2 k s) = X (ix2 k ⟨1024 * (t.val % 4) + s.val, by have := s.isLt; omega⟩) := by
  blk_simp
  blk_ext [idx t]

theorem em (t : Fin cfg0.N) (r : Fin 1024) (s : Fin 1024) (X : FVec Ideal S1024x4096 .bf16) :
    (((cfg0.win 2).blk t).view.read (Elt Ideal) (X : ((cfg0.win 2).blk t).view.ty.Contents (Elt Ideal)) : Vec Ideal S1024x1024 .bf16) (ix2 r s) = X (ix2 ⟨1024 * (t.val / 4) + r.val, by have hN : t.val < 4 := lt_of_lt_of_eq t.isLt N_0; have := r.isLt; omega⟩ ⟨1024 * (t.val % 4) + s.val, by have := s.isLt; omega⟩) := by
  blk_simp
  blk_ext [idx t]

theorem out_at (x : Vec Ideal S4096x1024 .bf16) (y : Vec Ideal S4096x1024 .bf16) (r : Fin 1024) (s : Fin 1024) :
    (out0_2 x y : Vec Ideal S1024x1024 .bf16) (ix2 r s) = (∑ k : Fin 4096, x (ix2 k r) * y (ix2 k s)) := by
  frame_out
  open_payloads
  pointwise

variable (m : (ℓ : Loc nD τ sig) → Buf (Elt Ideal) ℓ)

theorem final (c : Dev nD) : (dats m 0 c).arrAt 2 cfg0.N = res (m ((c : Thread nD τ).loc main_arg0)) (m ((c : Thread nD τ).loc main_arg1)) := by
  refine (dats m 0 c).arrAt_eq_of_covers 2 _ (by decide +kernel) fun t hf y => ?_
  blk_simp
  rw [after0_2]
  obtain ⟨r, s, rfl⟩ : ∃ (r : Fin 1024) (s : Fin 1024), y = (ix2 r s : S1024x1024.Idx) := ⟨y 0, y 1, (ix2_eta y).symm⟩
  refine (out_at _ _ r s).trans (Eq.trans ?_ (em t r s (res (m ((c : Thread nD τ).loc main_arg0)) (m ((c : Thread nD τ).loc main_arg1)))).symm)
  unfold res

  exact Finset.sum_congr rfl fun k _ => congrArg₂ (· * ·) (rd0 t r k (m ((c : Thread nD τ).loc main_arg0))) (rd1 t s k (m ((c : Thread nD τ).loc main_arg1)))

end Cert.DwQIdeal.Mm

namespace Cert.DwQReferenceIdeal.Mm

open Cert.DwQReferenceIdeal Cert.DwQReferenceIdeal.Gen Idealize.ShloMosaic Idealize.ShloMosaic.TcCoe Idealize.SL.Sem

/-- What the reference leaves. -/
def ref (X : FVec Ideal S4096x1024 .bf16) (Y : FVec Ideal S4096x4096 .bf16) : FVec Ideal S1024x4096 .bf16 := truncf .bf16 (transpose S1024x4096 [1, 0] (Host.dotGeneral dot_S4096x4096_S4096x1024_S4096x1024_0_0_1_1_n_n none (extf .f32 Y bitsLt_bf16_f32) (extf .f32 X bitsLt_bf16_f32)) transposes_S4096x1024_S1024x4096_1_0) bitsLt_bf16_f32

theorem ref_eq (X : FVec Ideal S4096x1024 .bf16) (Y : FVec Ideal S4096x4096 .bf16) : ref X Y = Cert.DwQIdeal.Mm.res X Y := by
  funext i
  obtain ⟨r, s, rfl⟩ : ∃ (r : Fin 1024) (s : Fin 4096), i = (ix2 r s : S1024x4096.Idx) := ⟨i 0, i 1, (ix2_eta i).symm⟩
  unfold ref; pointwise
  exact Finset.sum_congr rfl fun k _ => mul_comm _ _

end Cert.DwQReferenceIdeal.Mm
end
-- ==== Proof.ClDwQ.lean ====
/- The claims about `dw_q`. -/
module

public import proofs.«01_k».proof.Proof.MmDwQ
public import proofs.«01_k».proof.Proof.Gen.DwQ.Frame
public import proofs.«01_k».proof.Defs
public import Idealize.ShloMosaic.Init
public import Idealize.ShloMosaic.Adequacy

@[expose] public section

set_option maxRecDepth 16384

noncomputable section

namespace Cert.Proof.DwQ

open Idealize.ShloMosaic Idealize.SL.Sem Idealize.ShloMosaic.TcCoe

theorem frame_kernel : Cert.quiescent_DwQ := fun m ρ _ => Cert.DwQ.Gen.frame m ρ

theorem frame_ideal : Cert.quiescent_DwQIdeal := fun m ρ _ => Cert.DwQIdeal.Gen.frame m ρ

theorem frame_reference : Cert.quiescent_DwQReferenceIdeal := fun m ρ _ =>
  (θ_run Cert.DwQReferenceIdeal.defs _ _).mono (fun r h => ⟨fun c => (h c).2, Idealize.ShloMosaic.sem_eq_zero_of_no_sems (by decide) r.2⟩)
    (Cert.DwQReferenceIdeal.Value.run m ρ)

theorem algebraic : Cert.algebraic_DwQIdeal_DwQReferenceIdeal := by
  intro m g m' g' _ hag
  refine ⟨fun c => (Cert.DwQIdeal.Gen.dats m 0 c).arrAt 2 Cert.DwQIdeal.cfg0.N, Cert.DwQIdeal.Value.run_blocks m g, ?_⟩
  refine (θ_run Cert.DwQReferenceIdeal.defs _ _).mono (fun r h c => ?_) (Cert.DwQReferenceIdeal.Value.run m' g')
  obtain ⟨r0, ra⟩ := h c
  obtain ⟨a0, a1⟩ := hag c
  refine ⟨r0.trans ((Cert.DwQReferenceIdeal.Mm.ref_eq _ _).trans ?_), ra⟩
  rw [a0, a1]; exact (Cert.DwQIdeal.Mm.final m c).symm

end Cert.Proof.DwQ
end
-- ==== Proof.MmKvUp.lean ====
/- The product `kv_up`: what the kernel's tiles leave is the whole product, which is the reference's. -/
module

public import proofs.«01_k».proof.Proof.Gen.KvUpIdeal.Value
public import proofs.«01_k».proof.Proof.Gen.KvUpReferenceIdeal.Run
public import Idealize.ShloMosaic.Lib.Pipeline.ValueKit
public import Idealize.ShloMosaic.Lib.WritesUnit
public import Idealize.ShloMosaic.Lib.Pipeline.ReadBack

@[expose] public section

set_option maxRecDepth 16384

noncomputable section

namespace Cert.KvUpIdeal.Mm

open Cert.KvUpIdeal Cert.KvUpIdeal.Gen Idealize.ShloMosaic Idealize.ShloMosaic.TcCoe Idealize.SL.Sem
open Idealize.ShloMosaic.Pipeline (Dat)

/-- The whole product. -/
def res (X : FVec Ideal S4096x512 .bf16) (Y : FVec Ideal S512x4096 .bf16) : FVec Ideal S4096x4096 .bf16 := fun i => ∑ k : Fin 512, X (ix2 (i 0) k) * Y (ix2 k (i 1))

theorem idx : ∀ t : Fin cfg0.N, win0_0.index t = ![t.val / 4, 0] ∧ win0_1.index t = ![0, t.val % 4] ∧ win0_2.index t = ![t.val / 4, t.val % 4] :=
  (by decide +kernel : ∀ t : Fin grid0.N, _)

theorem rd0 (t : Fin cfg0.N) (r : Fin 1024) (k : Fin 512) (X : FVec Ideal S4096x512 .bf16) :
    (((cfg0.win 0).blk t).view.read (Elt Ideal) (X : ((cfg0.win 0).blk t).view.ty.Contents (Elt Ideal)) : Vec Ideal S1024x512 .bf16) (ix2 r k) = X (ix2 ⟨1024 * (t.val / 4) + r.val, by have hN : t.val < 16 := lt_of_lt_of_eq t.isLt N_0; have := r.isLt; omega⟩ k) := by
  blk_simp
  blk_ext [idx t]

theorem rd1 (t : Fin cfg0.N) (s : Fin 1024) (k : Fin 512) (X : FVec Ideal S512x4096 .bf16) :
    (((cfg0.win 1).blk t).view.read (Elt Ideal) (X : ((cfg0.win 1).blk t).view.ty.Contents (Elt Ideal)) : Vec Ideal S512x1024 .bf16) (ix2 k s) = X (ix2 k ⟨1024 * (t.val % 4) + s.val, by have := s.isLt; omega⟩) := by
  blk_simp
  blk_ext [idx t]

theorem em (t : Fin cfg0.N) (r : Fin 1024) (s : Fin 1024) (X : FVec Ideal S4096x4096 .bf16) :
    (((cfg0.win 2).blk t).view.read (Elt Ideal) (X : ((cfg0.win 2).blk t).view.ty.Contents (Elt Ideal)) : Vec Ideal S1024x1024 .bf16) (ix2 r s) = X (ix2 ⟨1024 * (t.val / 4) + r.val, by have hN : t.val < 16 := lt_of_lt_of_eq t.isLt N_0; have := r.isLt; omega⟩ ⟨1024 * (t.val % 4) + s.val, by have := s.isLt; omega⟩) := by
  blk_simp
  blk_ext [idx t]

theorem out_at (x : Vec Ideal S1024x512 .bf16) (y : Vec Ideal S512x1024 .bf16) (r : Fin 1024) (s : Fin 1024) :
    (out0_2 x y : Vec Ideal S1024x1024 .bf16) (ix2 r s) = (∑ k : Fin 512, x (ix2 r k) * y (ix2 k s)) := by
  frame_out
  open_payloads
  pointwise

variable (m : (ℓ : Loc nD τ sig) → Buf (Elt Ideal) ℓ)

theorem final (c : Dev nD) : (dats m 0 c).arrAt 2 cfg0.N = res (m ((c : Thread nD τ).loc main_arg0)) (m ((c : Thread nD τ).loc main_arg1)) := by
  refine (dats m 0 c).arrAt_eq_of_covers 2 _ (by decide +kernel) fun t hf y => ?_
  blk_simp
  rw [after0_2]
  obtain ⟨r, s, rfl⟩ : ∃ (r : Fin 1024) (s : Fin 1024), y = (ix2 r s : S1024x1024.Idx) := ⟨y 0, y 1, (ix2_eta y).symm⟩
  refine (out_at _ _ r s).trans (Eq.trans ?_ (em t r s (res (m ((c : Thread nD τ).loc main_arg0)) (m ((c : Thread nD τ).loc main_arg1)))).symm)
  unfold res

  exact Finset.sum_congr rfl fun k _ => congrArg₂ (· * ·) (rd0 t r k (m ((c : Thread nD τ).loc main_arg0))) (rd1 t s k (m ((c : Thread nD τ).loc main_arg1)))

end Cert.KvUpIdeal.Mm

namespace Cert.KvUpReferenceIdeal.Mm

open Cert.KvUpReferenceIdeal Cert.KvUpReferenceIdeal.Gen Idealize.ShloMosaic Idealize.ShloMosaic.TcCoe Idealize.SL.Sem

/-- What the reference leaves. -/
def ref (X : FVec Ideal S4096x512 .bf16) (Y : FVec Ideal S512x4096 .bf16) : FVec Ideal S4096x4096 .bf16 := truncf .bf16 (Host.dotGeneral dot_S4096x512_S512x4096_S4096x4096_1_0_0_1_n_n none (extf .f32 X bitsLt_bf16_f32) (extf .f32 Y bitsLt_bf16_f32)) bitsLt_bf16_f32

theorem ref_eq (X : FVec Ideal S4096x512 .bf16) (Y : FVec Ideal S512x4096 .bf16) : ref X Y = Cert.KvUpIdeal.Mm.res X Y := by
  funext i
  obtain ⟨r, s, rfl⟩ : ∃ (r : Fin 4096) (s : Fin 4096), i = (ix2 r s : S4096x4096.Idx) := ⟨i 0, i 1, (ix2_eta i).symm⟩
  unfold ref; pointwise
  rfl

end Cert.KvUpReferenceIdeal.Mm
end
-- ==== Proof.ClKvUp.lean ====
/- The claims about `kv_up`. -/
module

public import proofs.«01_k».proof.Proof.MmKvUp
public import proofs.«01_k».proof.Proof.Gen.KvUp.Frame
public import proofs.«01_k».proof.Defs
public import Idealize.ShloMosaic.Init
public import Idealize.ShloMosaic.Adequacy

@[expose] public section

set_option maxRecDepth 16384

noncomputable section

namespace Cert.Proof.KvUp

open Idealize.ShloMosaic Idealize.SL.Sem Idealize.ShloMosaic.TcCoe

theorem frame_kernel : Cert.quiescent_KvUp := fun m ρ _ => Cert.KvUp.Gen.frame m ρ

theorem frame_ideal : Cert.quiescent_KvUpIdeal := fun m ρ _ => Cert.KvUpIdeal.Gen.frame m ρ

theorem frame_reference : Cert.quiescent_KvUpReferenceIdeal := fun m ρ _ =>
  (θ_run Cert.KvUpReferenceIdeal.defs _ _).mono (fun r h => ⟨fun c => (h c).2, Idealize.ShloMosaic.sem_eq_zero_of_no_sems (by decide) r.2⟩)
    (Cert.KvUpReferenceIdeal.Value.run m ρ)

theorem algebraic : Cert.algebraic_KvUpIdeal_KvUpReferenceIdeal := by
  intro m g m' g' _ hag
  refine ⟨fun c => (Cert.KvUpIdeal.Gen.dats m 0 c).arrAt 2 Cert.KvUpIdeal.cfg0.N, Cert.KvUpIdeal.Value.run_blocks m g, ?_⟩
  refine (θ_run Cert.KvUpReferenceIdeal.defs _ _).mono (fun r h c => ?_) (Cert.KvUpReferenceIdeal.Value.run m' g')
  obtain ⟨r0, ra⟩ := h c
  obtain ⟨a0, a1⟩ := hag c
  refine ⟨r0.trans ((Cert.KvUpReferenceIdeal.Mm.ref_eq _ _).trans ?_), ra⟩
  rw [a0, a1]; exact (Cert.KvUpIdeal.Mm.final m c).symm

end Cert.Proof.KvUp
end
-- ==== Proof.MmDKvn.lean ====
/- The product `d_kvn`: what the kernel's tiles leave is the whole product, which is the reference's. -/
module

public import proofs.«01_k».proof.Proof.Gen.DKvnIdeal.Value
public import proofs.«01_k».proof.Proof.Gen.DKvnReferenceIdeal.Run
public import Idealize.ShloMosaic.Lib.Pipeline.ValueKit
public import Idealize.ShloMosaic.Lib.WritesUnit
public import Idealize.ShloMosaic.Lib.Pipeline.ReadBack

@[expose] public section

set_option maxRecDepth 16384

noncomputable section

namespace Cert.DKvnIdeal.Mm

open Cert.DKvnIdeal Cert.DKvnIdeal.Gen Idealize.ShloMosaic Idealize.ShloMosaic.TcCoe Idealize.SL.Sem
open Idealize.ShloMosaic.Pipeline (Dat)

/-- The whole product. -/
def res (X : FVec Ideal S4096x4096 .bf16) (Y : FVec Ideal S512x4096 .bf16) : FVec Ideal S4096x512 .f32 := fun i => ∑ k : Fin 4096, X (ix2 (i 0) k) * Y (ix2 (i 1) k)

theorem idx : ∀ t : Fin cfg0.N, win0_0.index t = ![t.val / 1, 0] ∧ win0_1.index t = ![t.val % 1, 0] ∧ win0_2.index t = ![t.val / 1, t.val % 1] :=
  (by decide +kernel : ∀ t : Fin grid0.N, _)

theorem rd0 (t : Fin cfg0.N) (r : Fin 1024) (k : Fin 4096) (X : FVec Ideal S4096x4096 .bf16) :
    (((cfg0.win 0).blk t).view.read (Elt Ideal) (X : ((cfg0.win 0).blk t).view.ty.Contents (Elt Ideal)) : Vec Ideal S1024x4096 .bf16) (ix2 r k) = X (ix2 ⟨1024 * (t.val / 1) + r.val, by have hN : t.val < 4 := lt_of_lt_of_eq t.isLt N_0; have := r.isLt; omega⟩ k) := by
  blk_simp
  blk_ext [idx t]

theorem rd1 (t : Fin cfg0.N) (s : Fin 512) (k : Fin 4096) (X : FVec Ideal S512x4096 .bf16) :
    (((cfg0.win 1).blk t).view.read (Elt Ideal) (X : ((cfg0.win 1).blk t).view.ty.Contents (Elt Ideal)) : Vec Ideal S512x4096 .bf16) (ix2 s k) = X (ix2 ⟨512 * (t.val % 1) + s.val, by have := s.isLt; omega⟩ k) := by
  blk_simp
  blk_ext [idx t]

theorem em (t : Fin cfg0.N) (r : Fin 1024) (s : Fin 512) (X : FVec Ideal S4096x512 .f32) :
    (((cfg0.win 2).blk t).view.read (Elt Ideal) (X : ((cfg0.win 2).blk t).view.ty.Contents (Elt Ideal)) : Vec Ideal S1024x512 .f32) (ix2 r s) = X (ix2 ⟨1024 * (t.val / 1) + r.val, by have hN : t.val < 4 := lt_of_lt_of_eq t.isLt N_0; have := r.isLt; omega⟩ ⟨512 * (t.val % 1) + s.val, by have := s.isLt; omega⟩) := by
  blk_simp
  blk_ext [idx t]

theorem out_at (x : Vec Ideal S1024x4096 .bf16) (y : Vec Ideal S512x4096 .bf16) (r : Fin 1024) (s : Fin 512) :
    (out0_2 x y : Vec Ideal S1024x512 .f32) (ix2 r s) = (∑ k : Fin 4096, x (ix2 r k) * y (ix2 s k)) := by
  frame_out
  open_payloads
  pointwise

variable (m : (ℓ : Loc nD τ sig) → Buf (Elt Ideal) ℓ)

theorem final (c : Dev nD) : (dats m 0 c).arrAt 2 cfg0.N = res (m ((c : Thread nD τ).loc main_arg0)) (m ((c : Thread nD τ).loc main_arg1)) := by
  refine (dats m 0 c).arrAt_eq_of_covers 2 _ (by decide +kernel) fun t hf y => ?_
  blk_simp
  rw [after0_2]
  obtain ⟨r, s, rfl⟩ : ∃ (r : Fin 1024) (s : Fin 512), y = (ix2 r s : S1024x512.Idx) := ⟨y 0, y 1, (ix2_eta y).symm⟩
  refine (out_at _ _ r s).trans (Eq.trans ?_ (em t r s (res (m ((c : Thread nD τ).loc main_arg0)) (m ((c : Thread nD τ).loc main_arg1)))).symm)
  unfold res

  exact Finset.sum_congr rfl fun k _ => congrArg₂ (· * ·) (rd0 t r k (m ((c : Thread nD τ).loc main_arg0))) (rd1 t s k (m ((c : Thread nD τ).loc main_arg1)))

end Cert.DKvnIdeal.Mm

namespace Cert.DKvnReferenceIdeal.Mm

open Cert.DKvnReferenceIdeal Cert.DKvnReferenceIdeal.Gen Idealize.ShloMosaic Idealize.ShloMosaic.TcCoe Idealize.SL.Sem

/-- What the reference leaves. -/
def ref (X : FVec Ideal S4096x4096 .bf16) (Y : FVec Ideal S512x4096 .bf16) : FVec Ideal S4096x512 .f32 := Host.dotGeneral dot_S4096x4096_S512x4096_S4096x512_1_1_0_0_n_n none (extf .f32 X bitsLt_bf16_f32) (extf .f32 Y bitsLt_bf16_f32)

theorem ref_eq (X : FVec Ideal S4096x4096 .bf16) (Y : FVec Ideal S512x4096 .bf16) : ref X Y = Cert.DKvnIdeal.Mm.res X Y := by
  funext i
  obtain ⟨r, s, rfl⟩ : ∃ (r : Fin 4096) (s : Fin 512), i = (ix2 r s : S4096x512.Idx) := ⟨i 0, i 1, (ix2_eta i).symm⟩
  unfold ref; pointwise
  rfl

end Cert.DKvnReferenceIdeal.Mm
end
-- ==== Proof.ClDKvn.lean ====
/- The claims about `d_kvn`. -/
module

public import proofs.«01_k».proof.Proof.MmDKvn
public import proofs.«01_k».proof.Proof.Gen.DKvn.Frame
public import proofs.«01_k».proof.Defs
public import Idealize.ShloMosaic.Init
public import Idealize.ShloMosaic.Adequacy

@[expose] public section

set_option maxRecDepth 16384

noncomputable section

namespace Cert.Proof.DKvn

open Idealize.ShloMosaic Idealize.SL.Sem Idealize.ShloMosaic.TcCoe

theorem frame_kernel : Cert.quiescent_DKvn := fun m ρ _ => Cert.DKvn.Gen.frame m ρ

theorem frame_ideal : Cert.quiescent_DKvnIdeal := fun m ρ _ => Cert.DKvnIdeal.Gen.frame m ρ

theorem frame_reference : Cert.quiescent_DKvnReferenceIdeal := fun m ρ _ =>
  (θ_run Cert.DKvnReferenceIdeal.defs _ _).mono (fun r h => ⟨fun c => (h c).2, Idealize.ShloMosaic.sem_eq_zero_of_no_sems (by decide) r.2⟩)
    (Cert.DKvnReferenceIdeal.Value.run m ρ)

theorem algebraic : Cert.algebraic_DKvnIdeal_DKvnReferenceIdeal := by
  intro m g m' g' _ hag
  refine ⟨fun c => (Cert.DKvnIdeal.Gen.dats m 0 c).arrAt 2 Cert.DKvnIdeal.cfg0.N, Cert.DKvnIdeal.Value.run_blocks m g, ?_⟩
  refine (θ_run Cert.DKvnReferenceIdeal.defs _ _).mono (fun r h c => ?_) (Cert.DKvnReferenceIdeal.Value.run m' g')
  obtain ⟨r0, ra⟩ := h c
  obtain ⟨a0, a1⟩ := hag c
  refine ⟨r0.trans ((Cert.DKvnReferenceIdeal.Mm.ref_eq _ _).trans ?_), ra⟩
  rw [a0, a1]; exact (Cert.DKvnIdeal.Mm.final m c).symm

end Cert.Proof.DKvn
end
-- ==== Proof.MmDwKv.lean ====
/- The product `dw_kv`: what the kernel's tiles leave is the whole product, which is the reference's. -/
module

public import proofs.«01_k».proof.Proof.Gen.DwKvIdeal.Value
public import proofs.«01_k».proof.Proof.Gen.DwKvReferenceIdeal.Run
public import Idealize.ShloMosaic.Lib.Pipeline.ValueKit
public import Idealize.ShloMosaic.Lib.WritesUnit
public import Idealize.ShloMosaic.Lib.Pipeline.ReadBack

@[expose] public section

set_option maxRecDepth 16384

noncomputable section

namespace Cert.DwKvIdeal.Mm

open Cert.DwKvIdeal Cert.DwKvIdeal.Gen Idealize.ShloMosaic Idealize.ShloMosaic.TcCoe Idealize.SL.Sem
open Idealize.ShloMosaic.Pipeline (Dat)

/-- The whole product. -/
def res (X : FVec Ideal S4096x512 .bf16) (Y : FVec Ideal S4096x4096 .bf16) : FVec Ideal S512x4096 .bf16 := fun i => ∑ k : Fin 4096, X (ix2 k (i 0)) * Y (ix2 k (i 1))

theorem idx : ∀ t : Fin cfg0.N, win0_0.index t = ![0, t.val / 4] ∧ win0_1.index t = ![0, t.val % 4] ∧ win0_2.index t = ![t.val / 4, t.val % 4] :=
  (by decide +kernel : ∀ t : Fin grid0.N, _)

theorem rd0 (t : Fin cfg0.N) (r : Fin 512) (k : Fin 4096) (X : FVec Ideal S4096x512 .bf16) :
    (((cfg0.win 0).blk t).view.read (Elt Ideal) (X : ((cfg0.win 0).blk t).view.ty.Contents (Elt Ideal)) : Vec Ideal S4096x512 .bf16) (ix2 k r) = X (ix2 k ⟨512 * (t.val / 4) + r.val, by have hN : t.val < 4 := lt_of_lt_of_eq t.isLt N_0; have := r.isLt; omega⟩) := by
  blk_simp
  blk_ext [idx t]

theorem rd1 (t : Fin cfg0.N) (s : Fin 1024) (k : Fin 4096) (X : FVec Ideal S4096x4096 .bf16) :
    (((cfg0.win 1).blk t).view.read (Elt Ideal) (X : ((cfg0.win 1).blk t).view.ty.Contents (Elt Ideal)) : Vec Ideal S4096x1024 .bf16) (ix2 k s) = X (ix2 k ⟨1024 * (t.val % 4) + s.val, by have := s.isLt; omega⟩) := by
  blk_simp
  blk_ext [idx t]

theorem em (t : Fin cfg0.N) (r : Fin 512) (s : Fin 1024) (X : FVec Ideal S512x4096 .bf16) :
    (((cfg0.win 2).blk t).view.read (Elt Ideal) (X : ((cfg0.win 2).blk t).view.ty.Contents (Elt Ideal)) : Vec Ideal S512x1024 .bf16) (ix2 r s) = X (ix2 ⟨512 * (t.val / 4) + r.val, by have hN : t.val < 4 := lt_of_lt_of_eq t.isLt N_0; have := r.isLt; omega⟩ ⟨1024 * (t.val % 4) + s.val, by have := s.isLt; omega⟩) := by
  blk_simp
  blk_ext [idx t]

theorem out_at (x : Vec Ideal S4096x512 .bf16) (y : Vec Ideal S4096x1024 .bf16) (r : Fin 512) (s : Fin 1024) :
    (out0_2 x y : Vec Ideal S512x1024 .bf16) (ix2 r s) = (∑ k : Fin 4096, x (ix2 k r) * y (ix2 k s)) := by
  frame_out
  open_payloads
  pointwise

variable (m : (ℓ : Loc nD τ sig) → Buf (Elt Ideal) ℓ)

theorem final (c : Dev nD) : (dats m 0 c).arrAt 2 cfg0.N = res (m ((c : Thread nD τ).loc main_arg0)) (m ((c : Thread nD τ).loc main_arg1)) := by
  refine (dats m 0 c).arrAt_eq_of_covers 2 _ (by decide +kernel) fun t hf y => ?_
  blk_simp
  rw [after0_2]
  obtain ⟨r, s, rfl⟩ : ∃ (r : Fin 512) (s : Fin 1024), y = (ix2 r s : S512x1024.Idx) := ⟨y 0, y 1, (ix2_eta y).symm⟩
  refine (out_at _ _ r s).trans (Eq.trans ?_ (em t r s (res (m ((c : Thread nD τ).loc main_arg0)) (m ((c : Thread nD τ).loc main_arg1)))).symm)
  unfold res

  exact Finset.sum_congr rfl fun k _ => congrArg₂ (· * ·) (rd0 t r k (m ((c : Thread nD τ).loc main_arg0))) (rd1 t s k (m ((c : Thread nD τ).loc main_arg1)))

end Cert.DwKvIdeal.Mm

namespace Cert.DwKvReferenceIdeal.Mm

open Cert.DwKvReferenceIdeal Cert.DwKvReferenceIdeal.Gen Idealize.ShloMosaic Idealize.ShloMosaic.TcCoe Idealize.SL.Sem

/-- What the reference leaves. -/
def ref (X : FVec Ideal S4096x512 .bf16) (Y : FVec Ideal S4096x4096 .bf16) : FVec Ideal S512x4096 .bf16 := truncf .bf16 (transpose S512x4096 [1, 0] (Host.dotGeneral dot_S4096x4096_S4096x512_S4096x512_0_0_1_1_n_n none (extf .f32 Y bitsLt_bf16_f32) (extf .f32 X bitsLt_bf16_f32)) transposes_S4096x512_S512x4096_1_0) bitsLt_bf16_f32

theorem ref_eq (X : FVec Ideal S4096x512 .bf16) (Y : FVec Ideal S4096x4096 .bf16) : ref X Y = Cert.DwKvIdeal.Mm.res X Y := by
  funext i
  obtain ⟨r, s, rfl⟩ : ∃ (r : Fin 512) (s : Fin 4096), i = (ix2 r s : S512x4096.Idx) := ⟨i 0, i 1, (ix2_eta i).symm⟩
  unfold ref; pointwise
  exact Finset.sum_congr rfl fun k _ => mul_comm _ _

end Cert.DwKvReferenceIdeal.Mm
end
-- ==== Proof.ClDwKv.lean ====
/- The claims about `dw_kv`. -/
module

public import proofs.«01_k».proof.Proof.MmDwKv
public import proofs.«01_k».proof.Proof.Gen.DwKv.Frame
public import proofs.«01_k».proof.Defs
public import Idealize.ShloMosaic.Init
public import Idealize.ShloMosaic.Adequacy

@[expose] public section

set_option maxRecDepth 16384

noncomputable section

namespace Cert.Proof.DwKv

open Idealize.ShloMosaic Idealize.SL.Sem Idealize.ShloMosaic.TcCoe

theorem frame_kernel : Cert.quiescent_DwKv := fun m ρ _ => Cert.DwKv.Gen.frame m ρ

theorem frame_ideal : Cert.quiescent_DwKvIdeal := fun m ρ _ => Cert.DwKvIdeal.Gen.frame m ρ

theorem frame_reference : Cert.quiescent_DwKvReferenceIdeal := fun m ρ _ =>
  (θ_run Cert.DwKvReferenceIdeal.defs _ _).mono (fun r h => ⟨fun c => (h c).2, Idealize.ShloMosaic.sem_eq_zero_of_no_sems (by decide) r.2⟩)
    (Cert.DwKvReferenceIdeal.Value.run m ρ)

theorem algebraic : Cert.algebraic_DwKvIdeal_DwKvReferenceIdeal := by
  intro m g m' g' _ hag
  refine ⟨fun c => (Cert.DwKvIdeal.Gen.dats m 0 c).arrAt 2 Cert.DwKvIdeal.cfg0.N, Cert.DwKvIdeal.Value.run_blocks m g, ?_⟩
  refine (θ_run Cert.DwKvReferenceIdeal.defs _ _).mono (fun r h c => ?_) (Cert.DwKvReferenceIdeal.Value.run m' g')
  obtain ⟨r0, ra⟩ := h c
  obtain ⟨a0, a1⟩ := hag c
  refine ⟨r0.trans ((Cert.DwKvReferenceIdeal.Mm.ref_eq _ _).trans ?_), ra⟩
  rw [a0, a1]; exact (Cert.DwKvIdeal.Mm.final m c).symm

end Cert.Proof.DwKv
end
-- ==== Proof.Row.lean ====
/- One row of a causal softmax and of its gradient, over the reals. -/
module

public import Idealize.ShloMosaic.PureOps.Ideal
public import Idealize.ShloMosaic.PureOps.Ideal.Laws

@[expose] public section

set_option maxRecDepth 16384

noncomputable section

namespace Cert.Row

open Idealize.ShloMosaic

theorem coe_sum {ι : Type*} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

theorem coe_mul_sum {N : ℕ} (a b : Fin N → ℝ) : ∑ i, (a i : EReal) * (b i : EReal) = ((∑ i, a i * b i : ℝ) : EReal) := by
  rw [coe_sum]; exact Finset.sum_congr rfl fun i _ => (EReal.coe_mul _ _).symm

theorem div_real (x l : ℝ) (h : l ≠ 0) : Ideal.div (x : EReal) (l : EReal) = ((x / l : ℝ) : EReal) := by
  rw [Ideal.div_coe h, ← EReal.coe_mul]; congr 1; field_simp

variable {N : ℕ} (n : Fin N) (s g : Fin N → ℝ)

/-- A masked score. -/
def sc (k : Fin N) : EReal := if k.val ≤ n.val then (s k : EReal) else ⊥

theorem max_real : ∃ μ : ℝ, Finset.univ.fold max ⊥ (sc n s) = (μ : EReal) := by
  have h1 : Finset.univ.fold max ⊥ (sc n s) ≠ ⊤ := by
    refine ne_of_lt ((Finset.fold_max_lt _).2 ⟨bot_lt_top, fun k _ => ?_⟩)
    unfold sc; split
    · exact EReal.coe_lt_top _
    · exact bot_lt_top
  have h2 : Finset.univ.fold max ⊥ (sc n s) ≠ ⊥ := by
    refine ne_of_gt ((Finset.lt_fold_max _).2 (Or.inr ⟨n, Finset.mem_univ _, ?_⟩))
    unfold sc; rw [if_pos le_rfl]
    exact EReal.bot_lt_coe _
  exact ⟨_, (EReal.coe_toReal h1 h2).symm⟩

/-- The row's maximum. -/
def mu : ℝ := (max_real n s).choose
theorem mu_spec : Finset.univ.fold max ⊥ (sc n s) = (mu n s : EReal) := (max_real n s).choose_spec

/-- An exponential of the row, and their sum. -/
def ex (k : Fin N) : ℝ := if k.val ≤ n.val then Real.exp (s k - mu n s) else 0
def sm : ℝ := ∑ k, ex n s k

theorem ex_nonneg (k : Fin N) : 0 ≤ ex n s k := by unfold ex; split <;> positivity

theorem sm_pos : 0 < sm n s :=
  Finset.sum_pos' (fun k _ => ex_nonneg n s k) ⟨n, Finset.mem_univ _, by unfold ex; rw [if_pos le_rfl]; positivity⟩

theorem exp_sc (k : Fin N) : Ideal.exp (sc n s k - (mu n s : EReal)) = (ex n s k : EReal) := by
  unfold sc ex; split
  · rw [← EReal.coe_sub, Ideal.exp_coe]
  · rw [EReal.bot_sub, Ideal.exp_bot]; rfl

theorem sum_exp : ∑ k, (ex n s k : EReal) = (sm n s : EReal) := (coe_sum _ _).symm

/-- The log-sum-exp of the row. -/
theorem lse_real : (mu n s : EReal) + Ideal.log (sm n s : EReal) = ((mu n s + Real.log (sm n s) : ℝ) : EReal) := by
  rw [Ideal.log_coe, if_neg (not_le.2 (sm_pos n s)), ← EReal.coe_add]

/-- A probability out of the log-sum-exp. -/
theorem prob (k : Fin N) : Ideal.exp (sc n s k - ((mu n s + Real.log (sm n s) : ℝ) : EReal)) = ((ex n s k / sm n s : ℝ) : EReal) := by
  unfold sc ex; split
  · rw [← EReal.coe_sub, Ideal.exp_coe, ← sub_sub, Real.exp_sub, Real.exp_log (sm_pos n s)]
  · rw [EReal.bot_sub, Ideal.exp_bot, zero_div]; rfl

/-- The gradient of a score: the softmax's own, against the differentiated quotient. -/
theorem grad (k : Fin N) :
    ((ex n s k / sm n s : ℝ) : EReal) * ((g k : EReal) - ((∑ j, ex n s j / sm n s * g j : ℝ) : EReal))
      = (if k.val ≤ n.val then (Ideal.div (g k : EReal) (sm n s : EReal)
          + -∑ j, (g j : EReal) * Ideal.div 1 ((sm n s : EReal) * (sm n s : EReal)) * (ex n s j : EReal)) * (ex n s k : EReal) else 0) := by
  have hs := (sm_pos n s).ne'
  have e1 : Ideal.div 1 ((sm n s : EReal) * (sm n s : EReal)) = ((1 / (sm n s * sm n s) : ℝ) : EReal) := by
    rw [← EReal.coe_mul, ← EReal.coe_one, div_real _ _ (mul_ne_zero hs hs)]
  have e2 : ∑ j, (g j : EReal) * ((1 / (sm n s * sm n s) : ℝ) : EReal) * (ex n s j : EReal) = ((∑ j, g j * (1 / (sm n s * sm n s)) * ex n s j : ℝ) : EReal) := by
    rw [coe_sum]; exact Finset.sum_congr rfl fun j _ => by rw [EReal.coe_mul, EReal.coe_mul]
  rw [e1, e2, div_real _ _ hs, ← EReal.coe_sub, ← EReal.coe_mul, ← EReal.coe_neg, ← EReal.coe_add, ← EReal.coe_mul]
  split
  · congr 1
    have e3 : ∑ j, g j * (1 / (sm n s * sm n s)) * ex n s j = (∑ j, ex n s j / sm n s * g j) / sm n s := by
      rw [Finset.sum_div]; exact Finset.sum_congr rfl fun j _ => by field_simp
    rw [e3]; field_simp; ring
  · rename_i h
    have : ex n s k = 0 := by unfold ex; rw [if_neg h]
    rw [this]; simp

/-- The sum of the output against its gradient is the sum of the probabilities against theirs. -/
theorem delta {M : ℕ} (p : Fin N → ℝ) (d : Fin M → ℝ) (v : Fin N → Fin M → ℝ) :
    ∑ e, d e * ∑ k, p k * v k e = ∑ k, p k * ∑ e, d e * v k e := by
  simp only [Finset.mul_sum]
  rw [Finset.sum_comm]
  exact Finset.sum_congr rfl fun k _ => Finset.sum_congr rfl fun e _ => by ring

end Cert.Row
end
-- ==== Proof.FwdRow.lean ====
/- One row of a causal softmax taken in two runs of keys: those before the row's own block, and that block. -/
module

public import proofs.«01_k».proof.Proof.Row

@[expose] public section

set_option maxRecDepth 16384

noncomputable section

namespace Cert.Row

open Idealize.ShloMosaic

/-- A sum whose terms vanish past the two runs. -/
theorem sum_two {N a b : ℕ} (h : a + b ≤ N) (f : Fin N → EReal) (hz : ∀ k : Fin N, a + b ≤ k.val → f k = 0) :
    ∑ k, f k = (∑ c : Fin b, f ⟨a + c.val, by have := c.isLt; omega⟩) + ∑ k : Fin a, f ⟨k.val, by have := k.isLt; omega⟩ := by
  obtain ⟨e, rfl⟩ := Nat.exists_eq_add_of_le h
  rw [Fin.sum_univ_add, Fin.sum_univ_add]
  have z : ∑ i : Fin e, f (Fin.natAdd (a + b) i) = 0 := Finset.sum_eq_zero fun i _ => hz _ (by simp)
  rw [z, add_zero, add_comm]
  rfl

/-- A maximum whose terms are minus infinity past the two runs. -/
theorem max_two {N a b : ℕ} (h : a + b ≤ N) (f : Fin N → EReal) (hz : ∀ k : Fin N, a + b ≤ k.val → f k = ⊥) :
    Finset.univ.fold max ⊥ f = max (Finset.univ.fold max ⊥ fun c : Fin b => f ⟨a + c.val, by have := c.isLt; omega⟩)
      (Finset.univ.fold max ⊥ fun k : Fin a => f ⟨k.val, by have := k.isLt; omega⟩) := by
  apply le_antisymm
  · refine (Finset.fold_max_le _).2 ⟨bot_le, fun k _ => ?_⟩
    by_cases h1 : k.val < a
    · exact le_max_of_le_right ((Finset.le_fold_max _).2 (Or.inr ⟨⟨k.val, h1⟩, Finset.mem_univ _, le_rfl⟩))
    · by_cases h2 : k.val < a + b
      · refine le_max_of_le_left ((Finset.le_fold_max _).2 (Or.inr ⟨⟨k.val - a, by omega⟩, Finset.mem_univ _, le_of_eq (congrArg f (Fin.ext ?_))⟩))
        show k.val = a + (k.val - a); omega
      · rw [hz k (by omega)]; exact bot_le
  · refine max_le ((Finset.fold_max_le _).2 ⟨bot_le, fun c _ => ?_⟩) ((Finset.fold_max_le _).2 ⟨bot_le, fun k _ => ?_⟩)
    · exact (Finset.le_fold_max _).2 (Or.inr ⟨_, Finset.mem_univ _, le_rfl⟩)
    · exact (Finset.le_fold_max _).2 (Or.inr ⟨_, Finset.mem_univ _, le_rfl⟩)

variable {N : ℕ} (n : Fin N) (s : Fin N → ℝ)

theorem mu_two {a b : ℕ} (h : a + b ≤ N) (hn : n.val < a + b) :
    max (Finset.univ.fold max ⊥ fun c : Fin b => sc n s ⟨a + c.val, by have := c.isLt; omega⟩)
      (Finset.univ.fold max ⊥ fun k : Fin a => sc n s ⟨k.val, by have := k.isLt; omega⟩) = (mu n s : EReal) := by
  rw [← mu_spec, max_two h]
  intro k hk; unfold sc; rw [if_neg (by omega)]

theorem sm_two {a b : ℕ} (h : a + b ≤ N) (hn : n.val < a + b) :
    (∑ c : Fin b, (ex n s ⟨a + c.val, by have := c.isLt; omega⟩ : EReal)) + ∑ k : Fin a, (ex n s ⟨k.val, by have := k.isLt; omega⟩ : EReal) = (sm n s : EReal) := by
  rw [← sum_exp, sum_two h]
  intro k hk; unfold ex; rw [if_neg (by omega)]; rfl

theorem acc_two {a b : ℕ} (h : a + b ≤ N) (hn : n.val < a + b) (v : Fin N → EReal) :
    (∑ c : Fin b, (ex n s ⟨a + c.val, by have := c.isLt; omega⟩ : EReal) * v ⟨a + c.val, by have := c.isLt; omega⟩)
      + ∑ k : Fin a, (ex n s ⟨k.val, by have := k.isLt; omega⟩ : EReal) * v ⟨k.val, by have := k.isLt; omega⟩ = ∑ k, (ex n s k : EReal) * v k := by
  refine (sum_two h (fun k => (ex n s k : EReal) * v k) ?_).symm
  intro k hk; unfold ex; rw [if_neg (by omega)]; simp

end Cert.Row
end
-- ==== Proof.FwdBlock.lean ====
/- What the attention forward kernel computes at one grid point, for query row `n` with real scores `s`. -/
module

public import proofs.«01_k».proof.Proof.Gen.FlashFwdIdeal.Value
public import proofs.«01_k».proof.Proof.FwdRow
public import Idealize.ShloMosaic.Lib.Pipeline.ValueKit
public import Idealize.ShloMosaic.Lib.WritesUnit
public import Idealize.ShloMosaic.Lib.Pipeline.ReadBack

@[expose] public section

set_option maxRecDepth 16384

noncomputable section

namespace Cert.FlashFwdIdeal.Fwd

open Cert.FlashFwdIdeal Cert.FlashFwdIdeal.Gen Idealize.ShloMosaic Idealize.ShloMosaic.TcCoe Idealize.SL.Sem

/-- The comparison of two small numbers as 32-bit words, used as a choice. -/
theorem sel (a b : ℕ) (ha : a < 512) (hb : b < 512) (x y : EReal) :
    Scalar.select (IntOp.cmpi CmpIPredicate.sle (BitVec.ofNat 32 a) (BitVec.ofNat 32 b)) x y = if a ≤ b then x else y := by
  have h : (IntOp.cmpi CmpIPredicate.sle (BitVec.ofNat 32 a) (BitVec.ofNat 32 b)) = if a ≤ b then 1#1 else 0#1 := by
    unfold IntOp.cmpi
    have e : ∀ n : ℕ, n < 512 → (BitVec.ofNat 32 n).toInt = (n : ℤ) := fun n hn => by
      have e' : (BitVec.ofNat 32 n).toNat = n := by rw [BitVec.toNat_ofNat]; omega
      rw [BitVec.toInt_eq_toNat_of_lt (by rw [e']; omega), e']
    simp only [BitVec.sle, e a ha, e b hb, Nat.cast_le]
    by_cases hab : a ≤ b <;> simp [hab]
  rw [h]; unfold Scalar.select; split <;> simp

/-- The masked score is minus infinity. -/
theorem msk : (Named.named κ "mask" 0xF149F2CA#32 : Ideal .f32) = (⊥ : EReal) := by
  simp [Named.named, κ]

theorem neg_inf : (FloatOps.ofBits .f32 0xFF800000#32 : Ideal .f32) = (⊥ : EReal) := by
  show Ideal.ofBits .f32 0xFF800000#32 = ⊥
  simp [Ideal.ofBits, Ideal.ieee]

theorem cast_at (Y : FVec Ideal S512 .f32) (r : Fin 512) : shapeCast S512x1 Y shapeCasts_S512_S512x1 (ix2 r 0) = Y (ix1 r) := by
  pointwise

theorem lift512_at (r : Fin 512) (k : Fin 512) : reduces_S512x512_S512.lift (ix1 r) k = ix2 r k := by
  funext a; fin_cases a <;> rfl

theorem max512_at (X : FVec Ideal S512x512 .f32) (r : Fin 512) :
    shapeCast S512x1 (multiReduction .maximumf [1] S512 X 0xFF800000#32 reduces_S512x512_S512 (.inl rfl) rfl) shapeCasts_S512_S512x1 (ix2 r 0)
      = (Finset.univ.fold max (⊥ : EReal) (fun k : Fin 512 => (X (ix2 r k) : EReal)) : EReal) := by
  rw [cast_at]
  refine (Ideal.multiReduction_maximumf_single X _ reduces_S512x512_S512 _ _ (ix1 r)).trans ?_
  rw [neg_inf]
  exact congrArg (fun f => Finset.univ.fold max ⊥ f) (funext fun k : Fin 512 => congrArg X (lift512_at r k))

theorem add512_at (X : FVec Ideal S512x512 .f32) (r : Fin 512) :
    shapeCast S512x1 (multiReduction .add [1] S512 X 0x00000000#32 reduces_S512x512_S512 (.inl rfl) rfl) shapeCasts_S512_S512x1 (ix2 r 0)
      = ∑ k : Fin 512, X (ix2 r k) := by
  rw [cast_at]
  exact (Ideal.multiReduction_add_single X _ reduces_S512x512_S512 _ _ (ix1 r)).trans (Finset.sum_congr rfl fun (k : Fin 512) _ => congrArg X (lift512_at r k))

theorem lift1024_at (r : Fin 512) (k : Fin 1024) : reduces_S512x1024_S512.lift (ix1 r) k = ix2 r k := by
  funext a; fin_cases a <;> rfl

theorem max1024_at (X : FVec Ideal S512x1024 .f32) (r : Fin 512) :
    shapeCast S512x1 (multiReduction .maximumf [1] S512 X 0xFF800000#32 reduces_S512x1024_S512 (.inl rfl) rfl) shapeCasts_S512_S512x1 (ix2 r 0)
      = (Finset.univ.fold max (⊥ : EReal) (fun k : Fin 1024 => (X (ix2 r k) : EReal)) : EReal) := by
  rw [cast_at]
  refine (Ideal.multiReduction_maximumf_single X _ reduces_S512x1024_S512 _ _ (ix1 r)).trans ?_
  rw [neg_inf]
  exact congrArg (fun f => Finset.univ.fold max ⊥ f) (funext fun k : Fin 1024 => congrArg X (lift1024_at r k))

theorem add1024_at (X : FVec Ideal S512x1024 .f32) (r : Fin 512) :
    shapeCast S512x1 (multiReduction .add [1] S512 X 0x00000000#32 reduces_S512x1024_S512 (.inl rfl) rfl) shapeCasts_S512_S512x1 (ix2 r 0)
      = ∑ k : Fin 1024, X (ix2 r k) := by
  rw [cast_at]
  exact (Ideal.multiReduction_add_single X _ reduces_S512x1024_S512 _ _ (ix1 r)).trans (Finset.sum_congr rfl fun (k : Fin 1024) _ => congrArg X (lift1024_at r k))

theorem lift1536_at (r : Fin 512) (k : Fin 1536) : reduces_S512x1536_S512.lift (ix1 r) k = ix2 r k := by
  funext a; fin_cases a <;> rfl

theorem max1536_at (X : FVec Ideal S512x1536 .f32) (r : Fin 512) :
    shapeCast S512x1 (multiReduction .maximumf [1] S512 X 0xFF800000#32 reduces_S512x1536_S512 (.inl rfl) rfl) shapeCasts_S512_S512x1 (ix2 r 0)
      = (Finset.univ.fold max (⊥ : EReal) (fun k : Fin 1536 => (X (ix2 r k) : EReal)) : EReal) := by
  rw [cast_at]
  refine (Ideal.multiReduction_maximumf_single X _ reduces_S512x1536_S512 _ _ (ix1 r)).trans ?_
  rw [neg_inf]
  exact congrArg (fun f => Finset.univ.fold max ⊥ f) (funext fun k : Fin 1536 => congrArg X (lift1536_at r k))

theorem add1536_at (X : FVec Ideal S512x1536 .f32) (r : Fin 512) :
    shapeCast S512x1 (multiReduction .add [1] S512 X 0x00000000#32 reduces_S512x1536_S512 (.inl rfl) rfl) shapeCasts_S512_S512x1 (ix2 r 0)
      = ∑ k : Fin 1536, X (ix2 r k) := by
  rw [cast_at]
  exact (Ideal.multiReduction_add_single X _ reduces_S512x1536_S512 _ _ (ix1 r)).trans (Finset.sum_congr rfl fun (k : Fin 1536) _ => congrArg X (lift1536_at r k))

theorem mx2 (A B : FVec Ideal S512x1 .f32) (i : S512x1.Idx) : maximumf A B i = (max (A i : EReal) (B i : EReal) : EReal) := rfl

theorem lse_at (X Y : FVec Ideal S512x1 .f32) (r : Fin 512) : shapeCast S1x512x1 (addf X (log Y)) shapeCasts_S512x1_S1x512x1 (ix3 0 r 0) = X (ix2 r 0) + Ideal.log (Y (ix2 r 0)) := by
  have e : ∀ Z : FVec Ideal S512x1 .f32, shapeCast S1x512x1 Z shapeCasts_S512x1_S1x512x1 (ix3 0 r 0) = Z (ix2 r 0) := fun Z => by pointwise
  rw [e]; rfl

variable (q : Vec Ideal S1x512x256 .bf16) (kd : Vec Ideal S1x512x256 .bf16) (vd : Vec Ideal S1x512x128 .bf16) (r : Fin 512)
  (n : Fin 2048) (s : Fin 2048 → ℝ)

theorem p12 (c : Fin 512) : k0_pay12 k0_pay1 q kd (ix2 r c) = if c.val ≤ r.val then ∑ d : Fin 256, q (ix3 0 r d) * kd (ix3 0 c d) else ⊥ := by
  unfold k0_pay12 k0_pay1; pointwise
  rw [msk, sel _ _ c.isLt r.isLt]

section
variable (hn : n.val = r.val) (hd : ∀ c : Fin 512, ∑ d : Fin 256, q (ix3 0 r d) * kd (ix3 0 c d) = (s ⟨c.val, Nat.lt_of_lt_of_le c.isLt (Nat.le_of_ble_eq_true rfl)⟩ : EReal))
include hn hd

theorem d12 (c : Fin 512) : k0_pay12 k0_pay1 q kd (ix2 r c) = Row.sc n s ⟨0 + c.val, Nat.lt_of_lt_of_le (Nat.add_lt_add_left c.isLt 0) (Nat.le_of_ble_eq_true rfl)⟩ := by
  rw [p12]; unfold Row.sc
  simp only [Nat.zero_add]
  rw [hn, hd]

theorem m0 : k0_pay13 k0_pay1 q kd (ix2 r 0) = (Row.mu n s : EReal) := by
  refine (max512_at (k0_pay12 k0_pay1 q kd) r).trans ?_
  simp only [d12 q kd r n s hn hd]
  rw [← Row.mu_two n s (a := 0) (b := 512) (by omega) (by have := r.isLt; omega)]
  simp

theorem e0 (c : Fin 512) : k0_pay14 k0_pay1 q kd (ix2 r c) = (Row.ex n s ⟨0 + c.val, Nat.lt_of_lt_of_le (Nat.add_lt_add_left c.isLt 0) (Nat.le_of_ble_eq_true rfl)⟩ : EReal) := by
  have e : k0_pay14 k0_pay1 q kd (ix2 r c) = Ideal.exp (k0_pay12 k0_pay1 q kd (ix2 r c) - k0_pay13 k0_pay1 q kd (ix2 r 0)) := by
    unfold k0_pay14; generalize k0_pay12 (F := Ideal) k0_pay1 q kd = X; generalize k0_pay13 (F := Ideal) k0_pay1 q kd = Y; pointwise
  rw [e, d12 q kd r n s hn hd, m0 q kd r n s hn hd, Row.exp_sc]

theorem l0 : k0_pay15 k0_pay1 q kd (ix2 r 0) = (Row.sm n s : EReal) := by
  refine (add512_at (k0_pay14 k0_pay1 q kd) r).trans ?_
  simp only [e0 q kd r n s hn hd]
  rw [← Row.sm_two n s (a := 0) (b := 512) (by omega) (by have := r.isLt; omega)]
  simp

theorem o0 (e : Fin 128) (v : Fin 2048 → EReal) (hv : ∀ c : Fin 512, vd (ix3 0 c e) = v ⟨c.val, Nat.lt_of_lt_of_le c.isLt (Nat.le_of_ble_eq_true rfl)⟩) :
    k0_pay16 k0_pay1 q kd vd (ix2 r e) = Ideal.div (∑ k, (Row.ex n s k : EReal) * v k) (Row.sm n s : EReal) := by
  have h : k0_pay16 k0_pay1 q kd vd (ix2 r e) = Ideal.div (∑ c : Fin 512, k0_pay14 k0_pay1 q kd (ix2 r c) * vd (ix3 0 c e)) (k0_pay15 k0_pay1 q kd (ix2 r 0)) := by
    unfold k0_pay16; generalize k0_pay14 (F := Ideal) k0_pay1 q kd = X; generalize k0_pay15 (F := Ideal) k0_pay1 q kd = Y; pointwise
  rw [h, l0 q kd r n s hn hd]
  simp only [e0 q kd r n s hn hd, hv]
  rw [← Row.acc_two n s (a := 0) (b := 512) (by omega) (by have := r.isLt; omega) v]
  simp

theorem z0 : k0_pay2 (k0_pay13 k0_pay1 q kd) (k0_pay18 k0_pay1 q kd) (ix3 0 r 0) = (Row.mu n s : EReal) + Ideal.log (Row.sm n s : EReal) := by
  have h : k0_pay2 (k0_pay13 k0_pay1 q kd) (k0_pay18 k0_pay1 q kd) (ix3 0 r 0) = k0_pay13 k0_pay1 q kd (ix2 r 0) + Ideal.log (k0_pay15 k0_pay1 q kd (ix2 r 0)) := by
    unfold k0_pay2 k0_pay18; exact lse_at _ _ r
  rw [h, m0 q kd r n s hn hd, l0 q kd r n s hn hd]

end

section
variable (kp : Vec Ideal S1x512x256 .bf16) (vp : Vec Ideal S1x512x128 .bf16) (hn : n.val = 512 + r.val)
  (hd : ∀ c : Fin 512, ∑ d : Fin 256, q (ix3 0 r d) * kd (ix3 0 c d) = (s ⟨512 + c.val, Nat.lt_of_lt_of_le (Nat.add_lt_add_left c.isLt 512) (Nat.le_of_ble_eq_true rfl)⟩ : EReal))
  (hp : ∀ k : Fin 512, ∑ d : Fin 256, q (ix3 0 r d) * kp (ix3 0 k d) = (s ⟨k.val, Nat.lt_of_lt_of_le k.isLt (Nat.le_of_ble_eq_true rfl)⟩ : EReal))
include hn hd

theorem sd1 (c : Fin 512) : k0_pay20 k0_pay1 q kd (ix2 r c) = Row.sc n s ⟨512 + c.val, Nat.lt_of_lt_of_le (Nat.add_lt_add_left c.isLt 512) (Nat.le_of_ble_eq_true rfl)⟩ := by
  refine Eq.trans (b := k0_pay12 k0_pay1 q kd (ix2 r c)) rfl ?_
  rw [p12]; unfold Row.sc
  rw [hn, hd]
  exact if_congr (by simp) rfl rfl

omit hd
include hp
theorem sp1 (k : Fin 512) : k0_pay21 q kp (ix2 r k) = Row.sc n s ⟨k.val, Nat.lt_of_lt_of_le k.isLt (Nat.le_of_ble_eq_true rfl)⟩ := by
  have e : k0_pay21 q kp (ix2 r k) = ∑ d : Fin 256, q (ix3 0 r d) * kp (ix3 0 k d) := by
    unfold k0_pay21 k0_pay19; pointwise
  rw [e, hp]; unfold Row.sc
  rw [if_pos (by have := k.isLt; show k.val ≤ n.val; omega)]

include hd
theorem m1 : k0_pay22 k0_pay1 q kd kp (ix2 r 0) = (Row.mu n s : EReal) := by
  have h : k0_pay22 k0_pay1 q kd kp (ix2 r 0) = (max (Finset.univ.fold max (⊥ : EReal) fun c : Fin 512 => (k0_pay20 k0_pay1 q kd (ix2 r c) : EReal)) (Finset.univ.fold max (⊥ : EReal) fun k : Fin 512 => (k0_pay21 q kp (ix2 r k) : EReal)) : EReal) := by
    unfold k0_pay22; generalize k0_pay20 (F := Ideal) k0_pay1 q kd = X; generalize k0_pay21 (F := Ideal) q kp = Y
    exact (mx2 _ _ _).trans (congrArg₂ (fun a b : EReal => max a b) (max512_at X r) (max512_at Y r))
  rw [h]
  simp only [sd1 q kd r n s hn hd, sp1 q r n s kp hn hp]
  exact Row.mu_two n s (a := 512) (b := 512) (by omega) (by have := r.isLt; omega)

theorem ed1 (c : Fin 512) : k0_pay23 k0_pay1 q kd kp (ix2 r c) = (Row.ex n s ⟨512 + c.val, Nat.lt_of_lt_of_le (Nat.add_lt_add_left c.isLt 512) (Nat.le_of_ble_eq_true rfl)⟩ : EReal) := by
  have e : k0_pay23 k0_pay1 q kd kp (ix2 r c) = Ideal.exp (k0_pay20 k0_pay1 q kd (ix2 r c) - k0_pay22 k0_pay1 q kd kp (ix2 r 0)) := by
    unfold k0_pay23; generalize k0_pay20 (F := Ideal) k0_pay1 q kd = X; generalize k0_pay22 (F := Ideal) k0_pay1 q kd kp = Y; pointwise
  rw [e, sd1 q kd r n s hn hd, m1 q kd r n s kp hn hd hp, Row.exp_sc]

theorem ep1 (k : Fin 512) : k0_pay24 k0_pay1 q kd kp (ix2 r k) = (Row.ex n s ⟨k.val, Nat.lt_of_lt_of_le k.isLt (Nat.le_of_ble_eq_true rfl)⟩ : EReal) := by
  have e : k0_pay24 k0_pay1 q kd kp (ix2 r k) = Ideal.exp (k0_pay21 q kp (ix2 r k) - k0_pay22 k0_pay1 q kd kp (ix2 r 0)) := by
    unfold k0_pay24; generalize k0_pay21 (F := Ideal) q kp = X; generalize k0_pay22 (F := Ideal) k0_pay1 q kd kp = Y; pointwise
  rw [e, sp1 q r n s kp hn hp, m1 q kd r n s kp hn hd hp, Row.exp_sc]

theorem l1 : k0_pay25 k0_pay1 q kd kp (ix2 r 0) = (Row.sm n s : EReal) := by
  have h : k0_pay25 k0_pay1 q kd kp (ix2 r 0) = (∑ c : Fin 512, k0_pay23 k0_pay1 q kd kp (ix2 r c)) + ∑ k : Fin 512, k0_pay24 k0_pay1 q kd kp (ix2 r k) := by
    unfold k0_pay25; generalize k0_pay23 (F := Ideal) k0_pay1 q kd kp = X; generalize k0_pay24 (F := Ideal) k0_pay1 q kd kp = Y
    exact congrArg₂ (fun a b : EReal => a + b) (add512_at X r) (add512_at Y r)
  rw [h]
  simp only [ed1 q kd r n s kp hn hd hp, ep1 q kd r n s kp hn hd hp]
  exact Row.sm_two n s (a := 512) (b := 512) (by omega) (by have := r.isLt; omega)

theorem o1 (e : Fin 128) (v : Fin 2048 → EReal) (hv : ∀ c : Fin 512, vd (ix3 0 c e) = v ⟨512 + c.val, Nat.lt_of_lt_of_le (Nat.add_lt_add_left c.isLt 512) (Nat.le_of_ble_eq_true rfl)⟩)
    (hw : ∀ k : Fin 512, vp (ix3 0 k e) = v ⟨k.val, Nat.lt_of_lt_of_le k.isLt (Nat.le_of_ble_eq_true rfl)⟩) :
    k0_pay3 (k0_pay26 k0_pay1 q kd kp vd vp) (k0_pay27 k0_pay1 q kd kp) (ix2 r e) = Ideal.div (∑ k, (Row.ex n s k : EReal) * v k) (Row.sm n s : EReal) := by
  have h : k0_pay3 (k0_pay26 k0_pay1 q kd kp vd vp) (k0_pay27 k0_pay1 q kd kp) (ix2 r e)
      = Ideal.div ((∑ c : Fin 512, k0_pay23 k0_pay1 q kd kp (ix2 r c) * vd (ix3 0 c e)) + ∑ k : Fin 512, k0_pay24 k0_pay1 q kd kp (ix2 r k) * vp (ix3 0 k e)) (k0_pay25 k0_pay1 q kd kp (ix2 r 0)) := by
    unfold k0_pay3 k0_pay26 k0_pay27; generalize k0_pay23 (F := Ideal) k0_pay1 q kd kp = X; generalize k0_pay24 (F := Ideal) k0_pay1 q kd kp = Z; generalize k0_pay25 (F := Ideal) k0_pay1 q kd kp = Y; pointwise
  rw [h, l1 q kd r n s kp hn hd hp]
  simp only [ed1 q kd r n s kp hn hd hp, ep1 q kd r n s kp hn hd hp, hv, hw]
  rw [Row.acc_two n s (a := 512) (b := 512) (by omega) (by have := r.isLt; omega) v]

theorem z1 : k0_pay5 (k0_pay22 k0_pay1 q kd kp) (k0_pay25 k0_pay1 q kd kp) (ix3 0 r 0) = (Row.mu n s : EReal) + Ideal.log (Row.sm n s : EReal) := by
  have h : k0_pay5 (k0_pay22 k0_pay1 q kd kp) (k0_pay25 k0_pay1 q kd kp) (ix3 0 r 0) = k0_pay22 k0_pay1 q kd kp (ix2 r 0) + Ideal.log (k0_pay25 k0_pay1 q kd kp (ix2 r 0)) := by
    unfold k0_pay5; exact lse_at _ _ r
  rw [h, m1 q kd r n s kp hn hd hp, l1 q kd r n s kp hn hd hp]

end

section
variable (kp : Vec Ideal S1x1024x256 .bf16) (vp : Vec Ideal S1x1024x128 .bf16) (hn : n.val = 1024 + r.val)
  (hd : ∀ c : Fin 512, ∑ d : Fin 256, q (ix3 0 r d) * kd (ix3 0 c d) = (s ⟨1024 + c.val, Nat.lt_of_lt_of_le (Nat.add_lt_add_left c.isLt 1024) (Nat.le_of_ble_eq_true rfl)⟩ : EReal))
  (hp : ∀ k : Fin 1024, ∑ d : Fin 256, q (ix3 0 r d) * kp (ix3 0 k d) = (s ⟨k.val, Nat.lt_of_lt_of_le k.isLt (Nat.le_of_ble_eq_true rfl)⟩ : EReal))
include hn hd

theorem sd2 (c : Fin 512) : k0_pay29 k0_pay1 q kd (ix2 r c) = Row.sc n s ⟨1024 + c.val, Nat.lt_of_lt_of_le (Nat.add_lt_add_left c.isLt 1024) (Nat.le_of_ble_eq_true rfl)⟩ := by
  refine Eq.trans (b := k0_pay12 k0_pay1 q kd (ix2 r c)) rfl ?_
  rw [p12]; unfold Row.sc
  rw [hn, hd]
  exact if_congr (by simp) rfl rfl

omit hd
include hp
theorem sp2 (k : Fin 1024) : k0_pay30 q kp (ix2 r k) = Row.sc n s ⟨k.val, Nat.lt_of_lt_of_le k.isLt (Nat.le_of_ble_eq_true rfl)⟩ := by
  have e : k0_pay30 q kp (ix2 r k) = ∑ d : Fin 256, q (ix3 0 r d) * kp (ix3 0 k d) := by
    unfold k0_pay30 k0_pay28; pointwise
  rw [e, hp]; unfold Row.sc
  rw [if_pos (by have := k.isLt; show k.val ≤ n.val; omega)]

include hd
theorem m2 : k0_pay31 k0_pay1 q kd kp (ix2 r 0) = (Row.mu n s : EReal) := by
  have h : k0_pay31 k0_pay1 q kd kp (ix2 r 0) = (max (Finset.univ.fold max (⊥ : EReal) fun c : Fin 512 => (k0_pay29 k0_pay1 q kd (ix2 r c) : EReal)) (Finset.univ.fold max (⊥ : EReal) fun k : Fin 1024 => (k0_pay30 q kp (ix2 r k) : EReal)) : EReal) := by
    unfold k0_pay31; generalize k0_pay29 (F := Ideal) k0_pay1 q kd = X; generalize k0_pay30 (F := Ideal) q kp = Y
    exact (mx2 _ _ _).trans (congrArg₂ (fun a b : EReal => max a b) (max512_at X r) (max1024_at Y r))
  rw [h]
  simp only [sd2 q kd r n s hn hd, sp2 q r n s kp hn hp]
  exact Row.mu_two n s (a := 1024) (b := 512) (by omega) (by have := r.isLt; omega)

theorem ed2 (c : Fin 512) : k0_pay32 k0_pay1 q kd kp (ix2 r c) = (Row.ex n s ⟨1024 + c.val, Nat.lt_of_lt_of_le (Nat.add_lt_add_left c.isLt 1024) (Nat.le_of_ble_eq_true rfl)⟩ : EReal) := by
  have e : k0_pay32 k0_pay1 q kd kp (ix2 r c) = Ideal.exp (k0_pay29 k0_pay1 q kd (ix2 r c) - k0_pay31 k0_pay1 q kd kp (ix2 r 0)) := by
    unfold k0_pay32; generalize k0_pay29 (F := Ideal) k0_pay1 q kd = X; generalize k0_pay31 (F := Ideal) k0_pay1 q kd kp = Y; pointwise
  rw [e, sd2 q kd r n s hn hd, m2 q kd r n s kp hn hd hp, Row.exp_sc]

theorem ep2 (k : Fin 1024) : k0_pay33 k0_pay1 q kd kp (ix2 r k) = (Row.ex n s ⟨k.val, Nat.lt_of_lt_of_le k.isLt (Nat.le_of_ble_eq_true rfl)⟩ : EReal) := by
  have e : k0_pay33 k0_pay1 q kd kp (ix2 r k) = Ideal.exp (k0_pay30 q kp (ix2 r k) - k0_pay31 k0_pay1 q kd kp (ix2 r 0)) := by
    unfold k0_pay33; generalize k0_pay30 (F := Ideal) q kp = X; generalize k0_pay31 (F := Ideal) k0_pay1 q kd kp = Y; pointwise
  rw [e, sp2 q r n s kp hn hp, m2 q kd r n s kp hn hd hp, Row.exp_sc]

theorem l2 : k0_pay34 k0_pay1 q kd kp (ix2 r 0) = (Row.sm n s : EReal) := by
  have h : k0_pay34 k0_pay1 q kd kp (ix2 r 0) = (∑ c : Fin 512, k0_pay32 k0_pay1 q kd kp (ix2 r c)) + ∑ k : Fin 1024, k0_pay33 k0_pay1 q kd kp (ix2 r k) := by
    unfold k0_pay34; generalize k0_pay32 (F := Ideal) k0_pay1 q kd kp = X; generalize k0_pay33 (F := Ideal) k0_pay1 q kd kp = Y
    exact congrArg₂ (fun a b : EReal => a + b) (add512_at X r) (add1024_at Y r)
  rw [h]
  simp only [ed2 q kd r n s kp hn hd hp, ep2 q kd r n s kp hn hd hp]
  exact Row.sm_two n s (a := 1024) (b := 512) (by omega) (by have := r.isLt; omega)

theorem o2 (e : Fin 128) (v : Fin 2048 → EReal) (hv : ∀ c : Fin 512, vd (ix3 0 c e) = v ⟨1024 + c.val, Nat.lt_of_lt_of_le (Nat.add_lt_add_left c.isLt 1024) (Nat.le_of_ble_eq_true rfl)⟩)
    (hw : ∀ k : Fin 1024, vp (ix3 0 k e) = v ⟨k.val, Nat.lt_of_lt_of_le k.isLt (Nat.le_of_ble_eq_true rfl)⟩) :
    k0_pay6 (k0_pay35 k0_pay1 q kd kp vd vp) (k0_pay36 k0_pay1 q kd kp) (ix2 r e) = Ideal.div (∑ k, (Row.ex n s k : EReal) * v k) (Row.sm n s : EReal) := by
  have h : k0_pay6 (k0_pay35 k0_pay1 q kd kp vd vp) (k0_pay36 k0_pay1 q kd kp) (ix2 r e)
      = Ideal.div ((∑ c : Fin 512, k0_pay32 k0_pay1 q kd kp (ix2 r c) * vd (ix3 0 c e)) + ∑ k : Fin 1024, k0_pay33 k0_pay1 q kd kp (ix2 r k) * vp (ix3 0 k e)) (k0_pay34 k0_pay1 q kd kp (ix2 r 0)) := by
    unfold k0_pay6 k0_pay35 k0_pay36; generalize k0_pay32 (F := Ideal) k0_pay1 q kd kp = X; generalize k0_pay33 (F := Ideal) k0_pay1 q kd kp = Z; generalize k0_pay34 (F := Ideal) k0_pay1 q kd kp = Y; pointwise
  rw [h, l2 q kd r n s kp hn hd hp]
  simp only [ed2 q kd r n s kp hn hd hp, ep2 q kd r n s kp hn hd hp, hv, hw]
  rw [Row.acc_two n s (a := 1024) (b := 512) (by omega) (by have := r.isLt; omega) v]

theorem z2 : k0_pay8 (k0_pay31 k0_pay1 q kd kp) (k0_pay34 k0_pay1 q kd kp) (ix3 0 r 0) = (Row.mu n s : EReal) + Ideal.log (Row.sm n s : EReal) := by
  have h : k0_pay8 (k0_pay31 k0_pay1 q kd kp) (k0_pay34 k0_pay1 q kd kp) (ix3 0 r 0) = k0_pay31 k0_pay1 q kd kp (ix2 r 0) + Ideal.log (k0_pay34 k0_pay1 q kd kp (ix2 r 0)) := by
    unfold k0_pay8; exact lse_at _ _ r
  rw [h, m2 q kd r n s kp hn hd hp, l2 q kd r n s kp hn hd hp]

end

section
variable (kp : Vec Ideal S1x1536x256 .bf16) (vp : Vec Ideal S1x1536x128 .bf16) (hn : n.val = 1536 + r.val)
  (hd : ∀ c : Fin 512, ∑ d : Fin 256, q (ix3 0 r d) * kd (ix3 0 c d) = (s ⟨1536 + c.val, Nat.lt_of_lt_of_le (Nat.add_lt_add_left c.isLt 1536) (Nat.le_of_ble_eq_true rfl)⟩ : EReal))
  (hp : ∀ k : Fin 1536, ∑ d : Fin 256, q (ix3 0 r d) * kp (ix3 0 k d) = (s ⟨k.val, Nat.lt_of_lt_of_le k.isLt (Nat.le_of_ble_eq_true rfl)⟩ : EReal))
include hn hd

theorem sd3 (c : Fin 512) : k0_pay38 k0_pay1 q kd (ix2 r c) = Row.sc n s ⟨1536 + c.val, Nat.lt_of_lt_of_le (Nat.add_lt_add_left c.isLt 1536) (Nat.le_of_ble_eq_true rfl)⟩ := by
  refine Eq.trans (b := k0_pay12 k0_pay1 q kd (ix2 r c)) rfl ?_
  rw [p12]; unfold Row.sc
  rw [hn, hd]
  exact if_congr (by simp) rfl rfl

omit hd
include hp
theorem sp3 (k : Fin 1536) : k0_pay39 q kp (ix2 r k) = Row.sc n s ⟨k.val, Nat.lt_of_lt_of_le k.isLt (Nat.le_of_ble_eq_true rfl)⟩ := by
  have e : k0_pay39 q kp (ix2 r k) = ∑ d : Fin 256, q (ix3 0 r d) * kp (ix3 0 k d) := by
    unfold k0_pay39 k0_pay37; pointwise
  rw [e, hp]; unfold Row.sc
  rw [if_pos (by have := k.isLt; show k.val ≤ n.val; omega)]

include hd
theorem m3 : k0_pay40 k0_pay1 q kd kp (ix2 r 0) = (Row.mu n s : EReal) := by
  have h : k0_pay40 k0_pay1 q kd kp (ix2 r 0) = (max (Finset.univ.fold max (⊥ : EReal) fun c : Fin 512 => (k0_pay38 k0_pay1 q kd (ix2 r c) : EReal)) (Finset.univ.fold max (⊥ : EReal) fun k : Fin 1536 => (k0_pay39 q kp (ix2 r k) : EReal)) : EReal) := by
    unfold k0_pay40; generalize k0_pay38 (F := Ideal) k0_pay1 q kd = X; generalize k0_pay39 (F := Ideal) q kp = Y
    exact (mx2 _ _ _).trans (congrArg₂ (fun a b : EReal => max a b) (max512_at X r) (max1536_at Y r))
  rw [h]
  simp only [sd3 q kd r n s hn hd, sp3 q r n s kp hn hp]
  exact Row.mu_two n s (a := 1536) (b := 512) (by omega) (by have := r.isLt; omega)

theorem ed3 (c : Fin 512) : k0_pay41 k0_pay1 q kd kp (ix2 r c) = (Row.ex n s ⟨1536 + c.val, Nat.lt_of_lt_of_le (Nat.add_lt_add_left c.isLt 1536) (Nat.le_of_ble_eq_true rfl)⟩ : EReal) := by
  have e : k0_pay41 k0_pay1 q kd kp (ix2 r c) = Ideal.exp (k0_pay38 k0_pay1 q kd (ix2 r c) - k0_pay40 k0_pay1 q kd kp (ix2 r 0)) := by
    unfold k0_pay41; generalize k0_pay38 (F := Ideal) k0_pay1 q kd = X; generalize k0_pay40 (F := Ideal) k0_pay1 q kd kp = Y; pointwise
  rw [e, sd3 q kd r n s hn hd, m3 q kd r n s kp hn hd hp, Row.exp_sc]

theorem ep3 (k : Fin 1536) : k0_pay42 k0_pay1 q kd kp (ix2 r k) = (Row.ex n s ⟨k.val, Nat.lt_of_lt_of_le k.isLt (Nat.le_of_ble_eq_true rfl)⟩ : EReal) := by
  have e : k0_pay42 k0_pay1 q kd kp (ix2 r k) = Ideal.exp (k0_pay39 q kp (ix2 r k) - k0_pay40 k0_pay1 q kd kp (ix2 r 0)) := by
    unfold k0_pay42; generalize k0_pay39 (F := Ideal) q kp = X; generalize k0_pay40 (F := Ideal) k0_pay1 q kd kp = Y; pointwise
  rw [e, sp3 q r n s kp hn hp, m3 q kd r n s kp hn hd hp, Row.exp_sc]

theorem l3 : k0_pay43 k0_pay1 q kd kp (ix2 r 0) = (Row.sm n s : EReal) := by
  have h : k0_pay43 k0_pay1 q kd kp (ix2 r 0) = (∑ c : Fin 512, k0_pay41 k0_pay1 q kd kp (ix2 r c)) + ∑ k : Fin 1536, k0_pay42 k0_pay1 q kd kp (ix2 r k) := by
    unfold k0_pay43; generalize k0_pay41 (F := Ideal) k0_pay1 q kd kp = X; generalize k0_pay42 (F := Ideal) k0_pay1 q kd kp = Y
    exact congrArg₂ (fun a b : EReal => a + b) (add512_at X r) (add1536_at Y r)
  rw [h]
  simp only [ed3 q kd r n s kp hn hd hp, ep3 q kd r n s kp hn hd hp]
  exact Row.sm_two n s (a := 1536) (b := 512) (by omega) (by have := r.isLt; omega)

theorem o3 (e : Fin 128) (v : Fin 2048 → EReal) (hv : ∀ c : Fin 512, vd (ix3 0 c e) = v ⟨1536 + c.val, Nat.lt_of_lt_of_le (Nat.add_lt_add_left c.isLt 1536) (Nat.le_of_ble_eq_true rfl)⟩)
    (hw : ∀ k : Fin 1536, vp (ix3 0 k e) = v ⟨k.val, Nat.lt_of_lt_of_le k.isLt (Nat.le_of_ble_eq_true rfl)⟩) :
    k0_pay9 (k0_pay44 k0_pay1 q kd kp vd vp) (k0_pay45 k0_pay1 q kd kp) (ix2 r e) = Ideal.div (∑ k, (Row.ex n s k : EReal) * v k) (Row.sm n s : EReal) := by
  have h : k0_pay9 (k0_pay44 k0_pay1 q kd kp vd vp) (k0_pay45 k0_pay1 q kd kp) (ix2 r e)
      = Ideal.div ((∑ c : Fin 512, k0_pay41 k0_pay1 q kd kp (ix2 r c) * vd (ix3 0 c e)) + ∑ k : Fin 1536, k0_pay42 k0_pay1 q kd kp (ix2 r k) * vp (ix3 0 k e)) (k0_pay43 k0_pay1 q kd kp (ix2 r 0)) := by
    unfold k0_pay9 k0_pay44 k0_pay45; generalize k0_pay41 (F := Ideal) k0_pay1 q kd kp = X; generalize k0_pay42 (F := Ideal) k0_pay1 q kd kp = Z; generalize k0_pay43 (F := Ideal) k0_pay1 q kd kp = Y; pointwise
  rw [h, l3 q kd r n s kp hn hd hp]
  simp only [ed3 q kd r n s kp hn hd hp, ep3 q kd r n s kp hn hd hp, hv, hw]
  rw [Row.acc_two n s (a := 1536) (b := 512) (by omega) (by have := r.isLt; omega) v]

theorem z3 : k0_pay11 (k0_pay40 k0_pay1 q kd kp) (k0_pay43 k0_pay1 q kd kp) (ix3 0 r 0) = (Row.mu n s : EReal) + Ideal.log (Row.sm n s : EReal) := by
  have h : k0_pay11 (k0_pay40 k0_pay1 q kd kp) (k0_pay43 k0_pay1 q kd kp) (ix3 0 r 0) = k0_pay40 k0_pay1 q kd kp (ix2 r 0) + Ideal.log (k0_pay43 k0_pay1 q kd kp (ix2 r 0)) := by
    unfold k0_pay11; exact lse_at _ _ r
  rw [h, m3 q kd r n s kp hn hd hp, l3 q kd r n s kp hn hd hp]

end

end Cert.FlashFwdIdeal.Fwd
end
-- ==== Proof.BwdBlock.lean ====
/- What one grid point of the attention backward kernel computes, as plain sums over the rows and columns of its blocks. -/
module

public import proofs.«01_k».proof.Proof.Gen.KernelIdeal.Skeleton
public import Idealize.ShloMosaic.Lib.Pipeline.ValueKit
public import Idealize.ShloMosaic.Lib.WritesUnit

@[expose] public section

set_option maxRecDepth 16384

noncomputable section

namespace Cert.KernelIdeal.Bwd

open Cert.KernelIdeal Cert.KernelIdeal.Gen Idealize.ShloMosaic Idealize.ShloMosaic.TcCoe Idealize.SL.Sem

/-- The comparison of two small numbers as 32-bit words, used as a choice. -/
theorem sel (a b : ℕ) (ha : a < 512) (hb : b < 512) (x y : EReal) :
    Scalar.select (IntOp.cmpi CmpIPredicate.sle (BitVec.ofNat 32 a) (BitVec.ofNat 32 b)) x y = if a ≤ b then x else y := by
  have h : (IntOp.cmpi CmpIPredicate.sle (BitVec.ofNat 32 a) (BitVec.ofNat 32 b)) = if a ≤ b then 1#1 else 0#1 := by
    unfold IntOp.cmpi
    have e : ∀ n : ℕ, n < 512 → (BitVec.ofNat 32 n).toInt = (n : ℤ) := fun n hn => by
      have e' : (BitVec.ofNat 32 n).toNat = n := by rw [BitVec.toNat_ofNat]; omega
      rw [BitVec.toInt_eq_toNat_of_lt (by rw [e']; omega), e']
    simp only [BitVec.sle, e a ha, e b hb, Nat.cast_le]
    by_cases hab : a ≤ b <;> simp [hab]
  rw [h]; unfold Scalar.select; split <;> simp

/-- The masked score is minus infinity. -/
theorem msk : (Named.named κ "mask" 0xF149F2CA#32 : Ideal .f32) = (⊥ : EReal) := by
  simp [Named.named, κ]

variable (j : ℕ) (x0 : Vec Ideal S1x2048x256 .bf16) (x1 : Vec Ideal S1x512x256 .bf16) (x2 : Vec Ideal S1x512x128 .bf16)
  (x3 : Vec Ideal S2048x128 .bf16) (x4 x5 : Vec Ideal S1x2048x1 .f32)

/-- The probability of column `c` of the `j`-th key block for query row `r`, zero above the diagonal. -/
def pB (r : Fin 2048) (c : Fin 512) : EReal :=
  Ideal.exp ((if 512 * j + c.val ≤ r.val then ∑ d : Fin 256, x0 (ix3 0 r d) * x1 (ix3 0 c d) else ⊥) - x4 (ix3 0 r 0))

/-- The gradient of the score. -/
def dB (r : Fin 2048) (c : Fin 512) : EReal :=
  pB j x0 x1 x4 r c * (∑ d : Fin 128, x3 (ix2 r d) * x2 (ix3 0 c d) - x5 (ix3 0 r 0))

theorem pB_zero (r : Fin 2048) (c : Fin 512) (h : r.val < 512 * j) : pB j x0 x1 x4 r c = 0 := by
  unfold pB
  rw [if_neg (by omega), EReal.bot_sub]
  exact Ideal.exp_bot

theorem dB_zero (r : Fin 2048) (c : Fin 512) (h : r.val < 512 * j) : dB j x0 x1 x2 x3 x4 x5 r c = 0 := by
  unfold dB; rw [pB_zero j x0 x1 x4 r c h, zero_mul]

theorem pB_diag (r : Fin 2048) (c x : Fin 512) (h : r.val = 512 * j + x.val) :
    pB j x0 x1 x4 r c = Ideal.exp (Scalar.select (IntOp.cmpi CmpIPredicate.sle (BitVec.ofNat 32 c.val) (BitVec.ofNat 32 x.val))
      (∑ d : Fin 256, x0 (ix3 0 r d) * x1 (ix3 0 c d)) (Named.named κ "mask" 0xF149F2CA#32 : Ideal .f32) - x4 (ix3 0 r 0)) := by
  unfold pB
  rw [sel _ _ c.isLt x.isLt, msk, h]
  simp only [Nat.add_le_add_iff_left]

theorem pB_rest (r : Fin 2048) (c : Fin 512) (h : 512 * (j + 1) ≤ r.val) :
    pB j x0 x1 x4 r c = Ideal.exp ((∑ d : Fin 256, x0 (ix3 0 r d) * x1 (ix3 0 c d)) - x4 (ix3 0 r 0)) := by
  unfold pB; rw [if_pos (by have := c.isLt; omega)]

/-- A sum over all rows whose first `a` terms vanish, in two runs. -/
theorem sum_split (f : Fin 2048 → EReal) (a b n1 n2 : ℕ) (hb : a + n1 = b) (h : b + n2 = 2048) (hz : ∀ r : Fin 2048, r.val < a → f r = 0) :
    ∑ r, f r = (∑ x : Fin n1, f ⟨a + x.val, by have := x.isLt; omega⟩) + ∑ x : Fin n2, f ⟨b + x.val, by have := x.isLt; omega⟩ := by
  subst hb
  have e : ∑ r, f r = ∑ r : Fin (a + n1 + n2), f (Fin.cast h r) :=
    (Fintype.sum_equiv (finCongr h) _ _ fun x => rfl).symm
  rw [e, Fin.sum_univ_add, Fin.sum_univ_add]
  have z : ∑ i : Fin a, f (Fin.cast h (Fin.castAdd n2 (Fin.castAdd n1 i))) = 0 :=
    Finset.sum_eq_zero fun i _ => hz _ i.isLt
  rw [z, zero_add]
  rfl

/-- The same with one run. -/
theorem sum_tail (f : Fin 2048 → EReal) (a n1 : ℕ) (h : a + n1 = 2048) (hz : ∀ r : Fin 2048, r.val < a → f r = 0) :
    ∑ r, f r = ∑ x : Fin n1, f ⟨a + x.val, by have := x.isLt; omega⟩ := by
  rw [sum_split f a 2048 n1 0 h rfl hz]; simp

/-- The gradient of the keys at one grid point. -/
theorem dk_eq (a b n2 : ℕ) (hj : 512 * j = a) (hb : a + 512 = b) (h : b + n2 = 2048) (c : Fin 512) (e : Fin 256) :
    (∑ x : Fin 512, Ideal.exp (Scalar.select (IntOp.cmpi CmpIPredicate.sle (BitVec.ofNat 32 c.val) (BitVec.ofNat 32 x.val)) (∑ d : Fin 256, x0 (ix3 0 ⟨a + x.val, by have := x.isLt; omega⟩ d) * x1 (ix3 0 c d)) (Named.named κ "mask" 0xF149F2CA#32 : Ideal .f32) - x4 (ix3 0 ⟨a + x.val, by have := x.isLt; omega⟩ 0)) * (∑ d : Fin 128, x3 (ix2 ⟨a + x.val, by have := x.isLt; omega⟩ d) * x2 (ix3 0 c d) - x5 (ix3 0 ⟨a + x.val, by have := x.isLt; omega⟩ 0)) * x0 (ix3 0 ⟨a + x.val, by have := x.isLt; omega⟩ e))
      + ∑ x : Fin n2, Ideal.exp ((∑ d : Fin 256, x0 (ix3 0 ⟨b + x.val, by have := x.isLt; omega⟩ d) * x1 (ix3 0 c d)) - x4 (ix3 0 ⟨b + x.val, by have := x.isLt; omega⟩ 0)) * (∑ d : Fin 128, x3 (ix2 ⟨b + x.val, by have := x.isLt; omega⟩ d) * x2 (ix3 0 c d) - x5 (ix3 0 ⟨b + x.val, by have := x.isLt; omega⟩ 0)) * x0 (ix3 0 ⟨b + x.val, by have := x.isLt; omega⟩ e)
      = ∑ r : Fin 2048, dB j x0 x1 x2 x3 x4 x5 r c * x0 (ix3 0 r e) := by
  rw [sum_split (fun r => dB j x0 x1 x2 x3 x4 x5 r c * x0 (ix3 0 r e)) a b 512 n2 hb h
    (fun r hr => by simp only [dB_zero j x0 x1 x2 x3 x4 x5 r c (by omega), zero_mul])]
  congr 1
  · refine Finset.sum_congr rfl fun x _ => ?_
    simp only [dB]; rw [pB_diag j x0 x1 x4 _ c x (by simp [hj])]
  · refine Finset.sum_congr rfl fun x _ => ?_
    simp only [dB]; rw [pB_rest j x0 x1 x4 _ c (by simp; omega)]

/-- The gradient of the values at one grid point. -/
theorem dv_eq (a b n2 : ℕ) (hj : 512 * j = a) (hb : a + 512 = b) (h : b + n2 = 2048) (c : Fin 512) (e : Fin 128) :
    (∑ x : Fin 512, Ideal.exp (Scalar.select (IntOp.cmpi CmpIPredicate.sle (BitVec.ofNat 32 c.val) (BitVec.ofNat 32 x.val)) (∑ d : Fin 256, x0 (ix3 0 ⟨a + x.val, by have := x.isLt; omega⟩ d) * x1 (ix3 0 c d)) (Named.named κ "mask" 0xF149F2CA#32 : Ideal .f32) - x4 (ix3 0 ⟨a + x.val, by have := x.isLt; omega⟩ 0)) * x3 (ix2 ⟨a + x.val, by have := x.isLt; omega⟩ e))
      + ∑ x : Fin n2, Ideal.exp ((∑ d : Fin 256, x0 (ix3 0 ⟨b + x.val, by have := x.isLt; omega⟩ d) * x1 (ix3 0 c d)) - x4 (ix3 0 ⟨b + x.val, by have := x.isLt; omega⟩ 0)) * x3 (ix2 ⟨b + x.val, by have := x.isLt; omega⟩ e)
      = ∑ r : Fin 2048, pB j x0 x1 x4 r c * x3 (ix2 r e) := by
  rw [sum_split (fun r => pB j x0 x1 x4 r c * x3 (ix2 r e)) a b 512 n2 hb h
    (fun r hr => by simp only [pB_zero j x0 x1 x4 r c (by omega), zero_mul])]
  congr 1
  · refine Finset.sum_congr rfl fun x _ => ?_
    rw [pB_diag j x0 x1 x4 _ c x (by simp [hj])]
  · refine Finset.sum_congr rfl fun x _ => ?_
    rw [pB_rest j x0 x1 x4 _ c (by simp; omega)]

/-- The same where the block is the last one. -/
theorem dk_last (a : ℕ) (hj : 512 * j = a) (h : a + 512 = 2048) (c : Fin 512) (e : Fin 256) :
    (∑ x : Fin 512, Ideal.exp (Scalar.select (IntOp.cmpi CmpIPredicate.sle (BitVec.ofNat 32 c.val) (BitVec.ofNat 32 x.val)) (∑ d : Fin 256, x0 (ix3 0 ⟨a + x.val, by have := x.isLt; omega⟩ d) * x1 (ix3 0 c d)) (Named.named κ "mask" 0xF149F2CA#32 : Ideal .f32) - x4 (ix3 0 ⟨a + x.val, by have := x.isLt; omega⟩ 0)) * (∑ d : Fin 128, x3 (ix2 ⟨a + x.val, by have := x.isLt; omega⟩ d) * x2 (ix3 0 c d) - x5 (ix3 0 ⟨a + x.val, by have := x.isLt; omega⟩ 0)) * x0 (ix3 0 ⟨a + x.val, by have := x.isLt; omega⟩ e))
      = ∑ r : Fin 2048, dB j x0 x1 x2 x3 x4 x5 r c * x0 (ix3 0 r e) := by
  rw [← dk_eq j x0 x1 x2 x3 x4 x5 a 2048 0 hj h rfl c e]; simp

/-- The same where the block is the last one. -/
theorem dv_last (a : ℕ) (hj : 512 * j = a) (h : a + 512 = 2048) (c : Fin 512) (e : Fin 128) :
    (∑ x : Fin 512, Ideal.exp (Scalar.select (IntOp.cmpi CmpIPredicate.sle (BitVec.ofNat 32 c.val) (BitVec.ofNat 32 x.val)) (∑ d : Fin 256, x0 (ix3 0 ⟨a + x.val, by have := x.isLt; omega⟩ d) * x1 (ix3 0 c d)) (Named.named κ "mask" 0xF149F2CA#32 : Ideal .f32) - x4 (ix3 0 ⟨a + x.val, by have := x.isLt; omega⟩ 0)) * x3 (ix2 ⟨a + x.val, by have := x.isLt; omega⟩ e))
      = ∑ r : Fin 2048, pB j x0 x1 x4 r c * x3 (ix2 r e) := by
  rw [← dv_eq j x0 x1 x3 x4 a 2048 0 hj h rfl c e]; simp

/-- What a grid point adds to the gradient of query row `r`. -/
def qB (r : Fin 2048) (e : Fin 256) : EReal := ∑ c : Fin 512, dB j x0 x1 x2 x3 x4 x5 r c * x1 (ix3 0 c e)

theorem q_zero (r : Fin 2048) (e : Fin 256) (h : r.val < 512 * j) : qB j x0 x1 x2 x3 x4 x5 r e = 0 :=
  Finset.sum_eq_zero fun c _ => by rw [dB_zero j x0 x1 x2 x3 x4 x5 r c h, zero_mul]

theorem q_diag (R : Fin 2048) (x : Fin 512) (e : Fin 256) (h : R.val = 512 * j + x.val) :
    ∑ c : Fin 512, Ideal.exp (Scalar.select (IntOp.cmpi CmpIPredicate.sle (BitVec.ofNat 32 c.val) (BitVec.ofNat 32 x.val)) (∑ d : Fin 256, x0 (ix3 0 R d) * x1 (ix3 0 c d)) (Named.named κ "mask" 0xF149F2CA#32 : Ideal .f32) - x4 (ix3 0 R 0)) * (∑ d : Fin 128, x3 (ix2 R d) * x2 (ix3 0 c d) - x5 (ix3 0 R 0)) * x1 (ix3 0 c e) = qB j x0 x1 x2 x3 x4 x5 R e := by
  refine Finset.sum_congr rfl fun c _ => ?_
  simp only [dB]; rw [pB_diag j x0 x1 x4 R c x h]

theorem q_rest (R : Fin 2048) (e : Fin 256) (h : 512 * (j + 1) ≤ R.val) :
    ∑ c : Fin 512, Ideal.exp ((∑ d : Fin 256, x0 (ix3 0 R d) * x1 (ix3 0 c d)) - x4 (ix3 0 R 0)) * (∑ d : Fin 128, x3 (ix2 R d) * x2 (ix3 0 c d) - x5 (ix3 0 R 0)) * x1 (ix3 0 c e) = qB j x0 x1 x2 x3 x4 x5 R e := by
  refine Finset.sum_congr rfl fun c _ => ?_
  simp only [dB]; rw [pB_rest j x0 x1 x4 R c h]

/-- A row of a band of rows, by its place in the band. -/
theorem row_of (r : Fin 2048) (o W : ℕ) (h : o + W ≤ 2048) (h0 : o ≤ r.val) (h1 : r.val < o + W) :
    ∃ x : Fin W, r = ⟨o + x.val, Nat.lt_of_lt_of_le (Nat.add_lt_add_left x.isLt o) h⟩ :=
  ⟨⟨r.val - o, by omega⟩, Fin.ext (by show r.val = o + (r.val - o); omega)⟩

/-- A read of the carried scratch inside the rows stored last. -/
theorem rows_hit {sig' : RefSig} {κ' : Kind} {sp : Space} {Val : EltTy → Type} (v : View sig' κ' sp S2048x256 .f32) (f : v.ty.Contents Val)
    {o W : ℕ} (inb : ∀ a, (![o, 0] : Fin 2 → ℕ) a + (![W, 256] : Fin 2 → ℕ) a ≤ S2048x256.size a)
    (w : (⟨2, ![W, 256]⟩ : Shape).Idx → Val .f32) (L : List (View.Piece Val S2048x256 .f32)) (y : S2048x256.Idx)
    (z : Fin W) (hz : (y 0).val = o + z.val) :
    v.read Val (v.writes Val f ((⟨Rect.unit (s := S2048x256) ![o, 0] ![W, 256] inb, w⟩ : View.Piece Val S2048x256 .f32) :: L)) y
      = w (ix2 z ⟨(y 1).val, (y 1).isLt⟩) :=
  View.read_writes_cons_unit_of_mem v f inb w L y (ix2 z ⟨(y 1).val, (y 1).isLt⟩) rfl (fun a => match a with
    | ⟨0, _⟩ => hz
    | ⟨1, _⟩ => (Nat.zero_add _).symm)

/-- A read of the carried scratch outside the rows stored last. -/
theorem rows_miss {sig' : RefSig} {κ' : Kind} {sp : Space} {Val : EltTy → Type} (v : View sig' κ' sp S2048x256 .f32) (f : v.ty.Contents Val)
    {o W : ℕ} (inb : ∀ a, (![o, 0] : Fin 2 → ℕ) a + (![W, 256] : Fin 2 → ℕ) a ≤ S2048x256.size a)
    (w : (⟨2, ![W, 256]⟩ : Shape).Idx → Val .f32) (L : List (View.Piece Val S2048x256 .f32)) (y : S2048x256.Idx)
    (hz : (y 0).val < o ∨ o + W ≤ (y 0).val) :
    v.read Val (v.writes Val f ((⟨Rect.unit (s := S2048x256) ![o, 0] ![W, 256] inb, w⟩ : View.Piece Val S2048x256 .f32) :: L)) y
      = v.read Val (v.writes Val f L) y :=
  View.read_writes_cons_unit_of_not_mem v f inb w L y rfl 0 hz

end Cert.KernelIdeal.Bwd
end
-- ==== Proof.BwdCell.lean ====
/- What the attention backward kernel leaves at each grid point, case by case of the key block's number: the gradients of the block's
   keys and values, and what is added to the gradient of the queries. -/
module

public import proofs.«01_k».proof.Proof.Gen.KernelIdeal.Value
public import proofs.«01_k».proof.Proof.BwdBlock
public import Idealize.ShloMosaic.Lib.Pipeline.ReadBack

@[expose] public section

set_option maxRecDepth 16384

noncomputable section

namespace Cert.KernelIdeal.Bwd

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

theorem dk_A (c : Dev nD) (t : Fin cfg0.N) (h : t.val % 4 = 0) (y : S1x512x256.Idx) :
    (outsAt0 m c t.val t.isLt).2.1 y = ∑ r : Fin 2048, dB 0 (iblk m c 0 t) (iblk m c 1 t) (iblk m c 2 t) (iblk m c 3 t) (iblk m c 4 t) (iblk m c 5 t) r (y 1) * (iblk m c 0 t : Vec Ideal S1x2048x256 .bf16) (ix3 0 r (y 2)) := by
  rw [outsAt0_A m c t (by omega) (by omega) (by omega) (by omega) (by omega) (by omega)]
  frame_out
  open_payloads
  pointwise
  have e := dk_eq 0 (iblk m c 0 t) (iblk m c 1 t) (iblk m c 2 t) (iblk m c 3 t) (iblk m c 4 t) (iblk m c 5 t) 0 512 1536 rfl rfl rfl (y 1) (y 2)
  simp only [Nat.zero_add] at e
  exact e

theorem dv_A (c : Dev nD) (t : Fin cfg0.N) (h : t.val % 4 = 0) (y : S1x512x128.Idx) :
    (outsAt0 m c t.val t.isLt).2.2.1 y = ∑ r : Fin 2048, pB 0 (iblk m c 0 t) (iblk m c 1 t) (iblk m c 4 t) r (y 1) * (iblk m c 3 t : Vec Ideal S2048x128 .bf16) (ix2 r (y 2)) := by
  rw [outsAt0_A m c t (by omega) (by omega) (by omega) (by omega) (by omega) (by omega)]
  frame_out
  open_payloads
  pointwise
  have e := dv_eq 0 (iblk m c 0 t) (iblk m c 1 t) (iblk m c 3 t) (iblk m c 4 t) 0 512 1536 rfl rfl rfl (y 1) (y 2)
  simp only [Nat.zero_add] at e
  exact e

theorem dk_B (c : Dev nD) (t : Fin cfg0.N) (h : t.val % 4 = 1) (y : S1x512x256.Idx) :
    (outsAt0 m c t.val t.isLt).2.1 y = ∑ r : Fin 2048, dB 1 (iblk m c 0 t) (iblk m c 1 t) (iblk m c 2 t) (iblk m c 3 t) (iblk m c 4 t) (iblk m c 5 t) r (y 1) * (iblk m c 0 t : Vec Ideal S1x2048x256 .bf16) (ix3 0 r (y 2)) := by
  rw [outsAt0_B m c t (by omega) (by omega) (by omega) (by omega) (by omega) (by omega)]
  frame_out
  open_payloads
  pointwise
  exact dk_eq 1 (iblk m c 0 t) (iblk m c 1 t) (iblk m c 2 t) (iblk m c 3 t) (iblk m c 4 t) (iblk m c 5 t) 512 1024 1024 rfl rfl rfl (y 1) (y 2)

theorem dv_B (c : Dev nD) (t : Fin cfg0.N) (h : t.val % 4 = 1) (y : S1x512x128.Idx) :
    (outsAt0 m c t.val t.isLt).2.2.1 y = ∑ r : Fin 2048, pB 1 (iblk m c 0 t) (iblk m c 1 t) (iblk m c 4 t) r (y 1) * (iblk m c 3 t : Vec Ideal S2048x128 .bf16) (ix2 r (y 2)) := by
  rw [outsAt0_B m c t (by omega) (by omega) (by omega) (by omega) (by omega) (by omega)]
  frame_out
  open_payloads
  pointwise
  exact dv_eq 1 (iblk m c 0 t) (iblk m c 1 t) (iblk m c 3 t) (iblk m c 4 t) 512 1024 1024 rfl rfl rfl (y 1) (y 2)

theorem dk_C (c : Dev nD) (t : Fin cfg0.N) (h : t.val % 4 = 2) (y : S1x512x256.Idx) :
    (outsAt0 m c t.val t.isLt).2.1 y = ∑ r : Fin 2048, dB 2 (iblk m c 0 t) (iblk m c 1 t) (iblk m c 2 t) (iblk m c 3 t) (iblk m c 4 t) (iblk m c 5 t) r (y 1) * (iblk m c 0 t : Vec Ideal S1x2048x256 .bf16) (ix3 0 r (y 2)) := by
  rw [outsAt0_C m c t (by omega) (by omega) (by omega) (by omega) (by omega) (by omega)]
  frame_out
  open_payloads
  pointwise
  exact dk_eq 2 (iblk m c 0 t) (iblk m c 1 t) (iblk m c 2 t) (iblk m c 3 t) (iblk m c 4 t) (iblk m c 5 t) 1024 1536 512 rfl rfl rfl (y 1) (y 2)

theorem dv_C (c : Dev nD) (t : Fin cfg0.N) (h : t.val % 4 = 2) (y : S1x512x128.Idx) :
    (outsAt0 m c t.val t.isLt).2.2.1 y = ∑ r : Fin 2048, pB 2 (iblk m c 0 t) (iblk m c 1 t) (iblk m c 4 t) r (y 1) * (iblk m c 3 t : Vec Ideal S2048x128 .bf16) (ix2 r (y 2)) := by
  rw [outsAt0_C m c t (by omega) (by omega) (by omega) (by omega) (by omega) (by omega)]
  frame_out
  open_payloads
  pointwise
  exact dv_eq 2 (iblk m c 0 t) (iblk m c 1 t) (iblk m c 3 t) (iblk m c 4 t) 1024 1536 512 rfl rfl rfl (y 1) (y 2)

theorem dk_D (c : Dev nD) (t : Fin cfg0.N) (h : t.val % 4 = 3) (y : S1x512x256.Idx) :
    (outsAt0 m c t.val t.isLt).2.1 y = ∑ r : Fin 2048, dB 3 (iblk m c 0 t) (iblk m c 1 t) (iblk m c 2 t) (iblk m c 3 t) (iblk m c 4 t) (iblk m c 5 t) r (y 1) * (iblk m c 0 t : Vec Ideal S1x2048x256 .bf16) (ix3 0 r (y 2)) := by
  rw [outsAt0_D m c t (by omega) (by omega) (by omega) (by omega) (by omega) (by omega)]
  frame_out
  open_payloads
  pointwise
  exact dk_last 3 (iblk m c 0 t) (iblk m c 1 t) (iblk m c 2 t) (iblk m c 3 t) (iblk m c 4 t) (iblk m c 5 t) 1536 rfl rfl (y 1) (y 2)

theorem dv_D (c : Dev nD) (t : Fin cfg0.N) (h : t.val % 4 = 3) (y : S1x512x128.Idx) :
    (outsAt0 m c t.val t.isLt).2.2.1 y = ∑ r : Fin 2048, pB 3 (iblk m c 0 t) (iblk m c 1 t) (iblk m c 4 t) r (y 1) * (iblk m c 3 t : Vec Ideal S2048x128 .bf16) (ix2 r (y 2)) := by
  rw [outsAt0_D m c t (by omega) (by omega) (by omega) (by omega) (by omega) (by omega)]
  frame_out
  open_payloads
  pointwise
  exact dv_last 3 (iblk m c 0 t) (iblk m c 1 t) (iblk m c 3 t) (iblk m c 4 t) 1536 rfl rfl (y 1) (y 2)

end Cert.KernelIdeal.Bwd
end
-- ==== Proof.BwdScr.lean ====
/- What the attention backward kernel adds at each grid point to the gradient of the queries, case by case of the key block's number. -/
module

public import proofs.«01_k».proof.Proof.Gen.KernelIdeal.Value
public import proofs.«01_k».proof.Proof.BwdBlock
public import Idealize.ShloMosaic.Lib.Pipeline.ReadBack

@[expose] public section

set_option maxRecDepth 16384

noncomputable section

namespace Cert.KernelIdeal.Bwd

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- The row block written back is the scratch. -/
theorem pay11_apply (z : Vec Ideal S2048x256 .f32) (r : Fin 2048) (e : Fin 256) : k0_pay11 z (ix3 0 r e) = z (ix2 r e) := by
  open_payloads
  pointwise

theorem sq_A (c : Dev nD) (t : Fin cfg0.N) (h : t.val % 4 = 0) (r : Fin 2048) (e : Fin 256) :
    (outsAt0 m c t.val t.isLt).2.2.2 (ix2 r e) = qB 0 (iblk m c 0 t) (iblk m c 1 t) (iblk m c 2 t) (iblk m c 3 t) (iblk m c 4 t) (iblk m c 5 t) r e := by
  rw [outsAt0_A m c t (by omega) (by omega) (by omega) (by omega) (by omega) (by omega)]
  frame_open
  simp (disch := decide) only [↓ View.readCov_skip, ↓ View.readCov_cons_toLoadRect, ↓ View.readCov_fill]
  frame_out
  rw [← View.read_writes_junk_eq_canon (View.whole cc0_scratch0)]
  by_cases h2 : r.val < 512
  · refine (rows_miss _ _ _ _ _ _ (by left; show r.val < 512; omega)).trans ?_
    obtain ⟨x, rfl⟩ := row_of r 0 512 (by decide) (by omega) (by omega)
    refine (rows_hit _ _ _ _ _ _ x rfl).trans ?_
    open_payloads
    pointwise
    exact q_diag 0 (iblk m c 0 t) (iblk m c 1 t) (iblk m c 2 t) (iblk m c 3 t) (iblk m c 4 t) (iblk m c 5 t) ⟨x.val, by have := x.isLt; omega⟩ x e (by show x.val = 512 * 0 + x.val; omega)
  · obtain ⟨x, rfl⟩ := row_of r 512 1536 (by decide) (by omega) (by omega)
    refine (rows_hit _ _ _ _ _ _ x rfl).trans ?_
    open_payloads
    pointwise
    exact q_rest 0 (iblk m c 0 t) (iblk m c 1 t) (iblk m c 2 t) (iblk m c 3 t) (iblk m c 4 t) (iblk m c 5 t) ⟨512 + x.val, by have := x.isLt; omega⟩ e (Nat.le_add_right _ _)

theorem sq_B (c : Dev nD) (t : Fin cfg0.N) (h : t.val % 4 = 1) (r : Fin 2048) (e : Fin 256) :
    (outsAt0 m c t.val t.isLt).2.2.2 (ix2 r e) = (outsAt0 m c (t.val - 1) (Nat.lt_of_le_of_lt (Nat.sub_le _ _) t.isLt)).2.2.2 (ix2 r e)
      + qB 1 (iblk m c 0 t) (iblk m c 1 t) (iblk m c 2 t) (iblk m c 3 t) (iblk m c 4 t) (iblk m c 5 t) r e := by
  rw [outsAt0_B m c t (by omega) (by omega) (by omega) (by omega) (by omega) (by omega)]
  generalize (outsAt0 m c (t.val - 1) (Nat.lt_of_le_of_lt (Nat.sub_le _ _) t.isLt)).2.2.2 = X
  frame_open
  simp (disch := decide) only [↓ View.readCov_skip, ↓ View.readCov_cons_toLoadRect, ↓ View.readCov_fill]
  frame_out
  simp only [read_unread_whole]
  by_cases h1 : r.val < 512
  · refine (rows_miss _ _ _ _ _ _ (by left; show r.val < 1024; omega)).trans ?_
    refine (rows_miss _ _ _ _ _ _ (by left; show r.val < 512; omega)).trans ?_
    rw [q_zero _ _ _ _ _ _ _ r e (by omega)]
    simp only [View.writes_nil, read_unread_whole, add_zero]
  by_cases h2 : r.val < 1024
  · refine (rows_miss _ _ _ _ _ _ (by left; show r.val < 1024; omega)).trans ?_
    obtain ⟨x, rfl⟩ := row_of r 512 512 (by decide) (by omega) (by omega)
    refine (rows_hit _ _ _ _ _ _ x rfl).trans ?_
    open_payloads
    pointwise
    refine congrArg₂ (· + ·) rfl ?_
    exact q_diag 1 (iblk m c 0 t) (iblk m c 1 t) (iblk m c 2 t) (iblk m c 3 t) (iblk m c 4 t) (iblk m c 5 t) ⟨512 + x.val, by have := x.isLt; omega⟩ x e rfl
  · obtain ⟨x, rfl⟩ := row_of r 1024 1024 (by decide) (by omega) (by omega)
    refine (rows_hit _ _ _ _ _ _ x rfl).trans ?_
    open_payloads
    pointwise
    refine congrArg₂ (· + ·) rfl ?_
    exact q_rest 1 (iblk m c 0 t) (iblk m c 1 t) (iblk m c 2 t) (iblk m c 3 t) (iblk m c 4 t) (iblk m c 5 t) ⟨1024 + x.val, by have := x.isLt; omega⟩ e (Nat.le_add_right _ _)

theorem sq_C (c : Dev nD) (t : Fin cfg0.N) (h : t.val % 4 = 2) (r : Fin 2048) (e : Fin 256) :
    (outsAt0 m c t.val t.isLt).2.2.2 (ix2 r e) = (outsAt0 m c (t.val - 1) (Nat.lt_of_le_of_lt (Nat.sub_le _ _) t.isLt)).2.2.2 (ix2 r e)
      + qB 2 (iblk m c 0 t) (iblk m c 1 t) (iblk m c 2 t) (iblk m c 3 t) (iblk m c 4 t) (iblk m c 5 t) r e := by
  rw [outsAt0_C m c t (by omega) (by omega) (by omega) (by omega) (by omega) (by omega)]
  generalize (outsAt0 m c (t.val - 1) (Nat.lt_of_le_of_lt (Nat.sub_le _ _) t.isLt)).2.2.2 = X
  frame_open
  simp (disch := decide) only [↓ View.readCov_skip, ↓ View.readCov_cons_toLoadRect, ↓ View.readCov_fill]
  frame_out
  simp only [read_unread_whole]
  by_cases h1 : r.val < 1024
  · refine (rows_miss _ _ _ _ _ _ (by left; show r.val < 1536; omega)).trans ?_
    refine (rows_miss _ _ _ _ _ _ (by left; show r.val < 1024; omega)).trans ?_
    rw [q_zero _ _ _ _ _ _ _ r e (by omega)]
    simp only [View.writes_nil, read_unread_whole, add_zero]
  by_cases h2 : r.val < 1536
  · refine (rows_miss _ _ _ _ _ _ (by left; show r.val < 1536; omega)).trans ?_
    obtain ⟨x, rfl⟩ := row_of r 1024 512 (by decide) (by omega) (by omega)
    refine (rows_hit _ _ _ _ _ _ x rfl).trans ?_
    open_payloads
    pointwise
    refine congrArg₂ (· + ·) rfl ?_
    exact q_diag 2 (iblk m c 0 t) (iblk m c 1 t) (iblk m c 2 t) (iblk m c 3 t) (iblk m c 4 t) (iblk m c 5 t) ⟨1024 + x.val, by have := x.isLt; omega⟩ x e rfl
  · obtain ⟨x, rfl⟩ := row_of r 1536 512 (by decide) (by omega) (by omega)
    refine (rows_hit _ _ _ _ _ _ x rfl).trans ?_
    open_payloads
    pointwise
    refine congrArg₂ (· + ·) rfl ?_
    exact q_rest 2 (iblk m c 0 t) (iblk m c 1 t) (iblk m c 2 t) (iblk m c 3 t) (iblk m c 4 t) (iblk m c 5 t) ⟨1536 + x.val, by have := x.isLt; omega⟩ e (Nat.le_add_right _ _)

theorem sq_D (c : Dev nD) (t : Fin cfg0.N) (h : t.val % 4 = 3) (r : Fin 2048) (e : Fin 256) :
    (outsAt0 m c t.val t.isLt).2.2.2 (ix2 r e) = (outsAt0 m c (t.val - 1) (Nat.lt_of_le_of_lt (Nat.sub_le _ _) t.isLt)).2.2.2 (ix2 r e)
      + qB 3 (iblk m c 0 t) (iblk m c 1 t) (iblk m c 2 t) (iblk m c 3 t) (iblk m c 4 t) (iblk m c 5 t) r e := by
  rw [outsAt0_D m c t (by omega) (by omega) (by omega) (by omega) (by omega) (by omega)]
  generalize (outsAt0 m c (t.val - 1) (Nat.lt_of_le_of_lt (Nat.sub_le _ _) t.isLt)).2.2.2 = X
  frame_open
  simp (disch := decide) only [↓ View.readCov_skip, ↓ View.readCov_cons_toLoadRect, ↓ View.readCov_fill]
  frame_out
  simp only [read_unread_whole]
  by_cases h1 : r.val < 1536
  · refine (rows_miss _ _ _ _ _ _ (by left; show r.val < 1536; omega)).trans ?_
    rw [q_zero _ _ _ _ _ _ _ r e (by omega)]
    simp only [View.writes_nil, read_unread_whole, add_zero]
  obtain ⟨x, rfl⟩ := row_of r 1536 512 (by decide) (by omega) (by omega)
  refine (rows_hit _ _ _ _ _ _ x rfl).trans ?_
  open_payloads
  pointwise
  refine congrArg₂ (· + ·) rfl ?_
  exact q_diag 3 (iblk m c 0 t) (iblk m c 1 t) (iblk m c 2 t) (iblk m c 3 t) (iblk m c 4 t) (iblk m c 5 t) ⟨1536 + x.val, by have := x.isLt; omega⟩ x e rfl

theorem dq_D (c : Dev nD) (t : Fin cfg0.N) (h : t.val % 4 = 3) (r : Fin 2048) (e : Fin 256) :
    (outsAt0 m c t.val t.isLt).1 (ix3 0 r e) = (outsAt0 m c t.val t.isLt).2.2.2 (ix2 r e) := by
  rw [outsAt0_D m c t (by omega) (by omega) (by omega) (by omega) (by omega) (by omega)]
  generalize (outsAt0 m c (t.val - 1) (Nat.lt_of_le_of_lt (Nat.sub_le _ _) t.isLt)).2.2.2 = X
  frame_open
  simp (disch := decide) only [↓ View.readCov_skip, ↓ View.readCov_cons_toLoadRect, ↓ View.readCov_fill]
  frame_out
  simp only [read_unread_whole]
  exact pay11_apply _ r e

end Cert.KernelIdeal.Bwd
end
-- ==== Proof.BwdIn.lean ====
/- The blocks the attention backward kernel reads, in terms of the arrays it is handed. -/
module

public import proofs.«01_k».proof.Proof.Gen.KernelIdeal.Value
public import proofs.«01_k».proof.Proof.BwdCell
public import proofs.«01_k».proof.Proof.BwdScr
public import Idealize.ShloMosaic.Lib.Pipeline.ReadBack

@[expose] public section

set_option maxRecDepth 16384

noncomputable section

namespace Cert.KernelIdeal.Bwd

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val / 8, t.val % 8 / 4, 0] ∧ win0_1.index t = ![t.val / 8, t.val % 8, 0]
    ∧ win0_2.index t = ![t.val / 8, t.val % 8, 0] ∧ win0_3.index t = ![t.val % 8 / 4, t.val / 8] ∧ win0_4.index t = ![t.val / 8, t.val % 8 / 4, 0]
    ∧ win0_5.index t = ![t.val / 8, t.val % 8 / 4, 0] ∧ win0_6.index t = ![t.val / 8, t.val % 8 / 4, 0] ∧ win0_7.index t = ![t.val / 8, t.val % 8, 0]
    ∧ win0_8.index t = ![t.val / 8, t.val % 8, 0] :=
  (by decide +kernel : ∀ t : Fin grid0.N, _)

theorem rd0 (t : Fin cfg0.N) (r : Fin 2048) (d : Fin 256) (X : FVec Ideal S16x4096x256 .bf16) :
    (((cfg0.win 0).blk t).view.read (Elt Ideal) (X : ((cfg0.win 0).blk t).view.ty.Contents (Elt Ideal)) : Vec Ideal S1x2048x256 .bf16) (ix3 0 r d) = X (ix3 ⟨t.val / 8, by have := lt_of_lt_of_eq t.isLt N_0; omega⟩ ⟨2048 * (t.val % 8 / 4) + r.val, by have := r.isLt; omega⟩ d) := by
  blk_simp
  blk_ext [idx t]

theorem rd1 (t : Fin cfg0.N) (k : Fin 512) (d : Fin 256) (X : FVec Ideal S16x4096x256 .bf16) :
    (((cfg0.win 1).blk t).view.read (Elt Ideal) (X : ((cfg0.win 1).blk t).view.ty.Contents (Elt Ideal)) : Vec Ideal S1x512x256 .bf16) (ix3 0 k d) = X (ix3 ⟨t.val / 8, by have := lt_of_lt_of_eq t.isLt N_0; omega⟩ ⟨512 * (t.val % 8) + k.val, by have := k.isLt; omega⟩ d) := by
  blk_simp
  blk_ext [idx t]

theorem rd2 (t : Fin cfg0.N) (k : Fin 512) (d : Fin 128) (X : FVec Ideal S16x4096x128 .bf16) :
    (((cfg0.win 2).blk t).view.read (Elt Ideal) (X : ((cfg0.win 2).blk t).view.ty.Contents (Elt Ideal)) : Vec Ideal S1x512x128 .bf16) (ix3 0 k d) = X (ix3 ⟨t.val / 8, by have := lt_of_lt_of_eq t.isLt N_0; omega⟩ ⟨512 * (t.val % 8) + k.val, by have := k.isLt; omega⟩ d) := by
  blk_simp
  blk_ext [idx t]

theorem rd3 (t : Fin cfg0.N) (r : Fin 2048) (d : Fin 128) (X : FVec Ideal S4096x2048 .bf16) :
    (((cfg0.win 3).blk t).view.read (Elt Ideal) (X : ((cfg0.win 3).blk t).view.ty.Contents (Elt Ideal)) : Vec Ideal S2048x128 .bf16) (ix2 r d) = X (ix2 ⟨2048 * (t.val % 8 / 4) + r.val, by have := r.isLt; omega⟩ ⟨128 * (t.val / 8) + d.val, by have := lt_of_lt_of_eq t.isLt N_0; have := d.isLt; omega⟩) := by
  blk_simp
  blk_ext [idx t]

theorem rd4 (t : Fin cfg0.N) (r : Fin 2048) (X : FVec Ideal S16x4096x1 .f32) :
    (((cfg0.win 4).blk t).view.read (Elt Ideal) (X : ((cfg0.win 4).blk t).view.ty.Contents (Elt Ideal)) : Vec Ideal S1x2048x1 .f32) (ix3 0 r 0) = X (ix3 ⟨t.val / 8, by have := lt_of_lt_of_eq t.isLt N_0; omega⟩ ⟨2048 * (t.val % 8 / 4) + r.val, by have := r.isLt; omega⟩ 0) := by
  blk_simp
  blk_ext [idx t]

theorem rd5 (t : Fin cfg0.N) (r : Fin 2048) (X : FVec Ideal S16x4096x1 .f32) :
    (((cfg0.win 5).blk t).view.read (Elt Ideal) (X : ((cfg0.win 5).blk t).view.ty.Contents (Elt Ideal)) : Vec Ideal S1x2048x1 .f32) (ix3 0 r 0) = X (ix3 ⟨t.val / 8, by have := lt_of_lt_of_eq t.isLt N_0; omega⟩ ⟨2048 * (t.val % 8 / 4) + r.val, by have := r.isLt; omega⟩ 0) := by
  blk_simp
  blk_ext [idx t]

/-- Row `n` of batch `b`. -/
def row (b : Fin 2) (n : Fin 2048) : Fin 4096 := ⟨2048 * b.val + n.val, by have := b.isLt; have := n.isLt; omega⟩

/-- Column `d` of head `h`. -/
def col (h : Fin 16) (d : Fin 128) : Fin 2048 := ⟨128 * h.val + d.val, by have := h.isLt; have := d.isLt; omega⟩

section
variable (Q K : FVec Ideal S16x4096x256 .bf16) (V : FVec Ideal S16x4096x128 .bf16) (D : FVec Ideal S4096x2048 .bf16) (L E : FVec Ideal S16x4096x1 .f32)

/-- The probability of key `k` for query `n`, out of the log-sum-exp `L`. -/
def fB (h : Fin 16) (b : Fin 2) (n k : Fin 2048) : EReal :=
  Ideal.exp ((if k.val ≤ n.val then ∑ d : Fin 256, Q (ix3 h (row b n) d) * K (ix3 h (row b k) d) else ⊥) - L (ix3 h (row b n) 0))

/-- The gradient of the score of key `k` for query `n`. -/
def gB (h : Fin 16) (b : Fin 2) (n k : Fin 2048) : EReal :=
  fB Q K L h b n k * (∑ d : Fin 128, D (ix2 (row b n) (col h d)) * V (ix3 h (row b k) d) - E (ix3 h (row b n) 0))

/-- The gradients of the queries, keys and values. -/
def resQ : FVec Ideal S16x4096x256 .bf16 := fun i => ∑ k : Fin 2048,
  gB Q K V D L E (i 0) ⟨(i 1).val / 2048, by have : (i 1).val < 4096 := (i 1).isLt; omega⟩ ⟨(i 1).val % 2048, by omega⟩ k
    * K (ix3 (i 0) (row ⟨(i 1).val / 2048, by have : (i 1).val < 4096 := (i 1).isLt; omega⟩ k) (i 2))

def resK : FVec Ideal S16x4096x256 .bf16 := fun i => ∑ n : Fin 2048,
  gB Q K V D L E (i 0) ⟨(i 1).val / 2048, by have : (i 1).val < 4096 := (i 1).isLt; omega⟩ n ⟨(i 1).val % 2048, by omega⟩
    * Q (ix3 (i 0) (row ⟨(i 1).val / 2048, by have : (i 1).val < 4096 := (i 1).isLt; omega⟩ n) (i 2))

def resV : FVec Ideal S16x4096x128 .bf16 := fun i => ∑ n : Fin 2048,
  fB Q K L (i 0) ⟨(i 1).val / 2048, by have : (i 1).val < 4096 := (i 1).isLt; omega⟩ n ⟨(i 1).val % 2048, by omega⟩
    * D (ix2 (row ⟨(i 1).val / 2048, by have : (i 1).val < 4096 := (i 1).isLt; omega⟩ n) (col (i 0) (i 2)))
end

/-- The log-sum-exp array the kernel is handed. -/
def lseA (c : Dev nD) : FVec Ideal S16x4096x1 .f32 := V m c main_v28
/-- The array of output-gradient products the kernel is handed. -/
def delA (c : Dev nD) : FVec Ideal S16x4096x1 .f32 := V m c main_v29

theorem ib0 (c : Dev nD) (t : Fin cfg0.N) (h : Fin 16) (b : Fin 2) (j : ℕ) (hj : j < 4) (hh : t.val / 8 = h.val) (hb : t.val % 8 / 4 = b.val) (ht : t.val % 4 = j) (r : Fin 2048) (d : Fin 256) :
    (iblk m c 0 t : Vec Ideal S1x2048x256 .bf16) (ix3 0 r d) = (m ((c : Thread nD τ).loc main_arg0) : FVec Ideal S16x4096x256 .bf16) (ix3 h (row b r) d) := by
  refine (rd0 t r d ((m ((c : Thread nD τ).loc main_arg0) : FVec Ideal S16x4096x256 .bf16))).trans (congrArg _ ?_)
  funext a
  fin_cases a <;> apply Fin.ext <;> simp [row, col] <;> omega

theorem ib1 (c : Dev nD) (t : Fin cfg0.N) (h : Fin 16) (b : Fin 2) (j : ℕ) (hj : j < 4) (hh : t.val / 8 = h.val) (hb : t.val % 8 / 4 = b.val) (ht : t.val % 4 = j) (k : Fin 512) (d : Fin 256) :
    (iblk m c 1 t : Vec Ideal S1x512x256 .bf16) (ix3 0 k d) = (m ((c : Thread nD τ).loc main_arg1) : FVec Ideal S16x4096x256 .bf16) (ix3 h (row b ⟨512 * j + k.val, by have := k.isLt; omega⟩) d) := by
  refine (rd1 t k d ((m ((c : Thread nD τ).loc main_arg1) : FVec Ideal S16x4096x256 .bf16))).trans (congrArg _ ?_)
  funext a
  fin_cases a <;> apply Fin.ext <;> simp [row, col] <;> omega

theorem ib2 (c : Dev nD) (t : Fin cfg0.N) (h : Fin 16) (b : Fin 2) (j : ℕ) (hj : j < 4) (hh : t.val / 8 = h.val) (hb : t.val % 8 / 4 = b.val) (ht : t.val % 4 = j) (k : Fin 512) (d : Fin 128) :
    (iblk m c 2 t : Vec Ideal S1x512x128 .bf16) (ix3 0 k d) = (m ((c : Thread nD τ).loc main_arg2) : FVec Ideal S16x4096x128 .bf16) (ix3 h (row b ⟨512 * j + k.val, by have := k.isLt; omega⟩) d) := by
  refine (rd2 t k d ((m ((c : Thread nD τ).loc main_arg2) : FVec Ideal S16x4096x128 .bf16))).trans (congrArg _ ?_)
  funext a
  fin_cases a <;> apply Fin.ext <;> simp [row, col] <;> omega

theorem ib3 (c : Dev nD) (t : Fin cfg0.N) (h : Fin 16) (b : Fin 2) (j : ℕ) (hj : j < 4) (hh : t.val / 8 = h.val) (hb : t.val % 8 / 4 = b.val) (ht : t.val % 4 = j) (r : Fin 2048) (d : Fin 128) :
    (iblk m c 3 t : Vec Ideal S2048x128 .bf16) (ix2 r d) = (m ((c : Thread nD τ).loc main_arg3) : FVec Ideal S4096x2048 .bf16) (ix2 (row b r) (col h d)) := by
  refine (rd3 t r d ((m ((c : Thread nD τ).loc main_arg3) : FVec Ideal S4096x2048 .bf16))).trans (congrArg _ ?_)
  funext a
  fin_cases a <;> apply Fin.ext <;> simp [row, col] <;> omega

theorem ib4 (c : Dev nD) (t : Fin cfg0.N) (h : Fin 16) (b : Fin 2) (j : ℕ) (hj : j < 4) (hh : t.val / 8 = h.val) (hb : t.val % 8 / 4 = b.val) (ht : t.val % 4 = j) (r : Fin 2048) :
    (iblk m c 4 t : Vec Ideal S1x2048x1 .f32) (ix3 0 r 0) = lseA m c (ix3 h (row b r) 0) := by
  refine (rd4 t r (lseA m c)).trans (congrArg _ ?_)
  funext a
  fin_cases a <;> apply Fin.ext <;> simp [row, col] <;> omega

theorem ib5 (c : Dev nD) (t : Fin cfg0.N) (h : Fin 16) (b : Fin 2) (j : ℕ) (hj : j < 4) (hh : t.val / 8 = h.val) (hb : t.val % 8 / 4 = b.val) (ht : t.val % 4 = j) (r : Fin 2048) :
    (iblk m c 5 t : Vec Ideal S1x2048x1 .f32) (ix3 0 r 0) = delA m c (ix3 h (row b r) 0) := by
  refine (rd5 t r (delA m c)).trans (congrArg _ ?_)
  funext a
  fin_cases a <;> apply Fin.ext <;> simp [row, col] <;> omega

theorem pB_ib (c : Dev nD) (t : Fin cfg0.N) (h : Fin 16) (b : Fin 2) (j : ℕ) (hj : j < 4) (hh : t.val / 8 = h.val) (hb : t.val % 8 / 4 = b.val) (ht : t.val % 4 = j) (r : Fin 2048) (k : Fin 512) :
    pB j (iblk m c 0 t) (iblk m c 1 t) (iblk m c 4 t) r k = fB (m ((c : Thread nD τ).loc main_arg0)) (m ((c : Thread nD τ).loc main_arg1)) (lseA m c) h b r ⟨512 * j + k.val, by have := k.isLt; omega⟩ := by
  simp only [pB, fB, ib0 m c t h b j hj hh hb ht, ib1 m c t h b j hj hh hb ht, ib4 m c t h b j hj hh hb ht]

theorem dB_ib (c : Dev nD) (t : Fin cfg0.N) (h : Fin 16) (b : Fin 2) (j : ℕ) (hj : j < 4) (hh : t.val / 8 = h.val) (hb : t.val % 8 / 4 = b.val) (ht : t.val % 4 = j) (r : Fin 2048) (k : Fin 512) :
    dB j (iblk m c 0 t) (iblk m c 1 t) (iblk m c 2 t) (iblk m c 3 t) (iblk m c 4 t) (iblk m c 5 t) r k = gB (m ((c : Thread nD τ).loc main_arg0)) (m ((c : Thread nD τ).loc main_arg1)) (m ((c : Thread nD τ).loc main_arg2)) (m ((c : Thread nD τ).loc main_arg3)) (lseA m c) (delA m c) h b r ⟨512 * j + k.val, by have := k.isLt; omega⟩ := by
  simp only [dB, gB, pB_ib m c t h b j hj hh hb ht, ib2 m c t h b j hj hh hb ht, ib3 m c t h b j hj hh hb ht, ib5 m c t h b j hj hh hb ht]

end Cert.KernelIdeal.Bwd
end
-- ==== Proof.BwdRef.lean ====
/- The gradient of the reference's attention, read at an index. -/
module

public import proofs.«01_k».proof.Proof.Gen.ReferenceIdeal.Run
public import proofs.«01_k».proof.Proof.BwdIn
public import proofs.«01_k».proof.Proof.Row

@[expose] public section

set_option maxRecDepth 16384

noncomputable section

namespace Cert.ReferenceIdeal.Bwd

open Cert.ReferenceIdeal Cert.ReferenceIdeal.Gen Cert.KernelIdeal.Bwd Idealize.ShloMosaic Idealize.ShloMosaic.TcCoe Idealize.SL.Sem

/-- The causal mask. -/
def mskR : IVec S2048x2048 1 := select (cmpi .sge (addi (iotaInDim S2048x2048 32 0) (broadcastInDim S2048x2048 ![] bcast_S_S2048x2048 (constantI S_ 32 0#32))) (iotaInDim S2048x2048 32 1)) (broadcastInDim S2048x2048 ![] bcast_S_S2048x2048 (constantI S_ 1 1#1)) (broadcastInDim S2048x2048 ![] bcast_S_S2048x2048 (constantI S_ 1 0#1))

/-- The masked scores. -/
def scR (Q K : FVec Ideal S16x4096x256 .bf16) : FVec Ideal S16x2x2048x2048 .f32 := select (broadcastInDim S16x2x2048x2048 ![2, 3] bcast_S2048x2048_S16x2x2048x2048_2_3 mskR) (Host.dotGeneral dot_S16x2x2048x256_S16x2x2048x256_S16x2x2048x2048_3_3_2_2_01_01 none (shapeCast _ (extf .f32 Q bitsLt_bf16_f32) shapeCasts_S16x4096x256_S16x2x2048x256) (shapeCast _ (extf .f32 K bitsLt_bf16_f32) shapeCasts_S16x4096x256_S16x2x2048x256)) (broadcastInDim S16x2x2048x2048 ![] bcast_S_S16x2x2048x2048 (id (constant S_ .f32 0xFF800000#32)))

/-- The maximum of a row of scores. -/
def mxR (S : FVec Ideal S16x2x2048x2048 .f32) : FVec Ideal S16x2x2048 .f32 := Host.reduce FloatOps.maximumf S (constant S_ .f32 0xFF800000#32) reducesTo_S16x2x2048x2048_S16x2x2048_d3 h_S_

/-- The exponentials of the scores over their row's maximum. -/
def exW (S : FVec Ideal S16x2x2048x2048 .f32) (Z : FVec Ideal S16x2x2048 .f32) : FVec Ideal S16x2x2048x2048 .f32 := Host.exp (subf S (broadcastInDim S16x2x2048x2048 ![0, 1, 2, 3] bcast_S16x2x2048x1_S16x2x2048x2048_0_1_2_3 (broadcastInDim S16x2x2048x1 ![0, 1, 2] bcast_S16x2x2048_S16x2x2048x1_0_1_2 (maximumf (broadcastInDim S16x2x2048 ![] bcast_S_S16x2x2048 (constant S_ .f32 0xFF800000#32)) Z))))

def exR (S : FVec Ideal S16x2x2048x2048 .f32) : FVec Ideal S16x2x2048x2048 .f32 := exW S (mxR S)

/-- The sum of a row of exponentials. -/
def smR (X : FVec Ideal S16x2x2048x2048 .f32) : FVec Ideal S16x2x2048x1 .f32 := broadcastInDim S16x2x2048x1 ![0, 1, 2] bcast_S16x2x2048_S16x2x2048x1_0_1_2 (Host.reduceAdd X (constant S_ .f32 0x00000000#32) reducesTo_S16x2x2048x2048_S16x2x2048_d3 h_S_)

/-- The gradient of the probabilities. -/
def gR (D : FVec Ideal S4096x2048 .bf16) (V : FVec Ideal S16x4096x128 .bf16) : FVec Ideal S16x2x2048x2048 .f32 := transpose S16x2x2048x2048 [1, 0, 2, 3] (Host.dotGeneral dot_S2x16x128x2048_S16x2x2048x128_S2x16x2048x2048_2_3_3_2_01_10 none (transpose S2x16x128x2048 [0, 2, 3, 1] (shapeCast _ (extf .f32 D bitsLt_bf16_f32) shapeCasts_S4096x2048_S2x2048x16x128) transposes_S2x2048x16x128_S2x16x128x2048_0_2_3_1) (shapeCast _ (extf .f32 V bitsLt_bf16_f32) shapeCasts_S16x4096x128_S16x2x2048x128)) transposes_S2x16x2048x2048_S16x2x2048x2048_1_0_2_3

/-- The gradient of the scores. -/
def dsR (X G : FVec Ideal S16x2x2048x2048 .f32) : FVec Ideal S16x2x2048x2048 .f32 := (select (broadcastInDim S16x2x2048x2048 ![2, 3] bcast_S2048x2048_S16x2x2048x2048_2_3 mskR) (mulf (addf (Host.divf G (broadcastInDim S16x2x2048x2048 ![0, 1, 2, 3] bcast_S16x2x2048x1_S16x2x2048x2048_0_1_2_3 (smR X))) (broadcastInDim S16x2x2048x2048 ![0, 1, 2] bcast_S16x2x2048_S16x2x2048x2048_0_1_2 (Host.reduceAdd (Host.negf (shapeCast _ (Host.reduceAdd (mulf (mulf G (broadcastInDim S16x2x2048x2048 ![0, 1, 2, 3] bcast_S16x2x2048x1_S16x2x2048x2048_0_1_2_3 (Host.divf (broadcastInDim S16x2x2048x1 ![] bcast_S_S16x2x2048x1 (constant S_ .f32 0x3F800000#32)) (mulf (smR X) (smR X))))) X) (constant S_ .f32 0x00000000#32) reducesTo_S16x2x2048x2048_S16x2x2048_d3 h_S_) shapeCasts_S16x2x2048_S16x2x2048x1)) (constant S_ .f32 0x00000000#32) reducesTo_S16x2x2048x1_S16x2x2048_d3 h_S_))) X) (broadcastInDim S16x2x2048x2048 ![] bcast_S_S16x2x2048x2048 (constant S_ .f32 0x00000000#32)))

def qR (S : FVec Ideal S16x2x2048x2048 .f32) (K : FVec Ideal S16x4096x256 .bf16) : FVec Ideal S16x4096x256 .bf16 := truncf .bf16 (shapeCast _ (Host.dotGeneral dot_S16x2x2048x2048_S16x2x2048x256_S16x2x2048x256_3_2_2_3_01_01 none S (shapeCast _ (extf .f32 K bitsLt_bf16_f32) shapeCasts_S16x4096x256_S16x2x2048x256)) shapeCasts_S16x2x2048x256_S16x4096x256) bitsLt_bf16_f32

def kR (S : FVec Ideal S16x2x2048x2048 .f32) (Q : FVec Ideal S16x4096x256 .bf16) : FVec Ideal S16x4096x256 .bf16 := truncf .bf16 (shapeCast _ (Host.dotGeneral dot_S16x2x2048x2048_S16x2x2048x256_S16x2x2048x256_2_2_3_3_01_01 none S (shapeCast _ (extf .f32 Q bitsLt_bf16_f32) shapeCasts_S16x4096x256_S16x2x2048x256)) shapeCasts_S16x2x2048x256_S16x4096x256) bitsLt_bf16_f32

def vR (D : FVec Ideal S4096x2048 .bf16) (X : FVec Ideal S16x2x2048x2048 .f32) : FVec Ideal S16x4096x128 .bf16 := truncf .bf16 (shapeCast _ (transpose S16x2x2048x128 [1, 0, 3, 2] (Host.dotGeneral dot_S2x16x128x2048_S16x2x2048x2048_S2x16x128x2048_3_2_2_3_01_10 none (transpose S2x16x128x2048 [0, 2, 3, 1] (shapeCast _ (extf .f32 D bitsLt_bf16_f32) shapeCasts_S4096x2048_S2x2048x16x128) transposes_S2x2048x16x128_S2x16x128x2048_0_2_3_1) (Host.divf X (broadcastInDim S16x2x2048x2048 ![0, 1, 2, 3] bcast_S16x2x2048x1_S16x2x2048x2048_0_1_2_3 (smR X)))) transposes_S2x16x128x2048_S16x2x2048x128_1_0_3_2) shapeCasts_S16x2x2048x128_S16x4096x128) bitsLt_bf16_f32

theorem row_eq (b : Fin 2) (n : Fin 2048) (h : b.val * 2048 + n.val < 4096) : (⟨b.val * 2048 + n.val, h⟩ : Fin 4096) = row b n :=
  Fin.ext (by show b.val * 2048 + n.val = 2048 * b.val + n.val; omega)

theorem col_eq (h : Fin 16) (d : Fin 128) (H : h.val * 128 + d.val < 2048) : (⟨h.val * 128 + d.val, H⟩ : Fin 2048) = col h d :=
  Fin.ext (by show h.val * 128 + d.val = 128 * h.val + d.val; omega)

theorem row_div (b : Fin 2) (n : Fin 2048) : (row b n).val / 2048 = b.val := by
  show (2048 * b.val + n.val) / 2048 = b.val; have := n.isLt; omega

theorem row_mod (b : Fin 2) (n : Fin 2048) : (row b n).val % 2048 = n.val := by
  show (2048 * b.val + n.val) % 2048 = n.val; have := n.isLt; omega

theorem neg_inf : Ideal.ofBits .f32 0xFF800000#32 = ⊥ := by simp [Ideal.ofBits, Ideal.ieee]

theorem msk_at (n k : Fin 2048) : mskR (ix2 n k) = if k.val ≤ n.val then 1#1 else 0#1 := by
  unfold mskR; pointwise
  have hn : (BitVec.ofNat 32 n.val).toInt = n.val := by
    rw [BitVec.toInt_eq_toNat_of_lt (by rw [BitVec.toNat_ofNat]; have := n.isLt; omega), BitVec.toNat_ofNat, Nat.mod_eq_of_lt (by have := n.isLt; omega)]
  have hk : (BitVec.ofNat 32 k.val).toInt = k.val := by
    rw [BitVec.toInt_eq_toNat_of_lt (by rw [BitVec.toNat_ofNat]; have := k.isLt; omega), BitVec.toNat_ofNat, Nat.mod_eq_of_lt (by have := k.isLt; omega)]
  have e : IntOp.cmpi .sge (IntOp.addi (BitVec.ofNat 32 n.val) 0#32) (BitVec.ofNat 32 k.val) = if k.val ≤ n.val then 1#1 else 0#1 := by
    simp only [IntOp.cmpi, IntOp.addi, BitVec.add_zero, BitVec.sle, hn, hk, Nat.cast_le]
    by_cases h : k.val ≤ n.val
    · rw [if_pos h, decide_eq_true h]; rfl
    · rw [if_neg h, decide_eq_false h]; rfl
  rw [e]
  split <;> rfl

theorem sel_at {α : Type} (p : Prop) [Decidable p] (x y : α) : Scalar.select (if p then 1#1 else 0#1) x y = if p then x else y := by
  split <;> rfl

theorem sc_at (Q K : FVec Ideal S16x4096x256 .bf16) (h : Fin 16) (b : Fin 2) (n k : Fin 2048) : scR Q K (ix4 h b n k)
    = if k.val ≤ n.val then ∑ d : Fin 256, Q (ix3 h (row b n) d) * K (ix3 h (row b k) d) else ⊥ := by
  unfold scR; pointwise
  rw [msk_at, sel_at]
  simp only [row_eq]
  have e : id (constant S_ FTy.f32 4286578688#32 : FVec Ideal S_ .f32) ix0 = ⊥ := neg_inf
  rw [e]

theorem mx_at (S : FVec Ideal S16x2x2048x2048 .f32) (h : Fin 16) (b : Fin 2) (n : Fin 2048) : mxR S (ix3 h b n) = Finset.univ.fold max ⊥ (fun k : Fin 2048 => S (ix4 h b n k)) := by
  refine (Host.reduce_eq_fold (FloatOps.maximumf (F := Ideal) (φ := .f32)) S _ _ _ _).trans ?_
  refine (Shape.ReducesTo.fold_fiber_r4_a3 reducesTo_S16x2x2048x2048_S16x2x2048_d3 (ix3 h b n) _ _ _).trans ?_
  have e : (constant S_ .f32 0xFF800000#32 : FVec Ideal S_ .f32) (Shape.Idx.first h_S_) = ⊥ := neg_inf
  rw [e]
  rfl

theorem exW_at (S : FVec Ideal S16x2x2048x2048 .f32) (Z : FVec Ideal S16x2x2048 .f32) (h : Fin 16) (b : Fin 2) (n k : Fin 2048) : exW S Z (ix4 h b n k) = Ideal.exp (S (ix4 h b n k) - Z (ix3 h b n)) := by
  unfold exW; pointwise
  rw [neg_inf, max_eq_right bot_le]

theorem ex_at (S : FVec Ideal S16x2x2048x2048 .f32) (h : Fin 16) (b : Fin 2) (n k : Fin 2048) : exR S (ix4 h b n k) = Ideal.exp (S (ix4 h b n k) - Finset.univ.fold max ⊥ (fun j : Fin 2048 => S (ix4 h b n j))) :=
  (exW_at S (mxR S) h b n k).trans (congrArg (fun z => Ideal.exp (S (ix4 h b n k) - z)) (mx_at S h b n))

theorem sm_at (S : FVec Ideal S16x2x2048x2048 .f32) (h : Fin 16) (b : Fin 2) (n : Fin 2048) : smR S (ix4 h b n 0) = ∑ k : Fin 2048, S (ix4 h b n k) := by
  unfold smR; pointwise

theorem g_at (D : FVec Ideal S4096x2048 .bf16) (V : FVec Ideal S16x4096x128 .bf16) (h : Fin 16) (b : Fin 2) (n k : Fin 2048) : gR D V (ix4 h b n k)
    = ∑ d : Fin 128, D (ix2 (row b n) (col h d)) * V (ix3 h (row b k) d) := by
  unfold gR; pointwise
  simp only [row_eq, col_eq]

theorem ds_at (X G : FVec Ideal S16x2x2048x2048 .f32) (h : Fin 16) (b : Fin 2) (n k : Fin 2048) : dsR X G (ix4 h b n k)
    = if k.val ≤ n.val then (Ideal.div (G (ix4 h b n k)) (smR X (ix4 h b n 0))
        + -∑ j : Fin 2048, G (ix4 h b n j) * Ideal.div 1 (smR X (ix4 h b n 0) * smR X (ix4 h b n 0)) * X (ix4 h b n j)) * X (ix4 h b n k) else 0 := by
  unfold dsR; pointwise
  rw [msk_at, sel_at, Fin.sum_univ_one]

theorem q_at (S : FVec Ideal S16x2x2048x2048 .f32) (K : FVec Ideal S16x4096x256 .bf16) (h : Fin 16) (b : Fin 2) (n : Fin 2048) (e : Fin 256) :
    qR S K (ix3 h (row b n) e) = ∑ k : Fin 2048, S (ix4 h b n k) * K (ix3 h (row b k) e) := by
  unfold qR; pointwise
  simp only [row_div, row_mod, row_eq]

theorem k_at (S : FVec Ideal S16x2x2048x2048 .f32) (Q : FVec Ideal S16x4096x256 .bf16) (h : Fin 16) (b : Fin 2) (k : Fin 2048) (e : Fin 256) :
    kR S Q (ix3 h (row b k) e) = ∑ n : Fin 2048, S (ix4 h b n k) * Q (ix3 h (row b n) e) := by
  unfold kR; pointwise
  simp only [row_div, row_mod, row_eq]

theorem v_at (X : FVec Ideal S16x2x2048x2048 .f32) (D : FVec Ideal S4096x2048 .bf16) (h : Fin 16) (b : Fin 2) (k : Fin 2048) (e : Fin 128) :
    vR D X (ix3 h (row b k) e) = ∑ n : Fin 2048, D (ix2 (row b n) (col h e)) * Ideal.div (X (ix4 h b n k)) (smR X (ix4 h b n 0)) := by
  unfold vR; pointwise
  simp only [row_div, row_mod, row_eq, col_eq]

variable (m : (ℓ : Loc nD τ sig) → Buf (Elt Ideal) ℓ)

theorem out0 (c : Dev nD) : Value.res_out0 m c = qR (dsR (exR (scR (m ((c : Thread nD τ).loc main_arg0)) (m ((c : Thread nD τ).loc main_arg1)))) (gR (m ((c : Thread nD τ).loc main_arg3)) (m ((c : Thread nD τ).loc main_arg2)))) (m ((c : Thread nD τ).loc main_arg1)) := rfl

theorem out1 (c : Dev nD) : Value.res_out1 m c = kR (dsR (exR (scR (m ((c : Thread nD τ).loc main_arg0)) (m ((c : Thread nD τ).loc main_arg1)))) (gR (m ((c : Thread nD τ).loc main_arg3)) (m ((c : Thread nD τ).loc main_arg2)))) (m ((c : Thread nD τ).loc main_arg0)) := rfl

theorem out2 (c : Dev nD) : Value.res_out2 m c = vR (m ((c : Thread nD τ).loc main_arg3)) (exR (scR (m ((c : Thread nD τ).loc main_arg0)) (m ((c : Thread nD τ).loc main_arg1)))) := rfl

end Cert.ReferenceIdeal.Bwd
end
-- ==== Proof.BwdHost.lean ====
/- What the attention's backward kernel is handed beside its arguments: the log-sum-exp of every row of scores, and every row's product of output and output gradient. -/
module

public import proofs.«01_k».proof.Proof.BwdIn
public import proofs.«01_k».proof.Proof.BwdRef
public import Idealize.ShloMosaic.Lib.StableHlo.RunRead

@[expose] public section

set_option maxRecDepth 16384

noncomputable section

namespace Cert.KernelIdeal.Bwd

open Cert.KernelIdeal Cert.KernelIdeal.Gen Idealize.ShloMosaic Idealize.ShloMosaic.TcCoe Idealize.SL.Sem
open Idealize.ShloMosaic.Pipeline (Dat)

open Cert.ReferenceIdeal.Bwd

def mxK (S : FVec Ideal S16x2x2048x2048 .f32) : FVec Ideal S16x2x2048 .f32 := Host.reduce FloatOps.maximumf S (constant S_ .f32 0xFF800000#32) reducesTo_S16x2x2048x2048_S16x2x2048_d3 h_S_

/-- A number for every row, as a column. -/
def colK (Z : FVec Ideal S16x2x2048 .f32) : FVec Ideal S16x2x2048x1 .f32 := broadcastInDim S16x2x2048x1 ![0, 1, 2] bcast_S16x2x2048_S16x2x2048x1_0_1_2 Z

def exK (S : FVec Ideal S16x2x2048x2048 .f32) (Z : FVec Ideal S16x2x2048 .f32) : FVec Ideal S16x2x2048x2048 .f32 :=
  Host.exp (subf S (broadcastInDim S16x2x2048x2048 ![0, 1, 2, 3] bcast_S16x2x2048x1_S16x2x2048x2048_0_1_2_3 (colK Z)))

def smK (X : FVec Ideal S16x2x2048x2048 .f32) : FVec Ideal S16x2x2048x1 .f32 :=
  colK (Host.reduceAdd X (constant S_ .f32 0#32) reducesTo_S16x2x2048x2048_S16x2x2048_d3 h_S_)

/-- The log-sum-exp of every row. -/
def lseK (Z : FVec Ideal S16x2x2048 .f32) (X : FVec Ideal S16x2x2048x2048 .f32) : FVec Ideal S16x4096x1 .f32 :=
  shapeCast S16x4096x1 (addf (colK Z) (Host.log (smK X))) shapeCasts_S16x2x2048x1_S16x4096x1

/-- The attention's output. -/
def oK (X : FVec Ideal S16x2x2048x2048 .f32) (V : FVec Ideal S16x2x2048x128 .f32) : FVec Ideal S16x2x2048x128 .f32 :=
  Host.dotGeneral dot_S16x2x2048x2048_S16x2x2048x128_S16x2x2048x128_3_2_2_3_01_01 none
    (Host.divf X (broadcastInDim S16x2x2048x2048 ![0, 1, 2, 3] bcast_S16x2x2048x1_S16x2x2048x2048_0_1_2_3 (smK X))) V

/-- Every row's product of output and output gradient. -/
def delK (D : FVec Ideal S4096x2048 .bf16) (O : FVec Ideal S16x2x2048x128 .f32) : FVec Ideal S16x4096x1 .f32 :=
  shapeCast S16x4096x1 (colK (Host.reduceAdd (mulf (transpose S16x2x2048x128 [2, 0, 1, 3]
    (shapeCast S2x2048x16x128 (extf .f32 D bitsLt_bf16_f32) shapeCasts_S4096x2048_S2x2048x16x128) transposes_S2x2048x16x128_S16x2x2048x128_2_0_1_3) O)
    (constant S_ .f32 0#32) reducesTo_S16x2x2048x128_S16x2x2048_d3 h_S_)) shapeCasts_S16x2x2048x1_S16x4096x1

def vK (V : FVec Ideal S16x4096x128 .bf16) : FVec Ideal S16x2x2048x128 .f32 := shapeCast S16x2x2048x128 (extf .f32 V bitsLt_bf16_f32) shapeCasts_S16x4096x128_S16x2x2048x128

section
variable (W : Valuation τ sig (Elt Ideal))
theorem lse_of : (StableHlo.after hostOps0_4 W (Proc.devRef .tc main_v28) : FVec Ideal S16x4096x1 .f32)
    = lseK (mxK (W (Proc.devRef .tc main_v9))) (exK (W (Proc.devRef .tc main_v9)) (mxK (W (Proc.devRef .tc main_v9)))) := by
  after_reads_simp
  rfl
theorem del_of : (StableHlo.after hostOps0_4 W (Proc.devRef .tc main_v29) : FVec Ideal S16x4096x1 .f32)
    = delK (W (Proc.devRef .tc main_arg3)) (oK (exK (W (Proc.devRef .tc main_v9)) (mxK (W (Proc.devRef .tc main_v9)))) (W (Proc.devRef .tc main_v5))) := by
  after_reads_simp
  rfl
theorem s_of : (StableHlo.after (hostOps0 ++ hostOps0_1 ++ hostOps0_2 ++ hostOps0_3) W (Proc.devRef .tc main_v9) : FVec Ideal S16x2x2048x2048 .f32)
    = scR (W (Proc.devRef .tc main_arg0)) (W (Proc.devRef .tc main_arg1)) := by
  after_reads_simp
  rfl
theorem d_of : (StableHlo.after (hostOps0 ++ hostOps0_1 ++ hostOps0_2 ++ hostOps0_3) W (Proc.devRef .tc main_arg3) : FVec Ideal S4096x2048 .bf16)
    = W (Proc.devRef .tc main_arg3) := by
  after_reads_simp
theorem v_of : (StableHlo.after (hostOps0 ++ hostOps0_1 ++ hostOps0_2 ++ hostOps0_3) W (Proc.devRef .tc main_v5) : FVec Ideal S16x2x2048x128 .f32)
    = vK (W (Proc.devRef .tc main_arg2)) := by
  after_reads_simp
  rfl
end

section
variable (S X : FVec Ideal S16x2x2048x2048 .f32) (Z : FVec Ideal S16x2x2048 .f32) (h : Fin 16) (b : Fin 2) (n k : Fin 2048)
theorem mxK_at : mxK S (ix3 h b n) = Finset.univ.fold max ⊥ (fun k : Fin 2048 => S (ix4 h b n k)) := mx_at S h b n
theorem exK_at : exK S Z (ix4 h b n k) = Ideal.exp (S (ix4 h b n k) - Z (ix3 h b n)) := by
  unfold exK colK; pointwise
theorem smK_at : smK X (ix4 h b n 0) = ∑ k : Fin 2048, X (ix4 h b n k) := by
  unfold smK colK; pointwise
theorem lseK_at : lseK Z X (ix3 h (row b n) 0) = Z (ix3 h b n) + Ideal.log (∑ k : Fin 2048, X (ix4 h b n k)) := by
  unfold lseK smK colK; pointwise
  simp only [row_div, row_mod, Fin.eta]
theorem oK_at (V : FVec Ideal S16x2x2048x128 .f32) (d : Fin 128) : oK X V (ix4 h b n d) = ∑ k : Fin 2048, Ideal.div (X (ix4 h b n k)) (∑ j : Fin 2048, X (ix4 h b n j)) * V (ix4 h b k d) := by
  unfold oK smK colK; pointwise
theorem vK_at (V : FVec Ideal S16x4096x128 .bf16) (d : Fin 128) : vK V (ix4 h b k d) = V (ix3 h (row b k) d) := by
  unfold vK; pointwise
  simp only [row_eq]
theorem delK_at (D : FVec Ideal S4096x2048 .bf16) (O : FVec Ideal S16x2x2048x128 .f32) : delK D O (ix3 h (row b n) 0)
    = ∑ d : Fin 128, D (ix2 (row b n) (col h d)) * O (ix4 h b n d) := by
  unfold delK colK; pointwise
  simp only [row_div, row_mod, row_eq, col_eq, Fin.eta]
end

variable (m : (ℓ : Loc nD τ sig) → Buf (Elt Ideal) ℓ)

theorem lseA_eq (c : Dev nD) : lseA m c = lseK (mxK (scR (m ((c : Thread nD τ).loc main_arg0)) (m ((c : Thread nD τ).loc main_arg1))))
    (exK (scR (m ((c : Thread nD τ).loc main_arg0)) (m ((c : Thread nD τ).loc main_arg1))) (mxK (scR (m ((c : Thread nD τ).loc main_arg0)) (m ((c : Thread nD τ).loc main_arg1))))) := by
  unfold lseA V
  rw [List.flatten_cons, List.flatten_cons, List.flatten_cons, List.flatten_cons, List.flatten_cons, List.flatten_nil, List.append_nil,
    ← List.append_assoc, ← List.append_assoc, ← List.append_assoc, StableHlo.after_append]
  refine (lse_of _).trans ?_
  rw [s_of]

theorem delA_eq (c : Dev nD) : delA m c = delK (m ((c : Thread nD τ).loc main_arg3))
    (oK (exK (scR (m ((c : Thread nD τ).loc main_arg0)) (m ((c : Thread nD τ).loc main_arg1))) (mxK (scR (m ((c : Thread nD τ).loc main_arg0)) (m ((c : Thread nD τ).loc main_arg1))))) (vK (m ((c : Thread nD τ).loc main_arg2)))) := by
  unfold delA V
  rw [List.flatten_cons, List.flatten_cons, List.flatten_cons, List.flatten_cons, List.flatten_cons, List.flatten_nil, List.append_nil,
    ← List.append_assoc, ← List.append_assoc, ← List.append_assoc, StableHlo.after_append]
  refine (del_of _).trans ?_
  rw [s_of, d_of, v_of]

end Cert.KernelIdeal.Bwd
end
-- ==== Proof.BwdOut.lean ====
/- What the attention backward kernel leaves in its three result arrays. -/
module

public import proofs.«01_k».proof.Proof.Gen.KernelIdeal.Value
public import proofs.«01_k».proof.Proof.BwdCell
public import proofs.«01_k».proof.Proof.BwdIn
public import Idealize.ShloMosaic.Lib.Pipeline.ReadBack

@[expose] public section

set_option maxRecDepth 16384

noncomputable section

namespace Cert.KernelIdeal.Bwd

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

theorem dk_cell (c : Dev nD) (t : Fin cfg0.N) (y : S1x512x256.Idx) (h : Fin 16) (b : Fin 2) (j : ℕ) (hj : j < 4) (hh : t.val / 8 = h.val) (hb : t.val % 8 / 4 = b.val) (ht : t.val % 4 = j) :
    (outsAt0 m c t.val t.isLt).2.1 y = ∑ r : Fin 2048, gB (m ((c : Thread nD τ).loc main_arg0)) (m ((c : Thread nD τ).loc main_arg1)) (m ((c : Thread nD τ).loc main_arg2)) (m ((c : Thread nD τ).loc main_arg3)) (lseA m c) (delA m c) h b r ⟨512 * j + (y 1).val, by have : (y 1).val < 512 := (y 1).isLt; omega⟩
      * (m ((c : Thread nD τ).loc main_arg0) : FVec Ideal S16x4096x256 .bf16) (ix3 h (row b r) (y 2)) := by
  have e : (outsAt0 m c t.val t.isLt).2.1 y = ∑ r : Fin 2048, dB j (iblk m c 0 t) (iblk m c 1 t) (iblk m c 2 t) (iblk m c 3 t) (iblk m c 4 t) (iblk m c 5 t) r (y 1) * (iblk m c 0 t : Vec Ideal S1x2048x256 .bf16) (ix3 0 r (y 2)) := by
    rcases (by omega : j = 0 ∨ j = 1 ∨ j = 2 ∨ j = 3) with rfl | rfl | rfl | rfl
    exacts [dk_A m c t ht y, dk_B m c t ht y, dk_C m c t ht y, dk_D m c t ht y]
  refine e.trans (Finset.sum_congr rfl fun r _ => ?_)
  exact congrArg₂ (· * ·) (dB_ib m c t h b j hj hh hb ht r (y 1)) (ib0 m c t h b j hj hh hb ht r (y 2))

theorem dv_cell (c : Dev nD) (t : Fin cfg0.N) (y : S1x512x128.Idx) (h : Fin 16) (b : Fin 2) (j : ℕ) (hj : j < 4) (hh : t.val / 8 = h.val) (hb : t.val % 8 / 4 = b.val) (ht : t.val % 4 = j) :
    (outsAt0 m c t.val t.isLt).2.2.1 y = ∑ r : Fin 2048, fB (m ((c : Thread nD τ).loc main_arg0)) (m ((c : Thread nD τ).loc main_arg1)) (lseA m c) h b r ⟨512 * j + (y 1).val, by have : (y 1).val < 512 := (y 1).isLt; omega⟩
      * (m ((c : Thread nD τ).loc main_arg3) : FVec Ideal S4096x2048 .bf16) (ix2 (row b r) (col h (y 2))) := by
  have e : (outsAt0 m c t.val t.isLt).2.2.1 y = ∑ r : Fin 2048, pB j (iblk m c 0 t) (iblk m c 1 t) (iblk m c 4 t) r (y 1) * (iblk m c 3 t : Vec Ideal S2048x128 .bf16) (ix2 r (y 2)) := by
    rcases (by omega : j = 0 ∨ j = 1 ∨ j = 2 ∨ j = 3) with rfl | rfl | rfl | rfl
    exacts [dv_A m c t ht y, dv_B m c t ht y, dv_C m c t ht y, dv_D m c t ht y]
  refine e.trans (Finset.sum_congr rfl fun r _ => ?_)
  exact congrArg₂ (· * ·) (pB_ib m c t h b j hj hh hb ht r (y 1)) (ib3 m c t h b j hj hh hb ht r (y 2))

/-- What key block `j` adds to the gradient of a query. -/
def addQ (c : Dev nD) (h : Fin 16) (b : Fin 2) (r : Fin 2048) (e : Fin 256) (j : Fin 4) : EReal :=
  ∑ k : Fin 512, gB (m ((c : Thread nD τ).loc main_arg0)) (m ((c : Thread nD τ).loc main_arg1)) (m ((c : Thread nD τ).loc main_arg2)) (m ((c : Thread nD τ).loc main_arg3)) (lseA m c) (delA m c) h b r ⟨512 * j.val + k.val, by have := k.isLt; have := j.isLt; omega⟩
    * (m ((c : Thread nD τ).loc main_arg1) : FVec Ideal S16x4096x256 .bf16) (ix3 h (row b ⟨512 * j.val + k.val, by have := k.isLt; have := j.isLt; omega⟩) e)

theorem q_cell (c : Dev nD) (t : Fin cfg0.N) (r : Fin 2048) (e : Fin 256) (h : Fin 16) (b : Fin 2) (j : Fin 4) (hh : t.val / 8 = h.val) (hb : t.val % 8 / 4 = b.val) (ht : t.val % 4 = j.val) :
    qB j.val (iblk m c 0 t) (iblk m c 1 t) (iblk m c 2 t) (iblk m c 3 t) (iblk m c 4 t) (iblk m c 5 t) r e = addQ m c h b r e j := by
  refine Finset.sum_congr rfl fun k _ => ?_
  exact congrArg₂ (· * ·) (dB_ib m c t h b j.val j.isLt hh hb ht r k) (ib1 m c t h b j.val j.isLt hh hb ht k e)

theorem dq_cell (c : Dev nD) (t : Fin cfg0.N) (r : Fin 2048) (e : Fin 256) (h : Fin 16) (b : Fin 2) (hh : t.val / 8 = h.val) (hb : t.val % 8 / 4 = b.val) (ht : t.val % 4 = 3) :
    (outsAt0 m c t.val t.isLt).1 (ix3 0 r e) = ∑ k : Fin 2048, gB (m ((c : Thread nD τ).loc main_arg0)) (m ((c : Thread nD τ).loc main_arg1)) (m ((c : Thread nD τ).loc main_arg2)) (m ((c : Thread nD τ).loc main_arg3)) (lseA m c) (delA m c) h b r k
      * (m ((c : Thread nD τ).loc main_arg1) : FVec Ideal S16x4096x256 .bf16) (ix3 h (row b k) e) := by
  have hN := t.isLt
  have e3 := (sq_D m c t ht r e).trans (congrArg (_ + ·) (q_cell m c t r e h b 3 hh hb ht))
  have e2 := (sq_C m c ⟨t.val - 1, by omega⟩ (by show (t.val - 1) % 4 = 2; omega) r e).trans
    (congrArg (_ + ·) (q_cell m c ⟨t.val - 1, by omega⟩ r e h b 2 (by show (t.val - 1) / 8 = _; omega) (by show (t.val - 1) % 8 / 4 = _; omega) (by show (t.val - 1) % 4 = 2; omega)))
  have e1 := (sq_B m c ⟨t.val - 1 - 1, by omega⟩ (by show (t.val - 1 - 1) % 4 = 1; omega) r e).trans
    (congrArg (_ + ·) (q_cell m c ⟨t.val - 1 - 1, by omega⟩ r e h b 1 (by show (t.val - 1 - 1) / 8 = _; omega) (by show (t.val - 1 - 1) % 8 / 4 = _; omega) (by show (t.val - 1 - 1) % 4 = 1; omega)))
  have e0 := (sq_A m c ⟨t.val - 1 - 1 - 1, by omega⟩ (by show (t.val - 1 - 1 - 1) % 4 = 0; omega) r e).trans
    (q_cell m c ⟨t.val - 1 - 1 - 1, by omega⟩ r e h b 0 (by show (t.val - 1 - 1 - 1) / 8 = _; omega) (by show (t.val - 1 - 1 - 1) % 8 / 4 = _; omega) (by show (t.val - 1 - 1 - 1) % 4 = 0; omega))
  refine (dq_D m c t ht r e).trans ((e3.trans (congrArg (· + _) (e2.trans (congrArg (· + _) (e1.trans (congrArg (· + _) e0)))))).trans ?_)
  refine (Fin.sum_univ_four (addQ m c h b r e)).symm.trans ?_
  refine Fin.sum_mul_add_congr fun s k hl => ?_
  simp only [Nat.mul_comm s.val 512]

theorem em6 (t : Fin cfg0.N) (r : Fin 2048) (d : Fin 256) (X : FVec Ideal S16x4096x256 .bf16) :
    (((cfg0.win 6).blk t).view.read (Elt Ideal) (X : ((cfg0.win 6).blk t).view.ty.Contents (Elt Ideal)) : Vec Ideal S1x2048x256 .bf16) (ix3 0 r d)
      = X (ix3 ⟨t.val / 8, by have := lt_of_lt_of_eq t.isLt N_0; omega⟩ (row ⟨t.val % 8 / 4, by omega⟩ r) d) := by
  blk_simp
  unfold row
  blk_ext [idx t]

theorem em7 (t : Fin cfg0.N) (y : S1x512x256.Idx) (X : FVec Ideal S16x4096x256 .bf16) :
    (((cfg0.win 7).blk t).view.read (Elt Ideal) (X : ((cfg0.win 7).blk t).view.ty.Contents (Elt Ideal)) : Vec Ideal S1x512x256 .bf16) y
      = X (ix3 ⟨t.val / 8, by have := lt_of_lt_of_eq t.isLt N_0; omega⟩ ⟨512 * (t.val % 8) + (y 1).val, by have : (y 1).val < 512 := (y 1).isLt; omega⟩ (y 2)) := by
  blk_simp
  blk_ext [idx t]

theorem em8 (t : Fin cfg0.N) (y : S1x512x128.Idx) (X : FVec Ideal S16x4096x128 .bf16) :
    (((cfg0.win 8).blk t).view.read (Elt Ideal) (X : ((cfg0.win 8).blk t).view.ty.Contents (Elt Ideal)) : Vec Ideal S1x512x128 .bf16) y
      = X (ix3 ⟨t.val / 8, by have := lt_of_lt_of_eq t.isLt N_0; omega⟩ ⟨512 * (t.val % 8) + (y 1).val, by have : (y 1).val < 512 := (y 1).isLt; omega⟩ (y 2)) := by
  blk_simp
  blk_ext [idx t]

theorem resQ_at (Q K : FVec Ideal S16x4096x256 .bf16) (V : FVec Ideal S16x4096x128 .bf16) (D : FVec Ideal S4096x2048 .bf16) (L E : FVec Ideal S16x4096x1 .f32)
    (h : Fin 16) (b : Fin 2) (n : Fin 2048) (i : Fin 4096) (hi : i.val = 2048 * b.val + n.val) (e : Fin 256) :
    resQ Q K V D L E (ix3 h i e) = ∑ k : Fin 2048, gB Q K V D L E h b n k * K (ix3 h (row b k) e) := by
  obtain rfl : i = row b n := Fin.ext hi
  have hn := n.isLt
  have e1 : (⟨(row b n).val / 2048, by have := (row b n).isLt; omega⟩ : Fin 2) = b := Fin.ext (by show (2048 * b.val + n.val) / 2048 = b.val; omega)
  have e2 : (⟨(row b n).val % 2048, by omega⟩ : Fin 2048) = n := Fin.ext (by show (2048 * b.val + n.val) % 2048 = n.val; omega)
  show (∑ _, _) = ∑ _, _
  refine Finset.sum_congr rfl fun k _ => ?_
  show gB Q K V D L E h ⟨(row b n).val / 2048, _⟩ ⟨(row b n).val % 2048, _⟩ k * K (ix3 h (row ⟨(row b n).val / 2048, _⟩ k) e) = _
  rw [e1, e2]

theorem resK_at (Q K : FVec Ideal S16x4096x256 .bf16) (V : FVec Ideal S16x4096x128 .bf16) (D : FVec Ideal S4096x2048 .bf16) (L E : FVec Ideal S16x4096x1 .f32)
    (h : Fin 16) (b : Fin 2) (n : Fin 2048) (i : Fin 4096) (hi : i.val = 2048 * b.val + n.val) (e : Fin 256) :
    resK Q K V D L E (ix3 h i e) = ∑ r : Fin 2048, gB Q K V D L E h b r n * Q (ix3 h (row b r) e) := by
  obtain rfl : i = row b n := Fin.ext hi
  have hn := n.isLt
  have e1 : (⟨(row b n).val / 2048, by have := (row b n).isLt; omega⟩ : Fin 2) = b := Fin.ext (by show (2048 * b.val + n.val) / 2048 = b.val; omega)
  have e2 : (⟨(row b n).val % 2048, by omega⟩ : Fin 2048) = n := Fin.ext (by show (2048 * b.val + n.val) % 2048 = n.val; omega)
  show (∑ _, _) = ∑ _, _
  refine Finset.sum_congr rfl fun k _ => ?_
  show gB Q K V D L E h ⟨(row b n).val / 2048, _⟩ k ⟨(row b n).val % 2048, _⟩ * Q (ix3 h (row ⟨(row b n).val / 2048, _⟩ k) e) = _
  rw [e1, e2]

theorem resV_at (Q K : FVec Ideal S16x4096x256 .bf16) (D : FVec Ideal S4096x2048 .bf16) (L : FVec Ideal S16x4096x1 .f32)
    (h : Fin 16) (b : Fin 2) (n : Fin 2048) (i : Fin 4096) (hi : i.val = 2048 * b.val + n.val) (e : Fin 128) :
    resV Q K D L (ix3 h i e) = ∑ r : Fin 2048, fB Q K L h b r n * D (ix2 (row b r) (col h e)) := by
  obtain rfl : i = row b n := Fin.ext hi
  have hn := n.isLt
  have e1 : (⟨(row b n).val / 2048, by have := (row b n).isLt; omega⟩ : Fin 2) = b := Fin.ext (by show (2048 * b.val + n.val) / 2048 = b.val; omega)
  have e2 : (⟨(row b n).val % 2048, by omega⟩ : Fin 2048) = n := Fin.ext (by show (2048 * b.val + n.val) % 2048 = n.val; omega)
  show (∑ _, _) = ∑ _, _
  refine Finset.sum_congr rfl fun k _ => ?_
  show fB Q K L h ⟨(row b n).val / 2048, _⟩ k ⟨(row b n).val % 2048, _⟩ * D (ix2 (row ⟨(row b n).val / 2048, _⟩ k) (col h e)) = _
  rw [e1, e2]

theorem final_dk (c : Dev nD) : (dats m 0 c).arrAt 7 cfg0.N = resK (m ((c : Thread nD τ).loc main_arg0)) (m ((c : Thread nD τ).loc main_arg1)) (m ((c : Thread nD τ).loc main_arg2)) (m ((c : Thread nD τ).loc main_arg3)) (lseA m c) (delA m c) := by
  refine (dats m 0 c).arrAt_eq_of_covers 7 _ (by decide +kernel) fun t hf y => ?_
  blk_simp
  rw [after0_7]
  have hN : t.val < 128 := lt_of_lt_of_eq t.isLt N_0
  have hy : ((y : S1x512x256.Idx) 1).val < 512 := ((y : S1x512x256.Idx) 1).isLt
  refine (dk_cell m c t y ⟨t.val / 8, by omega⟩ ⟨t.val % 8 / 4, by omega⟩ (t.val % 4) (by omega) rfl rfl rfl).trans (Eq.trans ?_ (em7 t y (resK (m ((c : Thread nD τ).loc main_arg0)) (m ((c : Thread nD τ).loc main_arg1)) (m ((c : Thread nD τ).loc main_arg2)) (m ((c : Thread nD τ).loc main_arg3)) (lseA m c) (delA m c))).symm)
  exact (resK_at _ _ _ _ _ _ _ ⟨t.val % 8 / 4, by omega⟩ ⟨512 * (t.val % 4) + ((y : S1x512x256.Idx) 1).val, by omega⟩ ⟨512 * (t.val % 8) + ((y : S1x512x256.Idx) 1).val, by omega⟩ (by show 512 * (t.val % 8) + _ = 2048 * (t.val % 8 / 4) + (512 * (t.val % 4) + _); omega) _).symm

theorem final_dv (c : Dev nD) : (dats m 0 c).arrAt 8 cfg0.N = resV (m ((c : Thread nD τ).loc main_arg0)) (m ((c : Thread nD τ).loc main_arg1)) (m ((c : Thread nD τ).loc main_arg3)) (lseA m c) := by
  refine (dats m 0 c).arrAt_eq_of_covers 8 _ (by decide +kernel) fun t hf y => ?_
  blk_simp
  rw [after0_8]
  have hN : t.val < 128 := lt_of_lt_of_eq t.isLt N_0
  have hy : ((y : S1x512x128.Idx) 1).val < 512 := ((y : S1x512x128.Idx) 1).isLt
  refine (dv_cell m c t y ⟨t.val / 8, by omega⟩ ⟨t.val % 8 / 4, by omega⟩ (t.val % 4) (by omega) rfl rfl rfl).trans (Eq.trans ?_ (em8 t y (resV (m ((c : Thread nD τ).loc main_arg0)) (m ((c : Thread nD τ).loc main_arg1)) (m ((c : Thread nD τ).loc main_arg3)) (lseA m c))).symm)
  exact (resV_at _ _ _ _ _ ⟨t.val % 8 / 4, by omega⟩ ⟨512 * (t.val % 4) + ((y : S1x512x128.Idx) 1).val, by omega⟩ ⟨512 * (t.val % 8) + ((y : S1x512x128.Idx) 1).val, by omega⟩ (by show 512 * (t.val % 8) + _ = 2048 * (t.val % 8 / 4) + (512 * (t.val % 4) + _); omega) _).symm

theorem final_dq (c : Dev nD) : (dats m 0 c).arrAt 6 cfg0.N = resQ (m ((c : Thread nD τ).loc main_arg0)) (m ((c : Thread nD τ).loc main_arg1)) (m ((c : Thread nD τ).loc main_arg2)) (m ((c : Thread nD τ).loc main_arg3)) (lseA m c) (delA m c) := by
  refine (dats m 0 c).arrAt_eq_of_covers 6 _ (by decide +kernel) fun t hf y => ?_
  have ht : t.val % 4 = 3 := (flush0_6 t).mp hf
  obtain ⟨r, d, hy⟩ : ∃ (r : Fin 2048) (d : Fin 256), (y : S1x2048x256.Idx) = ix3 0 r d := ⟨y 1, y 2, (eq_ix3 (y : S1x2048x256.Idx)).trans (congrArg (fun a : Fin 1 => (ix3 a ((y : S1x2048x256.Idx) 1) ((y : S1x2048x256.Idx) 2) : S1x2048x256.Idx)) (Subsingleton.elim _ _))⟩
  blk_simp
  rw [after0_6]
  have hN : t.val < 128 := lt_of_lt_of_eq t.isLt N_0
  subst hy
  refine (dq_cell m c t r d ⟨t.val / 8, by omega⟩ ⟨t.val % 8 / 4, by omega⟩ rfl rfl ht).trans (Eq.trans ?_ (em6 t r d (resQ (m ((c : Thread nD τ).loc main_arg0)) (m ((c : Thread nD τ).loc main_arg1)) (m ((c : Thread nD τ).loc main_arg2)) (m ((c : Thread nD τ).loc main_arg3)) (lseA m c) (delA m c))).symm)
  exact (resQ_at _ _ _ _ _ _ _ ⟨t.val % 8 / 4, by omega⟩ r _ rfl _).symm

end Cert.KernelIdeal.Bwd
end
-- ==== Proof.BwdEq.lean ====
/- The gradients the attention's backward kernel writes are the reference's, where every argument is a real number. -/
module

public import proofs.«01_k».proof.Proof.BwdHost
public import proofs.«01_k».proof.Proof.BwdOut
public import proofs.«01_k».proof.Proof.Row

@[expose] public section

set_option maxRecDepth 16384

noncomputable section

namespace Cert.KernelIdeal.Bwd

open Cert.KernelIdeal Cert.KernelIdeal.Gen Idealize.ShloMosaic Idealize.ShloMosaic.TcCoe Idealize.SL.Sem
open Idealize.ShloMosaic.Pipeline (Dat)

open Cert.ReferenceIdeal.Bwd

section
variable (q k : S16x4096x256.Idx → ℝ) (v : S16x4096x128.Idx → ℝ) (d : S4096x2048.Idx → ℝ)

/-- An array of real numbers as an array of extended reals. -/
def up {S : Shape} {φ : FTy} (x : S.Idx → ℝ) : FVec Ideal S φ := fun i => ((x i : ℝ) : EReal)

/-- A score, and a gradient of a probability. -/
def sB (h : Fin 16) (b : Fin 2) (n j : Fin 2048) : ℝ := ∑ e : Fin 256, q (ix3 h (row b n) e) * k (ix3 h (row b j) e)
def oB (h : Fin 16) (b : Fin 2) (n j : Fin 2048) : ℝ := ∑ e : Fin 128, d (ix2 (row b n) (col h e)) * v (ix3 h (row b j) e)

variable (h : Fin 16) (b : Fin 2) (n j : Fin 2048)

theorem sc_up : (if j.val ≤ n.val then ∑ e : Fin 256, (up q : FVec Ideal S16x4096x256 .bf16) (ix3 h (row b n) e) * (up k : FVec Ideal S16x4096x256 .bf16) (ix3 h (row b j) e) else ⊥) = Row.sc n (sB q k h b n) j := by
  unfold Row.sc
  split
  · exact Row.coe_mul_sum _ _
  · rfl

theorem scR_up : scR (up q) (up k) (ix4 h b n j) = Row.sc n (sB q k h b n) j := (sc_at _ _ h b n j).trans (sc_up q k h b n j)

theorem mx_up : Finset.univ.fold max ⊥ (fun i : Fin 2048 => scR (up q) (up k) (ix4 h b n i)) = (Row.mu n (sB q k h b n) : EReal) := by
  have e : (fun i : Fin 2048 => scR (up q) (up k) (ix4 h b n i)) = Row.sc n (sB q k h b n) := funext fun i => scR_up q k h b n i
  rw [e, Row.mu_spec]

theorem exR_up : exR (scR (up q) (up k)) (ix4 h b n j) = (Row.ex n (sB q k h b n) j : EReal) := by
  rw [ex_at, mx_up, scR_up, Row.exp_sc]

theorem smR_up : smR (exR (scR (up q) (up k))) (ix4 h b n 0) = (Row.sm n (sB q k h b n) : EReal) := by
  rw [sm_at]
  simp only [exR_up]
  exact Row.sum_exp _ _

theorem exK_up : exK (scR (up q) (up k)) (mxK (scR (up q) (up k))) (ix4 h b n j) = (Row.ex n (sB q k h b n) j : EReal) := by
  rw [exK_at, mxK_at, mx_up, scR_up, Row.exp_sc]

theorem lse_up : lseK (mxK (scR (up q) (up k))) (exK (scR (up q) (up k)) (mxK (scR (up q) (up k)))) (ix3 h (row b n) 0)
    = ((Row.mu n (sB q k h b n) + Real.log (Row.sm n (sB q k h b n)) : ℝ) : EReal) := by
  rw [lseK_at, mxK_at, mx_up]
  simp only [exK_up]
  rw [Row.sum_exp, Row.lse_real]

theorem o_up (e : Fin 128) : oK (exK (scR (up q) (up k)) (mxK (scR (up q) (up k)))) (vK (up v)) (ix4 h b n e)
    = ((∑ i, Row.ex n (sB q k h b n) i / Row.sm n (sB q k h b n) * v (ix3 h (row b i) e) : ℝ) : EReal) := by
  rw [oK_at]
  simp only [exK_up, vK_at, Row.sum_exp]
  refine Eq.trans (Finset.sum_congr rfl fun i _ => ?_) (Row.coe_mul_sum _ _)
  rw [Row.div_real _ _ (Row.sm_pos _ _).ne']
  rfl

theorem del_up : delK (up d) (oK (exK (scR (up q) (up k)) (mxK (scR (up q) (up k)))) (vK (up v))) (ix3 h (row b n) 0)
    = ((∑ i, Row.ex n (sB q k h b n) i / Row.sm n (sB q k h b n) * oB v d h b n i : ℝ) : EReal) := by
  rw [delK_at]
  simp only [o_up]
  refine Eq.trans (Row.coe_mul_sum (fun e : Fin 128 => d (ix2 (row b n) (col h e))) _) ?_
  exact congrArg _ (Row.delta (fun i => Row.ex n (sB q k h b n) i / Row.sm n (sB q k h b n)) (fun e => d (ix2 (row b n) (col h e))) (fun i e => v (ix3 h (row b i) e)))

section
variable (L E : FVec Ideal S16x4096x1 .f32)
  (hL : ∀ h b n, L (ix3 h (row b n) 0) = ((Row.mu n (sB q k h b n) + Real.log (Row.sm n (sB q k h b n)) : ℝ) : EReal))
  (hE : ∀ h b n, E (ix3 h (row b n) 0) = ((∑ i, Row.ex n (sB q k h b n) i / Row.sm n (sB q k h b n) * oB v d h b n i : ℝ) : EReal))
include hL

theorem fB_up : fB (up q) (up k) L h b n j = ((Row.ex n (sB q k h b n) j / Row.sm n (sB q k h b n) : ℝ) : EReal) := by
  unfold fB
  rw [sc_up, hL, Row.prob]

include hE
theorem gB_up : gB (up q) (up k) (up v) (up d) L E h b n j = dsR (exR (scR (up q) (up k))) (gR (up d) (up v)) (ix4 h b n j) := by
  have eg : ∀ i : Fin 2048, gR (up d) (up v) (ix4 h b n i) = (oB v d h b n i : EReal) := fun i => (g_at _ _ h b n i).trans (Row.coe_mul_sum _ _)
  rw [ds_at]
  simp only [smR_up, eg, exR_up]
  unfold gB
  rw [fB_up q k h b n j L hL, hE]
  refine Eq.trans ?_ (Row.grad n (sB q k h b n) (oB v d h b n) j)
  exact congrArg (fun z => _ * (z - _)) (Row.coe_mul_sum _ _)

theorem resQ_up : resQ (up q) (up k) (up v) (up d) L E = qR (dsR (exR (scR (up q) (up k))) (gR (up d) (up v))) (up k) := by
  have key : ∀ (h : Fin 16) (b : Fin 2) (n : Fin 2048) (e : Fin 256), resQ (up q) (up k) (up v) (up d) L E (ix3 h (row b n) e) = qR (dsR (exR (scR (up q) (up k))) (gR (up d) (up v))) (up k) (ix3 h (row b n) e) := fun h b n e => by
    rw [q_at, resQ_at _ _ _ _ _ _ h b n (row b n) rfl e]
    exact Finset.sum_congr rfl fun i _ => congrArg (· * _) (gB_up q k v d h b n i L E hL hE)
  funext i
  have hi : i = ix3 (i 0) (row ⟨(i 1).val / 2048, by have : (i 1).val < 4096 := (i 1).isLt; omega⟩ ⟨(i 1).val % 2048, by omega⟩) (i 2) := by
    funext a
    fin_cases a <;> first | rfl | exact Fin.ext (by simp [row]; omega)
  rw [hi]; exact key _ _ _ _

theorem resK_up : resK (up q) (up k) (up v) (up d) L E = kR (dsR (exR (scR (up q) (up k))) (gR (up d) (up v))) (up q) := by
  have key : ∀ (h : Fin 16) (b : Fin 2) (n : Fin 2048) (e : Fin 256), resK (up q) (up k) (up v) (up d) L E (ix3 h (row b n) e) = kR (dsR (exR (scR (up q) (up k))) (gR (up d) (up v))) (up q) (ix3 h (row b n) e) := fun h b n e => by
    rw [k_at, resK_at _ _ _ _ _ _ h b n (row b n) rfl e]
    exact Finset.sum_congr rfl fun i _ => congrArg (· * _) (gB_up q k v d h b i n L E hL hE)
  funext i
  have hi : i = ix3 (i 0) (row ⟨(i 1).val / 2048, by have : (i 1).val < 4096 := (i 1).isLt; omega⟩ ⟨(i 1).val % 2048, by omega⟩) (i 2) := by
    funext a
    fin_cases a <;> first | rfl | exact Fin.ext (by simp [row]; omega)
  rw [hi]; exact key _ _ _ _

omit hE in
theorem resV_up : resV (up q) (up k) (up d) L = vR (up d) (exR (scR (up q) (up k))) := by
  have key : ∀ (h : Fin 16) (b : Fin 2) (n : Fin 2048) (e : Fin 128), resV (up q) (up k) (up d) L (ix3 h (row b n) e) = vR (up d) (exR (scR (up q) (up k))) (ix3 h (row b n) e) := fun h b n e => by
    rw [v_at, resV_at _ _ _ _ h b n (row b n) rfl e]
    refine Finset.sum_congr rfl fun i _ => ?_
    rw [fB_up q k h b i n L hL, smR_up, exR_up, Row.div_real _ _ (Row.sm_pos _ _).ne', mul_comm]
  funext i
  have hi : i = ix3 (i 0) (row ⟨(i 1).val / 2048, by have : (i 1).val < 4096 := (i 1).isLt; omega⟩ ⟨(i 1).val % 2048, by omega⟩) (i 2) := by
    funext a
    fin_cases a <;> first | rfl | exact Fin.ext (by simp [row]; omega)
  rw [hi]; exact key _ _ _ _
end
end

end Cert.KernelIdeal.Bwd
end
-- ==== Proof.FwdOut.lean ====
/- What the attention forward kernel leaves at each grid point, in terms of the arrays it is handed. -/
module

public import proofs.«01_k».proof.Proof.Gen.FlashFwdIdeal.Value
public import proofs.«01_k».proof.Proof.FwdBlock
public import proofs.«01_k».proof.Proof.BwdEq
public import Idealize.ShloMosaic.Lib.Pipeline.ValueKit
public import Idealize.ShloMosaic.Lib.WritesUnit
public import Idealize.ShloMosaic.Lib.Pipeline.ReadBack

@[expose] public section

set_option maxRecDepth 16384

noncomputable section

namespace Cert.FlashFwdIdeal.Fwd

open Cert.FlashFwdIdeal Cert.FlashFwdIdeal.Gen Idealize.ShloMosaic Idealize.ShloMosaic.TcCoe Idealize.SL.Sem

open Idealize.ShloMosaic.Pipeline (Dat)
open Cert.KernelIdeal.Bwd (row col sB up)

variable (m : (ℓ : Loc nD τ sig) → Buf (Elt Ideal) ℓ)

theorem idx : ∀ t : Fin cfg0.N, win0_0.index t = ![t.val / 8, t.val % 8, 0] ∧ win0_1.index t = ![t.val / 8, t.val % 8 / 4, 0]
    ∧ win0_2.index t = ![t.val / 8, t.val % 8 / 4, 0] ∧ win0_4.index t = ![t.val % 8, t.val / 8] ∧ win0_6.index t = ![t.val / 8, t.val % 8, 0] :=
  (by decide +kernel : ∀ t : Fin grid0.N, _)

theorem rd0 (t : Fin cfg0.N) (r : Fin 512) (d : Fin 256) (X : FVec Ideal S16x4096x256 .bf16) :
    (((cfg0.win 0).blk t).view.read (Elt Ideal) (X : ((cfg0.win 0).blk t).view.ty.Contents (Elt Ideal)) : Vec Ideal S1x512x256 .bf16) (ix3 0 r d) = X (ix3 ⟨t.val / 8, by have := lt_of_lt_of_eq t.isLt N_0; omega⟩ ⟨512 * (t.val % 8) + r.val, by have := r.isLt; omega⟩ d) := by
  blk_simp
  blk_ext [idx t]

theorem rd1 (t : Fin cfg0.N) (r : Fin 2048) (d : Fin 256) (X : FVec Ideal S16x4096x256 .bf16) :
    (((cfg0.win 1).blk t).view.read (Elt Ideal) (X : ((cfg0.win 1).blk t).view.ty.Contents (Elt Ideal)) : Vec Ideal S1x2048x256 .bf16) (ix3 0 r d) = X (ix3 ⟨t.val / 8, by have := lt_of_lt_of_eq t.isLt N_0; omega⟩ ⟨2048 * (t.val % 8 / 4) + r.val, by have := r.isLt; omega⟩ d) := by
  blk_simp
  blk_ext [idx t]

theorem rd2 (t : Fin cfg0.N) (r : Fin 2048) (d : Fin 128) (X : FVec Ideal S16x4096x128 .bf16) :
    (((cfg0.win 2).blk t).view.read (Elt Ideal) (X : ((cfg0.win 2).blk t).view.ty.Contents (Elt Ideal)) : Vec Ideal S1x2048x128 .bf16) (ix3 0 r d) = X (ix3 ⟨t.val / 8, by have := lt_of_lt_of_eq t.isLt N_0; omega⟩ ⟨2048 * (t.val % 8 / 4) + r.val, by have := r.isLt; omega⟩ d) := by
  blk_simp
  blk_ext [idx t]

theorem rd4 (t : Fin cfg0.N) (r : Fin 512) (d : Fin 128) (X : FVec Ideal S4096x2048 .f32) :
    (((cfg0.win 4).blk t).view.read (Elt Ideal) (X : ((cfg0.win 4).blk t).view.ty.Contents (Elt Ideal)) : Vec Ideal S512x128 .f32) (ix2 r d) = X (ix2 ⟨512 * (t.val % 8) + r.val, by have := r.isLt; omega⟩ ⟨128 * (t.val / 8) + d.val, by have := lt_of_lt_of_eq t.isLt N_0; have := d.isLt; omega⟩) := by
  blk_simp
  blk_ext [idx t]

theorem rd6 (t : Fin cfg0.N) (r : Fin 512) (X : FVec Ideal S16x4096x1 .f32) :
    (((cfg0.win 6).blk t).view.read (Elt Ideal) (X : ((cfg0.win 6).blk t).view.ty.Contents (Elt Ideal)) : Vec Ideal S1x512x1 .f32) (ix3 0 r 0) = X (ix3 ⟨t.val / 8, by have := lt_of_lt_of_eq t.isLt N_0; omega⟩ ⟨512 * (t.val % 8) + r.val, by have := r.isLt; omega⟩ 0) := by
  blk_simp
  blk_ext [idx t]

theorem ld256_0_512 (X : Vec Ideal S1x2048x256 .bf16) (k : Fin 512) (d : Fin 256) :
    (View.ld X (Rect.unit ![0, 0, 0] ![1, 512, 256] inb_S1x2048x256_S1x512x256_0_0_0) : Vec Ideal S1x512x256 .bf16) (ix3 0 k d) = X (ix3 0 ⟨0 + k.val, by have := k.isLt; omega⟩ d) := by
  pointwise

theorem ld256_512_512 (X : Vec Ideal S1x2048x256 .bf16) (k : Fin 512) (d : Fin 256) :
    (View.ld X (Rect.unit ![0, 512, 0] ![1, 512, 256] inb_S1x2048x256_S1x512x256_0_512_0) : Vec Ideal S1x512x256 .bf16) (ix3 0 k d) = X (ix3 0 ⟨512 + k.val, by have := k.isLt; omega⟩ d) := by
  pointwise

theorem ld256_1024_512 (X : Vec Ideal S1x2048x256 .bf16) (k : Fin 512) (d : Fin 256) :
    (View.ld X (Rect.unit ![0, 1024, 0] ![1, 512, 256] inb_S1x2048x256_S1x512x256_0_1024_0) : Vec Ideal S1x512x256 .bf16) (ix3 0 k d) = X (ix3 0 ⟨1024 + k.val, by have := k.isLt; omega⟩ d) := by
  pointwise

theorem ld256_1536_512 (X : Vec Ideal S1x2048x256 .bf16) (k : Fin 512) (d : Fin 256) :
    (View.ld X (Rect.unit ![0, 1536, 0] ![1, 512, 256] inb_S1x2048x256_S1x512x256_0_1536_0) : Vec Ideal S1x512x256 .bf16) (ix3 0 k d) = X (ix3 0 ⟨1536 + k.val, by have := k.isLt; omega⟩ d) := by
  pointwise

theorem ld256_0_1024 (X : Vec Ideal S1x2048x256 .bf16) (k : Fin 1024) (d : Fin 256) :
    (View.ld X (Rect.unit ![0, 0, 0] ![1, 1024, 256] inb_S1x2048x256_S1x1024x256_0_0_0) : Vec Ideal S1x1024x256 .bf16) (ix3 0 k d) = X (ix3 0 ⟨0 + k.val, by have := k.isLt; omega⟩ d) := by
  pointwise

theorem ld256_0_1536 (X : Vec Ideal S1x2048x256 .bf16) (k : Fin 1536) (d : Fin 256) :
    (View.ld X (Rect.unit ![0, 0, 0] ![1, 1536, 256] inb_S1x2048x256_S1x1536x256_0_0_0) : Vec Ideal S1x1536x256 .bf16) (ix3 0 k d) = X (ix3 0 ⟨0 + k.val, by have := k.isLt; omega⟩ d) := by
  pointwise

theorem ld128_0_512 (X : Vec Ideal S1x2048x128 .bf16) (k : Fin 512) (d : Fin 128) :
    (View.ld X (Rect.unit ![0, 0, 0] ![1, 512, 128] inb_S1x2048x128_S1x512x128_0_0_0) : Vec Ideal S1x512x128 .bf16) (ix3 0 k d) = X (ix3 0 ⟨0 + k.val, by have := k.isLt; omega⟩ d) := by
  pointwise

theorem ld128_512_512 (X : Vec Ideal S1x2048x128 .bf16) (k : Fin 512) (d : Fin 128) :
    (View.ld X (Rect.unit ![0, 512, 0] ![1, 512, 128] inb_S1x2048x128_S1x512x128_0_512_0) : Vec Ideal S1x512x128 .bf16) (ix3 0 k d) = X (ix3 0 ⟨512 + k.val, by have := k.isLt; omega⟩ d) := by
  pointwise

theorem ld128_1024_512 (X : Vec Ideal S1x2048x128 .bf16) (k : Fin 512) (d : Fin 128) :
    (View.ld X (Rect.unit ![0, 1024, 0] ![1, 512, 128] inb_S1x2048x128_S1x512x128_0_1024_0) : Vec Ideal S1x512x128 .bf16) (ix3 0 k d) = X (ix3 0 ⟨1024 + k.val, by have := k.isLt; omega⟩ d) := by
  pointwise

theorem ld128_1536_512 (X : Vec Ideal S1x2048x128 .bf16) (k : Fin 512) (d : Fin 128) :
    (View.ld X (Rect.unit ![0, 1536, 0] ![1, 512, 128] inb_S1x2048x128_S1x512x128_0_1536_0) : Vec Ideal S1x512x128 .bf16) (ix3 0 k d) = X (ix3 0 ⟨1536 + k.val, by have := k.isLt; omega⟩ d) := by
  pointwise

theorem ld128_0_1024 (X : Vec Ideal S1x2048x128 .bf16) (k : Fin 1024) (d : Fin 128) :
    (View.ld X (Rect.unit ![0, 0, 0] ![1, 1024, 128] inb_S1x2048x128_S1x1024x128_0_0_0) : Vec Ideal S1x1024x128 .bf16) (ix3 0 k d) = X (ix3 0 ⟨0 + k.val, by have := k.isLt; omega⟩ d) := by
  pointwise

theorem ld128_0_1536 (X : Vec Ideal S1x2048x128 .bf16) (k : Fin 1536) (d : Fin 128) :
    (View.ld X (Rect.unit ![0, 0, 0] ![1, 1536, 128] inb_S1x2048x128_S1x1536x128_0_0_0) : Vec Ideal S1x1536x128 .bf16) (ix3 0 k d) = X (ix3 0 ⟨0 + k.val, by have := k.isLt; omega⟩ d) := by
  pointwise

/-- The blocks of queries, keys and values a grid point reads. -/
abbrev qB (c : Dev nD) (t : Fin cfg0.N) : Vec Ideal S1x512x256 .bf16 := iblk m c 0 t
abbrev kB (c : Dev nD) (t : Fin cfg0.N) : Vec Ideal S1x2048x256 .bf16 := iblk m c 1 t
abbrev vB (c : Dev nD) (t : Fin cfg0.N) : Vec Ideal S1x2048x128 .bf16 := iblk m c 2 t

section
variable (c : Dev nD) (t : Fin cfg0.N) (r : Fin 512) (n : Fin 2048) (s : Fin 2048 → ℝ)
  (hs : ∀ k : Fin 2048, ∑ d : Fin 256, qB m c t (ix3 0 r d) * kB m c t (ix3 0 k d) = (s k : EReal))
include hs

theorem att_A (h : t.val % 4 = 0) (hn : n.val = r.val) (e : Fin 128) (v : Fin 2048 → EReal) (hv : ∀ k : Fin 2048, vB m c t (ix3 0 k e) = v k) :
    (outsAt0 m c t.val t.isLt).1 (ix2 r e) = Ideal.div (∑ k, (Row.ex n s k : EReal) * v k) (Row.sm n s : EReal) := by
  rw [outsAt0_A m c t (by omega) (by omega) (by omega) (by omega)]
  frame_out
  exact o0 _ _ _ r n s hn (fun k => Eq.trans (Finset.sum_congr rfl fun d _ => congrArg _ (ld256_0_512 _ k d)) (by have := hs ⟨0 + k.val, by have := k.isLt; omega⟩; simpa using this)) e v (fun k => (ld128_0_512 _ k e).trans (by simpa using hv _))

theorem lse_A (h : t.val % 4 = 0) (hn : n.val = r.val) :
    (outsAt0 m c t.val t.isLt).2.2 (ix3 0 r 0) = (Row.mu n s : EReal) + Ideal.log (Row.sm n s : EReal) := by
  rw [outsAt0_A m c t (by omega) (by omega) (by omega) (by omega)]
  frame_out
  exact z0 _ _ r n s hn (fun k => Eq.trans (Finset.sum_congr rfl fun d _ => congrArg _ (ld256_0_512 _ k d)) (by have := hs ⟨0 + k.val, by have := k.isLt; omega⟩; simpa using this))

theorem att_B (h : t.val % 4 = 1) (hn : n.val = 512 + r.val) (e : Fin 128) (v : Fin 2048 → EReal) (hv : ∀ k : Fin 2048, vB m c t (ix3 0 k e) = v k) :
    (outsAt0 m c t.val t.isLt).1 (ix2 r e) = Ideal.div (∑ k, (Row.ex n s k : EReal) * v k) (Row.sm n s : EReal) := by
  rw [outsAt0_B m c t (by omega) (by omega) (by omega) (by omega)]
  frame_out
  exact o1 _ _ _ r n s _ _ hn (fun k => Eq.trans (Finset.sum_congr rfl fun d _ => congrArg _ (ld256_512_512 _ k d)) (hs _)) (fun k => Eq.trans (Finset.sum_congr rfl fun d _ => congrArg _ (ld256_0_512 _ k d)) (by have := hs ⟨k.val, by have := k.isLt; omega⟩; simpa using this)) e v (fun k => (ld128_512_512 _ k e).trans (hv _)) (fun k => (ld128_0_512 _ k e).trans (by simpa using hv _))

theorem lse_B (h : t.val % 4 = 1) (hn : n.val = 512 + r.val) :
    (outsAt0 m c t.val t.isLt).2.2 (ix3 0 r 0) = (Row.mu n s : EReal) + Ideal.log (Row.sm n s : EReal) := by
  rw [outsAt0_B m c t (by omega) (by omega) (by omega) (by omega)]
  frame_out
  exact z1 _ _ r n s _ hn (fun k => Eq.trans (Finset.sum_congr rfl fun d _ => congrArg _ (ld256_512_512 _ k d)) (hs _)) (fun k => Eq.trans (Finset.sum_congr rfl fun d _ => congrArg _ (ld256_0_512 _ k d)) (by have := hs ⟨k.val, by have := k.isLt; omega⟩; simpa using this))

theorem att_C (h : t.val % 4 = 2) (hn : n.val = 1024 + r.val) (e : Fin 128) (v : Fin 2048 → EReal) (hv : ∀ k : Fin 2048, vB m c t (ix3 0 k e) = v k) :
    (outsAt0 m c t.val t.isLt).1 (ix2 r e) = Ideal.div (∑ k, (Row.ex n s k : EReal) * v k) (Row.sm n s : EReal) := by
  rw [outsAt0_C m c t (by omega) (by omega) (by omega) (by omega)]
  frame_out
  exact o2 _ _ _ r n s _ _ hn (fun k => Eq.trans (Finset.sum_congr rfl fun d _ => congrArg _ (ld256_1024_512 _ k d)) (hs _)) (fun k => Eq.trans (Finset.sum_congr rfl fun d _ => congrArg _ (ld256_0_1024 _ k d)) (by have := hs ⟨k.val, by have := k.isLt; omega⟩; simpa using this)) e v (fun k => (ld128_1024_512 _ k e).trans (hv _)) (fun k => (ld128_0_1024 _ k e).trans (by simpa using hv _))

theorem lse_C (h : t.val % 4 = 2) (hn : n.val = 1024 + r.val) :
    (outsAt0 m c t.val t.isLt).2.2 (ix3 0 r 0) = (Row.mu n s : EReal) + Ideal.log (Row.sm n s : EReal) := by
  rw [outsAt0_C m c t (by omega) (by omega) (by omega) (by omega)]
  frame_out
  exact z2 _ _ r n s _ hn (fun k => Eq.trans (Finset.sum_congr rfl fun d _ => congrArg _ (ld256_1024_512 _ k d)) (hs _)) (fun k => Eq.trans (Finset.sum_congr rfl fun d _ => congrArg _ (ld256_0_1024 _ k d)) (by have := hs ⟨k.val, by have := k.isLt; omega⟩; simpa using this))

theorem att_D (h : t.val % 4 = 3) (hn : n.val = 1536 + r.val) (e : Fin 128) (v : Fin 2048 → EReal) (hv : ∀ k : Fin 2048, vB m c t (ix3 0 k e) = v k) :
    (outsAt0 m c t.val t.isLt).1 (ix2 r e) = Ideal.div (∑ k, (Row.ex n s k : EReal) * v k) (Row.sm n s : EReal) := by
  rw [outsAt0_D m c t (by omega) (by omega) (by omega) (by omega)]
  frame_out
  exact o3 _ _ _ r n s _ _ hn (fun k => Eq.trans (Finset.sum_congr rfl fun d _ => congrArg _ (ld256_1536_512 _ k d)) (hs _)) (fun k => Eq.trans (Finset.sum_congr rfl fun d _ => congrArg _ (ld256_0_1536 _ k d)) (by have := hs ⟨k.val, by have := k.isLt; omega⟩; simpa using this)) e v (fun k => (ld128_1536_512 _ k e).trans (hv _)) (fun k => (ld128_0_1536 _ k e).trans (by simpa using hv _))

theorem lse_D (h : t.val % 4 = 3) (hn : n.val = 1536 + r.val) :
    (outsAt0 m c t.val t.isLt).2.2 (ix3 0 r 0) = (Row.mu n s : EReal) + Ideal.log (Row.sm n s : EReal) := by
  rw [outsAt0_D m c t (by omega) (by omega) (by omega) (by omega)]
  frame_out
  exact z3 _ _ r n s _ hn (fun k => Eq.trans (Finset.sum_congr rfl fun d _ => congrArg _ (ld256_1536_512 _ k d)) (hs _)) (fun k => Eq.trans (Finset.sum_congr rfl fun d _ => congrArg _ (ld256_0_1536 _ k d)) (by have := hs ⟨k.val, by have := k.isLt; omega⟩; simpa using this))

/-- What a grid point leaves of the output and of the log-sum-exp. -/
theorem att_cell (hn : n.val = 512 * (t.val % 4) + r.val) (e : Fin 128) (v : Fin 2048 → EReal) (hv : ∀ k : Fin 2048, vB m c t (ix3 0 k e) = v k) :
    (outsAt0 m c t.val t.isLt).1 (ix2 r e) = Ideal.div (∑ k, (Row.ex n s k : EReal) * v k) (Row.sm n s : EReal) := by
  obtain h | h | h | h : t.val % 4 = 0 ∨ t.val % 4 = 1 ∨ t.val % 4 = 2 ∨ t.val % 4 = 3 := by omega
  · exact att_A m c t r n s hs h (by omega) e v hv
  · exact att_B m c t r n s hs h (by omega) e v hv
  · exact att_C m c t r n s hs h (by omega) e v hv
  · exact att_D m c t r n s hs h (by omega) e v hv

theorem lse_cell (hn : n.val = 512 * (t.val % 4) + r.val) :
    (outsAt0 m c t.val t.isLt).2.2 (ix3 0 r 0) = (Row.mu n s : EReal) + Ideal.log (Row.sm n s : EReal) := by
  obtain h | h | h | h : t.val % 4 = 0 ∨ t.val % 4 = 1 ∨ t.val % 4 = 2 ∨ t.val % 4 = 3 := by omega
  · exact lse_A m c t r n s hs h (by omega)
  · exact lse_B m c t r n s hs h (by omega)
  · exact lse_C m c t r n s hs h (by omega)
  · exact lse_D m c t r n s hs h (by omega)
end

section
variable (q k : S16x4096x256.Idx → ℝ) (v : FVec Ideal S16x4096x128 .bf16)

/-- The attention's output and its rows' log-sum-exps, of real arguments. -/
def attB (h : Fin 16) (b : Fin 2) (n : Fin 2048) (e : Fin 128) : EReal :=
  Ideal.div (∑ i, (Row.ex n (sB q k h b n) i : EReal) * v (ix3 h (row b i) e)) (Row.sm n (sB q k h b n) : EReal)
def lseB (h : Fin 16) (b : Fin 2) (n : Fin 2048) : EReal :=
  (Row.mu n (sB q k h b n) : EReal) + Ideal.log (Row.sm n (sB q k h b n) : EReal)

theorem attB_congr {h h' : Fin 16} {b b' : Fin 2} {n n' : Fin 2048} {e e' : Fin 128} (h1 : h = h') (h2 : b = b') (h3 : n = n') (h4 : e = e') :
    attB q k v h b n e = attB q k v h' b' n' e' := by subst h1 h2 h3 h4; rfl
theorem lseB_congr {h h' : Fin 16} {b b' : Fin 2} {n n' : Fin 2048} (h1 : h = h') (h2 : b = b') (h3 : n = n') :
    lseB q k h b n = lseB q k h' b' n' := by subst h1 h2 h3; rfl

def resA : FVec Ideal S4096x2048 .f32 := fun i => attB q k v ⟨(i 1).val / 128, by have : (i 1).val < 2048 := (i 1).isLt; omega⟩
  ⟨(i 0).val / 2048, by have : (i 0).val < 4096 := (i 0).isLt; omega⟩ ⟨(i 0).val % 2048, by omega⟩ ⟨(i 1).val % 128, by omega⟩
def resL : FVec Ideal S16x4096x1 .f32 := fun i => lseB q k (i 0) ⟨(i 1).val / 2048, by have : (i 1).val < 4096 := (i 1).isLt; omega⟩ ⟨(i 1).val % 2048, by omega⟩

theorem row_fst (b : Fin 2) (n : Fin 2048) (hb : (row b n).val / 2048 < 2) : (⟨(row b n).val / 2048, hb⟩ : Fin 2) = b :=
  Fin.ext (by show (2048 * b.val + n.val) / 2048 = b.val; have := n.isLt; omega)
theorem row_snd (b : Fin 2) (n : Fin 2048) (hb : (row b n).val % 2048 < 2048) : (⟨(row b n).val % 2048, hb⟩ : Fin 2048) = n :=
  Fin.ext (by show (2048 * b.val + n.val) % 2048 = n.val; have := n.isLt; omega)
theorem col_fst (h : Fin 16) (e : Fin 128) (hb : (col h e).val / 128 < 16) : (⟨(col h e).val / 128, hb⟩ : Fin 16) = h :=
  Fin.ext (by show (128 * h.val + e.val) / 128 = h.val; have := e.isLt; omega)
theorem col_snd (h : Fin 16) (e : Fin 128) (hb : (col h e).val % 128 < 128) : (⟨(col h e).val % 128, hb⟩ : Fin 128) = e :=
  Fin.ext (by show (128 * h.val + e.val) % 128 = e.val; have := e.isLt; omega)

theorem resA_at (h : Fin 16) (b : Fin 2) (n : Fin 2048) (e : Fin 128) : resA q k v (ix2 (row b n) (col h e)) = attB q k v h b n e := by
  show attB q k v ⟨(col h e).val / 128, _⟩ ⟨(row b n).val / 2048, _⟩ ⟨(row b n).val % 2048, _⟩ ⟨(col h e).val % 128, _⟩ = _
  exact attB_congr q k v (col_fst _ _ _) (row_fst _ _ _) (row_snd _ _ _) (col_snd _ _ _)

theorem resL_at (h : Fin 16) (b : Fin 2) (n : Fin 2048) : resL q k (ix3 h (row b n) 0) = lseB q k h b n := by
  show lseB q k h ⟨(row b n).val / 2048, _⟩ ⟨(row b n).val % 2048, _⟩ = _
  exact lseB_congr q k rfl (row_fst _ _ _) (row_snd _ _ _)

variable (c : Dev nD) (h0 : m ((c : Thread nD τ).loc main_arg0) = (up q : FVec Ideal S16x4096x256 .bf16)) (h1 : m ((c : Thread nD τ).loc main_arg1) = (up k : FVec Ideal S16x4096x256 .bf16))
include h0 h1

theorem scores (t : Fin cfg0.N) (r : Fin 512) (h : Fin 16) (b : Fin 2) (n : Fin 2048) (hh : t.val / 8 = h.val) (hb : t.val % 8 / 4 = b.val) (hn : n.val = 512 * (t.val % 4) + r.val) (j : Fin 2048) :
    ∑ d : Fin 256, qB m c t (ix3 0 r d) * kB m c t (ix3 0 j d) = (sB q k h b n j : EReal) := by
  have e0 : ∀ d : Fin 256, qB m c t (ix3 0 r d) = ((q (ix3 h (row b n) d) : ℝ) : EReal) := fun d => by
    refine (rd0 t r d ((m ((c : Thread nD τ).loc main_arg0) : FVec Ideal S16x4096x256 .bf16))).trans ?_
    rw [h0]
    refine congrArg (up q : FVec Ideal S16x4096x256 .bf16) ?_
    funext a
    fin_cases a <;> apply Fin.ext <;> simp [row] <;> omega
  have e1 : ∀ d : Fin 256, kB m c t (ix3 0 j d) = ((k (ix3 h (row b j) d) : ℝ) : EReal) := fun d => by
    refine (rd1 t j d ((m ((c : Thread nD τ).loc main_arg1) : FVec Ideal S16x4096x256 .bf16))).trans ?_
    rw [h1]
    refine congrArg (up k : FVec Ideal S16x4096x256 .bf16) ?_
    funext a
    fin_cases a <;> apply Fin.ext <;> simp [row] <;> omega
  simp only [e0, e1]
  exact Row.coe_mul_sum _ _

theorem final_att : (dats m 0 c).arrAt 4 cfg0.N = resA q k (m ((c : Thread nD τ).loc main_arg2)) := by
  refine (dats m 0 c).arrAt_eq_of_covers 4 _ (by decide +kernel) fun t hf y => ?_
  obtain ⟨r, e, hy⟩ : ∃ (r : Fin 512) (e : Fin 128), (y : S512x128.Idx) = ix2 r e := ⟨y 0, y 1, eq_ix2 (y : S512x128.Idx)⟩
  blk_simp
  rw [after0_4]
  have hN : t.val < 128 := lt_of_lt_of_eq t.isLt N_0
  have hr := r.isLt
  subst hy
  have hv : ∀ j : Fin 2048, vB m c t (ix3 0 j e) = (m ((c : Thread nD τ).loc main_arg2) : FVec Ideal S16x4096x128 .bf16) (ix3 ⟨t.val / 8, by omega⟩ (row ⟨t.val % 8 / 4, by omega⟩ j) e) := fun j => by
    exact rd2 t j e ((m ((c : Thread nD τ).loc main_arg2) : FVec Ideal S16x4096x128 .bf16))
  refine (att_cell m c t r ⟨512 * (t.val % 4) + r.val, by omega⟩ _ (scores m q k c h0 h1 t r ⟨t.val / 8, by omega⟩ ⟨t.val % 8 / 4, by omega⟩ ⟨512 * (t.val % 4) + r.val, by omega⟩ rfl rfl rfl) rfl e _ hv).trans ?_
  refine Eq.trans (resA_at q k (m ((c : Thread nD τ).loc main_arg2)) _ _ _ _).symm (Eq.trans (congrArg (resA q k (m ((c : Thread nD τ).loc main_arg2))) ?_) (rd4 t r e (resA q k (m ((c : Thread nD τ).loc main_arg2)))).symm)
  funext a
  fin_cases a <;> apply Fin.ext <;> simp [row, col] <;> omega

theorem final_lse : (dats m 0 c).arrAt 6 cfg0.N = resL q k := by
  refine (dats m 0 c).arrAt_eq_of_covers 6 _ (by decide +kernel) fun t hf y => ?_
  obtain ⟨r, hy⟩ : ∃ r : Fin 512, (y : S1x512x1.Idx) = ix3 0 r 0 := ⟨y 1, (eq_ix3 (y : S1x512x1.Idx)).trans (congrArg₂ (fun (a : Fin 1) (d : Fin 1) => (ix3 a ((y : S1x512x1.Idx) 1) d : S1x512x1.Idx)) (Subsingleton.elim _ _) (Subsingleton.elim _ _))⟩
  blk_simp
  rw [after0_6]
  have hN : t.val < 128 := lt_of_lt_of_eq t.isLt N_0
  have hr := r.isLt
  subst hy
  refine (lse_cell m c t r ⟨512 * (t.val % 4) + r.val, by omega⟩ _ (scores m q k c h0 h1 t r ⟨t.val / 8, by omega⟩ ⟨t.val % 8 / 4, by omega⟩ ⟨512 * (t.val % 4) + r.val, by omega⟩ rfl rfl rfl) rfl).trans ?_
  refine Eq.trans (resL_at q k _ _ _).symm (Eq.trans (congrArg (resL q k) ?_) (rd6 t r (resL q k)).symm)
  funext a
  fin_cases a <;> apply Fin.ext <;> simp [row] <;> omega
end

end Cert.FlashFwdIdeal.Fwd
end
-- ==== Proof.FwdRef.lean ====
/- The attention's output and log-sum-exps of the reference, of real arguments, and the kernel's. -/
module

public import proofs.«01_k».proof.Proof.Gen.FlashFwdReferenceIdeal.Run
public import proofs.«01_k».proof.Proof.FwdOut

@[expose] public section

set_option maxRecDepth 16384

noncomputable section

namespace Cert.FlashFwdReferenceIdeal.Fwd

open Cert.FlashFwdReferenceIdeal Cert.FlashFwdReferenceIdeal.Gen Idealize.ShloMosaic Idealize.ShloMosaic.TcCoe Idealize.SL.Sem Idealize.ShloMosaic.StableHlo
open Facts
open Cert.KernelIdeal.Bwd (row col sB up mxK exK oK lseK vK lse_up exK_up oK_at vK_at)
open Cert.ReferenceIdeal.Bwd (scR row_eq col_eq row_div row_mod)
open Cert.FlashFwdIdeal.Fwd (resA resL resA_at resL_at attB lseB)

/-- The heads' outputs as rows of tokens. -/
def rowsR (O : FVec Ideal S16x2x2048x128 .f32) : FVec Ideal S4096x2048 .f32 :=
  shapeCast S4096x2048 (transpose S2x2048x16x128 [1, 2, 0, 3] O transposes_S16x2x2048x128_S2x2048x16x128_1_2_0_3) shapeCasts_S2x2048x16x128_S4096x2048

theorem rows_at (O : FVec Ideal S16x2x2048x128 .f32) (h : Fin 16) (b : Fin 2) (n : Fin 2048) (e : Fin 128) : rowsR O (ix2 (row b n) (col h e)) = O (ix4 h b n e) := by
  unfold rowsR; pointwise
  exact congrArg O (by
    funext a
    fin_cases a <;> apply Fin.ext <;> simp [row, col] <;> omega)

/-- A positive number divides a sum term by term. -/
theorem div_sum {N : ℕ} (l : ℝ) (hl : 0 < l) (x : Fin N → ℝ) (v : Fin N → EReal) :
    Ideal.div (∑ k, (x k : EReal) * v k) (l : EReal) = ∑ k, Ideal.div (x k : EReal) (l : EReal) * v k := by
  have hc : (0 : EReal) ≤ ((1 / l : ℝ) : EReal) := by exact_mod_cast (by positivity)
  have e : ∀ (t : Finset (Fin N)) (f : Fin N → EReal), (∑ k ∈ t, f k) * ((1 / l : ℝ) : EReal) = ∑ k ∈ t, f k * ((1 / l : ℝ) : EReal) := by
    intro t f
    induction t using Finset.induction_on with
    | empty => simp
    | insert a t ha ih => rw [Finset.sum_insert ha, Finset.sum_insert ha, EReal.right_distrib_of_nonneg_of_ne_top hc (EReal.coe_ne_top _), ih]
  rw [Ideal.div_coe hl.ne', e]
  exact Finset.sum_congr rfl fun k _ => by rw [Ideal.div_coe hl.ne', mul_right_comm]

section
variable (q k : S16x4096x256.Idx → ℝ) (v : FVec Ideal S16x4096x128 .bf16)

theorem ix_row (i : Fin 4096) : ∃ (b : Fin 2) (n : Fin 2048), i = row b n :=
  ⟨⟨i.val / 2048, by have := i.isLt; omega⟩, ⟨i.val % 2048, by omega⟩, Fin.ext (by show i.val = 2048 * (i.val / 2048) + i.val % 2048; omega)⟩
theorem ix_col (i : Fin 2048) : ∃ (h : Fin 16) (e : Fin 128), i = col h e :=
  ⟨⟨i.val / 128, by have := i.isLt; omega⟩, ⟨i.val % 128, by omega⟩, Fin.ext (by show i.val = 128 * (i.val / 128) + i.val % 128; omega)⟩

theorem att_eq : rowsR (oK (exK (scR (up q) (up k)) (mxK (scR (up q) (up k)))) (vK v)) = resA q k v := by
  funext i
  obtain ⟨b, n, hi⟩ := ix_row (i 0)
  obtain ⟨h, e, hj⟩ := ix_col (i 1)
  have hI : i = ix2 (row b n) (col h e) := (eq_ix2 i).trans (by rw [hi, hj])
  subst hI
  rw [rows_at, oK_at, resA_at]
  simp only [exK_up, vK_at, Row.sum_exp]
  exact (div_sum (Row.sm n (sB q k h b n)) (Row.sm_pos _ _) (Row.ex n (sB q k h b n)) (fun j => v (ix3 h (row b j) e))).symm

theorem lse_eq : lseK (mxK (scR (up q) (up k))) (exK (scR (up q) (up k)) (mxK (scR (up q) (up k)))) = resL q k := by
  funext i
  obtain ⟨b, n, hi⟩ := ix_row (i 1)
  have hI : i = ix3 (i 0) (row b n) 0 := (eq_ix3 i).trans (by rw [hi]; exact congrArg (fun d : Fin 1 => (ix3 (i 0) (row b n) d : S16x4096x1.Idx)) (Subsingleton.elim _ _))
  rw [hI]
  exact (lse_up q k (i 0) b n).trans (Eq.trans (Row.lse_real n (sB q k (i 0) b n)).symm (resL_at q k (i 0) b n).symm)
end

variable (m : (ℓ : Loc nD τ sig) → Buf (Elt Ideal) ℓ)

theorem out0 (c : Dev nD) : Value.res_out0 m c = rowsR (oK (exK (scR (m ((c : Thread nD τ).loc main_arg0)) (m ((c : Thread nD τ).loc main_arg1))) (mxK (scR (m ((c : Thread nD τ).loc main_arg0)) (m ((c : Thread nD τ).loc main_arg1))))) (vK (m ((c : Thread nD τ).loc main_arg2)))) := rfl

end Cert.FlashFwdReferenceIdeal.Fwd
end
-- ==== Proof.ClFlashFwd.lean ====
/- The claims about the attention forward call. -/
module

public import proofs.«01_k».proof.Proof.FwdRef
public import proofs.«01_k».proof.Proof.Gen.FlashFwd
public import proofs.«01_k».proof.Proof.Gen.FlashFwd.Frame
public import proofs.«01_k».proof.Defs
public import Idealize.ShloMosaic.Init
public import Idealize.ShloMosaic.Adequacy

@[expose] public section

set_option maxRecDepth 16384

noncomputable section

namespace Cert.Proof.FlashFwd

open Idealize.ShloMosaic Idealize.SL.Sem Idealize.ShloMosaic.TcCoe

instance factsPre : Cert.Pre_finite_heads.Facts where
  bitsLt_bf16_f32 := by decide
  bcast_S_S16x4096x256 := by decide

theorem pos_inf : Ideal.ofBits .f32 0x7F800000#32 = ⊤ := by simp [Ideal.ofBits, Ideal.ieee]

/-- A number whose absolute value is below infinity is real. -/
theorem real_of_abs (x : EReal) (h : Ideal.cmp .olt (max x (-x)) (Ideal.ofBits .f32 0x7F800000#32) = 1#1) : ∃ r : ℝ, x = (r : EReal) := by
  rw [pos_inf] at h
  have h' : max x (-x) < ⊤ := by
    by_contra hc
    rw [show Ideal.cmp .olt (max x (-x)) ⊤ = BitVec.ofBool (decide (max x (-x) < ⊤)) from rfl, decide_eq_false hc] at h
    exact absurd h (by decide)
  have h1 : x ≠ ⊤ := fun e => absurd (lt_of_le_of_lt (le_max_left _ _) h') (by rw [e]; exact lt_irrefl _)
  have h2 : x ≠ ⊥ := fun e => absurd (lt_of_le_of_lt (le_max_right _ _) h') (by rw [e]; exact lt_irrefl _)
  exact ⟨x.toReal, (EReal.coe_toReal h1 h2).symm⟩

section
variable (Q K : FVec Ideal Cert.Pre_finite_heads.S16x4096x256 .bf16) (V : FVec Ideal Cert.Pre_finite_heads.S16x4096x128 .bf16) (Z : FVec Ideal Cert.Pre_finite_heads.S4096x10240 .bf16)

theorem fin_q (h : (Cert.Pre_finite_heads.fn (F := Ideal) Q K V Z).1 = fun _ => 1#1) : ∃ q : Cert.KernelIdeal.S16x4096x256.Idx → ℝ, Q = Cert.KernelIdeal.Bwd.up q := by
  have e : ∀ i, ∃ r : ℝ, Q i = (r : EReal) := fun i => real_of_abs _ (congrFun h i)
  exact ⟨fun i => (e i).choose, funext fun i => (e i).choose_spec⟩

theorem fin_k (h : (Cert.Pre_finite_heads.fn (F := Ideal) Q K V Z).2 = fun _ => 1#1) : ∃ k : Cert.KernelIdeal.S16x4096x256.Idx → ℝ, K = Cert.KernelIdeal.Bwd.up k := by
  have e : ∀ i, ∃ r : ℝ, K i = (r : EReal) := fun i => real_of_abs _ (congrFun h i)
  exact ⟨fun i => (e i).choose, funext fun i => (e i).choose_spec⟩

end

theorem frame_kernel : Cert.quiescent_FlashFwd := fun m ρ _ => Cert.FlashFwd.Gen.frame m ρ

theorem frame_ideal : Cert.quiescent_FlashFwdIdeal := fun m ρ _ => Cert.FlashFwdIdeal.Gen.frame m ρ

theorem frame_ideal_fin : Cert.quiescent_FlashFwdIdeal_pre_finite_heads := fun m ρ _ => Cert.FlashFwdIdeal.Gen.frame m ρ

theorem frame_reference : Cert.quiescent_FlashFwdReferenceIdeal := fun m ρ _ =>
  (θ_run Cert.FlashFwdReferenceIdeal.defs _ _).mono (fun r h => ⟨fun c => (h c).2.2, Idealize.ShloMosaic.sem_eq_zero_of_no_sems (by decide) r.2⟩)
    (Cert.FlashFwdReferenceIdeal.Value.run m ρ)

theorem frame_reference_fin : Cert.quiescent_FlashFwdReferenceIdeal_pre_finite_heads := fun m ρ _ => frame_reference m ρ trivial

theorem preserves : Cert.preserves_FlashFwd_FlashFwdIdeal :=
  IdealRules.named_const.statement Cert.FlashFwdIdeal.κ "mask" .f32 0xF149F2CA#32 ⊥ rfl

open Cert.KernelIdeal.Bwd (mxK exK oK lseK vK) in
open Cert.ReferenceIdeal.Bwd (scR) in
open Cert.FlashFwdReferenceIdeal.Fwd (rowsR) in
open Cert.FlashFwdIdeal Cert.FlashFwdIdeal.Gen in
/-- What the kernel leaves, where the queries and keys are real numbers. -/
theorem kernel_results (m : (ℓ : Loc nD τ sig) → Buf (Elt Ideal) ℓ) (hm : Cert.Pre_FlashFwdIdeal_finite_heads m) (c : Dev nD) :
    (dats m 0 c).arrAt 4 cfg0.N = rowsR (oK (exK (scR (m ((c : Thread nD τ).loc main_arg0)) (m ((c : Thread nD τ).loc main_arg1))) (mxK (scR (m ((c : Thread nD τ).loc main_arg0)) (m ((c : Thread nD τ).loc main_arg1))))) (vK (m ((c : Thread nD τ).loc main_arg2))))
    ∧ (dats m 0 c).arrAt 6 cfg0.N = lseK (mxK (scR (m ((c : Thread nD τ).loc main_arg0)) (m ((c : Thread nD τ).loc main_arg1)))) (exK (scR (m ((c : Thread nD τ).loc main_arg0)) (m ((c : Thread nD τ).loc main_arg1))) (mxK (scR (m ((c : Thread nD τ).loc main_arg0)) (m ((c : Thread nD τ).loc main_arg1))))) := by
  obtain ⟨h0, h1⟩ := hm c
  obtain ⟨q, hq⟩ := fin_q _ _ _ _ h0
  obtain ⟨k, hk⟩ := fin_k _ _ _ _ h1
  rw [Cert.FlashFwdIdeal.Fwd.final_att m q k c hq hk, Cert.FlashFwdIdeal.Fwd.final_lse m q k c hq hk]
  generalize m ((c : Thread nD τ).loc main_arg0) = Q at hq ⊢
  generalize m ((c : Thread nD τ).loc main_arg1) = K at hk ⊢
  generalize m ((c : Thread nD τ).loc main_arg2) = V
  subst hq hk
  exact ⟨(Cert.FlashFwdReferenceIdeal.Fwd.att_eq q k V).symm, (Cert.FlashFwdReferenceIdeal.Fwd.lse_eq q k).symm⟩

theorem algebraic : Cert.algebraic_FlashFwdIdeal_FlashFwdReferenceIdeal_pre_finite_heads := by
  intro m g m' g' hm hag
  refine ⟨fun c => (Cert.FlashFwdIdeal.Gen.dats m 0 c).arrAt 4 Cert.FlashFwdIdeal.cfg0.N, fun c => (Cert.FlashFwdIdeal.Gen.dats m 0 c).arrAt 6 Cert.FlashFwdIdeal.cfg0.N,
    (θ_run Cert.FlashFwdIdeal.defs _ _).mono (fun r h c => ⟨(h c).1, (h c).2.2⟩) (Cert.FlashFwdIdeal.Value.run_blocks m g), ?_⟩
  refine (θ_run Cert.FlashFwdReferenceIdeal.defs _ _).mono (fun r h c => ?_) (Cert.FlashFwdReferenceIdeal.Value.run m' g')
  obtain ⟨r0, r1, ra⟩ := h c
  obtain ⟨a0, a1, a2, a3⟩ := hag c
  obtain ⟨k0, k1⟩ := kernel_results m hm c
  refine ⟨r0.trans ?_, r1.trans ?_, ra⟩
  · refine (Cert.FlashFwdReferenceIdeal.Fwd.out0 m' c).trans ?_
    rw [a0, a1, a2]; exact k0.symm
  · refine Eq.trans ?_ k1.symm
    rw [a0, a1]; rfl

end Cert.Proof.FlashFwd
end
-- ==== Proof.MmLossHead.lean ====
/- The loss head: the sum of squares and the gradient its tiles leave are the reference's. -/
module

public import proofs.«01_k».proof.Proof.Gen.LossHeadIdeal.Value
public import proofs.«01_k».proof.Proof.Gen.LossHeadReferenceIdeal.Run
public import Idealize.ShloMosaic.Lib.Pipeline.ValueKit
public import Idealize.ShloMosaic.Lib.WritesUnit
public import Idealize.ShloMosaic.Lib.Pipeline.ReadBack

@[expose] public section

set_option maxRecDepth 16384

noncomputable section

namespace Cert.LossHeadIdeal.Mm

open Cert.LossHeadIdeal Cert.LossHeadIdeal.Gen Idealize.ShloMosaic Idealize.ShloMosaic.TcCoe Idealize.SL.Sem
open Idealize.ShloMosaic.Pipeline (Dat)

/-- The error at one place. -/
def dif (Y T : FVec Ideal S4096x4096 .f32) (i j : Fin 4096) : EReal := Y (ix2 i j) - T (ix2 i j)

/-- The squared error of one row. -/
def rowS (Y T : FVec Ideal S4096x4096 .f32) (i : Fin 4096) : EReal := ∑ j : Fin 4096, dif Y T i j * dif Y T i j

/-- The squared error of one row, by its number. -/
def rowN (Y T : FVec Ideal S4096x4096 .f32) (n : ℕ) : EReal := if h : n < 4096 then rowS Y T ⟨n, h⟩ else 0

theorem rowN_of (Y T : FVec Ideal S4096x4096 .f32) (n : ℕ) (h : n < 4096) : rowN Y T n = rowS Y T ⟨n, h⟩ := dif_pos h

/-- The whole squared error, at every place of a block. -/
def sse (Y T : FVec Ideal S4096x4096 .f32) : FVec Ideal S8x128 .f32 := fun _ => ∑ i : Fin 4096, rowS Y T i

/-- The errors, divided by the width of a row. -/
def gr (Y T : FVec Ideal S4096x4096 .f32) : FVec Ideal S4096x4096 .f32 := fun i => dif Y T (i 0) (i 1) * Ideal.ofBits .f32 964689920#32

theorem idx : ∀ t : Fin cfg0.N, win0_0.index t = ![t.val, 0] ∧ win0_1.index t = ![t.val, 0] ∧ win0_2.index t = ![0, 0] ∧ win0_3.index t = ![t.val, 0] ∧ win0_4.index t = ![t.val, 0] :=
  (by decide +kernel : ∀ t : Fin grid0.N, _)

theorem rd0 (t : Fin cfg0.N) (a : Fin 256) (s : Fin 4096) (X : FVec Ideal S4096x4096 .f32) :
    (((cfg0.win 0).blk t).view.read (Elt Ideal) (X : ((cfg0.win 0).blk t).view.ty.Contents (Elt Ideal)) : Vec Ideal S256x4096 .f32) (ix2 a s) = X (ix2 ⟨t.val * 256 + a.val, by have hN : t.val < 16 := lt_of_lt_of_eq t.isLt N_0; have := a.isLt; omega⟩ s) := by
  blk_simp
  blk_ext [idx t]

theorem rd1 (t : Fin cfg0.N) (a : Fin 256) (s : Fin 4096) (X : FVec Ideal S4096x4096 .f32) :
    (((cfg0.win 1).blk t).view.read (Elt Ideal) (X : ((cfg0.win 1).blk t).view.ty.Contents (Elt Ideal)) : Vec Ideal S256x4096 .f32) (ix2 a s) = X (ix2 ⟨t.val * 256 + a.val, by have hN : t.val < 16 := lt_of_lt_of_eq t.isLt N_0; have := a.isLt; omega⟩ s) := by
  blk_simp
  blk_ext [idx t]

theorem rd2 (t : Fin cfg0.N) (y : S8x128.Idx) (X : FVec Ideal S8x128 .f32) :
    (((cfg0.win 2).blk t).view.read (Elt Ideal) (X : ((cfg0.win 2).blk t).view.ty.Contents (Elt Ideal)) : Vec Ideal S8x128 .f32) y = X y := by
  blk_simp
  blk_ext [idx t]

theorem rd3 (t : Fin cfg0.N) (a : Fin 256) (s : Fin 4096) (X : FVec Ideal S4096x4096 .f32) :
    (((cfg0.win 3).blk t).view.read (Elt Ideal) (X : ((cfg0.win 3).blk t).view.ty.Contents (Elt Ideal)) : Vec Ideal S256x4096 .f32) (ix2 a s) = X (ix2 ⟨t.val * 256 + a.val, by have hN : t.val < 16 := lt_of_lt_of_eq t.isLt N_0; have := a.isLt; omega⟩ s) := by
  blk_simp
  blk_ext [idx t]

theorem rd4 (t : Fin cfg0.N) (a : Fin 256) (s : Fin 4096) (X : FVec Ideal S4096x4096 .bf16) :
    (((cfg0.win 4).blk t).view.read (Elt Ideal) (X : ((cfg0.win 4).blk t).view.ty.Contents (Elt Ideal)) : Vec Ideal S256x4096 .bf16) (ix2 a s) = X (ix2 ⟨t.val * 256 + a.val, by have hN : t.val < 16 := lt_of_lt_of_eq t.isLt N_0; have := a.isLt; omega⟩ s) := by
  blk_simp
  blk_ext [idx t]

variable (m : (ℓ : Loc nD τ sig) → Buf (Elt Ideal) ℓ)

/-- An entry of a block of the first argument. -/
def b0 (c : Dev nD) (t : Fin cfg0.N) (a : Fin 256) (s : Fin 4096) : EReal := (iblk m c 0 t : Vec Ideal S256x4096 .f32) (ix2 a s)

/-- An entry of a block of the second argument. -/
def b1 (c : Dev nD) (t : Fin cfg0.N) (a : Fin 256) (s : Fin 4096) : EReal := (iblk m c 1 t : Vec Ideal S256x4096 .f32) (ix2 a s)

/-- The error at an entry of a block. -/
def er (c : Dev nD) (t : Fin cfg0.N) (a : Fin 256) (s : Fin 4096) : EReal := b0 m c t a s - b1 m c t a s

theorem er_eq (c : Dev nD) (t : Fin cfg0.N) (a : Fin 256) (s : Fin 4096) (h : t.val * 256 + a.val < 4096) :
    er m c t a s = dif (m ((c : Thread nD τ).loc main_arg0)) (m ((c : Thread nD τ).loc main_arg1)) ⟨t.val * 256 + a.val, h⟩ s :=
  congrArg₂ (fun x y : EReal => x - y) (rd0 t a s (m ((c : Thread nD τ).loc main_arg0))) (rd1 t a s (m ((c : Thread nD τ).loc main_arg1)))

theorem tile (c : Dev nD) (t : Fin cfg0.N) : (∑ a : Fin 256, ∑ s : Fin 4096, er m c t a s * er m c t a s) =
    ∑ a : Fin 256, rowN (m ((c : Thread nD τ).loc main_arg0)) (m ((c : Thread nD τ).loc main_arg1)) (t.val * 256 + a.val) := by
  refine Finset.sum_congr rfl fun a _ => ?_
  have h : t.val * 256 + a.val < 4096 := by have hN : t.val < 16 := lt_of_lt_of_eq t.isLt N_0; have := a.isLt; omega
  rw [rowN_of _ _ _ h]
  unfold rowS
  refine Finset.sum_congr rfl fun s _ => ?_
  rw [er_eq m c t a s h]

theorem oA (c : Dev nD) (t : Fin cfg0.N) (h0 : t.val % 16 = 0) (r : Fin 8) (s : Fin 128) : ((outsAt0 m c t.val t.isLt).1 : Vec Ideal S8x128 .f32) (ix2 r s) = ∑ a : Fin 256, ∑ s : Fin 4096, er m c t a s * er m c t a s := by
  rw [outsAt0_A m c t h0]
  dsimp only
  frame_out
  open_payloads
  pointwise
  rfl

theorem oB (c : Dev nD) (t : Fin cfg0.N) (h0 : ¬t.val % 16 = 0) (r : Fin 8) (s : Fin 128) : ((outsAt0 m c t.val t.isLt).1 : Vec Ideal S8x128 .f32) (ix2 r s) =
    ((outsAt0 m c (t.val - 1) (Nat.lt_of_le_of_lt (Nat.sub_le _ _) t.isLt)).1 : Vec Ideal S8x128 .f32) (ix2 r s) + ∑ a : Fin 256, ∑ s : Fin 4096, er m c t a s * er m c t a s := by
  rw [outsAt0_B m c t h0]
  dsimp only
  frame_out
  open_payloads
  pointwise
  rfl

theorem acc (c : Dev nD) (r : Fin 8) (s : Fin 128) : ∀ (n : ℕ) (hn : n < cfg0.N), ((outsAt0 m c n hn).1 : Vec Ideal S8x128 .f32) (ix2 r s) =
    ∑ p ∈ Finset.range (n + 1), ∑ a : Fin 256, rowN (m ((c : Thread nD τ).loc main_arg0)) (m ((c : Thread nD τ).loc main_arg1)) (p * 256 + a.val)
  | 0, hn => by
    rw [Finset.sum_range_one]
    exact (oA m c ⟨0, hn⟩ rfl r s).trans (tile m c ⟨0, hn⟩)
  | n + 1, hn => by
    have hN : n + 1 < 16 := lt_of_lt_of_eq hn N_0
    rw [Finset.sum_range_succ]
    refine (oB m c ⟨n + 1, hn⟩ (by show ¬(n + 1) % 16 = 0; omega) r s).trans ?_
    exact congrArg₂ (· + ·) (acc c r s n (Nat.lt_of_succ_lt hn)) (tile m c ⟨n + 1, hn⟩)

theorem final2 (c : Dev nD) : (dats m 0 c).arrAt 2 cfg0.N = sse (m ((c : Thread nD τ).loc main_arg0)) (m ((c : Thread nD τ).loc main_arg1)) := by
  refine (dats m 0 c).arrAt_eq_of_covers 2 _ (by decide +kernel) fun t hf y => ?_
  have ht : t.val % 16 = 15 := (flush0_2 t).mp hf
  have hN : t.val < 16 := lt_of_lt_of_eq t.isLt N_0
  blk_simp
  rw [after0_2]
  obtain ⟨r, s, rfl⟩ : ∃ (r : Fin 8) (s : Fin 128), y = (ix2 r s : S8x128.Idx) := ⟨y 0, y 1, (ix2_eta y).symm⟩
  refine (acc m c r s t.val t.isLt).trans (Eq.trans ?_ (rd2 t (ix2 r s) (sse (m ((c : Thread nD τ).loc main_arg0)) (m ((c : Thread nD τ).loc main_arg1)))).symm)
  rw [show t.val + 1 = 16 by omega, Finset.sum_range]
  unfold sse
  refine Fin.sum_mul_add_congr fun s k hl => ?_
  exact rowN_of _ _ _ hl

theorem o3 (c : Dev nD) (t : Fin cfg0.N) (a : Fin 256) (s : Fin 4096) : ((outsAt0 m c t.val t.isLt).2.1 : Vec Ideal S256x4096 .f32) (ix2 a s) = er m c t a s * Ideal.ofBits .f32 964689920#32 := by
  by_cases h0 : t.val % 16 = 0
  · rw [outsAt0_A m c t h0]
    dsimp only
    frame_out
    open_payloads
    pointwise
    rfl
  · rw [outsAt0_B m c t h0]
    dsimp only
    frame_out
    open_payloads
    pointwise
    rfl

theorem o4 (c : Dev nD) (t : Fin cfg0.N) (a : Fin 256) (s : Fin 4096) : ((outsAt0 m c t.val t.isLt).2.2 : Vec Ideal S256x4096 .bf16) (ix2 a s) = er m c t a s * Ideal.ofBits .f32 964689920#32 := by
  by_cases h0 : t.val % 16 = 0
  · rw [outsAt0_A m c t h0]
    dsimp only
    frame_out
    open_payloads
    pointwise
    rfl
  · rw [outsAt0_B m c t h0]
    dsimp only
    frame_out
    open_payloads
    pointwise
    rfl

theorem final3 (c : Dev nD) : (dats m 0 c).arrAt 3 cfg0.N = gr (m ((c : Thread nD τ).loc main_arg0)) (m ((c : Thread nD τ).loc main_arg1)) := by
  refine (dats m 0 c).arrAt_eq_of_covers 3 _ (by decide +kernel) fun t hf y => ?_
  have hN : t.val < 16 := lt_of_lt_of_eq t.isLt N_0
  blk_simp
  rw [after0_3]
  obtain ⟨r, s, rfl⟩ : ∃ (r : Fin 256) (s : Fin 4096), y = (ix2 r s : S256x4096.Idx) := ⟨y 0, y 1, (ix2_eta y).symm⟩
  have h : t.val * 256 + r.val < 4096 := by have := r.isLt; omega
  refine (o3 m c t r s).trans (Eq.trans ?_ (rd3 t r s (gr (m ((c : Thread nD τ).loc main_arg0)) (m ((c : Thread nD τ).loc main_arg1)))).symm)
  rw [er_eq m c t r s h]
  rfl

theorem final4 (c : Dev nD) : (dats m 0 c).arrAt 4 cfg0.N = (gr (m ((c : Thread nD τ).loc main_arg0)) (m ((c : Thread nD τ).loc main_arg1)) : S4096x4096.Idx → EReal) := by
  refine (dats m 0 c).arrAt_eq_of_covers 4 _ (by decide +kernel) fun t hf y => ?_
  have hN : t.val < 16 := lt_of_lt_of_eq t.isLt N_0
  blk_simp
  rw [after0_4]
  obtain ⟨r, s, rfl⟩ : ∃ (r : Fin 256) (s : Fin 4096), y = (ix2 r s : S256x4096.Idx) := ⟨y 0, y 1, (ix2_eta y).symm⟩
  have h : t.val * 256 + r.val < 4096 := by have := r.isLt; omega
  refine (o4 m c t r s).trans (Eq.trans ?_ (rd4 t r s (gr (m ((c : Thread nD τ).loc main_arg0)) (m ((c : Thread nD τ).loc main_arg1)) : S4096x4096.Idx → EReal)).symm)
  rw [er_eq m c t r s h]
  rfl

end Cert.LossHeadIdeal.Mm

namespace Cert.LossHeadReferenceIdeal.Mm

open Cert.LossHeadReferenceIdeal Cert.LossHeadReferenceIdeal.Gen Idealize.ShloMosaic Idealize.ShloMosaic.TcCoe Idealize.SL.Sem

theorem c_half : Ideal.ofBits .f32 1056964608#32 = ((1 / 2 : ℝ) : EReal) := by simp [Ideal.ofBits, Ideal.ieee, -EReal.coe_mul]; norm_num
theorem c_4096 : Ideal.ofBits .f32 1166016512#32 = ((4096 : ℝ) : EReal) := by simp [Ideal.ofBits, Ideal.ieee, -EReal.coe_mul]; norm_num
theorem c_inv : Ideal.ofBits .f32 964689920#32 = ((1 / 4096 : ℝ) : EReal) := by simp [Ideal.ofBits, Ideal.ieee, -EReal.coe_mul]; norm_num
theorem c_two : Ideal.ofBits .f32 1073741824#32 = ((2 : ℝ) : EReal) := by simp [Ideal.ofBits, Ideal.ieee, -EReal.coe_mul]; norm_num

theorem scale (e : EReal) : Ideal.div (Ideal.ofBits .f32 1056964608#32) (Ideal.ofBits .f32 1166016512#32) * (Ideal.ofBits .f32 1073741824#32 * e) = e * Ideal.ofBits .f32 964689920#32 := by
  rw [c_half, c_4096, c_inv, c_two, Ideal.div_coe (by norm_num), ← mul_assoc, ← EReal.coe_mul, ← EReal.coe_mul, mul_comm]
  norm_num

/-- The squared error, as the reference leaves it. -/
def ref0 (Y T : FVec Ideal S4096x4096 .f32) : FVec Ideal S8x128 .f32 := broadcastInDim S8x128 ![] bcast_S_S8x128 (Host.reduceAdd (mulf (subf Y T) (subf Y T)) (constant S_ .f32 0x00000000#32) reducesTo_S4096x4096_S_d0_1 h_S_)

theorem ref0_eq (Y T : FVec Ideal S4096x4096 .f32) : ref0 Y T = Cert.LossHeadIdeal.Mm.sse Y T := by
  funext i
  obtain ⟨r, s, rfl⟩ : ∃ (r : Fin 8) (s : Fin 128), i = (ix2 r s : S8x128.Idx) := ⟨i 0, i 1, (ix2_eta i).symm⟩
  unfold ref0; pointwise
  rfl

/-- The gradient, as the reference leaves it. -/
def ref1 (Y T : FVec Ideal S4096x4096 .f32) : FVec Ideal S4096x4096 .f32 := mulf (broadcastInDim S4096x4096 ![0] bcast_S4096_S4096x4096_0 (Host.divf (broadcastInDim S4096 ![] bcast_S_S4096 (mulf (constant S_ .f32 0x3F000000#32) (constant S_ .f32 0x3F800000#32))) (broadcastInDim S4096 ![] bcast_S_S4096 (constant S_ .f32 0x45800000#32)))) (mulf (broadcastInDim S4096x4096 ![] bcast_S_S4096x4096 (constant S_ .f32 0x40000000#32)) (subf Y T))

theorem ref1_at (Y T : FVec Ideal S4096x4096 .f32) (r s : Fin 4096) : ref1 Y T (ix2 r s) = Cert.LossHeadIdeal.Mm.gr Y T (ix2 r s) := by
  unfold ref1; pointwise
  exact scale _

theorem ref1_eq (Y T : FVec Ideal S4096x4096 .f32) : ref1 Y T = Cert.LossHeadIdeal.Mm.gr Y T := by
  funext i
  obtain ⟨r, s, rfl⟩ : ∃ (r : Fin 4096) (s : Fin 4096), i = (ix2 r s : S4096x4096.Idx) := ⟨i 0, i 1, (ix2_eta i).symm⟩
  exact ref1_at Y T r s

/-- The same gradient, rounded. -/
def ref2 (Y T : FVec Ideal S4096x4096 .f32) : FVec Ideal S4096x4096 .bf16 := truncf .bf16 (ref1 Y T) bitsLt_bf16_f32

theorem ref2_eq (Y T : FVec Ideal S4096x4096 .f32) : ref2 Y T = (Cert.LossHeadIdeal.Mm.gr Y T : S4096x4096.Idx → EReal) := by
  funext i
  unfold ref2; pointwise
  exact congrFun (ref1_eq Y T) i

end Cert.LossHeadReferenceIdeal.Mm
end
-- ==== Proof.ClLossHead.lean ====
/- The claims about the loss head. -/
module

public import proofs.«01_k».proof.Proof.MmLossHead
public import proofs.«01_k».proof.Proof.Gen.LossHead.Frame
public import proofs.«01_k».proof.Defs
public import Idealize.ShloMosaic.Init
public import Idealize.ShloMosaic.Adequacy

@[expose] public section

set_option maxRecDepth 16384

noncomputable section

namespace Cert.Proof.LossHead

open Idealize.ShloMosaic Idealize.SL.Sem Idealize.ShloMosaic.TcCoe

theorem frame_kernel : Cert.quiescent_LossHead := fun m ρ _ => Cert.LossHead.Gen.frame m ρ

theorem frame_ideal : Cert.quiescent_LossHeadIdeal := fun m ρ _ => Cert.LossHeadIdeal.Gen.frame m ρ

theorem frame_reference : Cert.quiescent_LossHeadReferenceIdeal := fun m ρ _ =>
  (θ_run Cert.LossHeadReferenceIdeal.defs _ _).mono (fun r h => ⟨fun c => (h c).2.2.2, Idealize.ShloMosaic.sem_eq_zero_of_no_sems (by decide) r.2⟩)
    (Cert.LossHeadReferenceIdeal.Value.run m ρ)

theorem algebraic : Cert.algebraic_LossHeadIdeal_LossHeadReferenceIdeal := by
  intro m g m' g' _ hag
  refine ⟨fun c => (Cert.LossHeadIdeal.Gen.dats m 0 c).arrAt 2 Cert.LossHeadIdeal.cfg0.N, fun c => (Cert.LossHeadIdeal.Gen.dats m 0 c).arrAt 3 Cert.LossHeadIdeal.cfg0.N, fun c => (Cert.LossHeadIdeal.Gen.dats m 0 c).arrAt 4 Cert.LossHeadIdeal.cfg0.N, Cert.LossHeadIdeal.Value.run_blocks m g, ?_⟩
  refine (θ_run Cert.LossHeadReferenceIdeal.defs _ _).mono (fun r h c => ?_) (Cert.LossHeadReferenceIdeal.Value.run m' g')
  obtain ⟨r0, r1, r2, ra⟩ := h c
  obtain ⟨a0, a1⟩ := hag c
  refine ⟨r0.trans ((Cert.LossHeadReferenceIdeal.Mm.ref0_eq (m' ((c : Thread Cert.LossHeadReferenceIdeal.nD Cert.LossHeadReferenceIdeal.τ).loc Cert.LossHeadReferenceIdeal.main_arg0)) (m' ((c : Thread Cert.LossHeadReferenceIdeal.nD Cert.LossHeadReferenceIdeal.τ).loc Cert.LossHeadReferenceIdeal.main_arg1))).trans ?_), r1.trans ((Cert.LossHeadReferenceIdeal.Mm.ref1_eq (m' ((c : Thread Cert.LossHeadReferenceIdeal.nD Cert.LossHeadReferenceIdeal.τ).loc Cert.LossHeadReferenceIdeal.main_arg0)) (m' ((c : Thread Cert.LossHeadReferenceIdeal.nD Cert.LossHeadReferenceIdeal.τ).loc Cert.LossHeadReferenceIdeal.main_arg1))).trans ?_), r2.trans ((Cert.LossHeadReferenceIdeal.Mm.ref2_eq (m' ((c : Thread Cert.LossHeadReferenceIdeal.nD Cert.LossHeadReferenceIdeal.τ).loc Cert.LossHeadReferenceIdeal.main_arg0)) (m' ((c : Thread Cert.LossHeadReferenceIdeal.nD Cert.LossHeadReferenceIdeal.τ).loc Cert.LossHeadReferenceIdeal.main_arg1))).trans ?_), ra⟩
  · rw [a0, a1]; exact (Cert.LossHeadIdeal.Mm.final2 m c).symm
  · rw [a0, a1]; exact (Cert.LossHeadIdeal.Mm.final3 m c).symm
  · rw [a0, a1]; exact (Cert.LossHeadIdeal.Mm.final4 m c).symm

end Cert.Proof.LossHead
end
-- ==== Proof.MmAdam.lean ====
/- The optimiser's update of one weight. -/
module

public import Idealize.ShloMosaic.Lib.Pipeline.ValueKit

@[expose] public section

set_option maxRecDepth 16384

noncomputable section

namespace Cert.Adam

open Idealize.ShloMosaic

/-- The new running mean of a gradient `g`. -/
def newM (m g : EReal) : EReal := Ideal.ofBits .f32 1063675494#32 * m + Ideal.ofBits .f32 1036831949#32 * g

/-- The new running mean of its square. -/
def newV (v g : EReal) : EReal := Ideal.ofBits .f32 1065336439#32 * v + Ideal.ofBits .f32 981668463#32 * (g * g)

/-- The step a weight `w` takes. -/
def delta (w m v g : EReal) : EReal :=
  Ideal.ofBits .f32 3129152111#32 * (Ideal.div (Ideal.div (newM m g) (Ideal.ofBits .f32 1059503362#32))
    (Ideal.sqrt (Ideal.div (newV v g) (Ideal.ofBits .f32 1008933580#32)) + Ideal.ofBits .f32 841731191#32) + Ideal.ofBits .f32 1008981770#32 * w)

end Cert.Adam
end
-- ==== Proof.ClAdamSmall.lean ====
/- The claims about the optimiser's call on the packed small weights. -/
module

public import proofs.«01_k».proof.Proof.MmAdam
public import proofs.«01_k».proof.Proof.Gen.AdamSmallIdeal.Value
public import proofs.«01_k».proof.Proof.Gen.AdamSmallReferenceIdeal.Run
public import proofs.«01_k».proof.Proof.Gen.AdamSmall.Frame
public import proofs.«01_k».proof.Defs
public import Idealize.ShloMosaic.Lib.Pipeline.ValueKit
public import Idealize.ShloMosaic.Init
public import Idealize.ShloMosaic.Adequacy

@[expose] public section

set_option maxRecDepth 16384

noncomputable section

namespace Cert.AdamSmallReferenceIdeal.Mm

open Cert.AdamSmallReferenceIdeal Cert.AdamSmallReferenceIdeal.Gen Idealize.ShloMosaic Idealize.ShloMosaic.TcCoe Idealize.SL.Sem

/-- The steps, as the reference leaves them. -/
def ref5 (W M U g : FVec Ideal S632x128 .f32) : FVec Ideal S632x128 .f32 := mulf (broadcastInDim S632x128 ![] bcast_S_S632x128 (constant S_ .f32 0xBA83126F#32)) (addf (Host.divf (Host.divf (addf (mulf (broadcastInDim S632x128 ![] bcast_S_S632x128 (constant S_ .f32 0x3F666666#32)) M) (mulf (broadcastInDim S632x128 ![] bcast_S_S632x128 (constant S_ .f32 0x3DCCCCCD#32)) g)) (broadcastInDim S632x128 ![] bcast_S_S632x128 (constant S_ .f32 0x3F26BD02#32))) (addf (Host.sqrt (Host.divf (addf (mulf (broadcastInDim S632x128 ![] bcast_S_S632x128 (constant S_ .f32 0x3F7FBE77#32)) U) (mulf (broadcastInDim S632x128 ![] bcast_S_S632x128 (constant S_ .f32 0x3A83126F#32)) (mulf g g))) (broadcastInDim S632x128 ![] bcast_S_S632x128 (constant S_ .f32 0x3C231ACC#32)))) (broadcastInDim S632x128 ![] bcast_S_S632x128 (constant S_ .f32 0x322BCC77#32)))) (mulf (broadcastInDim S632x128 ![] bcast_S_S632x128 (constant S_ .f32 0x3C23D70A#32)) W))

theorem ref5_at (W M U g : FVec Ideal S632x128 .f32) (i : S632x128.Idx) : ref5 W M U g i = Cert.Adam.delta (W i) (M i) (U i) (g i) := by
  unfold ref5 Cert.Adam.delta Cert.Adam.newM Cert.Adam.newV; pointwise

theorem ref5_eq (W M U g : FVec Ideal S632x128 .f32) : ref5 W M U g = Cert.AdamSmallIdeal.Value.G5 (F := Ideal) W M U g := by
  funext i
  refine (ref5_at W M U g i).trans ?_
  unfold Cert.Adam.delta Cert.Adam.newM Cert.Adam.newV
  symm
  unfold Cert.AdamSmallIdeal.Value.G5
  open_payloads
  pointwise

/-- The new running means, as the reference leaves them. -/
def ref6 (W M U g : FVec Ideal S632x128 .f32) : FVec Ideal S632x128 .f32 := addf (mulf (broadcastInDim S632x128 ![] bcast_S_S632x128 (constant S_ .f32 0x3F666666#32)) M) (mulf (broadcastInDim S632x128 ![] bcast_S_S632x128 (constant S_ .f32 0x3DCCCCCD#32)) g)

theorem ref6_at (W M U g : FVec Ideal S632x128 .f32) (i : S632x128.Idx) : ref6 W M U g i = Cert.Adam.newM (M i) (g i) := by
  unfold ref6 Cert.Adam.newM; pointwise

theorem ref6_eq (W M U g : FVec Ideal S632x128 .f32) : ref6 W M U g = Cert.AdamSmallIdeal.Value.G6 (F := Ideal) W M U g := by
  funext i
  refine (ref6_at W M U g i).trans ?_
  unfold Cert.Adam.newM
  symm
  unfold Cert.AdamSmallIdeal.Value.G6
  open_payloads
  pointwise

/-- The new running means of squares, as the reference leaves them. -/
def ref7 (W M U g : FVec Ideal S632x128 .f32) : FVec Ideal S632x128 .f32 := addf (mulf (broadcastInDim S632x128 ![] bcast_S_S632x128 (constant S_ .f32 0x3F7FBE77#32)) U) (mulf (broadcastInDim S632x128 ![] bcast_S_S632x128 (constant S_ .f32 0x3A83126F#32)) (mulf g g))

theorem ref7_at (W M U g : FVec Ideal S632x128 .f32) (i : S632x128.Idx) : ref7 W M U g i = Cert.Adam.newV (U i) (g i) := by
  unfold ref7 Cert.Adam.newV; pointwise

theorem ref7_eq (W M U g : FVec Ideal S632x128 .f32) : ref7 W M U g = Cert.AdamSmallIdeal.Value.G7 (F := Ideal) W M U g := by
  funext i
  refine (ref7_at W M U g i).trans ?_
  unfold Cert.Adam.newV
  symm
  unfold Cert.AdamSmallIdeal.Value.G7
  open_payloads
  pointwise

theorem ref4_eq (W M U g : FVec Ideal S632x128 .f32) : Cert.AdamSmallIdeal.Value.G4 (F := Ideal) W M U g = g := by
  funext i
  open_payloads

end Cert.AdamSmallReferenceIdeal.Mm

namespace Cert.Proof.AdamSmall

open Idealize.ShloMosaic Idealize.SL.Sem Idealize.ShloMosaic.TcCoe

theorem frame_kernel : Cert.quiescent_AdamSmall := fun m ρ _ => Cert.AdamSmall.Gen.frame m ρ

theorem frame_ideal : Cert.quiescent_AdamSmallIdeal := fun m ρ _ => Cert.AdamSmallIdeal.Gen.frame m ρ

theorem frame_reference : Cert.quiescent_AdamSmallReferenceIdeal := fun m ρ _ =>
  (θ_run Cert.AdamSmallReferenceIdeal.defs _ _).mono (fun r h => ⟨fun c => (h c).2.2.2.2, Idealize.ShloMosaic.sem_eq_zero_of_no_sems (by decide) r.2⟩)
    (Cert.AdamSmallReferenceIdeal.Value.run m ρ)

theorem algebraic : Cert.algebraic_AdamSmallIdeal_AdamSmallReferenceIdeal := by
  intro m g m' g' _ hag
  refine ⟨fun c => Cert.AdamSmallIdeal.Value.G4 (F := Ideal) (m ((c : Thread Cert.AdamSmallIdeal.nD Cert.AdamSmallIdeal.τ).loc Cert.AdamSmallIdeal.main_arg0)) (m ((c : Thread Cert.AdamSmallIdeal.nD Cert.AdamSmallIdeal.τ).loc Cert.AdamSmallIdeal.main_arg1)) (m ((c : Thread Cert.AdamSmallIdeal.nD Cert.AdamSmallIdeal.τ).loc Cert.AdamSmallIdeal.main_arg2)) (m ((c : Thread Cert.AdamSmallIdeal.nD Cert.AdamSmallIdeal.τ).loc Cert.AdamSmallIdeal.main_arg3)), fun c => Cert.AdamSmallIdeal.Value.G5 (F := Ideal) (m ((c : Thread Cert.AdamSmallIdeal.nD Cert.AdamSmallIdeal.τ).loc Cert.AdamSmallIdeal.main_arg0)) (m ((c : Thread Cert.AdamSmallIdeal.nD Cert.AdamSmallIdeal.τ).loc Cert.AdamSmallIdeal.main_arg1)) (m ((c : Thread Cert.AdamSmallIdeal.nD Cert.AdamSmallIdeal.τ).loc Cert.AdamSmallIdeal.main_arg2)) (m ((c : Thread Cert.AdamSmallIdeal.nD Cert.AdamSmallIdeal.τ).loc Cert.AdamSmallIdeal.main_arg3)), fun c => Cert.AdamSmallIdeal.Value.G6 (F := Ideal) (m ((c : Thread Cert.AdamSmallIdeal.nD Cert.AdamSmallIdeal.τ).loc Cert.AdamSmallIdeal.main_arg0)) (m ((c : Thread Cert.AdamSmallIdeal.nD Cert.AdamSmallIdeal.τ).loc Cert.AdamSmallIdeal.main_arg1)) (m ((c : Thread Cert.AdamSmallIdeal.nD Cert.AdamSmallIdeal.τ).loc Cert.AdamSmallIdeal.main_arg2)) (m ((c : Thread Cert.AdamSmallIdeal.nD Cert.AdamSmallIdeal.τ).loc Cert.AdamSmallIdeal.main_arg3)), fun c => Cert.AdamSmallIdeal.Value.G7 (F := Ideal) (m ((c : Thread Cert.AdamSmallIdeal.nD Cert.AdamSmallIdeal.τ).loc Cert.AdamSmallIdeal.main_arg0)) (m ((c : Thread Cert.AdamSmallIdeal.nD Cert.AdamSmallIdeal.τ).loc Cert.AdamSmallIdeal.main_arg1)) (m ((c : Thread Cert.AdamSmallIdeal.nD Cert.AdamSmallIdeal.τ).loc Cert.AdamSmallIdeal.main_arg2)) (m ((c : Thread Cert.AdamSmallIdeal.nD Cert.AdamSmallIdeal.τ).loc Cert.AdamSmallIdeal.main_arg3)), Cert.AdamSmallIdeal.Value.run m g, ?_⟩
  refine (θ_run Cert.AdamSmallReferenceIdeal.defs _ _).mono (fun r h c => ?_) (Cert.AdamSmallReferenceIdeal.Value.run m' g')
  obtain ⟨r0, r1, r2, r3, ra⟩ := h c
  obtain ⟨a0, a1, a2, a3⟩ := hag c
  refine ⟨r0.trans ?_, r1.trans ((Cert.AdamSmallReferenceIdeal.Mm.ref5_eq (m' ((c : Thread Cert.AdamSmallReferenceIdeal.nD Cert.AdamSmallReferenceIdeal.τ).loc Cert.AdamSmallReferenceIdeal.main_arg0)) (m' ((c : Thread Cert.AdamSmallReferenceIdeal.nD Cert.AdamSmallReferenceIdeal.τ).loc Cert.AdamSmallReferenceIdeal.main_arg1)) (m' ((c : Thread Cert.AdamSmallReferenceIdeal.nD Cert.AdamSmallReferenceIdeal.τ).loc Cert.AdamSmallReferenceIdeal.main_arg2)) (m' ((c : Thread Cert.AdamSmallReferenceIdeal.nD Cert.AdamSmallReferenceIdeal.τ).loc Cert.AdamSmallReferenceIdeal.main_arg3))).trans ?_), r2.trans ((Cert.AdamSmallReferenceIdeal.Mm.ref6_eq (m' ((c : Thread Cert.AdamSmallReferenceIdeal.nD Cert.AdamSmallReferenceIdeal.τ).loc Cert.AdamSmallReferenceIdeal.main_arg0)) (m' ((c : Thread Cert.AdamSmallReferenceIdeal.nD Cert.AdamSmallReferenceIdeal.τ).loc Cert.AdamSmallReferenceIdeal.main_arg1)) (m' ((c : Thread Cert.AdamSmallReferenceIdeal.nD Cert.AdamSmallReferenceIdeal.τ).loc Cert.AdamSmallReferenceIdeal.main_arg2)) (m' ((c : Thread Cert.AdamSmallReferenceIdeal.nD Cert.AdamSmallReferenceIdeal.τ).loc Cert.AdamSmallReferenceIdeal.main_arg3))).trans ?_), r3.trans ((Cert.AdamSmallReferenceIdeal.Mm.ref7_eq (m' ((c : Thread Cert.AdamSmallReferenceIdeal.nD Cert.AdamSmallReferenceIdeal.τ).loc Cert.AdamSmallReferenceIdeal.main_arg0)) (m' ((c : Thread Cert.AdamSmallReferenceIdeal.nD Cert.AdamSmallReferenceIdeal.τ).loc Cert.AdamSmallReferenceIdeal.main_arg1)) (m' ((c : Thread Cert.AdamSmallReferenceIdeal.nD Cert.AdamSmallReferenceIdeal.τ).loc Cert.AdamSmallReferenceIdeal.main_arg2)) (m' ((c : Thread Cert.AdamSmallReferenceIdeal.nD Cert.AdamSmallReferenceIdeal.τ).loc Cert.AdamSmallReferenceIdeal.main_arg3))).trans ?_), ra⟩
  · rw [a3]
  · rw [a0, a1, a2, a3]
  · rw [a0, a1, a2, a3]
  · rw [a0, a1, a2, a3]

end Cert.Proof.AdamSmall
end
-- ==== Proof.MmAdamIn.lean ====
/- The optimiser's call `AdamIn`: what its tiles leave is the reference's. -/
module

public import proofs.«01_k».proof.Proof.MmAdam
public import proofs.«01_k».proof.Proof.Gen.AdamInIdeal.Value
public import proofs.«01_k».proof.Proof.Gen.AdamInReferenceIdeal.Run
public import Idealize.ShloMosaic.Lib.Pipeline.ValueKit
public import Idealize.ShloMosaic.Lib.Pipeline.ValueKit.Partial
public import Idealize.ShloMosaic.Lib.WritesUnit
public import Idealize.ShloMosaic.Lib.Pipeline.ReadBack

@[expose] public section

set_option maxRecDepth 16384

noncomputable section

namespace Cert.AdamInIdeal.Mm

open Cert.AdamInIdeal Cert.AdamInIdeal.Gen Idealize.ShloMosaic Idealize.ShloMosaic.TcCoe Idealize.SL.Sem
open Idealize.ShloMosaic.Pipeline (Dat)

/-- A gradient: the sum of the parts the devices sent. -/
def gS (R : FVec Ideal S8x4096x1408 .bf16) (a : Fin 4096) (s : Fin 1288) : EReal := ∑ p : Fin 8, R (ix3 p a ⟨s.val, by have := s.isLt; omega⟩)

theorem gS_eq (R : FVec Ideal S8x4096x1408 .bf16) (a : Fin 4096) (s : Fin 1288) (h : s.val < 1408) : gS R a s =
    R (ix3 0 a ⟨s.val, h⟩) + R (ix3 1 a ⟨s.val, h⟩) + R (ix3 2 a ⟨s.val, h⟩) + R (ix3 3 a ⟨s.val, h⟩) + R (ix3 4 a ⟨s.val, h⟩) + R (ix3 5 a ⟨s.val, h⟩) + R (ix3 6 a ⟨s.val, h⟩) + R (ix3 7 a ⟨s.val, h⟩) := by
  unfold gS
  rw [Fin.sum_univ_eight]

/-- The gradient of this layer's rows, before the other layers' rows. -/
def G11 (W M U : FVec Ideal S16384x1288 .f32) (R : FVec Ideal S8x4096x1408 .bf16) (p : FVec Ideal S16384x1288 .f32) : FVec Ideal S16384x1288 .f32 := fun i =>
  if h : (i 0).val < 4096 then (gS R ⟨(i 0).val, h⟩ (i 1)) else p i

theorem G11_pos (W M U : FVec Ideal S16384x1288 .f32) (R : FVec Ideal S8x4096x1408 .bf16) (p : FVec Ideal S16384x1288 .f32) (a : Fin 16384) (s : Fin 1288) (h : a.val < 4096) :
    G11 W M U R p (ix2 a s) = (gS R ⟨a.val, h⟩ s) := dif_pos (c := ((ix2 a s : S16384x1288.Idx) 0).val < 4096) h

theorem G11_neg (W M U : FVec Ideal S16384x1288 .f32) (R : FVec Ideal S8x4096x1408 .bf16) (p : FVec Ideal S16384x1288 .f32) (a : Fin 16384) (s : Fin 1288) (h : ¬a.val < 4096) :
    G11 W M U R p (ix2 a s) = p (ix2 a s) := dif_neg (c := ((ix2 a s : S16384x1288.Idx) 0).val < 4096) h

/-- The steps of this layer's rows, before the other layers' rows. -/
def G12 (W M U : FVec Ideal S16384x1288 .f32) (R : FVec Ideal S8x4096x1408 .bf16) (p : FVec Ideal S16384x1288 .f32) : FVec Ideal S16384x1288 .f32 := fun i =>
  if h : (i 0).val < 4096 then Cert.Adam.delta (W i) (M i) (U i) (gS R ⟨(i 0).val, h⟩ (i 1)) else p i

theorem G12_pos (W M U : FVec Ideal S16384x1288 .f32) (R : FVec Ideal S8x4096x1408 .bf16) (p : FVec Ideal S16384x1288 .f32) (a : Fin 16384) (s : Fin 1288) (h : a.val < 4096) :
    G12 W M U R p (ix2 a s) = Cert.Adam.delta (W (ix2 a s)) (M (ix2 a s)) (U (ix2 a s)) (gS R ⟨a.val, h⟩ s) := dif_pos (c := ((ix2 a s : S16384x1288.Idx) 0).val < 4096) h

theorem G12_neg (W M U : FVec Ideal S16384x1288 .f32) (R : FVec Ideal S8x4096x1408 .bf16) (p : FVec Ideal S16384x1288 .f32) (a : Fin 16384) (s : Fin 1288) (h : ¬a.val < 4096) :
    G12 W M U R p (ix2 a s) = p (ix2 a s) := dif_neg (c := ((ix2 a s : S16384x1288.Idx) 0).val < 4096) h

/-- The new running means of this layer's rows, before the other layers' rows. -/
def G13 (W M U : FVec Ideal S16384x1288 .f32) (R : FVec Ideal S8x4096x1408 .bf16) (p : FVec Ideal S16384x1288 .f32) : FVec Ideal S16384x1288 .f32 := fun i =>
  if h : (i 0).val < 4096 then Cert.Adam.newM (M i) (gS R ⟨(i 0).val, h⟩ (i 1)) else p i

theorem G13_pos (W M U : FVec Ideal S16384x1288 .f32) (R : FVec Ideal S8x4096x1408 .bf16) (p : FVec Ideal S16384x1288 .f32) (a : Fin 16384) (s : Fin 1288) (h : a.val < 4096) :
    G13 W M U R p (ix2 a s) = Cert.Adam.newM (M (ix2 a s)) (gS R ⟨a.val, h⟩ s) := dif_pos (c := ((ix2 a s : S16384x1288.Idx) 0).val < 4096) h

theorem G13_neg (W M U : FVec Ideal S16384x1288 .f32) (R : FVec Ideal S8x4096x1408 .bf16) (p : FVec Ideal S16384x1288 .f32) (a : Fin 16384) (s : Fin 1288) (h : ¬a.val < 4096) :
    G13 W M U R p (ix2 a s) = p (ix2 a s) := dif_neg (c := ((ix2 a s : S16384x1288.Idx) 0).val < 4096) h

/-- The new running means of squares of this layer's rows, before the other layers' rows. -/
def G14 (W M U : FVec Ideal S16384x1288 .f32) (R : FVec Ideal S8x4096x1408 .bf16) (p : FVec Ideal S16384x1288 .f32) : FVec Ideal S16384x1288 .f32 := fun i =>
  if h : (i 0).val < 4096 then Cert.Adam.newV (U i) (gS R ⟨(i 0).val, h⟩ (i 1)) else p i

theorem G14_pos (W M U : FVec Ideal S16384x1288 .f32) (R : FVec Ideal S8x4096x1408 .bf16) (p : FVec Ideal S16384x1288 .f32) (a : Fin 16384) (s : Fin 1288) (h : a.val < 4096) :
    G14 W M U R p (ix2 a s) = Cert.Adam.newV (U (ix2 a s)) (gS R ⟨a.val, h⟩ s) := dif_pos (c := ((ix2 a s : S16384x1288.Idx) 0).val < 4096) h

theorem G14_neg (W M U : FVec Ideal S16384x1288 .f32) (R : FVec Ideal S8x4096x1408 .bf16) (p : FVec Ideal S16384x1288 .f32) (a : Fin 16384) (s : Fin 1288) (h : ¬a.val < 4096) :
    G14 W M U R p (ix2 a s) = p (ix2 a s) := dif_neg (c := ((ix2 a s : S16384x1288.Idx) 0).val < 4096) h

theorem idx : ∀ t : Fin cfg0.N, win0_0.index t = ![t.val, 0] ∧ win0_1.index t = ![t.val, 0] ∧ win0_2.index t = ![t.val, 0] ∧ win0_3.index t = ![0, t.val, 0] ∧ win0_4.index t = ![1, t.val, 0] ∧ win0_5.index t = ![2, t.val, 0] ∧ win0_6.index t = ![3, t.val, 0] ∧ win0_7.index t = ![4, t.val, 0] ∧ win0_8.index t = ![5, t.val, 0] ∧ win0_9.index t = ![6, t.val, 0] ∧ win0_10.index t = ![7, t.val, 0] ∧ win0_11.index t = ![t.val, 0] ∧ win0_12.index t = ![t.val, 0] ∧ win0_13.index t = ![t.val, 0] ∧ win0_14.index t = ![t.val, 0] :=
  (by decide +kernel : ∀ t : Fin grid0.N, _)

theorem rd0 (t : Fin cfg0.N) (a : Fin 64) (s : Fin 1288) (X : FVec Ideal S16384x1288 .f32) :
    (((cfg0.win 0).blk t).view.read (Elt Ideal) (X : ((cfg0.win 0).blk t).view.ty.Contents (Elt Ideal)) : Vec Ideal S64x1288 .f32) (ix2 a s) = X (ix2 ⟨64 * t.val + a.val, by have hN : t.val < 64 := lt_of_lt_of_eq t.isLt N_0; have := a.isLt; omega⟩ s) := by
  blk_simp
  blk_ext [idx t]

theorem rd1 (t : Fin cfg0.N) (a : Fin 64) (s : Fin 1288) (X : FVec Ideal S16384x1288 .f32) :
    (((cfg0.win 1).blk t).view.read (Elt Ideal) (X : ((cfg0.win 1).blk t).view.ty.Contents (Elt Ideal)) : Vec Ideal S64x1288 .f32) (ix2 a s) = X (ix2 ⟨64 * t.val + a.val, by have hN : t.val < 64 := lt_of_lt_of_eq t.isLt N_0; have := a.isLt; omega⟩ s) := by
  blk_simp
  blk_ext [idx t]

theorem rd2 (t : Fin cfg0.N) (a : Fin 64) (s : Fin 1288) (X : FVec Ideal S16384x1288 .f32) :
    (((cfg0.win 2).blk t).view.read (Elt Ideal) (X : ((cfg0.win 2).blk t).view.ty.Contents (Elt Ideal)) : Vec Ideal S64x1288 .f32) (ix2 a s) = X (ix2 ⟨64 * t.val + a.val, by have hN : t.val < 64 := lt_of_lt_of_eq t.isLt N_0; have := a.isLt; omega⟩ s) := by
  blk_simp
  blk_ext [idx t]

theorem rd11 (t : Fin cfg0.N) (a : Fin 64) (s : Fin 1288) (X : FVec Ideal S16384x1288 .f32) :
    (((cfg0.win 11).blk t).view.read (Elt Ideal) (X : ((cfg0.win 11).blk t).view.ty.Contents (Elt Ideal)) : Vec Ideal S64x1288 .f32) (ix2 a s) = X (ix2 ⟨64 * t.val + a.val, by have hN : t.val < 64 := lt_of_lt_of_eq t.isLt N_0; have := a.isLt; omega⟩ s) := by
  blk_simp
  blk_ext [idx t]

theorem rd12 (t : Fin cfg0.N) (a : Fin 64) (s : Fin 1288) (X : FVec Ideal S16384x1288 .f32) :
    (((cfg0.win 12).blk t).view.read (Elt Ideal) (X : ((cfg0.win 12).blk t).view.ty.Contents (Elt Ideal)) : Vec Ideal S64x1288 .f32) (ix2 a s) = X (ix2 ⟨64 * t.val + a.val, by have hN : t.val < 64 := lt_of_lt_of_eq t.isLt N_0; have := a.isLt; omega⟩ s) := by
  blk_simp
  blk_ext [idx t]

theorem rd13 (t : Fin cfg0.N) (a : Fin 64) (s : Fin 1288) (X : FVec Ideal S16384x1288 .f32) :
    (((cfg0.win 13).blk t).view.read (Elt Ideal) (X : ((cfg0.win 13).blk t).view.ty.Contents (Elt Ideal)) : Vec Ideal S64x1288 .f32) (ix2 a s) = X (ix2 ⟨64 * t.val + a.val, by have hN : t.val < 64 := lt_of_lt_of_eq t.isLt N_0; have := a.isLt; omega⟩ s) := by
  blk_simp
  blk_ext [idx t]

theorem rd14 (t : Fin cfg0.N) (a : Fin 64) (s : Fin 1288) (X : FVec Ideal S16384x1288 .f32) :
    (((cfg0.win 14).blk t).view.read (Elt Ideal) (X : ((cfg0.win 14).blk t).view.ty.Contents (Elt Ideal)) : Vec Ideal S64x1288 .f32) (ix2 a s) = X (ix2 ⟨64 * t.val + a.val, by have hN : t.val < 64 := lt_of_lt_of_eq t.isLt N_0; have := a.isLt; omega⟩ s) := by
  blk_simp
  blk_ext [idx t]

theorem rd3 (t : Fin cfg0.N) (a : Fin 64) (s : Fin 1408) (X : FVec Ideal S8x4096x1408 .bf16) :
    (((cfg0.win 3).blk t).view.read (Elt Ideal) (X : ((cfg0.win 3).blk t).view.ty.Contents (Elt Ideal)) : Vec Ideal S1x64x1408 .bf16) (ix3 0 a s) = X (ix3 0 ⟨64 * t.val + a.val, by have hN : t.val < 64 := lt_of_lt_of_eq t.isLt N_0; have := a.isLt; omega⟩ s) := by
  blk_simp
  blk_ext [idx t]

theorem rd4 (t : Fin cfg0.N) (a : Fin 64) (s : Fin 1408) (X : FVec Ideal S8x4096x1408 .bf16) :
    (((cfg0.win 4).blk t).view.read (Elt Ideal) (X : ((cfg0.win 4).blk t).view.ty.Contents (Elt Ideal)) : Vec Ideal S1x64x1408 .bf16) (ix3 0 a s) = X (ix3 1 ⟨64 * t.val + a.val, by have hN : t.val < 64 := lt_of_lt_of_eq t.isLt N_0; have := a.isLt; omega⟩ s) := by
  blk_simp
  blk_ext [idx t]

theorem rd5 (t : Fin cfg0.N) (a : Fin 64) (s : Fin 1408) (X : FVec Ideal S8x4096x1408 .bf16) :
    (((cfg0.win 5).blk t).view.read (Elt Ideal) (X : ((cfg0.win 5).blk t).view.ty.Contents (Elt Ideal)) : Vec Ideal S1x64x1408 .bf16) (ix3 0 a s) = X (ix3 2 ⟨64 * t.val + a.val, by have hN : t.val < 64 := lt_of_lt_of_eq t.isLt N_0; have := a.isLt; omega⟩ s) := by
  blk_simp
  blk_ext [idx t]

theorem rd6 (t : Fin cfg0.N) (a : Fin 64) (s : Fin 1408) (X : FVec Ideal S8x4096x1408 .bf16) :
    (((cfg0.win 6).blk t).view.read (Elt Ideal) (X : ((cfg0.win 6).blk t).view.ty.Contents (Elt Ideal)) : Vec Ideal S1x64x1408 .bf16) (ix3 0 a s) = X (ix3 3 ⟨64 * t.val + a.val, by have hN : t.val < 64 := lt_of_lt_of_eq t.isLt N_0; have := a.isLt; omega⟩ s) := by
  blk_simp
  blk_ext [idx t]

theorem rd7 (t : Fin cfg0.N) (a : Fin 64) (s : Fin 1408) (X : FVec Ideal S8x4096x1408 .bf16) :
    (((cfg0.win 7).blk t).view.read (Elt Ideal) (X : ((cfg0.win 7).blk t).view.ty.Contents (Elt Ideal)) : Vec Ideal S1x64x1408 .bf16) (ix3 0 a s) = X (ix3 4 ⟨64 * t.val + a.val, by have hN : t.val < 64 := lt_of_lt_of_eq t.isLt N_0; have := a.isLt; omega⟩ s) := by
  blk_simp
  blk_ext [idx t]

theorem rd8 (t : Fin cfg0.N) (a : Fin 64) (s : Fin 1408) (X : FVec Ideal S8x4096x1408 .bf16) :
    (((cfg0.win 8).blk t).view.read (Elt Ideal) (X : ((cfg0.win 8).blk t).view.ty.Contents (Elt Ideal)) : Vec Ideal S1x64x1408 .bf16) (ix3 0 a s) = X (ix3 5 ⟨64 * t.val + a.val, by have hN : t.val < 64 := lt_of_lt_of_eq t.isLt N_0; have := a.isLt; omega⟩ s) := by
  blk_simp
  blk_ext [idx t]

theorem rd9 (t : Fin cfg0.N) (a : Fin 64) (s : Fin 1408) (X : FVec Ideal S8x4096x1408 .bf16) :
    (((cfg0.win 9).blk t).view.read (Elt Ideal) (X : ((cfg0.win 9).blk t).view.ty.Contents (Elt Ideal)) : Vec Ideal S1x64x1408 .bf16) (ix3 0 a s) = X (ix3 6 ⟨64 * t.val + a.val, by have hN : t.val < 64 := lt_of_lt_of_eq t.isLt N_0; have := a.isLt; omega⟩ s) := by
  blk_simp
  blk_ext [idx t]

theorem rd10 (t : Fin cfg0.N) (a : Fin 64) (s : Fin 1408) (X : FVec Ideal S8x4096x1408 .bf16) :
    (((cfg0.win 10).blk t).view.read (Elt Ideal) (X : ((cfg0.win 10).blk t).view.ty.Contents (Elt Ideal)) : Vec Ideal S1x64x1408 .bf16) (ix3 0 a s) = X (ix3 7 ⟨64 * t.val + a.val, by have hN : t.val < 64 := lt_of_lt_of_eq t.isLt N_0; have := a.isLt; omega⟩ s) := by
  blk_simp
  blk_ext [idx t]

variable (m : (ℓ : Loc nD τ sig) → Buf (Elt Ideal) ℓ)

/-- An entry of block 0. -/
def b0 (c : Dev nD) (t : Fin cfg0.N) (a : Fin 64) (s : Fin 1288) : EReal := (iblk m c 0 t : Vec Ideal S64x1288 .f32) (ix2 a s)

/-- An entry of block 1. -/
def b1 (c : Dev nD) (t : Fin cfg0.N) (a : Fin 64) (s : Fin 1288) : EReal := (iblk m c 1 t : Vec Ideal S64x1288 .f32) (ix2 a s)

/-- An entry of block 2. -/
def b2 (c : Dev nD) (t : Fin cfg0.N) (a : Fin 64) (s : Fin 1288) : EReal := (iblk m c 2 t : Vec Ideal S64x1288 .f32) (ix2 a s)

/-- An entry of block 3. -/
def b3 (c : Dev nD) (t : Fin cfg0.N) (a : Fin 64) (s : Fin 1408) : EReal := (iblk m c 3 t : Vec Ideal S1x64x1408 .bf16) (ix3 0 a s)

/-- An entry of block 4. -/
def b4 (c : Dev nD) (t : Fin cfg0.N) (a : Fin 64) (s : Fin 1408) : EReal := (iblk m c 4 t : Vec Ideal S1x64x1408 .bf16) (ix3 0 a s)

/-- An entry of block 5. -/
def b5 (c : Dev nD) (t : Fin cfg0.N) (a : Fin 64) (s : Fin 1408) : EReal := (iblk m c 5 t : Vec Ideal S1x64x1408 .bf16) (ix3 0 a s)

/-- An entry of block 6. -/
def b6 (c : Dev nD) (t : Fin cfg0.N) (a : Fin 64) (s : Fin 1408) : EReal := (iblk m c 6 t : Vec Ideal S1x64x1408 .bf16) (ix3 0 a s)

/-- An entry of block 7. -/
def b7 (c : Dev nD) (t : Fin cfg0.N) (a : Fin 64) (s : Fin 1408) : EReal := (iblk m c 7 t : Vec Ideal S1x64x1408 .bf16) (ix3 0 a s)

/-- An entry of block 8. -/
def b8 (c : Dev nD) (t : Fin cfg0.N) (a : Fin 64) (s : Fin 1408) : EReal := (iblk m c 8 t : Vec Ideal S1x64x1408 .bf16) (ix3 0 a s)

/-- An entry of block 9. -/
def b9 (c : Dev nD) (t : Fin cfg0.N) (a : Fin 64) (s : Fin 1408) : EReal := (iblk m c 9 t : Vec Ideal S1x64x1408 .bf16) (ix3 0 a s)

/-- An entry of block 10. -/
def b10 (c : Dev nD) (t : Fin cfg0.N) (a : Fin 64) (s : Fin 1408) : EReal := (iblk m c 10 t : Vec Ideal S1x64x1408 .bf16) (ix3 0 a s)

theorem o11 (c : Dev nD) (t : Fin cfg0.N) (a : Fin 64) (s : Fin 1288) : ((outsAt0 m c t).1 : Vec Ideal S64x1288 .f32) (ix2 a s) = (b3 m c t a ⟨s.val, by have := s.isLt; omega⟩ + b4 m c t a ⟨s.val, by have := s.isLt; omega⟩ + b5 m c t a ⟨s.val, by have := s.isLt; omega⟩ + b6 m c t a ⟨s.val, by have := s.isLt; omega⟩ + b7 m c t a ⟨s.val, by have := s.isLt; omega⟩ + b8 m c t a ⟨s.val, by have := s.isLt; omega⟩ + b9 m c t a ⟨s.val, by have := s.isLt; omega⟩ + b10 m c t a ⟨s.val, by have := s.isLt; omega⟩) := by
  unfold outsAt0
  frame_out
  open_payloads
  pointwise

  unfold b3 b4 b5 b6 b7 b8 b9 b10
  rfl

theorem final11 (c : Dev nD) : (dats m 0 c).arrAt 11 cfg0.N = G11 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_coversWhere_of_agree 11 _ (fun β => β (0 : Fin _) < 64) (by decide +kernel) (fun t hf y => ?_) (fun j hj => ?_)
  · blk_simp
    rw [after0_11]
    obtain ⟨a, s, rfl⟩ : ∃ (a : Fin 64) (s : Fin 1288), y = (ix2 a s : S64x1288.Idx) := ⟨y 0, y 1, (ix2_eta y).symm⟩
    refine (o11 m c t a s).trans (Eq.trans ?_ (rd11 t a s (G11 (m ((c : Thread nD τ).loc main_arg0)) (m ((c : Thread nD τ).loc main_arg1)) (m ((c : Thread nD τ).loc main_arg2)) (m ((c : Thread nD τ).loc main_arg3)) (m ((c : Thread nD τ).loc main_arg4)))).symm)
    have ha : 64 * t.val + a.val < 4096 := by have hN : t.val < 64 := lt_of_lt_of_eq t.isLt N_0; have := a.isLt; omega
    have hs : s.val < 1408 := by have := s.isLt; omega
    refine Eq.trans ?_ (G11_pos _ _ _ _ _ _ _ ha).symm
    have hg := gS_eq (m ((c : Thread nD τ).loc main_arg3)) ⟨64 * t.val + a.val, ha⟩ s hs
    have h3 : b3 m c t a ⟨s.val, hs⟩ = _ := rd3 t a ⟨s.val, hs⟩ (m ((c : Thread nD τ).loc main_arg3))
    have h4 : b4 m c t a ⟨s.val, hs⟩ = _ := rd4 t a ⟨s.val, hs⟩ (m ((c : Thread nD τ).loc main_arg3))
    have h5 : b5 m c t a ⟨s.val, hs⟩ = _ := rd5 t a ⟨s.val, hs⟩ (m ((c : Thread nD τ).loc main_arg3))
    have h6 : b6 m c t a ⟨s.val, hs⟩ = _ := rd6 t a ⟨s.val, hs⟩ (m ((c : Thread nD τ).loc main_arg3))
    have h7 : b7 m c t a ⟨s.val, hs⟩ = _ := rd7 t a ⟨s.val, hs⟩ (m ((c : Thread nD τ).loc main_arg3))
    have h8 : b8 m c t a ⟨s.val, hs⟩ = _ := rd8 t a ⟨s.val, hs⟩ (m ((c : Thread nD τ).loc main_arg3))
    have h9 : b9 m c t a ⟨s.val, hs⟩ = _ := rd9 t a ⟨s.val, hs⟩ (m ((c : Thread nD τ).loc main_arg3))
    have h10 : b10 m c t a ⟨s.val, hs⟩ = _ := rd10 t a ⟨s.val, hs⟩ (m ((c : Thread nD τ).loc main_arg3))
    have h0 : b0 m c t a s = _ := rd0 t a s (m ((c : Thread nD τ).loc main_arg0))
    have h1 : b1 m c t a s = _ := rd1 t a s (m ((c : Thread nD τ).loc main_arg1))
    have h2 : b2 m c t a s = _ := rd2 t a s (m ((c : Thread nD τ).loc main_arg2))
    rw [h3, h4, h5, h6, h7, h8, h9, h10, ← hg]
  · blk_simp [Pipeline.Window.cell_apply] at hj
    have e : G11 (m ((c : Thread nD τ).loc main_arg0)) (m ((c : Thread nD τ).loc main_arg1)) (m ((c : Thread nD τ).loc main_arg2)) (m ((c : Thread nD τ).loc main_arg3)) (m ((c : Thread nD τ).loc main_arg4)) j = (m ((c : Thread nD τ).loc main_arg4)) j := dif_neg (by omega)
    refine Eq.trans ?_ e.symm
    rw [A_eq]
    entry_read
    rfl

theorem o12 (c : Dev nD) (t : Fin cfg0.N) (a : Fin 64) (s : Fin 1288) : ((outsAt0 m c t).2.1 : Vec Ideal S64x1288 .f32) (ix2 a s) = Cert.Adam.delta (b0 m c t a s) (b1 m c t a s) (b2 m c t a s) (b3 m c t a ⟨s.val, by have := s.isLt; omega⟩ + b4 m c t a ⟨s.val, by have := s.isLt; omega⟩ + b5 m c t a ⟨s.val, by have := s.isLt; omega⟩ + b6 m c t a ⟨s.val, by have := s.isLt; omega⟩ + b7 m c t a ⟨s.val, by have := s.isLt; omega⟩ + b8 m c t a ⟨s.val, by have := s.isLt; omega⟩ + b9 m c t a ⟨s.val, by have := s.isLt; omega⟩ + b10 m c t a ⟨s.val, by have := s.isLt; omega⟩) := by
  unfold outsAt0
  frame_out
  open_payloads
  pointwise
  unfold Cert.Adam.delta Cert.Adam.newM Cert.Adam.newV
  unfold b3 b4 b5 b6 b7 b8 b9 b10 b0 b1 b2
  rfl

theorem final12 (c : Dev nD) : (dats m 0 c).arrAt 12 cfg0.N = G12 (m ((c : Thread nD τ).loc main_arg0)) (m ((c : Thread nD τ).loc main_arg1)) (m ((c : Thread nD τ).loc main_arg2)) (m ((c : Thread nD τ).loc main_arg3)) (m ((c : Thread nD τ).loc main_arg5)) := by
  refine (dats m 0 c).arrAt_eq_of_coversWhere_of_agree 12 _ (fun β => β (0 : Fin _) < 64) (by decide +kernel) (fun t hf y => ?_) (fun j hj => ?_)
  · blk_simp
    rw [after0_12]
    obtain ⟨a, s, rfl⟩ : ∃ (a : Fin 64) (s : Fin 1288), y = (ix2 a s : S64x1288.Idx) := ⟨y 0, y 1, (ix2_eta y).symm⟩
    refine (o12 m c t a s).trans (Eq.trans ?_ (rd12 t a s (G12 (m ((c : Thread nD τ).loc main_arg0)) (m ((c : Thread nD τ).loc main_arg1)) (m ((c : Thread nD τ).loc main_arg2)) (m ((c : Thread nD τ).loc main_arg3)) (m ((c : Thread nD τ).loc main_arg5)))).symm)
    have ha : 64 * t.val + a.val < 4096 := by have hN : t.val < 64 := lt_of_lt_of_eq t.isLt N_0; have := a.isLt; omega
    have hs : s.val < 1408 := by have := s.isLt; omega
    refine Eq.trans ?_ (G12_pos _ _ _ _ _ _ _ ha).symm
    have hg := gS_eq (m ((c : Thread nD τ).loc main_arg3)) ⟨64 * t.val + a.val, ha⟩ s hs
    have h3 : b3 m c t a ⟨s.val, hs⟩ = _ := rd3 t a ⟨s.val, hs⟩ (m ((c : Thread nD τ).loc main_arg3))
    have h4 : b4 m c t a ⟨s.val, hs⟩ = _ := rd4 t a ⟨s.val, hs⟩ (m ((c : Thread nD τ).loc main_arg3))
    have h5 : b5 m c t a ⟨s.val, hs⟩ = _ := rd5 t a ⟨s.val, hs⟩ (m ((c : Thread nD τ).loc main_arg3))
    have h6 : b6 m c t a ⟨s.val, hs⟩ = _ := rd6 t a ⟨s.val, hs⟩ (m ((c : Thread nD τ).loc main_arg3))
    have h7 : b7 m c t a ⟨s.val, hs⟩ = _ := rd7 t a ⟨s.val, hs⟩ (m ((c : Thread nD τ).loc main_arg3))
    have h8 : b8 m c t a ⟨s.val, hs⟩ = _ := rd8 t a ⟨s.val, hs⟩ (m ((c : Thread nD τ).loc main_arg3))
    have h9 : b9 m c t a ⟨s.val, hs⟩ = _ := rd9 t a ⟨s.val, hs⟩ (m ((c : Thread nD τ).loc main_arg3))
    have h10 : b10 m c t a ⟨s.val, hs⟩ = _ := rd10 t a ⟨s.val, hs⟩ (m ((c : Thread nD τ).loc main_arg3))
    have h0 : b0 m c t a s = _ := rd0 t a s (m ((c : Thread nD τ).loc main_arg0))
    have h1 : b1 m c t a s = _ := rd1 t a s (m ((c : Thread nD τ).loc main_arg1))
    have h2 : b2 m c t a s = _ := rd2 t a s (m ((c : Thread nD τ).loc main_arg2))
    rw [h0, h1, h2, h3, h4, h5, h6, h7, h8, h9, h10, ← hg]
  · blk_simp [Pipeline.Window.cell_apply] at hj
    have e : G12 (m ((c : Thread nD τ).loc main_arg0)) (m ((c : Thread nD τ).loc main_arg1)) (m ((c : Thread nD τ).loc main_arg2)) (m ((c : Thread nD τ).loc main_arg3)) (m ((c : Thread nD τ).loc main_arg5)) j = (m ((c : Thread nD τ).loc main_arg5)) j := dif_neg (by omega)
    refine Eq.trans ?_ e.symm
    rw [A_eq]
    entry_read
    rfl

theorem o13 (c : Dev nD) (t : Fin cfg0.N) (a : Fin 64) (s : Fin 1288) : ((outsAt0 m c t).2.2.1 : Vec Ideal S64x1288 .f32) (ix2 a s) = Cert.Adam.newM (b1 m c t a s) (b3 m c t a ⟨s.val, by have := s.isLt; omega⟩ + b4 m c t a ⟨s.val, by have := s.isLt; omega⟩ + b5 m c t a ⟨s.val, by have := s.isLt; omega⟩ + b6 m c t a ⟨s.val, by have := s.isLt; omega⟩ + b7 m c t a ⟨s.val, by have := s.isLt; omega⟩ + b8 m c t a ⟨s.val, by have := s.isLt; omega⟩ + b9 m c t a ⟨s.val, by have := s.isLt; omega⟩ + b10 m c t a ⟨s.val, by have := s.isLt; omega⟩) := by
  unfold outsAt0
  frame_out
  open_payloads
  pointwise
  unfold Cert.Adam.newM
  unfold b3 b4 b5 b6 b7 b8 b9 b10 b1
  rfl

theorem final13 (c : Dev nD) : (dats m 0 c).arrAt 13 cfg0.N = G13 (m ((c : Thread nD τ).loc main_arg0)) (m ((c : Thread nD τ).loc main_arg1)) (m ((c : Thread nD τ).loc main_arg2)) (m ((c : Thread nD τ).loc main_arg3)) (m ((c : Thread nD τ).loc main_arg6)) := by
  refine (dats m 0 c).arrAt_eq_of_coversWhere_of_agree 13 _ (fun β => β (0 : Fin _) < 64) (by decide +kernel) (fun t hf y => ?_) (fun j hj => ?_)
  · blk_simp
    rw [after0_13]
    obtain ⟨a, s, rfl⟩ : ∃ (a : Fin 64) (s : Fin 1288), y = (ix2 a s : S64x1288.Idx) := ⟨y 0, y 1, (ix2_eta y).symm⟩
    refine (o13 m c t a s).trans (Eq.trans ?_ (rd13 t a s (G13 (m ((c : Thread nD τ).loc main_arg0)) (m ((c : Thread nD τ).loc main_arg1)) (m ((c : Thread nD τ).loc main_arg2)) (m ((c : Thread nD τ).loc main_arg3)) (m ((c : Thread nD τ).loc main_arg6)))).symm)
    have ha : 64 * t.val + a.val < 4096 := by have hN : t.val < 64 := lt_of_lt_of_eq t.isLt N_0; have := a.isLt; omega
    have hs : s.val < 1408 := by have := s.isLt; omega
    refine Eq.trans ?_ (G13_pos _ _ _ _ _ _ _ ha).symm
    have hg := gS_eq (m ((c : Thread nD τ).loc main_arg3)) ⟨64 * t.val + a.val, ha⟩ s hs
    have h3 : b3 m c t a ⟨s.val, hs⟩ = _ := rd3 t a ⟨s.val, hs⟩ (m ((c : Thread nD τ).loc main_arg3))
    have h4 : b4 m c t a ⟨s.val, hs⟩ = _ := rd4 t a ⟨s.val, hs⟩ (m ((c : Thread nD τ).loc main_arg3))
    have h5 : b5 m c t a ⟨s.val, hs⟩ = _ := rd5 t a ⟨s.val, hs⟩ (m ((c : Thread nD τ).loc main_arg3))
    have h6 : b6 m c t a ⟨s.val, hs⟩ = _ := rd6 t a ⟨s.val, hs⟩ (m ((c : Thread nD τ).loc main_arg3))
    have h7 : b7 m c t a ⟨s.val, hs⟩ = _ := rd7 t a ⟨s.val, hs⟩ (m ((c : Thread nD τ).loc main_arg3))
    have h8 : b8 m c t a ⟨s.val, hs⟩ = _ := rd8 t a ⟨s.val, hs⟩ (m ((c : Thread nD τ).loc main_arg3))
    have h9 : b9 m c t a ⟨s.val, hs⟩ = _ := rd9 t a ⟨s.val, hs⟩ (m ((c : Thread nD τ).loc main_arg3))
    have h10 : b10 m c t a ⟨s.val, hs⟩ = _ := rd10 t a ⟨s.val, hs⟩ (m ((c : Thread nD τ).loc main_arg3))
    have h0 : b0 m c t a s = _ := rd0 t a s (m ((c : Thread nD τ).loc main_arg0))
    have h1 : b1 m c t a s = _ := rd1 t a s (m ((c : Thread nD τ).loc main_arg1))
    have h2 : b2 m c t a s = _ := rd2 t a s (m ((c : Thread nD τ).loc main_arg2))
    rw [h1, h3, h4, h5, h6, h7, h8, h9, h10, ← hg]
  · blk_simp [Pipeline.Window.cell_apply] at hj
    have e : G13 (m ((c : Thread nD τ).loc main_arg0)) (m ((c : Thread nD τ).loc main_arg1)) (m ((c : Thread nD τ).loc main_arg2)) (m ((c : Thread nD τ).loc main_arg3)) (m ((c : Thread nD τ).loc main_arg6)) j = (m ((c : Thread nD τ).loc main_arg6)) j := dif_neg (by omega)
    refine Eq.trans ?_ e.symm
    rw [A_eq]
    entry_read
    rfl

theorem o14 (c : Dev nD) (t : Fin cfg0.N) (a : Fin 64) (s : Fin 1288) : ((outsAt0 m c t).2.2.2 : Vec Ideal S64x1288 .f32) (ix2 a s) = Cert.Adam.newV (b2 m c t a s) (b3 m c t a ⟨s.val, by have := s.isLt; omega⟩ + b4 m c t a ⟨s.val, by have := s.isLt; omega⟩ + b5 m c t a ⟨s.val, by have := s.isLt; omega⟩ + b6 m c t a ⟨s.val, by have := s.isLt; omega⟩ + b7 m c t a ⟨s.val, by have := s.isLt; omega⟩ + b8 m c t a ⟨s.val, by have := s.isLt; omega⟩ + b9 m c t a ⟨s.val, by have := s.isLt; omega⟩ + b10 m c t a ⟨s.val, by have := s.isLt; omega⟩) := by
  unfold outsAt0
  frame_out
  open_payloads
  pointwise
  unfold Cert.Adam.newV
  unfold b3 b4 b5 b6 b7 b8 b9 b10 b2
  rfl

theorem final14 (c : Dev nD) : (dats m 0 c).arrAt 14 cfg0.N = G14 (m ((c : Thread nD τ).loc main_arg0)) (m ((c : Thread nD τ).loc main_arg1)) (m ((c : Thread nD τ).loc main_arg2)) (m ((c : Thread nD τ).loc main_arg3)) (m ((c : Thread nD τ).loc main_arg7)) := by
  refine (dats m 0 c).arrAt_eq_of_coversWhere_of_agree 14 _ (fun β => β (0 : Fin _) < 64) (by decide +kernel) (fun t hf y => ?_) (fun j hj => ?_)
  · blk_simp
    rw [after0_14]
    obtain ⟨a, s, rfl⟩ : ∃ (a : Fin 64) (s : Fin 1288), y = (ix2 a s : S64x1288.Idx) := ⟨y 0, y 1, (ix2_eta y).symm⟩
    refine (o14 m c t a s).trans (Eq.trans ?_ (rd14 t a s (G14 (m ((c : Thread nD τ).loc main_arg0)) (m ((c : Thread nD τ).loc main_arg1)) (m ((c : Thread nD τ).loc main_arg2)) (m ((c : Thread nD τ).loc main_arg3)) (m ((c : Thread nD τ).loc main_arg7)))).symm)
    have ha : 64 * t.val + a.val < 4096 := by have hN : t.val < 64 := lt_of_lt_of_eq t.isLt N_0; have := a.isLt; omega
    have hs : s.val < 1408 := by have := s.isLt; omega
    refine Eq.trans ?_ (G14_pos _ _ _ _ _ _ _ ha).symm
    have hg := gS_eq (m ((c : Thread nD τ).loc main_arg3)) ⟨64 * t.val + a.val, ha⟩ s hs
    have h3 : b3 m c t a ⟨s.val, hs⟩ = _ := rd3 t a ⟨s.val, hs⟩ (m ((c : Thread nD τ).loc main_arg3))
    have h4 : b4 m c t a ⟨s.val, hs⟩ = _ := rd4 t a ⟨s.val, hs⟩ (m ((c : Thread nD τ).loc main_arg3))
    have h5 : b5 m c t a ⟨s.val, hs⟩ = _ := rd5 t a ⟨s.val, hs⟩ (m ((c : Thread nD τ).loc main_arg3))
    have h6 : b6 m c t a ⟨s.val, hs⟩ = _ := rd6 t a ⟨s.val, hs⟩ (m ((c : Thread nD τ).loc main_arg3))
    have h7 : b7 m c t a ⟨s.val, hs⟩ = _ := rd7 t a ⟨s.val, hs⟩ (m ((c : Thread nD τ).loc main_arg3))
    have h8 : b8 m c t a ⟨s.val, hs⟩ = _ := rd8 t a ⟨s.val, hs⟩ (m ((c : Thread nD τ).loc main_arg3))
    have h9 : b9 m c t a ⟨s.val, hs⟩ = _ := rd9 t a ⟨s.val, hs⟩ (m ((c : Thread nD τ).loc main_arg3))
    have h10 : b10 m c t a ⟨s.val, hs⟩ = _ := rd10 t a ⟨s.val, hs⟩ (m ((c : Thread nD τ).loc main_arg3))
    have h0 : b0 m c t a s = _ := rd0 t a s (m ((c : Thread nD τ).loc main_arg0))
    have h1 : b1 m c t a s = _ := rd1 t a s (m ((c : Thread nD τ).loc main_arg1))
    have h2 : b2 m c t a s = _ := rd2 t a s (m ((c : Thread nD τ).loc main_arg2))
    rw [h2, h3, h4, h5, h6, h7, h8, h9, h10, ← hg]
  · blk_simp [Pipeline.Window.cell_apply] at hj
    have e : G14 (m ((c : Thread nD τ).loc main_arg0)) (m ((c : Thread nD τ).loc main_arg1)) (m ((c : Thread nD τ).loc main_arg2)) (m ((c : Thread nD τ).loc main_arg3)) (m ((c : Thread nD τ).loc main_arg7)) j = (m ((c : Thread nD τ).loc main_arg7)) j := dif_neg (by omega)
    refine Eq.trans ?_ e.symm
    rw [A_eq]
    entry_read
    rfl

end Cert.AdamInIdeal.Mm

namespace Cert.AdamInReferenceIdeal.Mm

open Cert.AdamInReferenceIdeal Cert.AdamInReferenceIdeal.Gen Idealize.ShloMosaic Idealize.ShloMosaic.TcCoe Idealize.SL.Sem

/-- The gradient, as the reference leaves them. -/
def ref11 (W M U : FVec Ideal S16384x1288 .f32) (R : FVec Ideal S8x4096x1408 .bf16) (p : FVec Ideal S16384x1288 .f32) : FVec Ideal S16384x1288 .f32 := concatenate S16384x1288 0 [⟨S4096x1288, (extractStridedSlice S4096x1288 ![0, 0] (Host.reduceAdd (extf .f32 R bitsLt_bf16_f32) (constant S_ .f32 0x00000000#32) reducesTo_S8x4096x1408_S4096x1408_d0 h_S_) slices_S4096x1408_S4096x1288_0_0)⟩, ⟨S12288x1288, (extractStridedSlice S12288x1288 ![4096, 0] p slices_S16384x1288_S12288x1288_4096_0)⟩] concatenates_S4096x1288_S12288x1288_S16384x1288_d0

theorem ref11_eq (W M U : FVec Ideal S16384x1288 .f32) (R : FVec Ideal S8x4096x1408 .bf16) (p : FVec Ideal S16384x1288 .f32) : ref11 W M U R p = Cert.AdamInIdeal.Mm.G11 W M U R p := by
  funext i
  obtain ⟨a, s, rfl⟩ : ∃ (a : Fin 16384) (s : Fin 1288), i = (ix2 a s : S16384x1288.Idx) := ⟨i 0, i 1, (ix2_eta i).symm⟩
  unfold ref11; pointwise
  by_cases h : a.val < 4096
  · rw [dif_pos h]; exact (Cert.AdamInIdeal.Mm.G11_pos W M U R p a s h).symm
  · rw [dif_neg h]
    refine Eq.trans (congrArg p (congrArg (fun z => (ix2 z s : S16384x1288.Idx)) (Fin.ext ?_))) (Cert.AdamInIdeal.Mm.G11_neg W M U R p a s h).symm
    show 4096 + (a.val - 4096) = a.val
    omega

/-- The steps, as the reference leaves them. -/
def ref12 (W M U : FVec Ideal S16384x1288 .f32) (R : FVec Ideal S8x4096x1408 .bf16) (p : FVec Ideal S16384x1288 .f32) : FVec Ideal S16384x1288 .f32 := concatenate S16384x1288 0 [⟨S4096x1288, (mulf (broadcastInDim S4096x1288 ![] bcast_S_S4096x1288 (constant S_ .f32 0xBA83126F#32)) (addf (Host.divf (Host.divf (addf (mulf (broadcastInDim S4096x1288 ![] bcast_S_S4096x1288 (constant S_ .f32 0x3F666666#32)) (extractStridedSlice S4096x1288 ![0, 0] M slices_S16384x1288_S4096x1288_0_0)) (mulf (broadcastInDim S4096x1288 ![] bcast_S_S4096x1288 (constant S_ .f32 0x3DCCCCCD#32)) (extractStridedSlice S4096x1288 ![0, 0] (Host.reduceAdd (extf .f32 R bitsLt_bf16_f32) (constant S_ .f32 0x00000000#32) reducesTo_S8x4096x1408_S4096x1408_d0 h_S_) slices_S4096x1408_S4096x1288_0_0))) (broadcastInDim S4096x1288 ![] bcast_S_S4096x1288 (constant S_ .f32 0x3F26BD02#32))) (addf (Host.sqrt (Host.divf (addf (mulf (broadcastInDim S4096x1288 ![] bcast_S_S4096x1288 (constant S_ .f32 0x3F7FBE77#32)) (extractStridedSlice S4096x1288 ![0, 0] U slices_S16384x1288_S4096x1288_0_0)) (mulf (broadcastInDim S4096x1288 ![] bcast_S_S4096x1288 (constant S_ .f32 0x3A83126F#32)) (mulf (extractStridedSlice S4096x1288 ![0, 0] (Host.reduceAdd (extf .f32 R bitsLt_bf16_f32) (constant S_ .f32 0x00000000#32) reducesTo_S8x4096x1408_S4096x1408_d0 h_S_) slices_S4096x1408_S4096x1288_0_0) (extractStridedSlice S4096x1288 ![0, 0] (Host.reduceAdd (extf .f32 R bitsLt_bf16_f32) (constant S_ .f32 0x00000000#32) reducesTo_S8x4096x1408_S4096x1408_d0 h_S_) slices_S4096x1408_S4096x1288_0_0)))) (broadcastInDim S4096x1288 ![] bcast_S_S4096x1288 (constant S_ .f32 0x3C231ACC#32)))) (broadcastInDim S4096x1288 ![] bcast_S_S4096x1288 (constant S_ .f32 0x322BCC77#32)))) (mulf (broadcastInDim S4096x1288 ![] bcast_S_S4096x1288 (constant S_ .f32 0x3C23D70A#32)) (extractStridedSlice S4096x1288 ![0, 0] W slices_S16384x1288_S4096x1288_0_0))))⟩, ⟨S12288x1288, (extractStridedSlice S12288x1288 ![4096, 0] p slices_S16384x1288_S12288x1288_4096_0)⟩] concatenates_S4096x1288_S12288x1288_S16384x1288_d0

theorem ref12_eq (W M U : FVec Ideal S16384x1288 .f32) (R : FVec Ideal S8x4096x1408 .bf16) (p : FVec Ideal S16384x1288 .f32) : ref12 W M U R p = Cert.AdamInIdeal.Mm.G12 W M U R p := by
  funext i
  obtain ⟨a, s, rfl⟩ : ∃ (a : Fin 16384) (s : Fin 1288), i = (ix2 a s : S16384x1288.Idx) := ⟨i 0, i 1, (ix2_eta i).symm⟩
  unfold ref12; pointwise
  by_cases h : a.val < 4096
  · rw [dif_pos h]; exact (Cert.AdamInIdeal.Mm.G12_pos W M U R p a s h).symm
  · rw [dif_neg h]
    refine Eq.trans (congrArg p (congrArg (fun z => (ix2 z s : S16384x1288.Idx)) (Fin.ext ?_))) (Cert.AdamInIdeal.Mm.G12_neg W M U R p a s h).symm
    show 4096 + (a.val - 4096) = a.val
    omega

/-- The new running means, as the reference leaves them. -/
def ref13 (W M U : FVec Ideal S16384x1288 .f32) (R : FVec Ideal S8x4096x1408 .bf16) (p : FVec Ideal S16384x1288 .f32) : FVec Ideal S16384x1288 .f32 := concatenate S16384x1288 0 [⟨S4096x1288, (addf (mulf (broadcastInDim S4096x1288 ![] bcast_S_S4096x1288 (constant S_ .f32 0x3F666666#32)) (extractStridedSlice S4096x1288 ![0, 0] M slices_S16384x1288_S4096x1288_0_0)) (mulf (broadcastInDim S4096x1288 ![] bcast_S_S4096x1288 (constant S_ .f32 0x3DCCCCCD#32)) (extractStridedSlice S4096x1288 ![0, 0] (Host.reduceAdd (extf .f32 R bitsLt_bf16_f32) (constant S_ .f32 0x00000000#32) reducesTo_S8x4096x1408_S4096x1408_d0 h_S_) slices_S4096x1408_S4096x1288_0_0)))⟩, ⟨S12288x1288, (extractStridedSlice S12288x1288 ![4096, 0] p slices_S16384x1288_S12288x1288_4096_0)⟩] concatenates_S4096x1288_S12288x1288_S16384x1288_d0

theorem ref13_eq (W M U : FVec Ideal S16384x1288 .f32) (R : FVec Ideal S8x4096x1408 .bf16) (p : FVec Ideal S16384x1288 .f32) : ref13 W M U R p = Cert.AdamInIdeal.Mm.G13 W M U R p := by
  funext i
  obtain ⟨a, s, rfl⟩ : ∃ (a : Fin 16384) (s : Fin 1288), i = (ix2 a s : S16384x1288.Idx) := ⟨i 0, i 1, (ix2_eta i).symm⟩
  unfold ref13; pointwise
  by_cases h : a.val < 4096
  · rw [dif_pos h]; exact (Cert.AdamInIdeal.Mm.G13_pos W M U R p a s h).symm
  · rw [dif_neg h]
    refine Eq.trans (congrArg p (congrArg (fun z => (ix2 z s : S16384x1288.Idx)) (Fin.ext ?_))) (Cert.AdamInIdeal.Mm.G13_neg W M U R p a s h).symm
    show 4096 + (a.val - 4096) = a.val
    omega

/-- The new running means of squares, as the reference leaves them. -/
def ref14 (W M U : FVec Ideal S16384x1288 .f32) (R : FVec Ideal S8x4096x1408 .bf16) (p : FVec Ideal S16384x1288 .f32) : FVec Ideal S16384x1288 .f32 := concatenate S16384x1288 0 [⟨S4096x1288, (addf (mulf (broadcastInDim S4096x1288 ![] bcast_S_S4096x1288 (constant S_ .f32 0x3F7FBE77#32)) (extractStridedSlice S4096x1288 ![0, 0] U slices_S16384x1288_S4096x1288_0_0)) (mulf (broadcastInDim S4096x1288 ![] bcast_S_S4096x1288 (constant S_ .f32 0x3A83126F#32)) (mulf (extractStridedSlice S4096x1288 ![0, 0] (Host.reduceAdd (extf .f32 R bitsLt_bf16_f32) (constant S_ .f32 0x00000000#32) reducesTo_S8x4096x1408_S4096x1408_d0 h_S_) slices_S4096x1408_S4096x1288_0_0) (extractStridedSlice S4096x1288 ![0, 0] (Host.reduceAdd (extf .f32 R bitsLt_bf16_f32) (constant S_ .f32 0x00000000#32) reducesTo_S8x4096x1408_S4096x1408_d0 h_S_) slices_S4096x1408_S4096x1288_0_0))))⟩, ⟨S12288x1288, (extractStridedSlice S12288x1288 ![4096, 0] p slices_S16384x1288_S12288x1288_4096_0)⟩] concatenates_S4096x1288_S12288x1288_S16384x1288_d0

theorem ref14_eq (W M U : FVec Ideal S16384x1288 .f32) (R : FVec Ideal S8x4096x1408 .bf16) (p : FVec Ideal S16384x1288 .f32) : ref14 W M U R p = Cert.AdamInIdeal.Mm.G14 W M U R p := by
  funext i
  obtain ⟨a, s, rfl⟩ : ∃ (a : Fin 16384) (s : Fin 1288), i = (ix2 a s : S16384x1288.Idx) := ⟨i 0, i 1, (ix2_eta i).symm⟩
  unfold ref14; pointwise
  by_cases h : a.val < 4096
  · rw [dif_pos h]; exact (Cert.AdamInIdeal.Mm.G14_pos W M U R p a s h).symm
  · rw [dif_neg h]
    refine Eq.trans (congrArg p (congrArg (fun z => (ix2 z s : S16384x1288.Idx)) (Fin.ext ?_))) (Cert.AdamInIdeal.Mm.G14_neg W M U R p a s h).symm
    show 4096 + (a.val - 4096) = a.val
    omega

end Cert.AdamInReferenceIdeal.Mm
end
-- ==== Proof.ClAdamIn.lean ====
/- The claims about the optimiser's call `AdamIn`. -/
module

public import proofs.«01_k».proof.Proof.MmAdamIn
public import proofs.«01_k».proof.Proof.Gen.AdamIn.Frame
public import proofs.«01_k».proof.Defs
public import Idealize.ShloMosaic.Init
public import Idealize.ShloMosaic.Adequacy

@[expose] public section

set_option maxRecDepth 16384

noncomputable section

namespace Cert.Proof.AdamIn

open Idealize.ShloMosaic Idealize.SL.Sem Idealize.ShloMosaic.TcCoe

theorem frame_kernel : Cert.quiescent_AdamIn := fun m ρ _ => Cert.AdamIn.Gen.frame m ρ

theorem frame_ideal : Cert.quiescent_AdamInIdeal := fun m ρ _ => Cert.AdamInIdeal.Gen.frame m ρ

theorem frame_reference : Cert.quiescent_AdamInReferenceIdeal := fun m ρ _ =>
  (θ_run Cert.AdamInReferenceIdeal.defs _ _).mono (fun r h => ⟨fun c => (h c).2.2.2.2, Idealize.ShloMosaic.sem_eq_zero_of_no_sems (by decide) r.2⟩)
    (Cert.AdamInReferenceIdeal.Value.run m ρ)

theorem algebraic : Cert.algebraic_AdamInIdeal_AdamInReferenceIdeal := by
  intro m g m' g' _ hag
  refine ⟨fun c => (Cert.AdamInIdeal.Gen.dats m 0 c).arrAt 11 Cert.AdamInIdeal.cfg0.N, fun c => (Cert.AdamInIdeal.Gen.dats m 0 c).arrAt 12 Cert.AdamInIdeal.cfg0.N, fun c => (Cert.AdamInIdeal.Gen.dats m 0 c).arrAt 13 Cert.AdamInIdeal.cfg0.N, fun c => (Cert.AdamInIdeal.Gen.dats m 0 c).arrAt 14 Cert.AdamInIdeal.cfg0.N, Cert.AdamInIdeal.Value.run_blocks m g, ?_⟩
  refine (θ_run Cert.AdamInReferenceIdeal.defs _ _).mono (fun r h c => ?_) (Cert.AdamInReferenceIdeal.Value.run m' g')
  obtain ⟨r0, r1, r2, r3, ra⟩ := h c
  obtain ⟨a0, a1, a2, a3, a4, a5, a6, a7⟩ := hag c
  refine ⟨r0.trans ((Cert.AdamInReferenceIdeal.Mm.ref11_eq (m' ((c : Thread Cert.AdamInReferenceIdeal.nD Cert.AdamInReferenceIdeal.τ).loc Cert.AdamInReferenceIdeal.main_arg0)) (m' ((c : Thread Cert.AdamInReferenceIdeal.nD Cert.AdamInReferenceIdeal.τ).loc Cert.AdamInReferenceIdeal.main_arg1)) (m' ((c : Thread Cert.AdamInReferenceIdeal.nD Cert.AdamInReferenceIdeal.τ).loc Cert.AdamInReferenceIdeal.main_arg2)) (m' ((c : Thread Cert.AdamInReferenceIdeal.nD Cert.AdamInReferenceIdeal.τ).loc Cert.AdamInReferenceIdeal.main_arg3)) (m' ((c : Thread Cert.AdamInReferenceIdeal.nD Cert.AdamInReferenceIdeal.τ).loc Cert.AdamInReferenceIdeal.main_arg4))).trans ?_), r1.trans ((Cert.AdamInReferenceIdeal.Mm.ref12_eq (m' ((c : Thread Cert.AdamInReferenceIdeal.nD Cert.AdamInReferenceIdeal.τ).loc Cert.AdamInReferenceIdeal.main_arg0)) (m' ((c : Thread Cert.AdamInReferenceIdeal.nD Cert.AdamInReferenceIdeal.τ).loc Cert.AdamInReferenceIdeal.main_arg1)) (m' ((c : Thread Cert.AdamInReferenceIdeal.nD Cert.AdamInReferenceIdeal.τ).loc Cert.AdamInReferenceIdeal.main_arg2)) (m' ((c : Thread Cert.AdamInReferenceIdeal.nD Cert.AdamInReferenceIdeal.τ).loc Cert.AdamInReferenceIdeal.main_arg3)) (m' ((c : Thread Cert.AdamInReferenceIdeal.nD Cert.AdamInReferenceIdeal.τ).loc Cert.AdamInReferenceIdeal.main_arg5))).trans ?_), r2.trans ((Cert.AdamInReferenceIdeal.Mm.ref13_eq (m' ((c : Thread Cert.AdamInReferenceIdeal.nD Cert.AdamInReferenceIdeal.τ).loc Cert.AdamInReferenceIdeal.main_arg0)) (m' ((c : Thread Cert.AdamInReferenceIdeal.nD Cert.AdamInReferenceIdeal.τ).loc Cert.AdamInReferenceIdeal.main_arg1)) (m' ((c : Thread Cert.AdamInReferenceIdeal.nD Cert.AdamInReferenceIdeal.τ).loc Cert.AdamInReferenceIdeal.main_arg2)) (m' ((c : Thread Cert.AdamInReferenceIdeal.nD Cert.AdamInReferenceIdeal.τ).loc Cert.AdamInReferenceIdeal.main_arg3)) (m' ((c : Thread Cert.AdamInReferenceIdeal.nD Cert.AdamInReferenceIdeal.τ).loc Cert.AdamInReferenceIdeal.main_arg6))).trans ?_), r3.trans ((Cert.AdamInReferenceIdeal.Mm.ref14_eq (m' ((c : Thread Cert.AdamInReferenceIdeal.nD Cert.AdamInReferenceIdeal.τ).loc Cert.AdamInReferenceIdeal.main_arg0)) (m' ((c : Thread Cert.AdamInReferenceIdeal.nD Cert.AdamInReferenceIdeal.τ).loc Cert.AdamInReferenceIdeal.main_arg1)) (m' ((c : Thread Cert.AdamInReferenceIdeal.nD Cert.AdamInReferenceIdeal.τ).loc Cert.AdamInReferenceIdeal.main_arg2)) (m' ((c : Thread Cert.AdamInReferenceIdeal.nD Cert.AdamInReferenceIdeal.τ).loc Cert.AdamInReferenceIdeal.main_arg3)) (m' ((c : Thread Cert.AdamInReferenceIdeal.nD Cert.AdamInReferenceIdeal.τ).loc Cert.AdamInReferenceIdeal.main_arg7))).trans ?_), ra⟩
  · rw [a0, a1, a2, a3, a4]; exact (Cert.AdamInIdeal.Mm.final11 m c).symm
  · rw [a0, a1, a2, a3, a5]; exact (Cert.AdamInIdeal.Mm.final12 m c).symm
  · rw [a0, a1, a2, a3, a6]; exact (Cert.AdamInIdeal.Mm.final13 m c).symm
  · rw [a0, a1, a2, a3, a7]; exact (Cert.AdamInIdeal.Mm.final14 m c).symm

end Cert.Proof.AdamIn
end
-- ==== Proof.MmAdamQUp.lean ====
/- The optimiser's call `AdamQUp`: what its tiles leave is the reference's. -/
module

public import proofs.«01_k».proof.Proof.MmAdam
public import proofs.«01_k».proof.Proof.Gen.AdamQUpIdeal.Value
public import proofs.«01_k».proof.Proof.Gen.AdamQUpReferenceIdeal.Run
public import Idealize.ShloMosaic.Lib.Pipeline.ValueKit
public import Idealize.ShloMosaic.Lib.Pipeline.ValueKit.Partial
public import Idealize.ShloMosaic.Lib.WritesUnit
public import Idealize.ShloMosaic.Lib.Pipeline.ReadBack

@[expose] public section

set_option maxRecDepth 16384

noncomputable section

namespace Cert.AdamQUpIdeal.Mm

open Cert.AdamQUpIdeal Cert.AdamQUpIdeal.Gen Idealize.ShloMosaic Idealize.ShloMosaic.TcCoe Idealize.SL.Sem
open Idealize.ShloMosaic.Pipeline (Dat)

/-- A gradient: the sum of the parts the devices sent. -/
def gS (R : FVec Ideal S8x1024x384 .bf16) (a : Fin 1024) (s : Fin 384) : EReal := ∑ p : Fin 8, R (ix3 p a ⟨s.val, by have := s.isLt; omega⟩)

theorem gS_eq (R : FVec Ideal S8x1024x384 .bf16) (a : Fin 1024) (s : Fin 384) (h : s.val < 384) : gS R a s =
    R (ix3 0 a ⟨s.val, h⟩) + R (ix3 1 a ⟨s.val, h⟩) + R (ix3 2 a ⟨s.val, h⟩) + R (ix3 3 a ⟨s.val, h⟩) + R (ix3 4 a ⟨s.val, h⟩) + R (ix3 5 a ⟨s.val, h⟩) + R (ix3 6 a ⟨s.val, h⟩) + R (ix3 7 a ⟨s.val, h⟩) := by
  unfold gS
  rw [Fin.sum_univ_eight]

/-- The gradient of this layer's rows, before the other layers' rows. -/
def G11 (W M U : FVec Ideal S4096x384 .f32) (R : FVec Ideal S8x1024x384 .bf16) (p : FVec Ideal S4096x384 .f32) : FVec Ideal S4096x384 .f32 := fun i =>
  if h : (i 0).val < 1024 then (gS R ⟨(i 0).val, h⟩ (i 1)) else p i

theorem G11_pos (W M U : FVec Ideal S4096x384 .f32) (R : FVec Ideal S8x1024x384 .bf16) (p : FVec Ideal S4096x384 .f32) (a : Fin 4096) (s : Fin 384) (h : a.val < 1024) :
    G11 W M U R p (ix2 a s) = (gS R ⟨a.val, h⟩ s) := dif_pos (c := ((ix2 a s : S4096x384.Idx) 0).val < 1024) h

theorem G11_neg (W M U : FVec Ideal S4096x384 .f32) (R : FVec Ideal S8x1024x384 .bf16) (p : FVec Ideal S4096x384 .f32) (a : Fin 4096) (s : Fin 384) (h : ¬a.val < 1024) :
    G11 W M U R p (ix2 a s) = p (ix2 a s) := dif_neg (c := ((ix2 a s : S4096x384.Idx) 0).val < 1024) h

/-- The steps of this layer's rows, before the other layers' rows. -/
def G12 (W M U : FVec Ideal S4096x384 .f32) (R : FVec Ideal S8x1024x384 .bf16) (p : FVec Ideal S4096x384 .f32) : FVec Ideal S4096x384 .f32 := fun i =>
  if h : (i 0).val < 1024 then Cert.Adam.delta (W i) (M i) (U i) (gS R ⟨(i 0).val, h⟩ (i 1)) else p i

theorem G12_pos (W M U : FVec Ideal S4096x384 .f32) (R : FVec Ideal S8x1024x384 .bf16) (p : FVec Ideal S4096x384 .f32) (a : Fin 4096) (s : Fin 384) (h : a.val < 1024) :
    G12 W M U R p (ix2 a s) = Cert.Adam.delta (W (ix2 a s)) (M (ix2 a s)) (U (ix2 a s)) (gS R ⟨a.val, h⟩ s) := dif_pos (c := ((ix2 a s : S4096x384.Idx) 0).val < 1024) h

theorem G12_neg (W M U : FVec Ideal S4096x384 .f32) (R : FVec Ideal S8x1024x384 .bf16) (p : FVec Ideal S4096x384 .f32) (a : Fin 4096) (s : Fin 384) (h : ¬a.val < 1024) :
    G12 W M U R p (ix2 a s) = p (ix2 a s) := dif_neg (c := ((ix2 a s : S4096x384.Idx) 0).val < 1024) h

/-- The new running means of this layer's rows, before the other layers' rows. -/
def G13 (W M U : FVec Ideal S4096x384 .f32) (R : FVec Ideal S8x1024x384 .bf16) (p : FVec Ideal S4096x384 .f32) : FVec Ideal S4096x384 .f32 := fun i =>
  if h : (i 0).val < 1024 then Cert.Adam.newM (M i) (gS R ⟨(i 0).val, h⟩ (i 1)) else p i

theorem G13_pos (W M U : FVec Ideal S4096x384 .f32) (R : FVec Ideal S8x1024x384 .bf16) (p : FVec Ideal S4096x384 .f32) (a : Fin 4096) (s : Fin 384) (h : a.val < 1024) :
    G13 W M U R p (ix2 a s) = Cert.Adam.newM (M (ix2 a s)) (gS R ⟨a.val, h⟩ s) := dif_pos (c := ((ix2 a s : S4096x384.Idx) 0).val < 1024) h

theorem G13_neg (W M U : FVec Ideal S4096x384 .f32) (R : FVec Ideal S8x1024x384 .bf16) (p : FVec Ideal S4096x384 .f32) (a : Fin 4096) (s : Fin 384) (h : ¬a.val < 1024) :
    G13 W M U R p (ix2 a s) = p (ix2 a s) := dif_neg (c := ((ix2 a s : S4096x384.Idx) 0).val < 1024) h

/-- The new running means of squares of this layer's rows, before the other layers' rows. -/
def G14 (W M U : FVec Ideal S4096x384 .f32) (R : FVec Ideal S8x1024x384 .bf16) (p : FVec Ideal S4096x384 .f32) : FVec Ideal S4096x384 .f32 := fun i =>
  if h : (i 0).val < 1024 then Cert.Adam.newV (U i) (gS R ⟨(i 0).val, h⟩ (i 1)) else p i

theorem G14_pos (W M U : FVec Ideal S4096x384 .f32) (R : FVec Ideal S8x1024x384 .bf16) (p : FVec Ideal S4096x384 .f32) (a : Fin 4096) (s : Fin 384) (h : a.val < 1024) :
    G14 W M U R p (ix2 a s) = Cert.Adam.newV (U (ix2 a s)) (gS R ⟨a.val, h⟩ s) := dif_pos (c := ((ix2 a s : S4096x384.Idx) 0).val < 1024) h

theorem G14_neg (W M U : FVec Ideal S4096x384 .f32) (R : FVec Ideal S8x1024x384 .bf16) (p : FVec Ideal S4096x384 .f32) (a : Fin 4096) (s : Fin 384) (h : ¬a.val < 1024) :
    G14 W M U R p (ix2 a s) = p (ix2 a s) := dif_neg (c := ((ix2 a s : S4096x384.Idx) 0).val < 1024) h

theorem idx : ∀ t : Fin cfg0.N, win0_0.index t = ![t.val, 0] ∧ win0_1.index t = ![t.val, 0] ∧ win0_2.index t = ![t.val, 0] ∧ win0_3.index t = ![0, t.val, 0] ∧ win0_4.index t = ![1, t.val, 0] ∧ win0_5.index t = ![2, t.val, 0] ∧ win0_6.index t = ![3, t.val, 0] ∧ win0_7.index t = ![4, t.val, 0] ∧ win0_8.index t = ![5, t.val, 0] ∧ win0_9.index t = ![6, t.val, 0] ∧ win0_10.index t = ![7, t.val, 0] ∧ win0_11.index t = ![t.val, 0] ∧ win0_12.index t = ![t.val, 0] ∧ win0_13.index t = ![t.val, 0] ∧ win0_14.index t = ![t.val, 0] :=
  (by decide +kernel : ∀ t : Fin grid0.N, _)

theorem rd0 (t : Fin cfg0.N) (a : Fin 256) (s : Fin 384) (X : FVec Ideal S4096x384 .f32) :
    (((cfg0.win 0).blk t).view.read (Elt Ideal) (X : ((cfg0.win 0).blk t).view.ty.Contents (Elt Ideal)) : Vec Ideal S256x384 .f32) (ix2 a s) = X (ix2 ⟨256 * t.val + a.val, by have hN : t.val < 4 := lt_of_lt_of_eq t.isLt N_0; have := a.isLt; omega⟩ s) := by
  blk_simp
  blk_ext [idx t]

theorem rd1 (t : Fin cfg0.N) (a : Fin 256) (s : Fin 384) (X : FVec Ideal S4096x384 .f32) :
    (((cfg0.win 1).blk t).view.read (Elt Ideal) (X : ((cfg0.win 1).blk t).view.ty.Contents (Elt Ideal)) : Vec Ideal S256x384 .f32) (ix2 a s) = X (ix2 ⟨256 * t.val + a.val, by have hN : t.val < 4 := lt_of_lt_of_eq t.isLt N_0; have := a.isLt; omega⟩ s) := by
  blk_simp
  blk_ext [idx t]

theorem rd2 (t : Fin cfg0.N) (a : Fin 256) (s : Fin 384) (X : FVec Ideal S4096x384 .f32) :
    (((cfg0.win 2).blk t).view.read (Elt Ideal) (X : ((cfg0.win 2).blk t).view.ty.Contents (Elt Ideal)) : Vec Ideal S256x384 .f32) (ix2 a s) = X (ix2 ⟨256 * t.val + a.val, by have hN : t.val < 4 := lt_of_lt_of_eq t.isLt N_0; have := a.isLt; omega⟩ s) := by
  blk_simp
  blk_ext [idx t]

theorem rd11 (t : Fin cfg0.N) (a : Fin 256) (s : Fin 384) (X : FVec Ideal S4096x384 .f32) :
    (((cfg0.win 11).blk t).view.read (Elt Ideal) (X : ((cfg0.win 11).blk t).view.ty.Contents (Elt Ideal)) : Vec Ideal S256x384 .f32) (ix2 a s) = X (ix2 ⟨256 * t.val + a.val, by have hN : t.val < 4 := lt_of_lt_of_eq t.isLt N_0; have := a.isLt; omega⟩ s) := by
  blk_simp
  blk_ext [idx t]

theorem rd12 (t : Fin cfg0.N) (a : Fin 256) (s : Fin 384) (X : FVec Ideal S4096x384 .f32) :
    (((cfg0.win 12).blk t).view.read (Elt Ideal) (X : ((cfg0.win 12).blk t).view.ty.Contents (Elt Ideal)) : Vec Ideal S256x384 .f32) (ix2 a s) = X (ix2 ⟨256 * t.val + a.val, by have hN : t.val < 4 := lt_of_lt_of_eq t.isLt N_0; have := a.isLt; omega⟩ s) := by
  blk_simp
  blk_ext [idx t]

theorem rd13 (t : Fin cfg0.N) (a : Fin 256) (s : Fin 384) (X : FVec Ideal S4096x384 .f32) :
    (((cfg0.win 13).blk t).view.read (Elt Ideal) (X : ((cfg0.win 13).blk t).view.ty.Contents (Elt Ideal)) : Vec Ideal S256x384 .f32) (ix2 a s) = X (ix2 ⟨256 * t.val + a.val, by have hN : t.val < 4 := lt_of_lt_of_eq t.isLt N_0; have := a.isLt; omega⟩ s) := by
  blk_simp
  blk_ext [idx t]

theorem rd14 (t : Fin cfg0.N) (a : Fin 256) (s : Fin 384) (X : FVec Ideal S4096x384 .f32) :
    (((cfg0.win 14).blk t).view.read (Elt Ideal) (X : ((cfg0.win 14).blk t).view.ty.Contents (Elt Ideal)) : Vec Ideal S256x384 .f32) (ix2 a s) = X (ix2 ⟨256 * t.val + a.val, by have hN : t.val < 4 := lt_of_lt_of_eq t.isLt N_0; have := a.isLt; omega⟩ s) := by
  blk_simp
  blk_ext [idx t]

theorem rd3 (t : Fin cfg0.N) (a : Fin 256) (s : Fin 384) (X : FVec Ideal S8x1024x384 .bf16) :
    (((cfg0.win 3).blk t).view.read (Elt Ideal) (X : ((cfg0.win 3).blk t).view.ty.Contents (Elt Ideal)) : Vec Ideal S1x256x384 .bf16) (ix3 0 a s) = X (ix3 0 ⟨256 * t.val + a.val, by have hN : t.val < 4 := lt_of_lt_of_eq t.isLt N_0; have := a.isLt; omega⟩ s) := by
  blk_simp
  blk_ext [idx t]

theorem rd4 (t : Fin cfg0.N) (a : Fin 256) (s : Fin 384) (X : FVec Ideal S8x1024x384 .bf16) :
    (((cfg0.win 4).blk t).view.read (Elt Ideal) (X : ((cfg0.win 4).blk t).view.ty.Contents (Elt Ideal)) : Vec Ideal S1x256x384 .bf16) (ix3 0 a s) = X (ix3 1 ⟨256 * t.val + a.val, by have hN : t.val < 4 := lt_of_lt_of_eq t.isLt N_0; have := a.isLt; omega⟩ s) := by
  blk_simp
  blk_ext [idx t]

theorem rd5 (t : Fin cfg0.N) (a : Fin 256) (s : Fin 384) (X : FVec Ideal S8x1024x384 .bf16) :
    (((cfg0.win 5).blk t).view.read (Elt Ideal) (X : ((cfg0.win 5).blk t).view.ty.Contents (Elt Ideal)) : Vec Ideal S1x256x384 .bf16) (ix3 0 a s) = X (ix3 2 ⟨256 * t.val + a.val, by have hN : t.val < 4 := lt_of_lt_of_eq t.isLt N_0; have := a.isLt; omega⟩ s) := by
  blk_simp
  blk_ext [idx t]

theorem rd6 (t : Fin cfg0.N) (a : Fin 256) (s : Fin 384) (X : FVec Ideal S8x1024x384 .bf16) :
    (((cfg0.win 6).blk t).view.read (Elt Ideal) (X : ((cfg0.win 6).blk t).view.ty.Contents (Elt Ideal)) : Vec Ideal S1x256x384 .bf16) (ix3 0 a s) = X (ix3 3 ⟨256 * t.val + a.val, by have hN : t.val < 4 := lt_of_lt_of_eq t.isLt N_0; have := a.isLt; omega⟩ s) := by
  blk_simp
  blk_ext [idx t]

theorem rd7 (t : Fin cfg0.N) (a : Fin 256) (s : Fin 384) (X : FVec Ideal S8x1024x384 .bf16) :
    (((cfg0.win 7).blk t).view.read (Elt Ideal) (X : ((cfg0.win 7).blk t).view.ty.Contents (Elt Ideal)) : Vec Ideal S1x256x384 .bf16) (ix3 0 a s) = X (ix3 4 ⟨256 * t.val + a.val, by have hN : t.val < 4 := lt_of_lt_of_eq t.isLt N_0; have := a.isLt; omega⟩ s) := by
  blk_simp
  blk_ext [idx t]

theorem rd8 (t : Fin cfg0.N) (a : Fin 256) (s : Fin 384) (X : FVec Ideal S8x1024x384 .bf16) :
    (((cfg0.win 8).blk t).view.read (Elt Ideal) (X : ((cfg0.win 8).blk t).view.ty.Contents (Elt Ideal)) : Vec Ideal S1x256x384 .bf16) (ix3 0 a s) = X (ix3 5 ⟨256 * t.val + a.val, by have hN : t.val < 4 := lt_of_lt_of_eq t.isLt N_0; have := a.isLt; omega⟩ s) := by
  blk_simp
  blk_ext [idx t]

theorem rd9 (t : Fin cfg0.N) (a : Fin 256) (s : Fin 384) (X : FVec Ideal S8x1024x384 .bf16) :
    (((cfg0.win 9).blk t).view.read (Elt Ideal) (X : ((cfg0.win 9).blk t).view.ty.Contents (Elt Ideal)) : Vec Ideal S1x256x384 .bf16) (ix3 0 a s) = X (ix3 6 ⟨256 * t.val + a.val, by have hN : t.val < 4 := lt_of_lt_of_eq t.isLt N_0; have := a.isLt; omega⟩ s) := by
  blk_simp
  blk_ext [idx t]

theorem rd10 (t : Fin cfg0.N) (a : Fin 256) (s : Fin 384) (X : FVec Ideal S8x1024x384 .bf16) :
    (((cfg0.win 10).blk t).view.read (Elt Ideal) (X : ((cfg0.win 10).blk t).view.ty.Contents (Elt Ideal)) : Vec Ideal S1x256x384 .bf16) (ix3 0 a s) = X (ix3 7 ⟨256 * t.val + a.val, by have hN : t.val < 4 := lt_of_lt_of_eq t.isLt N_0; have := a.isLt; omega⟩ s) := by
  blk_simp
  blk_ext [idx t]

variable (m : (ℓ : Loc nD τ sig) → Buf (Elt Ideal) ℓ)

/-- An entry of block 0. -/
def b0 (c : Dev nD) (t : Fin cfg0.N) (a : Fin 256) (s : Fin 384) : EReal := (iblk m c 0 t : Vec Ideal S256x384 .f32) (ix2 a s)

/-- An entry of block 1. -/
def b1 (c : Dev nD) (t : Fin cfg0.N) (a : Fin 256) (s : Fin 384) : EReal := (iblk m c 1 t : Vec Ideal S256x384 .f32) (ix2 a s)

/-- An entry of block 2. -/
def b2 (c : Dev nD) (t : Fin cfg0.N) (a : Fin 256) (s : Fin 384) : EReal := (iblk m c 2 t : Vec Ideal S256x384 .f32) (ix2 a s)

/-- An entry of block 3. -/
def b3 (c : Dev nD) (t : Fin cfg0.N) (a : Fin 256) (s : Fin 384) : EReal := (iblk m c 3 t : Vec Ideal S1x256x384 .bf16) (ix3 0 a s)

/-- An entry of block 4. -/
def b4 (c : Dev nD) (t : Fin cfg0.N) (a : Fin 256) (s : Fin 384) : EReal := (iblk m c 4 t : Vec Ideal S1x256x384 .bf16) (ix3 0 a s)

/-- An entry of block 5. -/
def b5 (c : Dev nD) (t : Fin cfg0.N) (a : Fin 256) (s : Fin 384) : EReal := (iblk m c 5 t : Vec Ideal S1x256x384 .bf16) (ix3 0 a s)

/-- An entry of block 6. -/
def b6 (c : Dev nD) (t : Fin cfg0.N) (a : Fin 256) (s : Fin 384) : EReal := (iblk m c 6 t : Vec Ideal S1x256x384 .bf16) (ix3 0 a s)

/-- An entry of block 7. -/
def b7 (c : Dev nD) (t : Fin cfg0.N) (a : Fin 256) (s : Fin 384) : EReal := (iblk m c 7 t : Vec Ideal S1x256x384 .bf16) (ix3 0 a s)

/-- An entry of block 8. -/
def b8 (c : Dev nD) (t : Fin cfg0.N) (a : Fin 256) (s : Fin 384) : EReal := (iblk m c 8 t : Vec Ideal S1x256x384 .bf16) (ix3 0 a s)

/-- An entry of block 9. -/
def b9 (c : Dev nD) (t : Fin cfg0.N) (a : Fin 256) (s : Fin 384) : EReal := (iblk m c 9 t : Vec Ideal S1x256x384 .bf16) (ix3 0 a s)

/-- An entry of block 10. -/
def b10 (c : Dev nD) (t : Fin cfg0.N) (a : Fin 256) (s : Fin 384) : EReal := (iblk m c 10 t : Vec Ideal S1x256x384 .bf16) (ix3 0 a s)

theorem o11 (c : Dev nD) (t : Fin cfg0.N) (a : Fin 256) (s : Fin 384) : ((outsAt0 m c t).1 : Vec Ideal S256x384 .f32) (ix2 a s) = (b3 m c t a ⟨s.val, by have := s.isLt; omega⟩ + b4 m c t a ⟨s.val, by have := s.isLt; omega⟩ + b5 m c t a ⟨s.val, by have := s.isLt; omega⟩ + b6 m c t a ⟨s.val, by have := s.isLt; omega⟩ + b7 m c t a ⟨s.val, by have := s.isLt; omega⟩ + b8 m c t a ⟨s.val, by have := s.isLt; omega⟩ + b9 m c t a ⟨s.val, by have := s.isLt; omega⟩ + b10 m c t a ⟨s.val, by have := s.isLt; omega⟩) := by
  unfold outsAt0
  frame_out
  open_payloads
  pointwise

  unfold b3 b4 b5 b6 b7 b8 b9 b10
  rfl

theorem final11 (c : Dev nD) : (dats m 0 c).arrAt 11 cfg0.N = G11 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_coversWhere_of_agree 11 _ (fun β => β (0 : Fin _) < 4) (by decide +kernel) (fun t hf y => ?_) (fun j hj => ?_)
  · blk_simp
    rw [after0_11]
    obtain ⟨a, s, rfl⟩ : ∃ (a : Fin 256) (s : Fin 384), y = (ix2 a s : S256x384.Idx) := ⟨y 0, y 1, (ix2_eta y).symm⟩
    refine (o11 m c t a s).trans (Eq.trans ?_ (rd11 t a s (G11 (m ((c : Thread nD τ).loc main_arg0)) (m ((c : Thread nD τ).loc main_arg1)) (m ((c : Thread nD τ).loc main_arg2)) (m ((c : Thread nD τ).loc main_arg3)) (m ((c : Thread nD τ).loc main_arg4)))).symm)
    have ha : 256 * t.val + a.val < 1024 := by have hN : t.val < 4 := lt_of_lt_of_eq t.isLt N_0; have := a.isLt; omega
    have hs : s.val < 384 := by have := s.isLt; omega
    refine Eq.trans ?_ (G11_pos _ _ _ _ _ _ _ ha).symm
    have hg := gS_eq (m ((c : Thread nD τ).loc main_arg3)) ⟨256 * t.val + a.val, ha⟩ s hs
    have h3 : b3 m c t a ⟨s.val, hs⟩ = _ := rd3 t a ⟨s.val, hs⟩ (m ((c : Thread nD τ).loc main_arg3))
    have h4 : b4 m c t a ⟨s.val, hs⟩ = _ := rd4 t a ⟨s.val, hs⟩ (m ((c : Thread nD τ).loc main_arg3))
    have h5 : b5 m c t a ⟨s.val, hs⟩ = _ := rd5 t a ⟨s.val, hs⟩ (m ((c : Thread nD τ).loc main_arg3))
    have h6 : b6 m c t a ⟨s.val, hs⟩ = _ := rd6 t a ⟨s.val, hs⟩ (m ((c : Thread nD τ).loc main_arg3))
    have h7 : b7 m c t a ⟨s.val, hs⟩ = _ := rd7 t a ⟨s.val, hs⟩ (m ((c : Thread nD τ).loc main_arg3))
    have h8 : b8 m c t a ⟨s.val, hs⟩ = _ := rd8 t a ⟨s.val, hs⟩ (m ((c : Thread nD τ).loc main_arg3))
    have h9 : b9 m c t a ⟨s.val, hs⟩ = _ := rd9 t a ⟨s.val, hs⟩ (m ((c : Thread nD τ).loc main_arg3))
    have h10 : b10 m c t a ⟨s.val, hs⟩ = _ := rd10 t a ⟨s.val, hs⟩ (m ((c : Thread nD τ).loc main_arg3))
    have h0 : b0 m c t a s = _ := rd0 t a s (m ((c : Thread nD τ).loc main_arg0))
    have h1 : b1 m c t a s = _ := rd1 t a s (m ((c : Thread nD τ).loc main_arg1))
    have h2 : b2 m c t a s = _ := rd2 t a s (m ((c : Thread nD τ).loc main_arg2))
    rw [h3, h4, h5, h6, h7, h8, h9, h10, ← hg]
  · blk_simp [Pipeline.Window.cell_apply] at hj
    have e : G11 (m ((c : Thread nD τ).loc main_arg0)) (m ((c : Thread nD τ).loc main_arg1)) (m ((c : Thread nD τ).loc main_arg2)) (m ((c : Thread nD τ).loc main_arg3)) (m ((c : Thread nD τ).loc main_arg4)) j = (m ((c : Thread nD τ).loc main_arg4)) j := dif_neg (by omega)
    refine Eq.trans ?_ e.symm
    rw [A_eq]
    entry_read
    rfl

theorem o12 (c : Dev nD) (t : Fin cfg0.N) (a : Fin 256) (s : Fin 384) : ((outsAt0 m c t).2.1 : Vec Ideal S256x384 .f32) (ix2 a s) = Cert.Adam.delta (b0 m c t a s) (b1 m c t a s) (b2 m c t a s) (b3 m c t a ⟨s.val, by have := s.isLt; omega⟩ + b4 m c t a ⟨s.val, by have := s.isLt; omega⟩ + b5 m c t a ⟨s.val, by have := s.isLt; omega⟩ + b6 m c t a ⟨s.val, by have := s.isLt; omega⟩ + b7 m c t a ⟨s.val, by have := s.isLt; omega⟩ + b8 m c t a ⟨s.val, by have := s.isLt; omega⟩ + b9 m c t a ⟨s.val, by have := s.isLt; omega⟩ + b10 m c t a ⟨s.val, by have := s.isLt; omega⟩) := by
  unfold outsAt0
  frame_out
  open_payloads
  pointwise
  unfold Cert.Adam.delta Cert.Adam.newM Cert.Adam.newV
  unfold b3 b4 b5 b6 b7 b8 b9 b10 b0 b1 b2
  rfl

theorem final12 (c : Dev nD) : (dats m 0 c).arrAt 12 cfg0.N = G12 (m ((c : Thread nD τ).loc main_arg0)) (m ((c : Thread nD τ).loc main_arg1)) (m ((c : Thread nD τ).loc main_arg2)) (m ((c : Thread nD τ).loc main_arg3)) (m ((c : Thread nD τ).loc main_arg5)) := by
  refine (dats m 0 c).arrAt_eq_of_coversWhere_of_agree 12 _ (fun β => β (0 : Fin _) < 4) (by decide +kernel) (fun t hf y => ?_) (fun j hj => ?_)
  · blk_simp
    rw [after0_12]
    obtain ⟨a, s, rfl⟩ : ∃ (a : Fin 256) (s : Fin 384), y = (ix2 a s : S256x384.Idx) := ⟨y 0, y 1, (ix2_eta y).symm⟩
    refine (o12 m c t a s).trans (Eq.trans ?_ (rd12 t a s (G12 (m ((c : Thread nD τ).loc main_arg0)) (m ((c : Thread nD τ).loc main_arg1)) (m ((c : Thread nD τ).loc main_arg2)) (m ((c : Thread nD τ).loc main_arg3)) (m ((c : Thread nD τ).loc main_arg5)))).symm)
    have ha : 256 * t.val + a.val < 1024 := by have hN : t.val < 4 := lt_of_lt_of_eq t.isLt N_0; have := a.isLt; omega
    have hs : s.val < 384 := by have := s.isLt; omega
    refine Eq.trans ?_ (G12_pos _ _ _ _ _ _ _ ha).symm
    have hg := gS_eq (m ((c : Thread nD τ).loc main_arg3)) ⟨256 * t.val + a.val, ha⟩ s hs
    have h3 : b3 m c t a ⟨s.val, hs⟩ = _ := rd3 t a ⟨s.val, hs⟩ (m ((c : Thread nD τ).loc main_arg3))
    have h4 : b4 m c t a ⟨s.val, hs⟩ = _ := rd4 t a ⟨s.val, hs⟩ (m ((c : Thread nD τ).loc main_arg3))
    have h5 : b5 m c t a ⟨s.val, hs⟩ = _ := rd5 t a ⟨s.val, hs⟩ (m ((c : Thread nD τ).loc main_arg3))
    have h6 : b6 m c t a ⟨s.val, hs⟩ = _ := rd6 t a ⟨s.val, hs⟩ (m ((c : Thread nD τ).loc main_arg3))
    have h7 : b7 m c t a ⟨s.val, hs⟩ = _ := rd7 t a ⟨s.val, hs⟩ (m ((c : Thread nD τ).loc main_arg3))
    have h8 : b8 m c t a ⟨s.val, hs⟩ = _ := rd8 t a ⟨s.val, hs⟩ (m ((c : Thread nD τ).loc main_arg3))
    have h9 : b9 m c t a ⟨s.val, hs⟩ = _ := rd9 t a ⟨s.val, hs⟩ (m ((c : Thread nD τ).loc main_arg3))
    have h10 : b10 m c t a ⟨s.val, hs⟩ = _ := rd10 t a ⟨s.val, hs⟩ (m ((c : Thread nD τ).loc main_arg3))
    have h0 : b0 m c t a s = _ := rd0 t a s (m ((c : Thread nD τ).loc main_arg0))
    have h1 : b1 m c t a s = _ := rd1 t a s (m ((c : Thread nD τ).loc main_arg1))
    have h2 : b2 m c t a s = _ := rd2 t a s (m ((c : Thread nD τ).loc main_arg2))
    rw [h0, h1, h2, h3, h4, h5, h6, h7, h8, h9, h10, ← hg]
  · blk_simp [Pipeline.Window.cell_apply] at hj
    have e : G12 (m ((c : Thread nD τ).loc main_arg0)) (m ((c : Thread nD τ).loc main_arg1)) (m ((c : Thread nD τ).loc main_arg2)) (m ((c : Thread nD τ).loc main_arg3)) (m ((c : Thread nD τ).loc main_arg5)) j = (m ((c : Thread nD τ).loc main_arg5)) j := dif_neg (by omega)
    refine Eq.trans ?_ e.symm
    rw [A_eq]
    entry_read
    rfl

theorem o13 (c : Dev nD) (t : Fin cfg0.N) (a : Fin 256) (s : Fin 384) : ((outsAt0 m c t).2.2.1 : Vec Ideal S256x384 .f32) (ix2 a s) = Cert.Adam.newM (b1 m c t a s) (b3 m c t a ⟨s.val, by have := s.isLt; omega⟩ + b4 m c t a ⟨s.val, by have := s.isLt; omega⟩ + b5 m c t a ⟨s.val, by have := s.isLt; omega⟩ + b6 m c t a ⟨s.val, by have := s.isLt; omega⟩ + b7 m c t a ⟨s.val, by have := s.isLt; omega⟩ + b8 m c t a ⟨s.val, by have := s.isLt; omega⟩ + b9 m c t a ⟨s.val, by have := s.isLt; omega⟩ + b10 m c t a ⟨s.val, by have := s.isLt; omega⟩) := by
  unfold outsAt0
  frame_out
  open_payloads
  pointwise
  unfold Cert.Adam.newM
  unfold b3 b4 b5 b6 b7 b8 b9 b10 b1
  rfl

theorem final13 (c : Dev nD) : (dats m 0 c).arrAt 13 cfg0.N = G13 (m ((c : Thread nD τ).loc main_arg0)) (m ((c : Thread nD τ).loc main_arg1)) (m ((c : Thread nD τ).loc main_arg2)) (m ((c : Thread nD τ).loc main_arg3)) (m ((c : Thread nD τ).loc main_arg6)) := by
  refine (dats m 0 c).arrAt_eq_of_coversWhere_of_agree 13 _ (fun β => β (0 : Fin _) < 4) (by decide +kernel) (fun t hf y => ?_) (fun j hj => ?_)
  · blk_simp
    rw [after0_13]
    obtain ⟨a, s, rfl⟩ : ∃ (a : Fin 256) (s : Fin 384), y = (ix2 a s : S256x384.Idx) := ⟨y 0, y 1, (ix2_eta y).symm⟩
    refine (o13 m c t a s).trans (Eq.trans ?_ (rd13 t a s (G13 (m ((c : Thread nD τ).loc main_arg0)) (m ((c : Thread nD τ).loc main_arg1)) (m ((c : Thread nD τ).loc main_arg2)) (m ((c : Thread nD τ).loc main_arg3)) (m ((c : Thread nD τ).loc main_arg6)))).symm)
    have ha : 256 * t.val + a.val < 1024 := by have hN : t.val < 4 := lt_of_lt_of_eq t.isLt N_0; have := a.isLt; omega
    have hs : s.val < 384 := by have := s.isLt; omega
    refine Eq.trans ?_ (G13_pos _ _ _ _ _ _ _ ha).symm
    have hg := gS_eq (m ((c : Thread nD τ).loc main_arg3)) ⟨256 * t.val + a.val, ha⟩ s hs
    have h3 : b3 m c t a ⟨s.val, hs⟩ = _ := rd3 t a ⟨s.val, hs⟩ (m ((c : Thread nD τ).loc main_arg3))
    have h4 : b4 m c t a ⟨s.val, hs⟩ = _ := rd4 t a ⟨s.val, hs⟩ (m ((c : Thread nD τ).loc main_arg3))
    have h5 : b5 m c t a ⟨s.val, hs⟩ = _ := rd5 t a ⟨s.val, hs⟩ (m ((c : Thread nD τ).loc main_arg3))
    have h6 : b6 m c t a ⟨s.val, hs⟩ = _ := rd6 t a ⟨s.val, hs⟩ (m ((c : Thread nD τ).loc main_arg3))
    have h7 : b7 m c t a ⟨s.val, hs⟩ = _ := rd7 t a ⟨s.val, hs⟩ (m ((c : Thread nD τ).loc main_arg3))
    have h8 : b8 m c t a ⟨s.val, hs⟩ = _ := rd8 t a ⟨s.val, hs⟩ (m ((c : Thread nD τ).loc main_arg3))
    have h9 : b9 m c t a ⟨s.val, hs⟩ = _ := rd9 t a ⟨s.val, hs⟩ (m ((c : Thread nD τ).loc main_arg3))
    have h10 : b10 m c t a ⟨s.val, hs⟩ = _ := rd10 t a ⟨s.val, hs⟩ (m ((c : Thread nD τ).loc main_arg3))
    have h0 : b0 m c t a s = _ := rd0 t a s (m ((c : Thread nD τ).loc main_arg0))
    have h1 : b1 m c t a s = _ := rd1 t a s (m ((c : Thread nD τ).loc main_arg1))
    have h2 : b2 m c t a s = _ := rd2 t a s (m ((c : Thread nD τ).loc main_arg2))
    rw [h1, h3, h4, h5, h6, h7, h8, h9, h10, ← hg]
  · blk_simp [Pipeline.Window.cell_apply] at hj
    have e : G13 (m ((c : Thread nD τ).loc main_arg0)) (m ((c : Thread nD τ).loc main_arg1)) (m ((c : Thread nD τ).loc main_arg2)) (m ((c : Thread nD τ).loc main_arg3)) (m ((c : Thread nD τ).loc main_arg6)) j = (m ((c : Thread nD τ).loc main_arg6)) j := dif_neg (by omega)
    refine Eq.trans ?_ e.symm
    rw [A_eq]
    entry_read
    rfl

theorem o14 (c : Dev nD) (t : Fin cfg0.N) (a : Fin 256) (s : Fin 384) : ((outsAt0 m c t).2.2.2 : Vec Ideal S256x384 .f32) (ix2 a s) = Cert.Adam.newV (b2 m c t a s) (b3 m c t a ⟨s.val, by have := s.isLt; omega⟩ + b4 m c t a ⟨s.val, by have := s.isLt; omega⟩ + b5 m c t a ⟨s.val, by have := s.isLt; omega⟩ + b6 m c t a ⟨s.val, by have := s.isLt; omega⟩ + b7 m c t a ⟨s.val, by have := s.isLt; omega⟩ + b8 m c t a ⟨s.val, by have := s.isLt; omega⟩ + b9 m c t a ⟨s.val, by have := s.isLt; omega⟩ + b10 m c t a ⟨s.val, by have := s.isLt; omega⟩) := by
  unfold outsAt0
  frame_out
  open_payloads
  pointwise
  unfold Cert.Adam.newV
  unfold b3 b4 b5 b6 b7 b8 b9 b10 b2
  rfl

theorem final14 (c : Dev nD) : (dats m 0 c).arrAt 14 cfg0.N = G14 (m ((c : Thread nD τ).loc main_arg0)) (m ((c : Thread nD τ).loc main_arg1)) (m ((c : Thread nD τ).loc main_arg2)) (m ((c : Thread nD τ).loc main_arg3)) (m ((c : Thread nD τ).loc main_arg7)) := by
  refine (dats m 0 c).arrAt_eq_of_coversWhere_of_agree 14 _ (fun β => β (0 : Fin _) < 4) (by decide +kernel) (fun t hf y => ?_) (fun j hj => ?_)
  · blk_simp
    rw [after0_14]
    obtain ⟨a, s, rfl⟩ : ∃ (a : Fin 256) (s : Fin 384), y = (ix2 a s : S256x384.Idx) := ⟨y 0, y 1, (ix2_eta y).symm⟩
    refine (o14 m c t a s).trans (Eq.trans ?_ (rd14 t a s (G14 (m ((c : Thread nD τ).loc main_arg0)) (m ((c : Thread nD τ).loc main_arg1)) (m ((c : Thread nD τ).loc main_arg2)) (m ((c : Thread nD τ).loc main_arg3)) (m ((c : Thread nD τ).loc main_arg7)))).symm)
    have ha : 256 * t.val + a.val < 1024 := by have hN : t.val < 4 := lt_of_lt_of_eq t.isLt N_0; have := a.isLt; omega
    have hs : s.val < 384 := by have := s.isLt; omega
    refine Eq.trans ?_ (G14_pos _ _ _ _ _ _ _ ha).symm
    have hg := gS_eq (m ((c : Thread nD τ).loc main_arg3)) ⟨256 * t.val + a.val, ha⟩ s hs
    have h3 : b3 m c t a ⟨s.val, hs⟩ = _ := rd3 t a ⟨s.val, hs⟩ (m ((c : Thread nD τ).loc main_arg3))
    have h4 : b4 m c t a ⟨s.val, hs⟩ = _ := rd4 t a ⟨s.val, hs⟩ (m ((c : Thread nD τ).loc main_arg3))
    have h5 : b5 m c t a ⟨s.val, hs⟩ = _ := rd5 t a ⟨s.val, hs⟩ (m ((c : Thread nD τ).loc main_arg3))
    have h6 : b6 m c t a ⟨s.val, hs⟩ = _ := rd6 t a ⟨s.val, hs⟩ (m ((c : Thread nD τ).loc main_arg3))
    have h7 : b7 m c t a ⟨s.val, hs⟩ = _ := rd7 t a ⟨s.val, hs⟩ (m ((c : Thread nD τ).loc main_arg3))
    have h8 : b8 m c t a ⟨s.val, hs⟩ = _ := rd8 t a ⟨s.val, hs⟩ (m ((c : Thread nD τ).loc main_arg3))
    have h9 : b9 m c t a ⟨s.val, hs⟩ = _ := rd9 t a ⟨s.val, hs⟩ (m ((c : Thread nD τ).loc main_arg3))
    have h10 : b10 m c t a ⟨s.val, hs⟩ = _ := rd10 t a ⟨s.val, hs⟩ (m ((c : Thread nD τ).loc main_arg3))
    have h0 : b0 m c t a s = _ := rd0 t a s (m ((c : Thread nD τ).loc main_arg0))
    have h1 : b1 m c t a s = _ := rd1 t a s (m ((c : Thread nD τ).loc main_arg1))
    have h2 : b2 m c t a s = _ := rd2 t a s (m ((c : Thread nD τ).loc main_arg2))
    rw [h2, h3, h4, h5, h6, h7, h8, h9, h10, ← hg]
  · blk_simp [Pipeline.Window.cell_apply] at hj
    have e : G14 (m ((c : Thread nD τ).loc main_arg0)) (m ((c : Thread nD τ).loc main_arg1)) (m ((c : Thread nD τ).loc main_arg2)) (m ((c : Thread nD τ).loc main_arg3)) (m ((c : Thread nD τ).loc main_arg7)) j = (m ((c : Thread nD τ).loc main_arg7)) j := dif_neg (by omega)
    refine Eq.trans ?_ e.symm
    rw [A_eq]
    entry_read
    rfl

end Cert.AdamQUpIdeal.Mm

namespace Cert.AdamQUpReferenceIdeal.Mm

open Cert.AdamQUpReferenceIdeal Cert.AdamQUpReferenceIdeal.Gen Idealize.ShloMosaic Idealize.ShloMosaic.TcCoe Idealize.SL.Sem

/-- The gradient, as the reference leaves them. -/
def ref11 (W M U : FVec Ideal S4096x384 .f32) (R : FVec Ideal S8x1024x384 .bf16) (p : FVec Ideal S4096x384 .f32) : FVec Ideal S4096x384 .f32 := concatenate S4096x384 0 [⟨S1024x384, (Host.reduceAdd (extf .f32 R bitsLt_bf16_f32) (constant S_ .f32 0x00000000#32) reducesTo_S8x1024x384_S1024x384_d0 h_S_)⟩, ⟨S3072x384, (extractStridedSlice S3072x384 ![1024, 0] p slices_S4096x384_S3072x384_1024_0)⟩] concatenates_S1024x384_S3072x384_S4096x384_d0

theorem ref11_eq (W M U : FVec Ideal S4096x384 .f32) (R : FVec Ideal S8x1024x384 .bf16) (p : FVec Ideal S4096x384 .f32) : ref11 W M U R p = Cert.AdamQUpIdeal.Mm.G11 W M U R p := by
  funext i
  obtain ⟨a, s, rfl⟩ : ∃ (a : Fin 4096) (s : Fin 384), i = (ix2 a s : S4096x384.Idx) := ⟨i 0, i 1, (ix2_eta i).symm⟩
  unfold ref11; pointwise
  by_cases h : a.val < 1024
  · rw [dif_pos h]; exact (Cert.AdamQUpIdeal.Mm.G11_pos W M U R p a s h).symm
  · rw [dif_neg h]
    refine Eq.trans (congrArg p (congrArg (fun z => (ix2 z s : S4096x384.Idx)) (Fin.ext ?_))) (Cert.AdamQUpIdeal.Mm.G11_neg W M U R p a s h).symm
    show 1024 + (a.val - 1024) = a.val
    omega

/-- The steps, as the reference leaves them. -/
def ref12 (W M U : FVec Ideal S4096x384 .f32) (R : FVec Ideal S8x1024x384 .bf16) (p : FVec Ideal S4096x384 .f32) : FVec Ideal S4096x384 .f32 := concatenate S4096x384 0 [⟨S1024x384, (mulf (broadcastInDim S1024x384 ![] bcast_S_S1024x384 (constant S_ .f32 0xBA83126F#32)) (addf (Host.divf (Host.divf (addf (mulf (broadcastInDim S1024x384 ![] bcast_S_S1024x384 (constant S_ .f32 0x3F666666#32)) (extractStridedSlice S1024x384 ![0, 0] M slices_S4096x384_S1024x384_0_0)) (mulf (broadcastInDim S1024x384 ![] bcast_S_S1024x384 (constant S_ .f32 0x3DCCCCCD#32)) (Host.reduceAdd (extf .f32 R bitsLt_bf16_f32) (constant S_ .f32 0x00000000#32) reducesTo_S8x1024x384_S1024x384_d0 h_S_))) (broadcastInDim S1024x384 ![] bcast_S_S1024x384 (constant S_ .f32 0x3F26BD02#32))) (addf (Host.sqrt (Host.divf (addf (mulf (broadcastInDim S1024x384 ![] bcast_S_S1024x384 (constant S_ .f32 0x3F7FBE77#32)) (extractStridedSlice S1024x384 ![0, 0] U slices_S4096x384_S1024x384_0_0)) (mulf (broadcastInDim S1024x384 ![] bcast_S_S1024x384 (constant S_ .f32 0x3A83126F#32)) (mulf (Host.reduceAdd (extf .f32 R bitsLt_bf16_f32) (constant S_ .f32 0x00000000#32) reducesTo_S8x1024x384_S1024x384_d0 h_S_) (Host.reduceAdd (extf .f32 R bitsLt_bf16_f32) (constant S_ .f32 0x00000000#32) reducesTo_S8x1024x384_S1024x384_d0 h_S_)))) (broadcastInDim S1024x384 ![] bcast_S_S1024x384 (constant S_ .f32 0x3C231ACC#32)))) (broadcastInDim S1024x384 ![] bcast_S_S1024x384 (constant S_ .f32 0x322BCC77#32)))) (mulf (broadcastInDim S1024x384 ![] bcast_S_S1024x384 (constant S_ .f32 0x3C23D70A#32)) (extractStridedSlice S1024x384 ![0, 0] W slices_S4096x384_S1024x384_0_0))))⟩, ⟨S3072x384, (extractStridedSlice S3072x384 ![1024, 0] p slices_S4096x384_S3072x384_1024_0)⟩] concatenates_S1024x384_S3072x384_S4096x384_d0

theorem ref12_eq (W M U : FVec Ideal S4096x384 .f32) (R : FVec Ideal S8x1024x384 .bf16) (p : FVec Ideal S4096x384 .f32) : ref12 W M U R p = Cert.AdamQUpIdeal.Mm.G12 W M U R p := by
  funext i
  obtain ⟨a, s, rfl⟩ : ∃ (a : Fin 4096) (s : Fin 384), i = (ix2 a s : S4096x384.Idx) := ⟨i 0, i 1, (ix2_eta i).symm⟩
  unfold ref12; pointwise
  by_cases h : a.val < 1024
  · rw [dif_pos h]; exact (Cert.AdamQUpIdeal.Mm.G12_pos W M U R p a s h).symm
  · rw [dif_neg h]
    refine Eq.trans (congrArg p (congrArg (fun z => (ix2 z s : S4096x384.Idx)) (Fin.ext ?_))) (Cert.AdamQUpIdeal.Mm.G12_neg W M U R p a s h).symm
    show 1024 + (a.val - 1024) = a.val
    omega

/-- The new running means, as the reference leaves them. -/
def ref13 (W M U : FVec Ideal S4096x384 .f32) (R : FVec Ideal S8x1024x384 .bf16) (p : FVec Ideal S4096x384 .f32) : FVec Ideal S4096x384 .f32 := concatenate S4096x384 0 [⟨S1024x384, (addf (mulf (broadcastInDim S1024x384 ![] bcast_S_S1024x384 (constant S_ .f32 0x3F666666#32)) (extractStridedSlice S1024x384 ![0, 0] M slices_S4096x384_S1024x384_0_0)) (mulf (broadcastInDim S1024x384 ![] bcast_S_S1024x384 (constant S_ .f32 0x3DCCCCCD#32)) (Host.reduceAdd (extf .f32 R bitsLt_bf16_f32) (constant S_ .f32 0x00000000#32) reducesTo_S8x1024x384_S1024x384_d0 h_S_)))⟩, ⟨S3072x384, (extractStridedSlice S3072x384 ![1024, 0] p slices_S4096x384_S3072x384_1024_0)⟩] concatenates_S1024x384_S3072x384_S4096x384_d0

theorem ref13_eq (W M U : FVec Ideal S4096x384 .f32) (R : FVec Ideal S8x1024x384 .bf16) (p : FVec Ideal S4096x384 .f32) : ref13 W M U R p = Cert.AdamQUpIdeal.Mm.G13 W M U R p := by
  funext i
  obtain ⟨a, s, rfl⟩ : ∃ (a : Fin 4096) (s : Fin 384), i = (ix2 a s : S4096x384.Idx) := ⟨i 0, i 1, (ix2_eta i).symm⟩
  unfold ref13; pointwise
  by_cases h : a.val < 1024
  · rw [dif_pos h]; exact (Cert.AdamQUpIdeal.Mm.G13_pos W M U R p a s h).symm
  · rw [dif_neg h]
    refine Eq.trans (congrArg p (congrArg (fun z => (ix2 z s : S4096x384.Idx)) (Fin.ext ?_))) (Cert.AdamQUpIdeal.Mm.G13_neg W M U R p a s h).symm
    show 1024 + (a.val - 1024) = a.val
    omega

/-- The new running means of squares, as the reference leaves them. -/
def ref14 (W M U : FVec Ideal S4096x384 .f32) (R : FVec Ideal S8x1024x384 .bf16) (p : FVec Ideal S4096x384 .f32) : FVec Ideal S4096x384 .f32 := concatenate S4096x384 0 [⟨S1024x384, (addf (mulf (broadcastInDim S1024x384 ![] bcast_S_S1024x384 (constant S_ .f32 0x3F7FBE77#32)) (extractStridedSlice S1024x384 ![0, 0] U slices_S4096x384_S1024x384_0_0)) (mulf (broadcastInDim S1024x384 ![] bcast_S_S1024x384 (constant S_ .f32 0x3A83126F#32)) (mulf (Host.reduceAdd (extf .f32 R bitsLt_bf16_f32) (constant S_ .f32 0x00000000#32) reducesTo_S8x1024x384_S1024x384_d0 h_S_) (Host.reduceAdd (extf .f32 R bitsLt_bf16_f32) (constant S_ .f32 0x00000000#32) reducesTo_S8x1024x384_S1024x384_d0 h_S_))))⟩, ⟨S3072x384, (extractStridedSlice S3072x384 ![1024, 0] p slices_S4096x384_S3072x384_1024_0)⟩] concatenates_S1024x384_S3072x384_S4096x384_d0

theorem ref14_eq (W M U : FVec Ideal S4096x384 .f32) (R : FVec Ideal S8x1024x384 .bf16) (p : FVec Ideal S4096x384 .f32) : ref14 W M U R p = Cert.AdamQUpIdeal.Mm.G14 W M U R p := by
  funext i
  obtain ⟨a, s, rfl⟩ : ∃ (a : Fin 4096) (s : Fin 384), i = (ix2 a s : S4096x384.Idx) := ⟨i 0, i 1, (ix2_eta i).symm⟩
  unfold ref14; pointwise
  by_cases h : a.val < 1024
  · rw [dif_pos h]; exact (Cert.AdamQUpIdeal.Mm.G14_pos W M U R p a s h).symm
  · rw [dif_neg h]
    refine Eq.trans (congrArg p (congrArg (fun z => (ix2 z s : S4096x384.Idx)) (Fin.ext ?_))) (Cert.AdamQUpIdeal.Mm.G14_neg W M U R p a s h).symm
    show 1024 + (a.val - 1024) = a.val
    omega

end Cert.AdamQUpReferenceIdeal.Mm
end
-- ==== Proof.ClAdamQUp.lean ====
/- The claims about the optimiser's call `AdamQUp`. -/
module

public import proofs.«01_k».proof.Proof.MmAdamQUp
public import proofs.«01_k».proof.Proof.Gen.AdamQUp.Frame
public import proofs.«01_k».proof.Defs
public import Idealize.ShloMosaic.Init
public import Idealize.ShloMosaic.Adequacy

@[expose] public section

set_option maxRecDepth 16384

noncomputable section

namespace Cert.Proof.AdamQUp

open Idealize.ShloMosaic Idealize.SL.Sem Idealize.ShloMosaic.TcCoe

theorem frame_kernel : Cert.quiescent_AdamQUp := fun m ρ _ => Cert.AdamQUp.Gen.frame m ρ

theorem frame_ideal : Cert.quiescent_AdamQUpIdeal := fun m ρ _ => Cert.AdamQUpIdeal.Gen.frame m ρ

theorem frame_reference : Cert.quiescent_AdamQUpReferenceIdeal := fun m ρ _ =>
  (θ_run Cert.AdamQUpReferenceIdeal.defs _ _).mono (fun r h => ⟨fun c => (h c).2.2.2.2, Idealize.ShloMosaic.sem_eq_zero_of_no_sems (by decide) r.2⟩)
    (Cert.AdamQUpReferenceIdeal.Value.run m ρ)

theorem algebraic : Cert.algebraic_AdamQUpIdeal_AdamQUpReferenceIdeal := by
  intro m g m' g' _ hag
  refine ⟨fun c => (Cert.AdamQUpIdeal.Gen.dats m 0 c).arrAt 11 Cert.AdamQUpIdeal.cfg0.N, fun c => (Cert.AdamQUpIdeal.Gen.dats m 0 c).arrAt 12 Cert.AdamQUpIdeal.cfg0.N, fun c => (Cert.AdamQUpIdeal.Gen.dats m 0 c).arrAt 13 Cert.AdamQUpIdeal.cfg0.N, fun c => (Cert.AdamQUpIdeal.Gen.dats m 0 c).arrAt 14 Cert.AdamQUpIdeal.cfg0.N, Cert.AdamQUpIdeal.Value.run_blocks m g, ?_⟩
  refine (θ_run Cert.AdamQUpReferenceIdeal.defs _ _).mono (fun r h c => ?_) (Cert.AdamQUpReferenceIdeal.Value.run m' g')
  obtain ⟨r0, r1, r2, r3, ra⟩ := h c
  obtain ⟨a0, a1, a2, a3, a4, a5, a6, a7⟩ := hag c
  refine ⟨r0.trans ((Cert.AdamQUpReferenceIdeal.Mm.ref11_eq (m' ((c : Thread Cert.AdamQUpReferenceIdeal.nD Cert.AdamQUpReferenceIdeal.τ).loc Cert.AdamQUpReferenceIdeal.main_arg0)) (m' ((c : Thread Cert.AdamQUpReferenceIdeal.nD Cert.AdamQUpReferenceIdeal.τ).loc Cert.AdamQUpReferenceIdeal.main_arg1)) (m' ((c : Thread Cert.AdamQUpReferenceIdeal.nD Cert.AdamQUpReferenceIdeal.τ).loc Cert.AdamQUpReferenceIdeal.main_arg2)) (m' ((c : Thread Cert.AdamQUpReferenceIdeal.nD Cert.AdamQUpReferenceIdeal.τ).loc Cert.AdamQUpReferenceIdeal.main_arg3)) (m' ((c : Thread Cert.AdamQUpReferenceIdeal.nD Cert.AdamQUpReferenceIdeal.τ).loc Cert.AdamQUpReferenceIdeal.main_arg4))).trans ?_), r1.trans ((Cert.AdamQUpReferenceIdeal.Mm.ref12_eq (m' ((c : Thread Cert.AdamQUpReferenceIdeal.nD Cert.AdamQUpReferenceIdeal.τ).loc Cert.AdamQUpReferenceIdeal.main_arg0)) (m' ((c : Thread Cert.AdamQUpReferenceIdeal.nD Cert.AdamQUpReferenceIdeal.τ).loc Cert.AdamQUpReferenceIdeal.main_arg1)) (m' ((c : Thread Cert.AdamQUpReferenceIdeal.nD Cert.AdamQUpReferenceIdeal.τ).loc Cert.AdamQUpReferenceIdeal.main_arg2)) (m' ((c : Thread Cert.AdamQUpReferenceIdeal.nD Cert.AdamQUpReferenceIdeal.τ).loc Cert.AdamQUpReferenceIdeal.main_arg3)) (m' ((c : Thread Cert.AdamQUpReferenceIdeal.nD Cert.AdamQUpReferenceIdeal.τ).loc Cert.AdamQUpReferenceIdeal.main_arg5))).trans ?_), r2.trans ((Cert.AdamQUpReferenceIdeal.Mm.ref13_eq (m' ((c : Thread Cert.AdamQUpReferenceIdeal.nD Cert.AdamQUpReferenceIdeal.τ).loc Cert.AdamQUpReferenceIdeal.main_arg0)) (m' ((c : Thread Cert.AdamQUpReferenceIdeal.nD Cert.AdamQUpReferenceIdeal.τ).loc Cert.AdamQUpReferenceIdeal.main_arg1)) (m' ((c : Thread Cert.AdamQUpReferenceIdeal.nD Cert.AdamQUpReferenceIdeal.τ).loc Cert.AdamQUpReferenceIdeal.main_arg2)) (m' ((c : Thread Cert.AdamQUpReferenceIdeal.nD Cert.AdamQUpReferenceIdeal.τ).loc Cert.AdamQUpReferenceIdeal.main_arg3)) (m' ((c : Thread Cert.AdamQUpReferenceIdeal.nD Cert.AdamQUpReferenceIdeal.τ).loc Cert.AdamQUpReferenceIdeal.main_arg6))).trans ?_), r3.trans ((Cert.AdamQUpReferenceIdeal.Mm.ref14_eq (m' ((c : Thread Cert.AdamQUpReferenceIdeal.nD Cert.AdamQUpReferenceIdeal.τ).loc Cert.AdamQUpReferenceIdeal.main_arg0)) (m' ((c : Thread Cert.AdamQUpReferenceIdeal.nD Cert.AdamQUpReferenceIdeal.τ).loc Cert.AdamQUpReferenceIdeal.main_arg1)) (m' ((c : Thread Cert.AdamQUpReferenceIdeal.nD Cert.AdamQUpReferenceIdeal.τ).loc Cert.AdamQUpReferenceIdeal.main_arg2)) (m' ((c : Thread Cert.AdamQUpReferenceIdeal.nD Cert.AdamQUpReferenceIdeal.τ).loc Cert.AdamQUpReferenceIdeal.main_arg3)) (m' ((c : Thread Cert.AdamQUpReferenceIdeal.nD Cert.AdamQUpReferenceIdeal.τ).loc Cert.AdamQUpReferenceIdeal.main_arg7))).trans ?_), ra⟩
  · rw [a0, a1, a2, a3, a4]; exact (Cert.AdamQUpIdeal.Mm.final11 m c).symm
  · rw [a0, a1, a2, a3, a5]; exact (Cert.AdamQUpIdeal.Mm.final12 m c).symm
  · rw [a0, a1, a2, a3, a6]; exact (Cert.AdamQUpIdeal.Mm.final13 m c).symm
  · rw [a0, a1, a2, a3, a7]; exact (Cert.AdamQUpIdeal.Mm.final14 m c).symm

end Cert.Proof.AdamQUp
end
-- ==== Proof.MmAdamKvUp.lean ====
/- The optimiser's call `AdamKvUp`: what its tiles leave is the reference's. -/
module

public import proofs.«01_k».proof.Proof.MmAdam
public import proofs.«01_k».proof.Proof.Gen.AdamKvUpIdeal.Value
public import proofs.«01_k».proof.Proof.Gen.AdamKvUpReferenceIdeal.Run
public import Idealize.ShloMosaic.Lib.Pipeline.ValueKit
public import Idealize.ShloMosaic.Lib.Pipeline.ValueKit.Partial
public import Idealize.ShloMosaic.Lib.WritesUnit
public import Idealize.ShloMosaic.Lib.Pipeline.ReadBack

@[expose] public section

set_option maxRecDepth 16384

noncomputable section

namespace Cert.AdamKvUpIdeal.Mm

open Cert.AdamKvUpIdeal Cert.AdamKvUpIdeal.Gen Idealize.ShloMosaic Idealize.ShloMosaic.TcCoe Idealize.SL.Sem
open Idealize.ShloMosaic.Pipeline (Dat)

/-- A gradient: the sum of the parts the devices sent. -/
def gS (R : FVec Ideal S8x512x512 .bf16) (a : Fin 512) (s : Fin 512) : EReal := ∑ p : Fin 8, R (ix3 p a ⟨s.val, by have := s.isLt; omega⟩)

theorem gS_eq (R : FVec Ideal S8x512x512 .bf16) (a : Fin 512) (s : Fin 512) (h : s.val < 512) : gS R a s =
    R (ix3 0 a ⟨s.val, h⟩) + R (ix3 1 a ⟨s.val, h⟩) + R (ix3 2 a ⟨s.val, h⟩) + R (ix3 3 a ⟨s.val, h⟩) + R (ix3 4 a ⟨s.val, h⟩) + R (ix3 5 a ⟨s.val, h⟩) + R (ix3 6 a ⟨s.val, h⟩) + R (ix3 7 a ⟨s.val, h⟩) := by
  unfold gS
  rw [Fin.sum_univ_eight]

/-- The gradient of this layer's rows, before the other layers' rows. -/
def G11 (W M U : FVec Ideal S2048x512 .f32) (R : FVec Ideal S8x512x512 .bf16) (p : FVec Ideal S2048x512 .f32) : FVec Ideal S2048x512 .f32 := fun i =>
  if h : (i 0).val < 512 then (gS R ⟨(i 0).val, h⟩ (i 1)) else p i

theorem G11_pos (W M U : FVec Ideal S2048x512 .f32) (R : FVec Ideal S8x512x512 .bf16) (p : FVec Ideal S2048x512 .f32) (a : Fin 2048) (s : Fin 512) (h : a.val < 512) :
    G11 W M U R p (ix2 a s) = (gS R ⟨a.val, h⟩ s) := dif_pos (c := ((ix2 a s : S2048x512.Idx) 0).val < 512) h

theorem G11_neg (W M U : FVec Ideal S2048x512 .f32) (R : FVec Ideal S8x512x512 .bf16) (p : FVec Ideal S2048x512 .f32) (a : Fin 2048) (s : Fin 512) (h : ¬a.val < 512) :
    G11 W M U R p (ix2 a s) = p (ix2 a s) := dif_neg (c := ((ix2 a s : S2048x512.Idx) 0).val < 512) h

/-- The steps of this layer's rows, before the other layers' rows. -/
def G12 (W M U : FVec Ideal S2048x512 .f32) (R : FVec Ideal S8x512x512 .bf16) (p : FVec Ideal S2048x512 .f32) : FVec Ideal S2048x512 .f32 := fun i =>
  if h : (i 0).val < 512 then Cert.Adam.delta (W i) (M i) (U i) (gS R ⟨(i 0).val, h⟩ (i 1)) else p i

theorem G12_pos (W M U : FVec Ideal S2048x512 .f32) (R : FVec Ideal S8x512x512 .bf16) (p : FVec Ideal S2048x512 .f32) (a : Fin 2048) (s : Fin 512) (h : a.val < 512) :
    G12 W M U R p (ix2 a s) = Cert.Adam.delta (W (ix2 a s)) (M (ix2 a s)) (U (ix2 a s)) (gS R ⟨a.val, h⟩ s) := dif_pos (c := ((ix2 a s : S2048x512.Idx) 0).val < 512) h

theorem G12_neg (W M U : FVec Ideal S2048x512 .f32) (R : FVec Ideal S8x512x512 .bf16) (p : FVec Ideal S2048x512 .f32) (a : Fin 2048) (s : Fin 512) (h : ¬a.val < 512) :
    G12 W M U R p (ix2 a s) = p (ix2 a s) := dif_neg (c := ((ix2 a s : S2048x512.Idx) 0).val < 512) h

/-- The new running means of this layer's rows, before the other layers' rows. -/
def G13 (W M U : FVec Ideal S2048x512 .f32) (R : FVec Ideal S8x512x512 .bf16) (p : FVec Ideal S2048x512 .f32) : FVec Ideal S2048x512 .f32 := fun i =>
  if h : (i 0).val < 512 then Cert.Adam.newM (M i) (gS R ⟨(i 0).val, h⟩ (i 1)) else p i

theorem G13_pos (W M U : FVec Ideal S2048x512 .f32) (R : FVec Ideal S8x512x512 .bf16) (p : FVec Ideal S2048x512 .f32) (a : Fin 2048) (s : Fin 512) (h : a.val < 512) :
    G13 W M U R p (ix2 a s) = Cert.Adam.newM (M (ix2 a s)) (gS R ⟨a.val, h⟩ s) := dif_pos (c := ((ix2 a s : S2048x512.Idx) 0).val < 512) h

theorem G13_neg (W M U : FVec Ideal S2048x512 .f32) (R : FVec Ideal S8x512x512 .bf16) (p : FVec Ideal S2048x512 .f32) (a : Fin 2048) (s : Fin 512) (h : ¬a.val < 512) :
    G13 W M U R p (ix2 a s) = p (ix2 a s) := dif_neg (c := ((ix2 a s : S2048x512.Idx) 0).val < 512) h

/-- The new running means of squares of this layer's rows, before the other layers' rows. -/
def G14 (W M U : FVec Ideal S2048x512 .f32) (R : FVec Ideal S8x512x512 .bf16) (p : FVec Ideal S2048x512 .f32) : FVec Ideal S2048x512 .f32 := fun i =>
  if h : (i 0).val < 512 then Cert.Adam.newV (U i) (gS R ⟨(i 0).val, h⟩ (i 1)) else p i

theorem G14_pos (W M U : FVec Ideal S2048x512 .f32) (R : FVec Ideal S8x512x512 .bf16) (p : FVec Ideal S2048x512 .f32) (a : Fin 2048) (s : Fin 512) (h : a.val < 512) :
    G14 W M U R p (ix2 a s) = Cert.Adam.newV (U (ix2 a s)) (gS R ⟨a.val, h⟩ s) := dif_pos (c := ((ix2 a s : S2048x512.Idx) 0).val < 512) h

theorem G14_neg (W M U : FVec Ideal S2048x512 .f32) (R : FVec Ideal S8x512x512 .bf16) (p : FVec Ideal S2048x512 .f32) (a : Fin 2048) (s : Fin 512) (h : ¬a.val < 512) :
    G14 W M U R p (ix2 a s) = p (ix2 a s) := dif_neg (c := ((ix2 a s : S2048x512.Idx) 0).val < 512) h

theorem idx : ∀ t : Fin cfg0.N, win0_0.index t = ![t.val, 0] ∧ win0_1.index t = ![t.val, 0] ∧ win0_2.index t = ![t.val, 0] ∧ win0_3.index t = ![0, t.val, 0] ∧ win0_4.index t = ![1, t.val, 0] ∧ win0_5.index t = ![2, t.val, 0] ∧ win0_6.index t = ![3, t.val, 0] ∧ win0_7.index t = ![4, t.val, 0] ∧ win0_8.index t = ![5, t.val, 0] ∧ win0_9.index t = ![6, t.val, 0] ∧ win0_10.index t = ![7, t.val, 0] ∧ win0_11.index t = ![t.val, 0] ∧ win0_12.index t = ![t.val, 0] ∧ win0_13.index t = ![t.val, 0] ∧ win0_14.index t = ![t.val, 0] :=
  (by decide +kernel : ∀ t : Fin grid0.N, _)

theorem rd0 (t : Fin cfg0.N) (a : Fin 256) (s : Fin 512) (X : FVec Ideal S2048x512 .f32) :
    (((cfg0.win 0).blk t).view.read (Elt Ideal) (X : ((cfg0.win 0).blk t).view.ty.Contents (Elt Ideal)) : Vec Ideal S256x512 .f32) (ix2 a s) = X (ix2 ⟨256 * t.val + a.val, by have hN : t.val < 2 := lt_of_lt_of_eq t.isLt N_0; have := a.isLt; omega⟩ s) := by
  blk_simp
  blk_ext [idx t]

theorem rd1 (t : Fin cfg0.N) (a : Fin 256) (s : Fin 512) (X : FVec Ideal S2048x512 .f32) :
    (((cfg0.win 1).blk t).view.read (Elt Ideal) (X : ((cfg0.win 1).blk t).view.ty.Contents (Elt Ideal)) : Vec Ideal S256x512 .f32) (ix2 a s) = X (ix2 ⟨256 * t.val + a.val, by have hN : t.val < 2 := lt_of_lt_of_eq t.isLt N_0; have := a.isLt; omega⟩ s) := by
  blk_simp
  blk_ext [idx t]

theorem rd2 (t : Fin cfg0.N) (a : Fin 256) (s : Fin 512) (X : FVec Ideal S2048x512 .f32) :
    (((cfg0.win 2).blk t).view.read (Elt Ideal) (X : ((cfg0.win 2).blk t).view.ty.Contents (Elt Ideal)) : Vec Ideal S256x512 .f32) (ix2 a s) = X (ix2 ⟨256 * t.val + a.val, by have hN : t.val < 2 := lt_of_lt_of_eq t.isLt N_0; have := a.isLt; omega⟩ s) := by
  blk_simp
  blk_ext [idx t]

theorem rd11 (t : Fin cfg0.N) (a : Fin 256) (s : Fin 512) (X : FVec Ideal S2048x512 .f32) :
    (((cfg0.win 11).blk t).view.read (Elt Ideal) (X : ((cfg0.win 11).blk t).view.ty.Contents (Elt Ideal)) : Vec Ideal S256x512 .f32) (ix2 a s) = X (ix2 ⟨256 * t.val + a.val, by have hN : t.val < 2 := lt_of_lt_of_eq t.isLt N_0; have := a.isLt; omega⟩ s) := by
  blk_simp
  blk_ext [idx t]

theorem rd12 (t : Fin cfg0.N) (a : Fin 256) (s : Fin 512) (X : FVec Ideal S2048x512 .f32) :
    (((cfg0.win 12).blk t).view.read (Elt Ideal) (X : ((cfg0.win 12).blk t).view.ty.Contents (Elt Ideal)) : Vec Ideal S256x512 .f32) (ix2 a s) = X (ix2 ⟨256 * t.val + a.val, by have hN : t.val < 2 := lt_of_lt_of_eq t.isLt N_0; have := a.isLt; omega⟩ s) := by
  blk_simp
  blk_ext [idx t]

theorem rd13 (t : Fin cfg0.N) (a : Fin 256) (s : Fin 512) (X : FVec Ideal S2048x512 .f32) :
    (((cfg0.win 13).blk t).view.read (Elt Ideal) (X : ((cfg0.win 13).blk t).view.ty.Contents (Elt Ideal)) : Vec Ideal S256x512 .f32) (ix2 a s) = X (ix2 ⟨256 * t.val + a.val, by have hN : t.val < 2 := lt_of_lt_of_eq t.isLt N_0; have := a.isLt; omega⟩ s) := by
  blk_simp
  blk_ext [idx t]

theorem rd14 (t : Fin cfg0.N) (a : Fin 256) (s : Fin 512) (X : FVec Ideal S2048x512 .f32) :
    (((cfg0.win 14).blk t).view.read (Elt Ideal) (X : ((cfg0.win 14).blk t).view.ty.Contents (Elt Ideal)) : Vec Ideal S256x512 .f32) (ix2 a s) = X (ix2 ⟨256 * t.val + a.val, by have hN : t.val < 2 := lt_of_lt_of_eq t.isLt N_0; have := a.isLt; omega⟩ s) := by
  blk_simp
  blk_ext [idx t]

theorem rd3 (t : Fin cfg0.N) (a : Fin 256) (s : Fin 512) (X : FVec Ideal S8x512x512 .bf16) :
    (((cfg0.win 3).blk t).view.read (Elt Ideal) (X : ((cfg0.win 3).blk t).view.ty.Contents (Elt Ideal)) : Vec Ideal S1x256x512 .bf16) (ix3 0 a s) = X (ix3 0 ⟨256 * t.val + a.val, by have hN : t.val < 2 := lt_of_lt_of_eq t.isLt N_0; have := a.isLt; omega⟩ s) := by
  blk_simp
  blk_ext [idx t]

theorem rd4 (t : Fin cfg0.N) (a : Fin 256) (s : Fin 512) (X : FVec Ideal S8x512x512 .bf16) :
    (((cfg0.win 4).blk t).view.read (Elt Ideal) (X : ((cfg0.win 4).blk t).view.ty.Contents (Elt Ideal)) : Vec Ideal S1x256x512 .bf16) (ix3 0 a s) = X (ix3 1 ⟨256 * t.val + a.val, by have hN : t.val < 2 := lt_of_lt_of_eq t.isLt N_0; have := a.isLt; omega⟩ s) := by
  blk_simp
  blk_ext [idx t]

theorem rd5 (t : Fin cfg0.N) (a : Fin 256) (s : Fin 512) (X : FVec Ideal S8x512x512 .bf16) :
    (((cfg0.win 5).blk t).view.read (Elt Ideal) (X : ((cfg0.win 5).blk t).view.ty.Contents (Elt Ideal)) : Vec Ideal S1x256x512 .bf16) (ix3 0 a s) = X (ix3 2 ⟨256 * t.val + a.val, by have hN : t.val < 2 := lt_of_lt_of_eq t.isLt N_0; have := a.isLt; omega⟩ s) := by
  blk_simp
  blk_ext [idx t]

theorem rd6 (t : Fin cfg0.N) (a : Fin 256) (s : Fin 512) (X : FVec Ideal S8x512x512 .bf16) :
    (((cfg0.win 6).blk t).view.read (Elt Ideal) (X : ((cfg0.win 6).blk t).view.ty.Contents (Elt Ideal)) : Vec Ideal S1x256x512 .bf16) (ix3 0 a s) = X (ix3 3 ⟨256 * t.val + a.val, by have hN : t.val < 2 := lt_of_lt_of_eq t.isLt N_0; have := a.isLt; omega⟩ s) := by
  blk_simp
  blk_ext [idx t]

theorem rd7 (t : Fin cfg0.N) (a : Fin 256) (s : Fin 512) (X : FVec Ideal S8x512x512 .bf16) :
    (((cfg0.win 7).blk t).view.read (Elt Ideal) (X : ((cfg0.win 7).blk t).view.ty.Contents (Elt Ideal)) : Vec Ideal S1x256x512 .bf16) (ix3 0 a s) = X (ix3 4 ⟨256 * t.val + a.val, by have hN : t.val < 2 := lt_of_lt_of_eq t.isLt N_0; have := a.isLt; omega⟩ s) := by
  blk_simp
  blk_ext [idx t]

theorem rd8 (t : Fin cfg0.N) (a : Fin 256) (s : Fin 512) (X : FVec Ideal S8x512x512 .bf16) :
    (((cfg0.win 8).blk t).view.read (Elt Ideal) (X : ((cfg0.win 8).blk t).view.ty.Contents (Elt Ideal)) : Vec Ideal S1x256x512 .bf16) (ix3 0 a s) = X (ix3 5 ⟨256 * t.val + a.val, by have hN : t.val < 2 := lt_of_lt_of_eq t.isLt N_0; have := a.isLt; omega⟩ s) := by
  blk_simp
  blk_ext [idx t]

theorem rd9 (t : Fin cfg0.N) (a : Fin 256) (s : Fin 512) (X : FVec Ideal S8x512x512 .bf16) :
    (((cfg0.win 9).blk t).view.read (Elt Ideal) (X : ((cfg0.win 9).blk t).view.ty.Contents (Elt Ideal)) : Vec Ideal S1x256x512 .bf16) (ix3 0 a s) = X (ix3 6 ⟨256 * t.val + a.val, by have hN : t.val < 2 := lt_of_lt_of_eq t.isLt N_0; have := a.isLt; omega⟩ s) := by
  blk_simp
  blk_ext [idx t]

theorem rd10 (t : Fin cfg0.N) (a : Fin 256) (s : Fin 512) (X : FVec Ideal S8x512x512 .bf16) :
    (((cfg0.win 10).blk t).view.read (Elt Ideal) (X : ((cfg0.win 10).blk t).view.ty.Contents (Elt Ideal)) : Vec Ideal S1x256x512 .bf16) (ix3 0 a s) = X (ix3 7 ⟨256 * t.val + a.val, by have hN : t.val < 2 := lt_of_lt_of_eq t.isLt N_0; have := a.isLt; omega⟩ s) := by
  blk_simp
  blk_ext [idx t]

variable (m : (ℓ : Loc nD τ sig) → Buf (Elt Ideal) ℓ)

/-- An entry of block 0. -/
def b0 (c : Dev nD) (t : Fin cfg0.N) (a : Fin 256) (s : Fin 512) : EReal := (iblk m c 0 t : Vec Ideal S256x512 .f32) (ix2 a s)

/-- An entry of block 1. -/
def b1 (c : Dev nD) (t : Fin cfg0.N) (a : Fin 256) (s : Fin 512) : EReal := (iblk m c 1 t : Vec Ideal S256x512 .f32) (ix2 a s)

/-- An entry of block 2. -/
def b2 (c : Dev nD) (t : Fin cfg0.N) (a : Fin 256) (s : Fin 512) : EReal := (iblk m c 2 t : Vec Ideal S256x512 .f32) (ix2 a s)

/-- An entry of block 3. -/
def b3 (c : Dev nD) (t : Fin cfg0.N) (a : Fin 256) (s : Fin 512) : EReal := (iblk m c 3 t : Vec Ideal S1x256x512 .bf16) (ix3 0 a s)

/-- An entry of block 4. -/
def b4 (c : Dev nD) (t : Fin cfg0.N) (a : Fin 256) (s : Fin 512) : EReal := (iblk m c 4 t : Vec Ideal S1x256x512 .bf16) (ix3 0 a s)

/-- An entry of block 5. -/
def b5 (c : Dev nD) (t : Fin cfg0.N) (a : Fin 256) (s : Fin 512) : EReal := (iblk m c 5 t : Vec Ideal S1x256x512 .bf16) (ix3 0 a s)

/-- An entry of block 6. -/
def b6 (c : Dev nD) (t : Fin cfg0.N) (a : Fin 256) (s : Fin 512) : EReal := (iblk m c 6 t : Vec Ideal S1x256x512 .bf16) (ix3 0 a s)

/-- An entry of block 7. -/
def b7 (c : Dev nD) (t : Fin cfg0.N) (a : Fin 256) (s : Fin 512) : EReal := (iblk m c 7 t : Vec Ideal S1x256x512 .bf16) (ix3 0 a s)

/-- An entry of block 8. -/
def b8 (c : Dev nD) (t : Fin cfg0.N) (a : Fin 256) (s : Fin 512) : EReal := (iblk m c 8 t : Vec Ideal S1x256x512 .bf16) (ix3 0 a s)

/-- An entry of block 9. -/
def b9 (c : Dev nD) (t : Fin cfg0.N) (a : Fin 256) (s : Fin 512) : EReal := (iblk m c 9 t : Vec Ideal S1x256x512 .bf16) (ix3 0 a s)

/-- An entry of block 10. -/
def b10 (c : Dev nD) (t : Fin cfg0.N) (a : Fin 256) (s : Fin 512) : EReal := (iblk m c 10 t : Vec Ideal S1x256x512 .bf16) (ix3 0 a s)

theorem o11 (c : Dev nD) (t : Fin cfg0.N) (a : Fin 256) (s : Fin 512) : ((outsAt0 m c t).1 : Vec Ideal S256x512 .f32) (ix2 a s) = (b3 m c t a ⟨s.val, by have := s.isLt; omega⟩ + b4 m c t a ⟨s.val, by have := s.isLt; omega⟩ + b5 m c t a ⟨s.val, by have := s.isLt; omega⟩ + b6 m c t a ⟨s.val, by have := s.isLt; omega⟩ + b7 m c t a ⟨s.val, by have := s.isLt; omega⟩ + b8 m c t a ⟨s.val, by have := s.isLt; omega⟩ + b9 m c t a ⟨s.val, by have := s.isLt; omega⟩ + b10 m c t a ⟨s.val, by have := s.isLt; omega⟩) := by
  unfold outsAt0
  frame_out
  open_payloads
  pointwise

  unfold b3 b4 b5 b6 b7 b8 b9 b10
  rfl

theorem final11 (c : Dev nD) : (dats m 0 c).arrAt 11 cfg0.N = G11 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_coversWhere_of_agree 11 _ (fun β => β (0 : Fin _) < 2) (by decide +kernel) (fun t hf y => ?_) (fun j hj => ?_)
  · blk_simp
    rw [after0_11]
    obtain ⟨a, s, rfl⟩ : ∃ (a : Fin 256) (s : Fin 512), y = (ix2 a s : S256x512.Idx) := ⟨y 0, y 1, (ix2_eta y).symm⟩
    refine (o11 m c t a s).trans (Eq.trans ?_ (rd11 t a s (G11 (m ((c : Thread nD τ).loc main_arg0)) (m ((c : Thread nD τ).loc main_arg1)) (m ((c : Thread nD τ).loc main_arg2)) (m ((c : Thread nD τ).loc main_arg3)) (m ((c : Thread nD τ).loc main_arg4)))).symm)
    have ha : 256 * t.val + a.val < 512 := by have hN : t.val < 2 := lt_of_lt_of_eq t.isLt N_0; have := a.isLt; omega
    have hs : s.val < 512 := by have := s.isLt; omega
    refine Eq.trans ?_ (G11_pos _ _ _ _ _ _ _ ha).symm
    have hg := gS_eq (m ((c : Thread nD τ).loc main_arg3)) ⟨256 * t.val + a.val, ha⟩ s hs
    have h3 : b3 m c t a ⟨s.val, hs⟩ = _ := rd3 t a ⟨s.val, hs⟩ (m ((c : Thread nD τ).loc main_arg3))
    have h4 : b4 m c t a ⟨s.val, hs⟩ = _ := rd4 t a ⟨s.val, hs⟩ (m ((c : Thread nD τ).loc main_arg3))
    have h5 : b5 m c t a ⟨s.val, hs⟩ = _ := rd5 t a ⟨s.val, hs⟩ (m ((c : Thread nD τ).loc main_arg3))
    have h6 : b6 m c t a ⟨s.val, hs⟩ = _ := rd6 t a ⟨s.val, hs⟩ (m ((c : Thread nD τ).loc main_arg3))
    have h7 : b7 m c t a ⟨s.val, hs⟩ = _ := rd7 t a ⟨s.val, hs⟩ (m ((c : Thread nD τ).loc main_arg3))
    have h8 : b8 m c t a ⟨s.val, hs⟩ = _ := rd8 t a ⟨s.val, hs⟩ (m ((c : Thread nD τ).loc main_arg3))
    have h9 : b9 m c t a ⟨s.val, hs⟩ = _ := rd9 t a ⟨s.val, hs⟩ (m ((c : Thread nD τ).loc main_arg3))
    have h10 : b10 m c t a ⟨s.val, hs⟩ = _ := rd10 t a ⟨s.val, hs⟩ (m ((c : Thread nD τ).loc main_arg3))
    have h0 : b0 m c t a s = _ := rd0 t a s (m ((c : Thread nD τ).loc main_arg0))
    have h1 : b1 m c t a s = _ := rd1 t a s (m ((c : Thread nD τ).loc main_arg1))
    have h2 : b2 m c t a s = _ := rd2 t a s (m ((c : Thread nD τ).loc main_arg2))
    rw [h3, h4, h5, h6, h7, h8, h9, h10, ← hg]
  · blk_simp [Pipeline.Window.cell_apply] at hj
    have e : G11 (m ((c : Thread nD τ).loc main_arg0)) (m ((c : Thread nD τ).loc main_arg1)) (m ((c : Thread nD τ).loc main_arg2)) (m ((c : Thread nD τ).loc main_arg3)) (m ((c : Thread nD τ).loc main_arg4)) j = (m ((c : Thread nD τ).loc main_arg4)) j := dif_neg (by omega)
    refine Eq.trans ?_ e.symm
    rw [A_eq]
    entry_read
    rfl

theorem o12 (c : Dev nD) (t : Fin cfg0.N) (a : Fin 256) (s : Fin 512) : ((outsAt0 m c t).2.1 : Vec Ideal S256x512 .f32) (ix2 a s) = Cert.Adam.delta (b0 m c t a s) (b1 m c t a s) (b2 m c t a s) (b3 m c t a ⟨s.val, by have := s.isLt; omega⟩ + b4 m c t a ⟨s.val, by have := s.isLt; omega⟩ + b5 m c t a ⟨s.val, by have := s.isLt; omega⟩ + b6 m c t a ⟨s.val, by have := s.isLt; omega⟩ + b7 m c t a ⟨s.val, by have := s.isLt; omega⟩ + b8 m c t a ⟨s.val, by have := s.isLt; omega⟩ + b9 m c t a ⟨s.val, by have := s.isLt; omega⟩ + b10 m c t a ⟨s.val, by have := s.isLt; omega⟩) := by
  unfold outsAt0
  frame_out
  open_payloads
  pointwise
  unfold Cert.Adam.delta Cert.Adam.newM Cert.Adam.newV
  unfold b3 b4 b5 b6 b7 b8 b9 b10 b0 b1 b2
  rfl

theorem final12 (c : Dev nD) : (dats m 0 c).arrAt 12 cfg0.N = G12 (m ((c : Thread nD τ).loc main_arg0)) (m ((c : Thread nD τ).loc main_arg1)) (m ((c : Thread nD τ).loc main_arg2)) (m ((c : Thread nD τ).loc main_arg3)) (m ((c : Thread nD τ).loc main_arg5)) := by
  refine (dats m 0 c).arrAt_eq_of_coversWhere_of_agree 12 _ (fun β => β (0 : Fin _) < 2) (by decide +kernel) (fun t hf y => ?_) (fun j hj => ?_)
  · blk_simp
    rw [after0_12]
    obtain ⟨a, s, rfl⟩ : ∃ (a : Fin 256) (s : Fin 512), y = (ix2 a s : S256x512.Idx) := ⟨y 0, y 1, (ix2_eta y).symm⟩
    refine (o12 m c t a s).trans (Eq.trans ?_ (rd12 t a s (G12 (m ((c : Thread nD τ).loc main_arg0)) (m ((c : Thread nD τ).loc main_arg1)) (m ((c : Thread nD τ).loc main_arg2)) (m ((c : Thread nD τ).loc main_arg3)) (m ((c : Thread nD τ).loc main_arg5)))).symm)
    have ha : 256 * t.val + a.val < 512 := by have hN : t.val < 2 := lt_of_lt_of_eq t.isLt N_0; have := a.isLt; omega
    have hs : s.val < 512 := by have := s.isLt; omega
    refine Eq.trans ?_ (G12_pos _ _ _ _ _ _ _ ha).symm
    have hg := gS_eq (m ((c : Thread nD τ).loc main_arg3)) ⟨256 * t.val + a.val, ha⟩ s hs
    have h3 : b3 m c t a ⟨s.val, hs⟩ = _ := rd3 t a ⟨s.val, hs⟩ (m ((c : Thread nD τ).loc main_arg3))
    have h4 : b4 m c t a ⟨s.val, hs⟩ = _ := rd4 t a ⟨s.val, hs⟩ (m ((c : Thread nD τ).loc main_arg3))
    have h5 : b5 m c t a ⟨s.val, hs⟩ = _ := rd5 t a ⟨s.val, hs⟩ (m ((c : Thread nD τ).loc main_arg3))
    have h6 : b6 m c t a ⟨s.val, hs⟩ = _ := rd6 t a ⟨s.val, hs⟩ (m ((c : Thread nD τ).loc main_arg3))
    have h7 : b7 m c t a ⟨s.val, hs⟩ = _ := rd7 t a ⟨s.val, hs⟩ (m ((c : Thread nD τ).loc main_arg3))
    have h8 : b8 m c t a ⟨s.val, hs⟩ = _ := rd8 t a ⟨s.val, hs⟩ (m ((c : Thread nD τ).loc main_arg3))
    have h9 : b9 m c t a ⟨s.val, hs⟩ = _ := rd9 t a ⟨s.val, hs⟩ (m ((c : Thread nD τ).loc main_arg3))
    have h10 : b10 m c t a ⟨s.val, hs⟩ = _ := rd10 t a ⟨s.val, hs⟩ (m ((c : Thread nD τ).loc main_arg3))
    have h0 : b0 m c t a s = _ := rd0 t a s (m ((c : Thread nD τ).loc main_arg0))
    have h1 : b1 m c t a s = _ := rd1 t a s (m ((c : Thread nD τ).loc main_arg1))
    have h2 : b2 m c t a s = _ := rd2 t a s (m ((c : Thread nD τ).loc main_arg2))
    rw [h0, h1, h2, h3, h4, h5, h6, h7, h8, h9, h10, ← hg]
  · blk_simp [Pipeline.Window.cell_apply] at hj
    have e : G12 (m ((c : Thread nD τ).loc main_arg0)) (m ((c : Thread nD τ).loc main_arg1)) (m ((c : Thread nD τ).loc main_arg2)) (m ((c : Thread nD τ).loc main_arg3)) (m ((c : Thread nD τ).loc main_arg5)) j = (m ((c : Thread nD τ).loc main_arg5)) j := dif_neg (by omega)
    refine Eq.trans ?_ e.symm
    rw [A_eq]
    entry_read
    rfl

theorem o13 (c : Dev nD) (t : Fin cfg0.N) (a : Fin 256) (s : Fin 512) : ((outsAt0 m c t).2.2.1 : Vec Ideal S256x512 .f32) (ix2 a s) = Cert.Adam.newM (b1 m c t a s) (b3 m c t a ⟨s.val, by have := s.isLt; omega⟩ + b4 m c t a ⟨s.val, by have := s.isLt; omega⟩ + b5 m c t a ⟨s.val, by have := s.isLt; omega⟩ + b6 m c t a ⟨s.val, by have := s.isLt; omega⟩ + b7 m c t a ⟨s.val, by have := s.isLt; omega⟩ + b8 m c t a ⟨s.val, by have := s.isLt; omega⟩ + b9 m c t a ⟨s.val, by have := s.isLt; omega⟩ + b10 m c t a ⟨s.val, by have := s.isLt; omega⟩) := by
  unfold outsAt0
  frame_out
  open_payloads
  pointwise
  unfold Cert.Adam.newM
  unfold b3 b4 b5 b6 b7 b8 b9 b10 b1
  rfl

theorem final13 (c : Dev nD) : (dats m 0 c).arrAt 13 cfg0.N = G13 (m ((c : Thread nD τ).loc main_arg0)) (m ((c : Thread nD τ).loc main_arg1)) (m ((c : Thread nD τ).loc main_arg2)) (m ((c : Thread nD τ).loc main_arg3)) (m ((c : Thread nD τ).loc main_arg6)) := by
  refine (dats m 0 c).arrAt_eq_of_coversWhere_of_agree 13 _ (fun β => β (0 : Fin _) < 2) (by decide +kernel) (fun t hf y => ?_) (fun j hj => ?_)
  · blk_simp
    rw [after0_13]
    obtain ⟨a, s, rfl⟩ : ∃ (a : Fin 256) (s : Fin 512), y = (ix2 a s : S256x512.Idx) := ⟨y 0, y 1, (ix2_eta y).symm⟩
    refine (o13 m c t a s).trans (Eq.trans ?_ (rd13 t a s (G13 (m ((c : Thread nD τ).loc main_arg0)) (m ((c : Thread nD τ).loc main_arg1)) (m ((c : Thread nD τ).loc main_arg2)) (m ((c : Thread nD τ).loc main_arg3)) (m ((c : Thread nD τ).loc main_arg6)))).symm)
    have ha : 256 * t.val + a.val < 512 := by have hN : t.val < 2 := lt_of_lt_of_eq t.isLt N_0; have := a.isLt; omega
    have hs : s.val < 512 := by have := s.isLt; omega
    refine Eq.trans ?_ (G13_pos _ _ _ _ _ _ _ ha).symm
    have hg := gS_eq (m ((c : Thread nD τ).loc main_arg3)) ⟨256 * t.val + a.val, ha⟩ s hs
    have h3 : b3 m c t a ⟨s.val, hs⟩ = _ := rd3 t a ⟨s.val, hs⟩ (m ((c : Thread nD τ).loc main_arg3))
    have h4 : b4 m c t a ⟨s.val, hs⟩ = _ := rd4 t a ⟨s.val, hs⟩ (m ((c : Thread nD τ).loc main_arg3))
    have h5 : b5 m c t a ⟨s.val, hs⟩ = _ := rd5 t a ⟨s.val, hs⟩ (m ((c : Thread nD τ).loc main_arg3))
    have h6 : b6 m c t a ⟨s.val, hs⟩ = _ := rd6 t a ⟨s.val, hs⟩ (m ((c : Thread nD τ).loc main_arg3))
    have h7 : b7 m c t a ⟨s.val, hs⟩ = _ := rd7 t a ⟨s.val, hs⟩ (m ((c : Thread nD τ).loc main_arg3))
    have h8 : b8 m c t a ⟨s.val, hs⟩ = _ := rd8 t a ⟨s.val, hs⟩ (m ((c : Thread nD τ).loc main_arg3))
    have h9 : b9 m c t a ⟨s.val, hs⟩ = _ := rd9 t a ⟨s.val, hs⟩ (m ((c : Thread nD τ).loc main_arg3))
    have h10 : b10 m c t a ⟨s.val, hs⟩ = _ := rd10 t a ⟨s.val, hs⟩ (m ((c : Thread nD τ).loc main_arg3))
    have h0 : b0 m c t a s = _ := rd0 t a s (m ((c : Thread nD τ).loc main_arg0))
    have h1 : b1 m c t a s = _ := rd1 t a s (m ((c : Thread nD τ).loc main_arg1))
    have h2 : b2 m c t a s = _ := rd2 t a s (m ((c : Thread nD τ).loc main_arg2))
    rw [h1, h3, h4, h5, h6, h7, h8, h9, h10, ← hg]
  · blk_simp [Pipeline.Window.cell_apply] at hj
    have e : G13 (m ((c : Thread nD τ).loc main_arg0)) (m ((c : Thread nD τ).loc main_arg1)) (m ((c : Thread nD τ).loc main_arg2)) (m ((c : Thread nD τ).loc main_arg3)) (m ((c : Thread nD τ).loc main_arg6)) j = (m ((c : Thread nD τ).loc main_arg6)) j := dif_neg (by omega)
    refine Eq.trans ?_ e.symm
    rw [A_eq]
    entry_read
    rfl

theorem o14 (c : Dev nD) (t : Fin cfg0.N) (a : Fin 256) (s : Fin 512) : ((outsAt0 m c t).2.2.2 : Vec Ideal S256x512 .f32) (ix2 a s) = Cert.Adam.newV (b2 m c t a s) (b3 m c t a ⟨s.val, by have := s.isLt; omega⟩ + b4 m c t a ⟨s.val, by have := s.isLt; omega⟩ + b5 m c t a ⟨s.val, by have := s.isLt; omega⟩ + b6 m c t a ⟨s.val, by have := s.isLt; omega⟩ + b7 m c t a ⟨s.val, by have := s.isLt; omega⟩ + b8 m c t a ⟨s.val, by have := s.isLt; omega⟩ + b9 m c t a ⟨s.val, by have := s.isLt; omega⟩ + b10 m c t a ⟨s.val, by have := s.isLt; omega⟩) := by
  unfold outsAt0
  frame_out
  open_payloads
  pointwise
  unfold Cert.Adam.newV
  unfold b3 b4 b5 b6 b7 b8 b9 b10 b2
  rfl

theorem final14 (c : Dev nD) : (dats m 0 c).arrAt 14 cfg0.N = G14 (m ((c : Thread nD τ).loc main_arg0)) (m ((c : Thread nD τ).loc main_arg1)) (m ((c : Thread nD τ).loc main_arg2)) (m ((c : Thread nD τ).loc main_arg3)) (m ((c : Thread nD τ).loc main_arg7)) := by
  refine (dats m 0 c).arrAt_eq_of_coversWhere_of_agree 14 _ (fun β => β (0 : Fin _) < 2) (by decide +kernel) (fun t hf y => ?_) (fun j hj => ?_)
  · blk_simp
    rw [after0_14]
    obtain ⟨a, s, rfl⟩ : ∃ (a : Fin 256) (s : Fin 512), y = (ix2 a s : S256x512.Idx) := ⟨y 0, y 1, (ix2_eta y).symm⟩
    refine (o14 m c t a s).trans (Eq.trans ?_ (rd14 t a s (G14 (m ((c : Thread nD τ).loc main_arg0)) (m ((c : Thread nD τ).loc main_arg1)) (m ((c : Thread nD τ).loc main_arg2)) (m ((c : Thread nD τ).loc main_arg3)) (m ((c : Thread nD τ).loc main_arg7)))).symm)
    have ha : 256 * t.val + a.val < 512 := by have hN : t.val < 2 := lt_of_lt_of_eq t.isLt N_0; have := a.isLt; omega
    have hs : s.val < 512 := by have := s.isLt; omega
    refine Eq.trans ?_ (G14_pos _ _ _ _ _ _ _ ha).symm
    have hg := gS_eq (m ((c : Thread nD τ).loc main_arg3)) ⟨256 * t.val + a.val, ha⟩ s hs
    have h3 : b3 m c t a ⟨s.val, hs⟩ = _ := rd3 t a ⟨s.val, hs⟩ (m ((c : Thread nD τ).loc main_arg3))
    have h4 : b4 m c t a ⟨s.val, hs⟩ = _ := rd4 t a ⟨s.val, hs⟩ (m ((c : Thread nD τ).loc main_arg3))
    have h5 : b5 m c t a ⟨s.val, hs⟩ = _ := rd5 t a ⟨s.val, hs⟩ (m ((c : Thread nD τ).loc main_arg3))
    have h6 : b6 m c t a ⟨s.val, hs⟩ = _ := rd6 t a ⟨s.val, hs⟩ (m ((c : Thread nD τ).loc main_arg3))
    have h7 : b7 m c t a ⟨s.val, hs⟩ = _ := rd7 t a ⟨s.val, hs⟩ (m ((c : Thread nD τ).loc main_arg3))
    have h8 : b8 m c t a ⟨s.val, hs⟩ = _ := rd8 t a ⟨s.val, hs⟩ (m ((c : Thread nD τ).loc main_arg3))
    have h9 : b9 m c t a ⟨s.val, hs⟩ = _ := rd9 t a ⟨s.val, hs⟩ (m ((c : Thread nD τ).loc main_arg3))
    have h10 : b10 m c t a ⟨s.val, hs⟩ = _ := rd10 t a ⟨s.val, hs⟩ (m ((c : Thread nD τ).loc main_arg3))
    have h0 : b0 m c t a s = _ := rd0 t a s (m ((c : Thread nD τ).loc main_arg0))
    have h1 : b1 m c t a s = _ := rd1 t a s (m ((c : Thread nD τ).loc main_arg1))
    have h2 : b2 m c t a s = _ := rd2 t a s (m ((c : Thread nD τ).loc main_arg2))
    rw [h2, h3, h4, h5, h6, h7, h8, h9, h10, ← hg]
  · blk_simp [Pipeline.Window.cell_apply] at hj
    have e : G14 (m ((c : Thread nD τ).loc main_arg0)) (m ((c : Thread nD τ).loc main_arg1)) (m ((c : Thread nD τ).loc main_arg2)) (m ((c : Thread nD τ).loc main_arg3)) (m ((c : Thread nD τ).loc main_arg7)) j = (m ((c : Thread nD τ).loc main_arg7)) j := dif_neg (by omega)
    refine Eq.trans ?_ e.symm
    rw [A_eq]
    entry_read
    rfl

end Cert.AdamKvUpIdeal.Mm

namespace Cert.AdamKvUpReferenceIdeal.Mm

open Cert.AdamKvUpReferenceIdeal Cert.AdamKvUpReferenceIdeal.Gen Idealize.ShloMosaic Idealize.ShloMosaic.TcCoe Idealize.SL.Sem

/-- The gradient, as the reference leaves them. -/
def ref11 (W M U : FVec Ideal S2048x512 .f32) (R : FVec Ideal S8x512x512 .bf16) (p : FVec Ideal S2048x512 .f32) : FVec Ideal S2048x512 .f32 := concatenate S2048x512 0 [⟨S512x512, (Host.reduceAdd (extf .f32 R bitsLt_bf16_f32) (constant S_ .f32 0x00000000#32) reducesTo_S8x512x512_S512x512_d0 h_S_)⟩, ⟨S1536x512, (extractStridedSlice S1536x512 ![512, 0] p slices_S2048x512_S1536x512_512_0)⟩] concatenates_S512x512_S1536x512_S2048x512_d0

theorem ref11_eq (W M U : FVec Ideal S2048x512 .f32) (R : FVec Ideal S8x512x512 .bf16) (p : FVec Ideal S2048x512 .f32) : ref11 W M U R p = Cert.AdamKvUpIdeal.Mm.G11 W M U R p := by
  funext i
  obtain ⟨a, s, rfl⟩ : ∃ (a : Fin 2048) (s : Fin 512), i = (ix2 a s : S2048x512.Idx) := ⟨i 0, i 1, (ix2_eta i).symm⟩
  unfold ref11; pointwise
  by_cases h : a.val < 512
  · rw [dif_pos h]; exact (Cert.AdamKvUpIdeal.Mm.G11_pos W M U R p a s h).symm
  · rw [dif_neg h]
    refine Eq.trans (congrArg p (congrArg (fun z => (ix2 z s : S2048x512.Idx)) (Fin.ext ?_))) (Cert.AdamKvUpIdeal.Mm.G11_neg W M U R p a s h).symm
    show 512 + (a.val - 512) = a.val
    omega

/-- The steps, as the reference leaves them. -/
def ref12 (W M U : FVec Ideal S2048x512 .f32) (R : FVec Ideal S8x512x512 .bf16) (p : FVec Ideal S2048x512 .f32) : FVec Ideal S2048x512 .f32 := concatenate S2048x512 0 [⟨S512x512, (mulf (broadcastInDim S512x512 ![] bcast_S_S512x512 (constant S_ .f32 0xBA83126F#32)) (addf (Host.divf (Host.divf (addf (mulf (broadcastInDim S512x512 ![] bcast_S_S512x512 (constant S_ .f32 0x3F666666#32)) (extractStridedSlice S512x512 ![0, 0] M slices_S2048x512_S512x512_0_0)) (mulf (broadcastInDim S512x512 ![] bcast_S_S512x512 (constant S_ .f32 0x3DCCCCCD#32)) (Host.reduceAdd (extf .f32 R bitsLt_bf16_f32) (constant S_ .f32 0x00000000#32) reducesTo_S8x512x512_S512x512_d0 h_S_))) (broadcastInDim S512x512 ![] bcast_S_S512x512 (constant S_ .f32 0x3F26BD02#32))) (addf (Host.sqrt (Host.divf (addf (mulf (broadcastInDim S512x512 ![] bcast_S_S512x512 (constant S_ .f32 0x3F7FBE77#32)) (extractStridedSlice S512x512 ![0, 0] U slices_S2048x512_S512x512_0_0)) (mulf (broadcastInDim S512x512 ![] bcast_S_S512x512 (constant S_ .f32 0x3A83126F#32)) (mulf (Host.reduceAdd (extf .f32 R bitsLt_bf16_f32) (constant S_ .f32 0x00000000#32) reducesTo_S8x512x512_S512x512_d0 h_S_) (Host.reduceAdd (extf .f32 R bitsLt_bf16_f32) (constant S_ .f32 0x00000000#32) reducesTo_S8x512x512_S512x512_d0 h_S_)))) (broadcastInDim S512x512 ![] bcast_S_S512x512 (constant S_ .f32 0x3C231ACC#32)))) (broadcastInDim S512x512 ![] bcast_S_S512x512 (constant S_ .f32 0x322BCC77#32)))) (mulf (broadcastInDim S512x512 ![] bcast_S_S512x512 (constant S_ .f32 0x3C23D70A#32)) (extractStridedSlice S512x512 ![0, 0] W slices_S2048x512_S512x512_0_0))))⟩, ⟨S1536x512, (extractStridedSlice S1536x512 ![512, 0] p slices_S2048x512_S1536x512_512_0)⟩] concatenates_S512x512_S1536x512_S2048x512_d0

theorem ref12_eq (W M U : FVec Ideal S2048x512 .f32) (R : FVec Ideal S8x512x512 .bf16) (p : FVec Ideal S2048x512 .f32) : ref12 W M U R p = Cert.AdamKvUpIdeal.Mm.G12 W M U R p := by
  funext i
  obtain ⟨a, s, rfl⟩ : ∃ (a : Fin 2048) (s : Fin 512), i = (ix2 a s : S2048x512.Idx) := ⟨i 0, i 1, (ix2_eta i).symm⟩
  unfold ref12; pointwise
  by_cases h : a.val < 512
  · rw [dif_pos h]; exact (Cert.AdamKvUpIdeal.Mm.G12_pos W M U R p a s h).symm
  · rw [dif_neg h]
    refine Eq.trans (congrArg p (congrArg (fun z => (ix2 z s : S2048x512.Idx)) (Fin.ext ?_))) (Cert.AdamKvUpIdeal.Mm.G12_neg W M U R p a s h).symm
    show 512 + (a.val - 512) = a.val
    omega

/-- The new running means, as the reference leaves them. -/
def ref13 (W M U : FVec Ideal S2048x512 .f32) (R : FVec Ideal S8x512x512 .bf16) (p : FVec Ideal S2048x512 .f32) : FVec Ideal S2048x512 .f32 := concatenate S2048x512 0 [⟨S512x512, (addf (mulf (broadcastInDim S512x512 ![] bcast_S_S512x512 (constant S_ .f32 0x3F666666#32)) (extractStridedSlice S512x512 ![0, 0] M slices_S2048x512_S512x512_0_0)) (mulf (broadcastInDim S512x512 ![] bcast_S_S512x512 (constant S_ .f32 0x3DCCCCCD#32)) (Host.reduceAdd (extf .f32 R bitsLt_bf16_f32) (constant S_ .f32 0x00000000#32) reducesTo_S8x512x512_S512x512_d0 h_S_)))⟩, ⟨S1536x512, (extractStridedSlice S1536x512 ![512, 0] p slices_S2048x512_S1536x512_512_0)⟩] concatenates_S512x512_S1536x512_S2048x512_d0

theorem ref13_eq (W M U : FVec Ideal S2048x512 .f32) (R : FVec Ideal S8x512x512 .bf16) (p : FVec Ideal S2048x512 .f32) : ref13 W M U R p = Cert.AdamKvUpIdeal.Mm.G13 W M U R p := by
  funext i
  obtain ⟨a, s, rfl⟩ : ∃ (a : Fin 2048) (s : Fin 512), i = (ix2 a s : S2048x512.Idx) := ⟨i 0, i 1, (ix2_eta i).symm⟩
  unfold ref13; pointwise
  by_cases h : a.val < 512
  · rw [dif_pos h]; exact (Cert.AdamKvUpIdeal.Mm.G13_pos W M U R p a s h).symm
  · rw [dif_neg h]
    refine Eq.trans (congrArg p (congrArg (fun z => (ix2 z s : S2048x512.Idx)) (Fin.ext ?_))) (Cert.AdamKvUpIdeal.Mm.G13_neg W M U R p a s h).symm
    show 512 + (a.val - 512) = a.val
    omega

/-- The new running means of squares, as the reference leaves them. -/
def ref14 (W M U : FVec Ideal S2048x512 .f32) (R : FVec Ideal S8x512x512 .bf16) (p : FVec Ideal S2048x512 .f32) : FVec Ideal S2048x512 .f32 := concatenate S2048x512 0 [⟨S512x512, (addf (mulf (broadcastInDim S512x512 ![] bcast_S_S512x512 (constant S_ .f32 0x3F7FBE77#32)) (extractStridedSlice S512x512 ![0, 0] U slices_S2048x512_S512x512_0_0)) (mulf (broadcastInDim S512x512 ![] bcast_S_S512x512 (constant S_ .f32 0x3A83126F#32)) (mulf (Host.reduceAdd (extf .f32 R bitsLt_bf16_f32) (constant S_ .f32 0x00000000#32) reducesTo_S8x512x512_S512x512_d0 h_S_) (Host.reduceAdd (extf .f32 R bitsLt_bf16_f32) (constant S_ .f32 0x00000000#32) reducesTo_S8x512x512_S512x512_d0 h_S_))))⟩, ⟨S1536x512, (extractStridedSlice S1536x512 ![512, 0] p slices_S2048x512_S1536x512_512_0)⟩] concatenates_S512x512_S1536x512_S2048x512_d0

theorem ref14_eq (W M U : FVec Ideal S2048x512 .f32) (R : FVec Ideal S8x512x512 .bf16) (p : FVec Ideal S2048x512 .f32) : ref14 W M U R p = Cert.AdamKvUpIdeal.Mm.G14 W M U R p := by
  funext i
  obtain ⟨a, s, rfl⟩ : ∃ (a : Fin 2048) (s : Fin 512), i = (ix2 a s : S2048x512.Idx) := ⟨i 0, i 1, (ix2_eta i).symm⟩
  unfold ref14; pointwise
  by_cases h : a.val < 512
  · rw [dif_pos h]; exact (Cert.AdamKvUpIdeal.Mm.G14_pos W M U R p a s h).symm
  · rw [dif_neg h]
    refine Eq.trans (congrArg p (congrArg (fun z => (ix2 z s : S2048x512.Idx)) (Fin.ext ?_))) (Cert.AdamKvUpIdeal.Mm.G14_neg W M U R p a s h).symm
    show 512 + (a.val - 512) = a.val
    omega

end Cert.AdamKvUpReferenceIdeal.Mm
end
-- ==== Proof.ClAdamKvUp.lean ====
/- The claims about the optimiser's call `AdamKvUp`. -/
module

public import proofs.«01_k».proof.Proof.MmAdamKvUp
public import proofs.«01_k».proof.Proof.Gen.AdamKvUp.Frame
public import proofs.«01_k».proof.Defs
public import Idealize.ShloMosaic.Init
public import Idealize.ShloMosaic.Adequacy

@[expose] public section

set_option maxRecDepth 16384

noncomputable section

namespace Cert.Proof.AdamKvUp

open Idealize.ShloMosaic Idealize.SL.Sem Idealize.ShloMosaic.TcCoe

theorem frame_kernel : Cert.quiescent_AdamKvUp := fun m ρ _ => Cert.AdamKvUp.Gen.frame m ρ

theorem frame_ideal : Cert.quiescent_AdamKvUpIdeal := fun m ρ _ => Cert.AdamKvUpIdeal.Gen.frame m ρ

theorem frame_reference : Cert.quiescent_AdamKvUpReferenceIdeal := fun m ρ _ =>
  (θ_run Cert.AdamKvUpReferenceIdeal.defs _ _).mono (fun r h => ⟨fun c => (h c).2.2.2.2, Idealize.ShloMosaic.sem_eq_zero_of_no_sems (by decide) r.2⟩)
    (Cert.AdamKvUpReferenceIdeal.Value.run m ρ)

theorem algebraic : Cert.algebraic_AdamKvUpIdeal_AdamKvUpReferenceIdeal := by
  intro m g m' g' _ hag
  refine ⟨fun c => (Cert.AdamKvUpIdeal.Gen.dats m 0 c).arrAt 11 Cert.AdamKvUpIdeal.cfg0.N, fun c => (Cert.AdamKvUpIdeal.Gen.dats m 0 c).arrAt 12 Cert.AdamKvUpIdeal.cfg0.N, fun c => (Cert.AdamKvUpIdeal.Gen.dats m 0 c).arrAt 13 Cert.AdamKvUpIdeal.cfg0.N, fun c => (Cert.AdamKvUpIdeal.Gen.dats m 0 c).arrAt 14 Cert.AdamKvUpIdeal.cfg0.N, Cert.AdamKvUpIdeal.Value.run_blocks m g, ?_⟩
  refine (θ_run Cert.AdamKvUpReferenceIdeal.defs _ _).mono (fun r h c => ?_) (Cert.AdamKvUpReferenceIdeal.Value.run m' g')
  obtain ⟨r0, r1, r2, r3, ra⟩ := h c
  obtain ⟨a0, a1, a2, a3, a4, a5, a6, a7⟩ := hag c
  refine ⟨r0.trans ((Cert.AdamKvUpReferenceIdeal.Mm.ref11_eq (m' ((c : Thread Cert.AdamKvUpReferenceIdeal.nD Cert.AdamKvUpReferenceIdeal.τ).loc Cert.AdamKvUpReferenceIdeal.main_arg0)) (m' ((c : Thread Cert.AdamKvUpReferenceIdeal.nD Cert.AdamKvUpReferenceIdeal.τ).loc Cert.AdamKvUpReferenceIdeal.main_arg1)) (m' ((c : Thread Cert.AdamKvUpReferenceIdeal.nD Cert.AdamKvUpReferenceIdeal.τ).loc Cert.AdamKvUpReferenceIdeal.main_arg2)) (m' ((c : Thread Cert.AdamKvUpReferenceIdeal.nD Cert.AdamKvUpReferenceIdeal.τ).loc Cert.AdamKvUpReferenceIdeal.main_arg3)) (m' ((c : Thread Cert.AdamKvUpReferenceIdeal.nD Cert.AdamKvUpReferenceIdeal.τ).loc Cert.AdamKvUpReferenceIdeal.main_arg4))).trans ?_), r1.trans ((Cert.AdamKvUpReferenceIdeal.Mm.ref12_eq (m' ((c : Thread Cert.AdamKvUpReferenceIdeal.nD Cert.AdamKvUpReferenceIdeal.τ).loc Cert.AdamKvUpReferenceIdeal.main_arg0)) (m' ((c : Thread Cert.AdamKvUpReferenceIdeal.nD Cert.AdamKvUpReferenceIdeal.τ).loc Cert.AdamKvUpReferenceIdeal.main_arg1)) (m' ((c : Thread Cert.AdamKvUpReferenceIdeal.nD Cert.AdamKvUpReferenceIdeal.τ).loc Cert.AdamKvUpReferenceIdeal.main_arg2)) (m' ((c : Thread Cert.AdamKvUpReferenceIdeal.nD Cert.AdamKvUpReferenceIdeal.τ).loc Cert.AdamKvUpReferenceIdeal.main_arg3)) (m' ((c : Thread Cert.AdamKvUpReferenceIdeal.nD Cert.AdamKvUpReferenceIdeal.τ).loc Cert.AdamKvUpReferenceIdeal.main_arg5))).trans ?_), r2.trans ((Cert.AdamKvUpReferenceIdeal.Mm.ref13_eq (m' ((c : Thread Cert.AdamKvUpReferenceIdeal.nD Cert.AdamKvUpReferenceIdeal.τ).loc Cert.AdamKvUpReferenceIdeal.main_arg0)) (m' ((c : Thread Cert.AdamKvUpReferenceIdeal.nD Cert.AdamKvUpReferenceIdeal.τ).loc Cert.AdamKvUpReferenceIdeal.main_arg1)) (m' ((c : Thread Cert.AdamKvUpReferenceIdeal.nD Cert.AdamKvUpReferenceIdeal.τ).loc Cert.AdamKvUpReferenceIdeal.main_arg2)) (m' ((c : Thread Cert.AdamKvUpReferenceIdeal.nD Cert.AdamKvUpReferenceIdeal.τ).loc Cert.AdamKvUpReferenceIdeal.main_arg3)) (m' ((c : Thread Cert.AdamKvUpReferenceIdeal.nD Cert.AdamKvUpReferenceIdeal.τ).loc Cert.AdamKvUpReferenceIdeal.main_arg6))).trans ?_), r3.trans ((Cert.AdamKvUpReferenceIdeal.Mm.ref14_eq (m' ((c : Thread Cert.AdamKvUpReferenceIdeal.nD Cert.AdamKvUpReferenceIdeal.τ).loc Cert.AdamKvUpReferenceIdeal.main_arg0)) (m' ((c : Thread Cert.AdamKvUpReferenceIdeal.nD Cert.AdamKvUpReferenceIdeal.τ).loc Cert.AdamKvUpReferenceIdeal.main_arg1)) (m' ((c : Thread Cert.AdamKvUpReferenceIdeal.nD Cert.AdamKvUpReferenceIdeal.τ).loc Cert.AdamKvUpReferenceIdeal.main_arg2)) (m' ((c : Thread Cert.AdamKvUpReferenceIdeal.nD Cert.AdamKvUpReferenceIdeal.τ).loc Cert.AdamKvUpReferenceIdeal.main_arg3)) (m' ((c : Thread Cert.AdamKvUpReferenceIdeal.nD Cert.AdamKvUpReferenceIdeal.τ).loc Cert.AdamKvUpReferenceIdeal.main_arg7))).trans ?_), ra⟩
  · rw [a0, a1, a2, a3, a4]; exact (Cert.AdamKvUpIdeal.Mm.final11 m c).symm
  · rw [a0, a1, a2, a3, a5]; exact (Cert.AdamKvUpIdeal.Mm.final12 m c).symm
  · rw [a0, a1, a2, a3, a6]; exact (Cert.AdamKvUpIdeal.Mm.final13 m c).symm
  · rw [a0, a1, a2, a3, a7]; exact (Cert.AdamKvUpIdeal.Mm.final14 m c).symm

end Cert.Proof.AdamKvUp
end
-- ==== Proof.MmAdamOut.lean ====
/- The optimiser's call `AdamOut`: what its tiles leave is the reference's. -/
module

public import proofs.«01_k».proof.Proof.MmAdam
public import proofs.«01_k».proof.Proof.Gen.AdamOutIdeal.Value
public import proofs.«01_k».proof.Proof.Gen.AdamOutReferenceIdeal.Run
public import Idealize.ShloMosaic.Lib.Pipeline.ValueKit
public import Idealize.ShloMosaic.Lib.Pipeline.ValueKit.Partial
public import Idealize.ShloMosaic.Lib.WritesUnit
public import Idealize.ShloMosaic.Lib.Pipeline.ReadBack

@[expose] public section

set_option maxRecDepth 16384

noncomputable section

namespace Cert.AdamOutIdeal.Mm

open Cert.AdamOutIdeal Cert.AdamOutIdeal.Gen Idealize.ShloMosaic Idealize.ShloMosaic.TcCoe Idealize.SL.Sem
open Idealize.ShloMosaic.Pipeline (Dat)

/-- A gradient: the sum of the parts the devices sent. -/
def gS (R : FVec Ideal S8x512x4096 .bf16) (a : Fin 512) (s : Fin 4096) : EReal := ∑ p : Fin 8, R (ix3 p a ⟨s.val, by have := s.isLt; omega⟩)

theorem gS_eq (R : FVec Ideal S8x512x4096 .bf16) (a : Fin 512) (s : Fin 4096) (h : s.val < 4096) : gS R a s =
    R (ix3 0 a ⟨s.val, h⟩) + R (ix3 1 a ⟨s.val, h⟩) + R (ix3 2 a ⟨s.val, h⟩) + R (ix3 3 a ⟨s.val, h⟩) + R (ix3 4 a ⟨s.val, h⟩) + R (ix3 5 a ⟨s.val, h⟩) + R (ix3 6 a ⟨s.val, h⟩) + R (ix3 7 a ⟨s.val, h⟩) := by
  unfold gS
  rw [Fin.sum_univ_eight]

/-- The gradient of this layer's rows, before the other layers' rows. -/
def G11 (W M U : FVec Ideal S2048x4096 .f32) (R : FVec Ideal S8x512x4096 .bf16) (p : FVec Ideal S2048x4096 .f32) : FVec Ideal S2048x4096 .f32 := fun i =>
  if h : (i 0).val < 512 then (gS R ⟨(i 0).val, h⟩ (i 1)) else p i

theorem G11_pos (W M U : FVec Ideal S2048x4096 .f32) (R : FVec Ideal S8x512x4096 .bf16) (p : FVec Ideal S2048x4096 .f32) (a : Fin 2048) (s : Fin 4096) (h : a.val < 512) :
    G11 W M U R p (ix2 a s) = (gS R ⟨a.val, h⟩ s) := dif_pos (c := ((ix2 a s : S2048x4096.Idx) 0).val < 512) h

theorem G11_neg (W M U : FVec Ideal S2048x4096 .f32) (R : FVec Ideal S8x512x4096 .bf16) (p : FVec Ideal S2048x4096 .f32) (a : Fin 2048) (s : Fin 4096) (h : ¬a.val < 512) :
    G11 W M U R p (ix2 a s) = p (ix2 a s) := dif_neg (c := ((ix2 a s : S2048x4096.Idx) 0).val < 512) h

/-- The steps of this layer's rows, before the other layers' rows. -/
def G12 (W M U : FVec Ideal S2048x4096 .f32) (R : FVec Ideal S8x512x4096 .bf16) (p : FVec Ideal S2048x4096 .f32) : FVec Ideal S2048x4096 .f32 := fun i =>
  if h : (i 0).val < 512 then Cert.Adam.delta (W i) (M i) (U i) (gS R ⟨(i 0).val, h⟩ (i 1)) else p i

theorem G12_pos (W M U : FVec Ideal S2048x4096 .f32) (R : FVec Ideal S8x512x4096 .bf16) (p : FVec Ideal S2048x4096 .f32) (a : Fin 2048) (s : Fin 4096) (h : a.val < 512) :
    G12 W M U R p (ix2 a s) = Cert.Adam.delta (W (ix2 a s)) (M (ix2 a s)) (U (ix2 a s)) (gS R ⟨a.val, h⟩ s) := dif_pos (c := ((ix2 a s : S2048x4096.Idx) 0).val < 512) h

theorem G12_neg (W M U : FVec Ideal S2048x4096 .f32) (R : FVec Ideal S8x512x4096 .bf16) (p : FVec Ideal S2048x4096 .f32) (a : Fin 2048) (s : Fin 4096) (h : ¬a.val < 512) :
    G12 W M U R p (ix2 a s) = p (ix2 a s) := dif_neg (c := ((ix2 a s : S2048x4096.Idx) 0).val < 512) h

/-- The new running means of this layer's rows, before the other layers' rows. -/
def G13 (W M U : FVec Ideal S2048x4096 .f32) (R : FVec Ideal S8x512x4096 .bf16) (p : FVec Ideal S2048x4096 .f32) : FVec Ideal S2048x4096 .f32 := fun i =>
  if h : (i 0).val < 512 then Cert.Adam.newM (M i) (gS R ⟨(i 0).val, h⟩ (i 1)) else p i

theorem G13_pos (W M U : FVec Ideal S2048x4096 .f32) (R : FVec Ideal S8x512x4096 .bf16) (p : FVec Ideal S2048x4096 .f32) (a : Fin 2048) (s : Fin 4096) (h : a.val < 512) :
    G13 W M U R p (ix2 a s) = Cert.Adam.newM (M (ix2 a s)) (gS R ⟨a.val, h⟩ s) := dif_pos (c := ((ix2 a s : S2048x4096.Idx) 0).val < 512) h

theorem G13_neg (W M U : FVec Ideal S2048x4096 .f32) (R : FVec Ideal S8x512x4096 .bf16) (p : FVec Ideal S2048x4096 .f32) (a : Fin 2048) (s : Fin 4096) (h : ¬a.val < 512) :
    G13 W M U R p (ix2 a s) = p (ix2 a s) := dif_neg (c := ((ix2 a s : S2048x4096.Idx) 0).val < 512) h

/-- The new running means of squares of this layer's rows, before the other layers' rows. -/
def G14 (W M U : FVec Ideal S2048x4096 .f32) (R : FVec Ideal S8x512x4096 .bf16) (p : FVec Ideal S2048x4096 .f32) : FVec Ideal S2048x4096 .f32 := fun i =>
  if h : (i 0).val < 512 then Cert.Adam.newV (U i) (gS R ⟨(i 0).val, h⟩ (i 1)) else p i

theorem G14_pos (W M U : FVec Ideal S2048x4096 .f32) (R : FVec Ideal S8x512x4096 .bf16) (p : FVec Ideal S2048x4096 .f32) (a : Fin 2048) (s : Fin 4096) (h : a.val < 512) :
    G14 W M U R p (ix2 a s) = Cert.Adam.newV (U (ix2 a s)) (gS R ⟨a.val, h⟩ s) := dif_pos (c := ((ix2 a s : S2048x4096.Idx) 0).val < 512) h

theorem G14_neg (W M U : FVec Ideal S2048x4096 .f32) (R : FVec Ideal S8x512x4096 .bf16) (p : FVec Ideal S2048x4096 .f32) (a : Fin 2048) (s : Fin 4096) (h : ¬a.val < 512) :
    G14 W M U R p (ix2 a s) = p (ix2 a s) := dif_neg (c := ((ix2 a s : S2048x4096.Idx) 0).val < 512) h

theorem idx : ∀ t : Fin cfg0.N, win0_0.index t = ![t.val, 0] ∧ win0_1.index t = ![t.val, 0] ∧ win0_2.index t = ![t.val, 0] ∧ win0_3.index t = ![0, t.val, 0] ∧ win0_4.index t = ![1, t.val, 0] ∧ win0_5.index t = ![2, t.val, 0] ∧ win0_6.index t = ![3, t.val, 0] ∧ win0_7.index t = ![4, t.val, 0] ∧ win0_8.index t = ![5, t.val, 0] ∧ win0_9.index t = ![6, t.val, 0] ∧ win0_10.index t = ![7, t.val, 0] ∧ win0_11.index t = ![t.val, 0] ∧ win0_12.index t = ![t.val, 0] ∧ win0_13.index t = ![t.val, 0] ∧ win0_14.index t = ![t.val, 0] :=
  (by decide +kernel : ∀ t : Fin grid0.N, _)

theorem rd0 (t : Fin cfg0.N) (a : Fin 32) (s : Fin 4096) (X : FVec Ideal S2048x4096 .f32) :
    (((cfg0.win 0).blk t).view.read (Elt Ideal) (X : ((cfg0.win 0).blk t).view.ty.Contents (Elt Ideal)) : Vec Ideal S32x4096 .f32) (ix2 a s) = X (ix2 ⟨32 * t.val + a.val, by have hN : t.val < 16 := lt_of_lt_of_eq t.isLt N_0; have := a.isLt; omega⟩ s) := by
  blk_simp
  blk_ext [idx t]

theorem rd1 (t : Fin cfg0.N) (a : Fin 32) (s : Fin 4096) (X : FVec Ideal S2048x4096 .f32) :
    (((cfg0.win 1).blk t).view.read (Elt Ideal) (X : ((cfg0.win 1).blk t).view.ty.Contents (Elt Ideal)) : Vec Ideal S32x4096 .f32) (ix2 a s) = X (ix2 ⟨32 * t.val + a.val, by have hN : t.val < 16 := lt_of_lt_of_eq t.isLt N_0; have := a.isLt; omega⟩ s) := by
  blk_simp
  blk_ext [idx t]

theorem rd2 (t : Fin cfg0.N) (a : Fin 32) (s : Fin 4096) (X : FVec Ideal S2048x4096 .f32) :
    (((cfg0.win 2).blk t).view.read (Elt Ideal) (X : ((cfg0.win 2).blk t).view.ty.Contents (Elt Ideal)) : Vec Ideal S32x4096 .f32) (ix2 a s) = X (ix2 ⟨32 * t.val + a.val, by have hN : t.val < 16 := lt_of_lt_of_eq t.isLt N_0; have := a.isLt; omega⟩ s) := by
  blk_simp
  blk_ext [idx t]

theorem rd11 (t : Fin cfg0.N) (a : Fin 32) (s : Fin 4096) (X : FVec Ideal S2048x4096 .f32) :
    (((cfg0.win 11).blk t).view.read (Elt Ideal) (X : ((cfg0.win 11).blk t).view.ty.Contents (Elt Ideal)) : Vec Ideal S32x4096 .f32) (ix2 a s) = X (ix2 ⟨32 * t.val + a.val, by have hN : t.val < 16 := lt_of_lt_of_eq t.isLt N_0; have := a.isLt; omega⟩ s) := by
  blk_simp
  blk_ext [idx t]

theorem rd12 (t : Fin cfg0.N) (a : Fin 32) (s : Fin 4096) (X : FVec Ideal S2048x4096 .f32) :
    (((cfg0.win 12).blk t).view.read (Elt Ideal) (X : ((cfg0.win 12).blk t).view.ty.Contents (Elt Ideal)) : Vec Ideal S32x4096 .f32) (ix2 a s) = X (ix2 ⟨32 * t.val + a.val, by have hN : t.val < 16 := lt_of_lt_of_eq t.isLt N_0; have := a.isLt; omega⟩ s) := by
  blk_simp
  blk_ext [idx t]

theorem rd13 (t : Fin cfg0.N) (a : Fin 32) (s : Fin 4096) (X : FVec Ideal S2048x4096 .f32) :
    (((cfg0.win 13).blk t).view.read (Elt Ideal) (X : ((cfg0.win 13).blk t).view.ty.Contents (Elt Ideal)) : Vec Ideal S32x4096 .f32) (ix2 a s) = X (ix2 ⟨32 * t.val + a.val, by have hN : t.val < 16 := lt_of_lt_of_eq t.isLt N_0; have := a.isLt; omega⟩ s) := by
  blk_simp
  blk_ext [idx t]

theorem rd14 (t : Fin cfg0.N) (a : Fin 32) (s : Fin 4096) (X : FVec Ideal S2048x4096 .f32) :
    (((cfg0.win 14).blk t).view.read (Elt Ideal) (X : ((cfg0.win 14).blk t).view.ty.Contents (Elt Ideal)) : Vec Ideal S32x4096 .f32) (ix2 a s) = X (ix2 ⟨32 * t.val + a.val, by have hN : t.val < 16 := lt_of_lt_of_eq t.isLt N_0; have := a.isLt; omega⟩ s) := by
  blk_simp
  blk_ext [idx t]

theorem rd3 (t : Fin cfg0.N) (a : Fin 32) (s : Fin 4096) (X : FVec Ideal S8x512x4096 .bf16) :
    (((cfg0.win 3).blk t).view.read (Elt Ideal) (X : ((cfg0.win 3).blk t).view.ty.Contents (Elt Ideal)) : Vec Ideal S1x32x4096 .bf16) (ix3 0 a s) = X (ix3 0 ⟨32 * t.val + a.val, by have hN : t.val < 16 := lt_of_lt_of_eq t.isLt N_0; have := a.isLt; omega⟩ s) := by
  blk_simp
  blk_ext [idx t]

theorem rd4 (t : Fin cfg0.N) (a : Fin 32) (s : Fin 4096) (X : FVec Ideal S8x512x4096 .bf16) :
    (((cfg0.win 4).blk t).view.read (Elt Ideal) (X : ((cfg0.win 4).blk t).view.ty.Contents (Elt Ideal)) : Vec Ideal S1x32x4096 .bf16) (ix3 0 a s) = X (ix3 1 ⟨32 * t.val + a.val, by have hN : t.val < 16 := lt_of_lt_of_eq t.isLt N_0; have := a.isLt; omega⟩ s) := by
  blk_simp
  blk_ext [idx t]

theorem rd5 (t : Fin cfg0.N) (a : Fin 32) (s : Fin 4096) (X : FVec Ideal S8x512x4096 .bf16) :
    (((cfg0.win 5).blk t).view.read (Elt Ideal) (X : ((cfg0.win 5).blk t).view.ty.Contents (Elt Ideal)) : Vec Ideal S1x32x4096 .bf16) (ix3 0 a s) = X (ix3 2 ⟨32 * t.val + a.val, by have hN : t.val < 16 := lt_of_lt_of_eq t.isLt N_0; have := a.isLt; omega⟩ s) := by
  blk_simp
  blk_ext [idx t]

theorem rd6 (t : Fin cfg0.N) (a : Fin 32) (s : Fin 4096) (X : FVec Ideal S8x512x4096 .bf16) :
    (((cfg0.win 6).blk t).view.read (Elt Ideal) (X : ((cfg0.win 6).blk t).view.ty.Contents (Elt Ideal)) : Vec Ideal S1x32x4096 .bf16) (ix3 0 a s) = X (ix3 3 ⟨32 * t.val + a.val, by have hN : t.val < 16 := lt_of_lt_of_eq t.isLt N_0; have := a.isLt; omega⟩ s) := by
  blk_simp
  blk_ext [idx t]

theorem rd7 (t : Fin cfg0.N) (a : Fin 32) (s : Fin 4096) (X : FVec Ideal S8x512x4096 .bf16) :
    (((cfg0.win 7).blk t).view.read (Elt Ideal) (X : ((cfg0.win 7).blk t).view.ty.Contents (Elt Ideal)) : Vec Ideal S1x32x4096 .bf16) (ix3 0 a s) = X (ix3 4 ⟨32 * t.val + a.val, by have hN : t.val < 16 := lt_of_lt_of_eq t.isLt N_0; have := a.isLt; omega⟩ s) := by
  blk_simp
  blk_ext [idx t]

theorem rd8 (t : Fin cfg0.N) (a : Fin 32) (s : Fin 4096) (X : FVec Ideal S8x512x4096 .bf16) :
    (((cfg0.win 8).blk t).view.read (Elt Ideal) (X : ((cfg0.win 8).blk t).view.ty.Contents (Elt Ideal)) : Vec Ideal S1x32x4096 .bf16) (ix3 0 a s) = X (ix3 5 ⟨32 * t.val + a.val, by have hN : t.val < 16 := lt_of_lt_of_eq t.isLt N_0; have := a.isLt; omega⟩ s) := by
  blk_simp
  blk_ext [idx t]

theorem rd9 (t : Fin cfg0.N) (a : Fin 32) (s : Fin 4096) (X : FVec Ideal S8x512x4096 .bf16) :
    (((cfg0.win 9).blk t).view.read (Elt Ideal) (X : ((cfg0.win 9).blk t).view.ty.Contents (Elt Ideal)) : Vec Ideal S1x32x4096 .bf16) (ix3 0 a s) = X (ix3 6 ⟨32 * t.val + a.val, by have hN : t.val < 16 := lt_of_lt_of_eq t.isLt N_0; have := a.isLt; omega⟩ s) := by
  blk_simp
  blk_ext [idx t]

theorem rd10 (t : Fin cfg0.N) (a : Fin 32) (s : Fin 4096) (X : FVec Ideal S8x512x4096 .bf16) :
    (((cfg0.win 10).blk t).view.read (Elt Ideal) (X : ((cfg0.win 10).blk t).view.ty.Contents (Elt Ideal)) : Vec Ideal S1x32x4096 .bf16) (ix3 0 a s) = X (ix3 7 ⟨32 * t.val + a.val, by have hN : t.val < 16 := lt_of_lt_of_eq t.isLt N_0; have := a.isLt; omega⟩ s) := by
  blk_simp
  blk_ext [idx t]

variable (m : (ℓ : Loc nD τ sig) → Buf (Elt Ideal) ℓ)

/-- An entry of block 0. -/
def b0 (c : Dev nD) (t : Fin cfg0.N) (a : Fin 32) (s : Fin 4096) : EReal := (iblk m c 0 t : Vec Ideal S32x4096 .f32) (ix2 a s)

/-- An entry of block 1. -/
def b1 (c : Dev nD) (t : Fin cfg0.N) (a : Fin 32) (s : Fin 4096) : EReal := (iblk m c 1 t : Vec Ideal S32x4096 .f32) (ix2 a s)

/-- An entry of block 2. -/
def b2 (c : Dev nD) (t : Fin cfg0.N) (a : Fin 32) (s : Fin 4096) : EReal := (iblk m c 2 t : Vec Ideal S32x4096 .f32) (ix2 a s)

/-- An entry of block 3. -/
def b3 (c : Dev nD) (t : Fin cfg0.N) (a : Fin 32) (s : Fin 4096) : EReal := (iblk m c 3 t : Vec Ideal S1x32x4096 .bf16) (ix3 0 a s)

/-- An entry of block 4. -/
def b4 (c : Dev nD) (t : Fin cfg0.N) (a : Fin 32) (s : Fin 4096) : EReal := (iblk m c 4 t : Vec Ideal S1x32x4096 .bf16) (ix3 0 a s)

/-- An entry of block 5. -/
def b5 (c : Dev nD) (t : Fin cfg0.N) (a : Fin 32) (s : Fin 4096) : EReal := (iblk m c 5 t : Vec Ideal S1x32x4096 .bf16) (ix3 0 a s)

/-- An entry of block 6. -/
def b6 (c : Dev nD) (t : Fin cfg0.N) (a : Fin 32) (s : Fin 4096) : EReal := (iblk m c 6 t : Vec Ideal S1x32x4096 .bf16) (ix3 0 a s)

/-- An entry of block 7. -/
def b7 (c : Dev nD) (t : Fin cfg0.N) (a : Fin 32) (s : Fin 4096) : EReal := (iblk m c 7 t : Vec Ideal S1x32x4096 .bf16) (ix3 0 a s)

/-- An entry of block 8. -/
def b8 (c : Dev nD) (t : Fin cfg0.N) (a : Fin 32) (s : Fin 4096) : EReal := (iblk m c 8 t : Vec Ideal S1x32x4096 .bf16) (ix3 0 a s)

/-- An entry of block 9. -/
def b9 (c : Dev nD) (t : Fin cfg0.N) (a : Fin 32) (s : Fin 4096) : EReal := (iblk m c 9 t : Vec Ideal S1x32x4096 .bf16) (ix3 0 a s)

/-- An entry of block 10. -/
def b10 (c : Dev nD) (t : Fin cfg0.N) (a : Fin 32) (s : Fin 4096) : EReal := (iblk m c 10 t : Vec Ideal S1x32x4096 .bf16) (ix3 0 a s)

theorem o11 (c : Dev nD) (t : Fin cfg0.N) (a : Fin 32) (s : Fin 4096) : ((outsAt0 m c t).1 : Vec Ideal S32x4096 .f32) (ix2 a s) = (b3 m c t a ⟨s.val, by have := s.isLt; omega⟩ + b4 m c t a ⟨s.val, by have := s.isLt; omega⟩ + b5 m c t a ⟨s.val, by have := s.isLt; omega⟩ + b6 m c t a ⟨s.val, by have := s.isLt; omega⟩ + b7 m c t a ⟨s.val, by have := s.isLt; omega⟩ + b8 m c t a ⟨s.val, by have := s.isLt; omega⟩ + b9 m c t a ⟨s.val, by have := s.isLt; omega⟩ + b10 m c t a ⟨s.val, by have := s.isLt; omega⟩) := by
  unfold outsAt0
  frame_out
  open_payloads
  pointwise

  unfold b3 b4 b5 b6 b7 b8 b9 b10
  rfl

theorem final11 (c : Dev nD) : (dats m 0 c).arrAt 11 cfg0.N = G11 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_coversWhere_of_agree 11 _ (fun β => β (0 : Fin _) < 16) (by decide +kernel) (fun t hf y => ?_) (fun j hj => ?_)
  · blk_simp
    rw [after0_11]
    obtain ⟨a, s, rfl⟩ : ∃ (a : Fin 32) (s : Fin 4096), y = (ix2 a s : S32x4096.Idx) := ⟨y 0, y 1, (ix2_eta y).symm⟩
    refine (o11 m c t a s).trans (Eq.trans ?_ (rd11 t a s (G11 (m ((c : Thread nD τ).loc main_arg0)) (m ((c : Thread nD τ).loc main_arg1)) (m ((c : Thread nD τ).loc main_arg2)) (m ((c : Thread nD τ).loc main_arg3)) (m ((c : Thread nD τ).loc main_arg4)))).symm)
    have ha : 32 * t.val + a.val < 512 := by have hN : t.val < 16 := lt_of_lt_of_eq t.isLt N_0; have := a.isLt; omega
    have hs : s.val < 4096 := by have := s.isLt; omega
    refine Eq.trans ?_ (G11_pos _ _ _ _ _ _ _ ha).symm
    have hg := gS_eq (m ((c : Thread nD τ).loc main_arg3)) ⟨32 * t.val + a.val, ha⟩ s hs
    have h3 : b3 m c t a ⟨s.val, hs⟩ = _ := rd3 t a ⟨s.val, hs⟩ (m ((c : Thread nD τ).loc main_arg3))
    have h4 : b4 m c t a ⟨s.val, hs⟩ = _ := rd4 t a ⟨s.val, hs⟩ (m ((c : Thread nD τ).loc main_arg3))
    have h5 : b5 m c t a ⟨s.val, hs⟩ = _ := rd5 t a ⟨s.val, hs⟩ (m ((c : Thread nD τ).loc main_arg3))
    have h6 : b6 m c t a ⟨s.val, hs⟩ = _ := rd6 t a ⟨s.val, hs⟩ (m ((c : Thread nD τ).loc main_arg3))
    have h7 : b7 m c t a ⟨s.val, hs⟩ = _ := rd7 t a ⟨s.val, hs⟩ (m ((c : Thread nD τ).loc main_arg3))
    have h8 : b8 m c t a ⟨s.val, hs⟩ = _ := rd8 t a ⟨s.val, hs⟩ (m ((c : Thread nD τ).loc main_arg3))
    have h9 : b9 m c t a ⟨s.val, hs⟩ = _ := rd9 t a ⟨s.val, hs⟩ (m ((c : Thread nD τ).loc main_arg3))
    have h10 : b10 m c t a ⟨s.val, hs⟩ = _ := rd10 t a ⟨s.val, hs⟩ (m ((c : Thread nD τ).loc main_arg3))
    have h0 : b0 m c t a s = _ := rd0 t a s (m ((c : Thread nD τ).loc main_arg0))
    have h1 : b1 m c t a s = _ := rd1 t a s (m ((c : Thread nD τ).loc main_arg1))
    have h2 : b2 m c t a s = _ := rd2 t a s (m ((c : Thread nD τ).loc main_arg2))
    rw [h3, h4, h5, h6, h7, h8, h9, h10, ← hg]
  · blk_simp [Pipeline.Window.cell_apply] at hj
    have e : G11 (m ((c : Thread nD τ).loc main_arg0)) (m ((c : Thread nD τ).loc main_arg1)) (m ((c : Thread nD τ).loc main_arg2)) (m ((c : Thread nD τ).loc main_arg3)) (m ((c : Thread nD τ).loc main_arg4)) j = (m ((c : Thread nD τ).loc main_arg4)) j := dif_neg (by omega)
    refine Eq.trans ?_ e.symm
    rw [A_eq]
    entry_read
    rfl

theorem o12 (c : Dev nD) (t : Fin cfg0.N) (a : Fin 32) (s : Fin 4096) : ((outsAt0 m c t).2.1 : Vec Ideal S32x4096 .f32) (ix2 a s) = Cert.Adam.delta (b0 m c t a s) (b1 m c t a s) (b2 m c t a s) (b3 m c t a ⟨s.val, by have := s.isLt; omega⟩ + b4 m c t a ⟨s.val, by have := s.isLt; omega⟩ + b5 m c t a ⟨s.val, by have := s.isLt; omega⟩ + b6 m c t a ⟨s.val, by have := s.isLt; omega⟩ + b7 m c t a ⟨s.val, by have := s.isLt; omega⟩ + b8 m c t a ⟨s.val, by have := s.isLt; omega⟩ + b9 m c t a ⟨s.val, by have := s.isLt; omega⟩ + b10 m c t a ⟨s.val, by have := s.isLt; omega⟩) := by
  unfold outsAt0
  frame_out
  open_payloads
  pointwise
  unfold Cert.Adam.delta Cert.Adam.newM Cert.Adam.newV
  unfold b3 b4 b5 b6 b7 b8 b9 b10 b0 b1 b2
  rfl

theorem final12 (c : Dev nD) : (dats m 0 c).arrAt 12 cfg0.N = G12 (m ((c : Thread nD τ).loc main_arg0)) (m ((c : Thread nD τ).loc main_arg1)) (m ((c : Thread nD τ).loc main_arg2)) (m ((c : Thread nD τ).loc main_arg3)) (m ((c : Thread nD τ).loc main_arg5)) := by
  refine (dats m 0 c).arrAt_eq_of_coversWhere_of_agree 12 _ (fun β => β (0 : Fin _) < 16) (by decide +kernel) (fun t hf y => ?_) (fun j hj => ?_)
  · blk_simp
    rw [after0_12]
    obtain ⟨a, s, rfl⟩ : ∃ (a : Fin 32) (s : Fin 4096), y = (ix2 a s : S32x4096.Idx) := ⟨y 0, y 1, (ix2_eta y).symm⟩
    refine (o12 m c t a s).trans (Eq.trans ?_ (rd12 t a s (G12 (m ((c : Thread nD τ).loc main_arg0)) (m ((c : Thread nD τ).loc main_arg1)) (m ((c : Thread nD τ).loc main_arg2)) (m ((c : Thread nD τ).loc main_arg3)) (m ((c : Thread nD τ).loc main_arg5)))).symm)
    have ha : 32 * t.val + a.val < 512 := by have hN : t.val < 16 := lt_of_lt_of_eq t.isLt N_0; have := a.isLt; omega
    have hs : s.val < 4096 := by have := s.isLt; omega
    refine Eq.trans ?_ (G12_pos _ _ _ _ _ _ _ ha).symm
    have hg := gS_eq (m ((c : Thread nD τ).loc main_arg3)) ⟨32 * t.val + a.val, ha⟩ s hs
    have h3 : b3 m c t a ⟨s.val, hs⟩ = _ := rd3 t a ⟨s.val, hs⟩ (m ((c : Thread nD τ).loc main_arg3))
    have h4 : b4 m c t a ⟨s.val, hs⟩ = _ := rd4 t a ⟨s.val, hs⟩ (m ((c : Thread nD τ).loc main_arg3))
    have h5 : b5 m c t a ⟨s.val, hs⟩ = _ := rd5 t a ⟨s.val, hs⟩ (m ((c : Thread nD τ).loc main_arg3))
    have h6 : b6 m c t a ⟨s.val, hs⟩ = _ := rd6 t a ⟨s.val, hs⟩ (m ((c : Thread nD τ).loc main_arg3))
    have h7 : b7 m c t a ⟨s.val, hs⟩ = _ := rd7 t a ⟨s.val, hs⟩ (m ((c : Thread nD τ).loc main_arg3))
    have h8 : b8 m c t a ⟨s.val, hs⟩ = _ := rd8 t a ⟨s.val, hs⟩ (m ((c : Thread nD τ).loc main_arg3))
    have h9 : b9 m c t a ⟨s.val, hs⟩ = _ := rd9 t a ⟨s.val, hs⟩ (m ((c : Thread nD τ).loc main_arg3))
    have h10 : b10 m c t a ⟨s.val, hs⟩ = _ := rd10 t a ⟨s.val, hs⟩ (m ((c : Thread nD τ).loc main_arg3))
    have h0 : b0 m c t a s = _ := rd0 t a s (m ((c : Thread nD τ).loc main_arg0))
    have h1 : b1 m c t a s = _ := rd1 t a s (m ((c : Thread nD τ).loc main_arg1))
    have h2 : b2 m c t a s = _ := rd2 t a s (m ((c : Thread nD τ).loc main_arg2))
    rw [h0, h1, h2, h3, h4, h5, h6, h7, h8, h9, h10, ← hg]
  · blk_simp [Pipeline.Window.cell_apply] at hj
    have e : G12 (m ((c : Thread nD τ).loc main_arg0)) (m ((c : Thread nD τ).loc main_arg1)) (m ((c : Thread nD τ).loc main_arg2)) (m ((c : Thread nD τ).loc main_arg3)) (m ((c : Thread nD τ).loc main_arg5)) j = (m ((c : Thread nD τ).loc main_arg5)) j := dif_neg (by omega)
    refine Eq.trans ?_ e.symm
    rw [A_eq]
    entry_read
    rfl

theorem o13 (c : Dev nD) (t : Fin cfg0.N) (a : Fin 32) (s : Fin 4096) : ((outsAt0 m c t).2.2.1 : Vec Ideal S32x4096 .f32) (ix2 a s) = Cert.Adam.newM (b1 m c t a s) (b3 m c t a ⟨s.val, by have := s.isLt; omega⟩ + b4 m c t a ⟨s.val, by have := s.isLt; omega⟩ + b5 m c t a ⟨s.val, by have := s.isLt; omega⟩ + b6 m c t a ⟨s.val, by have := s.isLt; omega⟩ + b7 m c t a ⟨s.val, by have := s.isLt; omega⟩ + b8 m c t a ⟨s.val, by have := s.isLt; omega⟩ + b9 m c t a ⟨s.val, by have := s.isLt; omega⟩ + b10 m c t a ⟨s.val, by have := s.isLt; omega⟩) := by
  unfold outsAt0
  frame_out
  open_payloads
  pointwise
  unfold Cert.Adam.newM
  unfold b3 b4 b5 b6 b7 b8 b9 b10 b1
  rfl

theorem final13 (c : Dev nD) : (dats m 0 c).arrAt 13 cfg0.N = G13 (m ((c : Thread nD τ).loc main_arg0)) (m ((c : Thread nD τ).loc main_arg1)) (m ((c : Thread nD τ).loc main_arg2)) (m ((c : Thread nD τ).loc main_arg3)) (m ((c : Thread nD τ).loc main_arg6)) := by
  refine (dats m 0 c).arrAt_eq_of_coversWhere_of_agree 13 _ (fun β => β (0 : Fin _) < 16) (by decide +kernel) (fun t hf y => ?_) (fun j hj => ?_)
  · blk_simp
    rw [after0_13]
    obtain ⟨a, s, rfl⟩ : ∃ (a : Fin 32) (s : Fin 4096), y = (ix2 a s : S32x4096.Idx) := ⟨y 0, y 1, (ix2_eta y).symm⟩
    refine (o13 m c t a s).trans (Eq.trans ?_ (rd13 t a s (G13 (m ((c : Thread nD τ).loc main_arg0)) (m ((c : Thread nD τ).loc main_arg1)) (m ((c : Thread nD τ).loc main_arg2)) (m ((c : Thread nD τ).loc main_arg3)) (m ((c : Thread nD τ).loc main_arg6)))).symm)
    have ha : 32 * t.val + a.val < 512 := by have hN : t.val < 16 := lt_of_lt_of_eq t.isLt N_0; have := a.isLt; omega
    have hs : s.val < 4096 := by have := s.isLt; omega
    refine Eq.trans ?_ (G13_pos _ _ _ _ _ _ _ ha).symm
    have hg := gS_eq (m ((c : Thread nD τ).loc main_arg3)) ⟨32 * t.val + a.val, ha⟩ s hs
    have h3 : b3 m c t a ⟨s.val, hs⟩ = _ := rd3 t a ⟨s.val, hs⟩ (m ((c : Thread nD τ).loc main_arg3))
    have h4 : b4 m c t a ⟨s.val, hs⟩ = _ := rd4 t a ⟨s.val, hs⟩ (m ((c : Thread nD τ).loc main_arg3))
    have h5 : b5 m c t a ⟨s.val, hs⟩ = _ := rd5 t a ⟨s.val, hs⟩ (m ((c : Thread nD τ).loc main_arg3))
    have h6 : b6 m c t a ⟨s.val, hs⟩ = _ := rd6 t a ⟨s.val, hs⟩ (m ((c : Thread nD τ).loc main_arg3))
    have h7 : b7 m c t a ⟨s.val, hs⟩ = _ := rd7 t a ⟨s.val, hs⟩ (m ((c : Thread nD τ).loc main_arg3))
    have h8 : b8 m c t a ⟨s.val, hs⟩ = _ := rd8 t a ⟨s.val, hs⟩ (m ((c : Thread nD τ).loc main_arg3))
    have h9 : b9 m c t a ⟨s.val, hs⟩ = _ := rd9 t a ⟨s.val, hs⟩ (m ((c : Thread nD τ).loc main_arg3))
    have h10 : b10 m c t a ⟨s.val, hs⟩ = _ := rd10 t a ⟨s.val, hs⟩ (m ((c : Thread nD τ).loc main_arg3))
    have h0 : b0 m c t a s = _ := rd0 t a s (m ((c : Thread nD τ).loc main_arg0))
    have h1 : b1 m c t a s = _ := rd1 t a s (m ((c : Thread nD τ).loc main_arg1))
    have h2 : b2 m c t a s = _ := rd2 t a s (m ((c : Thread nD τ).loc main_arg2))
    rw [h1, h3, h4, h5, h6, h7, h8, h9, h10, ← hg]
  · blk_simp [Pipeline.Window.cell_apply] at hj
    have e : G13 (m ((c : Thread nD τ).loc main_arg0)) (m ((c : Thread nD τ).loc main_arg1)) (m ((c : Thread nD τ).loc main_arg2)) (m ((c : Thread nD τ).loc main_arg3)) (m ((c : Thread nD τ).loc main_arg6)) j = (m ((c : Thread nD τ).loc main_arg6)) j := dif_neg (by omega)
    refine Eq.trans ?_ e.symm
    rw [A_eq]
    entry_read
    rfl

theorem o14 (c : Dev nD) (t : Fin cfg0.N) (a : Fin 32) (s : Fin 4096) : ((outsAt0 m c t).2.2.2 : Vec Ideal S32x4096 .f32) (ix2 a s) = Cert.Adam.newV (b2 m c t a s) (b3 m c t a ⟨s.val, by have := s.isLt; omega⟩ + b4 m c t a ⟨s.val, by have := s.isLt; omega⟩ + b5 m c t a ⟨s.val, by have := s.isLt; omega⟩ + b6 m c t a ⟨s.val, by have := s.isLt; omega⟩ + b7 m c t a ⟨s.val, by have := s.isLt; omega⟩ + b8 m c t a ⟨s.val, by have := s.isLt; omega⟩ + b9 m c t a ⟨s.val, by have := s.isLt; omega⟩ + b10 m c t a ⟨s.val, by have := s.isLt; omega⟩) := by
  unfold outsAt0
  frame_out
  open_payloads
  pointwise
  unfold Cert.Adam.newV
  unfold b3 b4 b5 b6 b7 b8 b9 b10 b2
  rfl

theorem final14 (c : Dev nD) : (dats m 0 c).arrAt 14 cfg0.N = G14 (m ((c : Thread nD τ).loc main_arg0)) (m ((c : Thread nD τ).loc main_arg1)) (m ((c : Thread nD τ).loc main_arg2)) (m ((c : Thread nD τ).loc main_arg3)) (m ((c : Thread nD τ).loc main_arg7)) := by
  refine (dats m 0 c).arrAt_eq_of_coversWhere_of_agree 14 _ (fun β => β (0 : Fin _) < 16) (by decide +kernel) (fun t hf y => ?_) (fun j hj => ?_)
  · blk_simp
    rw [after0_14]
    obtain ⟨a, s, rfl⟩ : ∃ (a : Fin 32) (s : Fin 4096), y = (ix2 a s : S32x4096.Idx) := ⟨y 0, y 1, (ix2_eta y).symm⟩
    refine (o14 m c t a s).trans (Eq.trans ?_ (rd14 t a s (G14 (m ((c : Thread nD τ).loc main_arg0)) (m ((c : Thread nD τ).loc main_arg1)) (m ((c : Thread nD τ).loc main_arg2)) (m ((c : Thread nD τ).loc main_arg3)) (m ((c : Thread nD τ).loc main_arg7)))).symm)
    have ha : 32 * t.val + a.val < 512 := by have hN : t.val < 16 := lt_of_lt_of_eq t.isLt N_0; have := a.isLt; omega
    have hs : s.val < 4096 := by have := s.isLt; omega
    refine Eq.trans ?_ (G14_pos _ _ _ _ _ _ _ ha).symm
    have hg := gS_eq (m ((c : Thread nD τ).loc main_arg3)) ⟨32 * t.val + a.val, ha⟩ s hs
    have h3 : b3 m c t a ⟨s.val, hs⟩ = _ := rd3 t a ⟨s.val, hs⟩ (m ((c : Thread nD τ).loc main_arg3))
    have h4 : b4 m c t a ⟨s.val, hs⟩ = _ := rd4 t a ⟨s.val, hs⟩ (m ((c : Thread nD τ).loc main_arg3))
    have h5 : b5 m c t a ⟨s.val, hs⟩ = _ := rd5 t a ⟨s.val, hs⟩ (m ((c : Thread nD τ).loc main_arg3))
    have h6 : b6 m c t a ⟨s.val, hs⟩ = _ := rd6 t a ⟨s.val, hs⟩ (m ((c : Thread nD τ).loc main_arg3))
    have h7 : b7 m c t a ⟨s.val, hs⟩ = _ := rd7 t a ⟨s.val, hs⟩ (m ((c : Thread nD τ).loc main_arg3))
    have h8 : b8 m c t a ⟨s.val, hs⟩ = _ := rd8 t a ⟨s.val, hs⟩ (m ((c : Thread nD τ).loc main_arg3))
    have h9 : b9 m c t a ⟨s.val, hs⟩ = _ := rd9 t a ⟨s.val, hs⟩ (m ((c : Thread nD τ).loc main_arg3))
    have h10 : b10 m c t a ⟨s.val, hs⟩ = _ := rd10 t a ⟨s.val, hs⟩ (m ((c : Thread nD τ).loc main_arg3))
    have h0 : b0 m c t a s = _ := rd0 t a s (m ((c : Thread nD τ).loc main_arg0))
    have h1 : b1 m c t a s = _ := rd1 t a s (m ((c : Thread nD τ).loc main_arg1))
    have h2 : b2 m c t a s = _ := rd2 t a s (m ((c : Thread nD τ).loc main_arg2))
    rw [h2, h3, h4, h5, h6, h7, h8, h9, h10, ← hg]
  · blk_simp [Pipeline.Window.cell_apply] at hj
    have e : G14 (m ((c : Thread nD τ).loc main_arg0)) (m ((c : Thread nD τ).loc main_arg1)) (m ((c : Thread nD τ).loc main_arg2)) (m ((c : Thread nD τ).loc main_arg3)) (m ((c : Thread nD τ).loc main_arg7)) j = (m ((c : Thread nD τ).loc main_arg7)) j := dif_neg (by omega)
    refine Eq.trans ?_ e.symm
    rw [A_eq]
    entry_read
    rfl

end Cert.AdamOutIdeal.Mm

namespace Cert.AdamOutReferenceIdeal.Mm

open Cert.AdamOutReferenceIdeal Cert.AdamOutReferenceIdeal.Gen Idealize.ShloMosaic Idealize.ShloMosaic.TcCoe Idealize.SL.Sem

/-- The gradient, as the reference leaves them. -/
def ref11 (W M U : FVec Ideal S2048x4096 .f32) (R : FVec Ideal S8x512x4096 .bf16) (p : FVec Ideal S2048x4096 .f32) : FVec Ideal S2048x4096 .f32 := concatenate S2048x4096 0 [⟨S512x4096, (Host.reduceAdd (extf .f32 R bitsLt_bf16_f32) (constant S_ .f32 0x00000000#32) reducesTo_S8x512x4096_S512x4096_d0 h_S_)⟩, ⟨S1536x4096, (extractStridedSlice S1536x4096 ![512, 0] p slices_S2048x4096_S1536x4096_512_0)⟩] concatenates_S512x4096_S1536x4096_S2048x4096_d0

theorem ref11_eq (W M U : FVec Ideal S2048x4096 .f32) (R : FVec Ideal S8x512x4096 .bf16) (p : FVec Ideal S2048x4096 .f32) : ref11 W M U R p = Cert.AdamOutIdeal.Mm.G11 W M U R p := by
  funext i
  obtain ⟨a, s, rfl⟩ : ∃ (a : Fin 2048) (s : Fin 4096), i = (ix2 a s : S2048x4096.Idx) := ⟨i 0, i 1, (ix2_eta i).symm⟩
  unfold ref11; pointwise
  by_cases h : a.val < 512
  · rw [dif_pos h]; exact (Cert.AdamOutIdeal.Mm.G11_pos W M U R p a s h).symm
  · rw [dif_neg h]
    refine Eq.trans (congrArg p (congrArg (fun z => (ix2 z s : S2048x4096.Idx)) (Fin.ext ?_))) (Cert.AdamOutIdeal.Mm.G11_neg W M U R p a s h).symm
    show 512 + (a.val - 512) = a.val
    omega

/-- The steps, as the reference leaves them. -/
def ref12 (W M U : FVec Ideal S2048x4096 .f32) (R : FVec Ideal S8x512x4096 .bf16) (p : FVec Ideal S2048x4096 .f32) : FVec Ideal S2048x4096 .f32 := concatenate S2048x4096 0 [⟨S512x4096, (mulf (broadcastInDim S512x4096 ![] bcast_S_S512x4096 (constant S_ .f32 0xBA83126F#32)) (addf (Host.divf (Host.divf (addf (mulf (broadcastInDim S512x4096 ![] bcast_S_S512x4096 (constant S_ .f32 0x3F666666#32)) (extractStridedSlice S512x4096 ![0, 0] M slices_S2048x4096_S512x4096_0_0)) (mulf (broadcastInDim S512x4096 ![] bcast_S_S512x4096 (constant S_ .f32 0x3DCCCCCD#32)) (Host.reduceAdd (extf .f32 R bitsLt_bf16_f32) (constant S_ .f32 0x00000000#32) reducesTo_S8x512x4096_S512x4096_d0 h_S_))) (broadcastInDim S512x4096 ![] bcast_S_S512x4096 (constant S_ .f32 0x3F26BD02#32))) (addf (Host.sqrt (Host.divf (addf (mulf (broadcastInDim S512x4096 ![] bcast_S_S512x4096 (constant S_ .f32 0x3F7FBE77#32)) (extractStridedSlice S512x4096 ![0, 0] U slices_S2048x4096_S512x4096_0_0)) (mulf (broadcastInDim S512x4096 ![] bcast_S_S512x4096 (constant S_ .f32 0x3A83126F#32)) (mulf (Host.reduceAdd (extf .f32 R bitsLt_bf16_f32) (constant S_ .f32 0x00000000#32) reducesTo_S8x512x4096_S512x4096_d0 h_S_) (Host.reduceAdd (extf .f32 R bitsLt_bf16_f32) (constant S_ .f32 0x00000000#32) reducesTo_S8x512x4096_S512x4096_d0 h_S_)))) (broadcastInDim S512x4096 ![] bcast_S_S512x4096 (constant S_ .f32 0x3C231ACC#32)))) (broadcastInDim S512x4096 ![] bcast_S_S512x4096 (constant S_ .f32 0x322BCC77#32)))) (mulf (broadcastInDim S512x4096 ![] bcast_S_S512x4096 (constant S_ .f32 0x3C23D70A#32)) (extractStridedSlice S512x4096 ![0, 0] W slices_S2048x4096_S512x4096_0_0))))⟩, ⟨S1536x4096, (extractStridedSlice S1536x4096 ![512, 0] p slices_S2048x4096_S1536x4096_512_0)⟩] concatenates_S512x4096_S1536x4096_S2048x4096_d0

theorem ref12_eq (W M U : FVec Ideal S2048x4096 .f32) (R : FVec Ideal S8x512x4096 .bf16) (p : FVec Ideal S2048x4096 .f32) : ref12 W M U R p = Cert.AdamOutIdeal.Mm.G12 W M U R p := by
  funext i
  obtain ⟨a, s, rfl⟩ : ∃ (a : Fin 2048) (s : Fin 4096), i = (ix2 a s : S2048x4096.Idx) := ⟨i 0, i 1, (ix2_eta i).symm⟩
  unfold ref12; pointwise
  by_cases h : a.val < 512
  · rw [dif_pos h]; exact (Cert.AdamOutIdeal.Mm.G12_pos W M U R p a s h).symm
  · rw [dif_neg h]
    refine Eq.trans (congrArg p (congrArg (fun z => (ix2 z s : S2048x4096.Idx)) (Fin.ext ?_))) (Cert.AdamOutIdeal.Mm.G12_neg W M U R p a s h).symm
    show 512 + (a.val - 512) = a.val
    omega

/-- The new running means, as the reference leaves them. -/
def ref13 (W M U : FVec Ideal S2048x4096 .f32) (R : FVec Ideal S8x512x4096 .bf16) (p : FVec Ideal S2048x4096 .f32) : FVec Ideal S2048x4096 .f32 := concatenate S2048x4096 0 [⟨S512x4096, (addf (mulf (broadcastInDim S512x4096 ![] bcast_S_S512x4096 (constant S_ .f32 0x3F666666#32)) (extractStridedSlice S512x4096 ![0, 0] M slices_S2048x4096_S512x4096_0_0)) (mulf (broadcastInDim S512x4096 ![] bcast_S_S512x4096 (constant S_ .f32 0x3DCCCCCD#32)) (Host.reduceAdd (extf .f32 R bitsLt_bf16_f32) (constant S_ .f32 0x00000000#32) reducesTo_S8x512x4096_S512x4096_d0 h_S_)))⟩, ⟨S1536x4096, (extractStridedSlice S1536x4096 ![512, 0] p slices_S2048x4096_S1536x4096_512_0)⟩] concatenates_S512x4096_S1536x4096_S2048x4096_d0

theorem ref13_eq (W M U : FVec Ideal S2048x4096 .f32) (R : FVec Ideal S8x512x4096 .bf16) (p : FVec Ideal S2048x4096 .f32) : ref13 W M U R p = Cert.AdamOutIdeal.Mm.G13 W M U R p := by
  funext i
  obtain ⟨a, s, rfl⟩ : ∃ (a : Fin 2048) (s : Fin 4096), i = (ix2 a s : S2048x4096.Idx) := ⟨i 0, i 1, (ix2_eta i).symm⟩
  unfold ref13; pointwise
  by_cases h : a.val < 512
  · rw [dif_pos h]; exact (Cert.AdamOutIdeal.Mm.G13_pos W M U R p a s h).symm
  · rw [dif_neg h]
    refine Eq.trans (congrArg p (congrArg (fun z => (ix2 z s : S2048x4096.Idx)) (Fin.ext ?_))) (Cert.AdamOutIdeal.Mm.G13_neg W M U R p a s h).symm
    show 512 + (a.val - 512) = a.val
    omega

/-- The new running means of squares, as the reference leaves them. -/
def ref14 (W M U : FVec Ideal S2048x4096 .f32) (R : FVec Ideal S8x512x4096 .bf16) (p : FVec Ideal S2048x4096 .f32) : FVec Ideal S2048x4096 .f32 := concatenate S2048x4096 0 [⟨S512x4096, (addf (mulf (broadcastInDim S512x4096 ![] bcast_S_S512x4096 (constant S_ .f32 0x3F7FBE77#32)) (extractStridedSlice S512x4096 ![0, 0] U slices_S2048x4096_S512x4096_0_0)) (mulf (broadcastInDim S512x4096 ![] bcast_S_S512x4096 (constant S_ .f32 0x3A83126F#32)) (mulf (Host.reduceAdd (extf .f32 R bitsLt_bf16_f32) (constant S_ .f32 0x00000000#32) reducesTo_S8x512x4096_S512x4096_d0 h_S_) (Host.reduceAdd (extf .f32 R bitsLt_bf16_f32) (constant S_ .f32 0x00000000#32) reducesTo_S8x512x4096_S512x4096_d0 h_S_))))⟩, ⟨S1536x4096, (extractStridedSlice S1536x4096 ![512, 0] p slices_S2048x4096_S1536x4096_512_0)⟩] concatenates_S512x4096_S1536x4096_S2048x4096_d0

theorem ref14_eq (W M U : FVec Ideal S2048x4096 .f32) (R : FVec Ideal S8x512x4096 .bf16) (p : FVec Ideal S2048x4096 .f32) : ref14 W M U R p = Cert.AdamOutIdeal.Mm.G14 W M U R p := by
  funext i
  obtain ⟨a, s, rfl⟩ : ∃ (a : Fin 2048) (s : Fin 4096), i = (ix2 a s : S2048x4096.Idx) := ⟨i 0, i 1, (ix2_eta i).symm⟩
  unfold ref14; pointwise
  by_cases h : a.val < 512
  · rw [dif_pos h]; exact (Cert.AdamOutIdeal.Mm.G14_pos W M U R p a s h).symm
  · rw [dif_neg h]
    refine Eq.trans (congrArg p (congrArg (fun z => (ix2 z s : S2048x4096.Idx)) (Fin.ext ?_))) (Cert.AdamOutIdeal.Mm.G14_neg W M U R p a s h).symm
    show 512 + (a.val - 512) = a.val
    omega

end Cert.AdamOutReferenceIdeal.Mm
end
-- ==== Proof.ClAdamOut.lean ====
/- The claims about the optimiser's call `AdamOut`. -/
module

public import proofs.«01_k».proof.Proof.MmAdamOut
public import proofs.«01_k».proof.Proof.Gen.AdamOut.Frame
public import proofs.«01_k».proof.Defs
public import Idealize.ShloMosaic.Init
public import Idealize.ShloMosaic.Adequacy

@[expose] public section

set_option maxRecDepth 16384

noncomputable section

namespace Cert.Proof.AdamOut

open Idealize.ShloMosaic Idealize.SL.Sem Idealize.ShloMosaic.TcCoe

theorem frame_kernel : Cert.quiescent_AdamOut := fun m ρ _ => Cert.AdamOut.Gen.frame m ρ

theorem frame_ideal : Cert.quiescent_AdamOutIdeal := fun m ρ _ => Cert.AdamOutIdeal.Gen.frame m ρ

theorem frame_reference : Cert.quiescent_AdamOutReferenceIdeal := fun m ρ _ =>
  (θ_run Cert.AdamOutReferenceIdeal.defs _ _).mono (fun r h => ⟨fun c => (h c).2.2.2.2, Idealize.ShloMosaic.sem_eq_zero_of_no_sems (by decide) r.2⟩)
    (Cert.AdamOutReferenceIdeal.Value.run m ρ)

theorem algebraic : Cert.algebraic_AdamOutIdeal_AdamOutReferenceIdeal := by
  intro m g m' g' _ hag
  refine ⟨fun c => (Cert.AdamOutIdeal.Gen.dats m 0 c).arrAt 11 Cert.AdamOutIdeal.cfg0.N, fun c => (Cert.AdamOutIdeal.Gen.dats m 0 c).arrAt 12 Cert.AdamOutIdeal.cfg0.N, fun c => (Cert.AdamOutIdeal.Gen.dats m 0 c).arrAt 13 Cert.AdamOutIdeal.cfg0.N, fun c => (Cert.AdamOutIdeal.Gen.dats m 0 c).arrAt 14 Cert.AdamOutIdeal.cfg0.N, Cert.AdamOutIdeal.Value.run_blocks m g, ?_⟩
  refine (θ_run Cert.AdamOutReferenceIdeal.defs _ _).mono (fun r h c => ?_) (Cert.AdamOutReferenceIdeal.Value.run m' g')
  obtain ⟨r0, r1, r2, r3, ra⟩ := h c
  obtain ⟨a0, a1, a2, a3, a4, a5, a6, a7⟩ := hag c
  refine ⟨r0.trans ((Cert.AdamOutReferenceIdeal.Mm.ref11_eq (m' ((c : Thread Cert.AdamOutReferenceIdeal.nD Cert.AdamOutReferenceIdeal.τ).loc Cert.AdamOutReferenceIdeal.main_arg0)) (m' ((c : Thread Cert.AdamOutReferenceIdeal.nD Cert.AdamOutReferenceIdeal.τ).loc Cert.AdamOutReferenceIdeal.main_arg1)) (m' ((c : Thread Cert.AdamOutReferenceIdeal.nD Cert.AdamOutReferenceIdeal.τ).loc Cert.AdamOutReferenceIdeal.main_arg2)) (m' ((c : Thread Cert.AdamOutReferenceIdeal.nD Cert.AdamOutReferenceIdeal.τ).loc Cert.AdamOutReferenceIdeal.main_arg3)) (m' ((c : Thread Cert.AdamOutReferenceIdeal.nD Cert.AdamOutReferenceIdeal.τ).loc Cert.AdamOutReferenceIdeal.main_arg4))).trans ?_), r1.trans ((Cert.AdamOutReferenceIdeal.Mm.ref12_eq (m' ((c : Thread Cert.AdamOutReferenceIdeal.nD Cert.AdamOutReferenceIdeal.τ).loc Cert.AdamOutReferenceIdeal.main_arg0)) (m' ((c : Thread Cert.AdamOutReferenceIdeal.nD Cert.AdamOutReferenceIdeal.τ).loc Cert.AdamOutReferenceIdeal.main_arg1)) (m' ((c : Thread Cert.AdamOutReferenceIdeal.nD Cert.AdamOutReferenceIdeal.τ).loc Cert.AdamOutReferenceIdeal.main_arg2)) (m' ((c : Thread Cert.AdamOutReferenceIdeal.nD Cert.AdamOutReferenceIdeal.τ).loc Cert.AdamOutReferenceIdeal.main_arg3)) (m' ((c : Thread Cert.AdamOutReferenceIdeal.nD Cert.AdamOutReferenceIdeal.τ).loc Cert.AdamOutReferenceIdeal.main_arg5))).trans ?_), r2.trans ((Cert.AdamOutReferenceIdeal.Mm.ref13_eq (m' ((c : Thread Cert.AdamOutReferenceIdeal.nD Cert.AdamOutReferenceIdeal.τ).loc Cert.AdamOutReferenceIdeal.main_arg0)) (m' ((c : Thread Cert.AdamOutReferenceIdeal.nD Cert.AdamOutReferenceIdeal.τ).loc Cert.AdamOutReferenceIdeal.main_arg1)) (m' ((c : Thread Cert.AdamOutReferenceIdeal.nD Cert.AdamOutReferenceIdeal.τ).loc Cert.AdamOutReferenceIdeal.main_arg2)) (m' ((c : Thread Cert.AdamOutReferenceIdeal.nD Cert.AdamOutReferenceIdeal.τ).loc Cert.AdamOutReferenceIdeal.main_arg3)) (m' ((c : Thread Cert.AdamOutReferenceIdeal.nD Cert.AdamOutReferenceIdeal.τ).loc Cert.AdamOutReferenceIdeal.main_arg6))).trans ?_), r3.trans ((Cert.AdamOutReferenceIdeal.Mm.ref14_eq (m' ((c : Thread Cert.AdamOutReferenceIdeal.nD Cert.AdamOutReferenceIdeal.τ).loc Cert.AdamOutReferenceIdeal.main_arg0)) (m' ((c : Thread Cert.AdamOutReferenceIdeal.nD Cert.AdamOutReferenceIdeal.τ).loc Cert.AdamOutReferenceIdeal.main_arg1)) (m' ((c : Thread Cert.AdamOutReferenceIdeal.nD Cert.AdamOutReferenceIdeal.τ).loc Cert.AdamOutReferenceIdeal.main_arg2)) (m' ((c : Thread Cert.AdamOutReferenceIdeal.nD Cert.AdamOutReferenceIdeal.τ).loc Cert.AdamOutReferenceIdeal.main_arg3)) (m' ((c : Thread Cert.AdamOutReferenceIdeal.nD Cert.AdamOutReferenceIdeal.τ).loc Cert.AdamOutReferenceIdeal.main_arg7))).trans ?_), ra⟩
  · rw [a0, a1, a2, a3, a4]; exact (Cert.AdamOutIdeal.Mm.final11 m c).symm
  · rw [a0, a1, a2, a3, a5]; exact (Cert.AdamOutIdeal.Mm.final12 m c).symm
  · rw [a0, a1, a2, a3, a6]; exact (Cert.AdamOutIdeal.Mm.final13 m c).symm
  · rw [a0, a1, a2, a3, a7]; exact (Cert.AdamOutIdeal.Mm.final14 m c).symm

end Cert.Proof.AdamOut
end
-- ==== Proof.RmsMath.lean ====
/- The gradient of a row divided by its root mean square, as the kernels write it and as differentiation does: the same extended real number. -/
module

public import Idealize.ShloMosaic.Lib.Pipeline.ValueKit

@[expose] public section

noncomputable section

namespace Cert.Rms

open Idealize.ShloMosaic

theorem sq_nonneg (x : EReal) : 0 ≤ x * x := by
  induction x using EReal.rec with
  | bot => simp
  | coe a => rw [← EReal.coe_mul]; exact EReal.coe_nonneg.2 (mul_self_nonneg a)
  | top => simp

theorem sum_sq_nonneg {ι : Type*} (s : Finset ι) (f : ι → EReal) : 0 ≤ ∑ i ∈ s, f i * f i := Finset.sum_nonneg fun i _ => sq_nonneg (f i)

/-- A mean square with a small number added is infinite or a positive real. -/
theorem mean_sq (A : EReal) (n ε : ℝ) (hA : 0 ≤ A) (hn : 0 < n) (hε : 0 < ε) :
    Ideal.div A (n : EReal) + (ε : EReal) = ⊤ ∨ ∃ u : ℝ, 0 < u ∧ Ideal.div A (n : EReal) + (ε : EReal) = (u : EReal) := by
  rw [Ideal.div_coe hn.ne']
  have h1 : (0 : ℝ) < 1 / n := by positivity
  induction A using EReal.rec with
  | bot => exact absurd hA (by simp)
  | coe a =>
    have ha : 0 ≤ a := EReal.coe_nonneg.1 hA
    exact Or.inr ⟨a * (1 / n) + ε, by positivity, by rw [EReal.coe_add, EReal.coe_mul]⟩
  | top => exact Or.inl (by rw [EReal.top_mul_coe_of_pos h1]; rfl)

/-- Twice half a multiple. -/
theorem two_halves (y : EReal) (k : ℝ) (hk : 0 ≤ k) : y * ((-(k / 2) : ℝ) : EReal) + y * ((-(k / 2) : ℝ) : EReal) = -(y * (k : EReal)) := by
  have h : (0 : EReal) ≤ ((k / 2 : ℝ) : EReal) := EReal.coe_nonneg.2 (by positivity)
  rw [EReal.coe_neg, mul_neg, ← neg_mul, ← EReal.left_distrib_of_nonneg h h, ← EReal.coe_add, neg_mul]
  congr 3
  ring

/-- The gradient of one entry `X` of a row with sum of squares `A`: `D` is the gradient of the divided entry, `S` the row's sum of `D` times `X`. -/
theorem bwd (A D S X : EReal) (n ε : ℝ) (hA : 0 ≤ A) (hn : 0 < n) (hε : 0 < ε) (u : EReal) (hu : u = Ideal.div A (n : EReal) + (ε : EReal)) :
    Ideal.rsqrt u * D - X * (Ideal.rsqrt u * Ideal.rsqrt u * Ideal.rsqrt u) * (S * ((1 / n : ℝ) : EReal))
      = D * Ideal.rsqrt u + X * Ideal.div (S * (((-(1 / 2) : ℝ) : EReal) * Ideal.div (Ideal.rsqrt u) u)) (n : EReal)
        + Ideal.div (S * (((-(1 / 2) : ℝ) : EReal) * Ideal.div (Ideal.rsqrt u) u)) (n : EReal) * X := by
  rcases mean_sq A n ε hA hn hε with h | ⟨v, hv, h⟩
  · rw [hu, h]
    have h0 : Ideal.rsqrt ⊤ = 0 := rfl
    have h1 : Ideal.div 0 ⊤ = 0 := by simp [Ideal.div]
    rw [h0, h1, Ideal.div_coe hn.ne']
    simp
  · rw [hu, h]
    have hr : Ideal.rsqrt (v : EReal) = (((Real.sqrt v)⁻¹ : ℝ) : EReal) := by
      rw [Ideal.rsqrt_coe, if_neg (not_lt.2 hv.le), if_neg hv.ne']
    have hs : 0 < Real.sqrt v := Real.sqrt_pos.2 hv
    have hq : Real.sqrt v * Real.sqrt v = v := Real.mul_self_sqrt hv.le
    rw [hr, Ideal.div_coe hn.ne', Ideal.div_coe hv.ne']
    generalize Real.sqrt v = q at *
    set k : ℝ := q⁻¹ * q⁻¹ * q⁻¹ * (1 / n) with hk
    have hk0 : 0 ≤ k := by positivity
    have e1 : X * (((q⁻¹ : ℝ) : EReal) * ((q⁻¹ : ℝ) : EReal) * ((q⁻¹ : ℝ) : EReal)) * (S * ((1 / n : ℝ) : EReal)) = X * S * (k : EReal) := by
      rw [hk]; push_cast; ac_rfl
    have e2 : S * (((-(1 / 2) : ℝ) : EReal) * (((q⁻¹ : ℝ) : EReal) * ((1 / v : ℝ) : EReal))) * ((1 / n : ℝ) : EReal) = S * ((-(k / 2) : ℝ) : EReal) := by
      have : (-(k / 2) : ℝ) = -(1 / 2) * (q⁻¹ * (1 / v)) * (1 / n) := by
        rw [hk, ← hq]; field_simp
      rw [this, EReal.coe_mul, EReal.coe_mul, EReal.coe_mul]; ac_rfl
    rw [e1, e2, sub_eq_add_neg, ← two_halves _ _ hk0, mul_comm D, add_assoc]
    congr 2
    · ac_rfl
    · ac_rfl

theorem c_half : Ideal.ofBits .f32 3204448256#32 = ((-(1 / 2) : ℝ) : EReal) := by simp [Ideal.ofBits, Ideal.ieee, -EReal.coe_mul]; norm_num
theorem c_eps : Ideal.ofBits .f32 897988541#32 = ((8796093 / 8796093022208 : ℝ) : EReal) := by simp [Ideal.ofBits, Ideal.ieee, -EReal.coe_mul]; norm_num
theorem c_4096 : Ideal.ofBits .f32 1166016512#32 = ((4096 : ℝ) : EReal) := by simp [Ideal.ofBits, Ideal.ieee, -EReal.coe_mul]; norm_num
theorem c_4096i : Ideal.ofBits .f32 964689920#32 = ((1 / 4096 : ℝ) : EReal) := by simp [Ideal.ofBits, Ideal.ieee, -EReal.coe_mul]; norm_num
theorem c_1024 : Ideal.ofBits .f32 1149239296#32 = ((1024 : ℝ) : EReal) := by simp [Ideal.ofBits, Ideal.ieee, -EReal.coe_mul]; norm_num
theorem c_1024i : Ideal.ofBits .f32 981467136#32 = ((1 / 1024 : ℝ) : EReal) := by simp [Ideal.ofBits, Ideal.ieee, -EReal.coe_mul]; norm_num
theorem c_512 : Ideal.ofBits .f32 1140850688#32 = ((512 : ℝ) : EReal) := by simp [Ideal.ofBits, Ideal.ieee, -EReal.coe_mul]; norm_num
theorem c_512i : Ideal.ofBits .f32 989855744#32 = ((1 / 512 : ℝ) : EReal) := by simp [Ideal.ofBits, Ideal.ieee, -EReal.coe_mul]; norm_num

/-- The same with the numbers as the programs write them: `N` the row's length and `I` its inverse. -/
theorem bwd_bits (N I : BitVec 32) (n : ℝ) (hn : 0 < n) (hN : Ideal.ofBits .f32 N = (n : EReal)) (hI : Ideal.ofBits .f32 I = ((1 / n : ℝ) : EReal)) (A D S X u : EReal) (hA : 0 ≤ A)
    (hu : u = Ideal.div A (Ideal.ofBits .f32 N) + Ideal.ofBits .f32 897988541#32) :
    Ideal.rsqrt u * D - X * (Ideal.rsqrt u * Ideal.rsqrt u * Ideal.rsqrt u) * (S * Ideal.ofBits .f32 I)
      = D * Ideal.rsqrt u + X * Ideal.div (S * (Ideal.ofBits .f32 3204448256#32 * Ideal.div (Ideal.rsqrt u) u)) (Ideal.ofBits .f32 N)
        + Ideal.div (S * (Ideal.ofBits .f32 3204448256#32 * Ideal.div (Ideal.rsqrt u) u)) (Ideal.ofBits .f32 N) * X := by
  rw [hN, hI, c_half]
  exact bwd A D S X n (8796093 / 8796093022208) hA hn (by norm_num) u (by rw [hu, hN, c_eps])

/-- The mean square of a row of length `N`, a small number added. -/
def mu {n : ℕ} (N : BitVec 32) (x : Fin n → EReal) : EReal := Ideal.div (∑ j : Fin n, x j * x j) (Ideal.ofBits .f32 N) + Ideal.ofBits .f32 897988541#32

/-- The row divided by the root of its mean square, times the gains. -/
def norm {n : ℕ} (N : BitVec 32) (x g : Fin n → EReal) (s : Fin n) : EReal := x s * Ideal.rsqrt (mu N x) * g s

/-- The gradient of the row, as the kernels write it. -/
def back {n : ℕ} (N I : BitVec 32) (x d g : Fin n → EReal) (s : Fin n) : EReal :=
  Ideal.rsqrt (mu N x) * (d s * g s) - x s * (Ideal.rsqrt (mu N x) * Ideal.rsqrt (mu N x) * Ideal.rsqrt (mu N x)) * ((∑ j : Fin n, d j * g j * x j) * Ideal.ofBits .f32 I)

/-- A row's part of the gradient of a gain. -/
def gain {n : ℕ} (N : BitVec 32) (x d : Fin n → EReal) (s : Fin n) : EReal := d s * x s * Ideal.rsqrt (mu N x)

/-- The gradient of the row, as differentiation writes it. -/
def vjp {n : ℕ} (N : BitVec 32) (x d g : Fin n → EReal) (s : Fin n) : EReal :=
  d s * g s * Ideal.rsqrt (mu N x)
    + x s * (∑ _ : Fin 1, Ideal.div ((∑ j : Fin n, x j * (d j * g j)) * (Ideal.ofBits .f32 3204448256#32 * Ideal.div (Ideal.rsqrt (mu N x)) (mu N x))) (Ideal.ofBits .f32 N))
    + (∑ _ : Fin 1, Ideal.div ((∑ j : Fin n, x j * (d j * g j)) * (Ideal.ofBits .f32 3204448256#32 * Ideal.div (Ideal.rsqrt (mu N x)) (mu N x))) (Ideal.ofBits .f32 N)) * x s

theorem vjp_eq {k : ℕ} (N I : BitVec 32) (n : ℝ) (hn : 0 < n) (hN : Ideal.ofBits .f32 N = (n : EReal)) (hI : Ideal.ofBits .f32 I = ((1 / n : ℝ) : EReal)) (x d g : Fin k → EReal) (s : Fin k) :
    vjp N x d g s = back N I x d g s := by
  unfold vjp back
  rw [Fin.sum_univ_one, show (∑ j : Fin k, x j * (d j * g j)) = ∑ j : Fin k, d j * g j * x j from Finset.sum_congr rfl fun j _ => mul_comm _ _]
  exact (bwd_bits N I n hn hN hI (∑ j : Fin k, x j * x j) (d s * g s) (∑ j : Fin k, d j * g j * x j) (x s) (mu N x) (sum_sq_nonneg _ _) rfl).symm

end Cert.Rms
end
-- ==== Proof.MmRmsBwd.lean ====
/- The gradient of a layer's first normalisation: what the kernel's tiles leave is the reference's. -/
module

public import proofs.«01_k».proof.Proof.RmsMath
public import proofs.«01_k».proof.Proof.Gen.RmsBwdIdeal.Value
public import proofs.«01_k».proof.Proof.Gen.RmsBwdReferenceIdeal.Run
public import Idealize.ShloMosaic.Lib.Pipeline.ValueKit
public import Idealize.ShloMosaic.Lib.WritesUnit
public import Idealize.ShloMosaic.Lib.Pipeline.ReadBack

@[expose] public section

set_option maxRecDepth 16384

noncomputable section

namespace Cert.RmsBwdIdeal.Mm

open Cert.RmsBwdIdeal Cert.RmsBwdIdeal.Gen Idealize.ShloMosaic Idealize.ShloMosaic.TcCoe Idealize.SL.Sem
open Idealize.ShloMosaic.Pipeline (Dat)
open Cert.Rms (mu back gain vjp)

/-- One row of an array. -/
def rw' (X : FVec Ideal S4096x4096 .f32) (i : Fin 4096) : Fin 4096 → EReal := fun s => X (ix2 i s)

/-- The gains. -/
def gn (g : FVec Ideal S4096 .f32) : Fin 4096 → EReal := fun s => g (ix1 s)

/-- The gradient of the rows. -/
def gdx (X : FVec Ideal S4096x4096 .f32) (g : FVec Ideal S4096 .f32) (D R : FVec Ideal S4096x4096 .f32) : FVec Ideal S4096x4096 .f32 := fun i =>
  rw' R (i 0) (i 1) + back 1166016512#32 964689920#32 (rw' X (i 0)) (rw' D (i 0)) (gn g) (i 1)

/-- A row's part of the gradient of a gain, by the row's number. -/
def colN (X D : FVec Ideal S4096x4096 .f32) (s : Fin 4096) (n : ℕ) : EReal := if h : n < 4096 then gain 1166016512#32 (rw' X ⟨n, h⟩) (rw' D ⟨n, h⟩) s else 0

theorem colN_of (X D : FVec Ideal S4096x4096 .f32) (s : Fin 4096) (n : ℕ) (h : n < 4096) : colN X D s n = gain 1166016512#32 (rw' X ⟨n, h⟩) (rw' D ⟨n, h⟩) s := dif_pos h

/-- The gradient of the gains. -/
def gdg (X D : FVec Ideal S4096x4096 .f32) : FVec Ideal S1x4096 .f32 := fun i => ∑ a : Fin 4096, gain 1166016512#32 (rw' X a) (rw' D a) (i 1)

theorem idx : ∀ t : Fin cfg0.N, win0_0.index t = ![t.val, 0] ∧ win0_1.index t = ![0, 0] ∧ win0_2.index t = ![t.val, 0] ∧ win0_3.index t = ![t.val, 0] ∧ win0_4.index t = ![t.val, 0] ∧ win0_5.index t = ![t.val, 0] ∧ win0_6.index t = ![0, 0] :=
  (by decide +kernel : ∀ t : Fin grid0.N, _)

theorem rd0 (t : Fin cfg0.N) (a : Fin 256) (s : Fin 4096) (X : FVec Ideal S4096x4096 .f32) :
    (((cfg0.win 0).blk t).view.read (Elt Ideal) (X : ((cfg0.win 0).blk t).view.ty.Contents (Elt Ideal)) : Vec Ideal S256x4096 .f32) (ix2 a s) = X (ix2 ⟨t.val * 256 + a.val, by have hN : t.val < 16 := lt_of_lt_of_eq t.isLt N_0; have := a.isLt; omega⟩ s) := by
  blk_simp
  blk_ext [idx t]

theorem rd2 (t : Fin cfg0.N) (a : Fin 256) (s : Fin 4096) (X : FVec Ideal S4096x4096 .f32) :
    (((cfg0.win 2).blk t).view.read (Elt Ideal) (X : ((cfg0.win 2).blk t).view.ty.Contents (Elt Ideal)) : Vec Ideal S256x4096 .f32) (ix2 a s) = X (ix2 ⟨t.val * 256 + a.val, by have hN : t.val < 16 := lt_of_lt_of_eq t.isLt N_0; have := a.isLt; omega⟩ s) := by
  blk_simp
  blk_ext [idx t]

theorem rd3 (t : Fin cfg0.N) (a : Fin 256) (s : Fin 4096) (X : FVec Ideal S4096x4096 .f32) :
    (((cfg0.win 3).blk t).view.read (Elt Ideal) (X : ((cfg0.win 3).blk t).view.ty.Contents (Elt Ideal)) : Vec Ideal S256x4096 .f32) (ix2 a s) = X (ix2 ⟨t.val * 256 + a.val, by have hN : t.val < 16 := lt_of_lt_of_eq t.isLt N_0; have := a.isLt; omega⟩ s) := by
  blk_simp
  blk_ext [idx t]

theorem rd4 (t : Fin cfg0.N) (a : Fin 256) (s : Fin 4096) (X : FVec Ideal S4096x4096 .f32) :
    (((cfg0.win 4).blk t).view.read (Elt Ideal) (X : ((cfg0.win 4).blk t).view.ty.Contents (Elt Ideal)) : Vec Ideal S256x4096 .f32) (ix2 a s) = X (ix2 ⟨t.val * 256 + a.val, by have hN : t.val < 16 := lt_of_lt_of_eq t.isLt N_0; have := a.isLt; omega⟩ s) := by
  blk_simp
  blk_ext [idx t]

theorem rd5 (t : Fin cfg0.N) (a : Fin 256) (s : Fin 4096) (X : FVec Ideal S4096x4096 .bf16) :
    (((cfg0.win 5).blk t).view.read (Elt Ideal) (X : ((cfg0.win 5).blk t).view.ty.Contents (Elt Ideal)) : Vec Ideal S256x4096 .bf16) (ix2 a s) = X (ix2 ⟨t.val * 256 + a.val, by have hN : t.val < 16 := lt_of_lt_of_eq t.isLt N_0; have := a.isLt; omega⟩ s) := by
  blk_simp
  blk_ext [idx t]

theorem rd6 (t : Fin cfg0.N) (y : S1x4096.Idx) (X : FVec Ideal S1x4096 .f32) :
    (((cfg0.win 6).blk t).view.read (Elt Ideal) (X : ((cfg0.win 6).blk t).view.ty.Contents (Elt Ideal)) : Vec Ideal S1x4096 .f32) y = X y := by
  blk_simp
  blk_ext [idx t]

variable (m : (ℓ : Loc nD τ sig) → Buf (Elt Ideal) ℓ)

/-- A row of block 0. -/
def b0 (c : Dev nD) (t : Fin cfg0.N) (a : Fin 256) : Fin 4096 → EReal := fun s => (iblk m c 0 t : Vec Ideal S256x4096 .f32) (ix2 a s)

theorem b0_eq (c : Dev nD) (t : Fin cfg0.N) (a : Fin 256) (h : t.val * 256 + a.val < 4096) : b0 m c t a = rw' (m ((c : Thread nD τ).loc main_arg0)) ⟨t.val * 256 + a.val, h⟩ :=
  funext fun s => rd0 t a s (m ((c : Thread nD τ).loc main_arg0))

/-- A row of block 2. -/
def b2 (c : Dev nD) (t : Fin cfg0.N) (a : Fin 256) : Fin 4096 → EReal := fun s => (iblk m c 2 t : Vec Ideal S256x4096 .f32) (ix2 a s)

theorem b2_eq (c : Dev nD) (t : Fin cfg0.N) (a : Fin 256) (h : t.val * 256 + a.val < 4096) : b2 m c t a = rw' (m ((c : Thread nD τ).loc main_arg2)) ⟨t.val * 256 + a.val, h⟩ :=
  funext fun s => rd2 t a s (m ((c : Thread nD τ).loc main_arg2))

/-- A row of block 3. -/
def b3 (c : Dev nD) (t : Fin cfg0.N) (a : Fin 256) : Fin 4096 → EReal := fun s => (iblk m c 3 t : Vec Ideal S256x4096 .f32) (ix2 a s)

theorem b3_eq (c : Dev nD) (t : Fin cfg0.N) (a : Fin 256) (h : t.val * 256 + a.val < 4096) : b3 m c t a = rw' (m ((c : Thread nD τ).loc main_arg3)) ⟨t.val * 256 + a.val, h⟩ :=
  funext fun s => rd3 t a s (m ((c : Thread nD τ).loc main_arg3))

/-- The gains, as the block holds them. -/
def b1 (c : Dev nD) (t : Fin cfg0.N) : Fin 4096 → EReal := fun s => (iblk m c 1 t : Vec Ideal S1x4096 .f32) (ix2 0 s)

theorem b1_at (c : Dev nD) (t : Fin cfg0.N) (s : Fin 4096) : (iblk m c 1 t : Vec Ideal S1x4096 .f32) (ix2 0 s) = ((m ((c : Thread nD τ).loc main_arg1)) : FVec Ideal S4096 .f32) (ix1 s) := by
  blk_ext! [iblk, V, idx t]

theorem b1_eq (c : Dev nD) (t : Fin cfg0.N) : b1 m c t = gn (m ((c : Thread nD τ).loc main_arg1)) := funext fun s => b1_at m c t s

theorem assoc (x y z : EReal) : x + y - z = x + (y - z) := by rw [sub_eq_add_neg, sub_eq_add_neg, add_assoc]

theorem o4 (c : Dev nD) (t : Fin cfg0.N) (a : Fin 256) (s : Fin 4096) : ((outsAt0 m c t.val t.isLt).1 : Vec Ideal S256x4096 .f32) (ix2 a s) = b3 m c t a s + back 1166016512#32 964689920#32 (b0 m c t a) (b2 m c t a) (b1 m c t) s := by
  by_cases h0 : t.val % 16 = 0
  · rw [outsAt0_A m c t h0]
    dsimp only
    frame_out
    open_payloads
    pointwise
    exact assoc _ _ _
  · rw [outsAt0_B m c t h0]
    dsimp only
    frame_out
    open_payloads
    pointwise
    exact assoc _ _ _

theorem o5 (c : Dev nD) (t : Fin cfg0.N) (a : Fin 256) (s : Fin 4096) : ((outsAt0 m c t.val t.isLt).2.1 : Vec Ideal S256x4096 .bf16) (ix2 a s) = b3 m c t a s + back 1166016512#32 964689920#32 (b0 m c t a) (b2 m c t a) (b1 m c t) s := by
  by_cases h0 : t.val % 16 = 0
  · rw [outsAt0_A m c t h0]
    dsimp only
    frame_out
    open_payloads
    pointwise
    exact assoc _ _ _
  · rw [outsAt0_B m c t h0]
    dsimp only
    frame_out
    open_payloads
    pointwise
    exact assoc _ _ _

theorem o6A (c : Dev nD) (t : Fin cfg0.N) (h0 : t.val % 16 = 0) (s : Fin 4096) : ((outsAt0 m c t.val t.isLt).2.2 : Vec Ideal S1x4096 .f32) (ix2 0 s) = ∑ a : Fin 256, gain 1166016512#32 (b0 m c t a) (b2 m c t a) s := by
  rw [outsAt0_A m c t h0]
  dsimp only
  frame_out
  open_payloads
  pointwise
  rfl

theorem o6B (c : Dev nD) (t : Fin cfg0.N) (h0 : ¬t.val % 16 = 0) (s : Fin 4096) : ((outsAt0 m c t.val t.isLt).2.2 : Vec Ideal S1x4096 .f32) (ix2 0 s) =
    ((outsAt0 m c (t.val - 1) (Nat.lt_of_le_of_lt (Nat.sub_le _ _) t.isLt)).2.2 : Vec Ideal S1x4096 .f32) (ix2 0 s) + ∑ a : Fin 256, gain 1166016512#32 (b0 m c t a) (b2 m c t a) s := by
  rw [outsAt0_B m c t h0]
  dsimp only
  frame_out
  open_payloads
  pointwise
  rfl

theorem tile (c : Dev nD) (t : Fin cfg0.N) (s : Fin 4096) : (∑ a : Fin 256, gain 1166016512#32 (b0 m c t a) (b2 m c t a) s) = ∑ a : Fin 256, colN (m ((c : Thread nD τ).loc main_arg0)) (m ((c : Thread nD τ).loc main_arg2)) s (t.val * 256 + a.val) := by
  refine Finset.sum_congr rfl fun a _ => ?_
  have h : t.val * 256 + a.val < 4096 := by have hN : t.val < 16 := lt_of_lt_of_eq t.isLt N_0; have := a.isLt; omega
  rw [colN_of _ _ _ _ h, b0_eq m c t a h, b2_eq m c t a h]

theorem acc (c : Dev nD) (s : Fin 4096) : ∀ (n : ℕ) (hn : n < cfg0.N), ((outsAt0 m c n hn).2.2 : Vec Ideal S1x4096 .f32) (ix2 0 s) =
    ∑ p ∈ Finset.range (n + 1), ∑ a : Fin 256, colN (m ((c : Thread nD τ).loc main_arg0)) (m ((c : Thread nD τ).loc main_arg2)) s (p * 256 + a.val)
  | 0, hn => by
    rw [Finset.sum_range_one]
    exact (o6A m c ⟨0, hn⟩ rfl s).trans (tile m c ⟨0, hn⟩ s)
  | n + 1, hn => by
    have hN : n + 1 < 16 := lt_of_lt_of_eq hn N_0
    rw [Finset.sum_range_succ]
    refine (o6B m c ⟨n + 1, hn⟩ (by show ¬(n + 1) % 16 = 0; omega) s).trans ?_
    exact congrArg₂ (· + ·) (acc c s n (Nat.lt_of_succ_lt hn)) (tile m c ⟨n + 1, hn⟩ s)

theorem final4 (c : Dev nD) : (dats m 0 c).arrAt 4 cfg0.N = gdx (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  have hN : t.val < 16 := lt_of_lt_of_eq t.isLt N_0
  blk_simp
  rw [after0_4]
  obtain ⟨a, s, rfl⟩ : ∃ (a : Fin 256) (s : Fin 4096), y = (ix2 a s : S256x4096.Idx) := ⟨y 0, y 1, (ix2_eta y).symm⟩
  have h : t.val * 256 + a.val < 4096 := by have := a.isLt; omega
  refine (o4 m c t a s).trans (Eq.trans ?_ (rd4 t a s (gdx (m ((c : Thread nD τ).loc main_arg0)) (m ((c : Thread nD τ).loc main_arg1)) (m ((c : Thread nD τ).loc main_arg2)) (m ((c : Thread nD τ).loc main_arg3)))).symm)
  rw [b0_eq m c t a h, b1_eq m c t, b2_eq m c t a h, b3_eq m c t a h]
  rfl

theorem final5 (c : Dev nD) : (dats m 0 c).arrAt 5 cfg0.N = (gdx (m ((c : Thread nD τ).loc main_arg0)) (m ((c : Thread nD τ).loc main_arg1)) (m ((c : Thread nD τ).loc main_arg2)) (m ((c : Thread nD τ).loc main_arg3)) : S4096x4096.Idx → EReal) := by
  refine (dats m 0 c).arrAt_eq_of_covers 5 _ (by decide +kernel) fun t hf y => ?_
  have hN : t.val < 16 := lt_of_lt_of_eq t.isLt N_0
  blk_simp
  rw [after0_5]
  obtain ⟨a, s, rfl⟩ : ∃ (a : Fin 256) (s : Fin 4096), y = (ix2 a s : S256x4096.Idx) := ⟨y 0, y 1, (ix2_eta y).symm⟩
  have h : t.val * 256 + a.val < 4096 := by have := a.isLt; omega
  refine (o5 m c t a s).trans (Eq.trans ?_ (rd5 t a s ((gdx (m ((c : Thread nD τ).loc main_arg0)) (m ((c : Thread nD τ).loc main_arg1)) (m ((c : Thread nD τ).loc main_arg2)) (m ((c : Thread nD τ).loc main_arg3)) : S4096x4096.Idx → EReal))).symm)
  rw [b0_eq m c t a h, b1_eq m c t, b2_eq m c t a h, b3_eq m c t a h]
  rfl

theorem final6 (c : Dev nD) : (dats m 0 c).arrAt 6 cfg0.N = gdg (m ((c : Thread nD τ).loc main_arg0)) (m ((c : Thread nD τ).loc main_arg2)) := by
  refine (dats m 0 c).arrAt_eq_of_covers 6 _ (by decide +kernel) fun t hf y => ?_
  have ht : t.val % 16 = 15 := (flush0_6 t).mp hf
  have hN : t.val < 16 := lt_of_lt_of_eq t.isLt N_0
  obtain ⟨s, hy⟩ : ∃ (s : Fin 4096), (y : S1x4096.Idx) = ix2 0 s := ⟨y 1, (ix2_eta (y : S1x4096.Idx)).symm.trans (congrArg (fun a : Fin 1 => (ix2 a ((y : S1x4096.Idx) 1) : S1x4096.Idx)) (Subsingleton.elim _ _))⟩
  blk_simp
  rw [after0_6]
  subst hy
  refine (acc m c s t.val t.isLt).trans (Eq.trans ?_ (rd6 t (ix2 0 s) (gdg (m ((c : Thread nD τ).loc main_arg0)) (m ((c : Thread nD τ).loc main_arg2)))).symm)
  rw [show t.val + 1 = 16 by omega, Finset.sum_range]
  unfold gdg
  refine Fin.sum_mul_add_congr fun p k hl => ?_
  exact colN_of _ _ _ _ hl

end Cert.RmsBwdIdeal.Mm

namespace Cert.RmsBwdReferenceIdeal.Mm

open Cert.RmsBwdReferenceIdeal Cert.RmsBwdReferenceIdeal.Gen Idealize.ShloMosaic Idealize.ShloMosaic.TcCoe Idealize.SL.Sem
open Cert.RmsBwdIdeal.Mm (rw' gn gdx gdg)
open Cert.Rms (mu back gain vjp)

/-- The gradient of the rows, as the reference leaves it. -/
def ref0 (x : FVec Ideal S4096x4096 .f32) (g : FVec Ideal S4096 .f32) (dh dr : FVec Ideal S4096x4096 .f32) : FVec Ideal S4096x4096 .f32 := addf dr (addf (addf (mulf (mulf dh (broadcastInDim S4096x4096 ![0, 1] bcast_S1x4096_S4096x4096_0_1 (broadcastInDim S1x4096 ![1] bcast_S4096_S1x4096_1 g))) (broadcastInDim S4096x4096 ![0, 1] bcast_S4096x1_S4096x4096_0_1 (Host.rsqrt (addf (Host.divf (broadcastInDim S4096x1 ![0] bcast_S4096_S4096x1_0 (Host.reduceAdd (mulf x x) (constant S_ .f32 0x00000000#32) reducesTo_S4096x4096_S4096_d1 h_S_)) (broadcastInDim S4096x1 ![] bcast_S_S4096x1 (constant S_ .f32 0x45800000#32))) (broadcastInDim S4096x1 ![] bcast_S_S4096x1 (constant S_ .f32 0x358637BD#32)))))) (mulf x (broadcastInDim S4096x4096 ![0] bcast_S4096_S4096x4096_0 (Host.reduceAdd (Host.divf (mulf (shapeCast S4096x1 (Host.reduceAdd (mulf x (mulf dh (broadcastInDim S4096x4096 ![0, 1] bcast_S1x4096_S4096x4096_0_1 (broadcastInDim S1x4096 ![1] bcast_S4096_S1x4096_1 g)))) (constant S_ .f32 0x00000000#32) reducesTo_S4096x4096_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf x x) (constant S_ .f32 0x00000000#32) reducesTo_S4096x4096_S4096_d1 h_S_)) (broadcastInDim S4096x1 ![] bcast_S_S4096x1 (constant S_ .f32 0x45800000#32))) (broadcastInDim S4096x1 ![] bcast_S_S4096x1 (constant S_ .f32 0x358637BD#32)))) (addf (Host.divf (broadcastInDim S4096x1 ![0] bcast_S4096_S4096x1_0 (Host.reduceAdd (mulf x x) (constant S_ .f32 0x00000000#32) reducesTo_S4096x4096_S4096_d1 h_S_)) (broadcastInDim S4096x1 ![] bcast_S_S4096x1 (constant S_ .f32 0x45800000#32))) (broadcastInDim S4096x1 ![] bcast_S_S4096x1 (constant S_ .f32 0x358637BD#32)))))) (broadcastInDim S4096x1 ![] bcast_S_S4096x1 (constant S_ .f32 0x45800000#32))) (constant S_ .f32 0x00000000#32) reducesTo_S4096x1_S4096_d1 h_S_)))) (mulf (broadcastInDim S4096x4096 ![0] bcast_S4096_S4096x4096_0 (Host.reduceAdd (Host.divf (mulf (shapeCast S4096x1 (Host.reduceAdd (mulf x (mulf dh (broadcastInDim S4096x4096 ![0, 1] bcast_S1x4096_S4096x4096_0_1 (broadcastInDim S1x4096 ![1] bcast_S4096_S1x4096_1 g)))) (constant S_ .f32 0x00000000#32) reducesTo_S4096x4096_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf x x) (constant S_ .f32 0x00000000#32) reducesTo_S4096x4096_S4096_d1 h_S_)) (broadcastInDim S4096x1 ![] bcast_S_S4096x1 (constant S_ .f32 0x45800000#32))) (broadcastInDim S4096x1 ![] bcast_S_S4096x1 (constant S_ .f32 0x358637BD#32)))) (addf (Host.divf (broadcastInDim S4096x1 ![0] bcast_S4096_S4096x1_0 (Host.reduceAdd (mulf x x) (constant S_ .f32 0x00000000#32) reducesTo_S4096x4096_S4096_d1 h_S_)) (broadcastInDim S4096x1 ![] bcast_S_S4096x1 (constant S_ .f32 0x45800000#32))) (broadcastInDim S4096x1 ![] bcast_S_S4096x1 (constant S_ .f32 0x358637BD#32)))))) (broadcastInDim S4096x1 ![] bcast_S_S4096x1 (constant S_ .f32 0x45800000#32))) (constant S_ .f32 0x00000000#32) reducesTo_S4096x1_S4096_d1 h_S_)) x))

theorem ref0_at (x : FVec Ideal S4096x4096 .f32) (g : FVec Ideal S4096 .f32) (dh dr : FVec Ideal S4096x4096 .f32) (r s : Fin 4096) :
    ref0 x g dh dr (ix2 r s) = rw' dr r s + vjp 1166016512#32 (rw' x r) (rw' dh r) (gn g) s := by
  unfold ref0; pointwise
  rfl

theorem ref0_eq (x : FVec Ideal S4096x4096 .f32) (g : FVec Ideal S4096 .f32) (dh dr : FVec Ideal S4096x4096 .f32) : ref0 x g dh dr = gdx x g dh dr := by
  funext i
  obtain ⟨r, s, rfl⟩ : ∃ (r : Fin 4096) (s : Fin 4096), i = (ix2 r s : S4096x4096.Idx) := ⟨i 0, i 1, (ix2_eta i).symm⟩
  rw [ref0_at, Cert.Rms.vjp_eq 1166016512#32 964689920#32 4096 (by norm_num) Cert.Rms.c_4096 Cert.Rms.c_4096i]
  rfl

/-- The same, rounded. -/
def ref1 (x : FVec Ideal S4096x4096 .f32) (g : FVec Ideal S4096 .f32) (dh dr : FVec Ideal S4096x4096 .f32) : FVec Ideal S4096x4096 .bf16 := truncf .bf16 (ref0 x g dh dr) bitsLt_bf16_f32

theorem ref1_eq (x : FVec Ideal S4096x4096 .f32) (g : FVec Ideal S4096 .f32) (dh dr : FVec Ideal S4096x4096 .f32) : ref1 x g dh dr = (gdx x g dh dr : S4096x4096.Idx → EReal) := by
  funext i
  unfold ref1; pointwise
  exact congrFun (ref0_eq x g dh dr) i

/-- The gradient of the gains, as the reference leaves it. -/
def ref2 (x dh : FVec Ideal S4096x4096 .f32) : FVec Ideal S1x4096 .f32 := shapeCast S1x4096 (Host.reduceAdd (shapeCast S1x4096 (Host.reduceAdd (mulf (mulf x (broadcastInDim S4096x4096 ![0, 1] bcast_S4096x1_S4096x4096_0_1 (Host.rsqrt (addf (Host.divf (broadcastInDim S4096x1 ![0] bcast_S4096_S4096x1_0 (Host.reduceAdd (mulf x x) (constant S_ .f32 0x00000000#32) reducesTo_S4096x4096_S4096_d1 h_S_)) (broadcastInDim S4096x1 ![] bcast_S_S4096x1 (constant S_ .f32 0x45800000#32))) (broadcastInDim S4096x1 ![] bcast_S_S4096x1 (constant S_ .f32 0x358637BD#32)))))) dh) (constant S_ .f32 0x00000000#32) reducesTo_S4096x4096_S4096_d0 h_S_) shapeCasts_S4096_S1x4096) (constant S_ .f32 0x00000000#32) reducesTo_S1x4096_S4096_d0 h_S_) shapeCasts_S4096_S1x4096

theorem ref2_at (x dh : FVec Ideal S4096x4096 .f32) (s : Fin 4096) : ref2 x dh (ix2 0 s) = ∑ _ : Fin 1, ∑ a : Fin 4096, x (ix2 a s) * Ideal.rsqrt (mu 1166016512#32 (rw' x a)) * dh (ix2 a s) := by
  unfold ref2; pointwise
  rfl

theorem ref2_eq (x dh : FVec Ideal S4096x4096 .f32) : ref2 x dh = gdg x dh := by
  funext i
  obtain ⟨s, rfl⟩ : ∃ (s : Fin 4096), i = (ix2 0 s : S1x4096.Idx) := ⟨i 1, (ix2_eta i).symm.trans (congrArg (fun a : Fin 1 => (ix2 a (i 1) : S1x4096.Idx)) (Subsingleton.elim _ _))⟩
  rw [ref2_at, Fin.sum_univ_one]
  unfold gdg
  refine Finset.sum_congr rfl fun a _ => ?_
  show (_ : EReal) * _ * _ = _
  unfold gain
  rw [mul_right_comm, mul_comm (x (ix2 a s))]
  rfl

end Cert.RmsBwdReferenceIdeal.Mm
end
-- ==== Proof.ClRmsBwd.lean ====
/- The claims about the gradient of the first normalisation. -/
module

public import proofs.«01_k».proof.Proof.MmRmsBwd
public import proofs.«01_k».proof.Proof.Gen.RmsBwd.Frame
public import proofs.«01_k».proof.Defs
public import Idealize.ShloMosaic.Init
public import Idealize.ShloMosaic.Adequacy

@[expose] public section

set_option maxRecDepth 16384

noncomputable section

namespace Cert.Proof.RmsBwd

open Idealize.ShloMosaic Idealize.SL.Sem Idealize.ShloMosaic.TcCoe

theorem frame_kernel : Cert.quiescent_RmsBwd := fun m ρ _ => Cert.RmsBwd.Gen.frame m ρ

theorem frame_ideal : Cert.quiescent_RmsBwdIdeal := fun m ρ _ => Cert.RmsBwdIdeal.Gen.frame m ρ

theorem frame_reference : Cert.quiescent_RmsBwdReferenceIdeal := fun m ρ _ =>
  (θ_run Cert.RmsBwdReferenceIdeal.defs _ _).mono (fun r h => ⟨fun c => (h c).2.2.2, Idealize.ShloMosaic.sem_eq_zero_of_no_sems (by decide) r.2⟩)
    (Cert.RmsBwdReferenceIdeal.Value.run m ρ)

theorem algebraic : Cert.algebraic_RmsBwdIdeal_RmsBwdReferenceIdeal := by
  intro m g m' g' _ hag
  refine ⟨fun c => (Cert.RmsBwdIdeal.Gen.dats m 0 c).arrAt 4 Cert.RmsBwdIdeal.cfg0.N, fun c => (Cert.RmsBwdIdeal.Gen.dats m 0 c).arrAt 5 Cert.RmsBwdIdeal.cfg0.N, fun c => (Cert.RmsBwdIdeal.Gen.dats m 0 c).arrAt 6 Cert.RmsBwdIdeal.cfg0.N, Cert.RmsBwdIdeal.Value.run_blocks m g, ?_⟩
  refine (θ_run Cert.RmsBwdReferenceIdeal.defs _ _).mono (fun r h c => ?_) (Cert.RmsBwdReferenceIdeal.Value.run m' g')
  obtain ⟨r0, r1, r2, ra⟩ := h c
  obtain ⟨a0, a1, a2, a3⟩ := hag c
  refine ⟨r0.trans ((Cert.RmsBwdReferenceIdeal.Mm.ref0_eq (m' ((c : Thread Cert.RmsBwdReferenceIdeal.nD Cert.RmsBwdReferenceIdeal.τ).loc Cert.RmsBwdReferenceIdeal.main_arg0)) (m' ((c : Thread Cert.RmsBwdReferenceIdeal.nD Cert.RmsBwdReferenceIdeal.τ).loc Cert.RmsBwdReferenceIdeal.main_arg1)) (m' ((c : Thread Cert.RmsBwdReferenceIdeal.nD Cert.RmsBwdReferenceIdeal.τ).loc Cert.RmsBwdReferenceIdeal.main_arg2)) (m' ((c : Thread Cert.RmsBwdReferenceIdeal.nD Cert.RmsBwdReferenceIdeal.τ).loc Cert.RmsBwdReferenceIdeal.main_arg3))).trans ?_), r1.trans ((Cert.RmsBwdReferenceIdeal.Mm.ref1_eq (m' ((c : Thread Cert.RmsBwdReferenceIdeal.nD Cert.RmsBwdReferenceIdeal.τ).loc Cert.RmsBwdReferenceIdeal.main_arg0)) (m' ((c : Thread Cert.RmsBwdReferenceIdeal.nD Cert.RmsBwdReferenceIdeal.τ).loc Cert.RmsBwdReferenceIdeal.main_arg1)) (m' ((c : Thread Cert.RmsBwdReferenceIdeal.nD Cert.RmsBwdReferenceIdeal.τ).loc Cert.RmsBwdReferenceIdeal.main_arg2)) (m' ((c : Thread Cert.RmsBwdReferenceIdeal.nD Cert.RmsBwdReferenceIdeal.τ).loc Cert.RmsBwdReferenceIdeal.main_arg3))).trans ?_), r2.trans ((Cert.RmsBwdReferenceIdeal.Mm.ref2_eq (m' ((c : Thread Cert.RmsBwdReferenceIdeal.nD Cert.RmsBwdReferenceIdeal.τ).loc Cert.RmsBwdReferenceIdeal.main_arg0)) (m' ((c : Thread Cert.RmsBwdReferenceIdeal.nD Cert.RmsBwdReferenceIdeal.τ).loc Cert.RmsBwdReferenceIdeal.main_arg2))).trans ?_), ra⟩
  · rw [a0, a1, a2, a3]; exact (Cert.RmsBwdIdeal.Mm.final4 m c).symm
  · rw [a0, a1, a2, a3]; exact (Cert.RmsBwdIdeal.Mm.final5 m c).symm
  · rw [a0, a2]; exact (Cert.RmsBwdIdeal.Mm.final6 m c).symm

end Cert.Proof.RmsBwd
end
-- ==== Proof.MmRmsFwd.lean ====
/- A layer's normalisation: what the kernel's tiles leave is the reference's. -/
module

public import proofs.«01_k».proof.Proof.RmsMath
public import proofs.«01_k».proof.Proof.Gen.RmsFwdIdeal.Value
public import proofs.«01_k».proof.Proof.Gen.RmsFwdReferenceIdeal.Run
public import Idealize.ShloMosaic.Lib.Pipeline.ValueKit
public import Idealize.ShloMosaic.Lib.WritesUnit
public import Idealize.ShloMosaic.Lib.Pipeline.ReadBack

@[expose] public section

set_option maxRecDepth 16384

noncomputable section

namespace Cert.RmsFwdIdeal.Mm

open Cert.RmsFwdIdeal Cert.RmsFwdIdeal.Gen Idealize.ShloMosaic Idealize.ShloMosaic.TcCoe Idealize.SL.Sem
open Idealize.ShloMosaic.Pipeline (Dat)
open Cert.Rms (mu norm)

theorem idx : ∀ t : Fin cfg0.N, win0_0.index t = ![t.val, 0] ∧ win0_1.index t = ![0, 0] ∧ win0_2.index t = ![t.val, 0] :=
  (by decide +kernel : ∀ t : Fin grid0.N, _)

variable (m : (ℓ : Loc nD τ sig) → Buf (Elt Ideal) ℓ)

/-- A row the kernel normalises. -/
def rw2 (X : FVec Ideal S4096x4096 .f32) (i : Fin 4096) : Fin 4096 → EReal := fun s => X (ix2 i s)

/-- The gains. -/
def gn2 (g : FVec Ideal S4096 .f32) : Fin 4096 → EReal := fun s => g (ix1 s)

/-- The normalised rows. -/
def G2 (X : FVec Ideal S4096x4096 .f32) (g : FVec Ideal S4096 .f32) : FVec Ideal S4096x4096 .bf16 := fun i => norm 1166016512#32 (rw2 X (i 0)) (gn2 g) (i 1)

theorem rd0 (t : Fin cfg0.N) (a : Fin 256) (s : Fin 4096) (X : FVec Ideal S4096x4096 .f32) :
    (((cfg0.win 0).blk t).view.read (Elt Ideal) (X : ((cfg0.win 0).blk t).view.ty.Contents (Elt Ideal)) : Vec Ideal S256x4096 .f32) (ix2 a s) = X (ix2 ⟨t.val * 256 + a.val, by have hN : t.val < 16 := lt_of_lt_of_eq t.isLt N_0; have := a.isLt; omega⟩ s) := by
  blk_simp
  blk_ext [idx t]

theorem rd2 (t : Fin cfg0.N) (a : Fin 256) (s : Fin 4096) (X : FVec Ideal S4096x4096 .bf16) :
    (((cfg0.win 2).blk t).view.read (Elt Ideal) (X : ((cfg0.win 2).blk t).view.ty.Contents (Elt Ideal)) : Vec Ideal S256x4096 .bf16) (ix2 a s) = X (ix2 ⟨t.val * 256 + a.val, by have hN : t.val < 16 := lt_of_lt_of_eq t.isLt N_0; have := a.isLt; omega⟩ s) := by
  blk_simp
  blk_ext [idx t]

/-- A row of the block. -/
def b0 (c : Dev nD) (t : Fin cfg0.N) (a : Fin 256) : Fin 4096 → EReal := fun s => (iblk m c 0 t : Vec Ideal S256x4096 .f32) (ix2 a s)

theorem b0_eq (c : Dev nD) (t : Fin cfg0.N) (a : Fin 256) (h : t.val * 256 + a.val < 4096) : b0 m c t a = rw2 (m ((c : Thread nD τ).loc main_arg0)) ⟨t.val * 256 + a.val, h⟩ :=
  funext fun s => rd0 t a s (m ((c : Thread nD τ).loc main_arg0))

/-- The gains, as the block holds them. -/
def b1 (c : Dev nD) (t : Fin cfg0.N) : Fin 4096 → EReal := fun s => (iblk m c 1 t : Vec Ideal S1x4096 .f32) (ix2 0 s)

theorem b1_at (c : Dev nD) (t : Fin cfg0.N) (s : Fin 4096) : (iblk m c 1 t : Vec Ideal S1x4096 .f32) (ix2 0 s) = ((m ((c : Thread nD τ).loc main_arg1)) : FVec Ideal S4096 .f32) (ix1 s) := by
  blk_ext! [iblk, V, idx t]

theorem b1_eq (c : Dev nD) (t : Fin cfg0.N) : b1 m c t = gn2 (m ((c : Thread nD τ).loc main_arg1)) := funext fun s => b1_at m c t s

theorem o2 (c : Dev nD) (t : Fin cfg0.N) (a : Fin 256) (s : Fin 4096) : (out0_2 (iblk m c 0 t) (iblk m c 1 t) : Vec Ideal S256x4096 .bf16) (ix2 a s) = norm 1166016512#32 (b0 m c t a) (b1 m c t) s := by
  frame_out
  open_payloads
  pointwise
  rfl

theorem final2 (c : Dev nD) : (dats m 0 c).arrAt 2 cfg0.N = G2 (m ((c : Thread nD τ).loc main_arg0)) (m ((c : Thread nD τ).loc main_arg1)) := by
  refine (dats m 0 c).arrAt_eq_of_covers 2 _ (by decide +kernel) fun t hf y => ?_
  have hN : t.val < 16 := lt_of_lt_of_eq t.isLt N_0
  blk_simp
  rw [after0_2]
  obtain ⟨a, s, rfl⟩ : ∃ (a : Fin 256) (s : Fin 4096), y = (ix2 a s : S256x4096.Idx) := ⟨y 0, y 1, (ix2_eta y).symm⟩
  have h : t.val * 256 + a.val < 4096 := by have := a.isLt; omega
  refine (o2 m c t a s).trans (Eq.trans ?_ (rd2 t a s (G2 (m ((c : Thread nD τ).loc main_arg0)) (m ((c : Thread nD τ).loc main_arg1)))).symm)
  rw [b0_eq m c t a h, b1_eq m c t]
  rfl

end Cert.RmsFwdIdeal.Mm

namespace Cert.RmsFwdReferenceIdeal.Mm

open Cert.RmsFwdReferenceIdeal Cert.RmsFwdReferenceIdeal.Gen Idealize.ShloMosaic Idealize.ShloMosaic.TcCoe Idealize.SL.Sem
open Cert.RmsFwdIdeal.Mm (rw2 gn2 G2)
open Cert.Rms (mu norm)

/-- The normalised rows, as the reference leaves them. -/
def ref0 (x : FVec Ideal S4096x4096 .f32) (g : FVec Ideal S4096 .f32) : FVec Ideal S4096x4096 .bf16 := truncf .bf16 (mulf (mulf x (broadcastInDim S4096x4096 ![0, 1] bcast_S4096x1_S4096x4096_0_1 (Host.rsqrt (addf (Host.divf (broadcastInDim S4096x1 ![0] bcast_S4096_S4096x1_0 (Host.reduceAdd (mulf x x) (constant S_ .f32 0x00000000#32) reducesTo_S4096x4096_S4096_d1 h_S_)) (broadcastInDim S4096x1 ![] bcast_S_S4096x1 (constant S_ .f32 0x45800000#32))) (broadcastInDim S4096x1 ![] bcast_S_S4096x1 (constant S_ .f32 0x358637BD#32)))))) (broadcastInDim S4096x4096 ![0, 1] bcast_S1x4096_S4096x4096_0_1 (broadcastInDim S1x4096 ![1] bcast_S4096_S1x4096_1 g))) bitsLt_bf16_f32

theorem ref0_at (x : FVec Ideal S4096x4096 .f32) (g : FVec Ideal S4096 .f32) (r : Fin 4096) (s : Fin 4096) : ref0 x g (ix2 r s) = norm 1166016512#32 (rw2 x r) (gn2 g) s := by
  unfold ref0; pointwise
  rfl

theorem ref0_eq (x : FVec Ideal S4096x4096 .f32) (g : FVec Ideal S4096 .f32) : ref0 x g = G2 x g := by
  funext i
  obtain ⟨r, s, rfl⟩ : ∃ (r : Fin 4096) (s : Fin 4096), i = (ix2 r s : S4096x4096.Idx) := ⟨i 0, i 1, (ix2_eta i).symm⟩
  exact ref0_at x g r s

end Cert.RmsFwdReferenceIdeal.Mm
end
-- ==== Proof.ClRmsFwd.lean ====
/- The claims about a layer's normalisation. -/
module

public import proofs.«01_k».proof.Proof.MmRmsFwd
public import proofs.«01_k».proof.Proof.Gen.RmsFwd.Frame
public import proofs.«01_k».proof.Defs
public import Idealize.ShloMosaic.Init
public import Idealize.ShloMosaic.Adequacy

@[expose] public section

set_option maxRecDepth 16384

noncomputable section

namespace Cert.Proof.RmsFwd

open Idealize.ShloMosaic Idealize.SL.Sem Idealize.ShloMosaic.TcCoe

theorem frame_kernel : Cert.quiescent_RmsFwd := fun m ρ _ => Cert.RmsFwd.Gen.frame m ρ

theorem frame_ideal : Cert.quiescent_RmsFwdIdeal := fun m ρ _ => Cert.RmsFwdIdeal.Gen.frame m ρ

theorem frame_reference : Cert.quiescent_RmsFwdReferenceIdeal := fun m ρ _ =>
  (θ_run Cert.RmsFwdReferenceIdeal.defs _ _).mono (fun r h => ⟨fun c => (h c).2, Idealize.ShloMosaic.sem_eq_zero_of_no_sems (by decide) r.2⟩)
    (Cert.RmsFwdReferenceIdeal.Value.run m ρ)

theorem algebraic : Cert.algebraic_RmsFwdIdeal_RmsFwdReferenceIdeal := by
  intro m g m' g' _ hag
  refine ⟨fun c => (Cert.RmsFwdIdeal.Gen.dats m 0 c).arrAt 2 Cert.RmsFwdIdeal.cfg0.N, Cert.RmsFwdIdeal.Value.run_blocks m g, ?_⟩
  refine (θ_run Cert.RmsFwdReferenceIdeal.defs _ _).mono (fun r h c => ?_) (Cert.RmsFwdReferenceIdeal.Value.run m' g')
  obtain ⟨r0, ra⟩ := h c
  obtain ⟨a0, a1⟩ := hag c
  refine ⟨r0.trans ((Cert.RmsFwdReferenceIdeal.Mm.ref0_eq (m' ((c : Thread Cert.RmsFwdReferenceIdeal.nD Cert.RmsFwdReferenceIdeal.τ).loc Cert.RmsFwdReferenceIdeal.main_arg0)) (m' ((c : Thread Cert.RmsFwdReferenceIdeal.nD Cert.RmsFwdReferenceIdeal.τ).loc Cert.RmsFwdReferenceIdeal.main_arg1))).trans ?_), ra⟩
  · rw [a0, a1]; exact (Cert.RmsFwdIdeal.Mm.final2 m c).symm

end Cert.Proof.RmsFwd
end
-- ==== Proof.MmLatFwd.lean ====
/- The latents' normalisation: what the kernel's tiles leave is the reference's. -/
module

public import proofs.«01_k».proof.Proof.RmsMath
public import proofs.«01_k».proof.Proof.Gen.LatFwdIdeal.Value
public import proofs.«01_k».proof.Proof.Gen.LatFwdReferenceIdeal.Run
public import Idealize.ShloMosaic.Lib.Pipeline.ValueKit
public import Idealize.ShloMosaic.Lib.WritesUnit
public import Idealize.ShloMosaic.Lib.Pipeline.ReadBack

@[expose] public section

set_option maxRecDepth 16384

noncomputable section

namespace Cert.LatFwdIdeal.Mm

open Cert.LatFwdIdeal Cert.LatFwdIdeal.Gen Idealize.ShloMosaic Idealize.ShloMosaic.TcCoe Idealize.SL.Sem
open Idealize.ShloMosaic.Pipeline (Dat)
open Cert.Rms (mu norm)

theorem idx : ∀ t : Fin cfg0.N, win0_0.index t = ![t.val, 8] ∧ win0_1.index t = ![t.val, 18] ∧ win0_2.index t = ![0, 0] ∧ win0_3.index t = ![0, 0] ∧ win0_4.index t = ![t.val, 0] ∧ win0_5.index t = ![t.val, 0] :=
  (by decide +kernel : ∀ t : Fin grid0.N, _)

variable (m : (ℓ : Loc nD τ sig) → Buf (Elt Ideal) ℓ)

/-- A row the kernel normalises. -/
def rw4 (X : FVec Ideal S4096x10240 .bf16) (i : Fin 4096) : Fin 1024 → EReal := fun s => X (ix2 i ⟨8192 + s.val, by have := s.isLt; omega⟩)

/-- The gains. -/
def gn4 (g : FVec Ideal S1024 .f32) : Fin 1024 → EReal := fun s => g (ix1 s)

/-- The normalised rows. -/
def G4 (X : FVec Ideal S4096x10240 .bf16) (g : FVec Ideal S1024 .f32) : FVec Ideal S4096x1024 .bf16 := fun i => norm 1149239296#32 (rw4 X (i 0)) (gn4 g) (i 1)

theorem rd0 (t : Fin cfg0.N) (a : Fin 256) (s : Fin 1024) (X : FVec Ideal S4096x10240 .bf16) :
    (((cfg0.win 0).blk t).view.read (Elt Ideal) (X : ((cfg0.win 0).blk t).view.ty.Contents (Elt Ideal)) : Vec Ideal S256x1024 .bf16) (ix2 a s) = X (ix2 ⟨t.val * 256 + a.val, by have hN : t.val < 16 := lt_of_lt_of_eq t.isLt N_0; have := a.isLt; omega⟩ ⟨8192 + s.val, by have := s.isLt; omega⟩) := by
  blk_simp
  blk_ext [idx t]

theorem rd4 (t : Fin cfg0.N) (a : Fin 256) (s : Fin 1024) (X : FVec Ideal S4096x1024 .bf16) :
    (((cfg0.win 4).blk t).view.read (Elt Ideal) (X : ((cfg0.win 4).blk t).view.ty.Contents (Elt Ideal)) : Vec Ideal S256x1024 .bf16) (ix2 a s) = X (ix2 ⟨t.val * 256 + a.val, by have hN : t.val < 16 := lt_of_lt_of_eq t.isLt N_0; have := a.isLt; omega⟩ s) := by
  blk_simp
  blk_ext [idx t]

/-- A row of the block. -/
def b0 (c : Dev nD) (t : Fin cfg0.N) (a : Fin 256) : Fin 1024 → EReal := fun s => (iblk m c 0 t : Vec Ideal S256x1024 .bf16) (ix2 a s)

theorem b0_eq (c : Dev nD) (t : Fin cfg0.N) (a : Fin 256) (h : t.val * 256 + a.val < 4096) : b0 m c t a = rw4 (m ((c : Thread nD τ).loc main_arg0)) ⟨t.val * 256 + a.val, h⟩ :=
  funext fun s => rd0 t a s (m ((c : Thread nD τ).loc main_arg0))

/-- The gains, as the block holds them. -/
def b2 (c : Dev nD) (t : Fin cfg0.N) : Fin 1024 → EReal := fun s => (iblk m c 2 t : Vec Ideal S1x1024 .f32) (ix2 0 s)

theorem b2_at (c : Dev nD) (t : Fin cfg0.N) (s : Fin 1024) : (iblk m c 2 t : Vec Ideal S1x1024 .f32) (ix2 0 s) = ((m ((c : Thread nD τ).loc main_arg1)) : FVec Ideal S1024 .f32) (ix1 s) := by
  blk_ext! [iblk, V, idx t]

theorem b2_eq (c : Dev nD) (t : Fin cfg0.N) : b2 m c t = gn4 (m ((c : Thread nD τ).loc main_arg1)) := funext fun s => b2_at m c t s

theorem o4 (c : Dev nD) (t : Fin cfg0.N) (a : Fin 256) (s : Fin 1024) : (out0_4 (iblk m c 0 t) (iblk m c 1 t) (iblk m c 2 t) (iblk m c 3 t) : Vec Ideal S256x1024 .bf16) (ix2 a s) = norm 1149239296#32 (b0 m c t a) (b2 m c t) s := by
  frame_out
  open_payloads
  pointwise
  rfl

theorem final4 (c : Dev nD) : (dats m 0 c).arrAt 4 cfg0.N = G4 (m ((c : Thread nD τ).loc main_arg0)) (m ((c : Thread nD τ).loc main_arg1)) := by
  refine (dats m 0 c).arrAt_eq_of_covers 4 _ (by decide +kernel) fun t hf y => ?_
  have hN : t.val < 16 := lt_of_lt_of_eq t.isLt N_0
  blk_simp
  rw [after0_4]
  obtain ⟨a, s, rfl⟩ : ∃ (a : Fin 256) (s : Fin 1024), y = (ix2 a s : S256x1024.Idx) := ⟨y 0, y 1, (ix2_eta y).symm⟩
  have h : t.val * 256 + a.val < 4096 := by have := a.isLt; omega
  refine (o4 m c t a s).trans (Eq.trans ?_ (rd4 t a s (G4 (m ((c : Thread nD τ).loc main_arg0)) (m ((c : Thread nD τ).loc main_arg1)))).symm)
  rw [b0_eq m c t a h, b2_eq m c t]
  rfl

/-- A row the kernel normalises. -/
def rw5 (X : FVec Ideal S4096x10240 .bf16) (i : Fin 4096) : Fin 512 → EReal := fun s => X (ix2 i ⟨9216 + s.val, by have := s.isLt; omega⟩)

/-- The gains. -/
def gn5 (g : FVec Ideal S512 .f32) : Fin 512 → EReal := fun s => g (ix1 s)

/-- The normalised rows. -/
def G5 (X : FVec Ideal S4096x10240 .bf16) (g : FVec Ideal S512 .f32) : FVec Ideal S4096x512 .bf16 := fun i => norm 1140850688#32 (rw5 X (i 0)) (gn5 g) (i 1)

theorem rd1 (t : Fin cfg0.N) (a : Fin 256) (s : Fin 512) (X : FVec Ideal S4096x10240 .bf16) :
    (((cfg0.win 1).blk t).view.read (Elt Ideal) (X : ((cfg0.win 1).blk t).view.ty.Contents (Elt Ideal)) : Vec Ideal S256x512 .bf16) (ix2 a s) = X (ix2 ⟨t.val * 256 + a.val, by have hN : t.val < 16 := lt_of_lt_of_eq t.isLt N_0; have := a.isLt; omega⟩ ⟨9216 + s.val, by have := s.isLt; omega⟩) := by
  blk_simp
  blk_ext [idx t]

theorem rd5 (t : Fin cfg0.N) (a : Fin 256) (s : Fin 512) (X : FVec Ideal S4096x512 .bf16) :
    (((cfg0.win 5).blk t).view.read (Elt Ideal) (X : ((cfg0.win 5).blk t).view.ty.Contents (Elt Ideal)) : Vec Ideal S256x512 .bf16) (ix2 a s) = X (ix2 ⟨t.val * 256 + a.val, by have hN : t.val < 16 := lt_of_lt_of_eq t.isLt N_0; have := a.isLt; omega⟩ s) := by
  blk_simp
  blk_ext [idx t]

/-- A row of the block. -/
def b1 (c : Dev nD) (t : Fin cfg0.N) (a : Fin 256) : Fin 512 → EReal := fun s => (iblk m c 1 t : Vec Ideal S256x512 .bf16) (ix2 a s)

theorem b1_eq (c : Dev nD) (t : Fin cfg0.N) (a : Fin 256) (h : t.val * 256 + a.val < 4096) : b1 m c t a = rw5 (m ((c : Thread nD τ).loc main_arg0)) ⟨t.val * 256 + a.val, h⟩ :=
  funext fun s => rd1 t a s (m ((c : Thread nD τ).loc main_arg0))

/-- The gains, as the block holds them. -/
def b3 (c : Dev nD) (t : Fin cfg0.N) : Fin 512 → EReal := fun s => (iblk m c 3 t : Vec Ideal S1x512 .f32) (ix2 0 s)

theorem b3_at (c : Dev nD) (t : Fin cfg0.N) (s : Fin 512) : (iblk m c 3 t : Vec Ideal S1x512 .f32) (ix2 0 s) = ((m ((c : Thread nD τ).loc main_arg2)) : FVec Ideal S512 .f32) (ix1 s) := by
  blk_ext! [iblk, V, idx t]

theorem b3_eq (c : Dev nD) (t : Fin cfg0.N) : b3 m c t = gn5 (m ((c : Thread nD τ).loc main_arg2)) := funext fun s => b3_at m c t s

theorem o5 (c : Dev nD) (t : Fin cfg0.N) (a : Fin 256) (s : Fin 512) : (out0_5 (iblk m c 0 t) (iblk m c 1 t) (iblk m c 2 t) (iblk m c 3 t) : Vec Ideal S256x512 .bf16) (ix2 a s) = norm 1140850688#32 (b1 m c t a) (b3 m c t) s := by
  frame_out
  open_payloads
  pointwise
  rfl

theorem final5 (c : Dev nD) : (dats m 0 c).arrAt 5 cfg0.N = G5 (m ((c : Thread nD τ).loc main_arg0)) (m ((c : Thread nD τ).loc main_arg2)) := by
  refine (dats m 0 c).arrAt_eq_of_covers 5 _ (by decide +kernel) fun t hf y => ?_
  have hN : t.val < 16 := lt_of_lt_of_eq t.isLt N_0
  blk_simp
  rw [after0_5]
  obtain ⟨a, s, rfl⟩ : ∃ (a : Fin 256) (s : Fin 512), y = (ix2 a s : S256x512.Idx) := ⟨y 0, y 1, (ix2_eta y).symm⟩
  have h : t.val * 256 + a.val < 4096 := by have := a.isLt; omega
  refine (o5 m c t a s).trans (Eq.trans ?_ (rd5 t a s (G5 (m ((c : Thread nD τ).loc main_arg0)) (m ((c : Thread nD τ).loc main_arg2)))).symm)
  rw [b1_eq m c t a h, b3_eq m c t]
  rfl

end Cert.LatFwdIdeal.Mm

namespace Cert.LatFwdReferenceIdeal.Mm

open Cert.LatFwdReferenceIdeal Cert.LatFwdReferenceIdeal.Gen Idealize.ShloMosaic Idealize.ShloMosaic.TcCoe Idealize.SL.Sem
open Cert.LatFwdIdeal.Mm (rw4 gn4 G4 rw5 gn5 G5)
open Cert.Rms (mu norm)

/-- The normalised rows, as the reference leaves them. -/
def ref0 (x : FVec Ideal S4096x10240 .bf16) (g : FVec Ideal S1024 .f32) : FVec Ideal S4096x1024 .bf16 := truncf .bf16 (mulf (mulf (extf .f32 (extractStridedSlice S4096x1024 ![0, 8192] x slices_S4096x10240_S4096x1024_0_8192) bitsLt_bf16_f32) (broadcastInDim S4096x1024 ![0, 1] bcast_S4096x1_S4096x1024_0_1 (Host.rsqrt (addf (Host.divf (broadcastInDim S4096x1 ![0] bcast_S4096_S4096x1_0 (Host.reduceAdd (mulf (extf .f32 (extractStridedSlice S4096x1024 ![0, 8192] x slices_S4096x10240_S4096x1024_0_8192) bitsLt_bf16_f32) (extf .f32 (extractStridedSlice S4096x1024 ![0, 8192] x slices_S4096x10240_S4096x1024_0_8192) bitsLt_bf16_f32)) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 (broadcastInDim S1x1024 ![1] bcast_S1024_S1x1024_1 g))) bitsLt_bf16_f32

theorem ref0_at (x : FVec Ideal S4096x10240 .bf16) (g : FVec Ideal S1024 .f32) (r : Fin 4096) (s : Fin 1024) : ref0 x g (ix2 r s) = norm 1149239296#32 (rw4 x r) (gn4 g) s := by
  unfold ref0; pointwise
  rfl

theorem ref0_eq (x : FVec Ideal S4096x10240 .bf16) (g : FVec Ideal S1024 .f32) : ref0 x g = G4 x g := by
  funext i
  obtain ⟨r, s, rfl⟩ : ∃ (r : Fin 4096) (s : Fin 1024), i = (ix2 r s : S4096x1024.Idx) := ⟨i 0, i 1, (ix2_eta i).symm⟩
  exact ref0_at x g r s

/-- The normalised rows, as the reference leaves them. -/
def ref1 (x : FVec Ideal S4096x10240 .bf16) (g : FVec Ideal S512 .f32) : FVec Ideal S4096x512 .bf16 := truncf .bf16 (mulf (mulf (extf .f32 (extractStridedSlice S4096x512 ![0, 9216] x slices_S4096x10240_S4096x512_0_9216) bitsLt_bf16_f32) (broadcastInDim S4096x512 ![0, 1] bcast_S4096x1_S4096x512_0_1 (Host.rsqrt (addf (Host.divf (broadcastInDim S4096x1 ![0] bcast_S4096_S4096x1_0 (Host.reduceAdd (mulf (extf .f32 (extractStridedSlice S4096x512 ![0, 9216] x slices_S4096x10240_S4096x512_0_9216) bitsLt_bf16_f32) (extf .f32 (extractStridedSlice S4096x512 ![0, 9216] x slices_S4096x10240_S4096x512_0_9216) bitsLt_bf16_f32)) (constant S_ .f32 0x00000000#32) reducesTo_S4096x512_S4096_d1 h_S_)) (broadcastInDim S4096x1 ![] bcast_S_S4096x1 (constant S_ .f32 0x44000000#32))) (broadcastInDim S4096x1 ![] bcast_S_S4096x1 (constant S_ .f32 0x358637BD#32)))))) (broadcastInDim S4096x512 ![0, 1] bcast_S1x512_S4096x512_0_1 (broadcastInDim S1x512 ![1] bcast_S512_S1x512_1 g))) bitsLt_bf16_f32

theorem ref1_at (x : FVec Ideal S4096x10240 .bf16) (g : FVec Ideal S512 .f32) (r : Fin 4096) (s : Fin 512) : ref1 x g (ix2 r s) = norm 1140850688#32 (rw5 x r) (gn5 g) s := by
  unfold ref1; pointwise
  rfl

theorem ref1_eq (x : FVec Ideal S4096x10240 .bf16) (g : FVec Ideal S512 .f32) : ref1 x g = G5 x g := by
  funext i
  obtain ⟨r, s, rfl⟩ : ∃ (r : Fin 4096) (s : Fin 512), i = (ix2 r s : S4096x512.Idx) := ⟨i 0, i 1, (ix2_eta i).symm⟩
  exact ref1_at x g r s

end Cert.LatFwdReferenceIdeal.Mm
end
-- ==== Proof.ClLatFwd.lean ====
/- The claims about the latents' normalisation. -/
module

public import proofs.«01_k».proof.Proof.MmLatFwd
public import proofs.«01_k».proof.Proof.Gen.LatFwd.Frame
public import proofs.«01_k».proof.Defs
public import Idealize.ShloMosaic.Init
public import Idealize.ShloMosaic.Adequacy

@[expose] public section

set_option maxRecDepth 16384

noncomputable section

namespace Cert.Proof.LatFwd

open Idealize.ShloMosaic Idealize.SL.Sem Idealize.ShloMosaic.TcCoe

theorem frame_kernel : Cert.quiescent_LatFwd := fun m ρ _ => Cert.LatFwd.Gen.frame m ρ

theorem frame_ideal : Cert.quiescent_LatFwdIdeal := fun m ρ _ => Cert.LatFwdIdeal.Gen.frame m ρ

theorem frame_reference : Cert.quiescent_LatFwdReferenceIdeal := fun m ρ _ =>
  (θ_run Cert.LatFwdReferenceIdeal.defs _ _).mono (fun r h => ⟨fun c => (h c).2.2, Idealize.ShloMosaic.sem_eq_zero_of_no_sems (by decide) r.2⟩)
    (Cert.LatFwdReferenceIdeal.Value.run m ρ)

theorem algebraic : Cert.algebraic_LatFwdIdeal_LatFwdReferenceIdeal := by
  intro m g m' g' _ hag
  refine ⟨fun c => (Cert.LatFwdIdeal.Gen.dats m 0 c).arrAt 4 Cert.LatFwdIdeal.cfg0.N, fun c => (Cert.LatFwdIdeal.Gen.dats m 0 c).arrAt 5 Cert.LatFwdIdeal.cfg0.N, Cert.LatFwdIdeal.Value.run_blocks m g, ?_⟩
  refine (θ_run Cert.LatFwdReferenceIdeal.defs _ _).mono (fun r h c => ?_) (Cert.LatFwdReferenceIdeal.Value.run m' g')
  obtain ⟨r0, r1, ra⟩ := h c
  obtain ⟨a0, a1, a2⟩ := hag c
  refine ⟨r0.trans ((Cert.LatFwdReferenceIdeal.Mm.ref0_eq (m' ((c : Thread Cert.LatFwdReferenceIdeal.nD Cert.LatFwdReferenceIdeal.τ).loc Cert.LatFwdReferenceIdeal.main_arg0)) (m' ((c : Thread Cert.LatFwdReferenceIdeal.nD Cert.LatFwdReferenceIdeal.τ).loc Cert.LatFwdReferenceIdeal.main_arg1))).trans ?_), r1.trans ((Cert.LatFwdReferenceIdeal.Mm.ref1_eq (m' ((c : Thread Cert.LatFwdReferenceIdeal.nD Cert.LatFwdReferenceIdeal.τ).loc Cert.LatFwdReferenceIdeal.main_arg0)) (m' ((c : Thread Cert.LatFwdReferenceIdeal.nD Cert.LatFwdReferenceIdeal.τ).loc Cert.LatFwdReferenceIdeal.main_arg2))).trans ?_), ra⟩
  · rw [a0, a1]; exact (Cert.LatFwdIdeal.Mm.final4 m c).symm
  · rw [a0, a2]; exact (Cert.LatFwdIdeal.Mm.final5 m c).symm

end Cert.Proof.LatFwd
end
-- ==== Proof.MmLatBwd.lean ====
/- The gradient of the latents' normalisations: what the kernel's tiles leave is the reference's. -/
module

public import proofs.«01_k».proof.Proof.RmsMath
public import proofs.«01_k».proof.Proof.Gen.LatBwdIdeal.Value
public import proofs.«01_k».proof.Proof.Gen.LatBwdReferenceIdeal.Run
public import Idealize.ShloMosaic.Lib.Pipeline.ValueKit
public import Idealize.ShloMosaic.Lib.WritesUnit
public import Idealize.ShloMosaic.Lib.Pipeline.ReadBack

@[expose] public section

set_option maxRecDepth 16384

noncomputable section

namespace Cert.LatBwdIdeal.Mm

open Cert.LatBwdIdeal Cert.LatBwdIdeal.Gen Idealize.ShloMosaic Idealize.ShloMosaic.TcCoe Idealize.SL.Sem
open Idealize.ShloMosaic.Pipeline (Dat)
open Cert.Rms (mu back gain vjp)

/-- Four stretches of a row side by side. -/
def tl (A : Fin 1024 → EReal) (B : Fin 512 → EReal) (P : Fin 128 → EReal) (Z : Fin 384 → EReal) (s : ℕ) : EReal :=
  if h : s < 1024 then A ⟨s, h⟩ else if h : s - 1024 < 512 then B ⟨s - 1024, h⟩ else if h : s - 1024 - 512 < 128 then P ⟨s - 1024 - 512, h⟩ else if h : s - 1024 - 512 - 128 < 384 then Z ⟨s - 1024 - 512 - 128, h⟩ else 0

theorem tl_A (A : Fin 1024 → EReal) (B : Fin 512 → EReal) (P : Fin 128 → EReal) (Z : Fin 384 → EReal) (n : ℕ) (s : Fin 1024) (h : n = s.val) : tl A B P Z n = A s := by
  subst h; exact dif_pos s.isLt

theorem tl_B (A : Fin 1024 → EReal) (B : Fin 512 → EReal) (P : Fin 128 → EReal) (Z : Fin 384 → EReal) (n : ℕ) (s : Fin 512) (h : n = 1024 + s.val) : tl A B P Z n = B s := by
  subst h
  unfold tl
  have := s.isLt
  rw [dif_neg (by omega), dif_pos (by omega)]
  congr 1; apply Fin.ext; show 1024 + s.val - 1024 = s.val; omega

theorem tl_P (A : Fin 1024 → EReal) (B : Fin 512 → EReal) (P : Fin 128 → EReal) (Z : Fin 384 → EReal) (n : ℕ) (s : Fin 128) (h : n = 1536 + s.val) : tl A B P Z n = P s := by
  subst h
  unfold tl
  have := s.isLt
  rw [dif_neg (by omega), dif_neg (by omega), dif_pos (by omega)]
  congr 1; apply Fin.ext; show 1536 + s.val - 1024 - 512 = s.val; omega

theorem tl_Z (A : Fin 1024 → EReal) (B : Fin 512 → EReal) (P : Fin 128 → EReal) (Z : Fin 384 → EReal) (n : ℕ) (s : Fin 384) (h : n = 1664 + s.val) : tl A B P Z n = Z s := by
  subst h
  unfold tl
  have := s.isLt
  rw [dif_neg (by omega), dif_neg (by omega), dif_neg (by omega), dif_pos (by omega)]
  congr 1; apply Fin.ext; show 1664 + s.val - 1024 - 512 - 128 = s.val; omega

/-- What the four stores leave in the tail's block. -/
theorem canon4 (p0 : Vec Ideal S256x384 .bf16) (p1 : Vec Ideal S256x128 .bf16) (p2 : Vec Ideal S256x512 .bf16) (p3 : Vec Ideal S256x1024 .bf16)
    (h0 : ∀ a : Fin 2, (![0, 1664] : Fin 2 → ℕ) a + (![256, 384] : Fin 2 → ℕ) a ≤ S256x2048.size a) (h1 : ∀ a : Fin 2, (![0, 1536] : Fin 2 → ℕ) a + (![256, 128] : Fin 2 → ℕ) a ≤ S256x2048.size a)
    (h2 : ∀ a : Fin 2, (![0, 1024] : Fin 2 → ℕ) a + (![256, 512] : Fin 2 → ℕ) a ≤ S256x2048.size a) (h3 : ∀ a : Fin 2, (![0, 0] : Fin 2 → ℕ) a + (![256, 1024] : Fin 2 → ℕ) a ≤ S256x2048.size a) (r : Fin 256) (s : Fin 2048) :
    (View.canon [(⟨Rect.unit ![0, 1664] ![256, 384] h0, p0⟩ : View.Piece (Elt Ideal) S256x2048 .bf16), ⟨Rect.unit ![0, 1536] ![256, 128] h1, p1⟩, ⟨Rect.unit ![0, 1024] ![256, 512] h2, p2⟩, ⟨Rect.unit ![0, 0] ![256, 1024] h3, p3⟩] : Vec Ideal S256x2048 .bf16) (ix2 r s) =
      tl (fun s => p3 (ix2 r s)) (fun s => p2 (ix2 r s)) (fun s => p1 (ix2 r s)) (fun s => p0 (ix2 r s)) s.val := by
  refine View.canon_apply_of_pieces (Val := Elt Ideal) (e := .bf16) (fun y : S256x2048.Idx => (tl (fun s => p3 (ix2 (y 0) s)) (fun s => p2 (ix2 (y 0) s)) (fun s => p1 (ix2 (y 0) s)) (fun s => p0 (ix2 (y 0) s)) (y 1).val : EReal)) _ ?_ (ix2 r s) ?_
  · intro pc hpc x
    rcases List.mem_cons.mp hpc with rfl | hpc
    · obtain ⟨a, b, rfl⟩ : ∃ (a : Fin 256) (b : Fin 384), x = (ix2 a b : S256x384.Idx) := ⟨x 0, x 1, (ix2_eta x).symm⟩
      refine Eq.trans ?_ (tl_Z _ _ _ _ _ b (by show 1664 + 1 * b.val = _; omega)).symm
      show p0 _ = p0 _
      congr 1; apply congrArg (fun a => (ix2 a b : S256x384.Idx)); apply Fin.ext; show a.val = 0 + 1 * a.val; omega
    rcases List.mem_cons.mp hpc with rfl | hpc
    · obtain ⟨a, b, rfl⟩ : ∃ (a : Fin 256) (b : Fin 128), x = (ix2 a b : S256x128.Idx) := ⟨x 0, x 1, (ix2_eta x).symm⟩
      refine Eq.trans ?_ (tl_P _ _ _ _ _ b (by show 1536 + 1 * b.val = _; omega)).symm
      show p1 _ = p1 _
      congr 1; apply congrArg (fun a => (ix2 a b : S256x128.Idx)); apply Fin.ext; show a.val = 0 + 1 * a.val; omega
    rcases List.mem_cons.mp hpc with rfl | hpc
    · obtain ⟨a, b, rfl⟩ : ∃ (a : Fin 256) (b : Fin 512), x = (ix2 a b : S256x512.Idx) := ⟨x 0, x 1, (ix2_eta x).symm⟩
      refine Eq.trans ?_ (tl_B _ _ _ _ _ b (by show 1024 + 1 * b.val = _; omega)).symm
      show p2 _ = p2 _
      congr 1; apply congrArg (fun a => (ix2 a b : S256x512.Idx)); apply Fin.ext; show a.val = 0 + 1 * a.val; omega
    rcases List.mem_cons.mp hpc with rfl | hpc
    · obtain ⟨a, b, rfl⟩ : ∃ (a : Fin 256) (b : Fin 1024), x = (ix2 a b : S256x1024.Idx) := ⟨x 0, x 1, (ix2_eta x).symm⟩
      refine Eq.trans ?_ (tl_A _ _ _ _ _ b (by show 0 + 1 * b.val = _; omega)).symm
      show p3 _ = p3 _
      congr 1; apply congrArg (fun a => (ix2 a b : S256x1024.Idx)); apply Fin.ext; show a.val = 0 + 1 * a.val; omega
    exact absurd hpc List.not_mem_nil
  · have hr := r.isLt
    have hs := s.isLt
    by_cases c3 : s.val < 1024
    · refine ⟨_, List.mem_cons_of_mem _ (List.mem_cons_of_mem _ (List.mem_cons_of_mem _ List.mem_cons_self)), (Rect.mem_set_unit (inb := h3)).mpr fun a => ?_⟩
      match a with
      | ⟨0, _⟩ => show 0 ≤ r.val ∧ r.val < 0 + 256; omega
      | ⟨1, _⟩ => show 0 ≤ s.val ∧ s.val < 0 + 1024; omega
    by_cases c2 : s.val < 1536
    · refine ⟨_, List.mem_cons_of_mem _ (List.mem_cons_of_mem _ List.mem_cons_self), (Rect.mem_set_unit (inb := h2)).mpr fun a => ?_⟩
      match a with
      | ⟨0, _⟩ => show 0 ≤ r.val ∧ r.val < 0 + 256; omega
      | ⟨1, _⟩ => show 1024 ≤ s.val ∧ s.val < 1024 + 512; omega
    by_cases c1 : s.val < 1664
    · refine ⟨_, List.mem_cons_of_mem _ List.mem_cons_self, (Rect.mem_set_unit (inb := h1)).mpr fun a => ?_⟩
      match a with
      | ⟨0, _⟩ => show 0 ≤ r.val ∧ r.val < 0 + 256; omega
      | ⟨1, _⟩ => show 1536 ≤ s.val ∧ s.val < 1536 + 128; omega
    · refine ⟨_, List.mem_cons_self, (Rect.mem_set_unit (inb := h0)).mpr fun a => ?_⟩
      match a with
      | ⟨0, _⟩ => show 0 ≤ r.val ∧ r.val < 0 + 256; omega
      | ⟨1, _⟩ => show 1664 ≤ s.val ∧ s.val < 1664 + 384; omega

/-- A row of the query part. -/
def rq (X : FVec Ideal S4096x10240 .bf16) (i : Fin 4096) : Fin 1024 → EReal := fun s => X (ix2 i ⟨8192 + s.val, by have := s.isLt; omega⟩)

/-- A row of the key-value part. -/
def rk (X : FVec Ideal S4096x10240 .bf16) (i : Fin 4096) : Fin 512 → EReal := fun s => X (ix2 i ⟨9216 + s.val, by have := s.isLt; omega⟩)

/-- A row of an array as wide as the query part. -/
def wq (X : FVec Ideal S4096x1024 .f32) (i : Fin 4096) : Fin 1024 → EReal := fun s => X (ix2 i s)

/-- A row of an array as wide as the key-value part. -/
def wk (X : FVec Ideal S4096x512 .f32) (i : Fin 4096) : Fin 512 → EReal := fun s => X (ix2 i s)

/-- A row of the rotated part's gradient. -/
def wp (X : FVec Ideal S4096x128 .f32) (i : Fin 4096) : Fin 128 → EReal := fun s => X (ix2 i s)

/-- The query gains. -/
def gnq (g : FVec Ideal S1024 .f32) : Fin 1024 → EReal := fun s => g (ix1 s)

/-- The key-value gains. -/
def gnk (g : FVec Ideal S512 .f32) : Fin 512 → EReal := fun s => g (ix1 s)

/-- The gradient of the projected array: the given one, its tail filled in. -/
def gz (z : FVec Ideal S4096x10240 .bf16) (gq : FVec Ideal S1024 .f32) (gkv : FVec Ideal S512 .f32) (dqn : FVec Ideal S4096x1024 .f32) (dkvn : FVec Ideal S4096x512 .f32) (dpe : FVec Ideal S4096x128 .f32) (dz : FVec Ideal S4096x10240 .bf16) : FVec Ideal S4096x10240 .bf16 := fun i =>
  if (i 1).val < 8192 then dz i else
    tl (back 1149239296#32 981467136#32 (rq z (i 0)) (wq dqn (i 0)) (gnq gq)) (back 1140850688#32 989855744#32 (rk z (i 0)) (wk dkvn (i 0)) (gnk gkv)) (wp dpe (i 0)) (fun _ => 0) ((i 1).val - 8192)

theorem gz_tail (z : FVec Ideal S4096x10240 .bf16) (gq : FVec Ideal S1024 .f32) (gkv : FVec Ideal S512 .f32) (dqn : FVec Ideal S4096x1024 .f32) (dkvn : FVec Ideal S4096x512 .f32) (dpe : FVec Ideal S4096x128 .f32) (dz : FVec Ideal S4096x10240 .bf16) (i : Fin 4096) (s : Fin 2048) (h : 8192 + s.val < 10240) : gz z gq gkv dqn dkvn dpe dz (ix2 i ⟨8192 + s.val, h⟩) =
    tl (back 1149239296#32 981467136#32 (rq z i) (wq dqn i) (gnq gq)) (back 1140850688#32 989855744#32 (rk z i) (wk dkvn i) (gnk gkv)) (wp dpe i) (fun _ => 0) s.val := by
  have e : ∀ (n : ℕ) (x : EReal) (f : ℕ → EReal), n = 8192 + s.val → (if n < 8192 then x else f (n - 8192)) = f s.val := fun n x f hn => by
    subst hn; rw [if_neg (by omega), Nat.add_sub_cancel_left]
  exact e _ _ _ rfl

theorem idx : ∀ t : Fin cfg0.N, win0_0.index t = ![t.val, 8] ∧ win0_1.index t = ![t.val, 18] ∧ win0_2.index t = ![0, 0] ∧ win0_3.index t = ![0, 0] ∧ win0_4.index t = ![t.val, 0] ∧ win0_5.index t = ![t.val, 0] ∧ win0_6.index t = ![t.val, 0] ∧ win0_7.index t = ![t.val, 4] ∧ win0_8.index t = ![0, 0] ∧ win0_9.index t = ![0, 0] :=
  (by decide +kernel : ∀ t : Fin grid0.N, _)

theorem rd0 (t : Fin cfg0.N) (a : Fin 256) (s : Fin 1024) (X : FVec Ideal S4096x10240 .bf16) :
    (((cfg0.win 0).blk t).view.read (Elt Ideal) (X : ((cfg0.win 0).blk t).view.ty.Contents (Elt Ideal)) : Vec Ideal S256x1024 .bf16) (ix2 a s) = X (ix2 ⟨t.val * 256 + a.val, by have hN : t.val < 16 := lt_of_lt_of_eq t.isLt N_0; have := a.isLt; omega⟩ ⟨8192 + s.val, by have := s.isLt; omega⟩) := by
  blk_simp
  blk_ext [idx t]

theorem rd1 (t : Fin cfg0.N) (a : Fin 256) (s : Fin 512) (X : FVec Ideal S4096x10240 .bf16) :
    (((cfg0.win 1).blk t).view.read (Elt Ideal) (X : ((cfg0.win 1).blk t).view.ty.Contents (Elt Ideal)) : Vec Ideal S256x512 .bf16) (ix2 a s) = X (ix2 ⟨t.val * 256 + a.val, by have hN : t.val < 16 := lt_of_lt_of_eq t.isLt N_0; have := a.isLt; omega⟩ ⟨9216 + s.val, by have := s.isLt; omega⟩) := by
  blk_simp
  blk_ext [idx t]

theorem rd4 (t : Fin cfg0.N) (a : Fin 256) (s : Fin 1024) (X : FVec Ideal S4096x1024 .f32) :
    (((cfg0.win 4).blk t).view.read (Elt Ideal) (X : ((cfg0.win 4).blk t).view.ty.Contents (Elt Ideal)) : Vec Ideal S256x1024 .f32) (ix2 a s) = X (ix2 ⟨t.val * 256 + a.val, by have hN : t.val < 16 := lt_of_lt_of_eq t.isLt N_0; have := a.isLt; omega⟩ s) := by
  blk_simp
  blk_ext [idx t]

theorem rd5 (t : Fin cfg0.N) (a : Fin 256) (s : Fin 512) (X : FVec Ideal S4096x512 .f32) :
    (((cfg0.win 5).blk t).view.read (Elt Ideal) (X : ((cfg0.win 5).blk t).view.ty.Contents (Elt Ideal)) : Vec Ideal S256x512 .f32) (ix2 a s) = X (ix2 ⟨t.val * 256 + a.val, by have hN : t.val < 16 := lt_of_lt_of_eq t.isLt N_0; have := a.isLt; omega⟩ s) := by
  blk_simp
  blk_ext [idx t]

theorem rd6 (t : Fin cfg0.N) (a : Fin 256) (s : Fin 128) (X : FVec Ideal S4096x128 .f32) :
    (((cfg0.win 6).blk t).view.read (Elt Ideal) (X : ((cfg0.win 6).blk t).view.ty.Contents (Elt Ideal)) : Vec Ideal S256x128 .f32) (ix2 a s) = X (ix2 ⟨t.val * 256 + a.val, by have hN : t.val < 16 := lt_of_lt_of_eq t.isLt N_0; have := a.isLt; omega⟩ s) := by
  blk_simp
  blk_ext [idx t]

theorem rd7 (t : Fin cfg0.N) (a : Fin 256) (s : Fin 2048) (X : FVec Ideal S4096x10240 .bf16) :
    (((cfg0.win 7).blk t).view.read (Elt Ideal) (X : ((cfg0.win 7).blk t).view.ty.Contents (Elt Ideal)) : Vec Ideal S256x2048 .bf16) (ix2 a s) = X (ix2 ⟨t.val * 256 + a.val, by have hN : t.val < 16 := lt_of_lt_of_eq t.isLt N_0; have := a.isLt; omega⟩ ⟨8192 + s.val, by have := s.isLt; omega⟩) := by
  blk_simp
  blk_ext [idx t]

theorem rd8 (t : Fin cfg0.N) (y : S1x1024.Idx) (X : FVec Ideal S1x1024 .f32) :
    (((cfg0.win 8).blk t).view.read (Elt Ideal) (X : ((cfg0.win 8).blk t).view.ty.Contents (Elt Ideal)) : Vec Ideal S1x1024 .f32) y = X y := by
  blk_simp
  blk_ext [idx t]

theorem rd9 (t : Fin cfg0.N) (y : S1x512.Idx) (X : FVec Ideal S1x512 .f32) :
    (((cfg0.win 9).blk t).view.read (Elt Ideal) (X : ((cfg0.win 9).blk t).view.ty.Contents (Elt Ideal)) : Vec Ideal S1x512 .f32) y = X y := by
  blk_simp
  blk_ext [idx t]

variable (m : (ℓ : Loc nD τ sig) → Buf (Elt Ideal) ℓ)

/-- A row of block 0. -/
def b0 (c : Dev nD) (t : Fin cfg0.N) (a : Fin 256) : Fin 1024 → EReal := fun s => (iblk m c 0 t : Vec Ideal S256x1024 .bf16) (ix2 a s)

theorem b0_eq (c : Dev nD) (t : Fin cfg0.N) (a : Fin 256) (h : t.val * 256 + a.val < 4096) : b0 m c t a = rq (m ((c : Thread nD τ).loc main_arg0)) ⟨t.val * 256 + a.val, h⟩ :=
  funext fun s => rd0 t a s (m ((c : Thread nD τ).loc main_arg0))

/-- A row of block 1. -/
def b1 (c : Dev nD) (t : Fin cfg0.N) (a : Fin 256) : Fin 512 → EReal := fun s => (iblk m c 1 t : Vec Ideal S256x512 .bf16) (ix2 a s)

theorem b1_eq (c : Dev nD) (t : Fin cfg0.N) (a : Fin 256) (h : t.val * 256 + a.val < 4096) : b1 m c t a = rk (m ((c : Thread nD τ).loc main_arg0)) ⟨t.val * 256 + a.val, h⟩ :=
  funext fun s => rd1 t a s (m ((c : Thread nD τ).loc main_arg0))

/-- A row of block 4. -/
def b4 (c : Dev nD) (t : Fin cfg0.N) (a : Fin 256) : Fin 1024 → EReal := fun s => (iblk m c 4 t : Vec Ideal S256x1024 .f32) (ix2 a s)

theorem b4_eq (c : Dev nD) (t : Fin cfg0.N) (a : Fin 256) (h : t.val * 256 + a.val < 4096) : b4 m c t a = wq (m ((c : Thread nD τ).loc main_arg3)) ⟨t.val * 256 + a.val, h⟩ :=
  funext fun s => rd4 t a s (m ((c : Thread nD τ).loc main_arg3))

/-- A row of block 5. -/
def b5 (c : Dev nD) (t : Fin cfg0.N) (a : Fin 256) : Fin 512 → EReal := fun s => (iblk m c 5 t : Vec Ideal S256x512 .f32) (ix2 a s)

theorem b5_eq (c : Dev nD) (t : Fin cfg0.N) (a : Fin 256) (h : t.val * 256 + a.val < 4096) : b5 m c t a = wk (m ((c : Thread nD τ).loc main_arg4)) ⟨t.val * 256 + a.val, h⟩ :=
  funext fun s => rd5 t a s (m ((c : Thread nD τ).loc main_arg4))

/-- A row of block 6. -/
def b6 (c : Dev nD) (t : Fin cfg0.N) (a : Fin 256) : Fin 128 → EReal := fun s => (iblk m c 6 t : Vec Ideal S256x128 .f32) (ix2 a s)

theorem b6_eq (c : Dev nD) (t : Fin cfg0.N) (a : Fin 256) (h : t.val * 256 + a.val < 4096) : b6 m c t a = wp (m ((c : Thread nD τ).loc main_arg5)) ⟨t.val * 256 + a.val, h⟩ :=
  funext fun s => rd6 t a s (m ((c : Thread nD τ).loc main_arg5))

/-- The gains, as block 2 holds them. -/
def b2 (c : Dev nD) (t : Fin cfg0.N) : Fin 1024 → EReal := fun s => (iblk m c 2 t : Vec Ideal S1x1024 .f32) (ix2 0 s)

theorem b2_at (c : Dev nD) (t : Fin cfg0.N) (s : Fin 1024) : (iblk m c 2 t : Vec Ideal S1x1024 .f32) (ix2 0 s) = ((m ((c : Thread nD τ).loc main_arg1)) : FVec Ideal S1024 .f32) (ix1 s) := by
  blk_ext! [iblk, V, idx t]

theorem b2_eq (c : Dev nD) (t : Fin cfg0.N) : b2 m c t = gnq (m ((c : Thread nD τ).loc main_arg1)) := funext fun s => b2_at m c t s

/-- The gains, as block 3 holds them. -/
def b3 (c : Dev nD) (t : Fin cfg0.N) : Fin 512 → EReal := fun s => (iblk m c 3 t : Vec Ideal S1x512 .f32) (ix2 0 s)

theorem b3_at (c : Dev nD) (t : Fin cfg0.N) (s : Fin 512) : (iblk m c 3 t : Vec Ideal S1x512 .f32) (ix2 0 s) = ((m ((c : Thread nD τ).loc main_arg2)) : FVec Ideal S512 .f32) (ix1 s) := by
  blk_ext! [iblk, V, idx t]

theorem b3_eq (c : Dev nD) (t : Fin cfg0.N) : b3 m c t = gnk (m ((c : Thread nD τ).loc main_arg2)) := funext fun s => b3_at m c t s

theorem o7 (c : Dev nD) (t : Fin cfg0.N) (r : Fin 256) (s : Fin 2048) : ((outsAt0 m c t.val t.isLt).1 : Vec Ideal S256x2048 .bf16) (ix2 r s) =
    tl (back 1149239296#32 981467136#32 (b0 m c t r) (b4 m c t r) (b2 m c t)) (back 1140850688#32 989855744#32 (b1 m c t r) (b5 m c t r) (b3 m c t)) (b6 m c t r) (fun _ => 0) s.val := by
  by_cases h0 : t.val % 16 = 0
  · rw [outsAt0_A m c t h0 h0]
    dsimp only
    frame_out
    open_payloads
    refine (canon4 _ _ _ _ _ _ _ _ r s).trans ?_
    congr 1
    · funext s; pointwise; rfl
    · funext s; pointwise; rfl
    · funext s; pointwise
  · rw [outsAt0_B m c t h0 h0]
    dsimp only
    frame_out
    open_payloads
    refine (canon4 _ _ _ _ _ _ _ _ r s).trans ?_
    congr 1
    · funext s; pointwise; rfl
    · funext s; pointwise; rfl
    · funext s; pointwise

theorem final7 (c : Dev nD) : (dats m 0 c).arrAt 7 cfg0.N = (gz (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  refine (dats m 0 c).arrAt_eq_of_coversWhere_of_agree 7 _ (fun β => β (1 : Fin _) = 4) (by decide +kernel) (fun t hf y => ?_) (fun j hj => ?_)
  · blk_simp
    rw [after0_7]
    have hN : t.val < 16 := lt_of_lt_of_eq t.isLt N_0
    obtain ⟨a, s, rfl⟩ : ∃ (a : Fin 256) (s : Fin 2048), y = (ix2 a s : S256x2048.Idx) := ⟨y 0, y 1, (ix2_eta y).symm⟩
    have h : t.val * 256 + a.val < 4096 := by have := a.isLt; omega
    refine (o7 m c t a s).trans (Eq.trans ?_ (rd7 t a s (gz (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)))).symm)
    rw [b0_eq m c t a h, b1_eq m c t a h, b2_eq m c t, b3_eq m c t, b4_eq m c t a h, b5_eq m c t a h, b6_eq m c t a h]
    exact (gz_tail _ _ _ _ _ _ _ _ s (by have := s.isLt; omega)).symm
  · blk_simp [Pipeline.Window.cell_apply] at hj
    have hj1 : ((j : S4096x10240.Idx) 1).val < 10240 := ((j : S4096x10240.Idx) 1).isLt
    have e : (gz (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) j = (m ((c : Thread nD τ).loc main_arg6)) j := if_pos (by omega)
    refine Eq.trans ?_ e.symm
    rw [A_eq]
    entry_read
    rfl

/-- A row's part of the gradient of a gain, by the row's number. -/
def colq (X : FVec Ideal S4096x10240 .bf16) (D : FVec Ideal S4096x1024 .f32) (s : Fin 1024) (p : ℕ) : EReal := if h : p < 4096 then gain 1149239296#32 (rq X ⟨p, h⟩) (wq D ⟨p, h⟩) s else 0

theorem colq_of (X : FVec Ideal S4096x10240 .bf16) (D : FVec Ideal S4096x1024 .f32) (s : Fin 1024) (p : ℕ) (h : p < 4096) : colq X D s p = gain 1149239296#32 (rq X ⟨p, h⟩) (wq D ⟨p, h⟩) s := dif_pos h

/-- The gradient of the gains. -/
def gdgq (X : FVec Ideal S4096x10240 .bf16) (D : FVec Ideal S4096x1024 .f32) : FVec Ideal S1x1024 .f32 := fun i => ∑ a : Fin 4096, gain 1149239296#32 (rq X a) (wq D a) (i 1)

theorem o8A (c : Dev nD) (t : Fin cfg0.N) (h0 : t.val % 16 = 0) (s : Fin 1024) : ((outsAt0 m c t.val t.isLt).2.1 : Vec Ideal S1x1024 .f32) (ix2 0 s) = ∑ a : Fin 256, gain 1149239296#32 (b0 m c t a) (b4 m c t a) s := by
  rw [outsAt0_A m c t h0 h0]
  dsimp only
  frame_out
  open_payloads
  pointwise
  rfl

theorem o8B (c : Dev nD) (t : Fin cfg0.N) (h0 : ¬t.val % 16 = 0) (s : Fin 1024) : ((outsAt0 m c t.val t.isLt).2.1 : Vec Ideal S1x1024 .f32) (ix2 0 s) =
    ((outsAt0 m c (t.val - 1) (Nat.lt_of_le_of_lt (Nat.sub_le _ _) t.isLt)).2.1 : Vec Ideal S1x1024 .f32) (ix2 0 s) + ∑ a : Fin 256, gain 1149239296#32 (b0 m c t a) (b4 m c t a) s := by
  rw [outsAt0_B m c t h0 h0]
  dsimp only
  frame_out
  open_payloads
  pointwise
  rfl

theorem tileq (c : Dev nD) (t : Fin cfg0.N) (s : Fin 1024) : (∑ a : Fin 256, gain 1149239296#32 (b0 m c t a) (b4 m c t a) s) = ∑ a : Fin 256, colq (m ((c : Thread nD τ).loc main_arg0)) (m ((c : Thread nD τ).loc main_arg3)) s (t.val * 256 + a.val) := by
  refine Finset.sum_congr rfl fun a _ => ?_
  have h : t.val * 256 + a.val < 4096 := by have hN : t.val < 16 := lt_of_lt_of_eq t.isLt N_0; have := a.isLt; omega
  rw [colq_of _ _ _ _ h, b0_eq m c t a h, b4_eq m c t a h]

theorem accq (c : Dev nD) (s : Fin 1024) : ∀ (p : ℕ) (hn : p < cfg0.N), ((outsAt0 m c p hn).2.1 : Vec Ideal S1x1024 .f32) (ix2 0 s) =
    ∑ p ∈ Finset.range (p + 1), ∑ a : Fin 256, colq (m ((c : Thread nD τ).loc main_arg0)) (m ((c : Thread nD τ).loc main_arg3)) s (p * 256 + a.val)
  | 0, hn => by
    rw [Finset.sum_range_one]
    exact (o8A m c ⟨0, hn⟩ rfl s).trans (tileq m c ⟨0, hn⟩ s)
  | n + 1, hn => by
    have hN : n + 1 < 16 := lt_of_lt_of_eq hn N_0
    rw [Finset.sum_range_succ]
    refine (o8B m c ⟨n + 1, hn⟩ (by show ¬(n + 1) % 16 = 0; omega) s).trans ?_
    exact congrArg₂ (· + ·) (accq c s n (Nat.lt_of_succ_lt hn)) (tileq m c ⟨n + 1, hn⟩ s)

theorem final8 (c : Dev nD) : (dats m 0 c).arrAt 8 cfg0.N = gdgq (m ((c : Thread nD τ).loc main_arg0)) (m ((c : Thread nD τ).loc main_arg3)) := by
  refine (dats m 0 c).arrAt_eq_of_covers 8 _ (by decide +kernel) fun t hf y => ?_
  have ht : t.val % 16 = 15 := (flush0_8 t).mp hf
  have hN : t.val < 16 := lt_of_lt_of_eq t.isLt N_0
  obtain ⟨s, hy⟩ : ∃ (s : Fin 1024), (y : S1x1024.Idx) = ix2 0 s := ⟨y 1, (ix2_eta (y : S1x1024.Idx)).symm.trans (congrArg (fun a : Fin 1 => (ix2 a ((y : S1x1024.Idx) 1) : S1x1024.Idx)) (Subsingleton.elim _ _))⟩
  blk_simp
  rw [after0_8]
  subst hy
  refine (accq m c s t.val t.isLt).trans (Eq.trans ?_ (rd8 t (ix2 0 s) (gdgq (m ((c : Thread nD τ).loc main_arg0)) (m ((c : Thread nD τ).loc main_arg3)))).symm)
  rw [show t.val + 1 = 16 by omega, Finset.sum_range]
  unfold gdgq
  refine Fin.sum_mul_add_congr fun p k hl => ?_
  exact colq_of _ _ _ _ hl

/-- A row's part of the gradient of a gain, by the row's number. -/
def colk (X : FVec Ideal S4096x10240 .bf16) (D : FVec Ideal S4096x512 .f32) (s : Fin 512) (p : ℕ) : EReal := if h : p < 4096 then gain 1140850688#32 (rk X ⟨p, h⟩) (wk D ⟨p, h⟩) s else 0

theorem colk_of (X : FVec Ideal S4096x10240 .bf16) (D : FVec Ideal S4096x512 .f32) (s : Fin 512) (p : ℕ) (h : p < 4096) : colk X D s p = gain 1140850688#32 (rk X ⟨p, h⟩) (wk D ⟨p, h⟩) s := dif_pos h

/-- The gradient of the gains. -/
def gdgk (X : FVec Ideal S4096x10240 .bf16) (D : FVec Ideal S4096x512 .f32) : FVec Ideal S1x512 .f32 := fun i => ∑ a : Fin 4096, gain 1140850688#32 (rk X a) (wk D a) (i 1)

theorem o9A (c : Dev nD) (t : Fin cfg0.N) (h0 : t.val % 16 = 0) (s : Fin 512) : ((outsAt0 m c t.val t.isLt).2.2 : Vec Ideal S1x512 .f32) (ix2 0 s) = ∑ a : Fin 256, gain 1140850688#32 (b1 m c t a) (b5 m c t a) s := by
  rw [outsAt0_A m c t h0 h0]
  dsimp only
  frame_out
  open_payloads
  pointwise
  rfl

theorem o9B (c : Dev nD) (t : Fin cfg0.N) (h0 : ¬t.val % 16 = 0) (s : Fin 512) : ((outsAt0 m c t.val t.isLt).2.2 : Vec Ideal S1x512 .f32) (ix2 0 s) =
    ((outsAt0 m c (t.val - 1) (Nat.lt_of_le_of_lt (Nat.sub_le _ _) t.isLt)).2.2 : Vec Ideal S1x512 .f32) (ix2 0 s) + ∑ a : Fin 256, gain 1140850688#32 (b1 m c t a) (b5 m c t a) s := by
  rw [outsAt0_B m c t h0 h0]
  dsimp only
  frame_out
  open_payloads
  pointwise
  rfl

theorem tilek (c : Dev nD) (t : Fin cfg0.N) (s : Fin 512) : (∑ a : Fin 256, gain 1140850688#32 (b1 m c t a) (b5 m c t a) s) = ∑ a : Fin 256, colk (m ((c : Thread nD τ).loc main_arg0)) (m ((c : Thread nD τ).loc main_arg4)) s (t.val * 256 + a.val) := by
  refine Finset.sum_congr rfl fun a _ => ?_
  have h : t.val * 256 + a.val < 4096 := by have hN : t.val < 16 := lt_of_lt_of_eq t.isLt N_0; have := a.isLt; omega
  rw [colk_of _ _ _ _ h, b1_eq m c t a h, b5_eq m c t a h]

theorem acck (c : Dev nD) (s : Fin 512) : ∀ (p : ℕ) (hn : p < cfg0.N), ((outsAt0 m c p hn).2.2 : Vec Ideal S1x512 .f32) (ix2 0 s) =
    ∑ p ∈ Finset.range (p + 1), ∑ a : Fin 256, colk (m ((c : Thread nD τ).loc main_arg0)) (m ((c : Thread nD τ).loc main_arg4)) s (p * 256 + a.val)
  | 0, hn => by
    rw [Finset.sum_range_one]
    exact (o9A m c ⟨0, hn⟩ rfl s).trans (tilek m c ⟨0, hn⟩ s)
  | n + 1, hn => by
    have hN : n + 1 < 16 := lt_of_lt_of_eq hn N_0
    rw [Finset.sum_range_succ]
    refine (o9B m c ⟨n + 1, hn⟩ (by show ¬(n + 1) % 16 = 0; omega) s).trans ?_
    exact congrArg₂ (· + ·) (acck c s n (Nat.lt_of_succ_lt hn)) (tilek m c ⟨n + 1, hn⟩ s)

theorem final9 (c : Dev nD) : (dats m 0 c).arrAt 9 cfg0.N = gdgk (m ((c : Thread nD τ).loc main_arg0)) (m ((c : Thread nD τ).loc main_arg4)) := by
  refine (dats m 0 c).arrAt_eq_of_covers 9 _ (by decide +kernel) fun t hf y => ?_
  have ht : t.val % 16 = 15 := (flush0_9 t).mp hf
  have hN : t.val < 16 := lt_of_lt_of_eq t.isLt N_0
  obtain ⟨s, hy⟩ : ∃ (s : Fin 512), (y : S1x512.Idx) = ix2 0 s := ⟨y 1, (ix2_eta (y : S1x512.Idx)).symm.trans (congrArg (fun a : Fin 1 => (ix2 a ((y : S1x512.Idx) 1) : S1x512.Idx)) (Subsingleton.elim _ _))⟩
  blk_simp
  rw [after0_9]
  subst hy
  refine (acck m c s t.val t.isLt).trans (Eq.trans ?_ (rd9 t (ix2 0 s) (gdgk (m ((c : Thread nD τ).loc main_arg0)) (m ((c : Thread nD τ).loc main_arg4)))).symm)
  rw [show t.val + 1 = 16 by omega, Finset.sum_range]
  unfold gdgk
  refine Fin.sum_mul_add_congr fun p k hl => ?_
  exact colk_of _ _ _ _ hl

end Cert.LatBwdIdeal.Mm

namespace Cert.LatBwdReferenceIdeal.Mm

open Cert.LatBwdReferenceIdeal Cert.LatBwdReferenceIdeal.Gen Idealize.ShloMosaic Idealize.ShloMosaic.TcCoe Idealize.SL.Sem
open Cert.LatBwdIdeal.Mm (tl rq rk wq wk wp gnq gnk gz gdgq gdgk)
open Cert.Rms (mu back gain vjp)

/-- The gradient of a latent, as the reference leaves it. -/
def dzR_q (z : FVec Ideal S4096x10240 .bf16) (g : FVec Ideal S1024 .f32) (dy : FVec Ideal S4096x1024 .f32) : FVec Ideal S4096x1024 .bf16 := (truncf .bf16 (addf (addf (mulf (mulf dy (broadcastInDim S4096x1024 ![0, 1] bcast_S1x1024_S4096x1024_0_1 (broadcastInDim S1x1024 ![1] bcast_S1024_S1x1024_1 g))) (broadcastInDim S4096x1024 ![0, 1] bcast_S4096x1_S4096x1024_0_1 (Host.rsqrt (addf (Host.divf (broadcastInDim S4096x1 ![0] bcast_S4096_S4096x1_0 (Host.reduceAdd (mulf (extf .f32 (extractStridedSlice S4096x1024 ![0, 8192] z slices_S4096x10240_S4096x1024_0_8192) bitsLt_bf16_f32) (extf .f32 (extractStridedSlice S4096x1024 ![0, 8192] z slices_S4096x10240_S4096x1024_0_8192) bitsLt_bf16_f32)) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (mulf (extf .f32 (extractStridedSlice S4096x1024 ![0, 8192] z slices_S4096x10240_S4096x1024_0_8192) bitsLt_bf16_f32) (broadcastInDim S4096x1024 ![0] bcast_S4096_S4096x1024_0 (Host.reduceAdd (Host.divf (mulf (shapeCast S4096x1 (Host.reduceAdd (mulf (extf .f32 (extractStridedSlice S4096x1024 ![0, 8192] z slices_S4096x10240_S4096x1024_0_8192) bitsLt_bf16_f32) (mulf dy (broadcastInDim S4096x1024 ![0, 1] bcast_S1x1024_S4096x1024_0_1 (broadcastInDim S1x1024 ![1] bcast_S1024_S1x1024_1 g)))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf (extf .f32 (extractStridedSlice S4096x1024 ![0, 8192] z slices_S4096x10240_S4096x1024_0_8192) bitsLt_bf16_f32) (extf .f32 (extractStridedSlice S4096x1024 ![0, 8192] z slices_S4096x10240_S4096x1024_0_8192) bitsLt_bf16_f32)) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))) (addf (Host.divf (broadcastInDim S4096x1 ![0] bcast_S4096_S4096x1_0 (Host.reduceAdd (mulf (extf .f32 (extractStridedSlice S4096x1024 ![0, 8192] z slices_S4096x10240_S4096x1024_0_8192) bitsLt_bf16_f32) (extf .f32 (extractStridedSlice S4096x1024 ![0, 8192] z slices_S4096x10240_S4096x1024_0_8192) bitsLt_bf16_f32)) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1 ![] bcast_S_S4096x1 (constant S_ .f32 0x44800000#32))) (constant S_ .f32 0x00000000#32) reducesTo_S4096x1_S4096_d1 h_S_)))) (mulf (broadcastInDim S4096x1024 ![0] bcast_S4096_S4096x1024_0 (Host.reduceAdd (Host.divf (mulf (shapeCast S4096x1 (Host.reduceAdd (mulf (extf .f32 (extractStridedSlice S4096x1024 ![0, 8192] z slices_S4096x10240_S4096x1024_0_8192) bitsLt_bf16_f32) (mulf dy (broadcastInDim S4096x1024 ![0, 1] bcast_S1x1024_S4096x1024_0_1 (broadcastInDim S1x1024 ![1] bcast_S1024_S1x1024_1 g)))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf (extf .f32 (extractStridedSlice S4096x1024 ![0, 8192] z slices_S4096x10240_S4096x1024_0_8192) bitsLt_bf16_f32) (extf .f32 (extractStridedSlice S4096x1024 ![0, 8192] z slices_S4096x10240_S4096x1024_0_8192) bitsLt_bf16_f32)) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))) (addf (Host.divf (broadcastInDim S4096x1 ![0] bcast_S4096_S4096x1_0 (Host.reduceAdd (mulf (extf .f32 (extractStridedSlice S4096x1024 ![0, 8192] z slices_S4096x10240_S4096x1024_0_8192) bitsLt_bf16_f32) (extf .f32 (extractStridedSlice S4096x1024 ![0, 8192] z slices_S4096x10240_S4096x1024_0_8192) bitsLt_bf16_f32)) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1 ![] bcast_S_S4096x1 (constant S_ .f32 0x44800000#32))) (constant S_ .f32 0x00000000#32) reducesTo_S4096x1_S4096_d1 h_S_)) (extf .f32 (extractStridedSlice S4096x1024 ![0, 8192] z slices_S4096x10240_S4096x1024_0_8192) bitsLt_bf16_f32))) bitsLt_bf16_f32)

theorem dzR_q_vjp (z : FVec Ideal S4096x10240 .bf16) (g : FVec Ideal S1024 .f32) (dy : FVec Ideal S4096x1024 .f32) (r : Fin 4096) (s : Fin 1024) : dzR_q z g dy (ix2 r s) = vjp 1149239296#32 (rq z r) (wq dy r) (gnq g) s := by
  unfold dzR_q; pointwise
  rfl

theorem dzR_q_at (z : FVec Ideal S4096x10240 .bf16) (g : FVec Ideal S1024 .f32) (dy : FVec Ideal S4096x1024 .f32) (r : Fin 4096) : (fun s => dzR_q z g dy (ix2 r s)) = back 1149239296#32 981467136#32 (rq z r) (wq dy r) (gnq g) := by
  funext s
  rw [dzR_q_vjp, Cert.Rms.vjp_eq 1149239296#32 981467136#32 1024 (by norm_num) Cert.Rms.c_1024 Cert.Rms.c_1024i]

/-- The gradient of a latent, as the reference leaves it. -/
def dzR_k (z : FVec Ideal S4096x10240 .bf16) (g : FVec Ideal S512 .f32) (dy : FVec Ideal S4096x512 .f32) : FVec Ideal S4096x512 .bf16 := (truncf .bf16 (addf (addf (mulf (mulf dy (broadcastInDim S4096x512 ![0, 1] bcast_S1x512_S4096x512_0_1 (broadcastInDim S1x512 ![1] bcast_S512_S1x512_1 g))) (broadcastInDim S4096x512 ![0, 1] bcast_S4096x1_S4096x512_0_1 (Host.rsqrt (addf (Host.divf (broadcastInDim S4096x1 ![0] bcast_S4096_S4096x1_0 (Host.reduceAdd (mulf (extf .f32 (extractStridedSlice S4096x512 ![0, 9216] z slices_S4096x10240_S4096x512_0_9216) bitsLt_bf16_f32) (extf .f32 (extractStridedSlice S4096x512 ![0, 9216] z slices_S4096x10240_S4096x512_0_9216) bitsLt_bf16_f32)) (constant S_ .f32 0x00000000#32) reducesTo_S4096x512_S4096_d1 h_S_)) (broadcastInDim S4096x1 ![] bcast_S_S4096x1 (constant S_ .f32 0x44000000#32))) (broadcastInDim S4096x1 ![] bcast_S_S4096x1 (constant S_ .f32 0x358637BD#32)))))) (mulf (extf .f32 (extractStridedSlice S4096x512 ![0, 9216] z slices_S4096x10240_S4096x512_0_9216) bitsLt_bf16_f32) (broadcastInDim S4096x512 ![0] bcast_S4096_S4096x512_0 (Host.reduceAdd (Host.divf (mulf (shapeCast S4096x1 (Host.reduceAdd (mulf (extf .f32 (extractStridedSlice S4096x512 ![0, 9216] z slices_S4096x10240_S4096x512_0_9216) bitsLt_bf16_f32) (mulf dy (broadcastInDim S4096x512 ![0, 1] bcast_S1x512_S4096x512_0_1 (broadcastInDim S1x512 ![1] bcast_S512_S1x512_1 g)))) (constant S_ .f32 0x00000000#32) reducesTo_S4096x512_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf (extf .f32 (extractStridedSlice S4096x512 ![0, 9216] z slices_S4096x10240_S4096x512_0_9216) bitsLt_bf16_f32) (extf .f32 (extractStridedSlice S4096x512 ![0, 9216] z slices_S4096x10240_S4096x512_0_9216) bitsLt_bf16_f32)) (constant S_ .f32 0x00000000#32) reducesTo_S4096x512_S4096_d1 h_S_)) (broadcastInDim S4096x1 ![] bcast_S_S4096x1 (constant S_ .f32 0x44000000#32))) (broadcastInDim S4096x1 ![] bcast_S_S4096x1 (constant S_ .f32 0x358637BD#32)))) (addf (Host.divf (broadcastInDim S4096x1 ![0] bcast_S4096_S4096x1_0 (Host.reduceAdd (mulf (extf .f32 (extractStridedSlice S4096x512 ![0, 9216] z slices_S4096x10240_S4096x512_0_9216) bitsLt_bf16_f32) (extf .f32 (extractStridedSlice S4096x512 ![0, 9216] z slices_S4096x10240_S4096x512_0_9216) bitsLt_bf16_f32)) (constant S_ .f32 0x00000000#32) reducesTo_S4096x512_S4096_d1 h_S_)) (broadcastInDim S4096x1 ![] bcast_S_S4096x1 (constant S_ .f32 0x44000000#32))) (broadcastInDim S4096x1 ![] bcast_S_S4096x1 (constant S_ .f32 0x358637BD#32)))))) (broadcastInDim S4096x1 ![] bcast_S_S4096x1 (constant S_ .f32 0x44000000#32))) (constant S_ .f32 0x00000000#32) reducesTo_S4096x1_S4096_d1 h_S_)))) (mulf (broadcastInDim S4096x512 ![0] bcast_S4096_S4096x512_0 (Host.reduceAdd (Host.divf (mulf (shapeCast S4096x1 (Host.reduceAdd (mulf (extf .f32 (extractStridedSlice S4096x512 ![0, 9216] z slices_S4096x10240_S4096x512_0_9216) bitsLt_bf16_f32) (mulf dy (broadcastInDim S4096x512 ![0, 1] bcast_S1x512_S4096x512_0_1 (broadcastInDim S1x512 ![1] bcast_S512_S1x512_1 g)))) (constant S_ .f32 0x00000000#32) reducesTo_S4096x512_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf (extf .f32 (extractStridedSlice S4096x512 ![0, 9216] z slices_S4096x10240_S4096x512_0_9216) bitsLt_bf16_f32) (extf .f32 (extractStridedSlice S4096x512 ![0, 9216] z slices_S4096x10240_S4096x512_0_9216) bitsLt_bf16_f32)) (constant S_ .f32 0x00000000#32) reducesTo_S4096x512_S4096_d1 h_S_)) (broadcastInDim S4096x1 ![] bcast_S_S4096x1 (constant S_ .f32 0x44000000#32))) (broadcastInDim S4096x1 ![] bcast_S_S4096x1 (constant S_ .f32 0x358637BD#32)))) (addf (Host.divf (broadcastInDim S4096x1 ![0] bcast_S4096_S4096x1_0 (Host.reduceAdd (mulf (extf .f32 (extractStridedSlice S4096x512 ![0, 9216] z slices_S4096x10240_S4096x512_0_9216) bitsLt_bf16_f32) (extf .f32 (extractStridedSlice S4096x512 ![0, 9216] z slices_S4096x10240_S4096x512_0_9216) bitsLt_bf16_f32)) (constant S_ .f32 0x00000000#32) reducesTo_S4096x512_S4096_d1 h_S_)) (broadcastInDim S4096x1 ![] bcast_S_S4096x1 (constant S_ .f32 0x44000000#32))) (broadcastInDim S4096x1 ![] bcast_S_S4096x1 (constant S_ .f32 0x358637BD#32)))))) (broadcastInDim S4096x1 ![] bcast_S_S4096x1 (constant S_ .f32 0x44000000#32))) (constant S_ .f32 0x00000000#32) reducesTo_S4096x1_S4096_d1 h_S_)) (extf .f32 (extractStridedSlice S4096x512 ![0, 9216] z slices_S4096x10240_S4096x512_0_9216) bitsLt_bf16_f32))) bitsLt_bf16_f32)

theorem dzR_k_vjp (z : FVec Ideal S4096x10240 .bf16) (g : FVec Ideal S512 .f32) (dy : FVec Ideal S4096x512 .f32) (r : Fin 4096) (s : Fin 512) : dzR_k z g dy (ix2 r s) = vjp 1140850688#32 (rk z r) (wk dy r) (gnk g) s := by
  unfold dzR_k; pointwise
  rfl

theorem dzR_k_at (z : FVec Ideal S4096x10240 .bf16) (g : FVec Ideal S512 .f32) (dy : FVec Ideal S4096x512 .f32) (r : Fin 4096) : (fun s => dzR_k z g dy (ix2 r s)) = back 1140850688#32 989855744#32 (rk z r) (wk dy r) (gnk g) := by
  funext s
  rw [dzR_k_vjp, Cert.Rms.vjp_eq 1140850688#32 989855744#32 512 (by norm_num) Cert.Rms.c_512 Cert.Rms.c_512i]

/-- Five arrays side by side. -/
def cat (dz : FVec Ideal S4096x10240 .bf16) (A : FVec Ideal S4096x1024 .bf16) (B : FVec Ideal S4096x512 .bf16) (P : FVec Ideal S4096x128 .bf16) (Z : FVec Ideal S4096x384 .bf16) : FVec Ideal S4096x10240 .bf16 :=
  concatenate S4096x10240 1 [⟨S4096x8192, (extractStridedSlice S4096x8192 ![0, 0] dz slices_S4096x10240_S4096x8192_0_0)⟩, ⟨S4096x2048, (concatenate S4096x2048 1 [⟨S4096x1024, A⟩, ⟨S4096x1024, (concatenate S4096x1024 1 [⟨S4096x512, B⟩, ⟨S4096x512, (concatenate S4096x512 1 [⟨S4096x128, P⟩, ⟨S4096x384, Z⟩] concatenates_S4096x128_S4096x384_S4096x512_d1)⟩] concatenates_S4096x512_S4096x512_S4096x1024_d1)⟩] concatenates_S4096x1024_S4096x1024_S4096x2048_d1)⟩] concatenates_S4096x8192_S4096x2048_S4096x10240_d1

theorem cat_at (dz : FVec Ideal S4096x10240 .bf16) (A : FVec Ideal S4096x1024 .bf16) (B : FVec Ideal S4096x512 .bf16) (P : FVec Ideal S4096x128 .bf16) (Z : FVec Ideal S4096x384 .bf16) (r : Fin 4096) (s : Fin 10240) :
    cat dz A B P Z (ix2 r s) = if s.val < 8192 then dz (ix2 r s) else tl (fun s => A (ix2 r s)) (fun s => B (ix2 r s)) (fun s => P (ix2 r s)) (fun s => Z (ix2 r s)) (s.val - 8192) := by
  have hZ : s.val - 8192 - 1024 - 512 - 128 < 384 := by have := s.isLt; omega
  unfold cat tl
  pointwise
  simp only [hZ, ↓reduceDIte]
  rfl

/-- The gradient of the projected array, as the reference leaves it. -/
def ref0 (z : FVec Ideal S4096x10240 .bf16) (gq : FVec Ideal S1024 .f32) (gkv : FVec Ideal S512 .f32) (dqn : FVec Ideal S4096x1024 .f32) (dkvn : FVec Ideal S4096x512 .f32) (dpe : FVec Ideal S4096x128 .f32) (dz : FVec Ideal S4096x10240 .bf16) : FVec Ideal S4096x10240 .bf16 :=
  cat dz (dzR_q z gq dqn) (dzR_k z gkv dkvn) (truncf .bf16 dpe bitsLt_bf16_f32) (broadcastInDim S4096x384 ![] bcast_S_S4096x384 (constant S_ .bf16 0x0000#16))

theorem zero_at (r : Fin 4096) : (fun s : Fin 384 => ((broadcastInDim S4096x384 ![] bcast_S_S4096x384 (constant S_ .bf16 0x0000#16)) : FVec Ideal S4096x384 .bf16) (ix2 r s)) = fun _ => (0 : EReal) := by
  funext s; pointwise

theorem ref0_eq (z : FVec Ideal S4096x10240 .bf16) (gq : FVec Ideal S1024 .f32) (gkv : FVec Ideal S512 .f32) (dqn : FVec Ideal S4096x1024 .f32) (dkvn : FVec Ideal S4096x512 .f32) (dpe : FVec Ideal S4096x128 .f32) (dz : FVec Ideal S4096x10240 .bf16) : ref0 z gq gkv dqn dkvn dpe dz = gz z gq gkv dqn dkvn dpe dz := by
  funext i
  obtain ⟨r, s, rfl⟩ : ∃ (r : Fin 4096) (s : Fin 10240), i = (ix2 r s : S4096x10240.Idx) := ⟨i 0, i 1, (ix2_eta i).symm⟩
  unfold ref0
  rw [cat_at, dzR_q_at, dzR_k_at, zero_at]
  rfl

/-- The gradient of the gains, as the reference leaves it. -/
def ref1 (z : FVec Ideal S4096x10240 .bf16) (dy : FVec Ideal S4096x1024 .f32) : FVec Ideal S1x1024 .f32 := shapeCast S1x1024 (Host.reduceAdd (shapeCast S1x1024 (Host.reduceAdd (mulf (mulf (extf .f32 (extractStridedSlice S4096x1024 ![0, 8192] z slices_S4096x10240_S4096x1024_0_8192) bitsLt_bf16_f32) (broadcastInDim S4096x1024 ![0, 1] bcast_S4096x1_S4096x1024_0_1 (Host.rsqrt (addf (Host.divf (broadcastInDim S4096x1 ![0] bcast_S4096_S4096x1_0 (Host.reduceAdd (mulf (extf .f32 (extractStridedSlice S4096x1024 ![0, 8192] z slices_S4096x10240_S4096x1024_0_8192) bitsLt_bf16_f32) (extf .f32 (extractStridedSlice S4096x1024 ![0, 8192] z slices_S4096x10240_S4096x1024_0_8192) bitsLt_bf16_f32)) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) dy) (constant S_ .f32 0x00000000#32) reducesTo_S4096x1024_S1024_d0 h_S_) shapeCasts_S1024_S1x1024) (constant S_ .f32 0x00000000#32) reducesTo_S1x1024_S1024_d0 h_S_) shapeCasts_S1024_S1x1024

theorem ref1_at (z : FVec Ideal S4096x10240 .bf16) (dy : FVec Ideal S4096x1024 .f32) (s : Fin 1024) : ref1 z dy (ix2 0 s) = ∑ _ : Fin 1, ∑ a : Fin 4096, rq z a s * Ideal.rsqrt (mu 1149239296#32 (rq z a)) * wq dy a s := by
  unfold ref1; pointwise
  rfl

theorem ref1_eq (z : FVec Ideal S4096x10240 .bf16) (dy : FVec Ideal S4096x1024 .f32) : ref1 z dy = gdgq z dy := by
  funext i
  obtain ⟨s, rfl⟩ : ∃ (s : Fin 1024), i = (ix2 0 s : S1x1024.Idx) := ⟨i 1, (ix2_eta i).symm.trans (congrArg (fun a : Fin 1 => (ix2 a (i 1) : S1x1024.Idx)) (Subsingleton.elim _ _))⟩
  rw [ref1_at, Fin.sum_univ_one]
  unfold gdgq
  refine Finset.sum_congr rfl fun a _ => ?_
  unfold gain
  rw [mul_right_comm, mul_comm (rq z a s)]
  rfl

/-- The gradient of the gains, as the reference leaves it. -/
def ref2 (z : FVec Ideal S4096x10240 .bf16) (dy : FVec Ideal S4096x512 .f32) : FVec Ideal S1x512 .f32 := shapeCast S1x512 (Host.reduceAdd (shapeCast S1x512 (Host.reduceAdd (mulf (mulf (extf .f32 (extractStridedSlice S4096x512 ![0, 9216] z slices_S4096x10240_S4096x512_0_9216) bitsLt_bf16_f32) (broadcastInDim S4096x512 ![0, 1] bcast_S4096x1_S4096x512_0_1 (Host.rsqrt (addf (Host.divf (broadcastInDim S4096x1 ![0] bcast_S4096_S4096x1_0 (Host.reduceAdd (mulf (extf .f32 (extractStridedSlice S4096x512 ![0, 9216] z slices_S4096x10240_S4096x512_0_9216) bitsLt_bf16_f32) (extf .f32 (extractStridedSlice S4096x512 ![0, 9216] z slices_S4096x10240_S4096x512_0_9216) bitsLt_bf16_f32)) (constant S_ .f32 0x00000000#32) reducesTo_S4096x512_S4096_d1 h_S_)) (broadcastInDim S4096x1 ![] bcast_S_S4096x1 (constant S_ .f32 0x44000000#32))) (broadcastInDim S4096x1 ![] bcast_S_S4096x1 (constant S_ .f32 0x358637BD#32)))))) dy) (constant S_ .f32 0x00000000#32) reducesTo_S4096x512_S512_d0 h_S_) shapeCasts_S512_S1x512) (constant S_ .f32 0x00000000#32) reducesTo_S1x512_S512_d0 h_S_) shapeCasts_S512_S1x512

theorem ref2_at (z : FVec Ideal S4096x10240 .bf16) (dy : FVec Ideal S4096x512 .f32) (s : Fin 512) : ref2 z dy (ix2 0 s) = ∑ _ : Fin 1, ∑ a : Fin 4096, rk z a s * Ideal.rsqrt (mu 1140850688#32 (rk z a)) * wk dy a s := by
  unfold ref2; pointwise
  rfl

theorem ref2_eq (z : FVec Ideal S4096x10240 .bf16) (dy : FVec Ideal S4096x512 .f32) : ref2 z dy = gdgk z dy := by
  funext i
  obtain ⟨s, rfl⟩ : ∃ (s : Fin 512), i = (ix2 0 s : S1x512.Idx) := ⟨i 1, (ix2_eta i).symm.trans (congrArg (fun a : Fin 1 => (ix2 a (i 1) : S1x512.Idx)) (Subsingleton.elim _ _))⟩
  rw [ref2_at, Fin.sum_univ_one]
  unfold gdgk
  refine Finset.sum_congr rfl fun a _ => ?_
  unfold gain
  rw [mul_right_comm, mul_comm (rk z a s)]
  rfl

end Cert.LatBwdReferenceIdeal.Mm
end
-- ==== Proof.ClLatBwd.lean ====
/- The claims about the gradient of the latents' normalisations. -/
module

public import proofs.«01_k».proof.Proof.MmLatBwd
public import proofs.«01_k».proof.Proof.Gen.LatBwd.Frame
public import proofs.«01_k».proof.Defs
public import Idealize.ShloMosaic.Init
public import Idealize.ShloMosaic.Adequacy

@[expose] public section

set_option maxRecDepth 16384

noncomputable section

namespace Cert.Proof.LatBwd

open Idealize.ShloMosaic Idealize.SL.Sem Idealize.ShloMosaic.TcCoe

theorem frame_kernel : Cert.quiescent_LatBwd := fun m ρ _ => Cert.LatBwd.Gen.frame m ρ

theorem frame_ideal : Cert.quiescent_LatBwdIdeal := fun m ρ _ => Cert.LatBwdIdeal.Gen.frame m ρ

theorem frame_reference : Cert.quiescent_LatBwdReferenceIdeal := fun m ρ _ =>
  (θ_run Cert.LatBwdReferenceIdeal.defs _ _).mono (fun r h => ⟨fun c => (h c).2.2.2, Idealize.ShloMosaic.sem_eq_zero_of_no_sems (by decide) r.2⟩)
    (Cert.LatBwdReferenceIdeal.Value.run m ρ)

theorem algebraic : Cert.algebraic_LatBwdIdeal_LatBwdReferenceIdeal := by
  intro m g m' g' _ hag
  refine ⟨fun c => (Cert.LatBwdIdeal.Gen.dats m 0 c).arrAt 7 Cert.LatBwdIdeal.cfg0.N, fun c => (Cert.LatBwdIdeal.Gen.dats m 0 c).arrAt 8 Cert.LatBwdIdeal.cfg0.N, fun c => (Cert.LatBwdIdeal.Gen.dats m 0 c).arrAt 9 Cert.LatBwdIdeal.cfg0.N, Cert.LatBwdIdeal.Value.run_blocks m g, ?_⟩
  refine (θ_run Cert.LatBwdReferenceIdeal.defs _ _).mono (fun r h c => ?_) (Cert.LatBwdReferenceIdeal.Value.run m' g')
  obtain ⟨r0, r1, r2, ra⟩ := h c
  obtain ⟨a0, a1, a2, a3, a4, a5, a6⟩ := hag c
  refine ⟨r0.trans ((Cert.LatBwdReferenceIdeal.Mm.ref0_eq (m' ((c : Thread Cert.LatBwdReferenceIdeal.nD Cert.LatBwdReferenceIdeal.τ).loc Cert.LatBwdReferenceIdeal.main_arg0)) (m' ((c : Thread Cert.LatBwdReferenceIdeal.nD Cert.LatBwdReferenceIdeal.τ).loc Cert.LatBwdReferenceIdeal.main_arg1)) (m' ((c : Thread Cert.LatBwdReferenceIdeal.nD Cert.LatBwdReferenceIdeal.τ).loc Cert.LatBwdReferenceIdeal.main_arg2)) (m' ((c : Thread Cert.LatBwdReferenceIdeal.nD Cert.LatBwdReferenceIdeal.τ).loc Cert.LatBwdReferenceIdeal.main_arg3)) (m' ((c : Thread Cert.LatBwdReferenceIdeal.nD Cert.LatBwdReferenceIdeal.τ).loc Cert.LatBwdReferenceIdeal.main_arg4)) (m' ((c : Thread Cert.LatBwdReferenceIdeal.nD Cert.LatBwdReferenceIdeal.τ).loc Cert.LatBwdReferenceIdeal.main_arg5)) (m' ((c : Thread Cert.LatBwdReferenceIdeal.nD Cert.LatBwdReferenceIdeal.τ).loc Cert.LatBwdReferenceIdeal.main_arg6))).trans ?_), r1.trans ((Cert.LatBwdReferenceIdeal.Mm.ref1_eq (m' ((c : Thread Cert.LatBwdReferenceIdeal.nD Cert.LatBwdReferenceIdeal.τ).loc Cert.LatBwdReferenceIdeal.main_arg0)) (m' ((c : Thread Cert.LatBwdReferenceIdeal.nD Cert.LatBwdReferenceIdeal.τ).loc Cert.LatBwdReferenceIdeal.main_arg3))).trans ?_), r2.trans ((Cert.LatBwdReferenceIdeal.Mm.ref2_eq (m' ((c : Thread Cert.LatBwdReferenceIdeal.nD Cert.LatBwdReferenceIdeal.τ).loc Cert.LatBwdReferenceIdeal.main_arg0)) (m' ((c : Thread Cert.LatBwdReferenceIdeal.nD Cert.LatBwdReferenceIdeal.τ).loc Cert.LatBwdReferenceIdeal.main_arg4))).trans ?_), ra⟩
  · rw [a0, a1, a2, a3, a4, a5, a6]; exact (Cert.LatBwdIdeal.Mm.final7 m c).symm
  · rw [a0, a3]; exact (Cert.LatBwdIdeal.Mm.final8 m c).symm
  · rw [a0, a4]; exact (Cert.LatBwdIdeal.Mm.final9 m c).symm

end Cert.Proof.LatBwd
end
-- ==== Proof.MmGateBwd.lean ====
/- The gradient of the attention's gate: what the kernel's tiles leave is the reference's. -/
module

public import proofs.«01_k».proof.Proof.Gen.GateBwdIdeal.Value
public import proofs.«01_k».proof.Proof.Gen.GateBwdReferenceIdeal.Run
public import Idealize.ShloMosaic.Lib.Pipeline.ValueKit
public import Idealize.ShloMosaic.Lib.WritesUnit
public import Idealize.ShloMosaic.Lib.Pipeline.ReadBack

@[expose] public section

set_option maxRecDepth 16384

noncomputable section

namespace Cert.GateBwdIdeal.Mm

open Cert.GateBwdIdeal Cert.GateBwdIdeal.Gen Idealize.ShloMosaic Idealize.ShloMosaic.TcCoe Idealize.SL.Sem
open Idealize.ShloMosaic.Pipeline (Dat)

/-- The gate. -/
def sg (g : EReal) : EReal := Ideal.div 1 (1 + Ideal.exp (-g))

/-- The gradient of the attention's value. -/
def gdo (d g : EReal) : EReal := d * (g * sg g)

/-- The gradient of the gate's argument, as the kernel computes it. -/
def gdg (d o g : EReal) : EReal := d * o * (sg g * (1 + g * (1 - sg g)))

/-- The gradient of the gate's argument, as differentiation gives it. -/
def vdg (d o g : EReal) : EReal := o * d * sg g + g * (o * d) * (sg g * (1 - sg g))

theorem gdg_eq (d o : ℝ) (g : EReal) : gdg (d : EReal) (o : EReal) g = vdg (d : EReal) (o : EReal) g := by
  unfold gdg vdg
  have hs : sg g = Ideal.logistic g := rfl
  rw [hs, mul_comm (o : EReal), ← EReal.coe_mul]
  generalize d * o = t
  induction g using EReal.rec with
  | bot => simp
  | coe g =>
    rw [Ideal.logistic_coe]
    norm_cast
    ring
  | top =>
    have h : (1 : EReal) - 1 = 0 := by rw [← EReal.coe_one, ← EReal.coe_sub, sub_self, EReal.coe_zero]
    simp [h]

theorem idx : ∀ t : Fin cfg0.N, win0_0.index t = ![t.val, 0] ∧ win0_1.index t = ![t.val, 0] ∧ win0_2.index t = ![t.val, 2] ∧ win0_3.index t = ![t.val, 0] ∧ win0_4.index t = ![0, t.val, 0] ∧ win0_5.index t = ![t.val, 2] :=
  (by decide +kernel : ∀ t : Fin grid0.N, _)

theorem rd0 (t : Fin cfg0.N) (a : Fin 256) (s : Fin 2048) (X : FVec Ideal S4096x4096 .f32) :
    (((cfg0.win 0).blk t).view.read (Elt Ideal) (X : ((cfg0.win 0).blk t).view.ty.Contents (Elt Ideal)) : Vec Ideal S256x2048 .f32) (ix2 a s) = X (ix2 ⟨t.val * 256 + a.val, by have hN : t.val < 16 := lt_of_lt_of_eq t.isLt N_0; have := a.isLt; omega⟩ ⟨s.val, by have := s.isLt; omega⟩) := by
  blk_simp
  blk_ext [idx t]

theorem rd1 (t : Fin cfg0.N) (a : Fin 256) (s : Fin 2048) (X : FVec Ideal S4096x2048 .f32) :
    (((cfg0.win 1).blk t).view.read (Elt Ideal) (X : ((cfg0.win 1).blk t).view.ty.Contents (Elt Ideal)) : Vec Ideal S256x2048 .f32) (ix2 a s) = X (ix2 ⟨t.val * 256 + a.val, by have hN : t.val < 16 := lt_of_lt_of_eq t.isLt N_0; have := a.isLt; omega⟩ s) := by
  blk_simp
  blk_ext [idx t]

theorem rd2 (t : Fin cfg0.N) (a : Fin 256) (s : Fin 2048) (X : FVec Ideal S4096x10240 .bf16) :
    (((cfg0.win 2).blk t).view.read (Elt Ideal) (X : ((cfg0.win 2).blk t).view.ty.Contents (Elt Ideal)) : Vec Ideal S256x2048 .bf16) (ix2 a s) = X (ix2 ⟨t.val * 256 + a.val, by have hN : t.val < 16 := lt_of_lt_of_eq t.isLt N_0; have := a.isLt; omega⟩ ⟨4096 + s.val, by have := s.isLt; omega⟩) := by
  blk_simp
  blk_ext [idx t]

theorem rd3 (t : Fin cfg0.N) (a : Fin 256) (s : Fin 2048) (X : FVec Ideal S4096x2048 .bf16) :
    (((cfg0.win 3).blk t).view.read (Elt Ideal) (X : ((cfg0.win 3).blk t).view.ty.Contents (Elt Ideal)) : Vec Ideal S256x2048 .bf16) (ix2 a s) = X (ix2 ⟨t.val * 256 + a.val, by have hN : t.val < 16 := lt_of_lt_of_eq t.isLt N_0; have := a.isLt; omega⟩ s) := by
  blk_simp
  blk_ext [idx t]

theorem rd4 (t : Fin cfg0.N) (h : Fin 16) (a : Fin 256) (X : FVec Ideal S16x4096x1 .f32) :
    (((cfg0.win 4).blk t).view.read (Elt Ideal) (X : ((cfg0.win 4).blk t).view.ty.Contents (Elt Ideal)) : Vec Ideal S16x256x1 .f32) (ix3 h a 0) = X (ix3 h ⟨t.val * 256 + a.val, by have hN : t.val < 16 := lt_of_lt_of_eq t.isLt N_0; have := a.isLt; omega⟩ 0) := by
  blk_simp
  blk_ext [idx t]

theorem rd5 (t : Fin cfg0.N) (a : Fin 256) (s : Fin 2048) (X : FVec Ideal S4096x10240 .bf16) :
    (((cfg0.win 5).blk t).view.read (Elt Ideal) (X : ((cfg0.win 5).blk t).view.ty.Contents (Elt Ideal)) : Vec Ideal S256x2048 .bf16) (ix2 a s) = X (ix2 ⟨t.val * 256 + a.val, by have hN : t.val < 16 := lt_of_lt_of_eq t.isLt N_0; have := a.isLt; omega⟩ ⟨4096 + s.val, by have := s.isLt; omega⟩) := by
  blk_simp
  blk_ext [idx t]

variable (m : (ℓ : Loc nD τ sig) → Buf (Elt Ideal) ℓ)

/-- Block 0. -/
def b0 (c : Dev nD) (t : Fin cfg0.N) (a : Fin 256) (s : Fin 2048) : EReal := (iblk m c 0 t : Vec Ideal S256x2048 .f32) (ix2 a s)

/-- Block 1. -/
def b1 (c : Dev nD) (t : Fin cfg0.N) (a : Fin 256) (s : Fin 2048) : EReal := (iblk m c 1 t : Vec Ideal S256x2048 .f32) (ix2 a s)

/-- Block 2. -/
def b2 (c : Dev nD) (t : Fin cfg0.N) (a : Fin 256) (s : Fin 2048) : EReal := (iblk m c 2 t : Vec Ideal S256x2048 .bf16) (ix2 a s)

/-- An entry of the gradient's first half. -/
def e0 (X : FVec Ideal S4096x4096 .f32) (i : Fin 4096) (s : Fin 2048) : EReal := X (ix2 i ⟨s.val, by have := s.isLt; omega⟩)

/-- An entry of the attention. -/
def e1 (X : FVec Ideal S4096x2048 .f32) (i : Fin 4096) (s : Fin 2048) : EReal := X (ix2 i s)

/-- An entry of the gate's argument. -/
def e2 (X : FVec Ideal S4096x10240 .bf16) (i : Fin 4096) (s : Fin 2048) : EReal := X (ix2 i ⟨4096 + s.val, by have := s.isLt; omega⟩)

theorem b0_eq (c : Dev nD) (t : Fin cfg0.N) (a : Fin 256) (s : Fin 2048) (h : t.val * 256 + a.val < 4096) : b0 m c t a s = e0 (m ((c : Thread nD τ).loc main_arg0)) ⟨t.val * 256 + a.val, h⟩ s :=
  rd0 t a s (m ((c : Thread nD τ).loc main_arg0))

theorem b1_eq (c : Dev nD) (t : Fin cfg0.N) (a : Fin 256) (s : Fin 2048) (h : t.val * 256 + a.val < 4096) : b1 m c t a s = e1 (m ((c : Thread nD τ).loc main_arg1)) ⟨t.val * 256 + a.val, h⟩ s :=
  rd1 t a s (m ((c : Thread nD τ).loc main_arg1))

theorem b2_eq (c : Dev nD) (t : Fin cfg0.N) (a : Fin 256) (s : Fin 2048) (h : t.val * 256 + a.val < 4096) : b2 m c t a s = e2 (m ((c : Thread nD τ).loc main_arg2)) ⟨t.val * 256 + a.val, h⟩ s :=
  rd2 t a s (m ((c : Thread nD τ).loc main_arg2))

theorem o3 (c : Dev nD) (t : Fin cfg0.N) (a : Fin 256) (s : Fin 2048) : ((outsAt0 m c t).1 : Vec Ideal S256x2048 .bf16) (ix2 a s) = gdo (b0 m c t a s) (b2 m c t a s) := by
  unfold outsAt0
  dsimp only
  frame_out
  open_payloads
  pointwise
  simp only [zero_sub]
  rfl

theorem o5 (c : Dev nD) (t : Fin cfg0.N) (a : Fin 256) (s : Fin 2048) : ((outsAt0 m c t).2.2 : Vec Ideal S256x2048 .bf16) (ix2 a s) = gdg (b0 m c t a s) (b1 m c t a s) (b2 m c t a s) := by
  unfold outsAt0
  dsimp only
  frame_out
  open_payloads
  pointwise
  simp only [zero_sub]
  rfl

theorem one_eta (x : S1x256x1.Idx) : x = ix3 0 (x 1) 0 := by
  funext a
  match a with
  | ⟨0, _⟩ => exact Subsingleton.elim (α := Fin 1) _ _
  | ⟨1, _⟩ => rfl
  | ⟨2, _⟩ => exact Subsingleton.elim (α := Fin 1) _ _

theorem hd_eta (x : S16x256x1.Idx) : x = ix3 (x 0) (x 1) 0 := by
  funext a
  match a with
  | ⟨0, _⟩ => rfl
  | ⟨1, _⟩ => rfl
  | ⟨2, _⟩ => exact Subsingleton.elim (α := Fin 1) _ _

theorem in_head (n : ℕ) (hn : n < 16) (a : Fin 256) (d : Fin 3) : (![n, 0, 0] : Fin 3 → ℕ) d ≤ ((ix3 ⟨n, hn⟩ a 0 : S16x256x1.Idx) d).val ∧ ((ix3 ⟨n, hn⟩ a 0 : S16x256x1.Idx) d).val < (![n, 0, 0] : Fin 3 → ℕ) d + (![1, 256, 1] : Fin 3 → ℕ) d := by
  have := a.isLt
  match d with
  | ⟨0, _⟩ => show n ≤ n ∧ n < n + 1; omega
  | ⟨1, _⟩ => show 0 ≤ a.val ∧ a.val < 0 + 256; omega
  | ⟨2, _⟩ => show 0 ≤ 0 ∧ 0 < 0 + 1; omega

/-- One head's column of a row. -/
def hc (h : Fin 16) (k : Fin 128) : Fin 2048 := ⟨h.val * 128 + k.val, by have := h.isLt; have := k.isLt; omega⟩

/-- An entry of a row of a block, by its column's number. -/
def en (P : FVec Ideal S256x2048 .f32) (a : Fin 256) (s : ℕ) : EReal := if h : s < 2048 then P (ix2 a ⟨s, h⟩) else 0

theorem en_of (P : FVec Ideal S256x2048 .f32) (a : Fin 256) (s : ℕ) (h : s < 2048) : en P a s = P (ix2 a ⟨s, h⟩) := dif_pos h

theorem en_at (P : FVec Ideal S256x2048 .f32) (a : Fin 256) (s : Fin 2048) (n : ℕ) (e : n = s.val) : en P a n = P (ix2 a s) := by
  subst e
  exact en_of P a s.val s.isLt

/-- One head's sum of a row of a block. -/
def hs (P : FVec Ideal S256x2048 .f32) (h : ℕ) (a : Fin 256) : EReal := ∑ k : Fin 128, en P a (h * 128 + k.val)

theorem hs_of (P : FVec Ideal S256x2048 .f32) (h n : ℕ) (a b : Fin 256) (e : h = n) (f : a.val = b.val) : hs P h a = hs P n b := by
  obtain rfl : a = b := Fin.ext f
  subst e
  rfl

theorem head0 (P : FVec Ideal S256x2048 .f32) (a : Fin 256) : (shapeCast S1x256x1 (shapeCast S256x1 (multiReduction .add [1] S256 (extractStridedSlice S256x128 ![0, 0] P slices_S256x2048_o0_0_S256x128) 0x00000000#32 reduces_S256x128_S256 (.inl rfl) rfl) shapeCasts_S256_S256x1) shapeCasts_S256x1_S1x256x1 : FVec Ideal S1x256x1 .f32) (ix3 0 a 0) = hs P 0 a := by
  pointwise
  exact Finset.sum_congr rfl fun k _ => (en_at P a ⟨k.val, by have := k.isLt; omega⟩ (0 * 128 + k.val) (by show 0 * 128 + k.val = k.val; omega)).symm

theorem head1 (P : FVec Ideal S256x2048 .f32) (a : Fin 256) : (shapeCast S1x256x1 (shapeCast S256x1 (multiReduction .add [1] S256 (extractStridedSlice S256x128 ![0, 128] P slices_S256x2048_o0_128_S256x128) 0x00000000#32 reduces_S256x128_S256 (.inl rfl) rfl) shapeCasts_S256_S256x1) shapeCasts_S256x1_S1x256x1 : FVec Ideal S1x256x1 .f32) (ix3 0 a 0) = hs P 1 a := by
  pointwise
  exact Finset.sum_congr rfl fun k _ => (en_of P a (1 * 128 + k.val) (by have := k.isLt; omega)).symm

theorem head2 (P : FVec Ideal S256x2048 .f32) (a : Fin 256) : (shapeCast S1x256x1 (shapeCast S256x1 (multiReduction .add [1] S256 (extractStridedSlice S256x128 ![0, 256] P slices_S256x2048_o0_256_S256x128) 0x00000000#32 reduces_S256x128_S256 (.inl rfl) rfl) shapeCasts_S256_S256x1) shapeCasts_S256x1_S1x256x1 : FVec Ideal S1x256x1 .f32) (ix3 0 a 0) = hs P 2 a := by
  pointwise
  exact Finset.sum_congr rfl fun k _ => (en_of P a (2 * 128 + k.val) (by have := k.isLt; omega)).symm

theorem head3 (P : FVec Ideal S256x2048 .f32) (a : Fin 256) : (shapeCast S1x256x1 (shapeCast S256x1 (multiReduction .add [1] S256 (extractStridedSlice S256x128 ![0, 384] P slices_S256x2048_o0_384_S256x128) 0x00000000#32 reduces_S256x128_S256 (.inl rfl) rfl) shapeCasts_S256_S256x1) shapeCasts_S256x1_S1x256x1 : FVec Ideal S1x256x1 .f32) (ix3 0 a 0) = hs P 3 a := by
  pointwise
  exact Finset.sum_congr rfl fun k _ => (en_of P a (3 * 128 + k.val) (by have := k.isLt; omega)).symm

theorem head4 (P : FVec Ideal S256x2048 .f32) (a : Fin 256) : (shapeCast S1x256x1 (shapeCast S256x1 (multiReduction .add [1] S256 (extractStridedSlice S256x128 ![0, 512] P slices_S256x2048_o0_512_S256x128) 0x00000000#32 reduces_S256x128_S256 (.inl rfl) rfl) shapeCasts_S256_S256x1) shapeCasts_S256x1_S1x256x1 : FVec Ideal S1x256x1 .f32) (ix3 0 a 0) = hs P 4 a := by
  pointwise
  exact Finset.sum_congr rfl fun k _ => (en_of P a (4 * 128 + k.val) (by have := k.isLt; omega)).symm

theorem head5 (P : FVec Ideal S256x2048 .f32) (a : Fin 256) : (shapeCast S1x256x1 (shapeCast S256x1 (multiReduction .add [1] S256 (extractStridedSlice S256x128 ![0, 640] P slices_S256x2048_o0_640_S256x128) 0x00000000#32 reduces_S256x128_S256 (.inl rfl) rfl) shapeCasts_S256_S256x1) shapeCasts_S256x1_S1x256x1 : FVec Ideal S1x256x1 .f32) (ix3 0 a 0) = hs P 5 a := by
  pointwise
  exact Finset.sum_congr rfl fun k _ => (en_of P a (5 * 128 + k.val) (by have := k.isLt; omega)).symm

theorem head6 (P : FVec Ideal S256x2048 .f32) (a : Fin 256) : (shapeCast S1x256x1 (shapeCast S256x1 (multiReduction .add [1] S256 (extractStridedSlice S256x128 ![0, 768] P slices_S256x2048_o0_768_S256x128) 0x00000000#32 reduces_S256x128_S256 (.inl rfl) rfl) shapeCasts_S256_S256x1) shapeCasts_S256x1_S1x256x1 : FVec Ideal S1x256x1 .f32) (ix3 0 a 0) = hs P 6 a := by
  pointwise
  exact Finset.sum_congr rfl fun k _ => (en_of P a (6 * 128 + k.val) (by have := k.isLt; omega)).symm

theorem head7 (P : FVec Ideal S256x2048 .f32) (a : Fin 256) : (shapeCast S1x256x1 (shapeCast S256x1 (multiReduction .add [1] S256 (extractStridedSlice S256x128 ![0, 896] P slices_S256x2048_o0_896_S256x128) 0x00000000#32 reduces_S256x128_S256 (.inl rfl) rfl) shapeCasts_S256_S256x1) shapeCasts_S256x1_S1x256x1 : FVec Ideal S1x256x1 .f32) (ix3 0 a 0) = hs P 7 a := by
  pointwise
  exact Finset.sum_congr rfl fun k _ => (en_of P a (7 * 128 + k.val) (by have := k.isLt; omega)).symm

theorem head8 (P : FVec Ideal S256x2048 .f32) (a : Fin 256) : (shapeCast S1x256x1 (shapeCast S256x1 (multiReduction .add [1] S256 (extractStridedSlice S256x128 ![0, 1024] P slices_S256x2048_o0_1024_S256x128) 0x00000000#32 reduces_S256x128_S256 (.inl rfl) rfl) shapeCasts_S256_S256x1) shapeCasts_S256x1_S1x256x1 : FVec Ideal S1x256x1 .f32) (ix3 0 a 0) = hs P 8 a := by
  pointwise
  exact Finset.sum_congr rfl fun k _ => (en_of P a (8 * 128 + k.val) (by have := k.isLt; omega)).symm

theorem head9 (P : FVec Ideal S256x2048 .f32) (a : Fin 256) : (shapeCast S1x256x1 (shapeCast S256x1 (multiReduction .add [1] S256 (extractStridedSlice S256x128 ![0, 1152] P slices_S256x2048_o0_1152_S256x128) 0x00000000#32 reduces_S256x128_S256 (.inl rfl) rfl) shapeCasts_S256_S256x1) shapeCasts_S256x1_S1x256x1 : FVec Ideal S1x256x1 .f32) (ix3 0 a 0) = hs P 9 a := by
  pointwise
  exact Finset.sum_congr rfl fun k _ => (en_of P a (9 * 128 + k.val) (by have := k.isLt; omega)).symm

theorem head10 (P : FVec Ideal S256x2048 .f32) (a : Fin 256) : (shapeCast S1x256x1 (shapeCast S256x1 (multiReduction .add [1] S256 (extractStridedSlice S256x128 ![0, 1280] P slices_S256x2048_o0_1280_S256x128) 0x00000000#32 reduces_S256x128_S256 (.inl rfl) rfl) shapeCasts_S256_S256x1) shapeCasts_S256x1_S1x256x1 : FVec Ideal S1x256x1 .f32) (ix3 0 a 0) = hs P 10 a := by
  pointwise
  exact Finset.sum_congr rfl fun k _ => (en_of P a (10 * 128 + k.val) (by have := k.isLt; omega)).symm

theorem head11 (P : FVec Ideal S256x2048 .f32) (a : Fin 256) : (shapeCast S1x256x1 (shapeCast S256x1 (multiReduction .add [1] S256 (extractStridedSlice S256x128 ![0, 1408] P slices_S256x2048_o0_1408_S256x128) 0x00000000#32 reduces_S256x128_S256 (.inl rfl) rfl) shapeCasts_S256_S256x1) shapeCasts_S256x1_S1x256x1 : FVec Ideal S1x256x1 .f32) (ix3 0 a 0) = hs P 11 a := by
  pointwise
  exact Finset.sum_congr rfl fun k _ => (en_of P a (11 * 128 + k.val) (by have := k.isLt; omega)).symm

theorem head12 (P : FVec Ideal S256x2048 .f32) (a : Fin 256) : (shapeCast S1x256x1 (shapeCast S256x1 (multiReduction .add [1] S256 (extractStridedSlice S256x128 ![0, 1536] P slices_S256x2048_o0_1536_S256x128) 0x00000000#32 reduces_S256x128_S256 (.inl rfl) rfl) shapeCasts_S256_S256x1) shapeCasts_S256x1_S1x256x1 : FVec Ideal S1x256x1 .f32) (ix3 0 a 0) = hs P 12 a := by
  pointwise
  exact Finset.sum_congr rfl fun k _ => (en_of P a (12 * 128 + k.val) (by have := k.isLt; omega)).symm

theorem head13 (P : FVec Ideal S256x2048 .f32) (a : Fin 256) : (shapeCast S1x256x1 (shapeCast S256x1 (multiReduction .add [1] S256 (extractStridedSlice S256x128 ![0, 1664] P slices_S256x2048_o0_1664_S256x128) 0x00000000#32 reduces_S256x128_S256 (.inl rfl) rfl) shapeCasts_S256_S256x1) shapeCasts_S256x1_S1x256x1 : FVec Ideal S1x256x1 .f32) (ix3 0 a 0) = hs P 13 a := by
  pointwise
  exact Finset.sum_congr rfl fun k _ => (en_of P a (13 * 128 + k.val) (by have := k.isLt; omega)).symm

theorem head14 (P : FVec Ideal S256x2048 .f32) (a : Fin 256) : (shapeCast S1x256x1 (shapeCast S256x1 (multiReduction .add [1] S256 (extractStridedSlice S256x128 ![0, 1792] P slices_S256x2048_o0_1792_S256x128) 0x00000000#32 reduces_S256x128_S256 (.inl rfl) rfl) shapeCasts_S256_S256x1) shapeCasts_S256x1_S1x256x1 : FVec Ideal S1x256x1 .f32) (ix3 0 a 0) = hs P 14 a := by
  pointwise
  exact Finset.sum_congr rfl fun k _ => (en_of P a (14 * 128 + k.val) (by have := k.isLt; omega)).symm

theorem head15 (P : FVec Ideal S256x2048 .f32) (a : Fin 256) : (shapeCast S1x256x1 (shapeCast S256x1 (multiReduction .add [1] S256 (extractStridedSlice S256x128 ![0, 1920] P slices_S256x2048_o0_1920_S256x128) 0x00000000#32 reduces_S256x128_S256 (.inl rfl) rfl) shapeCasts_S256_S256x1) shapeCasts_S256x1_S1x256x1 : FVec Ideal S1x256x1 .f32) (ix3 0 a 0) = hs P 15 a := by
  pointwise
  exact Finset.sum_congr rfl fun k _ => (en_of P a (15 * 128 + k.val) (by have := k.isLt; omega)).symm

/-- What the sixteen stores leave in the sums' block. -/
theorem canon16 (P : FVec Ideal S256x2048 .f32) (hh : Fin 16) (a : Fin 256) :
    (View.canon [(⟨Rect.unit ![15, 0, 0] ![1, 256, 1] inb_S16x256x1_S1x256x1_15_0_0, shapeCast S1x256x1 (shapeCast S256x1 (multiReduction .add [1] S256 (extractStridedSlice S256x128 ![0, 1920] P slices_S256x2048_o0_1920_S256x128) 0x00000000#32 reduces_S256x128_S256 (.inl rfl) rfl) shapeCasts_S256_S256x1) shapeCasts_S256x1_S1x256x1⟩ : View.Piece (Elt Ideal) S16x256x1 .f32),
      (⟨Rect.unit ![14, 0, 0] ![1, 256, 1] inb_S16x256x1_S1x256x1_14_0_0, shapeCast S1x256x1 (shapeCast S256x1 (multiReduction .add [1] S256 (extractStridedSlice S256x128 ![0, 1792] P slices_S256x2048_o0_1792_S256x128) 0x00000000#32 reduces_S256x128_S256 (.inl rfl) rfl) shapeCasts_S256_S256x1) shapeCasts_S256x1_S1x256x1⟩),
      (⟨Rect.unit ![13, 0, 0] ![1, 256, 1] inb_S16x256x1_S1x256x1_13_0_0, shapeCast S1x256x1 (shapeCast S256x1 (multiReduction .add [1] S256 (extractStridedSlice S256x128 ![0, 1664] P slices_S256x2048_o0_1664_S256x128) 0x00000000#32 reduces_S256x128_S256 (.inl rfl) rfl) shapeCasts_S256_S256x1) shapeCasts_S256x1_S1x256x1⟩),
      (⟨Rect.unit ![12, 0, 0] ![1, 256, 1] inb_S16x256x1_S1x256x1_12_0_0, shapeCast S1x256x1 (shapeCast S256x1 (multiReduction .add [1] S256 (extractStridedSlice S256x128 ![0, 1536] P slices_S256x2048_o0_1536_S256x128) 0x00000000#32 reduces_S256x128_S256 (.inl rfl) rfl) shapeCasts_S256_S256x1) shapeCasts_S256x1_S1x256x1⟩),
      (⟨Rect.unit ![11, 0, 0] ![1, 256, 1] inb_S16x256x1_S1x256x1_11_0_0, shapeCast S1x256x1 (shapeCast S256x1 (multiReduction .add [1] S256 (extractStridedSlice S256x128 ![0, 1408] P slices_S256x2048_o0_1408_S256x128) 0x00000000#32 reduces_S256x128_S256 (.inl rfl) rfl) shapeCasts_S256_S256x1) shapeCasts_S256x1_S1x256x1⟩),
      (⟨Rect.unit ![10, 0, 0] ![1, 256, 1] inb_S16x256x1_S1x256x1_10_0_0, shapeCast S1x256x1 (shapeCast S256x1 (multiReduction .add [1] S256 (extractStridedSlice S256x128 ![0, 1280] P slices_S256x2048_o0_1280_S256x128) 0x00000000#32 reduces_S256x128_S256 (.inl rfl) rfl) shapeCasts_S256_S256x1) shapeCasts_S256x1_S1x256x1⟩),
      (⟨Rect.unit ![9, 0, 0] ![1, 256, 1] inb_S16x256x1_S1x256x1_9_0_0, shapeCast S1x256x1 (shapeCast S256x1 (multiReduction .add [1] S256 (extractStridedSlice S256x128 ![0, 1152] P slices_S256x2048_o0_1152_S256x128) 0x00000000#32 reduces_S256x128_S256 (.inl rfl) rfl) shapeCasts_S256_S256x1) shapeCasts_S256x1_S1x256x1⟩),
      (⟨Rect.unit ![8, 0, 0] ![1, 256, 1] inb_S16x256x1_S1x256x1_8_0_0, shapeCast S1x256x1 (shapeCast S256x1 (multiReduction .add [1] S256 (extractStridedSlice S256x128 ![0, 1024] P slices_S256x2048_o0_1024_S256x128) 0x00000000#32 reduces_S256x128_S256 (.inl rfl) rfl) shapeCasts_S256_S256x1) shapeCasts_S256x1_S1x256x1⟩),
      (⟨Rect.unit ![7, 0, 0] ![1, 256, 1] inb_S16x256x1_S1x256x1_7_0_0, shapeCast S1x256x1 (shapeCast S256x1 (multiReduction .add [1] S256 (extractStridedSlice S256x128 ![0, 896] P slices_S256x2048_o0_896_S256x128) 0x00000000#32 reduces_S256x128_S256 (.inl rfl) rfl) shapeCasts_S256_S256x1) shapeCasts_S256x1_S1x256x1⟩),
      (⟨Rect.unit ![6, 0, 0] ![1, 256, 1] inb_S16x256x1_S1x256x1_6_0_0, shapeCast S1x256x1 (shapeCast S256x1 (multiReduction .add [1] S256 (extractStridedSlice S256x128 ![0, 768] P slices_S256x2048_o0_768_S256x128) 0x00000000#32 reduces_S256x128_S256 (.inl rfl) rfl) shapeCasts_S256_S256x1) shapeCasts_S256x1_S1x256x1⟩),
      (⟨Rect.unit ![5, 0, 0] ![1, 256, 1] inb_S16x256x1_S1x256x1_5_0_0, shapeCast S1x256x1 (shapeCast S256x1 (multiReduction .add [1] S256 (extractStridedSlice S256x128 ![0, 640] P slices_S256x2048_o0_640_S256x128) 0x00000000#32 reduces_S256x128_S256 (.inl rfl) rfl) shapeCasts_S256_S256x1) shapeCasts_S256x1_S1x256x1⟩),
      (⟨Rect.unit ![4, 0, 0] ![1, 256, 1] inb_S16x256x1_S1x256x1_4_0_0, shapeCast S1x256x1 (shapeCast S256x1 (multiReduction .add [1] S256 (extractStridedSlice S256x128 ![0, 512] P slices_S256x2048_o0_512_S256x128) 0x00000000#32 reduces_S256x128_S256 (.inl rfl) rfl) shapeCasts_S256_S256x1) shapeCasts_S256x1_S1x256x1⟩),
      (⟨Rect.unit ![3, 0, 0] ![1, 256, 1] inb_S16x256x1_S1x256x1_3_0_0, shapeCast S1x256x1 (shapeCast S256x1 (multiReduction .add [1] S256 (extractStridedSlice S256x128 ![0, 384] P slices_S256x2048_o0_384_S256x128) 0x00000000#32 reduces_S256x128_S256 (.inl rfl) rfl) shapeCasts_S256_S256x1) shapeCasts_S256x1_S1x256x1⟩),
      (⟨Rect.unit ![2, 0, 0] ![1, 256, 1] inb_S16x256x1_S1x256x1_2_0_0, shapeCast S1x256x1 (shapeCast S256x1 (multiReduction .add [1] S256 (extractStridedSlice S256x128 ![0, 256] P slices_S256x2048_o0_256_S256x128) 0x00000000#32 reduces_S256x128_S256 (.inl rfl) rfl) shapeCasts_S256_S256x1) shapeCasts_S256x1_S1x256x1⟩),
      (⟨Rect.unit ![1, 0, 0] ![1, 256, 1] inb_S16x256x1_S1x256x1_1_0_0, shapeCast S1x256x1 (shapeCast S256x1 (multiReduction .add [1] S256 (extractStridedSlice S256x128 ![0, 128] P slices_S256x2048_o0_128_S256x128) 0x00000000#32 reduces_S256x128_S256 (.inl rfl) rfl) shapeCasts_S256_S256x1) shapeCasts_S256x1_S1x256x1⟩),
      (⟨Rect.unit ![0, 0, 0] ![1, 256, 1] inb_S16x256x1_S1x256x1_0_0_0, shapeCast S1x256x1 (shapeCast S256x1 (multiReduction .add [1] S256 (extractStridedSlice S256x128 ![0, 0] P slices_S256x2048_o0_0_S256x128) 0x00000000#32 reduces_S256x128_S256 (.inl rfl) rfl) shapeCasts_S256_S256x1) shapeCasts_S256x1_S1x256x1⟩)] : Vec Ideal S16x256x1 .f32) (ix3 hh a 0) = hs P hh.val a := by
  refine View.canon_apply_of_pieces (Val := Elt Ideal) (e := .f32) (fun y : S16x256x1.Idx => (hs P (y 0).val (y 1) : EReal)) _ ?_ (ix3 hh a 0) ?_
  · intro pc hpc x
    rcases List.mem_cons.mp hpc with rfl | hpc
    · obtain ⟨a, rfl⟩ : ∃ a : Fin 256, x = (ix3 0 a 0 : S1x256x1.Idx) := ⟨x 1, one_eta x⟩
      exact (head15 P a).trans (hs_of P _ _ _ _ (by show 15 = 15 + 1 * 0; rfl) (by show a.val = 0 + 1 * a.val; omega))
    rcases List.mem_cons.mp hpc with rfl | hpc
    · obtain ⟨a, rfl⟩ : ∃ a : Fin 256, x = (ix3 0 a 0 : S1x256x1.Idx) := ⟨x 1, one_eta x⟩
      exact (head14 P a).trans (hs_of P _ _ _ _ (by show 14 = 14 + 1 * 0; rfl) (by show a.val = 0 + 1 * a.val; omega))
    rcases List.mem_cons.mp hpc with rfl | hpc
    · obtain ⟨a, rfl⟩ : ∃ a : Fin 256, x = (ix3 0 a 0 : S1x256x1.Idx) := ⟨x 1, one_eta x⟩
      exact (head13 P a).trans (hs_of P _ _ _ _ (by show 13 = 13 + 1 * 0; rfl) (by show a.val = 0 + 1 * a.val; omega))
    rcases List.mem_cons.mp hpc with rfl | hpc
    · obtain ⟨a, rfl⟩ : ∃ a : Fin 256, x = (ix3 0 a 0 : S1x256x1.Idx) := ⟨x 1, one_eta x⟩
      exact (head12 P a).trans (hs_of P _ _ _ _ (by show 12 = 12 + 1 * 0; rfl) (by show a.val = 0 + 1 * a.val; omega))
    rcases List.mem_cons.mp hpc with rfl | hpc
    · obtain ⟨a, rfl⟩ : ∃ a : Fin 256, x = (ix3 0 a 0 : S1x256x1.Idx) := ⟨x 1, one_eta x⟩
      exact (head11 P a).trans (hs_of P _ _ _ _ (by show 11 = 11 + 1 * 0; rfl) (by show a.val = 0 + 1 * a.val; omega))
    rcases List.mem_cons.mp hpc with rfl | hpc
    · obtain ⟨a, rfl⟩ : ∃ a : Fin 256, x = (ix3 0 a 0 : S1x256x1.Idx) := ⟨x 1, one_eta x⟩
      exact (head10 P a).trans (hs_of P _ _ _ _ (by show 10 = 10 + 1 * 0; rfl) (by show a.val = 0 + 1 * a.val; omega))
    rcases List.mem_cons.mp hpc with rfl | hpc
    · obtain ⟨a, rfl⟩ : ∃ a : Fin 256, x = (ix3 0 a 0 : S1x256x1.Idx) := ⟨x 1, one_eta x⟩
      exact (head9 P a).trans (hs_of P _ _ _ _ (by show 9 = 9 + 1 * 0; rfl) (by show a.val = 0 + 1 * a.val; omega))
    rcases List.mem_cons.mp hpc with rfl | hpc
    · obtain ⟨a, rfl⟩ : ∃ a : Fin 256, x = (ix3 0 a 0 : S1x256x1.Idx) := ⟨x 1, one_eta x⟩
      exact (head8 P a).trans (hs_of P _ _ _ _ (by show 8 = 8 + 1 * 0; rfl) (by show a.val = 0 + 1 * a.val; omega))
    rcases List.mem_cons.mp hpc with rfl | hpc
    · obtain ⟨a, rfl⟩ : ∃ a : Fin 256, x = (ix3 0 a 0 : S1x256x1.Idx) := ⟨x 1, one_eta x⟩
      exact (head7 P a).trans (hs_of P _ _ _ _ (by show 7 = 7 + 1 * 0; rfl) (by show a.val = 0 + 1 * a.val; omega))
    rcases List.mem_cons.mp hpc with rfl | hpc
    · obtain ⟨a, rfl⟩ : ∃ a : Fin 256, x = (ix3 0 a 0 : S1x256x1.Idx) := ⟨x 1, one_eta x⟩
      exact (head6 P a).trans (hs_of P _ _ _ _ (by show 6 = 6 + 1 * 0; rfl) (by show a.val = 0 + 1 * a.val; omega))
    rcases List.mem_cons.mp hpc with rfl | hpc
    · obtain ⟨a, rfl⟩ : ∃ a : Fin 256, x = (ix3 0 a 0 : S1x256x1.Idx) := ⟨x 1, one_eta x⟩
      exact (head5 P a).trans (hs_of P _ _ _ _ (by show 5 = 5 + 1 * 0; rfl) (by show a.val = 0 + 1 * a.val; omega))
    rcases List.mem_cons.mp hpc with rfl | hpc
    · obtain ⟨a, rfl⟩ : ∃ a : Fin 256, x = (ix3 0 a 0 : S1x256x1.Idx) := ⟨x 1, one_eta x⟩
      exact (head4 P a).trans (hs_of P _ _ _ _ (by show 4 = 4 + 1 * 0; rfl) (by show a.val = 0 + 1 * a.val; omega))
    rcases List.mem_cons.mp hpc with rfl | hpc
    · obtain ⟨a, rfl⟩ : ∃ a : Fin 256, x = (ix3 0 a 0 : S1x256x1.Idx) := ⟨x 1, one_eta x⟩
      exact (head3 P a).trans (hs_of P _ _ _ _ (by show 3 = 3 + 1 * 0; rfl) (by show a.val = 0 + 1 * a.val; omega))
    rcases List.mem_cons.mp hpc with rfl | hpc
    · obtain ⟨a, rfl⟩ : ∃ a : Fin 256, x = (ix3 0 a 0 : S1x256x1.Idx) := ⟨x 1, one_eta x⟩
      exact (head2 P a).trans (hs_of P _ _ _ _ (by show 2 = 2 + 1 * 0; rfl) (by show a.val = 0 + 1 * a.val; omega))
    rcases List.mem_cons.mp hpc with rfl | hpc
    · obtain ⟨a, rfl⟩ : ∃ a : Fin 256, x = (ix3 0 a 0 : S1x256x1.Idx) := ⟨x 1, one_eta x⟩
      exact (head1 P a).trans (hs_of P _ _ _ _ (by show 1 = 1 + 1 * 0; rfl) (by show a.val = 0 + 1 * a.val; omega))
    rcases List.mem_cons.mp hpc with rfl | hpc
    · obtain ⟨a, rfl⟩ : ∃ a : Fin 256, x = (ix3 0 a 0 : S1x256x1.Idx) := ⟨x 1, one_eta x⟩
      exact (head0 P a).trans (hs_of P _ _ _ _ (by show 0 = 0 + 1 * 0; rfl) (by show a.val = 0 + 1 * a.val; omega))
    exact absurd hpc List.not_mem_nil
  · match hh with
    | ⟨0, _⟩ => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))), (Rect.mem_set_unit (inb := inb_S16x256x1_S1x256x1_0_0_0)).mpr (in_head 0 (by omega) a)⟩
    | ⟨1, _⟩ => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))), (Rect.mem_set_unit (inb := inb_S16x256x1_S1x256x1_1_0_0)).mpr (in_head 1 (by omega) a)⟩
    | ⟨2, _⟩ => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))), (Rect.mem_set_unit (inb := inb_S16x256x1_S1x256x1_2_0_0)).mpr (in_head 2 (by omega) a)⟩
    | ⟨3, _⟩ => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))), (Rect.mem_set_unit (inb := inb_S16x256x1_S1x256x1_3_0_0)).mpr (in_head 3 (by omega) a)⟩
    | ⟨4, _⟩ => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))), (Rect.mem_set_unit (inb := inb_S16x256x1_S1x256x1_4_0_0)).mpr (in_head 4 (by omega) a)⟩
    | ⟨5, _⟩ => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))), (Rect.mem_set_unit (inb := inb_S16x256x1_S1x256x1_5_0_0)).mpr (in_head 5 (by omega) a)⟩
    | ⟨6, _⟩ => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))), (Rect.mem_set_unit (inb := inb_S16x256x1_S1x256x1_6_0_0)).mpr (in_head 6 (by omega) a)⟩
    | ⟨7, _⟩ => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))), (Rect.mem_set_unit (inb := inb_S16x256x1_S1x256x1_7_0_0)).mpr (in_head 7 (by omega) a)⟩
    | ⟨8, _⟩ => exact ⟨_, List.mem_cons_of_mem _ (List.mem_cons_of_mem _ (List.mem_cons_of_mem _ (List.mem_cons_of_mem _ (List.mem_cons_of_mem _ (List.mem_cons_of_mem _ (List.mem_cons_of_mem _ List.mem_cons_self)))))), (Rect.mem_set_unit (inb := inb_S16x256x1_S1x256x1_8_0_0)).mpr (in_head 8 (by omega) a)⟩
    | ⟨9, _⟩ => exact ⟨_, List.mem_cons_of_mem _ (List.mem_cons_of_mem _ (List.mem_cons_of_mem _ (List.mem_cons_of_mem _ (List.mem_cons_of_mem _ (List.mem_cons_of_mem _ List.mem_cons_self))))), (Rect.mem_set_unit (inb := inb_S16x256x1_S1x256x1_9_0_0)).mpr (in_head 9 (by omega) a)⟩
    | ⟨10, _⟩ => exact ⟨_, List.mem_cons_of_mem _ (List.mem_cons_of_mem _ (List.mem_cons_of_mem _ (List.mem_cons_of_mem _ (List.mem_cons_of_mem _ List.mem_cons_self)))), (Rect.mem_set_unit (inb := inb_S16x256x1_S1x256x1_10_0_0)).mpr (in_head 10 (by omega) a)⟩
    | ⟨11, _⟩ => exact ⟨_, List.mem_cons_of_mem _ (List.mem_cons_of_mem _ (List.mem_cons_of_mem _ (List.mem_cons_of_mem _ List.mem_cons_self))), (Rect.mem_set_unit (inb := inb_S16x256x1_S1x256x1_11_0_0)).mpr (in_head 11 (by omega) a)⟩
    | ⟨12, _⟩ => exact ⟨_, List.mem_cons_of_mem _ (List.mem_cons_of_mem _ (List.mem_cons_of_mem _ List.mem_cons_self)), (Rect.mem_set_unit (inb := inb_S16x256x1_S1x256x1_12_0_0)).mpr (in_head 12 (by omega) a)⟩
    | ⟨13, _⟩ => exact ⟨_, List.mem_cons_of_mem _ (List.mem_cons_of_mem _ List.mem_cons_self), (Rect.mem_set_unit (inb := inb_S16x256x1_S1x256x1_13_0_0)).mpr (in_head 13 (by omega) a)⟩
    | ⟨14, _⟩ => exact ⟨_, List.mem_cons_of_mem _ List.mem_cons_self, (Rect.mem_set_unit (inb := inb_S16x256x1_S1x256x1_14_0_0)).mpr (in_head 14 (by omega) a)⟩
    | ⟨15, _⟩ => exact ⟨_, List.mem_cons_self, (Rect.mem_set_unit (inb := inb_S16x256x1_S1x256x1_15_0_0)).mpr (in_head 15 (by omega) a)⟩
    | ⟨n + 16, h⟩ => exact absurd h (by omega)

theorem o4 (c : Dev nD) (t : Fin cfg0.N) (hh : Fin 16) (a : Fin 256) : ((outsAt0 m c t).2.1 : Vec Ideal S16x256x1 .f32) (ix3 hh a 0) = ∑ k : Fin 128, gdo (b0 m c t a (hc hh k)) (b2 m c t a (hc hh k)) * b1 m c t a (hc hh k) := by
  unfold outsAt0
  dsimp only
  frame_out
  open_payloads
  refine (canon16 _ hh a).trans ?_
  refine Finset.sum_congr rfl fun k _ => ?_
  refine (en_of _ a _ (hc hh k).isLt).trans ?_
  pointwise
  simp only [zero_sub]
  rfl

/-- The gradient of the attention's value. -/
def gdatt (d : FVec Ideal S4096x4096 .f32) (z : FVec Ideal S4096x10240 .bf16) : FVec Ideal S4096x2048 .bf16 := fun i => gdo (e0 d (i 0) (i 1)) (e2 z (i 0) (i 1))

/-- Each head's sum of the attention times its gradient. -/
def gdelta (d : FVec Ideal S4096x4096 .f32) (o : FVec Ideal S4096x2048 .f32) (z : FVec Ideal S4096x10240 .bf16) : FVec Ideal S16x4096x1 .f32 := fun i =>
  ∑ k : Fin 128, gdo (e0 d (i 1) (hc (i 0) k)) (e2 z (i 1) (hc (i 0) k)) * e1 o (i 1) (hc (i 0) k)

/-- A row with its middle columns replaced. -/
def mid (G : Fin 2048 → EReal) (Z : Fin 10240 → EReal) (s : Fin 10240) : EReal := if s.val < 4096 then Z s else if h : s.val - 4096 < 2048 then G ⟨s.val - 4096, h⟩ else Z s

/-- The gradient of the projected array: the given one, the gate's columns filled in. -/
def gz (d : FVec Ideal S4096x4096 .f32) (o : FVec Ideal S4096x2048 .f32) (z : FVec Ideal S4096x10240 .bf16) (dz : FVec Ideal S4096x10240 .bf16) : FVec Ideal S4096x10240 .bf16 := fun i =>
  mid (fun s => gdg (e0 d (i 0) s) (e1 o (i 0) s) (e2 z (i 0) s)) (fun s => dz (ix2 (i 0) s)) (i 1)

theorem mid_in (G : Fin 2048 → EReal) (Z : Fin 10240 → EReal) (s : Fin 2048) (n : Fin 10240) (h : n.val = 4096 + s.val) : mid G Z n = G s := by
  have := s.isLt
  have e : (⟨n.val - 4096, by omega⟩ : Fin 2048) = s := Fin.ext (by show n.val - 4096 = s.val; omega)
  unfold mid
  rw [if_neg (by omega), dif_pos (by omega), e]

theorem mid_out (G : Fin 2048 → EReal) (Z : Fin 10240 → EReal) (n : Fin 10240) (h : ¬(4096 ≤ n.val ∧ n.val < 6144)) : mid G Z n = Z n := by
  unfold mid
  by_cases h1 : n.val < 4096
  · rw [if_pos h1]
  · rw [if_neg h1, dif_neg (by omega)]

theorem final3 (c : Dev nD) : (dats m 0 c).arrAt 3 cfg0.N = gdatt (m ((c : Thread nD τ).loc main_arg0)) (m ((c : Thread nD τ).loc main_arg2)) := by
  refine (dats m 0 c).arrAt_eq_of_covers 3 _ (by decide +kernel) fun t hf y => ?_
  blk_simp
  rw [after0_3]
  have hN : t.val < 16 := lt_of_lt_of_eq t.isLt N_0
  obtain ⟨a, s, rfl⟩ : ∃ (a : Fin 256) (s : Fin 2048), y = (ix2 a s : S256x2048.Idx) := ⟨y 0, y 1, (ix2_eta y).symm⟩
  have h : t.val * 256 + a.val < 4096 := by have := a.isLt; omega
  refine (o3 m c t a s).trans (Eq.trans ?_ (rd3 t a s (gdatt (m ((c : Thread nD τ).loc main_arg0)) (m ((c : Thread nD τ).loc main_arg2)))).symm)
  rw [b0_eq m c t a s h, b2_eq m c t a s h]
  rfl

theorem final4 (c : Dev nD) : (dats m 0 c).arrAt 4 cfg0.N = gdelta (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  have hN : t.val < 16 := lt_of_lt_of_eq t.isLt N_0
  obtain ⟨hd, a, rfl⟩ : ∃ (hd : Fin 16) (a : Fin 256), y = (ix3 hd a 0 : S16x256x1.Idx) := ⟨y 0, y 1, hd_eta y⟩
  have h : t.val * 256 + a.val < 4096 := by have := a.isLt; omega
  refine (o4 m c t hd a).trans (Eq.trans ?_ (rd4 t hd a (gdelta (m ((c : Thread nD τ).loc main_arg0)) (m ((c : Thread nD τ).loc main_arg1)) (m ((c : Thread nD τ).loc main_arg2)))).symm)
  refine Finset.sum_congr rfl fun k _ => ?_
  rw [b0_eq m c t a _ h, b1_eq m c t a _ h, b2_eq m c t a _ h]
  rfl

theorem final5 (c : Dev nD) : (dats m 0 c).arrAt 5 cfg0.N = gz (m ((c : Thread nD τ).loc main_arg0)) (m ((c : Thread nD τ).loc main_arg1)) (m ((c : Thread nD τ).loc main_arg2)) (m ((c : Thread nD τ).loc main_arg3)) := by
  refine (dats m 0 c).arrAt_eq_of_coversWhere_of_agree 5 _ (fun β => β (1 : Fin _) = 2) (by decide +kernel) (fun t hf y => ?_) (fun j hj => ?_)
  · blk_simp
    rw [after0_5]
    have hN : t.val < 16 := lt_of_lt_of_eq t.isLt N_0
    obtain ⟨a, s, rfl⟩ : ∃ (a : Fin 256) (s : Fin 2048), y = (ix2 a s : S256x2048.Idx) := ⟨y 0, y 1, (ix2_eta y).symm⟩
    have h : t.val * 256 + a.val < 4096 := by have := a.isLt; omega
    refine (o5 m c t a s).trans (Eq.trans ?_ (rd5 t a s (gz (m ((c : Thread nD τ).loc main_arg0)) (m ((c : Thread nD τ).loc main_arg1)) (m ((c : Thread nD τ).loc main_arg2)) (m ((c : Thread nD τ).loc main_arg3)))).symm)
    rw [b0_eq m c t a s h, b1_eq m c t a s h, b2_eq m c t a s h]
    exact (mid_in (fun s => gdg (e0 (m ((c : Thread nD τ).loc main_arg0)) ⟨t.val * 256 + a.val, h⟩ s) (e1 (m ((c : Thread nD τ).loc main_arg1)) ⟨t.val * 256 + a.val, h⟩ s) (e2 (m ((c : Thread nD τ).loc main_arg2)) ⟨t.val * 256 + a.val, h⟩ s)) (fun s => ((m ((c : Thread nD τ).loc main_arg3)) : FVec Ideal S4096x10240 .bf16) (ix2 ⟨t.val * 256 + a.val, h⟩ s)) s ⟨4096 + s.val, by have := s.isLt; omega⟩ rfl).symm
  · blk_simp [Pipeline.Window.cell_apply] at hj
    have e : (gz (m ((c : Thread nD τ).loc main_arg0)) (m ((c : Thread nD τ).loc main_arg1)) (m ((c : Thread nD τ).loc main_arg2)) (m ((c : Thread nD τ).loc main_arg3))) j = (m ((c : Thread nD τ).loc main_arg3)) j := by
      refine (mid_out _ _ _ ?_).trans (congrArg _ (ix2_eta (j : S4096x10240.Idx)))
      have hj1 : ((j : S4096x10240.Idx) 1).val < 10240 := ((j : S4096x10240.Idx) 1).isLt
      omega
    refine Eq.trans ?_ e.symm
    rw [A_eq]
    entry_read
    rfl

end Cert.GateBwdIdeal.Mm

namespace Cert.GateBwdReferenceIdeal.Mm

open Cert.GateBwdReferenceIdeal Cert.GateBwdReferenceIdeal.Gen Idealize.ShloMosaic Idealize.ShloMosaic.TcCoe Idealize.SL.Sem
open Cert.GateBwdIdeal.Mm (sg gdo gdg vdg gdg_eq e0 e1 e2 gdatt gdelta gz mid hc)

/-- The gradient of the attention's value, as the reference leaves it. -/
def ref0 (d : FVec Ideal S4096x4096 .f32) (z : FVec Ideal S4096x10240 .bf16) : FVec Ideal S4096x2048 .bf16 := truncf .bf16 (mulf (extractStridedSlice S4096x2048 ![0, 0] d slices_S4096x4096_S4096x2048_0_0) (mulf (extf .f32 (extractStridedSlice S4096x2048 ![0, 4096] z slices_S4096x10240_S4096x2048_0_4096) bitsLt_bf16_f32) (Host.divf (broadcastInDim S4096x2048 ![] bcast_S_S4096x2048 (constant S_ .f32 0x3F800000#32)) (addf (broadcastInDim S4096x2048 ![] bcast_S_S4096x2048 (constant S_ .f32 0x3F800000#32)) (Host.exp (Host.negf (extf .f32 (extractStridedSlice S4096x2048 ![0, 4096] z slices_S4096x10240_S4096x2048_0_4096) bitsLt_bf16_f32))))))) bitsLt_bf16_f32

theorem ref0_eq (d : FVec Ideal S4096x4096 .f32) (z : FVec Ideal S4096x10240 .bf16) : ref0 d z = gdatt d z := by
  funext i
  obtain ⟨r, s, rfl⟩ : ∃ (r : Fin 4096) (s : Fin 2048), i = (ix2 r s : S4096x2048.Idx) := ⟨i 0, i 1, (ix2_eta i).symm⟩
  unfold ref0
  pointwise
  rfl

/-- The sums, as the reference leaves them. -/
def ref1 (d : FVec Ideal S4096x4096 .f32) (o : FVec Ideal S4096x2048 .f32) (z : FVec Ideal S4096x10240 .bf16) : FVec Ideal S16x4096x1 .f32 := shapeCast S16x4096x1 (transpose S16x4096 [1, 0] (Host.reduceAdd (shapeCast S4096x16x128 (mulf (mulf (extractStridedSlice S4096x2048 ![0, 0] d slices_S4096x4096_S4096x2048_0_0) (mulf (extf .f32 (extractStridedSlice S4096x2048 ![0, 4096] z slices_S4096x10240_S4096x2048_0_4096) bitsLt_bf16_f32) (Host.divf (broadcastInDim S4096x2048 ![] bcast_S_S4096x2048 (constant S_ .f32 0x3F800000#32)) (addf (broadcastInDim S4096x2048 ![] bcast_S_S4096x2048 (constant S_ .f32 0x3F800000#32)) (Host.exp (Host.negf (extf .f32 (extractStridedSlice S4096x2048 ![0, 4096] z slices_S4096x10240_S4096x2048_0_4096) bitsLt_bf16_f32))))))) o) shapeCasts_S4096x2048_S4096x16x128) (constant S_ .f32 0x00000000#32) reducesTo_S4096x16x128_S4096x16_d2 h_S_) transposes_S4096x16_S16x4096_1_0) shapeCasts_S16x4096_S16x4096x1

theorem hd_eta (x : S16x4096x1.Idx) : x = ix3 (x 0) (x 1) 0 := by
  funext a
  match a with
  | ⟨0, _⟩ => rfl
  | ⟨1, _⟩ => rfl
  | ⟨2, _⟩ => exact Subsingleton.elim (α := Fin 1) _ _

theorem ref1_eq (d : FVec Ideal S4096x4096 .f32) (o : FVec Ideal S4096x2048 .f32) (z : FVec Ideal S4096x10240 .bf16) : ref1 d o z = gdelta d o z := by
  funext i
  obtain ⟨h, r, rfl⟩ : ∃ (h : Fin 16) (r : Fin 4096), i = (ix3 h r 0 : S16x4096x1.Idx) := ⟨i 0, i 1, hd_eta i⟩
  unfold ref1
  pointwise
  rfl

/-- The gradient of the gate's argument, as the reference leaves it. -/
def dgR (d : FVec Ideal S4096x4096 .f32) (o : FVec Ideal S4096x2048 .f32) (z : FVec Ideal S4096x10240 .bf16) : FVec Ideal S4096x2048 .bf16 := (truncf .bf16 (addf (mulf (mulf o (extractStridedSlice S4096x2048 ![0, 0] d slices_S4096x4096_S4096x2048_0_0)) (Host.divf (broadcastInDim S4096x2048 ![] bcast_S_S4096x2048 (constant S_ .f32 0x3F800000#32)) (addf (broadcastInDim S4096x2048 ![] bcast_S_S4096x2048 (constant S_ .f32 0x3F800000#32)) (Host.exp (Host.negf (extf .f32 (extractStridedSlice S4096x2048 ![0, 4096] z slices_S4096x10240_S4096x2048_0_4096) bitsLt_bf16_f32)))))) (mulf (mulf (extf .f32 (extractStridedSlice S4096x2048 ![0, 4096] z slices_S4096x10240_S4096x2048_0_4096) bitsLt_bf16_f32) (mulf o (extractStridedSlice S4096x2048 ![0, 0] d slices_S4096x4096_S4096x2048_0_0))) (mulf (Host.divf (broadcastInDim S4096x2048 ![] bcast_S_S4096x2048 (constant S_ .f32 0x3F800000#32)) (addf (broadcastInDim S4096x2048 ![] bcast_S_S4096x2048 (constant S_ .f32 0x3F800000#32)) (Host.exp (Host.negf (extf .f32 (extractStridedSlice S4096x2048 ![0, 4096] z slices_S4096x10240_S4096x2048_0_4096) bitsLt_bf16_f32))))) (subf (broadcastInDim S4096x2048 ![] bcast_S_S4096x2048 (constant S_ .f32 0x3F800000#32)) (Host.divf (broadcastInDim S4096x2048 ![] bcast_S_S4096x2048 (constant S_ .f32 0x3F800000#32)) (addf (broadcastInDim S4096x2048 ![] bcast_S_S4096x2048 (constant S_ .f32 0x3F800000#32)) (Host.exp (Host.negf (extf .f32 (extractStridedSlice S4096x2048 ![0, 4096] z slices_S4096x10240_S4096x2048_0_4096) bitsLt_bf16_f32))))))))) bitsLt_bf16_f32)

theorem dgR_at (d : FVec Ideal S4096x4096 .f32) (o : FVec Ideal S4096x2048 .f32) (z : FVec Ideal S4096x10240 .bf16) (r : Fin 4096) (s : Fin 2048) : dgR d o z (ix2 r s) = vdg (e0 d r s) (e1 o r s) (e2 z r s) := by
  unfold dgR
  pointwise
  rfl

/-- The three arrays side by side. -/
def cat (dz : FVec Ideal S4096x10240 .bf16) (A : FVec Ideal S4096x2048 .bf16) : FVec Ideal S4096x10240 .bf16 := concatenate S4096x10240 1 [⟨S4096x4096, (extractStridedSlice S4096x4096 ![0, 0] dz slices_S4096x10240_S4096x4096_0_0)⟩, ⟨S4096x6144, (concatenate S4096x6144 1 [⟨S4096x2048, A⟩, ⟨S4096x4096, (extractStridedSlice S4096x4096 ![0, 6144] dz slices_S4096x10240_S4096x4096_0_6144)⟩] concatenates_S4096x2048_S4096x4096_S4096x6144_d1)⟩] concatenates_S4096x4096_S4096x6144_S4096x10240_d1

theorem col_eq (X : FVec Ideal S4096x10240 .bf16) (r : Fin 4096) (a b : Fin 10240) (h : a.val = b.val) : X (ix2 r a) = X (ix2 r b) := by
  obtain rfl : a = b := Fin.ext h
  rfl

theorem cat_at (dz : FVec Ideal S4096x10240 .bf16) (A : FVec Ideal S4096x2048 .bf16) (r : Fin 4096) (s : Fin 10240) : cat dz A (ix2 r s) = mid (fun s => A (ix2 r s)) (fun s => dz (ix2 r s)) s := by
  unfold cat mid
  pointwise
  by_cases h1 : s.val < 4096
  · rw [dif_pos h1, if_pos h1]
  · rw [dif_neg h1, if_neg h1]
    by_cases h2 : s.val - 4096 < 2048
    · rw [dif_pos h2, dif_pos h2]
    · rw [dif_neg h2, dif_neg h2]
      refine col_eq dz r _ _ ?_
      dsimp only
      omega

/-- The gradient of the projected array, as the reference leaves it. -/
def ref2 (d : FVec Ideal S4096x4096 .f32) (o : FVec Ideal S4096x2048 .f32) (z dz : FVec Ideal S4096x10240 .bf16) : FVec Ideal S4096x10240 .bf16 := cat dz (dgR d o z)

theorem ref2_eq (d : FVec Ideal S4096x4096 .f32) (o : FVec Ideal S4096x2048 .f32) (z dz : FVec Ideal S4096x10240 .bf16) (hd : ∀ i, ∃ x : ℝ, d i = (x : EReal)) (ho : ∀ i, ∃ x : ℝ, o i = (x : EReal)) : ref2 d o z dz = gz d o z dz := by
  funext i
  obtain ⟨r, s, rfl⟩ : ∃ (r : Fin 4096) (s : Fin 10240), i = (ix2 r s : S4096x10240.Idx) := ⟨i 0, i 1, (ix2_eta i).symm⟩
  have e : (fun s => dgR d o z (ix2 r s)) = fun s => gdg (e0 d r s) (e1 o r s) (e2 z r s) := by
    funext s
    rw [dgR_at]
    obtain ⟨x, hx⟩ := hd (ix2 r ⟨s.val, by have := s.isLt; omega⟩)
    obtain ⟨y, hy⟩ := ho (ix2 r s)
    rw [show e0 d r s = (x : EReal) from hx, show e1 o r s = (y : EReal) from hy]
    exact (gdg_eq x y _).symm
  unfold ref2
  rw [cat_at, e]
  rfl

end Cert.GateBwdReferenceIdeal.Mm
end
-- ==== Proof.ClGateBwd.lean ====
/- The claims about the gradient of the attention's gate. -/
module

public import proofs.«01_k».proof.Proof.ClFlashFwd
public import proofs.«01_k».proof.Proof.MmGateBwd
public import proofs.«01_k».proof.Proof.Gen.GateBwd.Frame
public import proofs.«01_k».proof.Defs
public import Idealize.ShloMosaic.Init
public import Idealize.ShloMosaic.Adequacy

@[expose] public section

set_option maxRecDepth 16384

noncomputable section

namespace Cert.Proof.GateBwd

open Idealize.ShloMosaic Idealize.SL.Sem Idealize.ShloMosaic.TcCoe

instance factsPre : Cert.Pre_finite_gate.Facts where
  bcast_S_S4096x4096 := by decide
  bcast_S_S4096x2048 := by decide

section
variable (D : FVec Ideal Cert.Pre_finite_gate.S4096x4096 .f32) (O : FVec Ideal Cert.Pre_finite_gate.S4096x2048 .f32) (Z W : FVec Ideal Cert.Pre_finite_gate.S4096x10240 .bf16)

theorem fin_d (h : (Cert.Pre_finite_gate.fn (F := Ideal) D O Z W).1 = fun _ => 1#1) : ∀ i, ∃ r : ℝ, D i = (r : EReal) := fun i => FlashFwd.real_of_abs _ (congrFun h i)

theorem fin_o (h : (Cert.Pre_finite_gate.fn (F := Ideal) D O Z W).2 = fun _ => 1#1) : ∀ i, ∃ r : ℝ, O i = (r : EReal) := fun i => FlashFwd.real_of_abs _ (congrFun h i)

end

theorem frame_kernel : Cert.quiescent_GateBwd := fun m ρ _ => Cert.GateBwd.Gen.frame m ρ

theorem frame_ideal_fin : Cert.quiescent_GateBwdIdeal_pre_finite_gate := fun m ρ _ => Cert.GateBwdIdeal.Gen.frame m ρ

theorem frame_ideal : Cert.quiescent_GateBwdIdeal := fun m ρ _ => Cert.GateBwdIdeal.Gen.frame m ρ

theorem frame_reference : Cert.quiescent_GateBwdReferenceIdeal := fun m ρ _ =>
  (θ_run Cert.GateBwdReferenceIdeal.defs _ _).mono (fun r h => ⟨fun c => (h c).2.2.2, Idealize.ShloMosaic.sem_eq_zero_of_no_sems (by decide) r.2⟩)
    (Cert.GateBwdReferenceIdeal.Value.run m ρ)

theorem frame_reference_fin : Cert.quiescent_GateBwdReferenceIdeal_pre_finite_gate := fun m ρ _ => frame_reference m ρ trivial

theorem algebraic : Cert.algebraic_GateBwdIdeal_GateBwdReferenceIdeal_pre_finite_gate := by
  intro m g m' g' hm hag
  refine ⟨fun c => (Cert.GateBwdIdeal.Gen.dats m 0 c).arrAt 3 Cert.GateBwdIdeal.cfg0.N, fun c => (Cert.GateBwdIdeal.Gen.dats m 0 c).arrAt 4 Cert.GateBwdIdeal.cfg0.N, fun c => (Cert.GateBwdIdeal.Gen.dats m 0 c).arrAt 5 Cert.GateBwdIdeal.cfg0.N, Cert.GateBwdIdeal.Value.run_blocks m g, ?_⟩
  refine (θ_run Cert.GateBwdReferenceIdeal.defs _ _).mono (fun r h c => ?_) (Cert.GateBwdReferenceIdeal.Value.run m' g')
  obtain ⟨r0, r1, r2, ra⟩ := h c
  obtain ⟨a0, a1, a2, a3⟩ := hag c
  obtain ⟨p0, p1⟩ := hm c
  have q0 := fin_d _ _ _ _ p0
  have q1 := fin_o _ _ _ _ p1
  refine ⟨r0.trans ((Cert.GateBwdReferenceIdeal.Mm.ref0_eq (m' ((c : Thread Cert.GateBwdReferenceIdeal.nD Cert.GateBwdReferenceIdeal.τ).loc Cert.GateBwdReferenceIdeal.main_arg0)) (m' ((c : Thread Cert.GateBwdReferenceIdeal.nD Cert.GateBwdReferenceIdeal.τ).loc Cert.GateBwdReferenceIdeal.main_arg2))).trans ?_), r1.trans ((Cert.GateBwdReferenceIdeal.Mm.ref1_eq (m' ((c : Thread Cert.GateBwdReferenceIdeal.nD Cert.GateBwdReferenceIdeal.τ).loc Cert.GateBwdReferenceIdeal.main_arg0)) (m' ((c : Thread Cert.GateBwdReferenceIdeal.nD Cert.GateBwdReferenceIdeal.τ).loc Cert.GateBwdReferenceIdeal.main_arg1)) (m' ((c : Thread Cert.GateBwdReferenceIdeal.nD Cert.GateBwdReferenceIdeal.τ).loc Cert.GateBwdReferenceIdeal.main_arg2))).trans ?_), r2.trans (Eq.trans (b := Cert.GateBwdReferenceIdeal.Mm.ref2 (m' ((c : Thread Cert.GateBwdReferenceIdeal.nD Cert.GateBwdReferenceIdeal.τ).loc Cert.GateBwdReferenceIdeal.main_arg0)) (m' ((c : Thread Cert.GateBwdReferenceIdeal.nD Cert.GateBwdReferenceIdeal.τ).loc Cert.GateBwdReferenceIdeal.main_arg1)) (m' ((c : Thread Cert.GateBwdReferenceIdeal.nD Cert.GateBwdReferenceIdeal.τ).loc Cert.GateBwdReferenceIdeal.main_arg2)) (m' ((c : Thread Cert.GateBwdReferenceIdeal.nD Cert.GateBwdReferenceIdeal.τ).loc Cert.GateBwdReferenceIdeal.main_arg3))) rfl ?_), ra⟩
  · rw [a0, a2]; exact (Cert.GateBwdIdeal.Mm.final3 m c).symm
  · rw [a0, a1, a2]; exact (Cert.GateBwdIdeal.Mm.final4 m c).symm
  · rw [a0, a1, a2, a3]; exact (Cert.GateBwdReferenceIdeal.Mm.ref2_eq (m ((c : Thread Cert.GateBwdIdeal.nD Cert.GateBwdIdeal.τ).loc Cert.GateBwdIdeal.main_arg0)) (m ((c : Thread Cert.GateBwdIdeal.nD Cert.GateBwdIdeal.τ).loc Cert.GateBwdIdeal.main_arg1)) (m ((c : Thread Cert.GateBwdIdeal.nD Cert.GateBwdIdeal.τ).loc Cert.GateBwdIdeal.main_arg2)) (m ((c : Thread Cert.GateBwdIdeal.nD Cert.GateBwdIdeal.τ).loc Cert.GateBwdIdeal.main_arg3)) q0 q1).trans (Cert.GateBwdIdeal.Mm.final5 m c).symm

end Cert.Proof.GateBwd
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.ClInProj
public import proofs.«01_k».proof.Proof.ClDHid
public import proofs.«01_k».proof.Proof.ClDwIn
public import proofs.«01_k».proof.Proof.ClOutProj
public import proofs.«01_k».proof.Proof.ClDMix
public import proofs.«01_k».proof.Proof.ClDwOut
public import proofs.«01_k».proof.Proof.ClQUp
public import proofs.«01_k».proof.Proof.ClDQn
public import proofs.«01_k».proof.Proof.ClDwQ
public import proofs.«01_k».proof.Proof.ClKvUp
public import proofs.«01_k».proof.Proof.ClDKvn
public import proofs.«01_k».proof.Proof.ClDwKv
public import proofs.«01_k».proof.Proof.ClFlashFwd
public import proofs.«01_k».proof.Proof.ClLossHead
public import proofs.«01_k».proof.Proof.ClAdamSmall
public import proofs.«01_k».proof.Proof.ClAdamIn
public import proofs.«01_k».proof.Proof.ClAdamQUp
public import proofs.«01_k».proof.Proof.ClAdamKvUp
public import proofs.«01_k».proof.Proof.ClAdamOut
public import proofs.«01_k».proof.Proof.ClRmsBwd
public import proofs.«01_k».proof.Proof.ClRmsFwd
public import proofs.«01_k».proof.Proof.ClLatFwd
public import proofs.«01_k».proof.Proof.ClLatBwd
public import proofs.«01_k».proof.Proof.ClGateBwd
public import proofs.«01_k».proof.Proof.BwdEq
public import Idealize.ShloMosaic.Adequacy
public import Idealize.ShloMosaic.Init

@[expose] public section

set_option maxRecDepth 16384

noncomputable section

namespace Cert.Proof

open Idealize.ShloMosaic Idealize.SL.Sem Idealize.ShloMosaic.TcCoe

instance factsPre : Cert.Pre_finite.Facts where
  bitsLt_bf16_f32 := by decide
  bcast_S_S16x4096x256 := by decide
  bcast_S_S16x4096x128 := by decide
  bcast_S_S4096x2048 := by decide

theorem pos_inf : Ideal.ofBits .f32 0x7F800000#32 = ⊤ := by simp [Ideal.ofBits, Ideal.ieee]

/-- A number whose absolute value is below infinity is real. -/
theorem real_of_abs (x : EReal) (h : Ideal.cmp .olt (max x (-x)) (Ideal.ofBits .f32 0x7F800000#32) = 1#1) : ∃ r : ℝ, x = (r : EReal) := by
  rw [pos_inf] at h
  have h' : max x (-x) < ⊤ := by
    by_contra hc
    rw [show Ideal.cmp .olt (max x (-x)) ⊤ = BitVec.ofBool (decide (max x (-x) < ⊤)) from rfl, decide_eq_false hc] at h
    exact absurd h (by decide)
  have h1 : x ≠ ⊤ := fun e => absurd (lt_of_le_of_lt (le_max_left _ _) h') (by rw [e]; exact lt_irrefl _)
  have h2 : x ≠ ⊥ := fun e => absurd (lt_of_le_of_lt (le_max_right _ _) h') (by rw [e]; exact lt_irrefl _)
  exact ⟨x.toReal, (EReal.coe_toReal h1 h2).symm⟩

section
variable (Q K : FVec Ideal Cert.Pre_finite.S16x4096x256 .bf16) (V : FVec Ideal Cert.Pre_finite.S16x4096x128 .bf16) (D : FVec Ideal Cert.Pre_finite.S4096x2048 .bf16)

theorem fin_q (h : (Cert.Pre_finite.fn (F := Ideal) Q K V D).1 = fun _ => 1#1) : ∃ q : Cert.KernelIdeal.S16x4096x256.Idx → ℝ, Q = Cert.KernelIdeal.Bwd.up q := by
  have e : ∀ i, ∃ r : ℝ, Q i = (r : EReal) := fun i => real_of_abs _ (congrFun h i)
  exact ⟨fun i => (e i).choose, funext fun i => (e i).choose_spec⟩

theorem fin_k (h : (Cert.Pre_finite.fn (F := Ideal) Q K V D).2.1 = fun _ => 1#1) : ∃ k : Cert.KernelIdeal.S16x4096x256.Idx → ℝ, K = Cert.KernelIdeal.Bwd.up k := by
  have e : ∀ i, ∃ r : ℝ, K i = (r : EReal) := fun i => real_of_abs _ (congrFun h i)
  exact ⟨fun i => (e i).choose, funext fun i => (e i).choose_spec⟩

theorem fin_v (h : (Cert.Pre_finite.fn (F := Ideal) Q K V D).2.2.1 = fun _ => 1#1) : ∃ v : Cert.KernelIdeal.S16x4096x128.Idx → ℝ, V = Cert.KernelIdeal.Bwd.up v := by
  have e : ∀ i, ∃ r : ℝ, V i = (r : EReal) := fun i => real_of_abs _ (congrFun h i)
  exact ⟨fun i => (e i).choose, funext fun i => (e i).choose_spec⟩

theorem fin_d (h : (Cert.Pre_finite.fn (F := Ideal) Q K V D).2.2.2 = fun _ => 1#1) : ∃ d : Cert.KernelIdeal.S4096x2048.Idx → ℝ, D = Cert.KernelIdeal.Bwd.up d := by
  have e : ∀ i, ∃ r : ℝ, D i = (r : EReal) := fun i => real_of_abs _ (congrFun h i)
  exact ⟨fun i => (e i).choose, funext fun i => (e i).choose_spec⟩
end

section
open Cert.KernelIdeal Cert.KernelIdeal.Gen Cert.KernelIdeal.Bwd Cert.ReferenceIdeal.Bwd
variable (m : (ℓ : Loc nD τ sig) → Buf (Elt Ideal) ℓ)

/-- The three gradients the kernel leaves, where the arguments are real numbers. -/
theorem kernel_results (hm : Cert.Pre_KernelIdeal_finite m) (c : Dev nD) :
    (dats m 0 c).arrAt 6 cfg0.N = qR (dsR (exR (scR (m ((c : Thread nD τ).loc main_arg0)) (m ((c : Thread nD τ).loc main_arg1)))) (gR (m ((c : Thread nD τ).loc main_arg3)) (m ((c : Thread nD τ).loc main_arg2)))) (m ((c : Thread nD τ).loc main_arg1))
    ∧ (dats m 0 c).arrAt 7 cfg0.N = kR (dsR (exR (scR (m ((c : Thread nD τ).loc main_arg0)) (m ((c : Thread nD τ).loc main_arg1)))) (gR (m ((c : Thread nD τ).loc main_arg3)) (m ((c : Thread nD τ).loc main_arg2)))) (m ((c : Thread nD τ).loc main_arg0))
    ∧ (dats m 0 c).arrAt 8 cfg0.N = vR (m ((c : Thread nD τ).loc main_arg3)) (exR (scR (m ((c : Thread nD τ).loc main_arg0)) (m ((c : Thread nD τ).loc main_arg1)))) := by
  obtain ⟨h0, h1, h2, h3⟩ := hm c
  obtain ⟨q, hq⟩ := fin_q _ _ _ _ h0
  obtain ⟨k, hk⟩ := fin_k _ _ _ _ h1
  obtain ⟨v, hv⟩ := fin_v _ _ _ _ h2
  obtain ⟨d, hd⟩ := fin_d _ _ _ _ h3
  rw [final_dq, final_dk, final_dv, lseA_eq, delA_eq]
  generalize m ((c : Thread nD τ).loc main_arg0) = Q at hq ⊢
  generalize m ((c : Thread nD τ).loc main_arg1) = K at hk ⊢
  generalize m ((c : Thread nD τ).loc main_arg2) = V at hv ⊢
  generalize m ((c : Thread nD τ).loc main_arg3) = D at hd ⊢
  subst hq hk hv hd
  exact ⟨resQ_up q k v d _ _ (lse_up q k) (del_up q k v d), resK_up q k v d _ _ (lse_up q k) (del_up q k v d), resV_up q k d _ (lse_up q k)⟩
end

/-- The frame of the reference. -/
theorem frame_ref (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  (θ_run Cert.ReferenceIdeal.defs _ _).mono (fun r h => ⟨fun c => (h c).2.2.2, Idealize.ShloMosaic.sem_eq_zero_of_no_sems (by decide) r.2⟩)
    (Cert.ReferenceIdeal.Value.run m g)

theorem algebraic : Cert.algebraic_KernelIdeal_ReferenceIdeal_pre_finite := by
  intro m g m' g' hm hag
  refine ⟨fun c => (Cert.KernelIdeal.Gen.dats m 0 c).arrAt 6 Cert.KernelIdeal.cfg0.N, fun c => (Cert.KernelIdeal.Gen.dats m 0 c).arrAt 7 Cert.KernelIdeal.cfg0.N,
    fun c => (Cert.KernelIdeal.Gen.dats m 0 c).arrAt 8 Cert.KernelIdeal.cfg0.N, Cert.KernelIdeal.Value.run_blocks m g, ?_⟩
  refine (θ_run Cert.ReferenceIdeal.defs _ _).mono (fun r h c => ?_) (Cert.ReferenceIdeal.Value.run m' g')
  obtain ⟨r0, r1, r2, ra⟩ := h c
  obtain ⟨a0, a1, a2, a3⟩ := hag c
  obtain ⟨k0, k1, k2⟩ := kernel_results m hm c
  refine ⟨r0.trans ?_, r1.trans ?_, r2.trans ?_, ra⟩
  · refine (Cert.ReferenceIdeal.Bwd.out0 m' c).trans ?_
    rw [a0, a1, a2, a3]; exact k0.symm
  · refine (Cert.ReferenceIdeal.Bwd.out1 m' c).trans ?_
    rw [a0, a1, a2, a3]; exact k1.symm
  · refine (Cert.ReferenceIdeal.Bwd.out2 m' c).trans ?_
    rw [a0, a1, a3]; exact k2.symm

theorem frame_kernel : Cert.quiescent_Kernel := fun m ρ _ => Cert.Kernel.Gen.frame m ρ

theorem frame_ideal : Cert.quiescent_KernelIdeal := fun m ρ _ => Cert.KernelIdeal.Gen.frame m ρ

theorem frame_ideal_fin : Cert.quiescent_KernelIdeal_pre_finite := fun m ρ _ => Cert.KernelIdeal.Gen.frame m ρ

theorem frame_reference : Cert.quiescent_ReferenceIdeal := fun m ρ _ => frame_ref m ρ

theorem frame_reference_fin : Cert.quiescent_ReferenceIdeal_pre_finite := fun m ρ _ => frame_ref m ρ

theorem preserves : Cert.preserves_Kernel_KernelIdeal :=
  IdealRules.named_const.statement Cert.KernelIdeal.κ "mask" .f32 0xF149F2CA#32 ⊥ rfl

theorem claim : Cert.Claim := by
  unfold Cert.Claim
  exact ⟨Cert.Kernel.Gen.facts, Cert.KernelIdeal.Gen.facts, Cert.ReferenceIdeal.Gen.facts, Cert.InProj.Gen.facts,
    Cert.InProjIdeal.Gen.facts, Cert.InProjReferenceIdeal.Gen.facts, Cert.DHid.Gen.facts, Cert.DHidIdeal.Gen.facts,
    Cert.DHidReferenceIdeal.Gen.facts, Cert.DwIn.Gen.facts, Cert.DwInIdeal.Gen.facts, Cert.DwInReferenceIdeal.Gen.facts,
    Cert.OutProj.Gen.facts, Cert.OutProjIdeal.Gen.facts, Cert.OutProjReferenceIdeal.Gen.facts, Cert.DMix.Gen.facts,
    Cert.DMixIdeal.Gen.facts, Cert.DMixReferenceIdeal.Gen.facts, Cert.DwOut.Gen.facts, Cert.DwOutIdeal.Gen.facts,
    Cert.DwOutReferenceIdeal.Gen.facts, Cert.QUp.Gen.facts, Cert.QUpIdeal.Gen.facts, Cert.QUpReferenceIdeal.Gen.facts,
    Cert.DQn.Gen.facts, Cert.DQnIdeal.Gen.facts, Cert.DQnReferenceIdeal.Gen.facts, Cert.DwQ.Gen.facts,
    Cert.DwQIdeal.Gen.facts, Cert.DwQReferenceIdeal.Gen.facts, Cert.KvUp.Gen.facts, Cert.KvUpIdeal.Gen.facts,
    Cert.KvUpReferenceIdeal.Gen.facts, Cert.DKvn.Gen.facts, Cert.DKvnIdeal.Gen.facts, Cert.DKvnReferenceIdeal.Gen.facts,
    Cert.DwKv.Gen.facts, Cert.DwKvIdeal.Gen.facts, Cert.DwKvReferenceIdeal.Gen.facts, Cert.FlashFwd.Gen.facts,
    Cert.FlashFwdIdeal.Gen.facts, Cert.FlashFwdReferenceIdeal.Gen.facts, Cert.LossHead.Gen.facts, Cert.LossHeadIdeal.Gen.facts,
    Cert.LossHeadReferenceIdeal.Gen.facts, Cert.AdamSmall.Gen.facts, Cert.AdamSmallIdeal.Gen.facts, Cert.AdamSmallReferenceIdeal.Gen.facts,
    Cert.AdamIn.Gen.facts, Cert.AdamInIdeal.Gen.facts, Cert.AdamInReferenceIdeal.Gen.facts, Cert.AdamQUp.Gen.facts,
    Cert.AdamQUpIdeal.Gen.facts, Cert.AdamQUpReferenceIdeal.Gen.facts, Cert.AdamKvUp.Gen.facts, Cert.AdamKvUpIdeal.Gen.facts,
    Cert.AdamKvUpReferenceIdeal.Gen.facts, Cert.AdamOut.Gen.facts, Cert.AdamOutIdeal.Gen.facts, Cert.AdamOutReferenceIdeal.Gen.facts,
    Cert.RmsBwd.Gen.facts, Cert.RmsBwdIdeal.Gen.facts, Cert.RmsBwdReferenceIdeal.Gen.facts, Cert.RmsFwd.Gen.facts,
    Cert.RmsFwdIdeal.Gen.facts, Cert.RmsFwdReferenceIdeal.Gen.facts, Cert.LatFwd.Gen.facts, Cert.LatFwdIdeal.Gen.facts,
    Cert.LatFwdReferenceIdeal.Gen.facts, Cert.LatBwd.Gen.facts, Cert.LatBwdIdeal.Gen.facts, Cert.LatBwdReferenceIdeal.Gen.facts,
    Cert.GateBwd.Gen.facts, Cert.GateBwdIdeal.Gen.facts, Cert.GateBwdReferenceIdeal.Gen.facts, factsPre,
    FlashFwd.factsPre, GateBwd.factsPre,
    frame_kernel, frame_ideal, frame_ideal_fin, frame_reference,
    frame_reference_fin, InProj.frame_kernel, InProj.frame_ideal, InProj.frame_reference,
    DHid.frame_kernel, DHid.frame_ideal, DHid.frame_reference, DwIn.frame_kernel,
    DwIn.frame_ideal, DwIn.frame_reference, OutProj.frame_kernel, OutProj.frame_ideal,
    OutProj.frame_reference, DMix.frame_kernel, DMix.frame_ideal, DMix.frame_reference,
    DwOut.frame_kernel, DwOut.frame_ideal, DwOut.frame_reference, QUp.frame_kernel,
    QUp.frame_ideal, QUp.frame_reference, DQn.frame_kernel, DQn.frame_ideal,
    DQn.frame_reference, DwQ.frame_kernel, DwQ.frame_ideal, DwQ.frame_reference,
    KvUp.frame_kernel, KvUp.frame_ideal, KvUp.frame_reference, DKvn.frame_kernel,
    DKvn.frame_ideal, DKvn.frame_reference, DwKv.frame_kernel, DwKv.frame_ideal,
    DwKv.frame_reference, FlashFwd.frame_kernel, FlashFwd.frame_ideal, FlashFwd.frame_ideal_fin,
    FlashFwd.frame_reference, FlashFwd.frame_reference_fin, LossHead.frame_kernel, LossHead.frame_ideal,
    LossHead.frame_reference, AdamSmall.frame_kernel, AdamSmall.frame_ideal, AdamSmall.frame_reference,
    AdamIn.frame_kernel, AdamIn.frame_ideal, AdamIn.frame_reference, AdamQUp.frame_kernel,
    AdamQUp.frame_ideal, AdamQUp.frame_reference, AdamKvUp.frame_kernel, AdamKvUp.frame_ideal,
    AdamKvUp.frame_reference, AdamOut.frame_kernel, AdamOut.frame_ideal, AdamOut.frame_reference,
    RmsBwd.frame_kernel, RmsBwd.frame_ideal, RmsBwd.frame_reference, RmsFwd.frame_kernel,
    RmsFwd.frame_ideal, RmsFwd.frame_reference, LatFwd.frame_kernel, LatFwd.frame_ideal,
    LatFwd.frame_reference, LatBwd.frame_kernel, LatBwd.frame_ideal, LatBwd.frame_reference,
    GateBwd.frame_kernel, GateBwd.frame_ideal, GateBwd.frame_ideal_fin, GateBwd.frame_reference,
    GateBwd.frame_reference_fin, preserves, algebraic, trivial,
    InProj.algebraic, trivial, DHid.algebraic, trivial,
    DwIn.algebraic, trivial, OutProj.algebraic, trivial,
    DMix.algebraic, trivial, DwOut.algebraic, trivial,
    QUp.algebraic, trivial, DQn.algebraic, trivial,
    DwQ.algebraic, trivial, KvUp.algebraic, trivial,
    DKvn.algebraic, trivial, DwKv.algebraic, FlashFwd.preserves,
    FlashFwd.algebraic, trivial, LossHead.algebraic, trivial,
    AdamSmall.algebraic, trivial, AdamIn.algebraic, trivial,
    AdamQUp.algebraic, trivial, AdamKvUp.algebraic, trivial,
    AdamOut.algebraic, trivial, RmsBwd.algebraic, trivial,
    RmsFwd.algebraic, trivial, LatFwd.algebraic, trivial,
    LatBwd.algebraic, trivial, GateBwd.algebraic⟩

end Cert.Proof

end
